-- ==== Defs.lean ====
def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_swiglu [hPre_finite_swiglu : Cert.Pre_finite_swiglu.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attention_bwd [hPre_finite_attention_bwd : Cert.Pre_finite_attention_bwd.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attention_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attention_bwd [hPre_finite_attention_bwd : Cert.Pre_finite_attention_bwd.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attention_bwd.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_NormPleBwd (m : (ℓ : Loc Cert.NormPleBwd.nD Cert.NormPleBwd.τ Cert.NormPleBwd.sig) → Buf (Elt Bits) ℓ) : Prop :=
  True

def Pre_NormPleBwdIdeal (m : (ℓ : Loc Cert.NormPleBwdIdeal.nD Cert.NormPleBwdIdeal.τ Cert.NormPleBwdIdeal.sig) → Buf (Elt Ideal) ℓ) : Prop :=
  True

def Pre_NormPleRefIdeal (m : (ℓ : Loc Cert.NormPleRefIdeal.nD Cert.NormPleRefIdeal.τ Cert.NormPleRefIdeal.sig) → Buf (Elt Ideal) ℓ) : Prop :=
  True

def Pre_NormFfnBwd (m : (ℓ : Loc Cert.NormFfnBwd.nD Cert.NormFfnBwd.τ Cert.NormFfnBwd.sig) → Buf (Elt Bits) ℓ) : Prop :=
  True

def Pre_NormFfnBwdIdeal (m : (ℓ : Loc Cert.NormFfnBwdIdeal.nD Cert.NormFfnBwdIdeal.τ Cert.NormFfnBwdIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossRefIdeal (m : (ℓ : Loc Cert.PleLossRefIdeal.nD Cert.PleLossRefIdeal.τ Cert.PleLossRefIdeal.sig) → Buf (Elt Ideal) ℓ) : Prop :=
  True

def Pre_LatentNormBwd (m : (ℓ : Loc Cert.LatentNormBwd.nD Cert.LatentNormBwd.τ Cert.LatentNormBwd.sig) → Buf (Elt Bits) ℓ) : Prop :=
  True

def Pre_LatentNormBwdIdeal (m : (ℓ : Loc Cert.LatentNormBwdIdeal.nD Cert.LatentNormBwdIdeal.τ Cert.LatentNormBwdIdeal.sig) → Buf (Elt Ideal) ℓ) : Prop :=
  True

def Pre_LatentNormRefIdeal (m : (ℓ : Loc Cert.LatentNormRefIdeal.nD Cert.LatentNormRefIdeal.τ Cert.LatentNormRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_HeadNormBwd (m : (ℓ : Loc Cert.HeadNormBwd.nD Cert.HeadNormBwd.τ Cert.HeadNormBwd.sig) → Buf (Elt Bits) ℓ) : Prop :=
  True

def Pre_HeadNormBwdIdeal (m : (ℓ : Loc Cert.HeadNormBwdIdeal.nD Cert.HeadNormBwdIdeal.τ Cert.HeadNormBwdIdeal.sig) → Buf (Elt Ideal) ℓ) : Prop :=
  True

def Pre_HeadNormRefIdeal (m : (ℓ : Loc Cert.HeadNormRefIdeal.nD Cert.HeadNormRefIdeal.τ Cert.HeadNormRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attention_fwd [hPre_finite_attention_fwd : Cert.Pre_finite_attention_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attention_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attention_fwd [hPre_finite_attention_fwd : Cert.Pre_finite_attention_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attention_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdRev (m : (ℓ : Loc Cert.GlaBwdRev.nD Cert.GlaBwdRev.τ Cert.GlaBwdRev.sig) → Buf (Elt Bits) ℓ) : Prop :=
  True

def Pre_GlaBwdRevIdeal (m : (ℓ : Loc Cert.GlaBwdRevIdeal.nD Cert.GlaBwdRevIdeal.τ Cert.GlaBwdRevIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_LatentNormFwd (m : (ℓ : Loc Cert.LatentNormFwd.nD Cert.LatentNormFwd.τ Cert.LatentNormFwd.sig) → Buf (Elt Bits) ℓ) : Prop :=
  True

def Pre_LatentNormFwdIdeal (m : (ℓ : Loc Cert.LatentNormFwdIdeal.nD Cert.LatentNormFwdIdeal.τ Cert.LatentNormFwdIdeal.sig) → Buf (Elt Ideal) ℓ) : Prop :=
  True

def Pre_LatentNormFwdRefIdeal (m : (ℓ : Loc Cert.LatentNormFwdRefIdeal.nD Cert.LatentNormFwdRefIdeal.τ Cert.LatentNormFwdRefIdeal.sig) → Buf (Elt Ideal) ℓ) : Prop :=
  True

def Pre_HeadNormFwd (m : (ℓ : Loc Cert.HeadNormFwd.nD Cert.HeadNormFwd.τ Cert.HeadNormFwd.sig) → Buf (Elt Bits) ℓ) : Prop :=
  True

def Pre_HeadNormFwdIdeal (m : (ℓ : Loc Cert.HeadNormFwdIdeal.nD Cert.HeadNormFwdIdeal.τ Cert.HeadNormFwdIdeal.sig) → Buf (Elt Ideal) ℓ) : Prop :=
  True

def Pre_HeadNormFwdRefIdeal (m : (ℓ : Loc Cert.HeadNormFwdRefIdeal.nD Cert.HeadNormFwdRefIdeal.τ Cert.HeadNormFwdRefIdeal.sig) → Buf (Elt Ideal) ℓ) : Prop :=
  True

def Pre_LowerBounds (m : (ℓ : Loc Cert.LowerBounds.nD Cert.LowerBounds.τ Cert.LowerBounds.sig) → Buf (Elt Bits) ℓ) : Prop :=
  True

def Pre_LowerBoundsIdeal (m : (ℓ : Loc Cert.LowerBoundsIdeal.nD Cert.LowerBoundsIdeal.τ Cert.LowerBoundsIdeal.sig) → Buf (Elt Ideal) ℓ) : Prop :=
  True

def Pre_LowerBoundsRefIdeal (m : (ℓ : Loc Cert.LowerBoundsRefIdeal.nD Cert.LowerBoundsRefIdeal.τ Cert.LowerBoundsRefIdeal.sig) → Buf (Elt Ideal) ℓ) : Prop :=
  True

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DWGate (m : (ℓ : Loc Cert.DWGate.nD Cert.DWGate.τ Cert.DWGate.sig) → Buf (Elt Bits) ℓ) : Prop :=
  True

def Pre_DWGateIdeal (m : (ℓ : Loc Cert.DWGateIdeal.nD Cert.DWGateIdeal.τ Cert.DWGateIdeal.sig) → Buf (Elt Ideal) ℓ) : Prop :=
  True

def Pre_DWGateRefIdeal (m : (ℓ : Loc Cert.DWGateRefIdeal.nD Cert.DWGateRefIdeal.τ Cert.DWGateRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdIdeal_finite_gla_fwd [hPre_finite_gla_fwd : Cert.Pre_finite_gla_fwd.Facts] (m : (ℓ : Loc Cert.GlaFwdIdeal.nD Cert.GlaFwdIdeal.τ Cert.GlaFwdIdeal.sig) → Buf (Elt Ideal) ℓ) : Prop :=
  ∀ c : Dev Cert.GlaFwdIdeal.nD,
    (Cert.Pre_finite_gla_fwd.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1))) = (fun _ => 1#1)

def Pre_GlaFwdRefIdeal (m : (ℓ : Loc Cert.GlaFwdRefIdeal.nD Cert.GlaFwdRefIdeal.τ Cert.GlaFwdRefIdeal.sig) → Buf (Elt Ideal) ℓ) : Prop :=
  True

def Pre_GlaFwdRefIdeal_finite_gla_fwd [hPre_finite_gla_fwd : Cert.Pre_finite_gla_fwd.Facts] (m : (ℓ : Loc Cert.GlaFwdRefIdeal.nD Cert.GlaFwdRefIdeal.τ Cert.GlaFwdRefIdeal.sig) → Buf (Elt Ideal) ℓ) : Prop :=
  ∀ c : Dev Cert.GlaFwdRefIdeal.nD,
    (Cert.Pre_finite_gla_fwd.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1))) = (fun _ => 1#1)

def Pre_GlaFwdRev (m : (ℓ : Loc Cert.GlaFwdRev.nD Cert.GlaFwdRev.τ Cert.GlaFwdRev.sig) → Buf (Elt Bits) ℓ) : Prop :=
  True

def Pre_GlaFwdRevIdeal (m : (ℓ : Loc Cert.GlaFwdRevIdeal.nD Cert.GlaFwdRevIdeal.τ Cert.GlaFwdRevIdeal.sig) → Buf (Elt Ideal) ℓ) : Prop :=
  True

def Pre_GlaFwdRevIdeal_finite_gla_fwd [hPre_finite_gla_fwd : Cert.Pre_finite_gla_fwd.Facts] (m : (ℓ : Loc Cert.GlaFwdRevIdeal.nD Cert.GlaFwdRevIdeal.τ Cert.GlaFwdRevIdeal.sig) → Buf (Elt Ideal) ℓ) : Prop :=
  ∀ c : Dev Cert.GlaFwdRevIdeal.nD,
    (Cert.Pre_finite_gla_fwd.fn (F := Ideal) (m ((c.tc : Thread Cert.GlaFwdRevIdeal.nD Cert.GlaFwdRevIdeal.τ).loc Cert.GlaFwdRevIdeal.main_arg0)) (m ((c.tc : Thread Cert.GlaFwdRevIdeal.nD Cert.GlaFwdRevIdeal.τ).loc Cert.GlaFwdRevIdeal.main_arg1))) = (fun _ => 1#1)

def Pre_GlaFwdRevRefIdeal (m : (ℓ : Loc Cert.GlaFwdRevRefIdeal.nD Cert.GlaFwdRevRefIdeal.τ Cert.GlaFwdRevRefIdeal.sig) → Buf (Elt Ideal) ℓ) : Prop :=
  True

def Pre_GlaFwdRevRefIdeal_finite_gla_fwd [hPre_finite_gla_fwd : Cert.Pre_finite_gla_fwd.Facts] (m : (ℓ : Loc Cert.GlaFwdRevRefIdeal.nD Cert.GlaFwdRevRefIdeal.τ Cert.GlaFwdRevRefIdeal.sig) → Buf (Elt Ideal) ℓ) : Prop :=
  ∀ c : Dev Cert.GlaFwdRevRefIdeal.nD,
    (Cert.Pre_finite_gla_fwd.fn (F := Ideal) (m ((c.tc : Thread Cert.GlaFwdRevRefIdeal.nD Cert.GlaFwdRevRefIdeal.τ).loc Cert.GlaFwdRevRefIdeal.main_arg0)) (m ((c.tc : Thread Cert.GlaFwdRevRefIdeal.nD Cert.GlaFwdRevRefIdeal.τ).loc Cert.GlaFwdRevRefIdeal.main_arg1))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_finite_swiglu [hSwigluBwdIdeal : Cert.SwigluBwdIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_swiglu m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attention_bwd [hAttnBwdIdeal : Cert.AttnBwdIdeal.Facts] [hPre_finite_attention_bwd : Cert.Pre_finite_attention_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attention_bwd m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attention_bwd [hAttnBwdRefIdeal : Cert.AttnBwdRefIdeal.Facts] [hPre_finite_attention_bwd : Cert.Pre_finite_attention_bwd.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attention_bwd m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_NormPleBwd [hNormPleBwd : Cert.NormPleBwd.Facts] : Prop :=
  ∀ (m : (ℓ : Loc Cert.NormPleBwd.nD Cert.NormPleBwd.τ Cert.NormPleBwd.sig) → Buf (Elt Bits) ℓ) (g : Dev Cert.NormPleBwd.nD → PrngReg), Pre_NormPleBwd m →
    θ_run (Cert.NormPleBwd.defs (F := Bits)) (onTc (τ := Cert.NormPleBwd.τ) (Cert.NormPleBwd.main (F := Bits))) ⟨m, fun _ => 0, g⟩ (fun r => (∀ c : Dev Cert.NormPleBwd.nD,
      r.2.mem ((c.tc : Thread Cert.NormPleBwd.nD Cert.NormPleBwd.τ).loc Cert.NormPleBwd.main_arg0) = m ((c.tc : Thread Cert.NormPleBwd.nD Cert.NormPleBwd.τ).loc Cert.NormPleBwd.main_arg0)
      ∧ r.2.mem ((c.tc : Thread Cert.NormPleBwd.nD Cert.NormPleBwd.τ).loc Cert.NormPleBwd.main_arg1) = m ((c.tc : Thread Cert.NormPleBwd.nD Cert.NormPleBwd.τ).loc Cert.NormPleBwd.main_arg1)
      ∧ r.2.mem ((c.tc : Thread Cert.NormPleBwd.nD Cert.NormPleBwd.τ).loc Cert.NormPleBwd.main_arg2) = m ((c.tc : Thread Cert.NormPleBwd.nD Cert.NormPleBwd.τ).loc Cert.NormPleBwd.main_arg2)
      ∧ r.2.mem ((c.tc : Thread Cert.NormPleBwd.nD Cert.NormPleBwd.τ).loc Cert.NormPleBwd.main_arg3) = m ((c.tc : Thread Cert.NormPleBwd.nD Cert.NormPleBwd.τ).loc Cert.NormPleBwd.main_arg3)
      ∧ r.2.mem ((c.tc : Thread Cert.NormPleBwd.nD Cert.NormPleBwd.τ).loc Cert.NormPleBwd.main_arg4) = m ((c.tc : Thread Cert.NormPleBwd.nD Cert.NormPleBwd.τ).loc Cert.NormPleBwd.main_arg4))
      ∧ r.2.sem = fun _ => 0)

def quiescent_NormPleBwdIdeal [hNormPleBwdIdeal : Cert.NormPleBwdIdeal.Facts] : Prop :=
  ∀ (m : (ℓ : Loc Cert.NormPleBwdIdeal.nD Cert.NormPleBwdIdeal.τ Cert.NormPleBwdIdeal.sig) → Buf (Elt Ideal) ℓ) (g : Dev Cert.NormPleBwdIdeal.nD → PrngReg), Pre_NormPleBwdIdeal m →
    θ_run (Cert.NormPleBwdIdeal.defs (F := Ideal)) (onTc (τ := Cert.NormPleBwdIdeal.τ) (Cert.NormPleBwdIdeal.main (F := Ideal))) ⟨m, fun _ => 0, g⟩ (fun r => (∀ c : Dev Cert.NormPleBwdIdeal.nD,
      r.2.mem ((c.tc : Thread Cert.NormPleBwdIdeal.nD Cert.NormPleBwdIdeal.τ).loc Cert.NormPleBwdIdeal.main_arg0) = m ((c.tc : Thread Cert.NormPleBwdIdeal.nD Cert.NormPleBwdIdeal.τ).loc Cert.NormPleBwdIdeal.main_arg0)
      ∧ r.2.mem ((c.tc : Thread Cert.NormPleBwdIdeal.nD Cert.NormPleBwdIdeal.τ).loc Cert.NormPleBwdIdeal.main_arg1) = m ((c.tc : Thread Cert.NormPleBwdIdeal.nD Cert.NormPleBwdIdeal.τ).loc Cert.NormPleBwdIdeal.main_arg1)
      ∧ r.2.mem ((c.tc : Thread Cert.NormPleBwdIdeal.nD Cert.NormPleBwdIdeal.τ).loc Cert.NormPleBwdIdeal.main_arg2) = m ((c.tc : Thread Cert.NormPleBwdIdeal.nD Cert.NormPleBwdIdeal.τ).loc Cert.NormPleBwdIdeal.main_arg2)
      ∧ r.2.mem ((c.tc : Thread Cert.NormPleBwdIdeal.nD Cert.NormPleBwdIdeal.τ).loc Cert.NormPleBwdIdeal.main_arg3) = m ((c.tc : Thread Cert.NormPleBwdIdeal.nD Cert.NormPleBwdIdeal.τ).loc Cert.NormPleBwdIdeal.main_arg3)
      ∧ r.2.mem ((c.tc : Thread Cert.NormPleBwdIdeal.nD Cert.NormPleBwdIdeal.τ).loc Cert.NormPleBwdIdeal.main_arg4) = m ((c.tc : Thread Cert.NormPleBwdIdeal.nD Cert.NormPleBwdIdeal.τ).loc Cert.NormPleBwdIdeal.main_arg4))
      ∧ r.2.sem = fun _ => 0)

def quiescent_NormPleRefIdeal [hNormPleRefIdeal : Cert.NormPleRefIdeal.Facts] : Prop :=
  ∀ (m : (ℓ : Loc Cert.NormPleRefIdeal.nD Cert.NormPleRefIdeal.τ Cert.NormPleRefIdeal.sig) → Buf (Elt Ideal) ℓ) (g : Dev Cert.NormPleRefIdeal.nD → PrngReg), Pre_NormPleRefIdeal m →
    θ_run (Cert.NormPleRefIdeal.defs (F := Ideal)) (onTc (τ := Cert.NormPleRefIdeal.τ) (Cert.NormPleRefIdeal.main (F := Ideal))) ⟨m, fun _ => 0, g⟩ (fun r => (∀ c : Dev Cert.NormPleRefIdeal.nD,
      r.2.mem ((c.tc : Thread Cert.NormPleRefIdeal.nD Cert.NormPleRefIdeal.τ).loc Cert.NormPleRefIdeal.main_arg0) = m ((c.tc : Thread Cert.NormPleRefIdeal.nD Cert.NormPleRefIdeal.τ).loc Cert.NormPleRefIdeal.main_arg0)
      ∧ r.2.mem ((c.tc : Thread Cert.NormPleRefIdeal.nD Cert.NormPleRefIdeal.τ).loc Cert.NormPleRefIdeal.main_arg1) = m ((c.tc : Thread Cert.NormPleRefIdeal.nD Cert.NormPleRefIdeal.τ).loc Cert.NormPleRefIdeal.main_arg1)
      ∧ r.2.mem ((c.tc : Thread Cert.NormPleRefIdeal.nD Cert.NormPleRefIdeal.τ).loc Cert.NormPleRefIdeal.main_arg2) = m ((c.tc : Thread Cert.NormPleRefIdeal.nD Cert.NormPleRefIdeal.τ).loc Cert.NormPleRefIdeal.main_arg2)
      ∧ r.2.mem ((c.tc : Thread Cert.NormPleRefIdeal.nD Cert.NormPleRefIdeal.τ).loc Cert.NormPleRefIdeal.main_arg3) = m ((c.tc : Thread Cert.NormPleRefIdeal.nD Cert.NormPleRefIdeal.τ).loc Cert.NormPleRefIdeal.main_arg3)
      ∧ r.2.mem ((c.tc : Thread Cert.NormPleRefIdeal.nD Cert.NormPleRefIdeal.τ).loc Cert.NormPleRefIdeal.main_arg4) = m ((c.tc : Thread Cert.NormPleRefIdeal.nD Cert.NormPleRefIdeal.τ).loc Cert.NormPleRefIdeal.main_arg4))
      ∧ r.2.sem = fun _ => 0)

def quiescent_NormFfnBwd [hNormFfnBwd : Cert.NormFfnBwd.Facts] : Prop :=
  ∀ (m : (ℓ : Loc Cert.NormFfnBwd.nD Cert.NormFfnBwd.τ Cert.NormFfnBwd.sig) → Buf (Elt Bits) ℓ) (g : Dev Cert.NormFfnBwd.nD → PrngReg), Pre_NormFfnBwd m →
    θ_run (Cert.NormFfnBwd.defs (F := Bits)) (onTc (τ := Cert.NormFfnBwd.τ) (Cert.NormFfnBwd.main (F := Bits))) ⟨m, fun _ => 0, g⟩ (fun r => (∀ c : Dev Cert.NormFfnBwd.nD,
      r.2.mem ((c.tc : Thread Cert.NormFfnBwd.nD Cert.NormFfnBwd.τ).loc Cert.NormFfnBwd.main_arg0) = m ((c.tc : Thread Cert.NormFfnBwd.nD Cert.NormFfnBwd.τ).loc Cert.NormFfnBwd.main_arg0)
      ∧ r.2.mem ((c.tc : Thread Cert.NormFfnBwd.nD Cert.NormFfnBwd.τ).loc Cert.NormFfnBwd.main_arg1) = m ((c.tc : Thread Cert.NormFfnBwd.nD Cert.NormFfnBwd.τ).loc Cert.NormFfnBwd.main_arg1)
      ∧ r.2.mem ((c.tc : Thread Cert.NormFfnBwd.nD Cert.NormFfnBwd.τ).loc Cert.NormFfnBwd.main_arg2) = m ((c.tc : Thread Cert.NormFfnBwd.nD Cert.NormFfnBwd.τ).loc Cert.NormFfnBwd.main_arg2)
      ∧ r.2.mem ((c.tc : Thread Cert.NormFfnBwd.nD Cert.NormFfnBwd.τ).loc Cert.NormFfnBwd.main_arg3) = m ((c.tc : Thread Cert.NormFfnBwd.nD Cert.NormFfnBwd.τ).loc Cert.NormFfnBwd.main_arg3)
      ∧ r.2.mem ((c.tc : Thread Cert.NormFfnBwd.nD Cert.NormFfnBwd.τ).loc Cert.NormFfnBwd.main_arg4) = m ((c.tc : Thread Cert.NormFfnBwd.nD Cert.NormFfnBwd.τ).loc Cert.NormFfnBwd.main_arg4)
      ∧ r.2.mem ((c.tc : Thread Cert.NormFfnBwd.nD Cert.NormFfnBwd.τ).loc Cert.NormFfnBwd.main_arg5) = m ((c.tc : Thread Cert.NormFfnBwd.nD Cert.NormFfnBwd.τ).loc Cert.NormFfnBwd.main_arg5)
      ∧ r.2.mem ((c.tc : Thread Cert.NormFfnBwd.nD Cert.NormFfnBwd.τ).loc Cert.NormFfnBwd.main_arg6) = m ((c.tc : Thread Cert.NormFfnBwd.nD Cert.NormFfnBwd.τ).loc Cert.NormFfnBwd.main_arg6))
      ∧ r.2.sem = fun _ => 0)

def quiescent_NormFfnBwdIdeal [hNormFfnBwdIdeal : Cert.NormFfnBwdIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg), Pre_NormFfnBwdIdeal m →
    θ_run (Cert.NormFfnBwdIdeal.defs (F := Ideal)) (onTc (τ := Cert.NormFfnBwdIdeal.τ) (Cert.NormFfnBwdIdeal.main (F := Ideal))) ⟨m, fun _ => 0, g⟩ (fun r => (∀ c : Dev Cert.NormFfnBwdIdeal.nD,
      r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
      ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
      ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
      ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3)
      ∧ r.2.mem ((c.tc : Thread Cert.NormFfnBwdIdeal.nD Cert.NormFfnBwdIdeal.τ).loc Cert.NormFfnBwdIdeal.main_arg4) = m ((c.tc : Thread Cert.NormFfnBwdIdeal.nD Cert.NormFfnBwdIdeal.τ).loc Cert.NormFfnBwdIdeal.main_arg4)
      ∧ r.2.mem ((c.tc : Thread Cert.NormFfnBwdIdeal.nD Cert.NormFfnBwdIdeal.τ).loc Cert.NormFfnBwdIdeal.main_arg5) = m ((c.tc : Thread Cert.NormFfnBwdIdeal.nD Cert.NormFfnBwdIdeal.τ).loc Cert.NormFfnBwdIdeal.main_arg5)
      ∧ r.2.mem ((c.tc : Thread Cert.NormFfnBwdIdeal.nD Cert.NormFfnBwdIdeal.τ).loc Cert.NormFfnBwdIdeal.main_arg6) = m ((c.tc : Thread Cert.NormFfnBwdIdeal.nD Cert.NormFfnBwdIdeal.τ).loc Cert.NormFfnBwdIdeal.main_arg6))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4)
      ∧ r.2.mem ((c.tc : Thread Cert.NormFfnRefIdeal.nD Cert.NormFfnRefIdeal.τ).loc Cert.NormFfnRefIdeal.main_arg5) = m ((c.tc : Thread Cert.NormFfnRefIdeal.nD Cert.NormFfnRefIdeal.τ).loc Cert.NormFfnRefIdeal.main_arg5)
      ∧ r.2.mem ((c.tc : Thread Cert.NormFfnRefIdeal.nD Cert.NormFfnRefIdeal.τ).loc Cert.NormFfnRefIdeal.main_arg6) = m ((c.tc : Thread Cert.NormFfnRefIdeal.nD Cert.NormFfnRefIdeal.τ).loc Cert.NormFfnRefIdeal.main_arg6))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3)
      ∧ r.2.mem ((c.tc : Thread Cert.NormMixBwd.nD Cert.NormMixBwd.τ).loc Cert.NormMixBwd.main_arg4) = m ((c.tc : Thread Cert.NormMixBwd.nD Cert.NormMixBwd.τ).loc Cert.NormMixBwd.main_arg4))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
      ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4))
      ∧ r.2.sem = fun _ => 0)

def quiescent_PleLossRefIdeal [hPleLossRefIdeal : Cert.PleLossRefIdeal.Facts] : Prop :=
  ∀ (m : (ℓ : Loc Cert.PleLossRefIdeal.nD Cert.PleLossRefIdeal.τ Cert.PleLossRefIdeal.sig) → Buf (Elt Ideal) ℓ) (g : Dev Cert.PleLossRefIdeal.nD → PrngReg), Pre_PleLossRefIdeal m →
    θ_run (Cert.PleLossRefIdeal.defs (F := Ideal)) (onTc (τ := Cert.PleLossRefIdeal.τ) (Cert.PleLossRefIdeal.main (F := Ideal))) ⟨m, fun _ => 0, g⟩ (fun r => (∀ c : Dev Cert.PleLossRefIdeal.nD,
      r.2.mem ((c.tc : Thread Cert.PleLossRefIdeal.nD Cert.PleLossRefIdeal.τ).loc Cert.PleLossRefIdeal.main_arg0) = m ((c.tc : Thread Cert.PleLossRefIdeal.nD Cert.PleLossRefIdeal.τ).loc Cert.PleLossRefIdeal.main_arg0)
      ∧ r.2.mem ((c.tc : Thread Cert.PleLossRefIdeal.nD Cert.PleLossRefIdeal.τ).loc Cert.PleLossRefIdeal.main_arg1) = m ((c.tc : Thread Cert.PleLossRefIdeal.nD Cert.PleLossRefIdeal.τ).loc Cert.PleLossRefIdeal.main_arg1)
      ∧ r.2.mem ((c.tc : Thread Cert.PleLossRefIdeal.nD Cert.PleLossRefIdeal.τ).loc Cert.PleLossRefIdeal.main_arg2) = m ((c.tc : Thread Cert.PleLossRefIdeal.nD Cert.PleLossRefIdeal.τ).loc Cert.PleLossRefIdeal.main_arg2)
      ∧ r.2.mem ((c.tc : Thread Cert.PleLossRefIdeal.nD Cert.PleLossRefIdeal.τ).loc Cert.PleLossRefIdeal.main_arg3) = m ((c.tc : Thread Cert.PleLossRefIdeal.nD Cert.PleLossRefIdeal.τ).loc Cert.PleLossRefIdeal.main_arg3)
      ∧ r.2.mem ((c.tc : Thread Cert.PleLossRefIdeal.nD Cert.PleLossRefIdeal.τ).loc Cert.PleLossRefIdeal.main_arg4) = m ((c.tc : Thread Cert.PleLossRefIdeal.nD Cert.PleLossRefIdeal.τ).loc Cert.PleLossRefIdeal.main_arg4))
      ∧ r.2.sem = fun _ => 0)

def quiescent_LatentNormBwd [hLatentNormBwd : Cert.LatentNormBwd.Facts] : Prop :=
  ∀ (m : (ℓ : Loc Cert.LatentNormBwd.nD Cert.LatentNormBwd.τ Cert.LatentNormBwd.sig) → Buf (Elt Bits) ℓ) (g : Dev Cert.LatentNormBwd.nD → PrngReg), Pre_LatentNormBwd m →
    θ_run (Cert.LatentNormBwd.defs (F := Bits)) (onTc (τ := Cert.LatentNormBwd.τ) (Cert.LatentNormBwd.main (F := Bits))) ⟨m, fun _ => 0, g⟩ (fun r => (∀ c : Dev Cert.LatentNormBwd.nD,
      r.2.mem ((c.tc : Thread Cert.LatentNormBwd.nD Cert.LatentNormBwd.τ).loc Cert.LatentNormBwd.main_arg0) = m ((c.tc : Thread Cert.LatentNormBwd.nD Cert.LatentNormBwd.τ).loc Cert.LatentNormBwd.main_arg0)
      ∧ r.2.mem ((c.tc : Thread Cert.LatentNormBwd.nD Cert.LatentNormBwd.τ).loc Cert.LatentNormBwd.main_arg1) = m ((c.tc : Thread Cert.LatentNormBwd.nD Cert.LatentNormBwd.τ).loc Cert.LatentNormBwd.main_arg1)
      ∧ r.2.mem ((c.tc : Thread Cert.LatentNormBwd.nD Cert.LatentNormBwd.τ).loc Cert.LatentNormBwd.main_arg2) = m ((c.tc : Thread Cert.LatentNormBwd.nD Cert.LatentNormBwd.τ).loc Cert.LatentNormBwd.main_arg2)
      ∧ r.2.mem ((c.tc : Thread Cert.LatentNormBwd.nD Cert.LatentNormBwd.τ).loc Cert.LatentNormBwd.main_arg3) = m ((c.tc : Thread Cert.LatentNormBwd.nD Cert.LatentNormBwd.τ).loc Cert.LatentNormBwd.main_arg3)
      ∧ r.2.mem ((c.tc : Thread Cert.LatentNormBwd.nD Cert.LatentNormBwd.τ).loc Cert.LatentNormBwd.main_arg4) = m ((c.tc : Thread Cert.LatentNormBwd.nD Cert.LatentNormBwd.τ).loc Cert.LatentNormBwd.main_arg4))
      ∧ r.2.sem = fun _ => 0)

def quiescent_LatentNormBwdIdeal [hLatentNormBwdIdeal : Cert.LatentNormBwdIdeal.Facts] : Prop :=
  ∀ (m : (ℓ : Loc Cert.LatentNormBwdIdeal.nD Cert.LatentNormBwdIdeal.τ Cert.LatentNormBwdIdeal.sig) → Buf (Elt Ideal) ℓ) (g : Dev Cert.LatentNormBwdIdeal.nD → PrngReg), Pre_LatentNormBwdIdeal m →
    θ_run (Cert.LatentNormBwdIdeal.defs (F := Ideal)) (onTc (τ := Cert.LatentNormBwdIdeal.τ) (Cert.LatentNormBwdIdeal.main (F := Ideal))) ⟨m, fun _ => 0, g⟩ (fun r => (∀ c : Dev Cert.LatentNormBwdIdeal.nD,
      r.2.mem ((c.tc : Thread Cert.LatentNormBwdIdeal.nD Cert.LatentNormBwdIdeal.τ).loc Cert.LatentNormBwdIdeal.main_arg0) = m ((c.tc : Thread Cert.LatentNormBwdIdeal.nD Cert.LatentNormBwdIdeal.τ).loc Cert.LatentNormBwdIdeal.main_arg0)
      ∧ r.2.mem ((c.tc : Thread Cert.LatentNormBwdIdeal.nD Cert.LatentNormBwdIdeal.τ).loc Cert.LatentNormBwdIdeal.main_arg1) = m ((c.tc : Thread Cert.LatentNormBwdIdeal.nD Cert.LatentNormBwdIdeal.τ).loc Cert.LatentNormBwdIdeal.main_arg1)
      ∧ r.2.mem ((c.tc : Thread Cert.LatentNormBwdIdeal.nD Cert.LatentNormBwdIdeal.τ).loc Cert.LatentNormBwdIdeal.main_arg2) = m ((c.tc : Thread Cert.LatentNormBwdIdeal.nD Cert.LatentNormBwdIdeal.τ).loc Cert.LatentNormBwdIdeal.main_arg2)
      ∧ r.2.mem ((c.tc : Thread Cert.LatentNormBwdIdeal.nD Cert.LatentNormBwdIdeal.τ).loc Cert.LatentNormBwdIdeal.main_arg3) = m ((c.tc : Thread Cert.LatentNormBwdIdeal.nD Cert.LatentNormBwdIdeal.τ).loc Cert.LatentNormBwdIdeal.main_arg3)
      ∧ r.2.mem ((c.tc : Thread Cert.LatentNormBwdIdeal.nD Cert.LatentNormBwdIdeal.τ).loc Cert.LatentNormBwdIdeal.main_arg4) = m ((c.tc : Thread Cert.LatentNormBwdIdeal.nD Cert.LatentNormBwdIdeal.τ).loc Cert.LatentNormBwdIdeal.main_arg4))
      ∧ r.2.sem = fun _ => 0)

def quiescent_LatentNormRefIdeal [hLatentNormRefIdeal : Cert.LatentNormRefIdeal.Facts] : Prop :=
  ∀ (m : (ℓ : Loc Cert.LatentNormRefIdeal.nD Cert.LatentNormRefIdeal.τ Cert.LatentNormRefIdeal.sig) → Buf (Elt Ideal) ℓ) (g : Dev Cert.LatentNormRefIdeal.nD → PrngReg), Pre_LatentNormRefIdeal m →
    θ_run (Cert.LatentNormRefIdeal.defs (F := Ideal)) (onTc (τ := Cert.LatentNormRefIdeal.τ) (Cert.LatentNormRefIdeal.main (F := Ideal))) ⟨m, fun _ => 0, g⟩ (fun r => (∀ c : Dev Cert.LatentNormRefIdeal.nD,
      r.2.mem ((c.tc : Thread Cert.LatentNormRefIdeal.nD Cert.LatentNormRefIdeal.τ).loc Cert.LatentNormRefIdeal.main_arg0) = m ((c.tc : Thread Cert.LatentNormRefIdeal.nD Cert.LatentNormRefIdeal.τ).loc Cert.LatentNormRefIdeal.main_arg0)
      ∧ r.2.mem ((c.tc : Thread Cert.LatentNormRefIdeal.nD Cert.LatentNormRefIdeal.τ).loc Cert.LatentNormRefIdeal.main_arg1) = m ((c.tc : Thread Cert.LatentNormRefIdeal.nD Cert.LatentNormRefIdeal.τ).loc Cert.LatentNormRefIdeal.main_arg1)
      ∧ r.2.mem ((c.tc : Thread Cert.LatentNormRefIdeal.nD Cert.LatentNormRefIdeal.τ).loc Cert.LatentNormRefIdeal.main_arg2) = m ((c.tc : Thread Cert.LatentNormRefIdeal.nD Cert.LatentNormRefIdeal.τ).loc Cert.LatentNormRefIdeal.main_arg2)
      ∧ r.2.mem ((c.tc : Thread Cert.LatentNormRefIdeal.nD Cert.LatentNormRefIdeal.τ).loc Cert.LatentNormRefIdeal.main_arg3) = m ((c.tc : Thread Cert.LatentNormRefIdeal.nD Cert.LatentNormRefIdeal.τ).loc Cert.LatentNormRefIdeal.main_arg3)
      ∧ r.2.mem ((c.tc : Thread Cert.LatentNormRefIdeal.nD Cert.LatentNormRefIdeal.τ).loc Cert.LatentNormRefIdeal.main_arg4) = m ((c.tc : Thread Cert.LatentNormRefIdeal.nD Cert.LatentNormRefIdeal.τ).loc Cert.LatentNormRefIdeal.main_arg4))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_HeadNormBwd [hHeadNormBwd : Cert.HeadNormBwd.Facts] : Prop :=
  ∀ (m : (ℓ : Loc Cert.HeadNormBwd.nD Cert.HeadNormBwd.τ Cert.HeadNormBwd.sig) → Buf (Elt Bits) ℓ) (g : Dev Cert.HeadNormBwd.nD → PrngReg), Pre_HeadNormBwd m →
    θ_run (Cert.HeadNormBwd.defs (F := Bits)) (onTc (τ := Cert.HeadNormBwd.τ) (Cert.HeadNormBwd.main (F := Bits))) ⟨m, fun _ => 0, g⟩ (fun r => (∀ c : Dev Cert.HeadNormBwd.nD,
      r.2.mem ((c.tc : Thread Cert.HeadNormBwd.nD Cert.HeadNormBwd.τ).loc Cert.HeadNormBwd.main_arg0) = m ((c.tc : Thread Cert.HeadNormBwd.nD Cert.HeadNormBwd.τ).loc Cert.HeadNormBwd.main_arg0)
      ∧ r.2.mem ((c.tc : Thread Cert.HeadNormBwd.nD Cert.HeadNormBwd.τ).loc Cert.HeadNormBwd.main_arg1) = m ((c.tc : Thread Cert.HeadNormBwd.nD Cert.HeadNormBwd.τ).loc Cert.HeadNormBwd.main_arg1)
      ∧ r.2.mem ((c.tc : Thread Cert.HeadNormBwd.nD Cert.HeadNormBwd.τ).loc Cert.HeadNormBwd.main_arg2) = m ((c.tc : Thread Cert.HeadNormBwd.nD Cert.HeadNormBwd.τ).loc Cert.HeadNormBwd.main_arg2)
      ∧ r.2.mem ((c.tc : Thread Cert.HeadNormBwd.nD Cert.HeadNormBwd.τ).loc Cert.HeadNormBwd.main_arg3) = m ((c.tc : Thread Cert.HeadNormBwd.nD Cert.HeadNormBwd.τ).loc Cert.HeadNormBwd.main_arg3)
      ∧ r.2.mem ((c.tc : Thread Cert.HeadNormBwd.nD Cert.HeadNormBwd.τ).loc Cert.HeadNormBwd.main_arg4) = m ((c.tc : Thread Cert.HeadNormBwd.nD Cert.HeadNormBwd.τ).loc Cert.HeadNormBwd.main_arg4)
      ∧ r.2.mem ((c.tc : Thread Cert.HeadNormBwd.nD Cert.HeadNormBwd.τ).loc Cert.HeadNormBwd.main_arg5) = m ((c.tc : Thread Cert.HeadNormBwd.nD Cert.HeadNormBwd.τ).loc Cert.HeadNormBwd.main_arg5)
      ∧ r.2.mem ((c.tc : Thread Cert.HeadNormBwd.nD Cert.HeadNormBwd.τ).loc Cert.HeadNormBwd.main_arg6) = m ((c.tc : Thread Cert.HeadNormBwd.nD Cert.HeadNormBwd.τ).loc Cert.HeadNormBwd.main_arg6)
      ∧ r.2.mem ((c.tc : Thread Cert.HeadNormBwd.nD Cert.HeadNormBwd.τ).loc Cert.HeadNormBwd.main_arg7) = m ((c.tc : Thread Cert.HeadNormBwd.nD Cert.HeadNormBwd.τ).loc Cert.HeadNormBwd.main_arg7)
      ∧ r.2.mem ((c.tc : Thread Cert.HeadNormBwd.nD Cert.HeadNormBwd.τ).loc Cert.HeadNormBwd.main_arg8) = m ((c.tc : Thread Cert.HeadNormBwd.nD Cert.HeadNormBwd.τ).loc Cert.HeadNormBwd.main_arg8)
      ∧ r.2.mem ((c.tc : Thread Cert.HeadNormBwd.nD Cert.HeadNormBwd.τ).loc Cert.HeadNormBwd.main_arg9) = m ((c.tc : Thread Cert.HeadNormBwd.nD Cert.HeadNormBwd.τ).loc Cert.HeadNormBwd.main_arg9))
      ∧ r.2.sem = fun _ => 0)

def quiescent_HeadNormBwdIdeal [hHeadNormBwdIdeal : Cert.HeadNormBwdIdeal.Facts] : Prop :=
  ∀ (m : (ℓ : Loc Cert.HeadNormBwdIdeal.nD Cert.HeadNormBwdIdeal.τ Cert.HeadNormBwdIdeal.sig) → Buf (Elt Ideal) ℓ) (g : Dev Cert.HeadNormBwdIdeal.nD → PrngReg), Pre_HeadNormBwdIdeal m →
    θ_run (Cert.HeadNormBwdIdeal.defs (F := Ideal)) (onTc (τ := Cert.HeadNormBwdIdeal.τ) (Cert.HeadNormBwdIdeal.main (F := Ideal))) ⟨m, fun _ => 0, g⟩ (fun r => (∀ c : Dev Cert.HeadNormBwdIdeal.nD,
      r.2.mem ((c.tc : Thread Cert.HeadNormBwdIdeal.nD Cert.HeadNormBwdIdeal.τ).loc Cert.HeadNormBwdIdeal.main_arg0) = m ((c.tc : Thread Cert.HeadNormBwdIdeal.nD Cert.HeadNormBwdIdeal.τ).loc Cert.HeadNormBwdIdeal.main_arg0)
      ∧ r.2.mem ((c.tc : Thread Cert.HeadNormBwdIdeal.nD Cert.HeadNormBwdIdeal.τ).loc Cert.HeadNormBwdIdeal.main_arg1) = m ((c.tc : Thread Cert.HeadNormBwdIdeal.nD Cert.HeadNormBwdIdeal.τ).loc Cert.HeadNormBwdIdeal.main_arg1)
      ∧ r.2.mem ((c.tc : Thread Cert.HeadNormBwdIdeal.nD Cert.HeadNormBwdIdeal.τ).loc Cert.HeadNormBwdIdeal.main_arg2) = m ((c.tc : Thread Cert.HeadNormBwdIdeal.nD Cert.HeadNormBwdIdeal.τ).loc Cert.HeadNormBwdIdeal.main_arg2)
      ∧ r.2.mem ((c.tc : Thread Cert.HeadNormBwdIdeal.nD Cert.HeadNormBwdIdeal.τ).loc Cert.HeadNormBwdIdeal.main_arg3) = m ((c.tc : Thread Cert.HeadNormBwdIdeal.nD Cert.HeadNormBwdIdeal.τ).loc Cert.HeadNormBwdIdeal.main_arg3)
      ∧ r.2.mem ((c.tc : Thread Cert.HeadNormBwdIdeal.nD Cert.HeadNormBwdIdeal.τ).loc Cert.HeadNormBwdIdeal.main_arg4) = m ((c.tc : Thread Cert.HeadNormBwdIdeal.nD Cert.HeadNormBwdIdeal.τ).loc Cert.HeadNormBwdIdeal.main_arg4)
      ∧ r.2.mem ((c.tc : Thread Cert.HeadNormBwdIdeal.nD Cert.HeadNormBwdIdeal.τ).loc Cert.HeadNormBwdIdeal.main_arg5) = m ((c.tc : Thread Cert.HeadNormBwdIdeal.nD Cert.HeadNormBwdIdeal.τ).loc Cert.HeadNormBwdIdeal.main_arg5)
      ∧ r.2.mem ((c.tc : Thread Cert.HeadNormBwdIdeal.nD Cert.HeadNormBwdIdeal.τ).loc Cert.HeadNormBwdIdeal.main_arg6) = m ((c.tc : Thread Cert.HeadNormBwdIdeal.nD Cert.HeadNormBwdIdeal.τ).loc Cert.HeadNormBwdIdeal.main_arg6)
      ∧ r.2.mem ((c.tc : Thread Cert.HeadNormBwdIdeal.nD Cert.HeadNormBwdIdeal.τ).loc Cert.HeadNormBwdIdeal.main_arg7) = m ((c.tc : Thread Cert.HeadNormBwdIdeal.nD Cert.HeadNormBwdIdeal.τ).loc Cert.HeadNormBwdIdeal.main_arg7)
      ∧ r.2.mem ((c.tc : Thread Cert.HeadNormBwdIdeal.nD Cert.HeadNormBwdIdeal.τ).loc Cert.HeadNormBwdIdeal.main_arg8) = m ((c.tc : Thread Cert.HeadNormBwdIdeal.nD Cert.HeadNormBwdIdeal.τ).loc Cert.HeadNormBwdIdeal.main_arg8)
      ∧ r.2.mem ((c.tc : Thread Cert.HeadNormBwdIdeal.nD Cert.HeadNormBwdIdeal.τ).loc Cert.HeadNormBwdIdeal.main_arg9) = m ((c.tc : Thread Cert.HeadNormBwdIdeal.nD Cert.HeadNormBwdIdeal.τ).loc Cert.HeadNormBwdIdeal.main_arg9))
      ∧ r.2.sem = fun _ => 0)

def quiescent_HeadNormRefIdeal [hHeadNormRefIdeal : Cert.HeadNormRefIdeal.Facts] : Prop :=
  ∀ (m : (ℓ : Loc Cert.HeadNormRefIdeal.nD Cert.HeadNormRefIdeal.τ Cert.HeadNormRefIdeal.sig) → Buf (Elt Ideal) ℓ) (g : Dev Cert.HeadNormRefIdeal.nD → PrngReg), Pre_HeadNormRefIdeal m →
    θ_run (Cert.HeadNormRefIdeal.defs (F := Ideal)) (onTc (τ := Cert.HeadNormRefIdeal.τ) (Cert.HeadNormRefIdeal.main (F := Ideal))) ⟨m, fun _ => 0, g⟩ (fun r => (∀ c : Dev Cert.HeadNormRefIdeal.nD,
      r.2.mem ((c.tc : Thread Cert.HeadNormRefIdeal.nD Cert.HeadNormRefIdeal.τ).loc Cert.HeadNormRefIdeal.main_arg0) = m ((c.tc : Thread Cert.HeadNormRefIdeal.nD Cert.HeadNormRefIdeal.τ).loc Cert.HeadNormRefIdeal.main_arg0)
      ∧ r.2.mem ((c.tc : Thread Cert.HeadNormRefIdeal.nD Cert.HeadNormRefIdeal.τ).loc Cert.HeadNormRefIdeal.main_arg1) = m ((c.tc : Thread Cert.HeadNormRefIdeal.nD Cert.HeadNormRefIdeal.τ).loc Cert.HeadNormRefIdeal.main_arg1)
      ∧ r.2.mem ((c.tc : Thread Cert.HeadNormRefIdeal.nD Cert.HeadNormRefIdeal.τ).loc Cert.HeadNormRefIdeal.main_arg2) = m ((c.tc : Thread Cert.HeadNormRefIdeal.nD Cert.HeadNormRefIdeal.τ).loc Cert.HeadNormRefIdeal.main_arg2)
      ∧ r.2.mem ((c.tc : Thread Cert.HeadNormRefIdeal.nD Cert.HeadNormRefIdeal.τ).loc Cert.HeadNormRefIdeal.main_arg3) = m ((c.tc : Thread Cert.HeadNormRefIdeal.nD Cert.HeadNormRefIdeal.τ).loc Cert.HeadNormRefIdeal.main_arg3)
      ∧ r.2.mem ((c.tc : Thread Cert.HeadNormRefIdeal.nD Cert.HeadNormRefIdeal.τ).loc Cert.HeadNormRefIdeal.main_arg4) = m ((c.tc : Thread Cert.HeadNormRefIdeal.nD Cert.HeadNormRefIdeal.τ).loc Cert.HeadNormRefIdeal.main_arg4)
      ∧ r.2.mem ((c.tc : Thread Cert.HeadNormRefIdeal.nD Cert.HeadNormRefIdeal.τ).loc Cert.HeadNormRefIdeal.main_arg5) = m ((c.tc : Thread Cert.HeadNormRefIdeal.nD Cert.HeadNormRefIdeal.τ).loc Cert.HeadNormRefIdeal.main_arg5)
      ∧ r.2.mem ((c.tc : Thread Cert.HeadNormRefIdeal.nD Cert.HeadNormRefIdeal.τ).loc Cert.HeadNormRefIdeal.main_arg6) = m ((c.tc : Thread Cert.HeadNormRefIdeal.nD Cert.HeadNormRefIdeal.τ).loc Cert.HeadNormRefIdeal.main_arg6)
      ∧ r.2.mem ((c.tc : Thread Cert.HeadNormRefIdeal.nD Cert.HeadNormRefIdeal.τ).loc Cert.HeadNormRefIdeal.main_arg7) = m ((c.tc : Thread Cert.HeadNormRefIdeal.nD Cert.HeadNormRefIdeal.τ).loc Cert.HeadNormRefIdeal.main_arg7)
      ∧ r.2.mem ((c.tc : Thread Cert.HeadNormRefIdeal.nD Cert.HeadNormRefIdeal.τ).loc Cert.HeadNormRefIdeal.main_arg8) = m ((c.tc : Thread Cert.HeadNormRefIdeal.nD Cert.HeadNormRefIdeal.τ).loc Cert.HeadNormRefIdeal.main_arg8)
      ∧ r.2.mem ((c.tc : Thread Cert.HeadNormRefIdeal.nD Cert.HeadNormRefIdeal.τ).loc Cert.HeadNormRefIdeal.main_arg9) = m ((c.tc : Thread Cert.HeadNormRefIdeal.nD Cert.HeadNormRefIdeal.τ).loc Cert.HeadNormRefIdeal.main_arg9))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attention_fwd [hAttnFwdIdeal : Cert.AttnFwdIdeal.Facts] [hPre_finite_attention_fwd : Cert.Pre_finite_attention_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attention_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attention_fwd [hAttnFwdRefIdeal : Cert.AttnFwdRefIdeal.Facts] [hPre_finite_attention_fwd : Cert.Pre_finite_attention_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attention_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3))
      ∧ r.2.sem = fun _ => 0)

def quiescent_GlaBwdRev [hGlaBwdRev : Cert.GlaBwdRev.Facts] : Prop :=
  ∀ (m : (ℓ : Loc Cert.GlaBwdRev.nD Cert.GlaBwdRev.τ Cert.GlaBwdRev.sig) → Buf (Elt Bits) ℓ) (g : Dev Cert.GlaBwdRev.nD → PrngReg), Pre_GlaBwdRev m →
    θ_run (Cert.GlaBwdRev.defs (F := Bits)) (onTc (τ := Cert.GlaBwdRev.τ) (Cert.GlaBwdRev.main (F := Bits))) ⟨m, fun _ => 0, g⟩ (fun r => (∀ c : Dev Cert.GlaBwdRev.nD,
      r.2.mem ((c.tc : Thread Cert.GlaBwdRev.nD Cert.GlaBwdRev.τ).loc Cert.GlaBwdRev.main_arg0) = m ((c.tc : Thread Cert.GlaBwdRev.nD Cert.GlaBwdRev.τ).loc Cert.GlaBwdRev.main_arg0)
      ∧ r.2.mem ((c.tc : Thread Cert.GlaBwdRev.nD Cert.GlaBwdRev.τ).loc Cert.GlaBwdRev.main_arg1) = m ((c.tc : Thread Cert.GlaBwdRev.nD Cert.GlaBwdRev.τ).loc Cert.GlaBwdRev.main_arg1)
      ∧ r.2.mem ((c.tc : Thread Cert.GlaBwdRev.nD Cert.GlaBwdRev.τ).loc Cert.GlaBwdRev.main_arg2) = m ((c.tc : Thread Cert.GlaBwdRev.nD Cert.GlaBwdRev.τ).loc Cert.GlaBwdRev.main_arg2)
      ∧ r.2.mem ((c.tc : Thread Cert.GlaBwdRev.nD Cert.GlaBwdRev.τ).loc Cert.GlaBwdRev.main_arg3) = m ((c.tc : Thread Cert.GlaBwdRev.nD Cert.GlaBwdRev.τ).loc Cert.GlaBwdRev.main_arg3)
      ∧ r.2.mem ((c.tc : Thread Cert.GlaBwdRev.nD Cert.GlaBwdRev.τ).loc Cert.GlaBwdRev.main_arg4) = m ((c.tc : Thread Cert.GlaBwdRev.nD Cert.GlaBwdRev.τ).loc Cert.GlaBwdRev.main_arg4)
      ∧ r.2.mem ((c.tc : Thread Cert.GlaBwdRev.nD Cert.GlaBwdRev.τ).loc Cert.GlaBwdRev.main_arg5) = m ((c.tc : Thread Cert.GlaBwdRev.nD Cert.GlaBwdRev.τ).loc Cert.GlaBwdRev.main_arg5))
      ∧ r.2.sem = fun _ => 0)

def quiescent_GlaBwdRevIdeal [hGlaBwdRevIdeal : Cert.GlaBwdRevIdeal.Facts] : Prop :=
  ∀ (m : (ℓ : Loc Cert.GlaBwdRevIdeal.nD Cert.GlaBwdRevIdeal.τ Cert.GlaBwdRevIdeal.sig) → Buf (Elt Ideal) ℓ) (g : Dev Cert.GlaBwdRevIdeal.nD → PrngReg), Pre_GlaBwdRevIdeal m →
    θ_run (Cert.GlaBwdRevIdeal.defs (F := Ideal)) (onTc (τ := Cert.GlaBwdRevIdeal.τ) (Cert.GlaBwdRevIdeal.main (F := Ideal))) ⟨m, fun _ => 0, g⟩ (fun r => (∀ c : Dev Cert.GlaBwdRevIdeal.nD,
      r.2.mem ((c.tc : Thread Cert.GlaBwdRevIdeal.nD Cert.GlaBwdRevIdeal.τ).loc Cert.GlaBwdRevIdeal.main_arg0) = m ((c.tc : Thread Cert.GlaBwdRevIdeal.nD Cert.GlaBwdRevIdeal.τ).loc Cert.GlaBwdRevIdeal.main_arg0)
      ∧ r.2.mem ((c.tc : Thread Cert.GlaBwdRevIdeal.nD Cert.GlaBwdRevIdeal.τ).loc Cert.GlaBwdRevIdeal.main_arg1) = m ((c.tc : Thread Cert.GlaBwdRevIdeal.nD Cert.GlaBwdRevIdeal.τ).loc Cert.GlaBwdRevIdeal.main_arg1)
      ∧ r.2.mem ((c.tc : Thread Cert.GlaBwdRevIdeal.nD Cert.GlaBwdRevIdeal.τ).loc Cert.GlaBwdRevIdeal.main_arg2) = m ((c.tc : Thread Cert.GlaBwdRevIdeal.nD Cert.GlaBwdRevIdeal.τ).loc Cert.GlaBwdRevIdeal.main_arg2)
      ∧ r.2.mem ((c.tc : Thread Cert.GlaBwdRevIdeal.nD Cert.GlaBwdRevIdeal.τ).loc Cert.GlaBwdRevIdeal.main_arg3) = m ((c.tc : Thread Cert.GlaBwdRevIdeal.nD Cert.GlaBwdRevIdeal.τ).loc Cert.GlaBwdRevIdeal.main_arg3)
      ∧ r.2.mem ((c.tc : Thread Cert.GlaBwdRevIdeal.nD Cert.GlaBwdRevIdeal.τ).loc Cert.GlaBwdRevIdeal.main_arg4) = m ((c.tc : Thread Cert.GlaBwdRevIdeal.nD Cert.GlaBwdRevIdeal.τ).loc Cert.GlaBwdRevIdeal.main_arg4)
      ∧ r.2.mem ((c.tc : Thread Cert.GlaBwdRevIdeal.nD Cert.GlaBwdRevIdeal.τ).loc Cert.GlaBwdRevIdeal.main_arg5) = m ((c.tc : Thread Cert.GlaBwdRevIdeal.nD Cert.GlaBwdRevIdeal.τ).loc Cert.GlaBwdRevIdeal.main_arg5))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_LatentNormFwd [hLatentNormFwd : Cert.LatentNormFwd.Facts] : Prop :=
  ∀ (m : (ℓ : Loc Cert.LatentNormFwd.nD Cert.LatentNormFwd.τ Cert.LatentNormFwd.sig) → Buf (Elt Bits) ℓ) (g : Dev Cert.LatentNormFwd.nD → PrngReg), Pre_LatentNormFwd m →
    θ_run (Cert.LatentNormFwd.defs (F := Bits)) (onTc (τ := Cert.LatentNormFwd.τ) (Cert.LatentNormFwd.main (F := Bits))) ⟨m, fun _ => 0, g⟩ (fun r => (∀ c : Dev Cert.LatentNormFwd.nD,
      r.2.mem ((c.tc : Thread Cert.LatentNormFwd.nD Cert.LatentNormFwd.τ).loc Cert.LatentNormFwd.main_arg0) = m ((c.tc : Thread Cert.LatentNormFwd.nD Cert.LatentNormFwd.τ).loc Cert.LatentNormFwd.main_arg0)
      ∧ r.2.mem ((c.tc : Thread Cert.LatentNormFwd.nD Cert.LatentNormFwd.τ).loc Cert.LatentNormFwd.main_arg1) = m ((c.tc : Thread Cert.LatentNormFwd.nD Cert.LatentNormFwd.τ).loc Cert.LatentNormFwd.main_arg1)
      ∧ r.2.mem ((c.tc : Thread Cert.LatentNormFwd.nD Cert.LatentNormFwd.τ).loc Cert.LatentNormFwd.main_arg2) = m ((c.tc : Thread Cert.LatentNormFwd.nD Cert.LatentNormFwd.τ).loc Cert.LatentNormFwd.main_arg2))
      ∧ r.2.sem = fun _ => 0)

def quiescent_LatentNormFwdIdeal [hLatentNormFwdIdeal : Cert.LatentNormFwdIdeal.Facts] : Prop :=
  ∀ (m : (ℓ : Loc Cert.LatentNormFwdIdeal.nD Cert.LatentNormFwdIdeal.τ Cert.LatentNormFwdIdeal.sig) → Buf (Elt Ideal) ℓ) (g : Dev Cert.LatentNormFwdIdeal.nD → PrngReg), Pre_LatentNormFwdIdeal m →
    θ_run (Cert.LatentNormFwdIdeal.defs (F := Ideal)) (onTc (τ := Cert.LatentNormFwdIdeal.τ) (Cert.LatentNormFwdIdeal.main (F := Ideal))) ⟨m, fun _ => 0, g⟩ (fun r => (∀ c : Dev Cert.LatentNormFwdIdeal.nD,
      r.2.mem ((c.tc : Thread Cert.LatentNormFwdIdeal.nD Cert.LatentNormFwdIdeal.τ).loc Cert.LatentNormFwdIdeal.main_arg0) = m ((c.tc : Thread Cert.LatentNormFwdIdeal.nD Cert.LatentNormFwdIdeal.τ).loc Cert.LatentNormFwdIdeal.main_arg0)
      ∧ r.2.mem ((c.tc : Thread Cert.LatentNormFwdIdeal.nD Cert.LatentNormFwdIdeal.τ).loc Cert.LatentNormFwdIdeal.main_arg1) = m ((c.tc : Thread Cert.LatentNormFwdIdeal.nD Cert.LatentNormFwdIdeal.τ).loc Cert.LatentNormFwdIdeal.main_arg1)
      ∧ r.2.mem ((c.tc : Thread Cert.LatentNormFwdIdeal.nD Cert.LatentNormFwdIdeal.τ).loc Cert.LatentNormFwdIdeal.main_arg2) = m ((c.tc : Thread Cert.LatentNormFwdIdeal.nD Cert.LatentNormFwdIdeal.τ).loc Cert.LatentNormFwdIdeal.main_arg2))
      ∧ r.2.sem = fun _ => 0)

def quiescent_LatentNormFwdRefIdeal [hLatentNormFwdRefIdeal : Cert.LatentNormFwdRefIdeal.Facts] : Prop :=
  ∀ (m : (ℓ : Loc Cert.LatentNormFwdRefIdeal.nD Cert.LatentNormFwdRefIdeal.τ Cert.LatentNormFwdRefIdeal.sig) → Buf (Elt Ideal) ℓ) (g : Dev Cert.LatentNormFwdRefIdeal.nD → PrngReg), Pre_LatentNormFwdRefIdeal m →
    θ_run (Cert.LatentNormFwdRefIdeal.defs (F := Ideal)) (onTc (τ := Cert.LatentNormFwdRefIdeal.τ) (Cert.LatentNormFwdRefIdeal.main (F := Ideal))) ⟨m, fun _ => 0, g⟩ (fun r => (∀ c : Dev Cert.LatentNormFwdRefIdeal.nD,
      r.2.mem ((c.tc : Thread Cert.LatentNormFwdRefIdeal.nD Cert.LatentNormFwdRefIdeal.τ).loc Cert.LatentNormFwdRefIdeal.main_arg0) = m ((c.tc : Thread Cert.LatentNormFwdRefIdeal.nD Cert.LatentNormFwdRefIdeal.τ).loc Cert.LatentNormFwdRefIdeal.main_arg0)
      ∧ r.2.mem ((c.tc : Thread Cert.LatentNormFwdRefIdeal.nD Cert.LatentNormFwdRefIdeal.τ).loc Cert.LatentNormFwdRefIdeal.main_arg1) = m ((c.tc : Thread Cert.LatentNormFwdRefIdeal.nD Cert.LatentNormFwdRefIdeal.τ).loc Cert.LatentNormFwdRefIdeal.main_arg1)
      ∧ r.2.mem ((c.tc : Thread Cert.LatentNormFwdRefIdeal.nD Cert.LatentNormFwdRefIdeal.τ).loc Cert.LatentNormFwdRefIdeal.main_arg2) = m ((c.tc : Thread Cert.LatentNormFwdRefIdeal.nD Cert.LatentNormFwdRefIdeal.τ).loc Cert.LatentNormFwdRefIdeal.main_arg2))
      ∧ r.2.sem = fun _ => 0)

def quiescent_HeadNormFwd [hHeadNormFwd : Cert.HeadNormFwd.Facts] : Prop :=
  ∀ (m : (ℓ : Loc Cert.HeadNormFwd.nD Cert.HeadNormFwd.τ Cert.HeadNormFwd.sig) → Buf (Elt Bits) ℓ) (g : Dev Cert.HeadNormFwd.nD → PrngReg), Pre_HeadNormFwd m →
    θ_run (Cert.HeadNormFwd.defs (F := Bits)) (onTc (τ := Cert.HeadNormFwd.τ) (Cert.HeadNormFwd.main (F := Bits))) ⟨m, fun _ => 0, g⟩ (fun r => (∀ c : Dev Cert.HeadNormFwd.nD,
      r.2.mem ((c.tc : Thread Cert.HeadNormFwd.nD Cert.HeadNormFwd.τ).loc Cert.HeadNormFwd.main_arg0) = m ((c.tc : Thread Cert.HeadNormFwd.nD Cert.HeadNormFwd.τ).loc Cert.HeadNormFwd.main_arg0)
      ∧ r.2.mem ((c.tc : Thread Cert.HeadNormFwd.nD Cert.HeadNormFwd.τ).loc Cert.HeadNormFwd.main_arg1) = m ((c.tc : Thread Cert.HeadNormFwd.nD Cert.HeadNormFwd.τ).loc Cert.HeadNormFwd.main_arg1)
      ∧ r.2.mem ((c.tc : Thread Cert.HeadNormFwd.nD Cert.HeadNormFwd.τ).loc Cert.HeadNormFwd.main_arg2) = m ((c.tc : Thread Cert.HeadNormFwd.nD Cert.HeadNormFwd.τ).loc Cert.HeadNormFwd.main_arg2)
      ∧ r.2.mem ((c.tc : Thread Cert.HeadNormFwd.nD Cert.HeadNormFwd.τ).loc Cert.HeadNormFwd.main_arg3) = m ((c.tc : Thread Cert.HeadNormFwd.nD Cert.HeadNormFwd.τ).loc Cert.HeadNormFwd.main_arg3)
      ∧ r.2.mem ((c.tc : Thread Cert.HeadNormFwd.nD Cert.HeadNormFwd.τ).loc Cert.HeadNormFwd.main_arg4) = m ((c.tc : Thread Cert.HeadNormFwd.nD Cert.HeadNormFwd.τ).loc Cert.HeadNormFwd.main_arg4)
      ∧ r.2.mem ((c.tc : Thread Cert.HeadNormFwd.nD Cert.HeadNormFwd.τ).loc Cert.HeadNormFwd.main_arg5) = m ((c.tc : Thread Cert.HeadNormFwd.nD Cert.HeadNormFwd.τ).loc Cert.HeadNormFwd.main_arg5))
      ∧ r.2.sem = fun _ => 0)

def quiescent_HeadNormFwdIdeal [hHeadNormFwdIdeal : Cert.HeadNormFwdIdeal.Facts] : Prop :=
  ∀ (m : (ℓ : Loc Cert.HeadNormFwdIdeal.nD Cert.HeadNormFwdIdeal.τ Cert.HeadNormFwdIdeal.sig) → Buf (Elt Ideal) ℓ) (g : Dev Cert.HeadNormFwdIdeal.nD → PrngReg), Pre_HeadNormFwdIdeal m →
    θ_run (Cert.HeadNormFwdIdeal.defs (F := Ideal)) (onTc (τ := Cert.HeadNormFwdIdeal.τ) (Cert.HeadNormFwdIdeal.main (F := Ideal))) ⟨m, fun _ => 0, g⟩ (fun r => (∀ c : Dev Cert.HeadNormFwdIdeal.nD,
      r.2.mem ((c.tc : Thread Cert.HeadNormFwdIdeal.nD Cert.HeadNormFwdIdeal.τ).loc Cert.HeadNormFwdIdeal.main_arg0) = m ((c.tc : Thread Cert.HeadNormFwdIdeal.nD Cert.HeadNormFwdIdeal.τ).loc Cert.HeadNormFwdIdeal.main_arg0)
      ∧ r.2.mem ((c.tc : Thread Cert.HeadNormFwdIdeal.nD Cert.HeadNormFwdIdeal.τ).loc Cert.HeadNormFwdIdeal.main_arg1) = m ((c.tc : Thread Cert.HeadNormFwdIdeal.nD Cert.HeadNormFwdIdeal.τ).loc Cert.HeadNormFwdIdeal.main_arg1)
      ∧ r.2.mem ((c.tc : Thread Cert.HeadNormFwdIdeal.nD Cert.HeadNormFwdIdeal.τ).loc Cert.HeadNormFwdIdeal.main_arg2) = m ((c.tc : Thread Cert.HeadNormFwdIdeal.nD Cert.HeadNormFwdIdeal.τ).loc Cert.HeadNormFwdIdeal.main_arg2)
      ∧ r.2.mem ((c.tc : Thread Cert.HeadNormFwdIdeal.nD Cert.HeadNormFwdIdeal.τ).loc Cert.HeadNormFwdIdeal.main_arg3) = m ((c.tc : Thread Cert.HeadNormFwdIdeal.nD Cert.HeadNormFwdIdeal.τ).loc Cert.HeadNormFwdIdeal.main_arg3)
      ∧ r.2.mem ((c.tc : Thread Cert.HeadNormFwdIdeal.nD Cert.HeadNormFwdIdeal.τ).loc Cert.HeadNormFwdIdeal.main_arg4) = m ((c.tc : Thread Cert.HeadNormFwdIdeal.nD Cert.HeadNormFwdIdeal.τ).loc Cert.HeadNormFwdIdeal.main_arg4)
      ∧ r.2.mem ((c.tc : Thread Cert.HeadNormFwdIdeal.nD Cert.HeadNormFwdIdeal.τ).loc Cert.HeadNormFwdIdeal.main_arg5) = m ((c.tc : Thread Cert.HeadNormFwdIdeal.nD Cert.HeadNormFwdIdeal.τ).loc Cert.HeadNormFwdIdeal.main_arg5))
      ∧ r.2.sem = fun _ => 0)

def quiescent_HeadNormFwdRefIdeal [hHeadNormFwdRefIdeal : Cert.HeadNormFwdRefIdeal.Facts] : Prop :=
  ∀ (m : (ℓ : Loc Cert.HeadNormFwdRefIdeal.nD Cert.HeadNormFwdRefIdeal.τ Cert.HeadNormFwdRefIdeal.sig) → Buf (Elt Ideal) ℓ) (g : Dev Cert.HeadNormFwdRefIdeal.nD → PrngReg), Pre_HeadNormFwdRefIdeal m →
    θ_run (Cert.HeadNormFwdRefIdeal.defs (F := Ideal)) (onTc (τ := Cert.HeadNormFwdRefIdeal.τ) (Cert.HeadNormFwdRefIdeal.main (F := Ideal))) ⟨m, fun _ => 0, g⟩ (fun r => (∀ c : Dev Cert.HeadNormFwdRefIdeal.nD,
      r.2.mem ((c.tc : Thread Cert.HeadNormFwdRefIdeal.nD Cert.HeadNormFwdRefIdeal.τ).loc Cert.HeadNormFwdRefIdeal.main_arg0) = m ((c.tc : Thread Cert.HeadNormFwdRefIdeal.nD Cert.HeadNormFwdRefIdeal.τ).loc Cert.HeadNormFwdRefIdeal.main_arg0)
      ∧ r.2.mem ((c.tc : Thread Cert.HeadNormFwdRefIdeal.nD Cert.HeadNormFwdRefIdeal.τ).loc Cert.HeadNormFwdRefIdeal.main_arg1) = m ((c.tc : Thread Cert.HeadNormFwdRefIdeal.nD Cert.HeadNormFwdRefIdeal.τ).loc Cert.HeadNormFwdRefIdeal.main_arg1)
      ∧ r.2.mem ((c.tc : Thread Cert.HeadNormFwdRefIdeal.nD Cert.HeadNormFwdRefIdeal.τ).loc Cert.HeadNormFwdRefIdeal.main_arg2) = m ((c.tc : Thread Cert.HeadNormFwdRefIdeal.nD Cert.HeadNormFwdRefIdeal.τ).loc Cert.HeadNormFwdRefIdeal.main_arg2)
      ∧ r.2.mem ((c.tc : Thread Cert.HeadNormFwdRefIdeal.nD Cert.HeadNormFwdRefIdeal.τ).loc Cert.HeadNormFwdRefIdeal.main_arg3) = m ((c.tc : Thread Cert.HeadNormFwdRefIdeal.nD Cert.HeadNormFwdRefIdeal.τ).loc Cert.HeadNormFwdRefIdeal.main_arg3)
      ∧ r.2.mem ((c.tc : Thread Cert.HeadNormFwdRefIdeal.nD Cert.HeadNormFwdRefIdeal.τ).loc Cert.HeadNormFwdRefIdeal.main_arg4) = m ((c.tc : Thread Cert.HeadNormFwdRefIdeal.nD Cert.HeadNormFwdRefIdeal.τ).loc Cert.HeadNormFwdRefIdeal.main_arg4)
      ∧ r.2.mem ((c.tc : Thread Cert.HeadNormFwdRefIdeal.nD Cert.HeadNormFwdRefIdeal.τ).loc Cert.HeadNormFwdRefIdeal.main_arg5) = m ((c.tc : Thread Cert.HeadNormFwdRefIdeal.nD Cert.HeadNormFwdRefIdeal.τ).loc Cert.HeadNormFwdRefIdeal.main_arg5))
      ∧ r.2.sem = fun _ => 0)

def quiescent_LowerBounds [hLowerBounds : Cert.LowerBounds.Facts] : Prop :=
  ∀ (m : (ℓ : Loc Cert.LowerBounds.nD Cert.LowerBounds.τ Cert.LowerBounds.sig) → Buf (Elt Bits) ℓ) (g : Dev Cert.LowerBounds.nD → PrngReg), Pre_LowerBounds m →
    θ_run (Cert.LowerBounds.defs (F := Bits)) (onTc (τ := Cert.LowerBounds.τ) (Cert.LowerBounds.main (F := Bits))) ⟨m, fun _ => 0, g⟩ (fun r => (∀ c : Dev Cert.LowerBounds.nD,
      r.2.mem ((c.tc : Thread Cert.LowerBounds.nD Cert.LowerBounds.τ).loc Cert.LowerBounds.main_arg0) = m ((c.tc : Thread Cert.LowerBounds.nD Cert.LowerBounds.τ).loc Cert.LowerBounds.main_arg0))
      ∧ r.2.sem = fun _ => 0)

def quiescent_LowerBoundsIdeal [hLowerBoundsIdeal : Cert.LowerBoundsIdeal.Facts] : Prop :=
  ∀ (m : (ℓ : Loc Cert.LowerBoundsIdeal.nD Cert.LowerBoundsIdeal.τ Cert.LowerBoundsIdeal.sig) → Buf (Elt Ideal) ℓ) (g : Dev Cert.LowerBoundsIdeal.nD → PrngReg), Pre_LowerBoundsIdeal m →
    θ_run (Cert.LowerBoundsIdeal.defs (F := Ideal)) (onTc (τ := Cert.LowerBoundsIdeal.τ) (Cert.LowerBoundsIdeal.main (F := Ideal))) ⟨m, fun _ => 0, g⟩ (fun r => (∀ c : Dev Cert.LowerBoundsIdeal.nD,
      r.2.mem ((c.tc : Thread Cert.LowerBoundsIdeal.nD Cert.LowerBoundsIdeal.τ).loc Cert.LowerBoundsIdeal.main_arg0) = m ((c.tc : Thread Cert.LowerBoundsIdeal.nD Cert.LowerBoundsIdeal.τ).loc Cert.LowerBoundsIdeal.main_arg0))
      ∧ r.2.sem = fun _ => 0)

def quiescent_LowerBoundsRefIdeal [hLowerBoundsRefIdeal : Cert.LowerBoundsRefIdeal.Facts] : Prop :=
  ∀ (m : (ℓ : Loc Cert.LowerBoundsRefIdeal.nD Cert.LowerBoundsRefIdeal.τ Cert.LowerBoundsRefIdeal.sig) → Buf (Elt Ideal) ℓ) (g : Dev Cert.LowerBoundsRefIdeal.nD → PrngReg), Pre_LowerBoundsRefIdeal m →
    θ_run (Cert.LowerBoundsRefIdeal.defs (F := Ideal)) (onTc (τ := Cert.LowerBoundsRefIdeal.τ) (Cert.LowerBoundsRefIdeal.main (F := Ideal))) ⟨m, fun _ => 0, g⟩ (fun r => (∀ c : Dev Cert.LowerBoundsRefIdeal.nD,
      r.2.mem ((c.tc : Thread Cert.LowerBoundsRefIdeal.nD Cert.LowerBoundsRefIdeal.τ).loc Cert.LowerBoundsRefIdeal.main_arg0) = m ((c.tc : Thread Cert.LowerBoundsRefIdeal.nD Cert.LowerBoundsRefIdeal.τ).loc Cert.LowerBoundsRefIdeal.main_arg0))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3)
      ∧ r.2.mem ((c.tc : Thread Cert.MixOutFwd.nD Cert.MixOutFwd.τ).loc Cert.MixOutFwd.main_arg4) = m ((c.tc : Thread Cert.MixOutFwd.nD Cert.MixOutFwd.τ).loc Cert.MixOutFwd.main_arg4))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
      ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_DWGate [hDWGate : Cert.DWGate.Facts] : Prop :=
  ∀ (m : (ℓ : Loc Cert.DWGate.nD Cert.DWGate.τ Cert.DWGate.sig) → Buf (Elt Bits) ℓ) (g : Dev Cert.DWGate.nD → PrngReg), Pre_DWGate m →
    θ_run (Cert.DWGate.defs (F := Bits)) (onTc (τ := Cert.DWGate.τ) (Cert.DWGate.main (F := Bits))) ⟨m, fun _ => 0, g⟩ (fun r => (∀ c : Dev Cert.DWGate.nD,
      r.2.mem ((c.tc : Thread Cert.DWGate.nD Cert.DWGate.τ).loc Cert.DWGate.main_arg0) = m ((c.tc : Thread Cert.DWGate.nD Cert.DWGate.τ).loc Cert.DWGate.main_arg0)
      ∧ r.2.mem ((c.tc : Thread Cert.DWGate.nD Cert.DWGate.τ).loc Cert.DWGate.main_arg1) = m ((c.tc : Thread Cert.DWGate.nD Cert.DWGate.τ).loc Cert.DWGate.main_arg1))
      ∧ r.2.sem = fun _ => 0)

def quiescent_DWGateIdeal [hDWGateIdeal : Cert.DWGateIdeal.Facts] : Prop :=
  ∀ (m : (ℓ : Loc Cert.DWGateIdeal.nD Cert.DWGateIdeal.τ Cert.DWGateIdeal.sig) → Buf (Elt Ideal) ℓ) (g : Dev Cert.DWGateIdeal.nD → PrngReg), Pre_DWGateIdeal m →
    θ_run (Cert.DWGateIdeal.defs (F := Ideal)) (onTc (τ := Cert.DWGateIdeal.τ) (Cert.DWGateIdeal.main (F := Ideal))) ⟨m, fun _ => 0, g⟩ (fun r => (∀ c : Dev Cert.DWGateIdeal.nD,
      r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
      ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1))
      ∧ r.2.sem = fun _ => 0)

def quiescent_DWGateRefIdeal [hDWGateRefIdeal : Cert.DWGateRefIdeal.Facts] : Prop :=
  ∀ (m : (ℓ : Loc Cert.DWGateRefIdeal.nD Cert.DWGateRefIdeal.τ Cert.DWGateRefIdeal.sig) → Buf (Elt Ideal) ℓ) (g : Dev Cert.DWGateRefIdeal.nD → PrngReg), Pre_DWGateRefIdeal m →
    θ_run (Cert.DWGateRefIdeal.defs (F := Ideal)) (onTc (τ := Cert.DWGateRefIdeal.τ) (Cert.DWGateRefIdeal.main (F := Ideal))) ⟨m, fun _ => 0, g⟩ (fun r => (∀ c : Dev Cert.DWGateRefIdeal.nD,
      r.2.mem ((c.tc : Thread Cert.DWGateRefIdeal.nD Cert.DWGateRefIdeal.τ).loc Cert.DWGateRefIdeal.main_arg0) = m ((c.tc : Thread Cert.DWGateRefIdeal.nD Cert.DWGateRefIdeal.τ).loc Cert.DWGateRefIdeal.main_arg0)
      ∧ r.2.mem ((c.tc : Thread Cert.DWGateRefIdeal.nD Cert.DWGateRefIdeal.τ).loc Cert.DWGateRefIdeal.main_arg1) = m ((c.tc : Thread Cert.DWGateRefIdeal.nD Cert.DWGateRefIdeal.τ).loc Cert.DWGateRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1))
      ∧ r.2.sem = fun _ => 0)

def quiescent_GlaFwdIdeal_pre_finite_gla_fwd [hGlaFwdIdeal : Cert.GlaFwdIdeal.Facts] [hPre_finite_gla_fwd : Cert.Pre_finite_gla_fwd.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal_finite_gla_fwd m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1))
      ∧ r.2.sem = fun _ => 0)

def quiescent_GlaFwdRefIdeal_pre_finite_gla_fwd [hGlaFwdRefIdeal : Cert.GlaFwdRefIdeal.Facts] [hPre_finite_gla_fwd : Cert.Pre_finite_gla_fwd.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal_finite_gla_fwd m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1))
      ∧ r.2.sem = fun _ => 0)

def quiescent_GlaFwdRev [hGlaFwdRev : Cert.GlaFwdRev.Facts] : Prop :=
  ∀ (m : (ℓ : Loc Cert.GlaFwdRev.nD Cert.GlaFwdRev.τ Cert.GlaFwdRev.sig) → Buf (Elt Bits) ℓ) (g : Dev Cert.GlaFwdRev.nD → PrngReg), Pre_GlaFwdRev m →
    θ_run (Cert.GlaFwdRev.defs (F := Bits)) (onTc (τ := Cert.GlaFwdRev.τ) (Cert.GlaFwdRev.main (F := Bits))) ⟨m, fun _ => 0, g⟩ (fun r => (∀ c : Dev Cert.GlaFwdRev.nD,
      r.2.mem ((c.tc : Thread Cert.GlaFwdRev.nD Cert.GlaFwdRev.τ).loc Cert.GlaFwdRev.main_arg0) = m ((c.tc : Thread Cert.GlaFwdRev.nD Cert.GlaFwdRev.τ).loc Cert.GlaFwdRev.main_arg0)
      ∧ r.2.mem ((c.tc : Thread Cert.GlaFwdRev.nD Cert.GlaFwdRev.τ).loc Cert.GlaFwdRev.main_arg1) = m ((c.tc : Thread Cert.GlaFwdRev.nD Cert.GlaFwdRev.τ).loc Cert.GlaFwdRev.main_arg1))
      ∧ r.2.sem = fun _ => 0)

def quiescent_GlaFwdRevIdeal [hGlaFwdRevIdeal : Cert.GlaFwdRevIdeal.Facts] : Prop :=
  ∀ (m : (ℓ : Loc Cert.GlaFwdRevIdeal.nD Cert.GlaFwdRevIdeal.τ Cert.GlaFwdRevIdeal.sig) → Buf (Elt Ideal) ℓ) (g : Dev Cert.GlaFwdRevIdeal.nD → PrngReg), Pre_GlaFwdRevIdeal m →
    θ_run (Cert.GlaFwdRevIdeal.defs (F := Ideal)) (onTc (τ := Cert.GlaFwdRevIdeal.τ) (Cert.GlaFwdRevIdeal.main (F := Ideal))) ⟨m, fun _ => 0, g⟩ (fun r => (∀ c : Dev Cert.GlaFwdRevIdeal.nD,
      r.2.mem ((c.tc : Thread Cert.GlaFwdRevIdeal.nD Cert.GlaFwdRevIdeal.τ).loc Cert.GlaFwdRevIdeal.main_arg0) = m ((c.tc : Thread Cert.GlaFwdRevIdeal.nD Cert.GlaFwdRevIdeal.τ).loc Cert.GlaFwdRevIdeal.main_arg0)
      ∧ r.2.mem ((c.tc : Thread Cert.GlaFwdRevIdeal.nD Cert.GlaFwdRevIdeal.τ).loc Cert.GlaFwdRevIdeal.main_arg1) = m ((c.tc : Thread Cert.GlaFwdRevIdeal.nD Cert.GlaFwdRevIdeal.τ).loc Cert.GlaFwdRevIdeal.main_arg1))
      ∧ r.2.sem = fun _ => 0)

def quiescent_GlaFwdRevIdeal_pre_finite_gla_fwd [hGlaFwdRevIdeal : Cert.GlaFwdRevIdeal.Facts] [hPre_finite_gla_fwd : Cert.Pre_finite_gla_fwd.Facts] : Prop :=
  ∀ (m : (ℓ : Loc Cert.GlaFwdRevIdeal.nD Cert.GlaFwdRevIdeal.τ Cert.GlaFwdRevIdeal.sig) → Buf (Elt Ideal) ℓ) (g : Dev Cert.GlaFwdRevIdeal.nD → PrngReg), Pre_GlaFwdRevIdeal_finite_gla_fwd m →
    θ_run (Cert.GlaFwdRevIdeal.defs (F := Ideal)) (onTc (τ := Cert.GlaFwdRevIdeal.τ) (Cert.GlaFwdRevIdeal.main (F := Ideal))) ⟨m, fun _ => 0, g⟩ (fun r => (∀ c : Dev Cert.GlaFwdRevIdeal.nD,
      r.2.mem ((c.tc : Thread Cert.GlaFwdRevIdeal.nD Cert.GlaFwdRevIdeal.τ).loc Cert.GlaFwdRevIdeal.main_arg0) = m ((c.tc : Thread Cert.GlaFwdRevIdeal.nD Cert.GlaFwdRevIdeal.τ).loc Cert.GlaFwdRevIdeal.main_arg0)
      ∧ r.2.mem ((c.tc : Thread Cert.GlaFwdRevIdeal.nD Cert.GlaFwdRevIdeal.τ).loc Cert.GlaFwdRevIdeal.main_arg1) = m ((c.tc : Thread Cert.GlaFwdRevIdeal.nD Cert.GlaFwdRevIdeal.τ).loc Cert.GlaFwdRevIdeal.main_arg1))
      ∧ r.2.sem = fun _ => 0)

def quiescent_GlaFwdRevRefIdeal [hGlaFwdRevRefIdeal : Cert.GlaFwdRevRefIdeal.Facts] : Prop :=
  ∀ (m : (ℓ : Loc Cert.GlaFwdRevRefIdeal.nD Cert.GlaFwdRevRefIdeal.τ Cert.GlaFwdRevRefIdeal.sig) → Buf (Elt Ideal) ℓ) (g : Dev Cert.GlaFwdRevRefIdeal.nD → PrngReg), Pre_GlaFwdRevRefIdeal m →
    θ_run (Cert.GlaFwdRevRefIdeal.defs (F := Ideal)) (onTc (τ := Cert.GlaFwdRevRefIdeal.τ) (Cert.GlaFwdRevRefIdeal.main (F := Ideal))) ⟨m, fun _ => 0, g⟩ (fun r => (∀ c : Dev Cert.GlaFwdRevRefIdeal.nD,
      r.2.mem ((c.tc : Thread Cert.GlaFwdRevRefIdeal.nD Cert.GlaFwdRevRefIdeal.τ).loc Cert.GlaFwdRevRefIdeal.main_arg0) = m ((c.tc : Thread Cert.GlaFwdRevRefIdeal.nD Cert.GlaFwdRevRefIdeal.τ).loc Cert.GlaFwdRevRefIdeal.main_arg0)
      ∧ r.2.mem ((c.tc : Thread Cert.GlaFwdRevRefIdeal.nD Cert.GlaFwdRevRefIdeal.τ).loc Cert.GlaFwdRevRefIdeal.main_arg1) = m ((c.tc : Thread Cert.GlaFwdRevRefIdeal.nD Cert.GlaFwdRevRefIdeal.τ).loc Cert.GlaFwdRevRefIdeal.main_arg1))
      ∧ r.2.sem = fun _ => 0)

def quiescent_GlaFwdRevRefIdeal_pre_finite_gla_fwd [hGlaFwdRevRefIdeal : Cert.GlaFwdRevRefIdeal.Facts] [hPre_finite_gla_fwd : Cert.Pre_finite_gla_fwd.Facts] : Prop :=
  ∀ (m : (ℓ : Loc Cert.GlaFwdRevRefIdeal.nD Cert.GlaFwdRevRefIdeal.τ Cert.GlaFwdRevRefIdeal.sig) → Buf (Elt Ideal) ℓ) (g : Dev Cert.GlaFwdRevRefIdeal.nD → PrngReg), Pre_GlaFwdRevRefIdeal_finite_gla_fwd m →
    θ_run (Cert.GlaFwdRevRefIdeal.defs (F := Ideal)) (onTc (τ := Cert.GlaFwdRevRefIdeal.τ) (Cert.GlaFwdRevRefIdeal.main (F := Ideal))) ⟨m, fun _ => 0, g⟩ (fun r => (∀ c : Dev Cert.GlaFwdRevRefIdeal.nD,
      r.2.mem ((c.tc : Thread Cert.GlaFwdRevRefIdeal.nD Cert.GlaFwdRevRefIdeal.τ).loc Cert.GlaFwdRevRefIdeal.main_arg0) = m ((c.tc : Thread Cert.GlaFwdRevRefIdeal.nD Cert.GlaFwdRevRefIdeal.τ).loc Cert.GlaFwdRevRefIdeal.main_arg0)
      ∧ r.2.mem ((c.tc : Thread Cert.GlaFwdRevRefIdeal.nD Cert.GlaFwdRevRefIdeal.τ).loc Cert.GlaFwdRevRefIdeal.main_arg1) = m ((c.tc : Thread Cert.GlaFwdRevRefIdeal.nD Cert.GlaFwdRevRefIdeal.τ).loc Cert.GlaFwdRevRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def preserves_SwigluBwd_SwigluBwdIdeal : Prop :=
  True

def algebraic_SwigluBwdIdeal_SwigluRefIdeal_pre_finite_swiglu [hSwigluBwdIdeal : Cert.SwigluBwdIdeal.Facts] [hSwigluRefIdeal : Cert.SwigluRefIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluBwdIdeal_finite_swiglu m →
    (∀ c : Dev Cert.SwigluBwdIdeal.nD,
      m' ((c.tc : Thread Cert.SwigluRefIdeal.nD Cert.SwigluRefIdeal.τ).loc Cert.SwigluRefIdeal.main_arg0) = m ((c.tc : Thread Cert.SwigluBwdIdeal.nD Cert.SwigluBwdIdeal.τ).loc Cert.SwigluBwdIdeal.main_arg0)
      ∧ m' ((c.tc : Thread Cert.SwigluRefIdeal.nD Cert.SwigluRefIdeal.τ).loc Cert.SwigluRefIdeal.main_arg1) = m ((c.tc : Thread Cert.SwigluBwdIdeal.nD Cert.SwigluBwdIdeal.τ).loc Cert.SwigluBwdIdeal.main_arg1)
      ∧ m' ((c.tc : Thread Cert.SwigluRefIdeal.nD Cert.SwigluRefIdeal.τ).loc Cert.SwigluRefIdeal.main_arg2) = m ((c.tc : Thread Cert.SwigluBwdIdeal.nD Cert.SwigluBwdIdeal.τ).loc Cert.SwigluBwdIdeal.main_arg2)
      ∧ m' ((c.tc : Thread Cert.SwigluRefIdeal.nD Cert.SwigluRefIdeal.τ).loc Cert.SwigluRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v2_0)) (v1 : (c : Dev Cert.SwigluBwdIdeal.nD) → Buf (Elt Ideal) ((c.tc : Thread Cert.SwigluBwdIdeal.nD Cert.SwigluBwdIdeal.τ).loc Cert.SwigluBwdIdeal.main_v2_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v2_0) = v0 c
          ∧ r.2.mem ((c.tc : Thread Cert.SwigluBwdIdeal.nD Cert.SwigluBwdIdeal.τ).loc Cert.SwigluBwdIdeal.main_v2_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v11) = v0 c
          ∧ r.2.mem ((c.tc : Thread Cert.SwigluRefIdeal.nD Cert.SwigluRefIdeal.τ).loc Cert.SwigluRefIdeal.main_v12) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_AttnBwd_AttnBwdIdeal : Prop :=
  IdealRules.named_const.Statement Cert.AttnBwdIdeal.κ "c2" .f32 0x3DD53B95#32 (((Real.sqrt 192)⁻¹ * (Real.log 2)⁻¹ : ℝ) : EReal)
  ∧ IdealRules.named_const.Statement Cert.AttnBwdIdeal.κ "scale" .f32 0x3D93CD3A#32 (((Real.sqrt 192)⁻¹ : ℝ) : EReal)

def algebraic_AttnBwdIdeal_AttnBwdRefIdeal_pre_finite_attention_bwd [hAttnBwdIdeal : Cert.AttnBwdIdeal.Facts] [hAttnBwdRefIdeal : Cert.AttnBwdRefIdeal.Facts] [hPre_finite_attention_bwd : Cert.Pre_finite_attention_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attention_bwd m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v23_0)) (v1 : (c : Dev Cert.AttnBwdIdeal.nD) → Buf (Elt Ideal) ((c.tc : Thread Cert.AttnBwdIdeal.nD Cert.AttnBwdIdeal.τ).loc Cert.AttnBwdIdeal.main_v23_1)) (v2 : (c : Dev Cert.AttnBwdIdeal.nD) → Buf (Elt Ideal) ((c.tc : Thread Cert.AttnBwdIdeal.nD Cert.AttnBwdIdeal.τ).loc Cert.AttnBwdIdeal.main_v23_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v23_0) = v0 c
          ∧ r.2.mem ((c.tc : Thread Cert.AttnBwdIdeal.nD Cert.AttnBwdIdeal.τ).loc Cert.AttnBwdIdeal.main_v23_1) = v1 c
          ∧ r.2.mem ((c.tc : Thread Cert.AttnBwdIdeal.nD Cert.AttnBwdIdeal.τ).loc Cert.AttnBwdIdeal.main_v23_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v59) = v0 c
          ∧ r.2.mem ((c.tc : Thread Cert.AttnBwdRefIdeal.nD Cert.AttnBwdRefIdeal.τ).loc Cert.AttnBwdRefIdeal.main_v58) = v1 c
          ∧ r.2.mem ((c.tc : Thread Cert.AttnBwdRefIdeal.nD Cert.AttnBwdRefIdeal.τ).loc Cert.AttnBwdRefIdeal.main_v43) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_NormPleBwd_NormPleBwdIdeal : Prop :=
  True

def algebraic_NormPleBwdIdeal_NormPleRefIdeal [hNormPleBwdIdeal : Cert.NormPleBwdIdeal.Facts] [hNormPleRefIdeal : Cert.NormPleRefIdeal.Facts] : Prop :=
  ∀ (m : (ℓ : Loc Cert.NormPleBwdIdeal.nD Cert.NormPleBwdIdeal.τ Cert.NormPleBwdIdeal.sig) → Buf (Elt Ideal) ℓ) (g : Dev Cert.NormPleBwdIdeal.nD → PrngReg)
    (m' : (ℓ : Loc Cert.NormPleRefIdeal.nD Cert.NormPleRefIdeal.τ Cert.NormPleRefIdeal.sig) → Buf (Elt Ideal) ℓ) (g' : Dev Cert.NormPleRefIdeal.nD → PrngReg), Pre_NormPleBwdIdeal m →
    (∀ c : Dev Cert.NormPleBwdIdeal.nD,
      m' ((c.tc : Thread Cert.NormPleRefIdeal.nD Cert.NormPleRefIdeal.τ).loc Cert.NormPleRefIdeal.main_arg0) = m ((c.tc : Thread Cert.NormPleBwdIdeal.nD Cert.NormPleBwdIdeal.τ).loc Cert.NormPleBwdIdeal.main_arg0)
      ∧ m' ((c.tc : Thread Cert.NormPleRefIdeal.nD Cert.NormPleRefIdeal.τ).loc Cert.NormPleRefIdeal.main_arg1) = m ((c.tc : Thread Cert.NormPleBwdIdeal.nD Cert.NormPleBwdIdeal.τ).loc Cert.NormPleBwdIdeal.main_arg1)
      ∧ m' ((c.tc : Thread Cert.NormPleRefIdeal.nD Cert.NormPleRefIdeal.τ).loc Cert.NormPleRefIdeal.main_arg2) = m ((c.tc : Thread Cert.NormPleBwdIdeal.nD Cert.NormPleBwdIdeal.τ).loc Cert.NormPleBwdIdeal.main_arg2)
      ∧ m' ((c.tc : Thread Cert.NormPleRefIdeal.nD Cert.NormPleRefIdeal.τ).loc Cert.NormPleRefIdeal.main_arg3) = m ((c.tc : Thread Cert.NormPleBwdIdeal.nD Cert.NormPleBwdIdeal.τ).loc Cert.NormPleBwdIdeal.main_arg3)
      ∧ m' ((c.tc : Thread Cert.NormPleRefIdeal.nD Cert.NormPleRefIdeal.τ).loc Cert.NormPleRefIdeal.main_arg4) = m ((c.tc : Thread Cert.NormPleBwdIdeal.nD Cert.NormPleBwdIdeal.τ).loc Cert.NormPleBwdIdeal.main_arg4)) →
    ∃ (v0 : (c : Dev Cert.NormPleBwdIdeal.nD) → Buf (Elt Ideal) ((c.tc : Thread Cert.NormPleBwdIdeal.nD Cert.NormPleBwdIdeal.τ).loc Cert.NormPleBwdIdeal.main_v2_0)) (v1 : (c : Dev Cert.NormPleBwdIdeal.nD) → Buf (Elt Ideal) ((c.tc : Thread Cert.NormPleBwdIdeal.nD Cert.NormPleBwdIdeal.τ).loc Cert.NormPleBwdIdeal.main_v2_1)) (v2 : (c : Dev Cert.NormPleBwdIdeal.nD) → Buf (Elt Ideal) ((c.tc : Thread Cert.NormPleBwdIdeal.nD Cert.NormPleBwdIdeal.τ).loc Cert.NormPleBwdIdeal.main_v2_2)),
      θ_run (Cert.NormPleBwdIdeal.defs (F := Ideal)) (onTc (τ := Cert.NormPleBwdIdeal.τ) (Cert.NormPleBwdIdeal.main (F := Ideal))) ⟨m, fun _ => 0, g⟩ (fun r => ∀ c : Dev Cert.NormPleBwdIdeal.nD,
          r.2.mem ((c.tc : Thread Cert.NormPleBwdIdeal.nD Cert.NormPleBwdIdeal.τ).loc Cert.NormPleBwdIdeal.main_v2_0) = v0 c
          ∧ r.2.mem ((c.tc : Thread Cert.NormPleBwdIdeal.nD Cert.NormPleBwdIdeal.τ).loc Cert.NormPleBwdIdeal.main_v2_1) = v1 c
          ∧ r.2.mem ((c.tc : Thread Cert.NormPleBwdIdeal.nD Cert.NormPleBwdIdeal.τ).loc Cert.NormPleBwdIdeal.main_v2_2) = v2 c
          ∧ r.2.mem ((c.tc : Thread Cert.NormPleBwdIdeal.nD Cert.NormPleBwdIdeal.τ).loc Cert.NormPleBwdIdeal.main_arg0) = m ((c.tc : Thread Cert.NormPleBwdIdeal.nD Cert.NormPleBwdIdeal.τ).loc Cert.NormPleBwdIdeal.main_arg0)
          ∧ r.2.mem ((c.tc : Thread Cert.NormPleBwdIdeal.nD Cert.NormPleBwdIdeal.τ).loc Cert.NormPleBwdIdeal.main_arg1) = m ((c.tc : Thread Cert.NormPleBwdIdeal.nD Cert.NormPleBwdIdeal.τ).loc Cert.NormPleBwdIdeal.main_arg1)
          ∧ r.2.mem ((c.tc : Thread Cert.NormPleBwdIdeal.nD Cert.NormPleBwdIdeal.τ).loc Cert.NormPleBwdIdeal.main_arg2) = m ((c.tc : Thread Cert.NormPleBwdIdeal.nD Cert.NormPleBwdIdeal.τ).loc Cert.NormPleBwdIdeal.main_arg2)
          ∧ r.2.mem ((c.tc : Thread Cert.NormPleBwdIdeal.nD Cert.NormPleBwdIdeal.τ).loc Cert.NormPleBwdIdeal.main_arg3) = m ((c.tc : Thread Cert.NormPleBwdIdeal.nD Cert.NormPleBwdIdeal.τ).loc Cert.NormPleBwdIdeal.main_arg3)
          ∧ r.2.mem ((c.tc : Thread Cert.NormPleBwdIdeal.nD Cert.NormPleBwdIdeal.τ).loc Cert.NormPleBwdIdeal.main_arg4) = m ((c.tc : Thread Cert.NormPleBwdIdeal.nD Cert.NormPleBwdIdeal.τ).loc Cert.NormPleBwdIdeal.main_arg4))
      ∧ θ_run (Cert.NormPleRefIdeal.defs (F := Ideal)) (onTc (τ := Cert.NormPleRefIdeal.τ) (Cert.NormPleRefIdeal.main (F := Ideal))) ⟨m', fun _ => 0, g'⟩ (fun r => ∀ c : Dev Cert.NormPleRefIdeal.nD,
          r.2.mem ((c.tc : Thread Cert.NormPleRefIdeal.nD Cert.NormPleRefIdeal.τ).loc Cert.NormPleRefIdeal.main_v41) = v0 c
          ∧ r.2.mem ((c.tc : Thread Cert.NormPleRefIdeal.nD Cert.NormPleRefIdeal.τ).loc Cert.NormPleRefIdeal.main_v43) = v1 c
          ∧ r.2.mem ((c.tc : Thread Cert.NormPleRefIdeal.nD Cert.NormPleRefIdeal.τ).loc Cert.NormPleRefIdeal.main_v42) = v2 c
          ∧ r.2.mem ((c.tc : Thread Cert.NormPleRefIdeal.nD Cert.NormPleRefIdeal.τ).loc Cert.NormPleRefIdeal.main_arg0) = m' ((c.tc : Thread Cert.NormPleRefIdeal.nD Cert.NormPleRefIdeal.τ).loc Cert.NormPleRefIdeal.main_arg0)
          ∧ r.2.mem ((c.tc : Thread Cert.NormPleRefIdeal.nD Cert.NormPleRefIdeal.τ).loc Cert.NormPleRefIdeal.main_arg1) = m' ((c.tc : Thread Cert.NormPleRefIdeal.nD Cert.NormPleRefIdeal.τ).loc Cert.NormPleRefIdeal.main_arg1)
          ∧ r.2.mem ((c.tc : Thread Cert.NormPleRefIdeal.nD Cert.NormPleRefIdeal.τ).loc Cert.NormPleRefIdeal.main_arg2) = m' ((c.tc : Thread Cert.NormPleRefIdeal.nD Cert.NormPleRefIdeal.τ).loc Cert.NormPleRefIdeal.main_arg2)
          ∧ r.2.mem ((c.tc : Thread Cert.NormPleRefIdeal.nD Cert.NormPleRefIdeal.τ).loc Cert.NormPleRefIdeal.main_arg3) = m' ((c.tc : Thread Cert.NormPleRefIdeal.nD Cert.NormPleRefIdeal.τ).loc Cert.NormPleRefIdeal.main_arg3)
          ∧ r.2.mem ((c.tc : Thread Cert.NormPleRefIdeal.nD Cert.NormPleRefIdeal.τ).loc Cert.NormPleRefIdeal.main_arg4) = m' ((c.tc : Thread Cert.NormPleRefIdeal.nD Cert.NormPleRefIdeal.τ).loc Cert.NormPleRefIdeal.main_arg4))

def preserves_NormFfnBwd_NormFfnBwdIdeal : Prop :=
  True

def algebraic_NormFfnBwdIdeal_NormFfnRefIdeal [hNormFfnBwdIdeal : Cert.NormFfnBwdIdeal.Facts] [hNormFfnRefIdeal : Cert.NormFfnRefIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnBwdIdeal m →
    (∀ c : Dev Cert.NormFfnBwdIdeal.nD,
      m' ((c.tc : Thread Cert.NormFfnRefIdeal.nD Cert.NormFfnRefIdeal.τ).loc Cert.NormFfnRefIdeal.main_arg0) = m ((c.tc : Thread Cert.NormFfnBwdIdeal.nD Cert.NormFfnBwdIdeal.τ).loc Cert.NormFfnBwdIdeal.main_arg0)
      ∧ m' ((c.tc : Thread Cert.NormFfnRefIdeal.nD Cert.NormFfnRefIdeal.τ).loc Cert.NormFfnRefIdeal.main_arg1) = m ((c.tc : Thread Cert.NormFfnBwdIdeal.nD Cert.NormFfnBwdIdeal.τ).loc Cert.NormFfnBwdIdeal.main_arg1)
      ∧ m' ((c.tc : Thread Cert.NormFfnRefIdeal.nD Cert.NormFfnRefIdeal.τ).loc Cert.NormFfnRefIdeal.main_arg2) = m ((c.tc : Thread Cert.NormFfnBwdIdeal.nD Cert.NormFfnBwdIdeal.τ).loc Cert.NormFfnBwdIdeal.main_arg2)
      ∧ m' ((c.tc : Thread Cert.NormFfnRefIdeal.nD Cert.NormFfnRefIdeal.τ).loc Cert.NormFfnRefIdeal.main_arg3) = m ((c.tc : Thread Cert.NormFfnBwdIdeal.nD Cert.NormFfnBwdIdeal.τ).loc Cert.NormFfnBwdIdeal.main_arg3)
      ∧ m' ((c.tc : Thread Cert.NormFfnRefIdeal.nD Cert.NormFfnRefIdeal.τ).loc Cert.NormFfnRefIdeal.main_arg4) = m ((c.tc : Thread Cert.NormFfnBwdIdeal.nD Cert.NormFfnBwdIdeal.τ).loc Cert.NormFfnBwdIdeal.main_arg4)
      ∧ m' ((c.tc : Thread Cert.NormFfnRefIdeal.nD Cert.NormFfnRefIdeal.τ).loc Cert.NormFfnRefIdeal.main_arg5) = m ((c.tc : Thread Cert.NormFfnBwdIdeal.nD Cert.NormFfnBwdIdeal.τ).loc Cert.NormFfnBwdIdeal.main_arg5)
      ∧ m' ((c.tc : Thread Cert.NormFfnRefIdeal.nD Cert.NormFfnRefIdeal.τ).loc Cert.NormFfnRefIdeal.main_arg6) = m ((c.tc : Thread Cert.NormFfnBwdIdeal.nD Cert.NormFfnBwdIdeal.τ).loc Cert.NormFfnBwdIdeal.main_arg6)) →
    ∃ (v0 : (c : Dev Cert.NormFfnBwdIdeal.nD) → Buf (Elt Ideal) ((c.tc : Thread Cert.NormFfnBwdIdeal.nD Cert.NormFfnBwdIdeal.τ).loc Cert.NormFfnBwdIdeal.main_v6_0)) (v1 : (c : Dev Cert.NormFfnBwdIdeal.nD) → Buf (Elt Ideal) ((c.tc : Thread Cert.NormFfnBwdIdeal.nD Cert.NormFfnBwdIdeal.τ).loc Cert.NormFfnBwdIdeal.main_v6_1)) (v2 : (c : Dev Cert.NormFfnBwdIdeal.nD) → Buf (Elt Ideal) ((c.tc : Thread Cert.NormFfnBwdIdeal.nD Cert.NormFfnBwdIdeal.τ).loc Cert.NormFfnBwdIdeal.main_v6_2)),
      θ_run (Cert.NormFfnBwdIdeal.defs (F := Ideal)) (onTc (τ := Cert.NormFfnBwdIdeal.τ) (Cert.NormFfnBwdIdeal.main (F := Ideal))) ⟨m, fun _ => 0, g⟩ (fun r => ∀ c : Dev Cert.NormFfnBwdIdeal.nD,
          r.2.mem ((c.tc : Thread Cert.NormFfnBwdIdeal.nD Cert.NormFfnBwdIdeal.τ).loc Cert.NormFfnBwdIdeal.main_v6_0) = v0 c
          ∧ r.2.mem ((c.tc : Thread Cert.NormFfnBwdIdeal.nD Cert.NormFfnBwdIdeal.τ).loc Cert.NormFfnBwdIdeal.main_v6_1) = v1 c
          ∧ r.2.mem ((c.tc : Thread Cert.NormFfnBwdIdeal.nD Cert.NormFfnBwdIdeal.τ).loc Cert.NormFfnBwdIdeal.main_v6_2) = v2 c
          ∧ r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
          ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
          ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
          ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3)
          ∧ r.2.mem ((c.tc : Thread Cert.NormFfnBwdIdeal.nD Cert.NormFfnBwdIdeal.τ).loc Cert.NormFfnBwdIdeal.main_arg4) = m ((c.tc : Thread Cert.NormFfnBwdIdeal.nD Cert.NormFfnBwdIdeal.τ).loc Cert.NormFfnBwdIdeal.main_arg4)
          ∧ r.2.mem ((c.tc : Thread Cert.NormFfnBwdIdeal.nD Cert.NormFfnBwdIdeal.τ).loc Cert.NormFfnBwdIdeal.main_arg5) = m ((c.tc : Thread Cert.NormFfnBwdIdeal.nD Cert.NormFfnBwdIdeal.τ).loc Cert.NormFfnBwdIdeal.main_arg5)
          ∧ r.2.mem ((c.tc : Thread Cert.NormFfnBwdIdeal.nD Cert.NormFfnBwdIdeal.τ).loc Cert.NormFfnBwdIdeal.main_arg6) = m ((c.tc : Thread Cert.NormFfnBwdIdeal.nD Cert.NormFfnBwdIdeal.τ).loc Cert.NormFfnBwdIdeal.main_arg6))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v46) = v0 c
          ∧ r.2.mem ((c.tc : Thread Cert.NormFfnRefIdeal.nD Cert.NormFfnRefIdeal.τ).loc Cert.NormFfnRefIdeal.main_v48) = v1 c
          ∧ r.2.mem ((c.tc : Thread Cert.NormFfnRefIdeal.nD Cert.NormFfnRefIdeal.τ).loc Cert.NormFfnRefIdeal.main_v47) = v2 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3)
          ∧ r.2.mem ((c.tc : Thread Cert.NormFfnRefIdeal.nD Cert.NormFfnRefIdeal.τ).loc Cert.NormFfnRefIdeal.main_arg4) = m' ((c.tc : Thread Cert.NormFfnRefIdeal.nD Cert.NormFfnRefIdeal.τ).loc Cert.NormFfnRefIdeal.main_arg4)
          ∧ r.2.mem ((c.tc : Thread Cert.NormFfnRefIdeal.nD Cert.NormFfnRefIdeal.τ).loc Cert.NormFfnRefIdeal.main_arg5) = m' ((c.tc : Thread Cert.NormFfnRefIdeal.nD Cert.NormFfnRefIdeal.τ).loc Cert.NormFfnRefIdeal.main_arg5)
          ∧ r.2.mem ((c.tc : Thread Cert.NormFfnRefIdeal.nD Cert.NormFfnRefIdeal.τ).loc Cert.NormFfnRefIdeal.main_arg6) = m' ((c.tc : Thread Cert.NormFfnRefIdeal.nD Cert.NormFfnRefIdeal.τ).loc Cert.NormFfnRefIdeal.main_arg6))

def preserves_NormMixBwd_NormMixBwdIdeal : Prop :=
  True

def algebraic_NormMixBwdIdeal_NormMixRefIdeal [hNormMixBwdIdeal : Cert.NormMixBwdIdeal.Facts] [hNormMixRefIdeal : Cert.NormMixRefIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixBwdIdeal m →
    (∀ c : Dev Cert.NormMixBwdIdeal.nD,
      m' ((c.tc : Thread Cert.NormMixRefIdeal.nD Cert.NormMixRefIdeal.τ).loc Cert.NormMixRefIdeal.main_arg0) = m ((c.tc : Thread Cert.NormMixBwdIdeal.nD Cert.NormMixBwdIdeal.τ).loc Cert.NormMixBwdIdeal.main_arg0)
      ∧ m' ((c.tc : Thread Cert.NormMixRefIdeal.nD Cert.NormMixRefIdeal.τ).loc Cert.NormMixRefIdeal.main_arg1) = m ((c.tc : Thread Cert.NormMixBwdIdeal.nD Cert.NormMixBwdIdeal.τ).loc Cert.NormMixBwdIdeal.main_arg1)
      ∧ m' ((c.tc : Thread Cert.NormMixRefIdeal.nD Cert.NormMixRefIdeal.τ).loc Cert.NormMixRefIdeal.main_arg2) = m ((c.tc : Thread Cert.NormMixBwdIdeal.nD Cert.NormMixBwdIdeal.τ).loc Cert.NormMixBwdIdeal.main_arg2)
      ∧ m' ((c.tc : Thread Cert.NormMixRefIdeal.nD Cert.NormMixRefIdeal.τ).loc Cert.NormMixRefIdeal.main_arg3) = m ((c.tc : Thread Cert.NormMixBwdIdeal.nD Cert.NormMixBwdIdeal.τ).loc Cert.NormMixBwdIdeal.main_arg3)
      ∧ m' ((c.tc : Thread Cert.NormMixRefIdeal.nD Cert.NormMixRefIdeal.τ).loc Cert.NormMixRefIdeal.main_arg4) = m ((c.tc : Thread Cert.NormMixBwdIdeal.nD Cert.NormMixBwdIdeal.τ).loc Cert.NormMixBwdIdeal.main_arg4)) →
    ∃ (v0 : (c : Dev Cert.NormMixBwdIdeal.nD) → Buf (Elt Ideal) ((c.tc : Thread Cert.NormMixBwdIdeal.nD Cert.NormMixBwdIdeal.τ).loc Cert.NormMixBwdIdeal.main_v13_0)) (v1 : (c : Dev Cert.NormMixBwdIdeal.nD) → Buf (Elt Ideal) ((c.tc : Thread Cert.NormMixBwdIdeal.nD Cert.NormMixBwdIdeal.τ).loc Cert.NormMixBwdIdeal.main_v13_1)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v13_0) = v0 c
          ∧ r.2.mem ((c.tc : Thread Cert.NormMixBwdIdeal.nD Cert.NormMixBwdIdeal.τ).loc Cert.NormMixBwdIdeal.main_v13_1) = v1 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
          ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v41) = v0 c
          ∧ r.2.mem ((c.tc : Thread Cert.NormMixRefIdeal.nD Cert.NormMixRefIdeal.τ).loc Cert.NormMixRefIdeal.main_v42) = v1 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4))

def preserves_PleLoss_PleLossIdeal : Prop :=
  True

def algebraic_PleLossIdeal_PleLossRefIdeal [hPleLossIdeal : Cert.PleLossIdeal.Facts] [hPleLossRefIdeal : Cert.PleLossRefIdeal.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossRefIdeal.nD Cert.PleLossRefIdeal.τ Cert.PleLossRefIdeal.sig) → Buf (Elt Ideal) ℓ) (g' : Dev Cert.PleLossRefIdeal.nD → PrngReg), Pre_PleLossIdeal m →
    (∀ c : Dev Cert.PleLossIdeal.nD,
      m' ((c.tc : Thread Cert.PleLossRefIdeal.nD Cert.PleLossRefIdeal.τ).loc Cert.PleLossRefIdeal.main_arg0) = m ((c.tc : Thread Cert.PleLossIdeal.nD Cert.PleLossIdeal.τ).loc Cert.PleLossIdeal.main_arg0)
      ∧ m' ((c.tc : Thread Cert.PleLossRefIdeal.nD Cert.PleLossRefIdeal.τ).loc Cert.PleLossRefIdeal.main_arg1) = m ((c.tc : Thread Cert.PleLossIdeal.nD Cert.PleLossIdeal.τ).loc Cert.PleLossIdeal.main_arg1)
      ∧ m' ((c.tc : Thread Cert.PleLossRefIdeal.nD Cert.PleLossRefIdeal.τ).loc Cert.PleLossRefIdeal.main_arg2) = m ((c.tc : Thread Cert.PleLossIdeal.nD Cert.PleLossIdeal.τ).loc Cert.PleLossIdeal.main_arg2)
      ∧ m' ((c.tc : Thread Cert.PleLossRefIdeal.nD Cert.PleLossRefIdeal.τ).loc Cert.PleLossRefIdeal.main_arg3) = m ((c.tc : Thread Cert.PleLossIdeal.nD Cert.PleLossIdeal.τ).loc Cert.PleLossIdeal.main_arg3)
      ∧ m' ((c.tc : Thread Cert.PleLossRefIdeal.nD Cert.PleLossRefIdeal.τ).loc Cert.PleLossRefIdeal.main_arg4) = m ((c.tc : Thread Cert.PleLossIdeal.nD Cert.PleLossIdeal.τ).loc Cert.PleLossIdeal.main_arg4)) →
    ∃ (v0 : (c : Dev Cert.PleLossIdeal.nD) → Buf (Elt Ideal) ((c.tc : Thread Cert.PleLossIdeal.nD Cert.PleLossIdeal.τ).loc Cert.PleLossIdeal.main_v2_0)) (v1 : (c : Dev Cert.PleLossIdeal.nD) → Buf (Elt Ideal) ((c.tc : Thread Cert.PleLossIdeal.nD Cert.PleLossIdeal.τ).loc Cert.PleLossIdeal.main_v2_1)) (v2 : (c : Dev Cert.PleLossIdeal.nD) → Buf (Elt Ideal) ((c.tc : Thread Cert.PleLossIdeal.nD Cert.PleLossIdeal.τ).loc Cert.PleLossIdeal.main_v2_2)) (v3 : (c : Dev Cert.PleLossIdeal.nD) → Buf (Elt Ideal) ((c.tc : Thread Cert.PleLossIdeal.nD Cert.PleLossIdeal.τ).loc Cert.PleLossIdeal.main_v2_3)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v2_0) = v0 c
          ∧ r.2.mem ((c.tc : Thread Cert.PleLossIdeal.nD Cert.PleLossIdeal.τ).loc Cert.PleLossIdeal.main_v2_1) = v1 c
          ∧ r.2.mem ((c.tc : Thread Cert.PleLossIdeal.nD Cert.PleLossIdeal.τ).loc Cert.PleLossIdeal.main_v2_2) = v2 c
          ∧ r.2.mem ((c.tc : Thread Cert.PleLossIdeal.nD Cert.PleLossIdeal.τ).loc Cert.PleLossIdeal.main_v2_3) = v3 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4))
      ∧ θ_run (Cert.PleLossRefIdeal.defs (F := Ideal)) (onTc (τ := Cert.PleLossRefIdeal.τ) (Cert.PleLossRefIdeal.main (F := Ideal))) ⟨m', fun _ => 0, g'⟩ (fun r => ∀ c : Dev Cert.PleLossRefIdeal.nD,
          r.2.mem ((c.tc : Thread Cert.PleLossRefIdeal.nD Cert.PleLossRefIdeal.τ).loc Cert.PleLossRefIdeal.main_v28) = v0 c
          ∧ r.2.mem ((c.tc : Thread Cert.PleLossRefIdeal.nD Cert.PleLossRefIdeal.τ).loc Cert.PleLossRefIdeal.main_v32) = v1 c
          ∧ r.2.mem ((c.tc : Thread Cert.PleLossRefIdeal.nD Cert.PleLossRefIdeal.τ).loc Cert.PleLossRefIdeal.main_v33) = v2 c
          ∧ r.2.mem ((c.tc : Thread Cert.PleLossRefIdeal.nD Cert.PleLossRefIdeal.τ).loc Cert.PleLossRefIdeal.main_v34) = v3 c
          ∧ r.2.mem ((c.tc : Thread Cert.PleLossRefIdeal.nD Cert.PleLossRefIdeal.τ).loc Cert.PleLossRefIdeal.main_arg0) = m' ((c.tc : Thread Cert.PleLossRefIdeal.nD Cert.PleLossRefIdeal.τ).loc Cert.PleLossRefIdeal.main_arg0)
          ∧ r.2.mem ((c.tc : Thread Cert.PleLossRefIdeal.nD Cert.PleLossRefIdeal.τ).loc Cert.PleLossRefIdeal.main_arg1) = m' ((c.tc : Thread Cert.PleLossRefIdeal.nD Cert.PleLossRefIdeal.τ).loc Cert.PleLossRefIdeal.main_arg1)
          ∧ r.2.mem ((c.tc : Thread Cert.PleLossRefIdeal.nD Cert.PleLossRefIdeal.τ).loc Cert.PleLossRefIdeal.main_arg2) = m' ((c.tc : Thread Cert.PleLossRefIdeal.nD Cert.PleLossRefIdeal.τ).loc Cert.PleLossRefIdeal.main_arg2)
          ∧ r.2.mem ((c.tc : Thread Cert.PleLossRefIdeal.nD Cert.PleLossRefIdeal.τ).loc Cert.PleLossRefIdeal.main_arg3) = m' ((c.tc : Thread Cert.PleLossRefIdeal.nD Cert.PleLossRefIdeal.τ).loc Cert.PleLossRefIdeal.main_arg3)
          ∧ r.2.mem ((c.tc : Thread Cert.PleLossRefIdeal.nD Cert.PleLossRefIdeal.τ).loc Cert.PleLossRefIdeal.main_arg4) = m' ((c.tc : Thread Cert.PleLossRefIdeal.nD Cert.PleLossRefIdeal.τ).loc Cert.PleLossRefIdeal.main_arg4))

def preserves_LatentNormBwd_LatentNormBwdIdeal : Prop :=
  True

def algebraic_LatentNormBwdIdeal_LatentNormRefIdeal [hLatentNormBwdIdeal : Cert.LatentNormBwdIdeal.Facts] [hLatentNormRefIdeal : Cert.LatentNormRefIdeal.Facts] : Prop :=
  ∀ (m : (ℓ : Loc Cert.LatentNormBwdIdeal.nD Cert.LatentNormBwdIdeal.τ Cert.LatentNormBwdIdeal.sig) → Buf (Elt Ideal) ℓ) (g : Dev Cert.LatentNormBwdIdeal.nD → PrngReg)
    (m' : (ℓ : Loc Cert.LatentNormRefIdeal.nD Cert.LatentNormRefIdeal.τ Cert.LatentNormRefIdeal.sig) → Buf (Elt Ideal) ℓ) (g' : Dev Cert.LatentNormRefIdeal.nD → PrngReg), Pre_LatentNormBwdIdeal m →
    (∀ c : Dev Cert.LatentNormBwdIdeal.nD,
      m' ((c.tc : Thread Cert.LatentNormRefIdeal.nD Cert.LatentNormRefIdeal.τ).loc Cert.LatentNormRefIdeal.main_arg0) = m ((c.tc : Thread Cert.LatentNormBwdIdeal.nD Cert.LatentNormBwdIdeal.τ).loc Cert.LatentNormBwdIdeal.main_arg0)
      ∧ m' ((c.tc : Thread Cert.LatentNormRefIdeal.nD Cert.LatentNormRefIdeal.τ).loc Cert.LatentNormRefIdeal.main_arg1) = m ((c.tc : Thread Cert.LatentNormBwdIdeal.nD Cert.LatentNormBwdIdeal.τ).loc Cert.LatentNormBwdIdeal.main_arg1)
      ∧ m' ((c.tc : Thread Cert.LatentNormRefIdeal.nD Cert.LatentNormRefIdeal.τ).loc Cert.LatentNormRefIdeal.main_arg2) = m ((c.tc : Thread Cert.LatentNormBwdIdeal.nD Cert.LatentNormBwdIdeal.τ).loc Cert.LatentNormBwdIdeal.main_arg2)
      ∧ m' ((c.tc : Thread Cert.LatentNormRefIdeal.nD Cert.LatentNormRefIdeal.τ).loc Cert.LatentNormRefIdeal.main_arg3) = m ((c.tc : Thread Cert.LatentNormBwdIdeal.nD Cert.LatentNormBwdIdeal.τ).loc Cert.LatentNormBwdIdeal.main_arg3)
      ∧ m' ((c.tc : Thread Cert.LatentNormRefIdeal.nD Cert.LatentNormRefIdeal.τ).loc Cert.LatentNormRefIdeal.main_arg4) = m ((c.tc : Thread Cert.LatentNormBwdIdeal.nD Cert.LatentNormBwdIdeal.τ).loc Cert.LatentNormBwdIdeal.main_arg4)) →
    ∃ (v0 : (c : Dev Cert.LatentNormBwdIdeal.nD) → Buf (Elt Ideal) ((c.tc : Thread Cert.LatentNormBwdIdeal.nD Cert.LatentNormBwdIdeal.τ).loc Cert.LatentNormBwdIdeal.main_v5_0)) (v1 : (c : Dev Cert.LatentNormBwdIdeal.nD) → Buf (Elt Ideal) ((c.tc : Thread Cert.LatentNormBwdIdeal.nD Cert.LatentNormBwdIdeal.τ).loc Cert.LatentNormBwdIdeal.main_v5_1)) (v2 : (c : Dev Cert.LatentNormBwdIdeal.nD) → Buf (Elt Ideal) ((c.tc : Thread Cert.LatentNormBwdIdeal.nD Cert.LatentNormBwdIdeal.τ).loc Cert.LatentNormBwdIdeal.main_v5_2)) (v3 : (c : Dev Cert.LatentNormBwdIdeal.nD) → Buf (Elt Ideal) ((c.tc : Thread Cert.LatentNormBwdIdeal.nD Cert.LatentNormBwdIdeal.τ).loc Cert.LatentNormBwdIdeal.main_v5_3)),
      θ_run (Cert.LatentNormBwdIdeal.defs (F := Ideal)) (onTc (τ := Cert.LatentNormBwdIdeal.τ) (Cert.LatentNormBwdIdeal.main (F := Ideal))) ⟨m, fun _ => 0, g⟩ (fun r => ∀ c : Dev Cert.LatentNormBwdIdeal.nD,
          r.2.mem ((c.tc : Thread Cert.LatentNormBwdIdeal.nD Cert.LatentNormBwdIdeal.τ).loc Cert.LatentNormBwdIdeal.main_v5_0) = v0 c
          ∧ r.2.mem ((c.tc : Thread Cert.LatentNormBwdIdeal.nD Cert.LatentNormBwdIdeal.τ).loc Cert.LatentNormBwdIdeal.main_v5_1) = v1 c
          ∧ r.2.mem ((c.tc : Thread Cert.LatentNormBwdIdeal.nD Cert.LatentNormBwdIdeal.τ).loc Cert.LatentNormBwdIdeal.main_v5_2) = v2 c
          ∧ r.2.mem ((c.tc : Thread Cert.LatentNormBwdIdeal.nD Cert.LatentNormBwdIdeal.τ).loc Cert.LatentNormBwdIdeal.main_v5_3) = v3 c
          ∧ r.2.mem ((c.tc : Thread Cert.LatentNormBwdIdeal.nD Cert.LatentNormBwdIdeal.τ).loc Cert.LatentNormBwdIdeal.main_arg0) = m ((c.tc : Thread Cert.LatentNormBwdIdeal.nD Cert.LatentNormBwdIdeal.τ).loc Cert.LatentNormBwdIdeal.main_arg0)
          ∧ r.2.mem ((c.tc : Thread Cert.LatentNormBwdIdeal.nD Cert.LatentNormBwdIdeal.τ).loc Cert.LatentNormBwdIdeal.main_arg1) = m ((c.tc : Thread Cert.LatentNormBwdIdeal.nD Cert.LatentNormBwdIdeal.τ).loc Cert.LatentNormBwdIdeal.main_arg1)
          ∧ r.2.mem ((c.tc : Thread Cert.LatentNormBwdIdeal.nD Cert.LatentNormBwdIdeal.τ).loc Cert.LatentNormBwdIdeal.main_arg2) = m ((c.tc : Thread Cert.LatentNormBwdIdeal.nD Cert.LatentNormBwdIdeal.τ).loc Cert.LatentNormBwdIdeal.main_arg2)
          ∧ r.2.mem ((c.tc : Thread Cert.LatentNormBwdIdeal.nD Cert.LatentNormBwdIdeal.τ).loc Cert.LatentNormBwdIdeal.main_arg3) = m ((c.tc : Thread Cert.LatentNormBwdIdeal.nD Cert.LatentNormBwdIdeal.τ).loc Cert.LatentNormBwdIdeal.main_arg3)
          ∧ r.2.mem ((c.tc : Thread Cert.LatentNormBwdIdeal.nD Cert.LatentNormBwdIdeal.τ).loc Cert.LatentNormBwdIdeal.main_arg4) = m ((c.tc : Thread Cert.LatentNormBwdIdeal.nD Cert.LatentNormBwdIdeal.τ).loc Cert.LatentNormBwdIdeal.main_arg4))
      ∧ θ_run (Cert.LatentNormRefIdeal.defs (F := Ideal)) (onTc (τ := Cert.LatentNormRefIdeal.τ) (Cert.LatentNormRefIdeal.main (F := Ideal))) ⟨m', fun _ => 0, g'⟩ (fun r => ∀ c : Dev Cert.LatentNormRefIdeal.nD,
          r.2.mem ((c.tc : Thread Cert.LatentNormRefIdeal.nD Cert.LatentNormRefIdeal.τ).loc Cert.LatentNormRefIdeal.main_v78) = v0 c
          ∧ r.2.mem ((c.tc : Thread Cert.LatentNormRefIdeal.nD Cert.LatentNormRefIdeal.τ).loc Cert.LatentNormRefIdeal.main_v79) = v1 c
          ∧ r.2.mem ((c.tc : Thread Cert.LatentNormRefIdeal.nD Cert.LatentNormRefIdeal.τ).loc Cert.LatentNormRefIdeal.main_v77) = v2 c
          ∧ r.2.mem ((c.tc : Thread Cert.LatentNormRefIdeal.nD Cert.LatentNormRefIdeal.τ).loc Cert.LatentNormRefIdeal.main_v56) = v3 c
          ∧ r.2.mem ((c.tc : Thread Cert.LatentNormRefIdeal.nD Cert.LatentNormRefIdeal.τ).loc Cert.LatentNormRefIdeal.main_arg0) = m' ((c.tc : Thread Cert.LatentNormRefIdeal.nD Cert.LatentNormRefIdeal.τ).loc Cert.LatentNormRefIdeal.main_arg0)
          ∧ r.2.mem ((c.tc : Thread Cert.LatentNormRefIdeal.nD Cert.LatentNormRefIdeal.τ).loc Cert.LatentNormRefIdeal.main_arg1) = m' ((c.tc : Thread Cert.LatentNormRefIdeal.nD Cert.LatentNormRefIdeal.τ).loc Cert.LatentNormRefIdeal.main_arg1)
          ∧ r.2.mem ((c.tc : Thread Cert.LatentNormRefIdeal.nD Cert.LatentNormRefIdeal.τ).loc Cert.LatentNormRefIdeal.main_arg2) = m' ((c.tc : Thread Cert.LatentNormRefIdeal.nD Cert.LatentNormRefIdeal.τ).loc Cert.LatentNormRefIdeal.main_arg2)
          ∧ r.2.mem ((c.tc : Thread Cert.LatentNormRefIdeal.nD Cert.LatentNormRefIdeal.τ).loc Cert.LatentNormRefIdeal.main_arg3) = m' ((c.tc : Thread Cert.LatentNormRefIdeal.nD Cert.LatentNormRefIdeal.τ).loc Cert.LatentNormRefIdeal.main_arg3)
          ∧ r.2.mem ((c.tc : Thread Cert.LatentNormRefIdeal.nD Cert.LatentNormRefIdeal.τ).loc Cert.LatentNormRefIdeal.main_arg4) = m' ((c.tc : Thread Cert.LatentNormRefIdeal.nD Cert.LatentNormRefIdeal.τ).loc Cert.LatentNormRefIdeal.main_arg4))

def preserves_MixOutBwd_MixOutBwdIdeal : Prop :=
  True

def algebraic_MixOutBwdIdeal_MixOutRefIdeal [hMixOutBwdIdeal : Cert.MixOutBwdIdeal.Facts] [hMixOutRefIdeal : Cert.MixOutRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutBwdIdeal m →
    (∀ c : Dev Cert.MixOutBwdIdeal.nD,
      m' ((c.tc : Thread Cert.MixOutRefIdeal.nD Cert.MixOutRefIdeal.τ).loc Cert.MixOutRefIdeal.main_arg0) = m ((c.tc : Thread Cert.MixOutBwdIdeal.nD Cert.MixOutBwdIdeal.τ).loc Cert.MixOutBwdIdeal.main_arg0)
      ∧ m' ((c.tc : Thread Cert.MixOutRefIdeal.nD Cert.MixOutRefIdeal.τ).loc Cert.MixOutRefIdeal.main_arg1) = m ((c.tc : Thread Cert.MixOutBwdIdeal.nD Cert.MixOutBwdIdeal.τ).loc Cert.MixOutBwdIdeal.main_arg1)
      ∧ m' ((c.tc : Thread Cert.MixOutRefIdeal.nD Cert.MixOutRefIdeal.τ).loc Cert.MixOutRefIdeal.main_arg2) = m ((c.tc : Thread Cert.MixOutBwdIdeal.nD Cert.MixOutBwdIdeal.τ).loc Cert.MixOutBwdIdeal.main_arg2)
      ∧ m' ((c.tc : Thread Cert.MixOutRefIdeal.nD Cert.MixOutRefIdeal.τ).loc Cert.MixOutRefIdeal.main_arg3) = m ((c.tc : Thread Cert.MixOutBwdIdeal.nD Cert.MixOutBwdIdeal.τ).loc Cert.MixOutBwdIdeal.main_arg3)
      ∧ m' ((c.tc : Thread Cert.MixOutRefIdeal.nD Cert.MixOutRefIdeal.τ).loc Cert.MixOutRefIdeal.main_arg4) = m ((c.tc : Thread Cert.MixOutBwdIdeal.nD Cert.MixOutBwdIdeal.τ).loc Cert.MixOutBwdIdeal.main_arg4)) →
    ∃ (v0 : (c : Dev Cert.MixOutBwdIdeal.nD) → Buf (Elt Ideal) ((c.tc : Thread Cert.MixOutBwdIdeal.nD Cert.MixOutBwdIdeal.τ).loc Cert.MixOutBwdIdeal.main_v6_0)) (v1 : (c : Dev Cert.MixOutBwdIdeal.nD) → Buf (Elt Ideal) ((c.tc : Thread Cert.MixOutBwdIdeal.nD Cert.MixOutBwdIdeal.τ).loc Cert.MixOutBwdIdeal.main_v6_1)) (v2 : (c : Dev Cert.MixOutBwdIdeal.nD) → Buf (Elt Ideal) ((c.tc : Thread Cert.MixOutBwdIdeal.nD Cert.MixOutBwdIdeal.τ).loc Cert.MixOutBwdIdeal.main_v6_2)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v6_0) = v0 c
          ∧ r.2.mem ((c.tc : Thread Cert.MixOutBwdIdeal.nD Cert.MixOutBwdIdeal.τ).loc Cert.MixOutBwdIdeal.main_v6_1) = v1 c
          ∧ r.2.mem ((c.tc : Thread Cert.MixOutBwdIdeal.nD Cert.MixOutBwdIdeal.τ).loc Cert.MixOutBwdIdeal.main_v6_2) = v2 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v49) = v0 c
          ∧ r.2.mem ((c.tc : Thread Cert.MixOutRefIdeal.nD Cert.MixOutRefIdeal.τ).loc Cert.MixOutRefIdeal.main_v50) = v1 c
          ∧ r.2.mem ((c.tc : Thread Cert.MixOutRefIdeal.nD Cert.MixOutRefIdeal.τ).loc Cert.MixOutRefIdeal.main_v51) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_HeadNormBwd_HeadNormBwdIdeal : Prop :=
  True

def algebraic_HeadNormBwdIdeal_HeadNormRefIdeal [hHeadNormBwdIdeal : Cert.HeadNormBwdIdeal.Facts] [hHeadNormRefIdeal : Cert.HeadNormRefIdeal.Facts] : Prop :=
  ∀ (m : (ℓ : Loc Cert.HeadNormBwdIdeal.nD Cert.HeadNormBwdIdeal.τ Cert.HeadNormBwdIdeal.sig) → Buf (Elt Ideal) ℓ) (g : Dev Cert.HeadNormBwdIdeal.nD → PrngReg)
    (m' : (ℓ : Loc Cert.HeadNormRefIdeal.nD Cert.HeadNormRefIdeal.τ Cert.HeadNormRefIdeal.sig) → Buf (Elt Ideal) ℓ) (g' : Dev Cert.HeadNormRefIdeal.nD → PrngReg), Pre_HeadNormBwdIdeal m →
    (∀ c : Dev Cert.HeadNormBwdIdeal.nD,
      m' ((c.tc : Thread Cert.HeadNormRefIdeal.nD Cert.HeadNormRefIdeal.τ).loc Cert.HeadNormRefIdeal.main_arg0) = m ((c.tc : Thread Cert.HeadNormBwdIdeal.nD Cert.HeadNormBwdIdeal.τ).loc Cert.HeadNormBwdIdeal.main_arg0)
      ∧ m' ((c.tc : Thread Cert.HeadNormRefIdeal.nD Cert.HeadNormRefIdeal.τ).loc Cert.HeadNormRefIdeal.main_arg1) = m ((c.tc : Thread Cert.HeadNormBwdIdeal.nD Cert.HeadNormBwdIdeal.τ).loc Cert.HeadNormBwdIdeal.main_arg1)
      ∧ m' ((c.tc : Thread Cert.HeadNormRefIdeal.nD Cert.HeadNormRefIdeal.τ).loc Cert.HeadNormRefIdeal.main_arg2) = m ((c.tc : Thread Cert.HeadNormBwdIdeal.nD Cert.HeadNormBwdIdeal.τ).loc Cert.HeadNormBwdIdeal.main_arg2)
      ∧ m' ((c.tc : Thread Cert.HeadNormRefIdeal.nD Cert.HeadNormRefIdeal.τ).loc Cert.HeadNormRefIdeal.main_arg3) = m ((c.tc : Thread Cert.HeadNormBwdIdeal.nD Cert.HeadNormBwdIdeal.τ).loc Cert.HeadNormBwdIdeal.main_arg3)
      ∧ m' ((c.tc : Thread Cert.HeadNormRefIdeal.nD Cert.HeadNormRefIdeal.τ).loc Cert.HeadNormRefIdeal.main_arg4) = m ((c.tc : Thread Cert.HeadNormBwdIdeal.nD Cert.HeadNormBwdIdeal.τ).loc Cert.HeadNormBwdIdeal.main_arg4)
      ∧ m' ((c.tc : Thread Cert.HeadNormRefIdeal.nD Cert.HeadNormRefIdeal.τ).loc Cert.HeadNormRefIdeal.main_arg5) = m ((c.tc : Thread Cert.HeadNormBwdIdeal.nD Cert.HeadNormBwdIdeal.τ).loc Cert.HeadNormBwdIdeal.main_arg5)
      ∧ m' ((c.tc : Thread Cert.HeadNormRefIdeal.nD Cert.HeadNormRefIdeal.τ).loc Cert.HeadNormRefIdeal.main_arg6) = m ((c.tc : Thread Cert.HeadNormBwdIdeal.nD Cert.HeadNormBwdIdeal.τ).loc Cert.HeadNormBwdIdeal.main_arg6)
      ∧ m' ((c.tc : Thread Cert.HeadNormRefIdeal.nD Cert.HeadNormRefIdeal.τ).loc Cert.HeadNormRefIdeal.main_arg7) = m ((c.tc : Thread Cert.HeadNormBwdIdeal.nD Cert.HeadNormBwdIdeal.τ).loc Cert.HeadNormBwdIdeal.main_arg7)
      ∧ m' ((c.tc : Thread Cert.HeadNormRefIdeal.nD Cert.HeadNormRefIdeal.τ).loc Cert.HeadNormRefIdeal.main_arg8) = m ((c.tc : Thread Cert.HeadNormBwdIdeal.nD Cert.HeadNormBwdIdeal.τ).loc Cert.HeadNormBwdIdeal.main_arg8)
      ∧ m' ((c.tc : Thread Cert.HeadNormRefIdeal.nD Cert.HeadNormRefIdeal.τ).loc Cert.HeadNormRefIdeal.main_arg9) = m ((c.tc : Thread Cert.HeadNormBwdIdeal.nD Cert.HeadNormBwdIdeal.τ).loc Cert.HeadNormBwdIdeal.main_arg9)) →
    ∃ (v0 : (c : Dev Cert.HeadNormBwdIdeal.nD) → Buf (Elt Ideal) ((c.tc : Thread Cert.HeadNormBwdIdeal.nD Cert.HeadNormBwdIdeal.τ).loc Cert.HeadNormBwdIdeal.main_v5_0)) (v1 : (c : Dev Cert.HeadNormBwdIdeal.nD) → Buf (Elt Ideal) ((c.tc : Thread Cert.HeadNormBwdIdeal.nD Cert.HeadNormBwdIdeal.τ).loc Cert.HeadNormBwdIdeal.main_v5_1)) (v2 : (c : Dev Cert.HeadNormBwdIdeal.nD) → Buf (Elt Ideal) ((c.tc : Thread Cert.HeadNormBwdIdeal.nD Cert.HeadNormBwdIdeal.τ).loc Cert.HeadNormBwdIdeal.main_v5_2)) (v3 : (c : Dev Cert.HeadNormBwdIdeal.nD) → Buf (Elt Ideal) ((c.tc : Thread Cert.HeadNormBwdIdeal.nD Cert.HeadNormBwdIdeal.τ).loc Cert.HeadNormBwdIdeal.main_v5_3)) (v4 : (c : Dev Cert.HeadNormBwdIdeal.nD) → Buf (Elt Ideal) ((c.tc : Thread Cert.HeadNormBwdIdeal.nD Cert.HeadNormBwdIdeal.τ).loc Cert.HeadNormBwdIdeal.main_v5_4)),
      θ_run (Cert.HeadNormBwdIdeal.defs (F := Ideal)) (onTc (τ := Cert.HeadNormBwdIdeal.τ) (Cert.HeadNormBwdIdeal.main (F := Ideal))) ⟨m, fun _ => 0, g⟩ (fun r => ∀ c : Dev Cert.HeadNormBwdIdeal.nD,
          r.2.mem ((c.tc : Thread Cert.HeadNormBwdIdeal.nD Cert.HeadNormBwdIdeal.τ).loc Cert.HeadNormBwdIdeal.main_v5_0) = v0 c
          ∧ r.2.mem ((c.tc : Thread Cert.HeadNormBwdIdeal.nD Cert.HeadNormBwdIdeal.τ).loc Cert.HeadNormBwdIdeal.main_v5_1) = v1 c
          ∧ r.2.mem ((c.tc : Thread Cert.HeadNormBwdIdeal.nD Cert.HeadNormBwdIdeal.τ).loc Cert.HeadNormBwdIdeal.main_v5_2) = v2 c
          ∧ r.2.mem ((c.tc : Thread Cert.HeadNormBwdIdeal.nD Cert.HeadNormBwdIdeal.τ).loc Cert.HeadNormBwdIdeal.main_v5_3) = v3 c
          ∧ r.2.mem ((c.tc : Thread Cert.HeadNormBwdIdeal.nD Cert.HeadNormBwdIdeal.τ).loc Cert.HeadNormBwdIdeal.main_v5_4) = v4 c
          ∧ r.2.mem ((c.tc : Thread Cert.HeadNormBwdIdeal.nD Cert.HeadNormBwdIdeal.τ).loc Cert.HeadNormBwdIdeal.main_arg0) = m ((c.tc : Thread Cert.HeadNormBwdIdeal.nD Cert.HeadNormBwdIdeal.τ).loc Cert.HeadNormBwdIdeal.main_arg0)
          ∧ r.2.mem ((c.tc : Thread Cert.HeadNormBwdIdeal.nD Cert.HeadNormBwdIdeal.τ).loc Cert.HeadNormBwdIdeal.main_arg1) = m ((c.tc : Thread Cert.HeadNormBwdIdeal.nD Cert.HeadNormBwdIdeal.τ).loc Cert.HeadNormBwdIdeal.main_arg1)
          ∧ r.2.mem ((c.tc : Thread Cert.HeadNormBwdIdeal.nD Cert.HeadNormBwdIdeal.τ).loc Cert.HeadNormBwdIdeal.main_arg2) = m ((c.tc : Thread Cert.HeadNormBwdIdeal.nD Cert.HeadNormBwdIdeal.τ).loc Cert.HeadNormBwdIdeal.main_arg2)
          ∧ r.2.mem ((c.tc : Thread Cert.HeadNormBwdIdeal.nD Cert.HeadNormBwdIdeal.τ).loc Cert.HeadNormBwdIdeal.main_arg3) = m ((c.tc : Thread Cert.HeadNormBwdIdeal.nD Cert.HeadNormBwdIdeal.τ).loc Cert.HeadNormBwdIdeal.main_arg3)
          ∧ r.2.mem ((c.tc : Thread Cert.HeadNormBwdIdeal.nD Cert.HeadNormBwdIdeal.τ).loc Cert.HeadNormBwdIdeal.main_arg4) = m ((c.tc : Thread Cert.HeadNormBwdIdeal.nD Cert.HeadNormBwdIdeal.τ).loc Cert.HeadNormBwdIdeal.main_arg4)
          ∧ r.2.mem ((c.tc : Thread Cert.HeadNormBwdIdeal.nD Cert.HeadNormBwdIdeal.τ).loc Cert.HeadNormBwdIdeal.main_arg5) = m ((c.tc : Thread Cert.HeadNormBwdIdeal.nD Cert.HeadNormBwdIdeal.τ).loc Cert.HeadNormBwdIdeal.main_arg5)
          ∧ r.2.mem ((c.tc : Thread Cert.HeadNormBwdIdeal.nD Cert.HeadNormBwdIdeal.τ).loc Cert.HeadNormBwdIdeal.main_arg6) = m ((c.tc : Thread Cert.HeadNormBwdIdeal.nD Cert.HeadNormBwdIdeal.τ).loc Cert.HeadNormBwdIdeal.main_arg6)
          ∧ r.2.mem ((c.tc : Thread Cert.HeadNormBwdIdeal.nD Cert.HeadNormBwdIdeal.τ).loc Cert.HeadNormBwdIdeal.main_arg7) = m ((c.tc : Thread Cert.HeadNormBwdIdeal.nD Cert.HeadNormBwdIdeal.τ).loc Cert.HeadNormBwdIdeal.main_arg7)
          ∧ r.2.mem ((c.tc : Thread Cert.HeadNormBwdIdeal.nD Cert.HeadNormBwdIdeal.τ).loc Cert.HeadNormBwdIdeal.main_arg8) = m ((c.tc : Thread Cert.HeadNormBwdIdeal.nD Cert.HeadNormBwdIdeal.τ).loc Cert.HeadNormBwdIdeal.main_arg8)
          ∧ r.2.mem ((c.tc : Thread Cert.HeadNormBwdIdeal.nD Cert.HeadNormBwdIdeal.τ).loc Cert.HeadNormBwdIdeal.main_arg9) = m ((c.tc : Thread Cert.HeadNormBwdIdeal.nD Cert.HeadNormBwdIdeal.τ).loc Cert.HeadNormBwdIdeal.main_arg9))
      ∧ θ_run (Cert.HeadNormRefIdeal.defs (F := Ideal)) (onTc (τ := Cert.HeadNormRefIdeal.τ) (Cert.HeadNormRefIdeal.main (F := Ideal))) ⟨m', fun _ => 0, g'⟩ (fun r => ∀ c : Dev Cert.HeadNormRefIdeal.nD,
          r.2.mem ((c.tc : Thread Cert.HeadNormRefIdeal.nD Cert.HeadNormRefIdeal.τ).loc Cert.HeadNormRefIdeal.main_v173) = v0 c
          ∧ r.2.mem ((c.tc : Thread Cert.HeadNormRefIdeal.nD Cert.HeadNormRefIdeal.τ).loc Cert.HeadNormRefIdeal.main_v174) = v1 c
          ∧ r.2.mem ((c.tc : Thread Cert.HeadNormRefIdeal.nD Cert.HeadNormRefIdeal.τ).loc Cert.HeadNormRefIdeal.main_v175) = v2 c
          ∧ r.2.mem ((c.tc : Thread Cert.HeadNormRefIdeal.nD Cert.HeadNormRefIdeal.τ).loc Cert.HeadNormRefIdeal.main_v161) = v3 c
          ∧ r.2.mem ((c.tc : Thread Cert.HeadNormRefIdeal.nD Cert.HeadNormRefIdeal.τ).loc Cert.HeadNormRefIdeal.main_v140) = v4 c
          ∧ r.2.mem ((c.tc : Thread Cert.HeadNormRefIdeal.nD Cert.HeadNormRefIdeal.τ).loc Cert.HeadNormRefIdeal.main_arg0) = m' ((c.tc : Thread Cert.HeadNormRefIdeal.nD Cert.HeadNormRefIdeal.τ).loc Cert.HeadNormRefIdeal.main_arg0)
          ∧ r.2.mem ((c.tc : Thread Cert.HeadNormRefIdeal.nD Cert.HeadNormRefIdeal.τ).loc Cert.HeadNormRefIdeal.main_arg1) = m' ((c.tc : Thread Cert.HeadNormRefIdeal.nD Cert.HeadNormRefIdeal.τ).loc Cert.HeadNormRefIdeal.main_arg1)
          ∧ r.2.mem ((c.tc : Thread Cert.HeadNormRefIdeal.nD Cert.HeadNormRefIdeal.τ).loc Cert.HeadNormRefIdeal.main_arg2) = m' ((c.tc : Thread Cert.HeadNormRefIdeal.nD Cert.HeadNormRefIdeal.τ).loc Cert.HeadNormRefIdeal.main_arg2)
          ∧ r.2.mem ((c.tc : Thread Cert.HeadNormRefIdeal.nD Cert.HeadNormRefIdeal.τ).loc Cert.HeadNormRefIdeal.main_arg3) = m' ((c.tc : Thread Cert.HeadNormRefIdeal.nD Cert.HeadNormRefIdeal.τ).loc Cert.HeadNormRefIdeal.main_arg3)
          ∧ r.2.mem ((c.tc : Thread Cert.HeadNormRefIdeal.nD Cert.HeadNormRefIdeal.τ).loc Cert.HeadNormRefIdeal.main_arg4) = m' ((c.tc : Thread Cert.HeadNormRefIdeal.nD Cert.HeadNormRefIdeal.τ).loc Cert.HeadNormRefIdeal.main_arg4)
          ∧ r.2.mem ((c.tc : Thread Cert.HeadNormRefIdeal.nD Cert.HeadNormRefIdeal.τ).loc Cert.HeadNormRefIdeal.main_arg5) = m' ((c.tc : Thread Cert.HeadNormRefIdeal.nD Cert.HeadNormRefIdeal.τ).loc Cert.HeadNormRefIdeal.main_arg5)
          ∧ r.2.mem ((c.tc : Thread Cert.HeadNormRefIdeal.nD Cert.HeadNormRefIdeal.τ).loc Cert.HeadNormRefIdeal.main_arg6) = m' ((c.tc : Thread Cert.HeadNormRefIdeal.nD Cert.HeadNormRefIdeal.τ).loc Cert.HeadNormRefIdeal.main_arg6)
          ∧ r.2.mem ((c.tc : Thread Cert.HeadNormRefIdeal.nD Cert.HeadNormRefIdeal.τ).loc Cert.HeadNormRefIdeal.main_arg7) = m' ((c.tc : Thread Cert.HeadNormRefIdeal.nD Cert.HeadNormRefIdeal.τ).loc Cert.HeadNormRefIdeal.main_arg7)
          ∧ r.2.mem ((c.tc : Thread Cert.HeadNormRefIdeal.nD Cert.HeadNormRefIdeal.τ).loc Cert.HeadNormRefIdeal.main_arg8) = m' ((c.tc : Thread Cert.HeadNormRefIdeal.nD Cert.HeadNormRefIdeal.τ).loc Cert.HeadNormRefIdeal.main_arg8)
          ∧ r.2.mem ((c.tc : Thread Cert.HeadNormRefIdeal.nD Cert.HeadNormRefIdeal.τ).loc Cert.HeadNormRefIdeal.main_arg9) = m' ((c.tc : Thread Cert.HeadNormRefIdeal.nD Cert.HeadNormRefIdeal.τ).loc Cert.HeadNormRefIdeal.main_arg9))

def preserves_AttnFwd_AttnFwdIdeal : Prop :=
  IdealRules.named_const.Statement Cert.AttnFwdIdeal.κ "c2" .f32 0x3DD53B95#32 (((Real.sqrt 192)⁻¹ * (Real.log 2)⁻¹ : ℝ) : EReal)
  ∧ IdealRules.named_const.Statement Cert.AttnFwdIdeal.κ "log2e" .f32 0x3FB8AA3B#32 (((Real.log 2)⁻¹ : ℝ) : EReal)

def algebraic_AttnFwdIdeal_AttnFwdRefIdeal_pre_finite_attention_fwd [hAttnFwdIdeal : Cert.AttnFwdIdeal.Facts] [hAttnFwdRefIdeal : Cert.AttnFwdRefIdeal.Facts] [hPre_finite_attention_fwd : Cert.Pre_finite_attention_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attention_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v20) = v0 c
          ∧ r.2.mem ((c.tc : Thread Cert.AttnFwdRefIdeal.nD Cert.AttnFwdRefIdeal.τ).loc Cert.AttnFwdRefIdeal.main_v32) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_GlaBwd_GlaBwdIdeal : Prop :=
  True

def preserves_GlaBwdRev_GlaBwdRevIdeal : Prop :=
  True

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v14) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_LatentNormFwd_LatentNormFwdIdeal : Prop :=
  True

def algebraic_LatentNormFwdIdeal_LatentNormFwdRefIdeal [hLatentNormFwdIdeal : Cert.LatentNormFwdIdeal.Facts] [hLatentNormFwdRefIdeal : Cert.LatentNormFwdRefIdeal.Facts] : Prop :=
  ∀ (m : (ℓ : Loc Cert.LatentNormFwdIdeal.nD Cert.LatentNormFwdIdeal.τ Cert.LatentNormFwdIdeal.sig) → Buf (Elt Ideal) ℓ) (g : Dev Cert.LatentNormFwdIdeal.nD → PrngReg)
    (m' : (ℓ : Loc Cert.LatentNormFwdRefIdeal.nD Cert.LatentNormFwdRefIdeal.τ Cert.LatentNormFwdRefIdeal.sig) → Buf (Elt Ideal) ℓ) (g' : Dev Cert.LatentNormFwdRefIdeal.nD → PrngReg), Pre_LatentNormFwdIdeal m →
    (∀ c : Dev Cert.LatentNormFwdIdeal.nD,
      m' ((c.tc : Thread Cert.LatentNormFwdRefIdeal.nD Cert.LatentNormFwdRefIdeal.τ).loc Cert.LatentNormFwdRefIdeal.main_arg0) = m ((c.tc : Thread Cert.LatentNormFwdIdeal.nD Cert.LatentNormFwdIdeal.τ).loc Cert.LatentNormFwdIdeal.main_arg0)
      ∧ m' ((c.tc : Thread Cert.LatentNormFwdRefIdeal.nD Cert.LatentNormFwdRefIdeal.τ).loc Cert.LatentNormFwdRefIdeal.main_arg1) = m ((c.tc : Thread Cert.LatentNormFwdIdeal.nD Cert.LatentNormFwdIdeal.τ).loc Cert.LatentNormFwdIdeal.main_arg1)
      ∧ m' ((c.tc : Thread Cert.LatentNormFwdRefIdeal.nD Cert.LatentNormFwdRefIdeal.τ).loc Cert.LatentNormFwdRefIdeal.main_arg2) = m ((c.tc : Thread Cert.LatentNormFwdIdeal.nD Cert.LatentNormFwdIdeal.τ).loc Cert.LatentNormFwdIdeal.main_arg2)) →
    ∃ (v0 : (c : Dev Cert.LatentNormFwdIdeal.nD) → Buf (Elt Ideal) ((c.tc : Thread Cert.LatentNormFwdIdeal.nD Cert.LatentNormFwdIdeal.τ).loc Cert.LatentNormFwdIdeal.main_v5_0)) (v1 : (c : Dev Cert.LatentNormFwdIdeal.nD) → Buf (Elt Ideal) ((c.tc : Thread Cert.LatentNormFwdIdeal.nD Cert.LatentNormFwdIdeal.τ).loc Cert.LatentNormFwdIdeal.main_v5_1)),
      θ_run (Cert.LatentNormFwdIdeal.defs (F := Ideal)) (onTc (τ := Cert.LatentNormFwdIdeal.τ) (Cert.LatentNormFwdIdeal.main (F := Ideal))) ⟨m, fun _ => 0, g⟩ (fun r => ∀ c : Dev Cert.LatentNormFwdIdeal.nD,
          r.2.mem ((c.tc : Thread Cert.LatentNormFwdIdeal.nD Cert.LatentNormFwdIdeal.τ).loc Cert.LatentNormFwdIdeal.main_v5_0) = v0 c
          ∧ r.2.mem ((c.tc : Thread Cert.LatentNormFwdIdeal.nD Cert.LatentNormFwdIdeal.τ).loc Cert.LatentNormFwdIdeal.main_v5_1) = v1 c
          ∧ r.2.mem ((c.tc : Thread Cert.LatentNormFwdIdeal.nD Cert.LatentNormFwdIdeal.τ).loc Cert.LatentNormFwdIdeal.main_arg0) = m ((c.tc : Thread Cert.LatentNormFwdIdeal.nD Cert.LatentNormFwdIdeal.τ).loc Cert.LatentNormFwdIdeal.main_arg0)
          ∧ r.2.mem ((c.tc : Thread Cert.LatentNormFwdIdeal.nD Cert.LatentNormFwdIdeal.τ).loc Cert.LatentNormFwdIdeal.main_arg1) = m ((c.tc : Thread Cert.LatentNormFwdIdeal.nD Cert.LatentNormFwdIdeal.τ).loc Cert.LatentNormFwdIdeal.main_arg1)
          ∧ r.2.mem ((c.tc : Thread Cert.LatentNormFwdIdeal.nD Cert.LatentNormFwdIdeal.τ).loc Cert.LatentNormFwdIdeal.main_arg2) = m ((c.tc : Thread Cert.LatentNormFwdIdeal.nD Cert.LatentNormFwdIdeal.τ).loc Cert.LatentNormFwdIdeal.main_arg2))
      ∧ θ_run (Cert.LatentNormFwdRefIdeal.defs (F := Ideal)) (onTc (τ := Cert.LatentNormFwdRefIdeal.τ) (Cert.LatentNormFwdRefIdeal.main (F := Ideal))) ⟨m', fun _ => 0, g'⟩ (fun r => ∀ c : Dev Cert.LatentNormFwdRefIdeal.nD,
          r.2.mem ((c.tc : Thread Cert.LatentNormFwdRefIdeal.nD Cert.LatentNormFwdRefIdeal.τ).loc Cert.LatentNormFwdRefIdeal.main_v30) = v0 c
          ∧ r.2.mem ((c.tc : Thread Cert.LatentNormFwdRefIdeal.nD Cert.LatentNormFwdRefIdeal.τ).loc Cert.LatentNormFwdRefIdeal.main_v31) = v1 c
          ∧ r.2.mem ((c.tc : Thread Cert.LatentNormFwdRefIdeal.nD Cert.LatentNormFwdRefIdeal.τ).loc Cert.LatentNormFwdRefIdeal.main_arg0) = m' ((c.tc : Thread Cert.LatentNormFwdRefIdeal.nD Cert.LatentNormFwdRefIdeal.τ).loc Cert.LatentNormFwdRefIdeal.main_arg0)
          ∧ r.2.mem ((c.tc : Thread Cert.LatentNormFwdRefIdeal.nD Cert.LatentNormFwdRefIdeal.τ).loc Cert.LatentNormFwdRefIdeal.main_arg1) = m' ((c.tc : Thread Cert.LatentNormFwdRefIdeal.nD Cert.LatentNormFwdRefIdeal.τ).loc Cert.LatentNormFwdRefIdeal.main_arg1)
          ∧ r.2.mem ((c.tc : Thread Cert.LatentNormFwdRefIdeal.nD Cert.LatentNormFwdRefIdeal.τ).loc Cert.LatentNormFwdRefIdeal.main_arg2) = m' ((c.tc : Thread Cert.LatentNormFwdRefIdeal.nD Cert.LatentNormFwdRefIdeal.τ).loc Cert.LatentNormFwdRefIdeal.main_arg2))

def preserves_HeadNormFwd_HeadNormFwdIdeal : Prop :=
  True

def algebraic_HeadNormFwdIdeal_HeadNormFwdRefIdeal [hHeadNormFwdIdeal : Cert.HeadNormFwdIdeal.Facts] [hHeadNormFwdRefIdeal : Cert.HeadNormFwdRefIdeal.Facts] : Prop :=
  ∀ (m : (ℓ : Loc Cert.HeadNormFwdIdeal.nD Cert.HeadNormFwdIdeal.τ Cert.HeadNormFwdIdeal.sig) → Buf (Elt Ideal) ℓ) (g : Dev Cert.HeadNormFwdIdeal.nD → PrngReg)
    (m' : (ℓ : Loc Cert.HeadNormFwdRefIdeal.nD Cert.HeadNormFwdRefIdeal.τ Cert.HeadNormFwdRefIdeal.sig) → Buf (Elt Ideal) ℓ) (g' : Dev Cert.HeadNormFwdRefIdeal.nD → PrngReg), Pre_HeadNormFwdIdeal m →
    (∀ c : Dev Cert.HeadNormFwdIdeal.nD,
      m' ((c.tc : Thread Cert.HeadNormFwdRefIdeal.nD Cert.HeadNormFwdRefIdeal.τ).loc Cert.HeadNormFwdRefIdeal.main_arg0) = m ((c.tc : Thread Cert.HeadNormFwdIdeal.nD Cert.HeadNormFwdIdeal.τ).loc Cert.HeadNormFwdIdeal.main_arg0)
      ∧ m' ((c.tc : Thread Cert.HeadNormFwdRefIdeal.nD Cert.HeadNormFwdRefIdeal.τ).loc Cert.HeadNormFwdRefIdeal.main_arg1) = m ((c.tc : Thread Cert.HeadNormFwdIdeal.nD Cert.HeadNormFwdIdeal.τ).loc Cert.HeadNormFwdIdeal.main_arg1)
      ∧ m' ((c.tc : Thread Cert.HeadNormFwdRefIdeal.nD Cert.HeadNormFwdRefIdeal.τ).loc Cert.HeadNormFwdRefIdeal.main_arg2) = m ((c.tc : Thread Cert.HeadNormFwdIdeal.nD Cert.HeadNormFwdIdeal.τ).loc Cert.HeadNormFwdIdeal.main_arg2)
      ∧ m' ((c.tc : Thread Cert.HeadNormFwdRefIdeal.nD Cert.HeadNormFwdRefIdeal.τ).loc Cert.HeadNormFwdRefIdeal.main_arg3) = m ((c.tc : Thread Cert.HeadNormFwdIdeal.nD Cert.HeadNormFwdIdeal.τ).loc Cert.HeadNormFwdIdeal.main_arg3)
      ∧ m' ((c.tc : Thread Cert.HeadNormFwdRefIdeal.nD Cert.HeadNormFwdRefIdeal.τ).loc Cert.HeadNormFwdRefIdeal.main_arg4) = m ((c.tc : Thread Cert.HeadNormFwdIdeal.nD Cert.HeadNormFwdIdeal.τ).loc Cert.HeadNormFwdIdeal.main_arg4)
      ∧ m' ((c.tc : Thread Cert.HeadNormFwdRefIdeal.nD Cert.HeadNormFwdRefIdeal.τ).loc Cert.HeadNormFwdRefIdeal.main_arg5) = m ((c.tc : Thread Cert.HeadNormFwdIdeal.nD Cert.HeadNormFwdIdeal.τ).loc Cert.HeadNormFwdIdeal.main_arg5)) →
    ∃ (v0 : (c : Dev Cert.HeadNormFwdIdeal.nD) → Buf (Elt Ideal) ((c.tc : Thread Cert.HeadNormFwdIdeal.nD Cert.HeadNormFwdIdeal.τ).loc Cert.HeadNormFwdIdeal.main_v23_0)) (v1 : (c : Dev Cert.HeadNormFwdIdeal.nD) → Buf (Elt Ideal) ((c.tc : Thread Cert.HeadNormFwdIdeal.nD Cert.HeadNormFwdIdeal.τ).loc Cert.HeadNormFwdIdeal.main_v23_1)) (v2 : (c : Dev Cert.HeadNormFwdIdeal.nD) → Buf (Elt Ideal) ((c.tc : Thread Cert.HeadNormFwdIdeal.nD Cert.HeadNormFwdIdeal.τ).loc Cert.HeadNormFwdIdeal.main_v23_2)),
      θ_run (Cert.HeadNormFwdIdeal.defs (F := Ideal)) (onTc (τ := Cert.HeadNormFwdIdeal.τ) (Cert.HeadNormFwdIdeal.main (F := Ideal))) ⟨m, fun _ => 0, g⟩ (fun r => ∀ c : Dev Cert.HeadNormFwdIdeal.nD,
          r.2.mem ((c.tc : Thread Cert.HeadNormFwdIdeal.nD Cert.HeadNormFwdIdeal.τ).loc Cert.HeadNormFwdIdeal.main_v23_0) = v0 c
          ∧ r.2.mem ((c.tc : Thread Cert.HeadNormFwdIdeal.nD Cert.HeadNormFwdIdeal.τ).loc Cert.HeadNormFwdIdeal.main_v23_1) = v1 c
          ∧ r.2.mem ((c.tc : Thread Cert.HeadNormFwdIdeal.nD Cert.HeadNormFwdIdeal.τ).loc Cert.HeadNormFwdIdeal.main_v23_2) = v2 c
          ∧ r.2.mem ((c.tc : Thread Cert.HeadNormFwdIdeal.nD Cert.HeadNormFwdIdeal.τ).loc Cert.HeadNormFwdIdeal.main_arg0) = m ((c.tc : Thread Cert.HeadNormFwdIdeal.nD Cert.HeadNormFwdIdeal.τ).loc Cert.HeadNormFwdIdeal.main_arg0)
          ∧ r.2.mem ((c.tc : Thread Cert.HeadNormFwdIdeal.nD Cert.HeadNormFwdIdeal.τ).loc Cert.HeadNormFwdIdeal.main_arg1) = m ((c.tc : Thread Cert.HeadNormFwdIdeal.nD Cert.HeadNormFwdIdeal.τ).loc Cert.HeadNormFwdIdeal.main_arg1)
          ∧ r.2.mem ((c.tc : Thread Cert.HeadNormFwdIdeal.nD Cert.HeadNormFwdIdeal.τ).loc Cert.HeadNormFwdIdeal.main_arg2) = m ((c.tc : Thread Cert.HeadNormFwdIdeal.nD Cert.HeadNormFwdIdeal.τ).loc Cert.HeadNormFwdIdeal.main_arg2)
          ∧ r.2.mem ((c.tc : Thread Cert.HeadNormFwdIdeal.nD Cert.HeadNormFwdIdeal.τ).loc Cert.HeadNormFwdIdeal.main_arg3) = m ((c.tc : Thread Cert.HeadNormFwdIdeal.nD Cert.HeadNormFwdIdeal.τ).loc Cert.HeadNormFwdIdeal.main_arg3)
          ∧ r.2.mem ((c.tc : Thread Cert.HeadNormFwdIdeal.nD Cert.HeadNormFwdIdeal.τ).loc Cert.HeadNormFwdIdeal.main_arg4) = m ((c.tc : Thread Cert.HeadNormFwdIdeal.nD Cert.HeadNormFwdIdeal.τ).loc Cert.HeadNormFwdIdeal.main_arg4)
          ∧ r.2.mem ((c.tc : Thread Cert.HeadNormFwdIdeal.nD Cert.HeadNormFwdIdeal.τ).loc Cert.HeadNormFwdIdeal.main_arg5) = m ((c.tc : Thread Cert.HeadNormFwdIdeal.nD Cert.HeadNormFwdIdeal.τ).loc Cert.HeadNormFwdIdeal.main_arg5))
      ∧ θ_run (Cert.HeadNormFwdRefIdeal.defs (F := Ideal)) (onTc (τ := Cert.HeadNormFwdRefIdeal.τ) (Cert.HeadNormFwdRefIdeal.main (F := Ideal))) ⟨m', fun _ => 0, g'⟩ (fun r => ∀ c : Dev Cert.HeadNormFwdRefIdeal.nD,
          r.2.mem ((c.tc : Thread Cert.HeadNormFwdRefIdeal.nD Cert.HeadNormFwdRefIdeal.τ).loc Cert.HeadNormFwdRefIdeal.main_v89) = v0 c
          ∧ r.2.mem ((c.tc : Thread Cert.HeadNormFwdRefIdeal.nD Cert.HeadNormFwdRefIdeal.τ).loc Cert.HeadNormFwdRefIdeal.main_v91) = v1 c
          ∧ r.2.mem ((c.tc : Thread Cert.HeadNormFwdRefIdeal.nD Cert.HeadNormFwdRefIdeal.τ).loc Cert.HeadNormFwdRefIdeal.main_v93) = v2 c
          ∧ r.2.mem ((c.tc : Thread Cert.HeadNormFwdRefIdeal.nD Cert.HeadNormFwdRefIdeal.τ).loc Cert.HeadNormFwdRefIdeal.main_arg0) = m' ((c.tc : Thread Cert.HeadNormFwdRefIdeal.nD Cert.HeadNormFwdRefIdeal.τ).loc Cert.HeadNormFwdRefIdeal.main_arg0)
          ∧ r.2.mem ((c.tc : Thread Cert.HeadNormFwdRefIdeal.nD Cert.HeadNormFwdRefIdeal.τ).loc Cert.HeadNormFwdRefIdeal.main_arg1) = m' ((c.tc : Thread Cert.HeadNormFwdRefIdeal.nD Cert.HeadNormFwdRefIdeal.τ).loc Cert.HeadNormFwdRefIdeal.main_arg1)
          ∧ r.2.mem ((c.tc : Thread Cert.HeadNormFwdRefIdeal.nD Cert.HeadNormFwdRefIdeal.τ).loc Cert.HeadNormFwdRefIdeal.main_arg2) = m' ((c.tc : Thread Cert.HeadNormFwdRefIdeal.nD Cert.HeadNormFwdRefIdeal.τ).loc Cert.HeadNormFwdRefIdeal.main_arg2)
          ∧ r.2.mem ((c.tc : Thread Cert.HeadNormFwdRefIdeal.nD Cert.HeadNormFwdRefIdeal.τ).loc Cert.HeadNormFwdRefIdeal.main_arg3) = m' ((c.tc : Thread Cert.HeadNormFwdRefIdeal.nD Cert.HeadNormFwdRefIdeal.τ).loc Cert.HeadNormFwdRefIdeal.main_arg3)
          ∧ r.2.mem ((c.tc : Thread Cert.HeadNormFwdRefIdeal.nD Cert.HeadNormFwdRefIdeal.τ).loc Cert.HeadNormFwdRefIdeal.main_arg4) = m' ((c.tc : Thread Cert.HeadNormFwdRefIdeal.nD Cert.HeadNormFwdRefIdeal.τ).loc Cert.HeadNormFwdRefIdeal.main_arg4)
          ∧ r.2.mem ((c.tc : Thread Cert.HeadNormFwdRefIdeal.nD Cert.HeadNormFwdRefIdeal.τ).loc Cert.HeadNormFwdRefIdeal.main_arg5) = m' ((c.tc : Thread Cert.HeadNormFwdRefIdeal.nD Cert.HeadNormFwdRefIdeal.τ).loc Cert.HeadNormFwdRefIdeal.main_arg5))

def preserves_LowerBounds_LowerBoundsIdeal : Prop :=
  True

def algebraic_LowerBoundsIdeal_LowerBoundsRefIdeal [hLowerBoundsIdeal : Cert.LowerBoundsIdeal.Facts] [hLowerBoundsRefIdeal : Cert.LowerBoundsRefIdeal.Facts] : Prop :=
  ∀ (m : (ℓ : Loc Cert.LowerBoundsIdeal.nD Cert.LowerBoundsIdeal.τ Cert.LowerBoundsIdeal.sig) → Buf (Elt Ideal) ℓ) (g : Dev Cert.LowerBoundsIdeal.nD → PrngReg)
    (m' : (ℓ : Loc Cert.LowerBoundsRefIdeal.nD Cert.LowerBoundsRefIdeal.τ Cert.LowerBoundsRefIdeal.sig) → Buf (Elt Ideal) ℓ) (g' : Dev Cert.LowerBoundsRefIdeal.nD → PrngReg), Pre_LowerBoundsIdeal m →
    (∀ c : Dev Cert.LowerBoundsIdeal.nD,
      m' ((c.tc : Thread Cert.LowerBoundsRefIdeal.nD Cert.LowerBoundsRefIdeal.τ).loc Cert.LowerBoundsRefIdeal.main_arg0) = m ((c.tc : Thread Cert.LowerBoundsIdeal.nD Cert.LowerBoundsIdeal.τ).loc Cert.LowerBoundsIdeal.main_arg0)) →
    ∃ (v0 : (c : Dev Cert.LowerBoundsIdeal.nD) → Buf (Elt Ideal) ((c.tc : Thread Cert.LowerBoundsIdeal.nD Cert.LowerBoundsIdeal.τ).loc Cert.LowerBoundsIdeal.main_v0)),
      θ_run (Cert.LowerBoundsIdeal.defs (F := Ideal)) (onTc (τ := Cert.LowerBoundsIdeal.τ) (Cert.LowerBoundsIdeal.main (F := Ideal))) ⟨m, fun _ => 0, g⟩ (fun r => ∀ c : Dev Cert.LowerBoundsIdeal.nD,
          r.2.mem ((c.tc : Thread Cert.LowerBoundsIdeal.nD Cert.LowerBoundsIdeal.τ).loc Cert.LowerBoundsIdeal.main_v0) = v0 c
          ∧ r.2.mem ((c.tc : Thread Cert.LowerBoundsIdeal.nD Cert.LowerBoundsIdeal.τ).loc Cert.LowerBoundsIdeal.main_arg0) = m ((c.tc : Thread Cert.LowerBoundsIdeal.nD Cert.LowerBoundsIdeal.τ).loc Cert.LowerBoundsIdeal.main_arg0))
      ∧ θ_run (Cert.LowerBoundsRefIdeal.defs (F := Ideal)) (onTc (τ := Cert.LowerBoundsRefIdeal.τ) (Cert.LowerBoundsRefIdeal.main (F := Ideal))) ⟨m', fun _ => 0, g'⟩ (fun r => ∀ c : Dev Cert.LowerBoundsRefIdeal.nD,
          r.2.mem ((c.tc : Thread Cert.LowerBoundsRefIdeal.nD Cert.LowerBoundsRefIdeal.τ).loc Cert.LowerBoundsRefIdeal.main_v13) = v0 c
          ∧ r.2.mem ((c.tc : Thread Cert.LowerBoundsRefIdeal.nD Cert.LowerBoundsRefIdeal.τ).loc Cert.LowerBoundsRefIdeal.main_arg0) = m' ((c.tc : Thread Cert.LowerBoundsRefIdeal.nD Cert.LowerBoundsRefIdeal.τ).loc Cert.LowerBoundsRefIdeal.main_arg0))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)
      ∧ m' ((c.tc : Thread Cert.MixOutFwdRefIdeal.nD Cert.MixOutFwdRefIdeal.τ).loc Cert.MixOutFwdRefIdeal.main_arg4) = m ((c.tc : Thread Cert.MixOutFwdIdeal.nD Cert.MixOutFwdIdeal.τ).loc Cert.MixOutFwdIdeal.main_arg4)) →
    ∃ (v0 : (c : Dev Cert.MixOutFwdIdeal.nD) → Buf (Elt Ideal) ((c.tc : Thread Cert.MixOutFwdIdeal.nD Cert.MixOutFwdIdeal.τ).loc Cert.MixOutFwdIdeal.main_v6)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v6) = v0 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
          ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v21) = v0 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v6_0)) (v1 : (c : Dev Cert.GateUpIdeal.nD) → Buf (Elt Ideal) ((c.tc : Thread Cert.GateUpIdeal.nD Cert.GateUpIdeal.τ).loc Cert.GateUpIdeal.main_v6_1)) (v2 : (c : Dev Cert.GateUpIdeal.nD) → Buf (Elt Ideal) ((c.tc : Thread Cert.GateUpIdeal.nD Cert.GateUpIdeal.τ).loc Cert.GateUpIdeal.main_v6_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v6_0) = v0 c
          ∧ r.2.mem ((c.tc : Thread Cert.GateUpIdeal.nD Cert.GateUpIdeal.τ).loc Cert.GateUpIdeal.main_v6_1) = v1 c
          ∧ r.2.mem ((c.tc : Thread Cert.GateUpIdeal.nD Cert.GateUpIdeal.τ).loc Cert.GateUpIdeal.main_v6_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v7) = v0 c
          ∧ r.2.mem ((c.tc : Thread Cert.GateUpRefIdeal.nD Cert.GateUpRefIdeal.τ).loc Cert.GateUpRefIdeal.main_v8) = v1 c
          ∧ r.2.mem ((c.tc : Thread Cert.GateUpRefIdeal.nD Cert.GateUpRefIdeal.τ).loc Cert.GateUpRefIdeal.main_v9) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_DWGate_DWGateIdeal : Prop :=
  True

def algebraic_DWGateIdeal_DWGateRefIdeal [hDWGateIdeal : Cert.DWGateIdeal.Facts] [hDWGateRefIdeal : Cert.DWGateRefIdeal.Facts] : Prop :=
  ∀ (m : (ℓ : Loc Cert.DWGateIdeal.nD Cert.DWGateIdeal.τ Cert.DWGateIdeal.sig) → Buf (Elt Ideal) ℓ) (g : Dev Cert.DWGateIdeal.nD → PrngReg)
    (m' : (ℓ : Loc Cert.DWGateRefIdeal.nD Cert.DWGateRefIdeal.τ Cert.DWGateRefIdeal.sig) → Buf (Elt Ideal) ℓ) (g' : Dev Cert.DWGateRefIdeal.nD → PrngReg), Pre_DWGateIdeal m →
    (∀ c : Dev Cert.DWGateIdeal.nD,
      m' ((c.tc : Thread Cert.DWGateRefIdeal.nD Cert.DWGateRefIdeal.τ).loc Cert.DWGateRefIdeal.main_arg0) = m ((c.tc : Thread Cert.DWGateIdeal.nD Cert.DWGateIdeal.τ).loc Cert.DWGateIdeal.main_arg0)
      ∧ m' ((c.tc : Thread Cert.DWGateRefIdeal.nD Cert.DWGateRefIdeal.τ).loc Cert.DWGateRefIdeal.main_arg1) = m ((c.tc : Thread Cert.DWGateIdeal.nD Cert.DWGateIdeal.τ).loc Cert.DWGateIdeal.main_arg1)) →
    ∃ (v0 : (c : Dev Cert.DWGateIdeal.nD) → Buf (Elt Ideal) ((c.tc : Thread Cert.DWGateIdeal.nD Cert.DWGateIdeal.τ).loc Cert.DWGateIdeal.main_v0)),
      θ_run (Cert.DWGateIdeal.defs (F := Ideal)) (onTc (τ := Cert.DWGateIdeal.τ) (Cert.DWGateIdeal.main (F := Ideal))) ⟨m, fun _ => 0, g⟩ (fun r => ∀ c : Dev Cert.DWGateIdeal.nD,
          r.2.mem ((c.tc : Thread Cert.DWGateIdeal.nD Cert.DWGateIdeal.τ).loc Cert.DWGateIdeal.main_v0) = v0 c
          ∧ r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
          ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1))
      ∧ θ_run (Cert.DWGateRefIdeal.defs (F := Ideal)) (onTc (τ := Cert.DWGateRefIdeal.τ) (Cert.DWGateRefIdeal.main (F := Ideal))) ⟨m', fun _ => 0, g'⟩ (fun r => ∀ c : Dev Cert.DWGateRefIdeal.nD,
          r.2.mem ((c.tc : Thread Cert.DWGateRefIdeal.nD Cert.DWGateRefIdeal.τ).loc Cert.DWGateRefIdeal.main_v5) = v0 c
          ∧ r.2.mem ((c.tc : Thread Cert.DWGateRefIdeal.nD Cert.DWGateRefIdeal.τ).loc Cert.DWGateRefIdeal.main_arg0) = m' ((c.tc : Thread Cert.DWGateRefIdeal.nD Cert.DWGateRefIdeal.τ).loc Cert.DWGateRefIdeal.main_arg0)
          ∧ r.2.mem ((c.tc : Thread Cert.DWGateRefIdeal.nD Cert.DWGateRefIdeal.τ).loc Cert.DWGateRefIdeal.main_arg1) = m' ((c.tc : Thread Cert.DWGateRefIdeal.nD Cert.DWGateRefIdeal.τ).loc Cert.DWGateRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v3_0)) (v1 : (c : Dev Cert.AdamwIdeal.nD) → Buf (Elt Ideal) ((c.tc : Thread Cert.AdamwIdeal.nD Cert.AdamwIdeal.τ).loc Cert.AdamwIdeal.main_v3_1)) (v2 : (c : Dev Cert.AdamwIdeal.nD) → Buf (Elt Ideal) ((c.tc : Thread Cert.AdamwIdeal.nD Cert.AdamwIdeal.τ).loc Cert.AdamwIdeal.main_v3_2)) (v3 : (c : Dev Cert.AdamwIdeal.nD) → Buf (Elt Ideal) ((c.tc : Thread Cert.AdamwIdeal.nD Cert.AdamwIdeal.τ).loc Cert.AdamwIdeal.main_v3_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v3_0) = v0 c
          ∧ r.2.mem ((c.tc : Thread Cert.AdamwIdeal.nD Cert.AdamwIdeal.τ).loc Cert.AdamwIdeal.main_v3_1) = v1 c
          ∧ r.2.mem ((c.tc : Thread Cert.AdamwIdeal.nD Cert.AdamwIdeal.τ).loc Cert.AdamwIdeal.main_v3_2) = v2 c
          ∧ r.2.mem ((c.tc : Thread Cert.AdamwIdeal.nD Cert.AdamwIdeal.τ).loc Cert.AdamwIdeal.main_v3_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v3) = v0 c
          ∧ r.2.mem ((c.tc : Thread Cert.AdamwRefIdeal.nD Cert.AdamwRefIdeal.τ).loc Cert.AdamwRefIdeal.main_v27) = v1 c
          ∧ r.2.mem ((c.tc : Thread Cert.AdamwRefIdeal.nD Cert.AdamwRefIdeal.τ).loc Cert.AdamwRefIdeal.main_v8) = v2 c
          ∧ r.2.mem ((c.tc : Thread Cert.AdamwRefIdeal.nD Cert.AdamwRefIdeal.τ).loc Cert.AdamwRefIdeal.main_v14) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def preserves_GlaFwd_GlaFwdIdeal : Prop :=
  IdealRules.named_const.Statement Cert.GlaFwdIdeal.κ "log2e" .f32 0x3FB8AA3B#32 (((Real.log 2)⁻¹ : ℝ) : EReal)

def algebraic_GlaFwdIdeal_GlaFwdRefIdeal_pre_finite_gla_fwd [hGlaFwdIdeal : Cert.GlaFwdIdeal.Facts] [hGlaFwdRefIdeal : Cert.GlaFwdRefIdeal.Facts] [hPre_finite_gla_fwd : Cert.Pre_finite_gla_fwd.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal_finite_gla_fwd m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)) →
    ∃ (v0 : (c : Dev Cert.GlaFwdIdeal.nD) → Buf (Elt Ideal) ((c.tc : Thread Cert.GlaFwdIdeal.nD Cert.GlaFwdIdeal.τ).loc Cert.GlaFwdIdeal.main_v22_0)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v22_0) = v0 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v66) = v0 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1))

def preserves_GlaFwdRev_GlaFwdRevIdeal : Prop :=
  IdealRules.named_const.Statement Cert.GlaFwdRevIdeal.κ "log2e" .f32 0x3FB8AA3B#32 (((Real.log 2)⁻¹ : ℝ) : EReal)

def algebraic_GlaFwdRevIdeal_GlaFwdRevRefIdeal_pre_finite_gla_fwd [hGlaFwdRevIdeal : Cert.GlaFwdRevIdeal.Facts] [hGlaFwdRevRefIdeal : Cert.GlaFwdRevRefIdeal.Facts] [hPre_finite_gla_fwd : Cert.Pre_finite_gla_fwd.Facts] : Prop :=
  ∀ (m : (ℓ : Loc Cert.GlaFwdRevIdeal.nD Cert.GlaFwdRevIdeal.τ Cert.GlaFwdRevIdeal.sig) → Buf (Elt Ideal) ℓ) (g : Dev Cert.GlaFwdRevIdeal.nD → PrngReg)
    (m' : (ℓ : Loc Cert.GlaFwdRevRefIdeal.nD Cert.GlaFwdRevRefIdeal.τ Cert.GlaFwdRevRefIdeal.sig) → Buf (Elt Ideal) ℓ) (g' : Dev Cert.GlaFwdRevRefIdeal.nD → PrngReg), Pre_GlaFwdRevIdeal_finite_gla_fwd m →
    (∀ c : Dev Cert.GlaFwdRevIdeal.nD,
      m' ((c.tc : Thread Cert.GlaFwdRevRefIdeal.nD Cert.GlaFwdRevRefIdeal.τ).loc Cert.GlaFwdRevRefIdeal.main_arg0) = m ((c.tc : Thread Cert.GlaFwdRevIdeal.nD Cert.GlaFwdRevIdeal.τ).loc Cert.GlaFwdRevIdeal.main_arg0)
      ∧ m' ((c.tc : Thread Cert.GlaFwdRevRefIdeal.nD Cert.GlaFwdRevRefIdeal.τ).loc Cert.GlaFwdRevRefIdeal.main_arg1) = m ((c.tc : Thread Cert.GlaFwdRevIdeal.nD Cert.GlaFwdRevIdeal.τ).loc Cert.GlaFwdRevIdeal.main_arg1)) →
    ∃ (v0 : (c : Dev Cert.GlaFwdRevIdeal.nD) → Buf (Elt Ideal) ((c.tc : Thread Cert.GlaFwdRevIdeal.nD Cert.GlaFwdRevIdeal.τ).loc Cert.GlaFwdRevIdeal.main_v22_0)),
      θ_run (Cert.GlaFwdRevIdeal.defs (F := Ideal)) (onTc (τ := Cert.GlaFwdRevIdeal.τ) (Cert.GlaFwdRevIdeal.main (F := Ideal))) ⟨m, fun _ => 0, g⟩ (fun r => ∀ c : Dev Cert.GlaFwdRevIdeal.nD,
          r.2.mem ((c.tc : Thread Cert.GlaFwdRevIdeal.nD Cert.GlaFwdRevIdeal.τ).loc Cert.GlaFwdRevIdeal.main_v22_0) = v0 c
          ∧ r.2.mem ((c.tc : Thread Cert.GlaFwdRevIdeal.nD Cert.GlaFwdRevIdeal.τ).loc Cert.GlaFwdRevIdeal.main_arg0) = m ((c.tc : Thread Cert.GlaFwdRevIdeal.nD Cert.GlaFwdRevIdeal.τ).loc Cert.GlaFwdRevIdeal.main_arg0)
          ∧ r.2.mem ((c.tc : Thread Cert.GlaFwdRevIdeal.nD Cert.GlaFwdRevIdeal.τ).loc Cert.GlaFwdRevIdeal.main_arg1) = m ((c.tc : Thread Cert.GlaFwdRevIdeal.nD Cert.GlaFwdRevIdeal.τ).loc Cert.GlaFwdRevIdeal.main_arg1))
      ∧ θ_run (Cert.GlaFwdRevRefIdeal.defs (F := Ideal)) (onTc (τ := Cert.GlaFwdRevRefIdeal.τ) (Cert.GlaFwdRevRefIdeal.main (F := Ideal))) ⟨m', fun _ => 0, g'⟩ (fun r => ∀ c : Dev Cert.GlaFwdRevRefIdeal.nD,
          r.2.mem ((c.tc : Thread Cert.GlaFwdRevRefIdeal.nD Cert.GlaFwdRevRefIdeal.τ).loc Cert.GlaFwdRevRefIdeal.main_v71) = v0 c
          ∧ r.2.mem ((c.tc : Thread Cert.GlaFwdRevRefIdeal.nD Cert.GlaFwdRevRefIdeal.τ).loc Cert.GlaFwdRevRefIdeal.main_arg0) = m' ((c.tc : Thread Cert.GlaFwdRevRefIdeal.nD Cert.GlaFwdRevRefIdeal.τ).loc Cert.GlaFwdRevRefIdeal.main_arg0)
          ∧ r.2.mem ((c.tc : Thread Cert.GlaFwdRevRefIdeal.nD Cert.GlaFwdRevRefIdeal.τ).loc Cert.GlaFwdRevRefIdeal.main_arg1) = m' ((c.tc : Thread Cert.GlaFwdRevRefIdeal.nD Cert.GlaFwdRevRefIdeal.τ).loc Cert.GlaFwdRevRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v18) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def Claim : Prop :=
  ∃ (hSwigluBwd : Cert.SwigluBwd.Facts) (hSwigluBwdIdeal : Cert.SwigluBwdIdeal.Facts) (hSwigluRefIdeal : Cert.SwigluRefIdeal.Facts) (hAttnBwd : Cert.AttnBwd.Facts) (hAttnBwdIdeal : Cert.AttnBwdIdeal.Facts) (hAttnBwdRefIdeal : Cert.AttnBwdRefIdeal.Facts) (hNormPleBwd : Cert.NormPleBwd.Facts) (hNormPleBwdIdeal : Cert.NormPleBwdIdeal.Facts) (hNormPleRefIdeal : Cert.NormPleRefIdeal.Facts) (hNormFfnBwd : Cert.NormFfnBwd.Facts) (hNormFfnBwdIdeal : Cert.NormFfnBwdIdeal.Facts) (hNormFfnRefIdeal : Cert.NormFfnRefIdeal.Facts) (hNormMixBwd : Cert.NormMixBwd.Facts) (hNormMixBwdIdeal : Cert.NormMixBwdIdeal.Facts) (hNormMixRefIdeal : Cert.NormMixRefIdeal.Facts) (hPleLoss : Cert.PleLoss.Facts) (hPleLossIdeal : Cert.PleLossIdeal.Facts) (hPleLossRefIdeal : Cert.PleLossRefIdeal.Facts) (hLatentNormBwd : Cert.LatentNormBwd.Facts) (hLatentNormBwdIdeal : Cert.LatentNormBwdIdeal.Facts) (hLatentNormRefIdeal : Cert.LatentNormRefIdeal.Facts) (hMixOutBwd : Cert.MixOutBwd.Facts) (hMixOutBwdIdeal : Cert.MixOutBwdIdeal.Facts) (hMixOutRefIdeal : Cert.MixOutRefIdeal.Facts) (hHeadNormBwd : Cert.HeadNormBwd.Facts) (hHeadNormBwdIdeal : Cert.HeadNormBwdIdeal.Facts) (hHeadNormRefIdeal : Cert.HeadNormRefIdeal.Facts) (hAttnFwd : Cert.AttnFwd.Facts) (hAttnFwdIdeal : Cert.AttnFwdIdeal.Facts) (hAttnFwdRefIdeal : Cert.AttnFwdRefIdeal.Facts) (hGlaBwd : Cert.GlaBwd.Facts) (hGlaBwdIdeal : Cert.GlaBwdIdeal.Facts) (hGlaBwdRev : Cert.GlaBwdRev.Facts) (hGlaBwdRevIdeal : Cert.GlaBwdRevIdeal.Facts) (hNormIn : Cert.NormIn.Facts) (hNormInIdeal : Cert.NormInIdeal.Facts) (hNormInRefIdeal : Cert.NormInRefIdeal.Facts) (hLatentNormFwd : Cert.LatentNormFwd.Facts) (hLatentNormFwdIdeal : Cert.LatentNormFwdIdeal.Facts) (hLatentNormFwdRefIdeal : Cert.LatentNormFwdRefIdeal.Facts) (hHeadNormFwd : Cert.HeadNormFwd.Facts) (hHeadNormFwdIdeal : Cert.HeadNormFwdIdeal.Facts) (hHeadNormFwdRefIdeal : Cert.HeadNormFwdRefIdeal.Facts) (hLowerBounds : Cert.LowerBounds.Facts) (hLowerBoundsIdeal : Cert.LowerBoundsIdeal.Facts) (hLowerBoundsRefIdeal : Cert.LowerBoundsRefIdeal.Facts) (hMixOutFwd : Cert.MixOutFwd.Facts) (hMixOutFwdIdeal : Cert.MixOutFwdIdeal.Facts) (hMixOutFwdRefIdeal : Cert.MixOutFwdRefIdeal.Facts) (hOutProj : Cert.OutProj.Facts) (hOutProjIdeal : Cert.OutProjIdeal.Facts) (hOutProjRefIdeal : Cert.OutProjRefIdeal.Facts) (hGateUp : Cert.GateUp.Facts) (hGateUpIdeal : Cert.GateUpIdeal.Facts) (hGateUpRefIdeal : Cert.GateUpRefIdeal.Facts) (hDWGate : Cert.DWGate.Facts) (hDWGateIdeal : Cert.DWGateIdeal.Facts) (hDWGateRefIdeal : Cert.DWGateRefIdeal.Facts) (hAdamw : Cert.Adamw.Facts) (hAdamwIdeal : Cert.AdamwIdeal.Facts) (hAdamwRefIdeal : Cert.AdamwRefIdeal.Facts) (hGlaFwd : Cert.GlaFwd.Facts) (hGlaFwdIdeal : Cert.GlaFwdIdeal.Facts) (hGlaFwdRefIdeal : Cert.GlaFwdRefIdeal.Facts) (hGlaFwdRev : Cert.GlaFwdRev.Facts) (hGlaFwdRevIdeal : Cert.GlaFwdRevIdeal.Facts) (hGlaFwdRevRefIdeal : Cert.GlaFwdRevRefIdeal.Facts) (hFfnDown : Cert.FfnDown.Facts) (hFfnDownIdeal : Cert.FfnDownIdeal.Facts) (hFfnDownRefIdeal : Cert.FfnDownRefIdeal.Facts) (hPre_finite_swiglu : Cert.Pre_finite_swiglu.Facts) (hPre_finite_attention_bwd : Cert.Pre_finite_attention_bwd.Facts) (hPre_finite_attention_fwd : Cert.Pre_finite_attention_fwd.Facts) (hPre_finite_gla_fwd : Cert.Pre_finite_gla_fwd.Facts),
    quiescent_SwigluBwd (hSwigluBwd := hSwigluBwd)
    ∧ quiescent_SwigluBwdIdeal (hSwigluBwdIdeal := hSwigluBwdIdeal)
    ∧ quiescent_SwigluBwdIdeal_pre_finite_swiglu (hSwigluBwdIdeal := hSwigluBwdIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_AttnBwd (hAttnBwd := hAttnBwd)
    ∧ quiescent_AttnBwdIdeal (hAttnBwdIdeal := hAttnBwdIdeal)
    ∧ quiescent_AttnBwdIdeal_pre_finite_attention_bwd (hAttnBwdIdeal := hAttnBwdIdeal) (hPre_finite_attention_bwd := hPre_finite_attention_bwd)
    ∧ quiescent_AttnBwdRefIdeal (hAttnBwdRefIdeal := hAttnBwdRefIdeal)
    ∧ quiescent_AttnBwdRefIdeal_pre_finite_attention_bwd (hAttnBwdRefIdeal := hAttnBwdRefIdeal) (hPre_finite_attention_bwd := hPre_finite_attention_bwd)
    ∧ quiescent_NormPleBwd (hNormPleBwd := hNormPleBwd)
    ∧ quiescent_NormPleBwdIdeal (hNormPleBwdIdeal := hNormPleBwdIdeal)
    ∧ quiescent_NormPleRefIdeal (hNormPleRefIdeal := hNormPleRefIdeal)
    ∧ quiescent_NormFfnBwd (hNormFfnBwd := hNormFfnBwd)
    ∧ quiescent_NormFfnBwdIdeal (hNormFfnBwdIdeal := hNormFfnBwdIdeal)
    ∧ quiescent_NormFfnRefIdeal (hNormFfnRefIdeal := hNormFfnRefIdeal)
    ∧ quiescent_NormMixBwd (hNormMixBwd := hNormMixBwd)
    ∧ quiescent_NormMixBwdIdeal (hNormMixBwdIdeal := hNormMixBwdIdeal)
    ∧ quiescent_NormMixRefIdeal (hNormMixRefIdeal := hNormMixRefIdeal)
    ∧ quiescent_PleLoss (hPleLoss := hPleLoss)
    ∧ quiescent_PleLossIdeal (hPleLossIdeal := hPleLossIdeal)
    ∧ quiescent_PleLossRefIdeal (hPleLossRefIdeal := hPleLossRefIdeal)
    ∧ quiescent_LatentNormBwd (hLatentNormBwd := hLatentNormBwd)
    ∧ quiescent_LatentNormBwdIdeal (hLatentNormBwdIdeal := hLatentNormBwdIdeal)
    ∧ quiescent_LatentNormRefIdeal (hLatentNormRefIdeal := hLatentNormRefIdeal)
    ∧ quiescent_MixOutBwd (hMixOutBwd := hMixOutBwd)
    ∧ quiescent_MixOutBwdIdeal (hMixOutBwdIdeal := hMixOutBwdIdeal)
    ∧ quiescent_MixOutRefIdeal (hMixOutRefIdeal := hMixOutRefIdeal)
    ∧ quiescent_HeadNormBwd (hHeadNormBwd := hHeadNormBwd)
    ∧ quiescent_HeadNormBwdIdeal (hHeadNormBwdIdeal := hHeadNormBwdIdeal)
    ∧ quiescent_HeadNormRefIdeal (hHeadNormRefIdeal := hHeadNormRefIdeal)
    ∧ quiescent_AttnFwd (hAttnFwd := hAttnFwd)
    ∧ quiescent_AttnFwdIdeal (hAttnFwdIdeal := hAttnFwdIdeal)
    ∧ quiescent_AttnFwdIdeal_pre_finite_attention_fwd (hAttnFwdIdeal := hAttnFwdIdeal) (hPre_finite_attention_fwd := hPre_finite_attention_fwd)
    ∧ quiescent_AttnFwdRefIdeal (hAttnFwdRefIdeal := hAttnFwdRefIdeal)
    ∧ quiescent_AttnFwdRefIdeal_pre_finite_attention_fwd (hAttnFwdRefIdeal := hAttnFwdRefIdeal) (hPre_finite_attention_fwd := hPre_finite_attention_fwd)
    ∧ quiescent_GlaBwd (hGlaBwd := hGlaBwd)
    ∧ quiescent_GlaBwdIdeal (hGlaBwdIdeal := hGlaBwdIdeal)
    ∧ quiescent_GlaBwdRev (hGlaBwdRev := hGlaBwdRev)
    ∧ quiescent_GlaBwdRevIdeal (hGlaBwdRevIdeal := hGlaBwdRevIdeal)
    ∧ quiescent_NormIn (hNormIn := hNormIn)
    ∧ quiescent_NormInIdeal (hNormInIdeal := hNormInIdeal)
    ∧ quiescent_NormInRefIdeal (hNormInRefIdeal := hNormInRefIdeal)
    ∧ quiescent_LatentNormFwd (hLatentNormFwd := hLatentNormFwd)
    ∧ quiescent_LatentNormFwdIdeal (hLatentNormFwdIdeal := hLatentNormFwdIdeal)
    ∧ quiescent_LatentNormFwdRefIdeal (hLatentNormFwdRefIdeal := hLatentNormFwdRefIdeal)
    ∧ quiescent_HeadNormFwd (hHeadNormFwd := hHeadNormFwd)
    ∧ quiescent_HeadNormFwdIdeal (hHeadNormFwdIdeal := hHeadNormFwdIdeal)
    ∧ quiescent_HeadNormFwdRefIdeal (hHeadNormFwdRefIdeal := hHeadNormFwdRefIdeal)
    ∧ quiescent_LowerBounds (hLowerBounds := hLowerBounds)
    ∧ quiescent_LowerBoundsIdeal (hLowerBoundsIdeal := hLowerBoundsIdeal)
    ∧ quiescent_LowerBoundsRefIdeal (hLowerBoundsRefIdeal := hLowerBoundsRefIdeal)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_DWGate (hDWGate := hDWGate)
    ∧ quiescent_DWGateIdeal (hDWGateIdeal := hDWGateIdeal)
    ∧ quiescent_DWGateRefIdeal (hDWGateRefIdeal := hDWGateRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_GlaFwd (hGlaFwd := hGlaFwd)
    ∧ quiescent_GlaFwdIdeal (hGlaFwdIdeal := hGlaFwdIdeal)
    ∧ quiescent_GlaFwdIdeal_pre_finite_gla_fwd (hGlaFwdIdeal := hGlaFwdIdeal) (hPre_finite_gla_fwd := hPre_finite_gla_fwd)
    ∧ quiescent_GlaFwdRefIdeal (hGlaFwdRefIdeal := hGlaFwdRefIdeal)
    ∧ quiescent_GlaFwdRefIdeal_pre_finite_gla_fwd (hGlaFwdRefIdeal := hGlaFwdRefIdeal) (hPre_finite_gla_fwd := hPre_finite_gla_fwd)
    ∧ quiescent_GlaFwdRev (hGlaFwdRev := hGlaFwdRev)
    ∧ quiescent_GlaFwdRevIdeal (hGlaFwdRevIdeal := hGlaFwdRevIdeal)
    ∧ quiescent_GlaFwdRevIdeal_pre_finite_gla_fwd (hGlaFwdRevIdeal := hGlaFwdRevIdeal) (hPre_finite_gla_fwd := hPre_finite_gla_fwd)
    ∧ quiescent_GlaFwdRevRefIdeal (hGlaFwdRevRefIdeal := hGlaFwdRevRefIdeal)
    ∧ quiescent_GlaFwdRevRefIdeal_pre_finite_gla_fwd (hGlaFwdRevRefIdeal := hGlaFwdRevRefIdeal) (hPre_finite_gla_fwd := hPre_finite_gla_fwd)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_SwigluBwd_SwigluBwdIdeal
    ∧ algebraic_SwigluBwdIdeal_SwigluRefIdeal_pre_finite_swiglu (hSwigluBwdIdeal := hSwigluBwdIdeal) (hSwigluRefIdeal := hSwigluRefIdeal) (hPre_finite_swiglu := hPre_finite_swiglu)
    ∧ preserves_AttnBwd_AttnBwdIdeal
    ∧ algebraic_AttnBwdIdeal_AttnBwdRefIdeal_pre_finite_attention_bwd (hAttnBwdIdeal := hAttnBwdIdeal) (hAttnBwdRefIdeal := hAttnBwdRefIdeal) (hPre_finite_attention_bwd := hPre_finite_attention_bwd)
    ∧ preserves_NormPleBwd_NormPleBwdIdeal
    ∧ algebraic_NormPleBwdIdeal_NormPleRefIdeal (hNormPleBwdIdeal := hNormPleBwdIdeal) (hNormPleRefIdeal := hNormPleRefIdeal)
    ∧ preserves_NormFfnBwd_NormFfnBwdIdeal
    ∧ algebraic_NormFfnBwdIdeal_NormFfnRefIdeal (hNormFfnBwdIdeal := hNormFfnBwdIdeal) (hNormFfnRefIdeal := hNormFfnRefIdeal)
    ∧ preserves_NormMixBwd_NormMixBwdIdeal
    ∧ algebraic_NormMixBwdIdeal_NormMixRefIdeal (hNormMixBwdIdeal := hNormMixBwdIdeal) (hNormMixRefIdeal := hNormMixRefIdeal)
    ∧ preserves_PleLoss_PleLossIdeal
    ∧ algebraic_PleLossIdeal_PleLossRefIdeal (hPleLossIdeal := hPleLossIdeal) (hPleLossRefIdeal := hPleLossRefIdeal)
    ∧ preserves_LatentNormBwd_LatentNormBwdIdeal
    ∧ algebraic_LatentNormBwdIdeal_LatentNormRefIdeal (hLatentNormBwdIdeal := hLatentNormBwdIdeal) (hLatentNormRefIdeal := hLatentNormRefIdeal)
    ∧ preserves_MixOutBwd_MixOutBwdIdeal
    ∧ algebraic_MixOutBwdIdeal_MixOutRefIdeal (hMixOutBwdIdeal := hMixOutBwdIdeal) (hMixOutRefIdeal := hMixOutRefIdeal)
    ∧ preserves_HeadNormBwd_HeadNormBwdIdeal
    ∧ algebraic_HeadNormBwdIdeal_HeadNormRefIdeal (hHeadNormBwdIdeal := hHeadNormBwdIdeal) (hHeadNormRefIdeal := hHeadNormRefIdeal)
    ∧ preserves_AttnFwd_AttnFwdIdeal
    ∧ algebraic_AttnFwdIdeal_AttnFwdRefIdeal_pre_finite_attention_fwd (hAttnFwdIdeal := hAttnFwdIdeal) (hAttnFwdRefIdeal := hAttnFwdRefIdeal) (hPre_finite_attention_fwd := hPre_finite_attention_fwd)
    ∧ preserves_GlaBwd_GlaBwdIdeal
    ∧ preserves_GlaBwdRev_GlaBwdRevIdeal
    ∧ preserves_NormIn_NormInIdeal
    ∧ algebraic_NormInIdeal_NormInRefIdeal (hNormInIdeal := hNormInIdeal) (hNormInRefIdeal := hNormInRefIdeal)
    ∧ preserves_LatentNormFwd_LatentNormFwdIdeal
    ∧ algebraic_LatentNormFwdIdeal_LatentNormFwdRefIdeal (hLatentNormFwdIdeal := hLatentNormFwdIdeal) (hLatentNormFwdRefIdeal := hLatentNormFwdRefIdeal)
    ∧ preserves_HeadNormFwd_HeadNormFwdIdeal
    ∧ algebraic_HeadNormFwdIdeal_HeadNormFwdRefIdeal (hHeadNormFwdIdeal := hHeadNormFwdIdeal) (hHeadNormFwdRefIdeal := hHeadNormFwdRefIdeal)
    ∧ preserves_LowerBounds_LowerBoundsIdeal
    ∧ algebraic_LowerBoundsIdeal_LowerBoundsRefIdeal (hLowerBoundsIdeal := hLowerBoundsIdeal) (hLowerBoundsRefIdeal := hLowerBoundsRefIdeal)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
    ∧ preserves_OutProj_OutProjIdeal
    ∧ algebraic_OutProjIdeal_OutProjRefIdeal (hOutProjIdeal := hOutProjIdeal) (hOutProjRefIdeal := hOutProjRefIdeal)
    ∧ preserves_GateUp_GateUpIdeal
    ∧ algebraic_GateUpIdeal_GateUpRefIdeal (hGateUpIdeal := hGateUpIdeal) (hGateUpRefIdeal := hGateUpRefIdeal)
    ∧ preserves_DWGate_DWGateIdeal
    ∧ algebraic_DWGateIdeal_DWGateRefIdeal (hDWGateIdeal := hDWGateIdeal) (hDWGateRefIdeal := hDWGateRefIdeal)
    ∧ preserves_Adamw_AdamwIdeal
    ∧ algebraic_AdamwIdeal_AdamwRefIdeal (hAdamwIdeal := hAdamwIdeal) (hAdamwRefIdeal := hAdamwRefIdeal)
    ∧ preserves_GlaFwd_GlaFwdIdeal
    ∧ algebraic_GlaFwdIdeal_GlaFwdRefIdeal_pre_finite_gla_fwd (hGlaFwdIdeal := hGlaFwdIdeal) (hGlaFwdRefIdeal := hGlaFwdRefIdeal) (hPre_finite_gla_fwd := hPre_finite_gla_fwd)
    ∧ preserves_GlaFwdRev_GlaFwdRevIdeal
    ∧ algebraic_GlaFwdRevIdeal_GlaFwdRevRefIdeal_pre_finite_gla_fwd (hGlaFwdRevIdeal := hGlaFwdRevIdeal) (hGlaFwdRevRefIdeal := hGlaFwdRevRefIdeal) (hPre_finite_gla_fwd := hPre_finite_gla_fwd)
    ∧ preserves_FfnDown_FfnDownIdeal
    ∧ algebraic_FfnDownIdeal_FfnDownRefIdeal (hFfnDownIdeal := hFfnDownIdeal) (hFfnDownRefIdeal := hFfnDownRefIdeal)
-- ==== Pre_finite_attention_bwd.lean ====
abbrev S4x4096x192 : Shape := ⟨3, ![4, 4096, 192]⟩
abbrev S4x4096x128 : Shape := ⟨3, ![4, 4096, 128]⟩
abbrev S4096x1024 : Shape := ⟨2, ![4096, 1024]⟩
abbrev S_ : Shape := ⟨0, ![]⟩

class Facts : Prop where
  bitsLt_bf16_f32 : FTy.bits .bf16 < FTy.bits .f32
  bcast_S_S4x4096x192 : S_.BroadcastsInDim S4x4096x192 (![] : Fin 0 → Fin S4x4096x192.rank)
  reducesTo_S4x4096x192_S_d0_1_2 : S4x4096x192.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v16 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v16 main_v20
  main_v21

def fn {F : FTy → Type} [FloatOps F] (main_arg0 : FVec F S4x4096x192 .bf16) (main_arg1 : FVec F S4x4096x192 .bf16) (main_arg2 : FVec F S4x4096x128 .bf16) (main_arg3 : FVec F S4096x1024 .f32) : IVec S_ 1 :=
  let main_v0 : FVec F S4x4096x192 .f32 := (extf .f32 · bitsLt_bf16_f32) main_arg0
  let main_v1 : FVec F S4x4096x192 .f32 := Host.absf main_v0
  let main_cst : FVec F S_ .f32 := constant S_ .f32 0x7F800000#32
  let main_v2 : FVec F S4x4096x192 .f32 := broadcastInDim S4x4096x192 ![] bcast_S_S4x4096x192 main_cst
  let main_v3 : IVec S4x4096x192 1 := cmpf .olt main_v1 main_v2
  let main_c : IVec S_ 1 := constantI S_ 1 1#1
  let main_v4 : IVec S_ 1 := (fun x v => Host.reduce IntOp.andi x v reducesTo_S4x4096x192_S_d0_1_2 h_S_) main_v3 main_c
  let main_v5 : FVec F S4x4096x192 .f32 := (extf .f32 · bitsLt_bf16_f32) main_arg1
  let main_v6 : FVec F S4x4096x192 .f32 := Host.absf main_v5
  let main_cst_0 : FVec F S_ .f32 := constant S_ .f32 0x7F800000#32
  let main_v7 : FVec F S4x4096x192 .f32 := broadcastInDim S4x4096x192 ![] bcast_S_S4x4096x192 main_cst_0
  let main_v8 : IVec S4x4096x192 1 := cmpf .olt main_v6 main_v7
  let main_c_1 : IVec S_ 1 := constantI S_ 1 1#1
  let main_v9 : IVec S_ 1 := (fun x v => Host.reduce IntOp.andi x v reducesTo_S4x4096x192_S_d0_1_2 h_S_) main_v8 main_c_1
  let main_v10 : IVec S_ 1 := andi main_v4 main_v9
  let main_v11 : FVec F S4x4096x128 .f32 := (extf .f32 · bitsLt_bf16_f32) main_arg2
  let main_v12 : FVec F S4x4096x128 .f32 := Host.absf main_v11
  let main_cst_2 : FVec F S_ .f32 := constant S_ .f32 0x7F800000#32
  let main_v13 : FVec F S4x4096x128 .f32 := broadcastInDim S4x4096x128 ![] bcast_S_S4x4096x128 main_cst_2
  let main_v14 : IVec S4x4096x128 1 := cmpf .olt main_v12 main_v13
  let main_c_3 : IVec S_ 1 := constantI S_ 1 1#1
  let main_v15 : IVec S_ 1 := (fun x v => Host.reduce IntOp.andi x v reducesTo_S4x4096x128_S_d0_1_2 h_S_) main_v14 main_c_3
  let main_v16 : IVec S_ 1 := andi main_v10 main_v15
  let main_v17 : FVec F S4096x1024 .f32 := Host.absf main_arg3
  fn_part1 (F := F) main_v16 main_v17
-- ==== Pre_finite_attention_fwd.lean ====
abbrev S4x4096x192 : Shape := ⟨3, ![4, 4096, 192]⟩
abbrev S4x4096x128 : Shape := ⟨3, ![4, 4096, 128]⟩
abbrev S_ : Shape := ⟨0, ![]⟩

class Facts : Prop where
  bitsLt_bf16_f32 : FTy.bits .bf16 < FTy.bits .f32
  bcast_S_S4x4096x192 : S_.BroadcastsInDim S4x4096x192 (![] : Fin 0 → Fin S4x4096x192.rank)
  reducesTo_S4x4096x192_S_d0_1_2 : S4x4096x192.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_

variable [Facts]

def fn {F : FTy → Type} [FloatOps F] (main_arg0 : FVec F S4x4096x192 .bf16) (main_arg1 : FVec F S4x4096x192 .bf16) (main_arg2 : FVec F S4x4096x128 .bf16) : IVec S_ 1 :=
  let main_v0 : FVec F S4x4096x192 .f32 := (extf .f32 · bitsLt_bf16_f32) main_arg0
  let main_v1 : FVec F S4x4096x192 .f32 := Host.absf main_v0
  let main_cst : FVec F S_ .f32 := constant S_ .f32 0x7F800000#32
  let main_v2 : FVec F S4x4096x192 .f32 := broadcastInDim S4x4096x192 ![] bcast_S_S4x4096x192 main_cst
  let main_v3 : IVec S4x4096x192 1 := cmpf .olt main_v1 main_v2
  let main_c : IVec S_ 1 := constantI S_ 1 1#1
  let main_v4 : IVec S_ 1 := (fun x v => Host.reduce IntOp.andi x v reducesTo_S4x4096x192_S_d0_1_2 h_S_) main_v3 main_c
  let main_v5 : FVec F S4x4096x192 .f32 := (extf .f32 · bitsLt_bf16_f32) main_arg1
  let main_v6 : FVec F S4x4096x192 .f32 := Host.absf main_v5
  let main_cst_0 : FVec F S_ .f32 := constant S_ .f32 0x7F800000#32
  let main_v7 : FVec F S4x4096x192 .f32 := broadcastInDim S4x4096x192 ![] bcast_S_S4x4096x192 main_cst_0
  let main_v8 : IVec S4x4096x192 1 := cmpf .olt main_v6 main_v7
  let main_c_1 : IVec S_ 1 := constantI S_ 1 1#1
  let main_v9 : IVec S_ 1 := (fun x v => Host.reduce IntOp.andi x v reducesTo_S4x4096x192_S_d0_1_2 h_S_) main_v8 main_c_1
  let main_v10 : IVec S_ 1 := andi main_v4 main_v9
  let main_v11 : FVec F S4x4096x128 .f32 := (extf .f32 · bitsLt_bf16_f32) main_arg2
  let main_v12 : FVec F S4x4096x128 .f32 := Host.absf main_v11
  let main_cst_2 : FVec F S_ .f32 := constant S_ .f32 0x7F800000#32
  let main_v13 : FVec F S4x4096x128 .f32 := broadcastInDim S4x4096x128 ![] bcast_S_S4x4096x128 main_cst_2
  let main_v14 : IVec S4x4096x128 1 := cmpf .olt main_v12 main_v13
  let main_c_3 : IVec S_ 1 := constantI S_ 1 1#1
  let main_v15 : IVec S_ 1 := (fun x v => Host.reduce IntOp.andi x v reducesTo_S4x4096x128_S_d0_1_2 h_S_) main_v14 main_c_3
  let main_v16 : IVec S_ 1 := andi main_v10 main_v15
  main_v16
-- ==== Pre_finite_gla_fwd.lean ====
abbrev S4096x3136 : Shape := ⟨2, ![4096, 3136]⟩
abbrev S2x2x512 : Shape := ⟨3, ![2, 2, 512]⟩
abbrev S_ : Shape := ⟨0, ![]⟩

class Facts : Prop where
  bcast_S_S4096x3136 : S_.BroadcastsInDim S4096x3136 (![] : Fin 0 → Fin S4096x3136.rank)
  reducesTo_S4096x3136_S_d0_1 : S4096x3136.ReducesTo [0, 1] S_
  h_S_ : 0 < S_.numel
  bcast_S_S2x2x512 : S_.BroadcastsInDim S2x2x512 (![] : Fin 0 → Fin S2x2x512.rank)
  reducesTo_S2x2x512_S_d0_1_2 : S2x2x512.ReducesTo [0, 1, 2] S_

variable [Facts]

def fn {F : FTy → Type} [FloatOps F] (main_arg0 : FVec F S4096x3136 .f32) (main_arg1 : FVec F S2x2x512 .f32) : IVec S_ 1 :=
  let main_v0 : FVec F S4096x3136 .f32 := Host.absf main_arg0
  let main_cst : FVec F S_ .f32 := constant S_ .f32 0x7F800000#32
  let main_v1 : FVec F S4096x3136 .f32 := broadcastInDim S4096x3136 ![] bcast_S_S4096x3136 main_cst
  let main_v2 : IVec S4096x3136 1 := cmpf .olt main_v0 main_v1
  let main_c : IVec S_ 1 := constantI S_ 1 1#1
  let main_v3 : IVec S_ 1 := (fun x v => Host.reduce IntOp.andi x v reducesTo_S4096x3136_S_d0_1 h_S_) main_v2 main_c
  let main_v4 : FVec F S2x2x512 .f32 := Host.absf main_arg1
  let main_cst_0 : FVec F S_ .f32 := constant S_ .f32 0x7F800000#32
  let main_v5 : FVec F S2x2x512 .f32 := broadcastInDim S2x2x512 ![] bcast_S_S2x2x512 main_cst_0
  let main_v6 : IVec S2x2x512 1 := cmpf .olt main_v4 main_v5
  let main_c_1 : IVec S_ 1 := constantI S_ 1 1#1
  let main_v7 : IVec S_ 1 := (fun x v => Host.reduce IntOp.andi x v reducesTo_S2x2x512_S_d0_1_2 h_S_) main_v6 main_c_1
  let main_v8 : IVec S_ 1 := andi main_v3 main_v7
  main_v8
-- ==== Pre_finite_swiglu.lean ====
abbrev S4096x2816 : Shape := ⟨2, ![4096, 2816]⟩
abbrev S1x2816x1024 : Shape := ⟨3, ![1, 2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .bf16) (main_arg1 : FVec F S4096x2816 .bf16) (main_arg2 : FVec F S1x2816x1024 .f32) (main_arg3 : FVec F S4096x1024 .bf16) : IVec S_ 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S1x2816x1024 .f32 := Host.absf main_arg2
  let main_cst_0 : FVec F S_ .f32 := constant S_ .f32 0x7F800000#32
  let main_v6 : FVec F S1x2816x1024 .f32 := broadcastInDim S1x2816x1024 ![] bcast_S_S1x2816x1024 main_cst_0
  let main_v7 : IVec S1x2816x1024 1 := cmpf .olt main_v5 main_v6
  let main_c_1 : IVec S_ 1 := constantI S_ 1 1#1
  let main_v8 : IVec S_ 1 := (fun x v => Host.reduce IntOp.andi x v reducesTo_S1x2816x1024_S_d0_1_2 h_S_) main_v7 main_c_1
  let main_v9 : IVec S_ 1 := andi main_v4 main_v8
  let main_v10 : FVec F S4096x1024 .f32 := (extf .f32 · bitsLt_bf16_f32) main_arg3
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== SwigluBwd.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S256x1024 : Shape := ⟨2, ![256, 1024]⟩
abbrev S256x2816 : Shape := ⟨2, ![256, 2816]⟩

abbrev nBuf : Space → Nat
  | .hbm => 8
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x2816x1024, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S4096x2816, .bf16⟩
  | .hbm, ⟨7, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwigluRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S_ : Shape := ⟨0, ![]⟩
abbrev S2816x1024 : Shape := ⟨2, ![2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== AttnBwd.lean ====
abbrev S4x4096x192 : Shape := ⟨3, ![4, 4096, 192]⟩
abbrev S4x4096x128 : Shape := ⟨3, ![4, 4096, 128]⟩
abbrev S4096x1024 : Shape := ⟨2, ![4096, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096x4x128 : Shape := ⟨3, ![4096, 4, 128]⟩
abbrev S4096x512 : Shape := ⟨2, ![4096, 512]⟩
abbrev S4x4x1x1024 : Shape := ⟨4, ![4, 4, 1, 1024]⟩
abbrev S1x4096x192 : Shape := ⟨3, ![1, 4096, 192]⟩
abbrev S1x1024x192 : Shape := ⟨3, ![1, 1024, 192]⟩
abbrev S1x1024x128 : Shape := ⟨3, ![1, 1024, 128]⟩
abbrev S4096x128 : Shape := ⟨2, ![4096, 128]⟩
abbrev S1x4x1x1024 : Shape := ⟨4, ![1, 4, 1, 1024]⟩
abbrev S4x8x1024 : Shape := ⟨3, ![4, 8, 1024]⟩
abbrev S8x128 : Shape := ⟨2, ![8, 128]⟩
abbrev S8x4096 : Shape := ⟨2, ![8, 4096]⟩
abbrev S8x1024 : Shape := ⟨2, ![8, 1024]⟩
abbrev S1x8x1024 : Shape := ⟨3, ![1, 8, 1024]⟩
abbrev S4096x192 : Shape := ⟨2, ![4096, 192]⟩
abbrev S1024x192 : Shape := ⟨2, ![1024, 192]⟩
abbrev S1024x128 : Shape := ⟨2, ![1024, 128]⟩
abbrev S1024x1024 : Shape := ⟨2, ![1024, 1024]⟩
abbrev S1x1x1x1024 : Shape := ⟨4, ![1, 1, 1, 1024]⟩
abbrev S1x1024 : Shape := ⟨2, ![1, 1024]⟩
abbrev S1x1x1024 : Shape := ⟨3, ![1, 1, 1024]⟩

abbrev nBuf : Space → Nat
  | .hbm => 34
  | .vmem => 19
  | .smem => 0
  | _ => 0

abbrev bufTy : (tb : Table) → Fin (tcTables nBuf tb) → BufTy
  | .hbm, ⟨0, _⟩ => ⟨S4x4096x192, .bf16⟩
  | .hbm, ⟨1, _⟩ => ⟨S4x4096x192, .bf16⟩
  | .hbm, ⟨2, _⟩ => ⟨S4x4096x128, .bf16⟩
  | .hbm, ⟨3, _⟩ => ⟨S4096x1024, .f32⟩
  | .hbm, ⟨4, _⟩ => ⟨S4x4096x4096, .f32⟩
  | .hbm, ⟨5, _⟩ => ⟨S_, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x128, .f32⟩
  | .hbm, ⟨21, _⟩ => ⟨S4x128x4096, .f32⟩
  | .hbm, ⟨22, _⟩ => ⟨S4096x4x128, .f32⟩
  | .hbm, ⟨23, _⟩ => ⟨S4096x512, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4x1x1024, .f32⟩
  | .hbm, ⟨31, _⟩ => ⟨S4x4096x192, .f32⟩
  | .hbm, ⟨32, _⟩ => ⟨S4x4096x192, .f32⟩
  | .hbm, ⟨33, _⟩ => ⟨S4x4096x128, .f32⟩
  | .local _ .vmem, ⟨0, _⟩ => ⟨S1x4096x192, .bf16⟩
  | .local _ .vmem, ⟨1, _⟩ => ⟨S1x4096x192, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .f32⟩
  | .local _ .vmem, ⟨7, _⟩ => ⟨S4096x128, .f32⟩
  | .local _ .vmem, ⟨8, _⟩ => ⟨S1x4x1x1024, .f32⟩
  | .local _ .vmem, ⟨9, _⟩ => ⟨S1x4x1x1024, .f32⟩
  | .local _ .vmem, ⟨10, _⟩ => ⟨S4096x128, .f32⟩
  | .local _ .vmem, ⟨11, _⟩ => ⟨S4096x128, .f32⟩
  | .local _ .vmem, ⟨12, _⟩ => ⟨S1x4096x192, .f32⟩
  | .local _ .vmem, ⟨13, _⟩ => ⟨S1x4096x192, .f32⟩
  | .local _ .vmem, ⟨14, _⟩ => ⟨S1x1024x192, .f32⟩
  | .local _ .vmem, ⟨15, _⟩ => ⟨S1x1024x192, .f32⟩
  | .local _ .vmem, ⟨16, _⟩ => ⟨S1x1024x128, .f32⟩
  | .local _ .vmem, ⟨17, _⟩ => ⟨S1x1024x128, .f32⟩
  | .local _ .vmem, ⟨18, _⟩ => ⟨S4x8x1024, .f32⟩
  | _, _ => ⟨S4x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_mult1 : BitVec 32 :=
  let c0_i32_13 : BitVec 32 := 0#32
  let c1024_i32 : BitVec 32 := 1024#32
  let v15 : BitVec 32 := Scalar.muli c0_i32_13 c1024_i32
  v15
def k0_off1 (c0_i32_13 : BitVec 32) : Fin 3 → Nat :=
  let c0_14 : Index := 0#32
  let c1024_i32 : BitVec 32 := 1024#32
  let v15 : BitVec 32 := Scalar.muli c0_i32_13 c1024_i32
  let v16 : BitVec 32 := v15
  let v17 : Index := Scalar.indexCast v16
  let c0_15 : Index := 0#32
  ![0, v17.toNat, 0]
def k0_off2 (c0_i32_13 : BitVec 32) : Fin 2 → Nat :=
  let c1024_i32 : BitVec 32 := 1024#32
  let v15 : BitVec 32 := Scalar.muli c0_i32_13 c1024_i32
  let v16 : BitVec 32 := v15
  let v20 : Index := Scalar.indexCast v16
  let c0_16 : Index := 0#32
  ![v20.toNat, 0]
def k0_mult2 : BitVec 32 :=
  let c1_i32 : BitVec 32 := 1#32
  let c1024_i32_45 : BitVec 32 := 1024#32
  let v67 : BitVec 32 := Scalar.muli c1_i32 c1024_i32_45
  v67
def k0_mult3 : BitVec 32 :=
  let c2_i32 : BitVec 32 := 2#32
  let c1024_i32_77 : BitVec 32 := 1024#32
  let v119 : BitVec 32 := Scalar.muli c2_i32 c1024_i32_77
  v119
def k0_mult4 : BitVec 32 :=
  let c3_i32 : BitVec 32 := 3#32
  let c1024_i32_109 : BitVec 32 := 1024#32
  let v171 : BitVec 32 := Scalar.muli c3_i32 c1024_i32_109
  v171
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "c2" => some (((Real.sqrt 192)⁻¹ * (Real.log 2)⁻¹ : ℝ) : EReal)
  | "scale" => some (((Real.sqrt 192)⁻¹ : ℝ) : EReal)
  | _ => none
-- ==== AttnBwdRefIdeal.lean ====
abbrev S4x4096x192 : Shape := ⟨3, ![4, 4096, 192]⟩
abbrev S4x4096x128 : Shape := ⟨3, ![4, 4096, 128]⟩
abbrev S4096x1024 : Shape := ⟨2, ![4096, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096x4x128 : Shape := ⟨3, ![4096, 4, 128]⟩
abbrev S4096x512 : Shape := ⟨2, ![4096, 512]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x192, .bf16⟩
  | .hbm, ⟨1, _⟩ => ⟨S4x4096x192, .bf16⟩
  | .hbm, ⟨2, _⟩ => ⟨S4x4096x128, .bf16⟩
  | .hbm, ⟨3, _⟩ => ⟨S4096x1024, .f32⟩
  | .hbm, ⟨4, _⟩ => ⟨S4x4096x192, .f32⟩
  | .hbm, ⟨5, _⟩ => ⟨S4x4096x192, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .i1⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .i1⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x4096, .f32⟩
  | .hbm, ⟨45, _⟩ => ⟨S4x4096x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x128x4096, .f32⟩
  | .hbm, ⟨51, _⟩ => ⟨S4096x4x128, .f32⟩
  | .hbm, ⟨52, _⟩ => ⟨S4096x512, .f32⟩
  | .hbm, ⟨53, _⟩ => ⟨S4096x512, .f32⟩
  | .hbm, ⟨54, _⟩ => ⟨S4096x4x128, .f32⟩
  | .hbm, ⟨55, _⟩ => ⟨S4x128x4096, .f32⟩
  | .hbm, ⟨56, _⟩ => ⟨S4x4096x4096, .f32⟩
  | .hbm, ⟨57, _⟩ => ⟨S4x128x4096, .f32⟩
  | .hbm, ⟨58, _⟩ => ⟨S4x4096x128, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x1, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x4096, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S4x4096x192, .f32⟩
  | .hbm, ⟨76, _⟩ => ⟨S4x4096x192, .f32⟩
  | _, _ => ⟨S4x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== NormPleBwd.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let arg1 : BitVec 32 := BitVec.ofNat 32 (i 1).val
  let c0_i32_19 : BitVec 32 := 0#32
  let v37 : BitVec 1 := Scalar.cmpi .eq arg1 c0_i32_19
  let v38 : BitVec 1 := Scalar.andi v36 v37
  let v39 : BitVec 32 := Scalar.extui v38
  let c0_i32_20 : BitVec 32 := 0#32
  let v40 : BitVec 1 := Scalar.cmpi .ne v39 c0_i32_20
  v40

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let arg1 : BitVec 32 := BitVec.ofNat 32 (i 1).val
  let c0_i32_19 : BitVec 32 := 0#32
  let v37 : BitVec 1 := Scalar.cmpi .eq arg1 c0_i32_19
  let v38 : BitVec 1 := Scalar.andi v36 v37
  let v_true : BitVec 1 := 1#1
  let v41 : BitVec 1 := Scalar.xori v38 v_true
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== NormPleRefIdeal.lean ====
abbrev S4096x1024 : Shape := ⟨2, ![4096, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== NormFfnBwd.lean ====
abbrev S4096x1024 : Shape := ⟨2, ![4096, 1024]⟩
abbrev S4096x2816 : Shape := ⟨2, ![4096, 2816]⟩
abbrev S1x1024x2816 : Shape := ⟨3, ![1, 1024, 2816]⟩
abbrev S1x1024 : Shape := ⟨2, ![1, 1024]⟩
abbrev S1024x2816 : Shape := ⟨2, ![1024, 2816]⟩
abbrev S2816x1024 : Shape := ⟨2, ![2816, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .bf16⟩
  | .hbm, ⟨3, _⟩ => ⟨S4096x2816, .bf16⟩
  | .hbm, ⟨4, _⟩ => ⟨S1x1024x2816, .f32⟩
  | .hbm, ⟨5, _⟩ => ⟨S1x1024x2816, .f32⟩
  | .hbm, ⟨6, _⟩ => ⟨S1x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_24 : BitVec 32 := 0#32
  let v42 : BitVec 1 := Scalar.cmpi .eq arg1 c0_i32_24
  let v43 : BitVec 1 := Scalar.andi v41 v42
  let v44 : BitVec 32 := Scalar.extui v43
  let c0_i32_25 : BitVec 32 := 0#32
  let v45 : BitVec 1 := Scalar.cmpi .ne v44 c0_i32_25
  v45

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_24 : BitVec 32 := 0#32
  let v42 : BitVec 1 := Scalar.cmpi .eq arg1 c0_i32_24
  let v43 : BitVec 1 := Scalar.andi v41 v42
  let v_true : BitVec 1 := 1#1
  let v46 : BitVec 1 := Scalar.xori v43 v_true
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== NormFfnRefIdeal.lean ====
abbrev S4096x1024 : Shape := ⟨2, ![4096, 1024]⟩
abbrev S4096x2816 : Shape := ⟨2, ![4096, 2816]⟩
abbrev S1x1024x2816 : Shape := ⟨3, ![1, 1024, 2816]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .bf16⟩
  | .hbm, ⟨3, _⟩ => ⟨S4096x2816, .bf16⟩
  | .hbm, ⟨4, _⟩ => ⟨S1x1024x2816, .f32⟩
  | .hbm, ⟨5, _⟩ => ⟨S1x1024x2816, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== NormMixBwd.lean ====
abbrev S4096x1024 : Shape := ⟨2, ![4096, 1024]⟩
abbrev S4096x3136 : Shape := ⟨2, ![4096, 3136]⟩
abbrev S1x1024x3136 : Shape := ⟨3, ![1, 1024, 3136]⟩
abbrev S1x1024 : Shape := ⟨2, ![1, 1024]⟩
abbrev S4096x64 : Shape := ⟨2, ![4096, 64]⟩
abbrev S_ : Shape := ⟨0, ![]⟩
abbrev S4096x128 : Shape := ⟨2, ![4096, 128]⟩
abbrev S4096x512 : Shape := ⟨2, ![4096, 512]⟩
abbrev S4096x2560 : Shape := ⟨2, ![4096, 2560]⟩
abbrev S4096x3200 : Shape := ⟨2, ![4096, 3200]⟩
abbrev S1024x3136 : Shape := ⟨2, ![1024, 3136]⟩
abbrev S3136x1024 : Shape := ⟨2, ![3136, 1024]⟩
abbrev S64x1024 : Shape := ⟨2, ![64, 1024]⟩
abbrev S512x1024 : Shape := ⟨2, ![512, 1024]⟩
abbrev S2560x1024 : Shape := ⟨2, ![2560, 1024]⟩
abbrev S3200x1024 : Shape := ⟨2, ![3200, 1024]⟩
abbrev S512x3200 : Shape := ⟨2, ![512, 3200]⟩
abbrev S512 : Shape := ⟨1, ![512]⟩
abbrev S512x1 : Shape := ⟨2, ![512, 1]⟩
abbrev S1024 : Shape := ⟨1, ![1024]⟩

abbrev nBuf : Space → Nat
  | .hbm => 23
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3136, .bf16⟩
  | .hbm, ⟨3, _⟩ => ⟨S1x1024x3136, .f32⟩
  | .hbm, ⟨4, _⟩ => ⟨S1x1024, .f32⟩
  | .hbm, ⟨5, _⟩ => ⟨S4096x64, .bf16⟩
  | .hbm, ⟨6, _⟩ => ⟨S_, .i32⟩
  | .hbm, ⟨7, _⟩ => ⟨S_, .bf16⟩
  | .hbm, ⟨8, _⟩ => ⟨S4096x128, .bf16⟩
  | .hbm, ⟨9, _⟩ => ⟨S4096x512, .bf16⟩
  | .hbm, ⟨10, _⟩ => ⟨S4096x2560, .bf16⟩
  | .hbm, ⟨11, _⟩ => ⟨S4096x3200, .bf16⟩
  | .hbm, ⟨12, _⟩ => ⟨S1024x3136, .f32⟩
  | .hbm, ⟨13, _⟩ => ⟨S3136x1024, .f32⟩
  | .hbm, ⟨14, _⟩ => ⟨S3136x1024, .bf16⟩
  | .hbm, ⟨15, _⟩ => ⟨S_, .bf16⟩
  | .hbm, ⟨16, _⟩ => ⟨S64x1024, .bf16⟩
  | .hbm, ⟨17, _⟩ => ⟨S512x1024, .bf16⟩
  | .hbm, ⟨18, _⟩ => ⟨S2560x1024, .bf16⟩
  | .hbm, ⟨19, _⟩ => ⟨S64x1024, .bf16⟩
  | .hbm, ⟨20, _⟩ => ⟨S3200x1024, .bf16⟩
  | .hbm, ⟨21, _⟩ => ⟨S4096x1024, .f32⟩
  | .hbm, ⟨22, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S3200x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let arg1 : BitVec 32 := BitVec.ofNat 32 (i 1).val
  let c0_i32_17 : BitVec 32 := 0#32
  let v36 : BitVec 1 := Scalar.cmpi .eq arg1 c0_i32_17
  let v37 : BitVec 1 := Scalar.andi v35 v36
  let v38 : BitVec 32 := Scalar.extui v37
  let c0_i32_18 : BitVec 32 := 0#32
  let v39 : BitVec 1 := Scalar.cmpi .ne v38 c0_i32_18
  v39

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let arg1 : BitVec 32 := BitVec.ofNat 32 (i 1).val
  let c0_i32_17 : BitVec 32 := 0#32
  let v36 : BitVec 1 := Scalar.cmpi .eq arg1 c0_i32_17
  let v37 : BitVec 1 := Scalar.andi v35 v36
  let v_true : BitVec 1 := 1#1
  let v40 : BitVec 1 := Scalar.xori v37 v_true
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== NormMixRefIdeal.lean ====
abbrev S4096x1024 : Shape := ⟨2, ![4096, 1024]⟩
abbrev S4096x3136 : Shape := ⟨2, ![4096, 3136]⟩
abbrev S1x1024x3136 : Shape := ⟨3, ![1, 1024, 3136]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3136 : Shape := ⟨2, ![1024, 3136]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3136, .bf16⟩
  | .hbm, ⟨3, _⟩ => ⟨S1x1024x3136, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x3136, .f32⟩
  | .hbm, ⟨27, _⟩ => ⟨S4096x3136, .f32⟩
  | .hbm, ⟨28, _⟩ => ⟨S4096x3136, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== PleLoss.lean ====
abbrev S4096x1024 : Shape := ⟨2, ![4096, 1024]⟩
abbrev S1x1024x1024 : Shape := ⟨3, ![1, 1024, 1024]⟩
abbrev S1024x1024 : Shape := ⟨2, ![1024, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let arg1 : BitVec 32 := BitVec.ofNat 32 (i 1).val
  let c0_i32_24 : BitVec 32 := 0#32
  let v40 : BitVec 1 := Scalar.cmpi .eq arg1 c0_i32_24
  let v41 : BitVec 1 := Scalar.andi v39 v40
  let v42 : BitVec 32 := Scalar.extui v41
  let c0_i32_25 : BitVec 32 := 0#32
  let v43 : BitVec 1 := Scalar.cmpi .ne v42 c0_i32_25
  v43

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let arg1 : BitVec 32 := BitVec.ofNat 32 (i 1).val
  let c0_i32_24 : BitVec 32 := 0#32
  let v40 : BitVec 1 := Scalar.cmpi .eq arg1 c0_i32_24
  let v41 : BitVec 1 := Scalar.andi v39 v40
  let v_true : BitVec 1 := 1#1
  let v44 : BitVec 1 := Scalar.xori v41 v_true
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== PleLossRefIdeal.lean ====
abbrev S4096x1024 : Shape := ⟨2, ![4096, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S4096x1024, .bf16⟩
  | .hbm, ⟨50, _⟩ => ⟨S1x1, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== LatentNormBwd.lean ====
abbrev S4096x3136 : Shape := ⟨2, ![4096, 3136]⟩
abbrev S4096x256 : Shape := ⟨2, ![4096, 256]⟩
abbrev S1x256 : Shape := ⟨2, ![1, 256]⟩
abbrev S4096x512 : Shape := ⟨2, ![4096, 512]⟩
abbrev S4096x2560 : Shape := ⟨2, ![4096, 2560]⟩
abbrev S4096x64 : Shape := ⟨2, ![4096, 64]⟩
abbrev S_ : Shape := ⟨0, ![]⟩
abbrev S4096x128 : Shape := ⟨2, ![4096, 128]⟩
abbrev S4096x3200 : Shape := ⟨2, ![4096, 3200]⟩
abbrev S1024x256 : Shape := ⟨2, ![1024, 256]⟩
abbrev S1024 : Shape := ⟨1, ![1024]⟩
abbrev S1024x1 : Shape := ⟨2, ![1024, 1]⟩
abbrev S256 : Shape := ⟨1, ![256]⟩

abbrev nBuf : Space → Nat
  | .hbm => 16
  | .vmem => 16
  | .smem => 0
  | _ => 0

abbrev bufTy : (tb : Table) → Fin (tcTables nBuf tb) → BufTy
  | .hbm, ⟨0, _⟩ => ⟨S4096x3136, .f32⟩
  | .hbm, ⟨1, _⟩ => ⟨S4096x256, .f32⟩
  | .hbm, ⟨2, _⟩ => ⟨S4096x256, .f32⟩
  | .hbm, ⟨3, _⟩ => ⟨S1x256, .f32⟩
  | .hbm, ⟨4, _⟩ => ⟨S1x256, .f32⟩
  | .hbm, ⟨5, _⟩ => ⟨S4096x512, .f32⟩
  | .hbm, ⟨6, _⟩ => ⟨S4096x2560, .f32⟩
  | .hbm, ⟨7, _⟩ => ⟨S4096x64, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x3200, .f32⟩
  | .hbm, ⟨12, _⟩ => ⟨S4096x256, .bf16⟩
  | .hbm, ⟨13, _⟩ => ⟨S4096x256, .bf16⟩
  | .hbm, ⟨14, _⟩ => ⟨S1x256, .f32⟩
  | .hbm, ⟨15, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1x256, .f32⟩
  | .local _ .vmem, ⟨15, _⟩ => ⟨S1x256, .f32⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_30 : BitVec 32 := 0#32
  let v80 : BitVec 1 := Scalar.cmpi .ne v79 c0_i32_30
  v80

def k0_cond2 (i : grid0.Coords) : BitVec 1 :=
  let arg0 : BitVec 32 := BitVec.ofNat 32 (i 0).val
  let c0_i32_31 : BitVec 32 := 0#32
  let v81 : BitVec 1 := Scalar.cmpi .sgt arg0 c0_i32_31
  let v82 : BitVec 32 := Scalar.extui v81
  let c0_i32_32 : BitVec 32 := 0#32
  let v83 : BitVec 1 := Scalar.cmpi .ne v82 c0_i32_32
  v83

def k0_cond3 (i : grid0.Coords) : BitVec 1 :=
  let arg0 : BitVec 32 := BitVec.ofNat 32 (i 0).val
  let c0_i32_33 : BitVec 32 := 0#32
  let v84 : BitVec 1 := Scalar.cmpi .eq arg0 c0_i32_33
  let v85 : BitVec 32 := Scalar.extui v84
  let c0_i32_34 : BitVec 32 := 0#32
  let v86 : BitVec 1 := Scalar.cmpi .ne v85 c0_i32_34
  v86

def k0_cond4 (i : grid0.Coords) : BitVec 1 :=
  let arg0 : BitVec 32 := BitVec.ofNat 32 (i 0).val
  let c0_i32_35 : BitVec 32 := 0#32
  let v87 : BitVec 1 := Scalar.cmpi .sgt arg0 c0_i32_35
  let v88 : BitVec 32 := Scalar.extui v87
  let c0_i32_36 : BitVec 32 := 0#32
  let v89 : BitVec 1 := Scalar.cmpi .ne v88 c0_i32_36
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LatentNormRefIdeal.lean ====
abbrev S4096x3136 : Shape := ⟨2, ![4096, 3136]⟩
abbrev S4096x256 : Shape := ⟨2, ![4096, 256]⟩
abbrev S1x256 : Shape := ⟨2, ![1, 256]⟩
abbrev S256 : Shape := ⟨1, ![256]⟩
abbrev S_ : Shape := ⟨0, ![]⟩
abbrev S4096 : Shape := ⟨1, ![4096]⟩
abbrev S4096x1 : Shape := ⟨2, ![4096, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x3136, .f32⟩
  | .hbm, ⟨1, _⟩ => ⟨S4096x256, .f32⟩
  | .hbm, ⟨2, _⟩ => ⟨S4096x256, .f32⟩
  | .hbm, ⟨3, _⟩ => ⟨S1x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x256, .f32⟩
  | .hbm, ⟨45, _⟩ => ⟨S4096x256, .f32⟩
  | .hbm, ⟨46, _⟩ => ⟨S1x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S256, .f32⟩
  | .hbm, ⟨57, _⟩ => ⟨S4096x256, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x256, .f32⟩
  | .hbm, ⟨62, _⟩ => ⟨S4096x256, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S1x256, .f32⟩
  | .hbm, ⟨75, _⟩ => ⟨S4096x256, .f32⟩
  | .hbm, ⟨76, _⟩ => ⟨S_, .f32⟩
  | .hbm, ⟨77, _⟩ => ⟨S256, .f32⟩
  | .hbm, ⟨78, _⟩ => ⟨S1x256, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S256, .f32⟩
  | .hbm, ⟨83, _⟩ => ⟨S4096x256, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x256, .f32⟩
  | .hbm, ⟨88, _⟩ => ⟨S4096x256, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S4096x256, .f32⟩
  | .hbm, ⟨100, _⟩ => ⟨S1x256, .f32⟩
  | .hbm, ⟨101, _⟩ => ⟨S4096x256, .bf16⟩
  | .hbm, ⟨102, _⟩ => ⟨S4096x256, .bf16⟩
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== MixOutBwd.lean ====
abbrev S4096x512 : Shape := ⟨2, ![4096, 512]⟩
abbrev S4096x3136 : Shape := ⟨2, ![4096, 3136]⟩
abbrev S4096x1024 : Shape := ⟨2, ![4096, 1024]⟩
abbrev S1x4x128 : Shape := ⟨3, ![1, 4, 128]⟩
abbrev S4096x2560 : Shape := ⟨2, ![4096, 2560]⟩
abbrev S4096x64 : Shape := ⟨2, ![4096, 64]⟩
abbrev S_ : Shape := ⟨0, ![]⟩
abbrev S4096x128 : Shape := ⟨2, ![4096, 128]⟩
abbrev S4096x3200 : Shape := ⟨2, ![4096, 3200]⟩
abbrev S1x512 : Shape := ⟨2, ![1, 512]⟩
abbrev S1024x512 : Shape := ⟨2, ![1024, 512]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1024x1024 : Shape := ⟨2, ![1024, 1024]⟩
abbrev S128 : Shape := ⟨1, ![128]⟩
abbrev S1x384 : Shape := ⟨2, ![1, 384]⟩
abbrev S1024x384 : Shape := ⟨2, ![1024, 384]⟩
abbrev S1x256 : Shape := ⟨2, ![1, 256]⟩
abbrev S1024x256 : Shape := ⟨2, ![1024, 256]⟩

abbrev nBuf : Space → Nat
  | .hbm => 16
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3136, .f32⟩
  | .hbm, ⟨3, _⟩ => ⟨S4096x1024, .f32⟩
  | .hbm, ⟨4, _⟩ => ⟨S1x4x128, .f32⟩
  | .hbm, ⟨5, _⟩ => ⟨S4096x512, .f32⟩
  | .hbm, ⟨6, _⟩ => ⟨S4096x2560, .f32⟩
  | .hbm, ⟨7, _⟩ => ⟨S4096x64, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x3200, .f32⟩
  | .hbm, ⟨12, _⟩ => ⟨S1x512, .f32⟩
  | .hbm, ⟨13, _⟩ => ⟨S4096x512, .f32⟩
  | .hbm, ⟨14, _⟩ => ⟨S4096x512, .bf16⟩
  | .hbm, ⟨15, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v309 : BitVec 1 := Scalar.cmpi .eq arg0 c0_i32
  let v310 : BitVec 32 := Scalar.extui v309
  let c0_i32_86 : BitVec 32 := 0#32
  let v311 : BitVec 1 := Scalar.cmpi .ne v310 c0_i32_86
  v311

def k0_cond2 (i : grid0.Coords) : BitVec 1 :=
  let arg0 : BitVec 32 := BitVec.ofNat 32 (i 0).val
  let c0_i32_87 : BitVec 32 := 0#32
  let v312 : BitVec 1 := Scalar.cmpi .sgt arg0 c0_i32_87
  let v313 : BitVec 32 := Scalar.extui v312
  let c0_i32_88 : BitVec 32 := 0#32
  let v314 : BitVec 1 := Scalar.cmpi .ne v313 c0_i32_88
  v314

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixOutRefIdeal.lean ====
abbrev S4096x512 : Shape := ⟨2, ![4096, 512]⟩
abbrev S4096x3136 : Shape := ⟨2, ![4096, 3136]⟩
abbrev S4096x1024 : Shape := ⟨2, ![4096, 1024]⟩
abbrev S1x4x128 : Shape := ⟨3, ![1, 4, 128]⟩
abbrev S4096x4x128 : Shape := ⟨3, ![4096, 4, 128]⟩
abbrev S4x128 : Shape := ⟨2, ![4, 128]⟩
abbrev S_ : Shape := ⟨0, ![]⟩
abbrev S4096x4 : Shape := ⟨2, ![4096, 4]⟩
abbrev S4096x4x1 : Shape := ⟨3, ![4096, 4, 1]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3136, .f32⟩
  | .hbm, ⟨3, _⟩ => ⟨S4096x1024, .f32⟩
  | .hbm, ⟨4, _⟩ => ⟨S1x4x128, .f32⟩
  | .hbm, ⟨5, _⟩ => ⟨S4096x512, .f32⟩
  | .hbm, ⟨6, _⟩ => ⟨S4096x512, .f32⟩
  | .hbm, ⟨7, _⟩ => ⟨S4096x4x128, .f32⟩
  | .hbm, ⟨8, _⟩ => ⟨S4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x128, .f32⟩
  | .hbm, ⟨25, _⟩ => ⟨S4096x4x128, .f32⟩
  | .hbm, ⟨26, _⟩ => ⟨S1x4x128, .f32⟩
  | .hbm, ⟨27, _⟩ => ⟨S4096x4x128, .f32⟩
  | .hbm, ⟨28, _⟩ => ⟨S4096x4x128, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x4x128, .f32⟩
  | .hbm, ⟨52, _⟩ => ⟨S4096x4x128, .f32⟩
  | .hbm, ⟨53, _⟩ => ⟨S_, .f32⟩
  | .hbm, ⟨54, _⟩ => ⟨S4x128, .f32⟩
  | .hbm, ⟨55, _⟩ => ⟨S1x4x128, .f32⟩
  | .hbm, ⟨56, _⟩ => ⟨S4096x4x128, .f32⟩
  | .hbm, ⟨57, _⟩ => ⟨S4096x4x128, .f32⟩
  | .hbm, ⟨58, _⟩ => ⟨S_, .f32⟩
  | .hbm, ⟨59, _⟩ => ⟨S4x128, .f32⟩
  | .hbm, ⟨60, _⟩ => ⟨S4096x4x128, .f32⟩
  | .hbm, ⟨61, _⟩ => ⟨S_, .f32⟩
  | .hbm, ⟨62, _⟩ => ⟨S4096x4, .f32⟩
  | .hbm, ⟨63, _⟩ => ⟨S4096x4x1, .f32⟩
  | .hbm, ⟨64, _⟩ => ⟨S4096x4x128, .f32⟩
  | .hbm, ⟨65, _⟩ => ⟨S4096x4x128, .f32⟩
  | .hbm, ⟨66, _⟩ => ⟨S4096x4x1, .f32⟩
  | .hbm, ⟨67, _⟩ => ⟨S_, .f32⟩
  | .hbm, ⟨68, _⟩ => ⟨S4096x4x1, .f32⟩
  | .hbm, ⟨69, _⟩ => ⟨S4096x4x1, .f32⟩
  | .hbm, ⟨70, _⟩ => ⟨S_, .f32⟩
  | .hbm, ⟨71, _⟩ => ⟨S4096x4, .f32⟩
  | .hbm, ⟨72, _⟩ => ⟨S4096x4x128, .f32⟩
  | .hbm, ⟨73, _⟩ => ⟨S4096x4x128, .f32⟩
  | .hbm, ⟨74, _⟩ => ⟨S4096x4x128, .f32⟩
  | .hbm, ⟨75, _⟩ => ⟨S4096x4x128, .f32⟩
  | .hbm, ⟨76, _⟩ => ⟨S4096x4x128, .f32⟩
  | .hbm, ⟨77, _⟩ => ⟨S1x4x128, .f32⟩
  | .hbm, ⟨78, _⟩ => ⟨S4096x512, .f32⟩
  | .hbm, ⟨79, _⟩ => ⟨S4096x512, .bf16⟩
  | .hbm, ⟨80, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== HeadNormBwd.lean ====
abbrev S4096x768 : Shape := ⟨2, ![4096, 768]⟩
abbrev S4096x1024 : Shape := ⟨2, ![4096, 1024]⟩
abbrev S4096x3136 : Shape := ⟨2, ![4096, 3136]⟩
abbrev S4096x32 : Shape := ⟨2, ![4096, 32]⟩
abbrev S4x4096x192 : Shape := ⟨3, ![4, 4096, 192]⟩
abbrev S4x4096x128 : Shape := ⟨3, ![4, 4096, 128]⟩
abbrev S1x192 : Shape := ⟨2, ![1, 192]⟩
abbrev S4096x512 : Shape := ⟨2, ![4096, 512]⟩
abbrev S4096x2560 : Shape := ⟨2, ![4096, 2560]⟩
abbrev S4096x64 : Shape := ⟨2, ![4096, 64]⟩
abbrev S_ : Shape := ⟨0, ![]⟩
abbrev S4096x128 : Shape := ⟨2, ![4096, 128]⟩
abbrev S4096x3200 : Shape := ⟨2, ![4096, 3200]⟩
abbrev S512x768 : Shape := ⟨2, ![512, 768]⟩
abbrev S512x1024 : Shape := ⟨2, ![512, 1024]⟩
abbrev S512x128 : Shape := ⟨2, ![512, 128]⟩
abbrev S512x32 : Shape := ⟨2, ![512, 32]⟩
abbrev S4x512x192 : Shape := ⟨3, ![4, 512, 192]⟩
abbrev S4x512x128 : Shape := ⟨3, ![4, 512, 128]⟩
abbrev S512x64 : Shape := ⟨2, ![512, 64]⟩
abbrev S512x192 : Shape := ⟨2, ![512, 192]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩
abbrev S1x512x192 : Shape := ⟨3, ![1, 512, 192]⟩
abbrev S192 : Shape := ⟨1, ![192]⟩
abbrev S512x576 : Shape := ⟨2, ![512, 576]⟩
abbrev S512x512 : Shape := ⟨2, ![512, 512]⟩
abbrev S512x384 : Shape := ⟨2, ![512, 384]⟩

abbrev nBuf : Space → Nat
  | .hbm => 22
  | .vmem => 26
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S4096x3136, .f32⟩
  | .hbm, ⟨3, _⟩ => ⟨S4096x32, .f32⟩
  | .hbm, ⟨4, _⟩ => ⟨S4096x32, .f32⟩
  | .hbm, ⟨5, _⟩ => ⟨S4x4096x192, .f32⟩
  | .hbm, ⟨6, _⟩ => ⟨S4x4096x192, .f32⟩
  | .hbm, ⟨7, _⟩ => ⟨S4x4096x128, .f32⟩
  | .hbm, ⟨8, _⟩ => ⟨S1x192, .f32⟩
  | .hbm, ⟨9, _⟩ => ⟨S1x192, .f32⟩
  | .hbm, ⟨10, _⟩ => ⟨S4096x512, .f32⟩
  | .hbm, ⟨11, _⟩ => ⟨S4096x2560, .f32⟩
  | .hbm, ⟨12, _⟩ => ⟨S4096x64, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x3200, .f32⟩
  | .hbm, ⟨17, _⟩ => ⟨S4096x768, .bf16⟩
  | .hbm, ⟨18, _⟩ => ⟨S4096x1024, .bf16⟩
  | .hbm, ⟨19, _⟩ => ⟨S4096x128, .bf16⟩
  | .hbm, ⟨20, _⟩ => ⟨S1x192, .f32⟩
  | .hbm, ⟨21, _⟩ => ⟨S1x192, .f32⟩
  | .local _ .vmem, ⟨0, _⟩ => ⟨S512x768, .f32⟩
  | .local _ .vmem, ⟨1, _⟩ => ⟨S512x768, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x32, .f32⟩
  | .local _ .vmem, ⟨7, _⟩ => ⟨S512x32, .f32⟩
  | .local _ .vmem, ⟨8, _⟩ => ⟨S512x32, .f32⟩
  | .local _ .vmem, ⟨9, _⟩ => ⟨S512x32, .f32⟩
  | .local _ .vmem, ⟨10, _⟩ => ⟨S4x512x192, .f32⟩
  | .local _ .vmem, ⟨11, _⟩ => ⟨S4x512x192, .f32⟩
  | .local _ .vmem, ⟨12, _⟩ => ⟨S4x512x192, .f32⟩
  | .local _ .vmem, ⟨13, _⟩ => ⟨S4x512x192, .f32⟩
  | .local _ .vmem, ⟨14, _⟩ => ⟨S4x512x128, .f32⟩
  | .local _ .vmem, ⟨15, _⟩ => ⟨S4x512x128, .f32⟩
  | .local _ .vmem, ⟨16, _⟩ => ⟨S1x192, .f32⟩
  | .local _ .vmem, ⟨17, _⟩ => ⟨S1x192, .f32⟩
  | .local _ .vmem, ⟨18, _⟩ => ⟨S512x768, .bf16⟩
  | .local _ .vmem, ⟨19, _⟩ => ⟨S512x768, .bf16⟩
  | .local _ .vmem, ⟨20, _⟩ => ⟨S512x1024, .bf16⟩
  | .local _ .vmem, ⟨21, _⟩ => ⟨S512x1024, .bf16⟩
  | .local _ .vmem, ⟨22, _⟩ => ⟨S512x128, .bf16⟩
  | .local _ .vmem, ⟨23, _⟩ => ⟨S512x128, .bf16⟩
  | .local _ .vmem, ⟨24, _⟩ => ⟨S1x192, .f32⟩
  | .local _ .vmem, ⟨25, _⟩ => ⟨S1x192, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v567 : BitVec 1 := Scalar.cmpi .eq arg0 c0_i32
  let v568 : BitVec 32 := Scalar.extui v567
  let c0_i32_148 : BitVec 32 := 0#32
  let v569 : BitVec 1 := Scalar.cmpi .ne v568 c0_i32_148
  v569

def k0_cond2 (i : grid0.Coords) : BitVec 1 :=
  let arg0 : BitVec 32 := BitVec.ofNat 32 (i 0).val
  let c0_i32_149 : BitVec 32 := 0#32
  let v570 : BitVec 1 := Scalar.cmpi .sgt arg0 c0_i32_149
  let v571 : BitVec 32 := Scalar.extui v570
  let c0_i32_150 : BitVec 32 := 0#32
  let v572 : BitVec 1 := Scalar.cmpi .ne v571 c0_i32_150
  v572

def k0_cond3 (i : grid0.Coords) : BitVec 1 :=
  let arg0 : BitVec 32 := BitVec.ofNat 32 (i 0).val
  let c0_i32_151 : BitVec 32 := 0#32
  let v573 : BitVec 1 := Scalar.cmpi .eq arg0 c0_i32_151
  let v574 : BitVec 32 := Scalar.extui v573
  let c0_i32_152 : BitVec 32 := 0#32
  let v575 : BitVec 1 := Scalar.cmpi .ne v574 c0_i32_152
  v575

def k0_cond4 (i : grid0.Coords) : BitVec 1 :=
  let arg0 : BitVec 32 := BitVec.ofNat 32 (i 0).val
  let c0_i32_153 : BitVec 32 := 0#32
  let v576 : BitVec 1 := Scalar.cmpi .sgt arg0 c0_i32_153
  let v577 : BitVec 32 := Scalar.extui v576
  let c0_i32_154 : BitVec 32 := 0#32
  let v578 : BitVec 1 := Scalar.cmpi .ne v577 c0_i32_154
  v578

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== HeadNormRefIdeal.lean ====
abbrev S4096x768 : Shape := ⟨2, ![4096, 768]⟩
abbrev S4096x1024 : Shape := ⟨2, ![4096, 1024]⟩
abbrev S4096x3136 : Shape := ⟨2, ![4096, 3136]⟩
abbrev S4096x32 : Shape := ⟨2, ![4096, 32]⟩
abbrev S4x4096x192 : Shape := ⟨3, ![4, 4096, 192]⟩
abbrev S4x4096x128 : Shape := ⟨3, ![4, 4096, 128]⟩
abbrev S1x192 : Shape := ⟨2, ![1, 192]⟩
abbrev S4096x64 : Shape := ⟨2, ![4096, 64]⟩
abbrev S4096x4x192 : Shape := ⟨3, ![4096, 4, 192]⟩
abbrev S4096x4x256 : Shape := ⟨3, ![4096, 4, 256]⟩
abbrev S4096x4x128 : Shape := ⟨3, ![4096, 4, 128]⟩
abbrev S4096x1x64 : Shape := ⟨3, ![4096, 1, 64]⟩
abbrev S4096x4x64 : Shape := ⟨3, ![4096, 4, 64]⟩
abbrev S192 : Shape := ⟨1, ![192]⟩
abbrev S_ : Shape := ⟨0, ![]⟩
abbrev S4096x4 : Shape := ⟨2, ![4096, 4]⟩
abbrev S4096x4x1 : Shape := ⟨3, ![4096, 4, 1]⟩
abbrev S1x1x192 : Shape := ⟨3, ![1, 1, 192]⟩
abbrev S4096x1x32 : Shape := ⟨3, ![4096, 1, 32]⟩
abbrev S4096x4x32 : Shape := ⟨3, ![4096, 4, 32]⟩
abbrev S4096x128 : Shape := ⟨2, ![4096, 128]⟩

abbrev nBuf : Space → Nat
  | .hbm => 214
  | .vmem => 0
  | .smem => 0
  | _ => 0

abbrev hbmTy0_0 (i : Nat) : BufTy := match i % 128 with
  | 0 => ⟨S4096x768, .f32⟩
  | 1 => ⟨S4096x1024, .f32⟩
  | 2 => ⟨S4096x3136, .f32⟩
  | 3 => ⟨S4096x32, .f32⟩
  | 4 => ⟨S4096x32, .f32⟩
  | 5 => ⟨S4x4096x192, .f32⟩
  | 6 => ⟨S4x4096x192, .f32⟩
  | 7 => ⟨S4x4096x128, .f32⟩
  | 8 => ⟨S1x192, .f32⟩
  | 9 => ⟨S1x192, .f32⟩
  | 10 => ⟨S4096x64, .f32⟩
  | 11 => ⟨S4096x4x192, .f32⟩
  | 12 => ⟨S4096x4x256, .f32⟩
  | 13 => ⟨S4096x4x128, .f32⟩
  | 14 => ⟨S4096x4x128, .f32⟩
  | 15 => ⟨S4096x1x64, .f32⟩
  | 16 => ⟨S4096x4x64, .f32⟩
  | 17 => ⟨S4096x4x192, .f32⟩
  | 18 => ⟨S192, .f32⟩
  | 19 => ⟨S4096x4x192, .f32⟩
  | 20 => ⟨S_, .f32⟩
  | 21 => ⟨S4096x4, .f32⟩
  | 22 => ⟨S4096x4x1, .f32⟩
  | 23 => ⟨S_, .f32⟩
  | 24 => ⟨S4096x4x1, .f32⟩
  | 25 => ⟨S4096x4x1, .f32⟩
  | 26 => ⟨S_, .f32⟩
  | 27 => ⟨S4096x4x1, .f32⟩
  | 28 => ⟨S4096x4x1, .f32⟩
  | 29 => ⟨S4096x4x1, .f32⟩
  | 30 => ⟨S4096x4x1, .f32⟩
  | 31 => ⟨S_, .f32⟩
  | 32 => ⟨S4096x4x1, .f32⟩
  | 33 => ⟨S4096x4x1, .f32⟩
  | 34 => ⟨S4096x4x192, .f32⟩
  | 35 => ⟨S4096x4x192, .f32⟩
  | 36 => ⟨S1x1x192, .f32⟩
  | 37 => ⟨S4096x4x192, .f32⟩
  | 38 => ⟨S4096x4x192, .f32⟩
  | 39 => ⟨S192, .f32⟩
  | 40 => ⟨S4096x4x192, .f32⟩
  | 41 => ⟨S_, .f32⟩
  | 42 => ⟨S4096x4, .f32⟩
  | 43 => ⟨S4096x4x1, .f32⟩
  | 44 => ⟨S_, .f32⟩
  | 45 => ⟨S4096x4x1, .f32⟩
  | 46 => ⟨S4096x4x1, .f32⟩
  | 47 => ⟨S_, .f32⟩
  | 48 => ⟨S4096x4x1, .f32⟩
  | 49 => ⟨S4096x4x1, .f32⟩
  | 50 => ⟨S4096x4x1, .f32⟩
  | 51 => ⟨S4096x4x1, .f32⟩
  | 52 => ⟨S_, .f32⟩
  | 53 => ⟨S4096x4x1, .f32⟩
  | 54 => ⟨S4096x4x1, .f32⟩
  | 55 => ⟨S4096x4x192, .f32⟩
  | 56 => ⟨S4096x4x192, .f32⟩
  | 57 => ⟨S1x1x192, .f32⟩
  | 58 => ⟨S4096x4x192, .f32⟩
  | 59 => ⟨S4096x4x192, .f32⟩
  | 60 => ⟨S4096x1x32, .f32⟩
  | 61 => ⟨S4096x1x32, .f32⟩
  | 62 => ⟨S4096x4x128, .f32⟩
  | 63 => ⟨S4096x4x64, .f32⟩
  | 64 => ⟨S4096x4x32, .f32⟩
  | 65 => ⟨S4096x4x32, .f32⟩
  | 66 => ⟨S4096x4x32, .f32⟩
  | 67 => ⟨S4096x4x32, .f32⟩
  | 68 => ⟨S4096x4x32, .f32⟩
  | 69 => ⟨S4096x4x32, .f32⟩
  | 70 => ⟨S4096x4x32, .f32⟩
  | 71 => ⟨S4096x4x32, .f32⟩
  | 72 => ⟨S4096x4x32, .f32⟩
  | 73 => ⟨S4096x4x32, .f32⟩
  | 74 => ⟨S4096x4x32, .f32⟩
  | 75 => ⟨S4096x4x32, .f32⟩
  | 76 => ⟨S4096x4x64, .f32⟩
  | 77 => ⟨S4096x4x192, .f32⟩
  | 78 => ⟨S4096x4x128, .f32⟩
  | 79 => ⟨S4096x4x64, .f32⟩
  | 80 => ⟨S4096x4x32, .f32⟩
  | 81 => ⟨S4096x4x32, .f32⟩
  | 82 => ⟨S4096x4x32, .f32⟩
  | 83 => ⟨S4096x4x32, .f32⟩
  | 84 => ⟨S4096x4x32, .f32⟩
  | 85 => ⟨S4096x4x32, .f32⟩
  | 86 => ⟨S4096x4x32, .f32⟩
  | 87 => ⟨S4096x4x32, .f32⟩
  | 88 => ⟨S4096x4x32, .f32⟩
  | 89 => ⟨S4096x4x32, .f32⟩
  | 90 => ⟨S4096x4x32, .f32⟩
  | 91 => ⟨S4096x4x32, .f32⟩
  | 92 => ⟨S4096x4x64, .f32⟩
  | 93 => ⟨S4096x4x192, .f32⟩
  | 94 => ⟨S4x4096x192, .f32⟩
  | 95 => ⟨S4x4096x192, .f32⟩
  | 96 => ⟨S4x4096x128, .f32⟩
  | 97 => ⟨S4096x4x128, .f32⟩
  | 98 => ⟨S4096x4x192, .f32⟩
  | 99 => ⟨S4096x4x192, .f32⟩
  | 100 => ⟨S4096x4x128, .f32⟩
  | 101 => ⟨S4096x4x64, .f32⟩
  | 102 => ⟨S4096x4x32, .f32⟩
  | 103 => ⟨S4096x4x32, .f32⟩
  | 104 => ⟨S4096x4x32, .f32⟩
  | 105 => ⟨S4096x4x32, .f32⟩
  | 106 => ⟨S4096x4x32, .f32⟩
  | 107 => ⟨S4096x4x32, .f32⟩
  | 108 => ⟨S4096x4x32, .f32⟩
  | 109 => ⟨S4096x4x32, .f32⟩
  | 110 => ⟨S4096x4x32, .f32⟩
  | 111 => ⟨S4096x4x32, .f32⟩
  | 112 => ⟨S4096x4x32, .f32⟩
  | 113 => ⟨S4096x4x32, .f32⟩
  | 114 => ⟨S4096x4x32, .f32⟩
  | 115 => ⟨S4096x4x64, .f32⟩
  | 116 => ⟨S_, .f32⟩
  | 117 => ⟨S4096x4x192, .f32⟩
  | 118 => ⟨S_, .f32⟩
  | 119 => ⟨S4096x4x192, .f32⟩
  | 120 => ⟨S4096x4x192, .f32⟩
  | 121 => ⟨S4096x4x128, .f32⟩
  | 122 => ⟨S4096x4x64, .f32⟩
  | 123 => ⟨S4096x4x32, .f32⟩
  | 124 => ⟨S4096x4x32, .f32⟩
  | 125 => ⟨S4096x4x32, .f32⟩
  | 126 => ⟨S4096x4x32, .f32⟩
  | 127 => ⟨S4096x4x32, .f32⟩
  | _ => ⟨S4096x768, .f32⟩

abbrev hbmTy0_1 (i : Nat) : BufTy := match i % 128 with
  | 0 => ⟨S4096x4x32, .f32⟩
  | 1 => ⟨S4096x4x32, .f32⟩
  | 2 => ⟨S4096x4x32, .f32⟩
  | 3 => ⟨S4096x4x32, .f32⟩
  | 4 => ⟨S4096x4x32, .f32⟩
  | 5 => ⟨S4096x4x32, .f32⟩
  | 6 => ⟨S4096x4x32, .f32⟩
  | 7 => ⟨S4096x4x32, .f32⟩
  | 8 => ⟨S4096x4x64, .f32⟩
  | 9 => ⟨S_, .f32⟩
  | 10 => ⟨S4096x4x192, .f32⟩
  | 11 => ⟨S_, .f32⟩
  | 12 => ⟨S4096x4x192, .f32⟩
  | 13 => ⟨S4096x4x192, .f32⟩
  | 14 => ⟨S4096x4x192, .f32⟩
  | 15 => ⟨S_, .f32⟩
  | 16 => ⟨S192, .f32⟩
  | 17 => ⟨S1x1x192, .f32⟩
  | 18 => ⟨S4096x4x192, .f32⟩
  | 19 => ⟨S4096x4x192, .f32⟩
  | 20 => ⟨S_, .f32⟩
  | 21 => ⟨S192, .f32⟩
  | 22 => ⟨S4096x4x192, .f32⟩
  | 23 => ⟨S_, .f32⟩
  | 24 => ⟨S4096x4, .f32⟩
  | 25 => ⟨S4096x4x1, .f32⟩
  | 26 => ⟨S4096x4x192, .f32⟩
  | 27 => ⟨S4096x4x192, .f32⟩
  | 28 => ⟨S4096x4x1, .f32⟩
  | 29 => ⟨S_, .f32⟩
  | 30 => ⟨S4096x4x1, .f32⟩
  | 31 => ⟨S4096x4x1, .f32⟩
  | 32 => ⟨S_, .f32⟩
  | 33 => ⟨S4096x4, .f32⟩
  | 34 => ⟨S4096x4x192, .f32⟩
  | 35 => ⟨S4096x4x192, .f32⟩
  | 36 => ⟨S4096x4x192, .f32⟩
  | 37 => ⟨S4096x4x192, .f32⟩
  | 38 => ⟨S4096x4x192, .f32⟩
  | 39 => ⟨S1x192, .f32⟩
  | 40 => ⟨S4096x4x192, .f32⟩
  | 41 => ⟨S_, .f32⟩
  | 42 => ⟨S192, .f32⟩
  | 43 => ⟨S1x1x192, .f32⟩
  | 44 => ⟨S4096x4x192, .f32⟩
  | 45 => ⟨S4096x4x192, .f32⟩
  | 46 => ⟨S_, .f32⟩
  | 47 => ⟨S192, .f32⟩
  | 48 => ⟨S4096x4x192, .f32⟩
  | 49 => ⟨S_, .f32⟩
  | 50 => ⟨S4096x4, .f32⟩
  | 51 => ⟨S4096x4x1, .f32⟩
  | 52 => ⟨S4096x4x192, .f32⟩
  | 53 => ⟨S4096x4x192, .f32⟩
  | 54 => ⟨S4096x4x1, .f32⟩
  | 55 => ⟨S_, .f32⟩
  | 56 => ⟨S4096x4x1, .f32⟩
  | 57 => ⟨S4096x4x1, .f32⟩
  | 58 => ⟨S_, .f32⟩
  | 59 => ⟨S4096x4, .f32⟩
  | 60 => ⟨S4096x4x192, .f32⟩
  | 61 => ⟨S4096x4x192, .f32⟩
  | 62 => ⟨S4096x4x192, .f32⟩
  | 63 => ⟨S4096x4x192, .f32⟩
  | 64 => ⟨S4096x4x192, .f32⟩
  | 65 => ⟨S1x192, .f32⟩
  | 66 => ⟨S4096x4x128, .f32⟩
  | 67 => ⟨S4096x4x64, .f32⟩
  | 68 => ⟨S_, .f32⟩
  | 69 => ⟨S4096x64, .f32⟩
  | 70 => ⟨S4096x1x64, .f32⟩
  | 71 => ⟨S_, .f32⟩
  | 72 => ⟨S4096x64, .f32⟩
  | 73 => ⟨S_, .f32⟩
  | 74 => ⟨S4096x4x256, .f32⟩
  | 75 => ⟨S_, .f32⟩
  | 76 => ⟨S4096x4x256, .f32⟩
  | 77 => ⟨S4096x4x256, .f32⟩
  | 78 => ⟨S4096x1024, .f32⟩
  | 79 => ⟨S4096x768, .f32⟩
  | 80 => ⟨S_, .i32⟩
  | 81 => ⟨S_, .f32⟩
  | 82 => ⟨S4096x128, .f32⟩
  | 83 => ⟨S4096x768, .bf16⟩
  | 84 => ⟨S4096x1024, .bf16⟩
  | 85 => ⟨S4096x128, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_7 : Ref sig .tc := ⟨.hbm, 116, rfl⟩
abbrev main_v98 : Ref sig .tc := ⟨.hbm, 117, rfl⟩
abbrev main_cst_8 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_9 : Ref sig .tc := ⟨.hbm, 137, rfl⟩
abbrev main_v117 : Ref sig .tc := ⟨.hbm, 138, rfl⟩
abbrev main_cst_10 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_11 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_12 : Ref sig .tc := ⟨.hbm, 148, rfl⟩
abbrev main_v125 : Ref sig .tc := ⟨.hbm, 149, rfl⟩
abbrev main_v126 : Ref sig .tc := ⟨.hbm, 150, rfl⟩
abbrev main_cst_13 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_14 : Ref sig .tc := ⟨.hbm, 157, rfl⟩
abbrev main_v132 : Ref sig .tc := ⟨.hbm, 158, rfl⟩
abbrev main_v133 : Ref sig .tc := ⟨.hbm, 159, rfl⟩
abbrev main_cst_15 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_16 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_17 : Ref sig .tc := ⟨.hbm, 174, rfl⟩
abbrev main_v146 : Ref sig .tc := ⟨.hbm, 175, rfl⟩
abbrev main_v147 : Ref sig .tc := ⟨.hbm, 176, rfl⟩
abbrev main_cst_18 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_cst_19 : Ref sig .tc := ⟨.hbm, 183, rfl⟩
abbrev main_v153 : Ref sig .tc := ⟨.hbm, 184, rfl⟩
abbrev main_v154 : Ref sig .tc := ⟨.hbm, 185, rfl⟩
abbrev main_cst_20 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_21 : Ref sig .tc := ⟨.hbm, 196, rfl⟩
abbrev main_v164 : Ref sig .tc := ⟨.hbm, 197, rfl⟩
abbrev main_v165 : Ref sig .tc := ⟨.hbm, 198, rfl⟩
abbrev main_cst_22 : Ref sig .tc := ⟨.hbm, 199, rfl⟩
abbrev main_v166 : Ref sig .tc := ⟨.hbm, 200, rfl⟩
abbrev main_cst_23 : Ref sig .tc := ⟨.hbm, 201, rfl⟩
abbrev main_v167 : Ref sig .tc := ⟨.hbm, 202, rfl⟩
abbrev main_cst_24 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_c : Ref sig .tc := ⟨.hbm, 208, rfl⟩
abbrev main_call0_v0 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩

abbrev nD : Nat := 1
abbrev τ : Topo := Topo.v7x

variable {F : FTy → Type} [FloatOps F]
-- ==== AttnFwd.lean ====
abbrev S4x4096x192 : Shape := ⟨3, ![4, 4096, 192]⟩
abbrev S4x4096x128 : Shape := ⟨3, ![4, 4096, 128]⟩
abbrev S4096x512 : Shape := ⟨2, ![4096, 512]⟩
abbrev S4x4096x1 : Shape := ⟨3, ![4, 4096, 1]⟩
abbrev S1x1024x192 : Shape := ⟨3, ![1, 1024, 192]⟩
abbrev S1x4096x192 : Shape := ⟨3, ![1, 4096, 192]⟩
abbrev S1x4096x128 : Shape := ⟨3, ![1, 4096, 128]⟩
abbrev S1024x128 : Shape := ⟨2, ![1024, 128]⟩
abbrev S1x1024x1 : Shape := ⟨3, ![1, 1024, 1]⟩
abbrev S1024x192 : Shape := ⟨2, ![1024, 192]⟩
abbrev S1024x1 : Shape := ⟨2, ![1024, 1]⟩
abbrev S1024x1024 : Shape := ⟨2, ![1024, 1024]⟩
abbrev S1024 : Shape := ⟨1, ![1024]⟩
abbrev S1x1024x128 : Shape := ⟨3, ![1, 1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x192, .bf16⟩
  | .hbm, ⟨1, _⟩ => ⟨S4x4096x192, .bf16⟩
  | .hbm, ⟨2, _⟩ => ⟨S4x4096x128, .bf16⟩
  | .hbm, ⟨3, _⟩ => ⟨S4096x512, .f32⟩
  | .hbm, ⟨4, _⟩ => ⟨S4x4096x1, .f32⟩
  | .local _ .vmem, ⟨0, _⟩ => ⟨S1x1024x192, .bf16⟩
  | .local _ .vmem, ⟨1, _⟩ => ⟨S1x1024x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | _, _ => ⟨S4x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c1024_i32 : BitVec 32 := 1024#32
  let v5 : BitVec 32 := Scalar.muli c0_i32 c1024_i32
  v5
def k0_off1 (c0_i32 : BitVec 32) : Fin 3 → Nat :=
  let c0_4 : Index := 0#32
  let c1024_i32 : BitVec 32 := 1024#32
  let v5 : BitVec 32 := Scalar.muli c0_i32 c1024_i32
  let v6 : BitVec 32 := v5
  let v7 : Index := Scalar.indexCast v6
  let c0_5 : Index := 0#32
  ![0, v7.toNat, 0]
def k0_off2 (c0_i32 : BitVec 32) : Fin 3 → Nat :=
  let c0_11 : Index := 0#32
  let c1024_i32 : BitVec 32 := 1024#32
  let v5 : BitVec 32 := Scalar.muli c0_i32 c1024_i32
  let v6 : BitVec 32 := v5
  let v29 : Index := Scalar.indexCast v6
  let c0_12 : Index := 0#32
  ![0, v29.toNat, 0]
def k0_mult2 : BitVec 32 :=
  let c1_i32 : BitVec 32 := 1#32
  let c1024_i32_14 : BitVec 32 := 1024#32
  let v35 : BitVec 32 := Scalar.muli c1_i32 c1024_i32_14
  v35
def k0_mult3 : BitVec 32 :=
  let c2_i32 : BitVec 32 := 2#32
  let c1024_i32_25 : BitVec 32 := 1024#32
  let v65 : BitVec 32 := Scalar.muli c2_i32 c1024_i32_25
  v65
def k0_mult4 : BitVec 32 :=
  let c3_i32 : BitVec 32 := 3#32
  let c1024_i32_36 : BitVec 32 := 1024#32
  let v95 : BitVec 32 := Scalar.muli c3_i32 c1024_i32_36
  v95
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "c2" => some (((Real.sqrt 192)⁻¹ * (Real.log 2)⁻¹ : ℝ) : EReal)
  | "log2e" => some (((Real.log 2)⁻¹ : ℝ) : EReal)
  | _ => none
-- ==== AttnFwdRefIdeal.lean ====
abbrev S4x4096x192 : Shape := ⟨3, ![4, 4096, 192]⟩
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096x4x128 : Shape := ⟨3, ![4096, 4, 128]⟩
abbrev S4096x512 : Shape := ⟨2, ![4096, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x192, .bf16⟩
  | .hbm, ⟨1, _⟩ => ⟨S4x4096x192, .bf16⟩
  | .hbm, ⟨2, _⟩ => ⟨S4x4096x128, .bf16⟩
  | .hbm, ⟨3, _⟩ => ⟨S4x4096x192, .f32⟩
  | .hbm, ⟨4, _⟩ => ⟨S4x4096x192, .f32⟩
  | .hbm, ⟨5, _⟩ => ⟨S4x4096x128, .f32⟩
  | .hbm, ⟨6, _⟩ => ⟨S4x4096x4096, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x128x4096, .f32⟩
  | .hbm, ⟨26, _⟩ => ⟨S4096x4x128, .f32⟩
  | .hbm, ⟨27, _⟩ => ⟨S4096x512, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S_, .f32⟩
  | .hbm, ⟨41, _⟩ => ⟨S4x4096x1, .f32⟩
  | .hbm, ⟨42, _⟩ => ⟨S4x4096x1, .f32⟩
  | _, _ => ⟨S4x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== GlaBwd.lean ====
abbrev S4096x3200 : Shape := ⟨2, ![4096, 3200]⟩
abbrev S4x1x128 : Shape := ⟨3, ![4, 1, 128]⟩
abbrev S4x4x128x128 : Shape := ⟨4, ![4, 4, 128, 128]⟩
abbrev S4096x512 : Shape := ⟨2, ![4096, 512]⟩
abbrev S1024x256 : Shape := ⟨2, ![1024, 256]⟩
abbrev S2x1x128 : Shape := ⟨3, ![2, 1, 128]⟩
abbrev S2x1x128x128 : Shape := ⟨4, ![2, 1, 128, 128]⟩
abbrev S2x128x128 : Shape := ⟨3, ![2, 128, 128]⟩
abbrev S1x128x128 : Shape := ⟨3, ![1, 128, 128]⟩
abbrev S128x128 : Shape := ⟨2, ![128, 128]⟩
abbrev S1024x128 : Shape := ⟨2, ![1024, 128]⟩
abbrev S1x1x128 : Shape := ⟨3, ![1, 1, 128]⟩
abbrev S1x128 : Shape := ⟨2, ![1, 128]⟩
abbrev S1x1x128x128 : Shape := ⟨4, ![1, 1, 128, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S1x64x1 : Shape := ⟨3, ![1, 64, 1]⟩
abbrev S16x128 : Shape := ⟨2, ![16, 128]⟩
abbrev S16x1x128 : Shape := ⟨3, ![16, 1, 128]⟩
abbrev S16x128x128 : Shape := ⟨3, ![16, 128, 128]⟩
abbrev S1x64x128 : Shape := ⟨3, ![1, 64, 128]⟩
abbrev S64x128 : Shape := ⟨2, ![64, 128]⟩
abbrev S15x128x128 : Shape := ⟨3, ![15, 128, 128]⟩
abbrev S128 : Shape := ⟨1, ![128]⟩
abbrev S15x1x128 : Shape := ⟨3, ![15, 1, 128]⟩
abbrev S15x64x128 : Shape := ⟨3, ![15, 64, 128]⟩
abbrev S14x128x128 : Shape := ⟨3, ![14, 128, 128]⟩
abbrev S14x1x128 : Shape := ⟨3, ![14, 1, 128]⟩
abbrev S14x64x128 : Shape := ⟨3, ![14, 64, 128]⟩
abbrev S13x128x128 : Shape := ⟨3, ![13, 128, 128]⟩
abbrev S13x1x128 : Shape := ⟨3, ![13, 1, 128]⟩
abbrev S13x64x128 : Shape := ⟨3, ![13, 64, 128]⟩
abbrev S2x64x128 : Shape := ⟨3, ![2, 64, 128]⟩
abbrev S12x128x128 : Shape := ⟨3, ![12, 128, 128]⟩
abbrev S3x128x128 : Shape := ⟨3, ![3, 128, 128]⟩
abbrev S12x1x128 : Shape := ⟨3, ![12, 1, 128]⟩
abbrev S3x1x128 : Shape := ⟨3, ![3, 1, 128]⟩
abbrev S12x64x128 : Shape := ⟨3, ![12, 64, 128]⟩
abbrev S3x64x128 : Shape := ⟨3, ![3, 64, 128]⟩
abbrev S11x128x128 : Shape := ⟨3, ![11, 128, 128]⟩
abbrev S4x128x128 : Shape := ⟨3, ![4, 128, 128]⟩
abbrev S11x1x128 : Shape := ⟨3, ![11, 1, 128]⟩
abbrev S11x64x128 : Shape := ⟨3, ![11, 64, 128]⟩
abbrev S4x64x128 : Shape := ⟨3, ![4, 64, 128]⟩
abbrev S10x128x128 : Shape := ⟨3, ![10, 128, 128]⟩
abbrev S5x128x128 : Shape := ⟨3, ![5, 128, 128]⟩
abbrev S10x1x128 : Shape := ⟨3, ![10, 1, 128]⟩
abbrev S5x1x128 : Shape := ⟨3, ![5, 1, 128]⟩
abbrev S10x64x128 : Shape := ⟨3, ![10, 64, 128]⟩
abbrev S5x64x128 : Shape := ⟨3, ![5, 64, 128]⟩
abbrev S9x128x128 : Shape := ⟨3, ![9, 128, 128]⟩
abbrev S6x128x128 : Shape := ⟨3, ![6, 128, 128]⟩
abbrev S9x1x128 : Shape := ⟨3, ![9, 1, 128]⟩
abbrev S6x1x128 : Shape := ⟨3, ![6, 1, 128]⟩
abbrev S9x64x128 : Shape := ⟨3, ![9, 64, 128]⟩
abbrev S6x64x128 : Shape := ⟨3, ![6, 64, 128]⟩
abbrev S8x128x128 : Shape := ⟨3, ![8, 128, 128]⟩
abbrev S7x128x128 : Shape := ⟨3, ![7, 128, 128]⟩
abbrev S8x1x128 : Shape := ⟨3, ![8, 1, 128]⟩
abbrev S7x1x128 : Shape := ⟨3, ![7, 1, 128]⟩
abbrev S8x64x128 : Shape := ⟨3, ![8, 64, 128]⟩
abbrev S7x64x128 : Shape := ⟨3, ![7, 64, 128]⟩

abbrev nBuf : Space → Nat
  | .hbm => 8
  | .vmem => 21
  | .smem => 0
  | _ => 0

abbrev bufTy : (tb : Table) → Fin (tcTables nBuf tb) → BufTy
  | .hbm, ⟨0, _⟩ => ⟨S4096x3200, .f32⟩
  | .hbm, ⟨1, _⟩ => ⟨S4x1x128, .f32⟩
  | .hbm, ⟨2, _⟩ => ⟨S4x4x128x128, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4x1x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2x1x128, .f32⟩
  | .local _ .vmem, ⟨7, _⟩ => ⟨S2x1x128, .f32⟩
  | .local _ .vmem, ⟨8, _⟩ => ⟨S2x1x128x128, .f32⟩
  | .local _ .vmem, ⟨9, _⟩ => ⟨S2x1x128x128, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | .local _ .vmem, ⟨18, _⟩ => ⟨S2x1x128, .f32⟩
  | .local _ .vmem, ⟨19, _⟩ => ⟨S2x1x128, .f32⟩
  | .local _ .vmem, ⟨20, _⟩ => ⟨S2x128x128, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_350 : BitVec 32 := 0#32
  let v1733 : BitVec 1 := Scalar.cmpi .eq arg1 c0_i32_350
  let v1734 : BitVec 32 := Scalar.extui v1733
  let c0_i32_351 : BitVec 32 := 0#32
  let v1735 : BitVec 1 := Scalar.cmpi .ne v1734 c0_i32_351
  v1735

def k0_cond3 (i : grid0.Coords) : BitVec 1 :=
  let arg1 : BitVec 32 := BitVec.ofNat 32 (i 1).val
  let c0_i32_352 : BitVec 32 := 0#32
  let v1736 : BitVec 1 := Scalar.cmpi .sgt arg1 c0_i32_352
  let v1737 : BitVec 32 := Scalar.extui v1736
  let c0_i32_353 : BitVec 32 := 0#32
  let v1738 : BitVec 1 := Scalar.cmpi .ne v1737 c0_i32_353
  v1738

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c2_i32 : BitVec 32 := 2#32
  let v1 : BitVec 32 := Scalar.addi c2_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== GlaBwdRev.lean ====
abbrev S4096x3200 : Shape := ⟨2, ![4096, 3200]⟩
abbrev S4x1x128 : Shape := ⟨3, ![4, 1, 128]⟩
abbrev S4x4x128x128 : Shape := ⟨4, ![4, 4, 128, 128]⟩
abbrev S4096x512 : Shape := ⟨2, ![4096, 512]⟩
abbrev S1024x256 : Shape := ⟨2, ![1024, 256]⟩
abbrev S2x1x128 : Shape := ⟨3, ![2, 1, 128]⟩
abbrev S2x1x128x128 : Shape := ⟨4, ![2, 1, 128, 128]⟩
abbrev S2x128x128 : Shape := ⟨3, ![2, 128, 128]⟩
abbrev S1x128x128 : Shape := ⟨3, ![1, 128, 128]⟩
abbrev S128x128 : Shape := ⟨2, ![128, 128]⟩
abbrev S1024x128 : Shape := ⟨2, ![1024, 128]⟩
abbrev S1x1x128 : Shape := ⟨3, ![1, 1, 128]⟩
abbrev S1x128 : Shape := ⟨2, ![1, 128]⟩
abbrev S1x1x128x128 : Shape := ⟨4, ![1, 1, 128, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S1x64x1 : Shape := ⟨3, ![1, 64, 1]⟩
abbrev S16x128 : Shape := ⟨2, ![16, 128]⟩
abbrev S16x1x128 : Shape := ⟨3, ![16, 1, 128]⟩
abbrev S16x128x128 : Shape := ⟨3, ![16, 128, 128]⟩
abbrev S1x64x128 : Shape := ⟨3, ![1, 64, 128]⟩
abbrev S64x128 : Shape := ⟨2, ![64, 128]⟩
abbrev S15x128x128 : Shape := ⟨3, ![15, 128, 128]⟩
abbrev S128 : Shape := ⟨1, ![128]⟩
abbrev S15x1x128 : Shape := ⟨3, ![15, 1, 128]⟩
abbrev S15x64x128 : Shape := ⟨3, ![15, 64, 128]⟩
abbrev S14x128x128 : Shape := ⟨3, ![14, 128, 128]⟩
abbrev S14x1x128 : Shape := ⟨3, ![14, 1, 128]⟩
abbrev S2x64x128 : Shape := ⟨3, ![2, 64, 128]⟩
abbrev S14x64x128 : Shape := ⟨3, ![14, 64, 128]⟩
abbrev S3x128x128 : Shape := ⟨3, ![3, 128, 128]⟩
abbrev S13x128x128 : Shape := ⟨3, ![13, 128, 128]⟩
abbrev S3x1x128 : Shape := ⟨3, ![3, 1, 128]⟩
abbrev S13x1x128 : Shape := ⟨3, ![13, 1, 128]⟩
abbrev S3x64x128 : Shape := ⟨3, ![3, 64, 128]⟩
abbrev S13x64x128 : Shape := ⟨3, ![13, 64, 128]⟩
abbrev S4x128x128 : Shape := ⟨3, ![4, 128, 128]⟩
abbrev S12x128x128 : Shape := ⟨3, ![12, 128, 128]⟩
abbrev S12x1x128 : Shape := ⟨3, ![12, 1, 128]⟩
abbrev S4x64x128 : Shape := ⟨3, ![4, 64, 128]⟩
abbrev S12x64x128 : Shape := ⟨3, ![12, 64, 128]⟩
abbrev S5x128x128 : Shape := ⟨3, ![5, 128, 128]⟩
abbrev S11x128x128 : Shape := ⟨3, ![11, 128, 128]⟩
abbrev S5x1x128 : Shape := ⟨3, ![5, 1, 128]⟩
abbrev S11x1x128 : Shape := ⟨3, ![11, 1, 128]⟩
abbrev S5x64x128 : Shape := ⟨3, ![5, 64, 128]⟩
abbrev S11x64x128 : Shape := ⟨3, ![11, 64, 128]⟩
abbrev S6x128x128 : Shape := ⟨3, ![6, 128, 128]⟩
abbrev S10x128x128 : Shape := ⟨3, ![10, 128, 128]⟩
abbrev S6x1x128 : Shape := ⟨3, ![6, 1, 128]⟩
abbrev S10x1x128 : Shape := ⟨3, ![10, 1, 128]⟩
abbrev S6x64x128 : Shape := ⟨3, ![6, 64, 128]⟩
abbrev S10x64x128 : Shape := ⟨3, ![10, 64, 128]⟩
abbrev S7x128x128 : Shape := ⟨3, ![7, 128, 128]⟩
abbrev S9x128x128 : Shape := ⟨3, ![9, 128, 128]⟩
abbrev S7x1x128 : Shape := ⟨3, ![7, 1, 128]⟩
abbrev S9x1x128 : Shape := ⟨3, ![9, 1, 128]⟩
abbrev S7x64x128 : Shape := ⟨3, ![7, 64, 128]⟩
abbrev S9x64x128 : Shape := ⟨3, ![9, 64, 128]⟩
abbrev S8x128x128 : Shape := ⟨3, ![8, 128, 128]⟩
abbrev S8x1x128 : Shape := ⟨3, ![8, 1, 128]⟩
abbrev S8x64x128 : Shape := ⟨3, ![8, 64, 128]⟩

abbrev nBuf : Space → Nat
  | .hbm => 10
  | .vmem => 25
  | .smem => 0
  | _ => 0

abbrev bufTy : (tb : Table) → Fin (tcTables nBuf tb) → BufTy
  | .hbm, ⟨0, _⟩ => ⟨S4096x3200, .f32⟩
  | .hbm, ⟨1, _⟩ => ⟨S4x1x128, .f32⟩
  | .hbm, ⟨2, _⟩ => ⟨S4x4x128x128, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4x1x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2x1x128, .f32⟩
  | .local _ .vmem, ⟨7, _⟩ => ⟨S2x1x128, .f32⟩
  | .local _ .vmem, ⟨8, _⟩ => ⟨S2x1x128x128, .f32⟩
  | .local _ .vmem, ⟨9, _⟩ => ⟨S2x1x128x128, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S2x1x128, .f32⟩
  | .local _ .vmem, ⟨23, _⟩ => ⟨S2x1x128, .f32⟩
  | .local _ .vmem, ⟨24, _⟩ => ⟨S2x128x128, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_358 : BitVec 32 := 0#32
  let v1745 : BitVec 1 := Scalar.cmpi .eq arg1 c0_i32_358
  let v1746 : BitVec 32 := Scalar.extui v1745
  let c0_i32_359 : BitVec 32 := 0#32
  let v1747 : BitVec 1 := Scalar.cmpi .ne v1746 c0_i32_359
  v1747

def k0_cond3 (i : grid0.Coords) : BitVec 1 :=
  let arg1 : BitVec 32 := BitVec.ofNat 32 (i 1).val
  let c0_i32_360 : BitVec 32 := 0#32
  let v1748 : BitVec 1 := Scalar.cmpi .sgt arg1 c0_i32_360
  let v1749 : BitVec 32 := Scalar.extui v1748
  let c0_i32_361 : BitVec 32 := 0#32
  let v1750 : BitVec 1 := Scalar.cmpi .ne v1749 c0_i32_361
  v1750

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== NormIn.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LatentNormFwd.lean ====
abbrev S4096x3136 : Shape := ⟨2, ![4096, 3136]⟩
abbrev S1x256 : Shape := ⟨2, ![1, 256]⟩
abbrev S4096x512 : Shape := ⟨2, ![4096, 512]⟩
abbrev S4096x2560 : Shape := ⟨2, ![4096, 2560]⟩
abbrev S4096x64 : Shape := ⟨2, ![4096, 64]⟩
abbrev S_ : Shape := ⟨0, ![]⟩
abbrev S4096x128 : Shape := ⟨2, ![4096, 128]⟩
abbrev S4096x3200 : Shape := ⟨2, ![4096, 3200]⟩
abbrev S4096x256 : Shape := ⟨2, ![4096, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x3136, .f32⟩
  | .hbm, ⟨1, _⟩ => ⟨S1x256, .f32⟩
  | .hbm, ⟨2, _⟩ => ⟨S1x256, .f32⟩
  | .hbm, ⟨3, _⟩ => ⟨S4096x512, .f32⟩
  | .hbm, ⟨4, _⟩ => ⟨S4096x2560, .f32⟩
  | .hbm, ⟨5, _⟩ => ⟨S4096x64, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S4096x3200, .f32⟩
  | .hbm, ⟨10, _⟩ => ⟨S4096x256, .bf16⟩
  | .hbm, ⟨11, _⟩ => ⟨S4096x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatentNormFwdRefIdeal.lean ====
abbrev S4096x3136 : Shape := ⟨2, ![4096, 3136]⟩
abbrev S1x256 : Shape := ⟨2, ![1, 256]⟩
abbrev S4096x256 : Shape := ⟨2, ![4096, 256]⟩
abbrev S256 : Shape := ⟨1, ![256]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x3136, .f32⟩
  | .hbm, ⟨1, _⟩ => ⟨S1x256, .f32⟩
  | .hbm, ⟨2, _⟩ => ⟨S1x256, .f32⟩
  | .hbm, ⟨3, _⟩ => ⟨S4096x256, .f32⟩
  | .hbm, ⟨4, _⟩ => ⟨S256, .f32⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x256, .f32⟩
  | .hbm, ⟨17, _⟩ => ⟨S4096x256, .f32⟩
  | .hbm, ⟨18, _⟩ => ⟨S1x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x256, .f32⟩
  | .hbm, ⟨35, _⟩ => ⟨S4096x256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S4096x256, .bf16⟩
  | .hbm, ⟨40, _⟩ => ⟨S4096x256, .bf16⟩
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== HeadNormFwd.lean ====
abbrev S4096x768 : Shape := ⟨2, ![4096, 768]⟩
abbrev S4096x1024 : Shape := ⟨2, ![4096, 1024]⟩
abbrev S4096x3136 : Shape := ⟨2, ![4096, 3136]⟩
abbrev S4096 : Shape := ⟨1, ![4096]⟩
abbrev S1x192 : Shape := ⟨2, ![1, 192]⟩
abbrev S4096x512 : Shape := ⟨2, ![4096, 512]⟩
abbrev S4096x2560 : Shape := ⟨2, ![4096, 2560]⟩
abbrev S4096x64 : Shape := ⟨2, ![4096, 64]⟩
abbrev S_ : Shape := ⟨0, ![]⟩
abbrev S4096x128 : Shape := ⟨2, ![4096, 128]⟩
abbrev S4096x3200 : Shape := ⟨2, ![4096, 3200]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x192 : Shape := ⟨3, ![4, 4096, 192]⟩
abbrev S4x4096x128 : Shape := ⟨3, ![4, 4096, 128]⟩
abbrev S512x768 : Shape := ⟨2, ![512, 768]⟩
abbrev S512x1024 : Shape := ⟨2, ![512, 1024]⟩
abbrev S512x128 : Shape := ⟨2, ![512, 128]⟩
abbrev S512x32 : Shape := ⟨2, ![512, 32]⟩
abbrev S4x512x192 : Shape := ⟨3, ![4, 512, 192]⟩
abbrev S4x512x128 : Shape := ⟨3, ![4, 512, 128]⟩
abbrev S512x64 : Shape := ⟨2, ![512, 64]⟩
abbrev S512x192 : Shape := ⟨2, ![512, 192]⟩
abbrev S512 : Shape := ⟨1, ![512]⟩
abbrev S512x1 : Shape := ⟨2, ![512, 1]⟩
abbrev S512x256 : Shape := ⟨2, ![512, 256]⟩
abbrev S1x512x192 : Shape := ⟨3, ![1, 512, 192]⟩
abbrev S1x512x128 : Shape := ⟨3, ![1, 512, 128]⟩

abbrev nBuf : Space → Nat
  | .hbm => 38
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S4096x3136, .f32⟩
  | .hbm, ⟨3, _⟩ => ⟨S4096, .i32⟩
  | .hbm, ⟨4, _⟩ => ⟨S1x192, .f32⟩
  | .hbm, ⟨5, _⟩ => ⟨S1x192, .f32⟩
  | .hbm, ⟨6, _⟩ => ⟨S4096x512, .f32⟩
  | .hbm, ⟨7, _⟩ => ⟨S4096x2560, .f32⟩
  | .hbm, ⟨8, _⟩ => ⟨S4096x64, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x3200, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4x4096x192, .bf16⟩
  | .hbm, ⟨36, _⟩ => ⟨S4x4096x192, .bf16⟩
  | .hbm, ⟨37, _⟩ => ⟨S4x4096x128, .bf16⟩
  | .local _ .vmem, ⟨0, _⟩ => ⟨S512x768, .f32⟩
  | .local _ .vmem, ⟨1, _⟩ => ⟨S512x768, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x32, .f32⟩
  | .local _ .vmem, ⟨7, _⟩ => ⟨S512x32, .f32⟩
  | .local _ .vmem, ⟨8, _⟩ => ⟨S512x32, .f32⟩
  | .local _ .vmem, ⟨9, _⟩ => ⟨S512x32, .f32⟩
  | .local _ .vmem, ⟨10, _⟩ => ⟨S1x192, .f32⟩
  | .local _ .vmem, ⟨11, _⟩ => ⟨S1x192, .f32⟩
  | .local _ .vmem, ⟨12, _⟩ => ⟨S4x512x192, .bf16⟩
  | .local _ .vmem, ⟨13, _⟩ => ⟨S4x512x192, .bf16⟩
  | .local _ .vmem, ⟨14, _⟩ => ⟨S4x512x192, .bf16⟩
  | .local _ .vmem, ⟨15, _⟩ => ⟨S4x512x192, .bf16⟩
  | .local _ .vmem, ⟨16, _⟩ => ⟨S4x512x128, .bf16⟩
  | .local _ .vmem, ⟨17, _⟩ => ⟨S4x512x128, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x512x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== HeadNormFwdRefIdeal.lean ====
abbrev S4096x768 : Shape := ⟨2, ![4096, 768]⟩
abbrev S4096x1024 : Shape := ⟨2, ![4096, 1024]⟩
abbrev S4096x3136 : Shape := ⟨2, ![4096, 3136]⟩
abbrev S4096 : Shape := ⟨1, ![4096]⟩
abbrev S1x192 : Shape := ⟨2, ![1, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x4x192 : Shape := ⟨3, ![4096, 4, 192]⟩
abbrev S4096x4x256 : Shape := ⟨3, ![4096, 4, 256]⟩
abbrev S4096x4x128 : Shape := ⟨3, ![4096, 4, 128]⟩
abbrev S4096x64 : Shape := ⟨2, ![4096, 64]⟩
abbrev S4096x1x64 : Shape := ⟨3, ![4096, 1, 64]⟩
abbrev S4096x4x64 : Shape := ⟨3, ![4096, 4, 64]⟩
abbrev S192 : Shape := ⟨1, ![192]⟩
abbrev S4096x4 : Shape := ⟨2, ![4096, 4]⟩
abbrev S4096x4x1 : Shape := ⟨3, ![4096, 4, 1]⟩
abbrev S1x1x192 : Shape := ⟨3, ![1, 1, 192]⟩
abbrev S4096x4x32 : Shape := ⟨3, ![4096, 4, 32]⟩
abbrev S4x4096x192 : Shape := ⟨3, ![4, 4096, 192]⟩
abbrev S4x4096x128 : Shape := ⟨3, ![4, 4096, 128]⟩

abbrev nBuf : Space → Nat
  | .hbm => 110
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S4096x3136, .f32⟩
  | .hbm, ⟨3, _⟩ => ⟨S4096, .i32⟩
  | .hbm, ⟨4, _⟩ => ⟨S1x192, .f32⟩
  | .hbm, ⟨5, _⟩ => ⟨S1x192, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1x32, .f32⟩
  | .hbm, ⟨28, _⟩ => ⟨S4096x32, .f32⟩
  | .hbm, ⟨29, _⟩ => ⟨S4096x1x32, .f32⟩
  | .hbm, ⟨30, _⟩ => ⟨S4096x4x192, .f32⟩
  | .hbm, ⟨31, _⟩ => ⟨S4096x4x256, .f32⟩
  | .hbm, ⟨32, _⟩ => ⟨S4096x4x128, .f32⟩
  | .hbm, ⟨33, _⟩ => ⟨S4096x4x128, .f32⟩
  | .hbm, ⟨34, _⟩ => ⟨S4096x64, .f32⟩
  | .hbm, ⟨35, _⟩ => ⟨S4096x1x64, .f32⟩
  | .hbm, ⟨36, _⟩ => ⟨S4096x4x64, .f32⟩
  | .hbm, ⟨37, _⟩ => ⟨S4096x4x192, .f32⟩
  | .hbm, ⟨38, _⟩ => ⟨S192, .f32⟩
  | .hbm, ⟨39, _⟩ => ⟨S4096x4x192, .f32⟩
  | .hbm, ⟨40, _⟩ => ⟨S_, .f32⟩
  | .hbm, ⟨41, _⟩ => ⟨S4096x4, .f32⟩
  | .hbm, ⟨42, _⟩ => ⟨S4096x4x1, .f32⟩
  | .hbm, ⟨43, _⟩ => ⟨S_, .f32⟩
  | .hbm, ⟨44, _⟩ => ⟨S4096x4x1, .f32⟩
  | .hbm, ⟨45, _⟩ => ⟨S4096x4x1, .f32⟩
  | .hbm, ⟨46, _⟩ => ⟨S_, .f32⟩
  | .hbm, ⟨47, _⟩ => ⟨S4096x4x1, .f32⟩
  | .hbm, ⟨48, _⟩ => ⟨S4096x4x1, .f32⟩
  | .hbm, ⟨49, _⟩ => ⟨S4096x4x1, .f32⟩
  | .hbm, ⟨50, _⟩ => ⟨S4096x4x192, .f32⟩
  | .hbm, ⟨51, _⟩ => ⟨S4096x4x192, .f32⟩
  | .hbm, ⟨52, _⟩ => ⟨S1x1x192, .f32⟩
  | .hbm, ⟨53, _⟩ => ⟨S4096x4x192, .f32⟩
  | .hbm, ⟨54, _⟩ => ⟨S4096x4x192, .f32⟩
  | .hbm, ⟨55, _⟩ => ⟨S192, .f32⟩
  | .hbm, ⟨56, _⟩ => ⟨S4096x4x192, .f32⟩
  | .hbm, ⟨57, _⟩ => ⟨S_, .f32⟩
  | .hbm, ⟨58, _⟩ => ⟨S4096x4, .f32⟩
  | .hbm, ⟨59, _⟩ => ⟨S4096x4x1, .f32⟩
  | .hbm, ⟨60, _⟩ => ⟨S_, .f32⟩
  | .hbm, ⟨61, _⟩ => ⟨S4096x4x1, .f32⟩
  | .hbm, ⟨62, _⟩ => ⟨S4096x4x1, .f32⟩
  | .hbm, ⟨63, _⟩ => ⟨S_, .f32⟩
  | .hbm, ⟨64, _⟩ => ⟨S4096x4x1, .f32⟩
  | .hbm, ⟨65, _⟩ => ⟨S4096x4x1, .f32⟩
  | .hbm, ⟨66, _⟩ => ⟨S4096x4x1, .f32⟩
  | .hbm, ⟨67, _⟩ => ⟨S4096x4x192, .f32⟩
  | .hbm, ⟨68, _⟩ => ⟨S4096x4x192, .f32⟩
  | .hbm, ⟨69, _⟩ => ⟨S1x1x192, .f32⟩
  | .hbm, ⟨70, _⟩ => ⟨S4096x4x192, .f32⟩
  | .hbm, ⟨71, _⟩ => ⟨S4096x4x192, .f32⟩
  | .hbm, ⟨72, _⟩ => ⟨S4096x4x128, .f32⟩
  | .hbm, ⟨73, _⟩ => ⟨S4096x4x64, .f32⟩
  | .hbm, ⟨74, _⟩ => ⟨S4096x4x32, .f32⟩
  | .hbm, ⟨75, _⟩ => ⟨S4096x4x32, .f32⟩
  | .hbm, ⟨76, _⟩ => ⟨S4096x4x32, .f32⟩
  | .hbm, ⟨77, _⟩ => ⟨S4096x4x32, .f32⟩
  | .hbm, ⟨78, _⟩ => ⟨S4096x4x32, .f32⟩
  | .hbm, ⟨79, _⟩ => ⟨S4096x4x32, .f32⟩
  | .hbm, ⟨80, _⟩ => ⟨S4096x4x32, .f32⟩
  | .hbm, ⟨81, _⟩ => ⟨S4096x4x32, .f32⟩
  | .hbm, ⟨82, _⟩ => ⟨S4096x4x32, .f32⟩
  | .hbm, ⟨83, _⟩ => ⟨S4096x4x32, .f32⟩
  | .hbm, ⟨84, _⟩ => ⟨S4096x4x32, .f32⟩
  | .hbm, ⟨85, _⟩ => ⟨S4096x4x32, .f32⟩
  | .hbm, ⟨86, _⟩ => ⟨S4096x4x64, .f32⟩
  | .hbm, ⟨87, _⟩ => ⟨S4096x4x192, .f32⟩
  | .hbm, ⟨88, _⟩ => ⟨S4096x4x128, .f32⟩
  | .hbm, ⟨89, _⟩ => ⟨S4096x4x64, .f32⟩
  | .hbm, ⟨90, _⟩ => ⟨S4096x4x32, .f32⟩
  | .hbm, ⟨91, _⟩ => ⟨S4096x4x32, .f32⟩
  | .hbm, ⟨92, _⟩ => ⟨S4096x4x32, .f32⟩
  | .hbm, ⟨93, _⟩ => ⟨S4096x4x32, .f32⟩
  | .hbm, ⟨94, _⟩ => ⟨S4096x4x32, .f32⟩
  | .hbm, ⟨95, _⟩ => ⟨S4096x4x32, .f32⟩
  | .hbm, ⟨96, _⟩ => ⟨S4096x4x32, .f32⟩
  | .hbm, ⟨97, _⟩ => ⟨S4096x4x32, .f32⟩
  | .hbm, ⟨98, _⟩ => ⟨S4096x4x32, .f32⟩
  | .hbm, ⟨99, _⟩ => ⟨S4096x4x32, .f32⟩
  | .hbm, ⟨100, _⟩ => ⟨S4096x4x32, .f32⟩
  | .hbm, ⟨101, _⟩ => ⟨S4096x4x32, .f32⟩
  | .hbm, ⟨102, _⟩ => ⟨S4096x4x64, .f32⟩
  | .hbm, ⟨103, _⟩ => ⟨S4096x4x192, .f32⟩
  | .hbm, ⟨104, _⟩ => ⟨S4x4096x192, .f32⟩
  | .hbm, ⟨105, _⟩ => ⟨S4x4096x192, .bf16⟩
  | .hbm, ⟨106, _⟩ => ⟨S4x4096x192, .f32⟩
  | .hbm, ⟨107, _⟩ => ⟨S4x4096x192, .bf16⟩
  | .hbm, ⟨108, _⟩ => ⟨S4x4096x128, .f32⟩
  | .hbm, ⟨109, _⟩ => ⟨S4x4096x128, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩

abbrev nD : Nat := 1
abbrev τ : Topo := Topo.v7x

variable {F : FTy → Type} [FloatOps F]
-- ==== LowerBounds.lean ====
abbrev S2x2x512 : Shape := ⟨3, ![2, 2, 512]⟩
abbrev S2x512 : Shape := ⟨2, ![2, 512]⟩
abbrev S1x2x512 : Shape := ⟨3, ![1, 2, 512]⟩

abbrev nBuf : Space → Nat
  | .hbm => 2
  | .vmem => 2
  | .smem => 0
  | _ => 0

abbrev bufTy : (tb : Table) → Fin (tcTables nBuf tb) → BufTy
  | .hbm, ⟨0, _⟩ => ⟨S2x2x512, .f32⟩
  | .hbm, ⟨1, _⟩ => ⟨S2x512, .f32⟩
  | .local _ .vmem, ⟨0, _⟩ => ⟨S2x2x512, .f32⟩
  | .local _ .vmem, ⟨1, _⟩ => ⟨S2x512, .f32⟩
  | _, _ => ⟨S2x2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LowerBoundsRefIdeal.lean ====
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x2x512, .f32⟩
  | .hbm, ⟨1, _⟩ => ⟨S_, .f32⟩
  | .hbm, ⟨2, _⟩ => ⟨S2x512, .f32⟩
  | .hbm, ⟨3, _⟩ => ⟨S_, .f32⟩
  | .hbm, ⟨4, _⟩ => ⟨S2x512, .f32⟩
  | .hbm, ⟨5, _⟩ => ⟨S2x512, .f32⟩
  | .hbm, ⟨6, _⟩ => ⟨S1x2x512, .f32⟩
  | .hbm, ⟨7, _⟩ => ⟨S2x2x512, .f32⟩
  | .hbm, ⟨8, _⟩ => ⟨S2x2x512, .f32⟩
  | .hbm, ⟨9, _⟩ => ⟨S2x2x512, .f32⟩
  | .hbm, ⟨10, _⟩ => ⟨S_, .f32⟩
  | .hbm, ⟨11, _⟩ => ⟨S2x512, .f32⟩
  | .hbm, ⟨12, _⟩ => ⟨S1x2x512, .f32⟩
  | .hbm, ⟨13, _⟩ => ⟨S2x2x512, .f32⟩
  | .hbm, ⟨14, _⟩ => ⟨S2x2x512, .f32⟩
  | .hbm, ⟨15, _⟩ => ⟨S_, .f32⟩
  | .hbm, ⟨16, _⟩ => ⟨S_, .f32⟩
  | .hbm, ⟨17, _⟩ => ⟨S2x2x512, .f32⟩
  | .hbm, ⟨18, _⟩ => ⟨S1x2x512, .f32⟩
  | .hbm, ⟨19, _⟩ => ⟨S2x512, .f32⟩
  | _, _ => ⟨S2x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MixOutFwd.lean ====
abbrev S4096x512 : Shape := ⟨2, ![4096, 512]⟩
abbrev S4096x3136 : Shape := ⟨2, ![4096, 3136]⟩
abbrev S1x4x128 : Shape := ⟨3, ![1, 4, 128]⟩
abbrev S4096x2560 : Shape := ⟨2, ![4096, 2560]⟩
abbrev S4096x64 : Shape := ⟨2, ![4096, 64]⟩
abbrev S_ : Shape := ⟨0, ![]⟩
abbrev S4096x128 : Shape := ⟨2, ![4096, 128]⟩
abbrev S4096x3200 : Shape := ⟨2, ![4096, 3200]⟩
abbrev S1x512 : Shape := ⟨2, ![1, 512]⟩
abbrev S4096x1024 : Shape := ⟨2, ![4096, 1024]⟩
abbrev S1024x512 : Shape := ⟨2, ![1024, 512]⟩
abbrev S1024x1024 : Shape := ⟨2, ![1024, 1024]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x3136, .f32⟩
  | .hbm, ⟨4, _⟩ => ⟨S1x4x128, .f32⟩
  | .hbm, ⟨5, _⟩ => ⟨S4096x512, .f32⟩
  | .hbm, ⟨6, _⟩ => ⟨S4096x2560, .f32⟩
  | .hbm, ⟨7, _⟩ => ⟨S4096x64, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x3200, .f32⟩
  | .hbm, ⟨12, _⟩ => ⟨S1x512, .f32⟩
  | .hbm, ⟨13, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1024x1024, .bf16⟩
  | .local _ .vmem, ⟨10, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutFwdRefIdeal.lean ====
abbrev S4096x512 : Shape := ⟨2, ![4096, 512]⟩
abbrev S4096x3136 : Shape := ⟨2, ![4096, 3136]⟩
abbrev S1x4x128 : Shape := ⟨3, ![1, 4, 128]⟩
abbrev S4096x4x128 : Shape := ⟨3, ![4096, 4, 128]⟩
abbrev S4x128 : Shape := ⟨2, ![4, 128]⟩
abbrev S_ : Shape := ⟨0, ![]⟩
abbrev S4096x4 : Shape := ⟨2, ![4096, 4]⟩
abbrev S4096x4x1 : Shape := ⟨3, ![4096, 4, 1]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x3136, .f32⟩
  | .hbm, ⟨4, _⟩ => ⟨S1x4x128, .f32⟩
  | .hbm, ⟨5, _⟩ => ⟨S4096x512, .f32⟩
  | .hbm, ⟨6, _⟩ => ⟨S4096x4x128, .f32⟩
  | .hbm, ⟨7, _⟩ => ⟨S4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x128, .f32⟩
  | .hbm, ⟨20, _⟩ => ⟨S4096x4x128, .f32⟩
  | .hbm, ⟨21, _⟩ => ⟨S1x4x128, .f32⟩
  | .hbm, ⟨22, _⟩ => ⟨S4096x4x128, .f32⟩
  | .hbm, ⟨23, _⟩ => ⟨S4096x4x128, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x1024, .f32⟩
  | .hbm, ⟨37, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== OutProj.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GateUp.lean ====
abbrev S4096x1024 : Shape := ⟨2, ![4096, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateUpRefIdeal.lean ====
abbrev S4096x1024 : Shape := ⟨2, ![4096, 1024]⟩
abbrev S1x1024x2816 : Shape := ⟨3, ![1, 1024, 2816]⟩
abbrev S1024x2816 : Shape := ⟨2, ![1024, 2816]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x2816, .f32⟩
  | .hbm, ⟨2, _⟩ => ⟨S1x1024x2816, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S4096x2816, .bf16⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DWGate.lean ====
abbrev S4096x1024 : Shape := ⟨2, ![4096, 1024]⟩
abbrev S4096x2816 : Shape := ⟨2, ![4096, 2816]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWGateRefIdeal.lean ====
abbrev S4096x1024 : Shape := ⟨2, ![4096, 1024]⟩
abbrev S4096x2816 : Shape := ⟨2, ![4096, 2816]⟩
abbrev S1024x4096 : Shape := ⟨2, ![1024, 4096]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S1024x4096, .f32⟩
  | .hbm, ⟨4, _⟩ => ⟨S4096x2816, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Adamw.lean ====
abbrev S1x704x1024 : Shape := ⟨3, ![1, 704, 1024]⟩
abbrev S704x1024 : Shape := ⟨2, ![704, 1024]⟩
abbrev S8x128 : Shape := ⟨2, ![8, 128]⟩

abbrev nBuf : Space → Nat
  | .hbm => 13
  | .vmem => 10
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S704x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S8x128, .f32⟩
  | .local _ .vmem, ⟨0, _⟩ => ⟨S704x1024, .f32⟩
  | .local _ .vmem, ⟨1, _⟩ => ⟨S704x1024, .f32⟩
  | .local _ .vmem, ⟨2, _⟩ => ⟨S704x1024, .f32⟩
  | .local _ .vmem, ⟨3, _⟩ => ⟨S704x1024, .f32⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | .local _ .vmem, ⟨9, _⟩ => ⟨S8x128, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S704x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S704x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S704x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S704x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S704x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S704x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwRefIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S704x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== GlaFwd.lean ====
abbrev S4096x3136 : Shape := ⟨2, ![4096, 3136]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S2x4x1x128 : Shape := ⟨4, ![2, 4, 1, 128]⟩
abbrev S4096x512 : Shape := ⟨2, ![4096, 512]⟩
abbrev S4096x2560 : Shape := ⟨2, ![4096, 2560]⟩
abbrev S4096x64 : Shape := ⟨2, ![4096, 64]⟩
abbrev S4096x128 : Shape := ⟨2, ![4096, 128]⟩
abbrev S4096x3200 : Shape := ⟨2, ![4096, 3200]⟩
abbrev S1x4x1x128 : Shape := ⟨4, ![1, 4, 1, 128]⟩
abbrev S4x1x128 : Shape := ⟨3, ![4, 1, 128]⟩
abbrev S4x4x128x128 : Shape := ⟨4, ![4, 4, 128, 128]⟩
abbrev S1024x512 : Shape := ⟨2, ![1024, 512]⟩
abbrev S4x1x128x128 : Shape := ⟨4, ![4, 1, 128, 128]⟩
abbrev S4x128x128 : Shape := ⟨3, ![4, 128, 128]⟩
abbrev S1x128x128 : Shape := ⟨3, ![1, 128, 128]⟩
abbrev S128x128 : Shape := ⟨2, ![128, 128]⟩
abbrev S1024x128 : Shape := ⟨2, ![1024, 128]⟩
abbrev S1x1x128 : Shape := ⟨3, ![1, 1, 128]⟩
abbrev S1x128 : Shape := ⟨2, ![1, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S1x64x1 : Shape := ⟨3, ![1, 64, 1]⟩
abbrev S16x128 : Shape := ⟨2, ![16, 128]⟩
abbrev S16x1x128 : Shape := ⟨3, ![16, 1, 128]⟩
abbrev S16x128x128 : Shape := ⟨3, ![16, 128, 128]⟩
abbrev S1x64x128 : Shape := ⟨3, ![1, 64, 128]⟩
abbrev S64x128 : Shape := ⟨2, ![64, 128]⟩
abbrev S1x1x128x128 : Shape := ⟨4, ![1, 1, 128, 128]⟩

abbrev nBuf : Space → Nat
  | .hbm => 33
  | .vmem => 12
  | .smem => 0
  | _ => 0

abbrev bufTy : (tb : Table) → Fin (tcTables nBuf tb) → BufTy
  | .hbm, ⟨0, _⟩ => ⟨S4096x3136, .f32⟩
  | .hbm, ⟨1, _⟩ => ⟨S2x2x512, .f32⟩
  | .hbm, ⟨2, _⟩ => ⟨S_, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S1x2x512, .f32⟩
  | .hbm, ⟨8, _⟩ => ⟨S2x2x512, .f32⟩
  | .hbm, ⟨9, _⟩ => ⟨S2x2x512, .f32⟩
  | .hbm, ⟨10, _⟩ => ⟨S2x2x512, .f32⟩
  | .hbm, ⟨11, _⟩ => ⟨S_, .f32⟩
  | .hbm, ⟨12, _⟩ => ⟨S2x512, .f32⟩
  | .hbm, ⟨13, _⟩ => ⟨S1x2x512, .f32⟩
  | .hbm, ⟨14, _⟩ => ⟨S2x2x512, .f32⟩
  | .hbm, ⟨15, _⟩ => ⟨S2x2x512, .f32⟩
  | .hbm, ⟨16, _⟩ => ⟨S_, .f32⟩
  | .hbm, ⟨17, _⟩ => ⟨S_, .f32⟩
  | .hbm, ⟨18, _⟩ => ⟨S2x2x512, .f32⟩
  | .hbm, ⟨19, _⟩ => ⟨S1x2x512, .f32⟩
  | .hbm, ⟨20, _⟩ => ⟨S2x512, .f32⟩
  | .hbm, ⟨21, _⟩ => ⟨S2x4x1x128, .f32⟩
  | .hbm, ⟨22, _⟩ => ⟨S4096x512, .f32⟩
  | .hbm, ⟨23, _⟩ => ⟨S4096x2560, .f32⟩
  | .hbm, ⟨24, _⟩ => ⟨S4096x64, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x3200, .f32⟩
  | .hbm, ⟨29, _⟩ => ⟨S1x4x1x128, .f32⟩
  | .hbm, ⟨30, _⟩ => ⟨S4x1x128, .f32⟩
  | .hbm, ⟨31, _⟩ => ⟨S4096x512, .f32⟩
  | .hbm, ⟨32, _⟩ => ⟨S4x4x128x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S4x1x128, .f32⟩
  | .local _ .vmem, ⟨7, _⟩ => ⟨S1024x512, .f32⟩
  | .local _ .vmem, ⟨8, _⟩ => ⟨S1024x512, .f32⟩
  | .local _ .vmem, ⟨9, _⟩ => ⟨S4x1x128x128, .f32⟩
  | .local _ .vmem, ⟨10, _⟩ => ⟨S4x1x128x128, .f32⟩
  | .local _ .vmem, ⟨11, _⟩ => ⟨S4x128x128, .f32⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaFwdIdeal.lean ====
variable {F : FTy → Type} [FloatOps F] [Named F]
def κ : String → Option EReal := fun
  | "log2e" => some (((Real.log 2)⁻¹ : ℝ) : EReal)
  | _ => none
-- ==== GlaFwdRefIdeal.lean ====
abbrev S4096x3136 : Shape := ⟨2, ![4096, 3136]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S1x512 : Shape := ⟨2, ![1, 512]⟩
abbrev S512 : Shape := ⟨1, ![512]⟩
abbrev S4096x512 : Shape := ⟨2, ![4096, 512]⟩
abbrev S4096x4x128 : Shape := ⟨3, ![4096, 4, 128]⟩
abbrev S4x4096x128 : Shape := ⟨3, ![4, 4096, 128]⟩
abbrev S4x4096x1x128 : Shape := ⟨4, ![4, 4096, 1, 128]⟩
abbrev S4x1x4096x128 : Shape := ⟨4, ![4, 1, 4096, 128]⟩
abbrev S4x4096x4096x128 : Shape := ⟨4, ![4, 4096, 4096, 128]⟩
abbrev S4x4096x4096 : Shape := ⟨3, ![4, 4096, 4096]⟩
abbrev S4096x4096 : Shape := ⟨2, ![4096, 4096]⟩
abbrev S1x4096x4096 : Shape := ⟨3, ![1, 4096, 4096]⟩
abbrev S4x128x4096 : Shape := ⟨3, ![4, 128, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x3136, .f32⟩
  | .hbm, ⟨1, _⟩ => ⟨S2x2x512, .f32⟩
  | .hbm, ⟨2, _⟩ => ⟨S_, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S1x2x512, .f32⟩
  | .hbm, ⟨8, _⟩ => ⟨S2x2x512, .f32⟩
  | .hbm, ⟨9, _⟩ => ⟨S2x2x512, .f32⟩
  | .hbm, ⟨10, _⟩ => ⟨S2x2x512, .f32⟩
  | .hbm, ⟨11, _⟩ => ⟨S_, .f32⟩
  | .hbm, ⟨12, _⟩ => ⟨S2x512, .f32⟩
  | .hbm, ⟨13, _⟩ => ⟨S1x2x512, .f32⟩
  | .hbm, ⟨14, _⟩ => ⟨S2x2x512, .f32⟩
  | .hbm, ⟨15, _⟩ => ⟨S2x2x512, .f32⟩
  | .hbm, ⟨16, _⟩ => ⟨S_, .f32⟩
  | .hbm, ⟨17, _⟩ => ⟨S_, .f32⟩
  | .hbm, ⟨18, _⟩ => ⟨S2x2x512, .f32⟩
  | .hbm, ⟨19, _⟩ => ⟨S1x2x512, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x4x128, .f32⟩
  | .hbm, ⟨34, _⟩ => ⟨S4x4096x128, .f32⟩
  | .hbm, ⟨35, _⟩ => ⟨S4096x512, .f32⟩
  | .hbm, ⟨36, _⟩ => ⟨S4096x4x128, .f32⟩
  | .hbm, ⟨37, _⟩ => ⟨S4x4096x128, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S4096x4x128, .f32⟩
  | .hbm, ⟨60, _⟩ => ⟨S4x4096x128, .f32⟩
  | .hbm, ⟨61, _⟩ => ⟨S4096x512, .f32⟩
  | .hbm, ⟨62, _⟩ => ⟨S4096x4x128, .f32⟩
  | .hbm, ⟨63, _⟩ => ⟨S4x4096x128, .f32⟩
  | .hbm, ⟨64, _⟩ => ⟨S_, .f32⟩
  | .hbm, ⟨65, _⟩ => ⟨S_, .f32⟩
  | .hbm, ⟨66, _⟩ => ⟨S4x4096x128, .f32⟩
  | .hbm, ⟨67, _⟩ => ⟨S4x4096x1x128, .f32⟩
  | .hbm, ⟨68, _⟩ => ⟨S4x1x4096x128, .f32⟩
  | .hbm, ⟨69, _⟩ => ⟨S4x4096x4096x128, .f32⟩
  | .hbm, ⟨70, _⟩ => ⟨S4x4096x4096x128, .f32⟩
  | .hbm, ⟨71, _⟩ => ⟨S4x4096x4096x128, .f32⟩
  | .hbm, ⟨72, _⟩ => ⟨S4x4096x1x128, .f32⟩
  | .hbm, ⟨73, _⟩ => ⟨S4x1x4096x128, .f32⟩
  | .hbm, ⟨74, _⟩ => ⟨S4x4096x4096x128, .f32⟩
  | .hbm, ⟨75, _⟩ => ⟨S4x4096x4096x128, .f32⟩
  | .hbm, ⟨76, _⟩ => ⟨S4x4096x4096x128, .f32⟩
  | .hbm, ⟨77, _⟩ => ⟨S4x4096x4096x128, .f32⟩
  | .hbm, ⟨78, _⟩ => ⟨S4x4096x4096x128, .f32⟩
  | .hbm, ⟨79, _⟩ => ⟨S_, .f32⟩
  | .hbm, ⟨80, _⟩ => ⟨S4x4096x4096, .f32⟩
  | .hbm, ⟨81, _⟩ => ⟨S_, .f32⟩
  | .hbm, ⟨82, _⟩ => ⟨S4096x4096, .f32⟩
  | .hbm, ⟨83, _⟩ => ⟨S4096x4096, .i32⟩
  | .hbm, ⟨84, _⟩ => ⟨S_, .i32⟩
  | .hbm, ⟨85, _⟩ => ⟨S4096x4096, .i32⟩
  | .hbm, ⟨86, _⟩ => ⟨S4096x4096, .i32⟩
  | .hbm, ⟨87, _⟩ => ⟨S4096x4096, .i32⟩
  | .hbm, ⟨88, _⟩ => ⟨S4096x4096, .i1⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S1x4096x4096, .f32⟩
  | .hbm, ⟨93, _⟩ => ⟨S4x4096x4096, .f32⟩
  | .hbm, ⟨94, _⟩ => ⟨S4x4096x4096, .f32⟩
  | .hbm, ⟨95, _⟩ => ⟨S4x128x4096, .f32⟩
  | .hbm, ⟨96, _⟩ => ⟨S4096x4x128, .f32⟩
  | .hbm, ⟨97, _⟩ => ⟨S4096x512, .f32⟩
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call2_call0_cst : Ref sig .tc := ⟨.hbm, 64, rfl⟩
abbrev main_call2_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_cst : Ref sig .tc := ⟨.hbm, 89, rfl⟩
abbrev main_call3_v5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== GlaFwdRev.lean ====
abbrev S4096x3136 : Shape := ⟨2, ![4096, 3136]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S2x4x1x128 : Shape := ⟨4, ![2, 4, 1, 128]⟩
abbrev S4096x512 : Shape := ⟨2, ![4096, 512]⟩
abbrev S4096x2560 : Shape := ⟨2, ![4096, 2560]⟩
abbrev S4096x64 : Shape := ⟨2, ![4096, 64]⟩
abbrev S4096x128 : Shape := ⟨2, ![4096, 128]⟩
abbrev S4096x3200 : Shape := ⟨2, ![4096, 3200]⟩
abbrev S1x4x1x128 : Shape := ⟨4, ![1, 4, 1, 128]⟩
abbrev S4x1x128 : Shape := ⟨3, ![4, 1, 128]⟩
abbrev S4x4x128x128 : Shape := ⟨4, ![4, 4, 128, 128]⟩
abbrev S1024x512 : Shape := ⟨2, ![1024, 512]⟩
abbrev S4x1x128x128 : Shape := ⟨4, ![4, 1, 128, 128]⟩
abbrev S4x128x128 : Shape := ⟨3, ![4, 128, 128]⟩
abbrev S1x128x128 : Shape := ⟨3, ![1, 128, 128]⟩
abbrev S128x128 : Shape := ⟨2, ![128, 128]⟩
abbrev S1024x128 : Shape := ⟨2, ![1024, 128]⟩
abbrev S1x1x128 : Shape := ⟨3, ![1, 1, 128]⟩
abbrev S1x128 : Shape := ⟨2, ![1, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S1x64x1 : Shape := ⟨3, ![1, 64, 1]⟩
abbrev S16x128 : Shape := ⟨2, ![16, 128]⟩
abbrev S16x1x128 : Shape := ⟨3, ![16, 1, 128]⟩
abbrev S16x128x128 : Shape := ⟨3, ![16, 128, 128]⟩
abbrev S1x64x128 : Shape := ⟨3, ![1, 64, 128]⟩
abbrev S64x128 : Shape := ⟨2, ![64, 128]⟩
abbrev S1x1x128x128 : Shape := ⟨4, ![1, 1, 128, 128]⟩

abbrev nBuf : Space → Nat
  | .hbm => 33
  | .vmem => 12
  | .smem => 0
  | _ => 0

abbrev bufTy : (tb : Table) → Fin (tcTables nBuf tb) → BufTy
  | .hbm, ⟨0, _⟩ => ⟨S4096x3136, .f32⟩
  | .hbm, ⟨1, _⟩ => ⟨S2x2x512, .f32⟩
  | .hbm, ⟨2, _⟩ => ⟨S_, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S1x2x512, .f32⟩
  | .hbm, ⟨8, _⟩ => ⟨S2x2x512, .f32⟩
  | .hbm, ⟨9, _⟩ => ⟨S2x2x512, .f32⟩
  | .hbm, ⟨10, _⟩ => ⟨S2x2x512, .f32⟩
  | .hbm, ⟨11, _⟩ => ⟨S_, .f32⟩
  | .hbm, ⟨12, _⟩ => ⟨S2x512, .f32⟩
  | .hbm, ⟨13, _⟩ => ⟨S1x2x512, .f32⟩
  | .hbm, ⟨14, _⟩ => ⟨S2x2x512, .f32⟩
  | .hbm, ⟨15, _⟩ => ⟨S2x2x512, .f32⟩
  | .hbm, ⟨16, _⟩ => ⟨S_, .f32⟩
  | .hbm, ⟨17, _⟩ => ⟨S_, .f32⟩
  | .hbm, ⟨18, _⟩ => ⟨S2x2x512, .f32⟩
  | .hbm, ⟨19, _⟩ => ⟨S1x2x512, .f32⟩
  | .hbm, ⟨20, _⟩ => ⟨S2x512, .f32⟩
  | .hbm, ⟨21, _⟩ => ⟨S2x4x1x128, .f32⟩
  | .hbm, ⟨22, _⟩ => ⟨S4096x512, .f32⟩
  | .hbm, ⟨23, _⟩ => ⟨S4096x2560, .f32⟩
  | .hbm, ⟨24, _⟩ => ⟨S4096x64, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x3200, .f32⟩
  | .hbm, ⟨29, _⟩ => ⟨S1x4x1x128, .f32⟩
  | .hbm, ⟨30, _⟩ => ⟨S4x1x128, .f32⟩
  | .hbm, ⟨31, _⟩ => ⟨S4096x512, .f32⟩
  | .hbm, ⟨32, _⟩ => ⟨S4x4x128x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S4x1x128, .f32⟩
  | .local _ .vmem, ⟨7, _⟩ => ⟨S1024x512, .f32⟩
  | .local _ .vmem, ⟨8, _⟩ => ⟨S1024x512, .f32⟩
  | .local _ .vmem, ⟨9, _⟩ => ⟨S4x1x128x128, .f32⟩
  | .local _ .vmem, ⟨10, _⟩ => ⟨S4x1x128x128, .f32⟩
  | .local _ .vmem, ⟨11, _⟩ => ⟨S4x128x128, .f32⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let v1 : BitVec 32 := Scalar.addi c1_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c3_i32_0 : BitVec 32 := 3#32
  let v1 : BitVec 32 := Scalar.addi c3_i32_0 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaFwdRevIdeal.lean ====
variable {F : FTy → Type} [FloatOps F] [Named F]
def κ : String → Option EReal := fun
  | "log2e" => some (((Real.log 2)⁻¹ : ℝ) : EReal)
  | _ => none
-- ==== GlaFwdRevRefIdeal.lean ====
abbrev S4096x3136 : Shape := ⟨2, ![4096, 3136]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S1x512 : Shape := ⟨2, ![1, 512]⟩
abbrev S512 : Shape := ⟨1, ![512]⟩
abbrev S4096x512 : Shape := ⟨2, ![4096, 512]⟩
abbrev S4096x4x128 : Shape := ⟨3, ![4096, 4, 128]⟩
abbrev S4x4096x128 : Shape := ⟨3, ![4, 4096, 128]⟩
abbrev S4x4096x1x128 : Shape := ⟨4, ![4, 4096, 1, 128]⟩
abbrev S4x1x4096x128 : Shape := ⟨4, ![4, 1, 4096, 128]⟩
abbrev S4x4096x4096x128 : Shape := ⟨4, ![4, 4096, 4096, 128]⟩
abbrev S4x4096x4096 : Shape := ⟨3, ![4, 4096, 4096]⟩
abbrev S4096x4096 : Shape := ⟨2, ![4096, 4096]⟩
abbrev S1x4096x4096 : Shape := ⟨3, ![1, 4096, 4096]⟩
abbrev S4x128x4096 : Shape := ⟨3, ![4, 128, 4096]⟩

abbrev nBuf : Space → Nat
  | .hbm => 103
  | .vmem => 0
  | .smem => 0
  | _ => 0

abbrev bufTy : (tb : Table) → Fin (tcTables nBuf tb) → BufTy
  | .hbm, ⟨0, _⟩ => ⟨S4096x3136, .f32⟩
  | .hbm, ⟨1, _⟩ => ⟨S2x2x512, .f32⟩
  | .hbm, ⟨2, _⟩ => ⟨S_, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S1x2x512, .f32⟩
  | .hbm, ⟨8, _⟩ => ⟨S2x2x512, .f32⟩
  | .hbm, ⟨9, _⟩ => ⟨S2x2x512, .f32⟩
  | .hbm, ⟨10, _⟩ => ⟨S2x2x512, .f32⟩
  | .hbm, ⟨11, _⟩ => ⟨S_, .f32⟩
  | .hbm, ⟨12, _⟩ => ⟨S2x512, .f32⟩
  | .hbm, ⟨13, _⟩ => ⟨S1x2x512, .f32⟩
  | .hbm, ⟨14, _⟩ => ⟨S2x2x512, .f32⟩
  | .hbm, ⟨15, _⟩ => ⟨S2x2x512, .f32⟩
  | .hbm, ⟨16, _⟩ => ⟨S_, .f32⟩
  | .hbm, ⟨17, _⟩ => ⟨S_, .f32⟩
  | .hbm, ⟨18, _⟩ => ⟨S2x2x512, .f32⟩
  | .hbm, ⟨19, _⟩ => ⟨S1x2x512, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x4x128, .f32⟩
  | .hbm, ⟨34, _⟩ => ⟨S4x4096x128, .f32⟩
  | .hbm, ⟨35, _⟩ => ⟨S4x4096x128, .f32⟩
  | .hbm, ⟨36, _⟩ => ⟨S4096x512, .f32⟩
  | .hbm, ⟨37, _⟩ => ⟨S4096x4x128, .f32⟩
  | .hbm, ⟨38, _⟩ => ⟨S4x4096x128, .f32⟩
  | .hbm, ⟨39, _⟩ => ⟨S4x4096x128, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S1x512, .f32⟩
  | .hbm, ⟨53, _⟩ => ⟨S4096x512, .f32⟩
  | .hbm, ⟨54, _⟩ => ⟨S4096x512, .f32⟩
  | .hbm, ⟨55, _⟩ => ⟨S1x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x4x128, .f32⟩
  | .hbm, ⟨62, _⟩ => ⟨S4x4096x128, .f32⟩
  | .hbm, ⟨63, _⟩ => ⟨S4x4096x128, .f32⟩
  | .hbm, ⟨64, _⟩ => ⟨S4096x512, .f32⟩
  | .hbm, ⟨65, _⟩ => ⟨S4096x4x128, .f32⟩
  | .hbm, ⟨66, _⟩ => ⟨S4x4096x128, .f32⟩
  | .hbm, ⟨67, _⟩ => ⟨S4x4096x128, .f32⟩
  | .hbm, ⟨68, _⟩ => ⟨S_, .f32⟩
  | .hbm, ⟨69, _⟩ => ⟨S_, .f32⟩
  | .hbm, ⟨70, _⟩ => ⟨S4x4096x128, .f32⟩
  | .hbm, ⟨71, _⟩ => ⟨S4x4096x1x128, .f32⟩
  | .hbm, ⟨72, _⟩ => ⟨S4x1x4096x128, .f32⟩
  | .hbm, ⟨73, _⟩ => ⟨S4x4096x4096x128, .f32⟩
  | .hbm, ⟨74, _⟩ => ⟨S4x4096x4096x128, .f32⟩
  | .hbm, ⟨75, _⟩ => ⟨S4x4096x4096x128, .f32⟩
  | .hbm, ⟨76, _⟩ => ⟨S4x4096x1x128, .f32⟩
  | .hbm, ⟨77, _⟩ => ⟨S4x1x4096x128, .f32⟩
  | .hbm, ⟨78, _⟩ => ⟨S4x4096x4096x128, .f32⟩
  | .hbm, ⟨79, _⟩ => ⟨S4x4096x4096x128, .f32⟩
  | .hbm, ⟨80, _⟩ => ⟨S4x4096x4096x128, .f32⟩
  | .hbm, ⟨81, _⟩ => ⟨S4x4096x4096x128, .f32⟩
  | .hbm, ⟨82, _⟩ => ⟨S4x4096x4096x128, .f32⟩
  | .hbm, ⟨83, _⟩ => ⟨S_, .f32⟩
  | .hbm, ⟨84, _⟩ => ⟨S4x4096x4096, .f32⟩
  | .hbm, ⟨85, _⟩ => ⟨S_, .f32⟩
  | .hbm, ⟨86, _⟩ => ⟨S4096x4096, .f32⟩
  | .hbm, ⟨87, _⟩ => ⟨S4096x4096, .i32⟩
  | .hbm, ⟨88, _⟩ => ⟨S_, .i32⟩
  | .hbm, ⟨89, _⟩ => ⟨S4096x4096, .i32⟩
  | .hbm, ⟨90, _⟩ => ⟨S4096x4096, .i32⟩
  | .hbm, ⟨91, _⟩ => ⟨S4096x4096, .i32⟩
  | .hbm, ⟨92, _⟩ => ⟨S4096x4096, .i1⟩
  | .hbm, ⟨93, _⟩ => ⟨S_, .f32⟩
  | .hbm, ⟨94, _⟩ => ⟨S4096x4096, .f32⟩
  | .hbm, ⟨95, _⟩ => ⟨S4096x4096, .f32⟩
  | .hbm, ⟨96, _⟩ => ⟨S1x4096x4096, .f32⟩
  | .hbm, ⟨97, _⟩ => ⟨S4x4096x4096, .f32⟩
  | .hbm, ⟨98, _⟩ => ⟨S4x4096x4096, .f32⟩
  | .hbm, ⟨99, _⟩ => ⟨S4x128x4096, .f32⟩
  | .hbm, ⟨100, _⟩ => ⟨S4096x4x128, .f32⟩
  | .hbm, ⟨101, _⟩ => ⟨S4096x4x128, .f32⟩
  | .hbm, ⟨102, _⟩ => ⟨S4096x512, .f32⟩
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call2_call0_cst : Ref sig .tc := ⟨.hbm, 68, rfl⟩
abbrev main_call2_call0_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_call3_v0 : Ref sig .tc := ⟨.hbm, 87, rfl⟩
abbrev main_call3_c : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_cst : Ref sig .tc := ⟨.hbm, 93, rfl⟩
abbrev main_call3_v5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== FfnDown.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1x2816x1024, .f32⟩
  | .hbm, ⟨3, _⟩ => ⟨S1x1024, .f32⟩
  | .hbm, ⟨4, _⟩ => ⟨S2816x1024, .f32⟩
  | .hbm, ⟨5, _⟩ => ⟨S2816x1024, .bf16⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1x2816x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Common.lean ====
/- Facts about the extended reals that every part of the certificate uses: finite values, sums of finite values, the
   constants the programs spell as bit patterns, the logistic function as a hyperbolic tangent, and what a precondition
   `jnp.all(jnp.abs(x) < jnp.inf)` says. -/
module

public import Idealize.ShloMosaic.Lib.ValueIdx
public import Idealize.ShloMosaic.Lib.IdealHost
public import Idealize.ShloMosaic.Lib.ReduceAll
public import Idealize.ShloMosaic.Lib.Pipeline.Value
public import Idealize.ShloMosaic.PureOps.Ideal.Laws
public import Idealize.ShloMosaic.PureOps

@[expose] public section

noncomputable section

namespace Cert.Common

open Idealize.ShloMosaic

/-- A value that is a real number, not an infinity. -/
def IsReal (x : EReal) : Prop := ∃ r : ℝ, x = (r : EReal)

theorem IsReal.coe (r : ℝ) : IsReal (r : EReal) := ⟨r, rfl⟩

/-- A value whose magnitude is below infinity is a real number. -/
theorem isReal_of_abs_lt {x : EReal} (h : max x (-x) < ⊤) : IsReal x := by
  induction x with
  | bot => simp at h
  | top => simp at h
  | coe r => exact ⟨r, rfl⟩

/-- The f32 pattern of plus infinity. -/
theorem ofBits_inf_f32 : Ideal.ofBits .f32 0x7F800000#32 = ⊤ := by simp [Ideal.ofBits, Ideal.ieee]

/-- The f32 pattern of one half. -/
theorem ofBits_half_f32 : Ideal.ofBits .f32 0x3F000000#32 = ((1 / 2 : ℝ) : EReal) := by
  simp [Ideal.ofBits, Ideal.ieee]
  rw [← EReal.coe_mul]; norm_num

/-- The f32 pattern of one, as a real number. -/
theorem ofBits_one_coe : Ideal.ofBits .f32 0x3F800000#32 = ((1 : ℝ) : EReal) := by
  simp [Ideal.ofBits, Ideal.ieee]
  rw [← EReal.coe_mul]; norm_num

/-- What one element of the array `abs(x) < inf` being true says: the element is a real number. -/
theorem isReal_of_cmp {x : EReal} (h : Ideal.cmp .olt (max x (-x)) (Ideal.ofBits .f32 0x7F800000#32) = 1#1) : IsReal x := by
  refine isReal_of_abs_lt ?_
  rw [ofBits_inf_f32] at h
  by_contra hc
  simp [Ideal.cmp, hc] at h

/-- A conjunction of two flags is set exactly when both are. -/
theorem andi_apply_eq_one {s : Shape} {a b : IVec s 1} {i : s.Idx} (h : andi a b i = 1#1) : a i = 1#1 ∧ b i = 1#1 :=
  IntOp.andi_eq_one.1 h

instance : Subsingleton (⟨0, ![]⟩ : Shape).Idx := ⟨fun a b => funext fun x => x.elim0⟩

/-- The precondition's conjunct for one array, `jnp.all(jnp.abs(x) < jnp.inf)`, says that every element is a real number. -/
theorem isReal_of_all {s u : Shape} {axes : List (Fin s.rank)} (x : FVec Ideal s .f32) (b : FVec Ideal s .f32)
    (hb : ∀ i, b i = Ideal.ofBits .f32 0x7F800000#32) (init : IVec u 1) (h : s.ReducesTo axes (⟨0, ![]⟩ : Shape))
    (hu : 0 < u.numel) (j : (⟨0, ![]⟩ : Shape).Idx) (e : Host.reduce IntOp.andi (cmpf .olt (Host.absf x) b) init h hu j = 1#1)
    (i : s.Idx) : IsReal (x i) := by
  have := Host.reduce_andi_all _ _ h hu j e i
  refine isReal_of_cmp ?_
  rw [← hb i]
  exact this

/-- Sums of real numbers are taken in the real numbers. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number. -/
def sig (x : ℝ) : ℝ := (1 + Real.exp (-x))⁻¹

theorem sig_eq (x : ℝ) : sig x = 1 / 2 * Real.tanh (1 / 2 * x) + 1 / 2 := by
  rw [sig, Real.tanh_eq_sinh_div_cosh, Real.sinh_eq, Real.cosh_eq]
  have h1 : Real.exp (1 / 2 * x) * Real.exp (-(1 / 2 * x)) = 1 := by rw [← Real.exp_add]; simp
  have h2 : Real.exp (-x) = Real.exp (-(1 / 2 * x)) * Real.exp (-(1 / 2 * x)) := by rw [← Real.exp_add]; ring_nf
  have p1 := Real.exp_pos (1 / 2 * x)
  have p2 := Real.exp_pos (-(1 / 2 * x))
  rw [h2]
  generalize Real.exp (1 / 2 * x) = a at *
  generalize Real.exp (-(1 / 2 * x)) = b at *
  have : 1 + b * b ≠ 0 := by positivity
  have : a + b ≠ 0 := by positivity
  field_simp
  nlinarith

/-- One half of the hyperbolic tangent of half the argument, plus one half, is the logistic function, at the infinities too. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    exact (sig_eq r).symm

/-- The logistic function of a real number is a real number. -/
theorem logistic_coe' (r : ℝ) : Ideal.logistic (r : EReal) = (sig r : EReal) := by
  unfold sig; exact Ideal.logistic_coe r

/-- Quotients of real numbers by nonzero ones are taken in the real numbers. -/
theorem div_coe_coe (x : ℝ) {y : ℝ} (h : y ≠ 0) : Ideal.div (x : EReal) (y : EReal) = ((x / y : ℝ) : EReal) := by
  rw [Ideal.div_coe h, ← EReal.coe_mul]; congr 1; ring

end Cert.Common

end
-- ==== Proof.Swiglu.lean ====
/- The value of the gradient of the gated feed-forward activation: the kernel's two result arrays are the reference's,
   where the gate's second factor, the weights and the cotangent are finite. -/
module

public import proofs.«01_k».proof.Defs
public import proofs.«01_k».proof.Proof.Common
public import proofs.«01_k».proof.Proof.Gen.Pre_finite_swiglu
public import proofs.«01_k».proof.Proof.Gen.SwigluBwdIdeal.Value
public import proofs.«01_k».proof.Proof.Gen.SwigluRefIdeal.Read
public import Idealize.ShloMosaic.Lib.MatmulPlain

@[expose] public section

noncomputable section

namespace Cert.Swiglu

open Cert.SwigluBwdIdeal Cert.SwigluBwdIdeal.Gen Idealize.ShloMosaic Idealize.ShloMosaic.TcCoe Idealize.SL.Sem Idealize.ShloMosaic.ValueIdx
open Idealize.ShloMosaic.Pipeline (Dat)
open Cert.Common

variable (m : (ℓ : Loc nD τ sig) → Buf (Elt Ideal) ℓ) (ρ : Dev nD → PrngReg)

/-- Device `c`'s four arguments, at their types. -/
abbrev gate (c : Dev nD) : FVec Ideal S4096x2816 .bf16 := m ((c : Thread nD τ).loc main_arg0)
abbrev factor (c : Dev nD) : FVec Ideal S4096x2816 .bf16 := m ((c : Thread nD τ).loc main_arg1)
abbrev weights (c : Dev nD) : FVec Ideal S1x2816x1024 .f32 := m ((c : Thread nD τ).loc main_arg2)
abbrev cotangent (c : Dev nD) : FVec Ideal S4096x1024 .bf16 := m ((c : Thread nD τ).loc main_arg3)

theorem hz : (![0, 0] : Fin 2 → Nat) = fun _ => 0 := funext fun a => by fin_cases a <;> rfl

/-- The product of one row block of the cotangent with the transposed weights, at an index. -/
theorem prod_apply (x0 : Vec Ideal S256x1024 .bf16) (x1 : Vec Ideal S2816x1024 .bf16) (y : S256x2816.Idx) :
    k0_pay1 x0 x1 y = ∑ k : Fin 1024, x0 (ix2 (y 0) k) * x1 (ix2 (y 1) k) := by
  unfold k0_pay1
  rw [eq_ix2 y, shapeCast_self]
  refine (Ideal.matmul_transposedRhs_apply (M := 256) (K := 1024) (N := 2816) none x0 x1 _ (y 0) (y 1)).trans ?_
  show Ideal.ofBits .f32 0x00000000#32 + _ = _
  rw [Ideal.ofBits_zero_f32, zero_add]

/-- The kernel's logistic function of the gate. -/
theorem gate_apply (x : Vec Ideal S256x2816 .bf16) (y : S256x2816.Idx) : k0_pay3 x y = Ideal.logistic (x y) := by
  show Ideal.ofBits .f32 0x3F000000#32 * Ideal.tanh (Ideal.ofBits .f32 0x3F000000#32 * x y) + Ideal.ofBits .f32 0x3F000000#32 = _
  rw [ofBits_half_f32, half_tanh]

/-- What the kernel leaves for the gate's gradient, at an index of the block. -/
theorem out4_apply (x0 : Vec Ideal S256x1024 .bf16) (x1 : Vec Ideal S2816x1024 .bf16) (x2 x3 : Vec Ideal S256x2816 .bf16) (y : S256x2816.Idx) :
    out0_4 x0 x1 x2 x3 y = (∑ k : Fin 1024, x0 (ix2 (y 0) k) * x1 (ix2 (y 1) k)) * x3 y
      * (Ideal.logistic (x2 y) + x2 y * Ideal.logistic (x2 y) * (1 - Ideal.logistic (x2 y))) := by
  unfold out0_4
  rw [View.canon_unit_zero hz]
  simp only [View.ld_unit_zero (S := S256x1024) hz, View.ld_unit_zero (S := S2816x1024) hz, View.ld_unit_zero (S := S256x2816) hz]
  show k0_pay1 x0 x1 y * x3 y * (k0_pay3 x2 y + x2 y * k0_pay3 x2 y * (Ideal.ofBits .f32 0x3F800000#32 - k0_pay3 x2 y)) = _
  rw [prod_apply, gate_apply, ofBits_one_coe, EReal.coe_one]

/-- What the kernel leaves for the other factor's gradient, at an index of the block. -/
theorem out5_apply (x0 : Vec Ideal S256x1024 .bf16) (x1 : Vec Ideal S2816x1024 .bf16) (x2 x3 : Vec Ideal S256x2816 .bf16) (y : S256x2816.Idx) :
    out0_5 x0 x1 x2 x3 y = (∑ k : Fin 1024, x0 (ix2 (y 0) k) * x1 (ix2 (y 1) k)) * (x2 y * Ideal.logistic (x2 y)) := by
  unfold out0_5
  rw [View.canon_unit_zero hz]
  simp only [View.ld_unit_zero (S := S256x1024) hz, View.ld_unit_zero (S := S2816x1024) hz, View.ld_unit_zero (S := S256x2816) hz]
  show k0_pay1 x0 x1 y * (x2 y * k0_pay3 x2 y) = _
  rw [prod_apply, gate_apply]

/-- The weights as the region finds them: the argument, its leading axis of size one dropped. -/
theorem V_w (c : Dev nD) : (V m c main_v1 : FVec Ideal S2816x1024 .bf16)
    = Cert.SwigluRefIdeal.Read.val_main_v4 (F := Ideal) (m ((c : Thread nD τ).loc main_arg2)) := by
  show StableHlo.after hostOps0 (fun b => m (c, b)) main_v1 = _
  after_results <;> rfl

/-- Where each window's block sits in its array: row block `t` of the cotangent, the gate, the factor and the results; all of the weights. -/
theorem idx_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) := by decide +kernel

/-- The row of the whole array that row `r` of block `t` is. -/
def row (t : Fin cfg0.N) (r : Fin 256) : Fin 4096 :=
  ⟨t.val * 256 + r.val, by have := t.isLt; have hN : cfg0.N = 16 := N_0; omega⟩

theorem blk0 (c : Dev nD) (t : Fin cfg0.N) :
    (iblk m c 0 t : Vec Ideal S256x1024 .bf16) = fun y => cotangent m c (ix2 (row t (y 0)) (y 1)) := by
  funext y
  unfold iblk
  rw [View.read_apply]
  refine (congrFun (V_main_arg3 m c) _).trans (congrArg _ (funext fun a => Fin.ext ?_))
  match a with
  | ⟨0, _⟩ => show win0_0.index t 0 * 256 + 1 * (y 0).val = t.val * 256 + (y 0).val; rw [(idx_facts t).1.1]; omega
  | ⟨1, _⟩ => show win0_0.index t 1 * 1024 + 1 * (y 1).val = (y 1).val; rw [(idx_facts t).1.2]; omega

theorem blk1 (c : Dev nD) (t : Fin cfg0.N) :
    (iblk m c 1 t : Vec Ideal S2816x1024 .bf16) = fun y => Cert.SwigluRefIdeal.Read.val_main_v4 (F := Ideal) (weights m c) y := by
  funext y
  unfold iblk
  rw [View.read_apply]
  refine (congrFun (V_w m c) _).trans (congrArg _ (funext fun a => Fin.ext ?_))
  match a with
  | ⟨0, _⟩ => show win0_1.index t 0 * 2816 + 1 * (y 0).val = (y 0).val; rw [(idx_facts t).2.1.1]; omega
  | ⟨1, _⟩ => show win0_1.index t 1 * 1024 + 1 * (y 1).val = (y 1).val; rw [(idx_facts t).2.1.2]; omega

theorem blk2 (c : Dev nD) (t : Fin cfg0.N) :
    (iblk m c 2 t : Vec Ideal S256x2816 .bf16) = fun y => gate m c (ix2 (row t (y 0)) (y 1)) := by
  funext y
  unfold iblk
  rw [View.read_apply]
  refine (congrFun (V_main_arg0 m c) _).trans (congrArg _ (funext fun a => Fin.ext ?_))
  match a with
  | ⟨0, _⟩ => show win0_2.index t 0 * 256 + 1 * (y 0).val = t.val * 256 + (y 0).val; rw [(idx_facts t).2.2.1.1]; omega
  | ⟨1, _⟩ => show win0_2.index t 1 * 2816 + 1 * (y 1).val = (y 1).val; rw [(idx_facts t).2.2.1.2]; omega

theorem blk3 (c : Dev nD) (t : Fin cfg0.N) :
    (iblk m c 3 t : Vec Ideal S256x2816 .bf16) = fun y => factor m c (ix2 (row t (y 0)) (y 1)) := by
  funext y
  unfold iblk
  rw [View.read_apply]
  refine (congrFun (V_main_arg1 m c) _).trans (congrArg _ (funext fun a => Fin.ext ?_))
  match a with
  | ⟨0, _⟩ => show win0_3.index t 0 * 256 + 1 * (y 0).val = t.val * 256 + (y 0).val; rw [(idx_facts t).2.2.2.1.1]; omega
  | ⟨1, _⟩ => show win0_3.index t 1 * 2816 + 1 * (y 1).val = (y 1).val; rw [(idx_facts t).2.2.2.1.2]; omega

theorem emb4 (t : Fin cfg0.N) (y : S256x2816.Idx) : ((cfg0.win 4).blk t).view.emb y = ix2 (row t (y 0)) (y 1) := by
  refine funext fun a => Fin.ext ?_
  match a with
  | ⟨0, _⟩ => show win0_4.index t 0 * 256 + 1 * (y 0).val = t.val * 256 + (y 0).val; rw [(idx_facts t).2.2.2.2.1.1]; omega
  | ⟨1, _⟩ => show win0_4.index t 1 * 2816 + 1 * (y 1).val = (y 1).val; rw [(idx_facts t).2.2.2.2.1.2]; omega

theorem emb5 (t : Fin cfg0.N) (y : S256x2816.Idx) : ((cfg0.win 5).blk t).view.emb y = ix2 (row t (y 0)) (y 1) := by
  refine funext fun a => Fin.ext ?_
  match a with
  | ⟨0, _⟩ => show win0_5.index t 0 * 256 + 1 * (y 0).val = t.val * 256 + (y 0).val; rw [(idx_facts t).2.2.2.2.2.1]; omega
  | ⟨1, _⟩ => show win0_5.index t 1 * 2816 + 1 * (y 1).val = (y 1).val; rw [(idx_facts t).2.2.2.2.2.2]; omega

/-- Every index of a result array is in the block of the point its row lies in. -/
theorem cover (i : S4096x2816.Idx) : ∃ (t : Fin cfg0.N) (y : S256x2816.Idx), i = ix2 (row t (y 0)) (y 1) := by
  have h0 : (i 0 : Nat) < 4096 := (i 0).isLt
  have hN : cfg0.N = 16 := N_0
  refine ⟨⟨(i 0).val / 256, by omega⟩, ix2 (n0 := 256) (n1 := 2816) ⟨(i 0).val % 256, Nat.mod_lt _ (by omega)⟩ ⟨(i 1).val, (i 1).isLt⟩, ?_⟩
  refine funext fun a => Fin.ext ?_
  match a with
  | ⟨0, _⟩ => show (i 0).val = (i 0).val / 256 * 256 + (i 0).val % 256; omega
  | ⟨1, _⟩ => rfl

/-! ## The reference, read at an index -/

open Cert.SwigluRefIdeal.Read

/-- The reference's logistic function of the gate. -/
theorem ref_gate (g : FVec Ideal S4096x2816 .bf16) (i : S4096x2816.Idx) : val_main_v2_2 (F := Ideal) g i = Ideal.logistic (g i) := by
  rw [val_main_v2_2_apply, val_main_call0_v3_apply, val_main_call0_v4_apply, val_main_call0_v2_apply, val_main_call0_v1_apply,
    val_main_call0_v0_apply, val_main_v0_apply, val_main_call0_cst_0_apply, val_main_call0_cst_apply]
  show Ideal.div (Ideal.ofBits .f32 0x3F800000#32) (Ideal.ofBits .f32 0x3F800000#32 + Ideal.exp (-(g i))) = _
  rw [ofBits_one_coe, EReal.coe_one, Ideal.logistic]

/-- The reference's product of the cotangent with the transposed weights. -/
theorem ref_prod (w : FVec Ideal S1x2816x1024 .f32) (d : FVec Ideal S4096x1024 .bf16) (i : S4096x2816.Idx) :
    val_main_v7 (F := Ideal) w d i = ∑ k : Fin 1024, d (ix2 (i 0) k) * val_main_v4 (F := Ideal) w (ix2 (i 1) k) := by
  rw [val_main_v7_apply]
  refine Finset.sum_congr rfl fun k _ => ?_
  rw [val_main_v6_apply, Ideal.extf_def, eq_ix2 (lidx_main_v7 i k), eq_ix2 (ridx_main_v7 i k)]
  rfl

/-- The reference's gradient of the gate's argument. -/
theorem ref_dg (g u : FVec Ideal S4096x2816 .bf16) (w : FVec Ideal S1x2816x1024 .f32) (d : FVec Ideal S4096x1024 .bf16) (i : S4096x2816.Idx) :
    val_main_v11 (F := Ideal) g u w d i = val_main_v7 (F := Ideal) w d i * u i * Ideal.logistic (g i)
      + g i * (val_main_v7 (F := Ideal) w d i * u i) * (Ideal.logistic (g i) * (1 - Ideal.logistic (g i))) := by
  simp only [val_main_v11_apply, val_main_v10_apply, val_main_call1_v1_apply, val_main_call1_v2_apply, val_main_call1_v0_apply,
    val_main_v9_apply, val_main_v2_1_apply, val_main_call0_v7_apply, val_main_call0_v6_apply, val_main_call0_cst_1_apply, ref_gate,
    val_main_v0_apply, val_main_v1_apply, Ideal.extf_def, Ideal.truncf_def, Ideal.addf_def, Ideal.mulf_def, Ideal.subf_def, Ideal.ofBits_def,
    ofBits_one_coe, EReal.coe_one]

/-- The reference's gradient of the other factor. -/
theorem ref_du (g : FVec Ideal S4096x2816 .bf16) (w : FVec Ideal S1x2816x1024 .f32) (d : FVec Ideal S4096x1024 .bf16) (i : S4096x2816.Idx) :
    val_main_v12 (F := Ideal) g w d i = g i * Ideal.logistic (g i) * val_main_v7 (F := Ideal) w d i := by
  simp only [val_main_v12_apply, val_main_v8_apply, val_main_v2_0_apply, ref_gate, val_main_v0_apply, Ideal.extf_def, Ideal.truncf_def,
    Ideal.mulf_def]

/-- The two ways of writing the gate's gradient agree where the incoming cotangent is a real number, whatever the gate's argument. -/
theorem dg_eq {a : EReal} (ha : IsReal a) (g : EReal) :
    a * (Ideal.logistic g + g * Ideal.logistic g * (1 - Ideal.logistic g))
      = a * Ideal.logistic g + g * a * (Ideal.logistic g * (1 - Ideal.logistic g)) := by
  obtain ⟨r, rfl⟩ := ha
  induction g with
  | bot => simp
  | top =>
    have h : (1 : EReal) - 1 = 0 := by rw [← EReal.coe_one, ← EReal.coe_sub]; simp
    simp [h]
  | coe x =>
    rw [logistic_coe', ← EReal.coe_one]
    simp only [← EReal.coe_sub, ← EReal.coe_mul, ← EReal.coe_add]
    congr 1
    ring

/-- A sum of products of real numbers is a real number. -/
theorem isReal_sum_mul {ι : Type*} [Fintype ι] (f g : ι → EReal) (hf : ∀ k, IsReal (f k)) (hg : ∀ k, IsReal (g k)) : IsReal (∑ k, f k * g k) := by
  choose a ha using hf
  choose b hb using hg
  refine ⟨∑ k, a k * b k, ?_⟩
  rw [coe_sum]
  exact Finset.sum_congr rfl fun k _ => by rw [ha, hb, EReal.coe_mul]

/-! ## The result arrays -/

/-- Where the arguments named in the precondition are finite, what a point leaves for the gate's gradient is the reference's. -/
theorem block4 (c : Dev nD) (hu : ∀ i, IsReal (factor m c i)) (hw : ∀ i, IsReal (weights m c i)) (hd : ∀ i, IsReal (cotangent m c i))
    (t : Fin cfg0.N) (y : S256x2816.Idx) : out0_4 (iblk m c 0 t) (iblk m c 1 t) (iblk m c 2 t) (iblk m c 3 t) y
      = val_main_v11 (F := Ideal) (gate m c) (factor m c) (weights m c) (cotangent m c) (ix2 (row t (y 0)) (y 1)) := by
  rw [blk0, blk1, blk2, blk3, out4_apply, ref_dg, ref_prod]
  refine dg_eq ?_ _
  have hs : IsReal (∑ k : Fin 1024, cotangent m c (ix2 (row t (y 0)) k) * val_main_v4 (F := Ideal) (weights m c) (ix2 (y 1) k)) :=
    isReal_sum_mul _ _ (fun _ => hd _) fun _ => by rw [val_main_v4_apply]; exact hw _
  obtain ⟨a, ha⟩ := hs
  obtain ⟨b, hb⟩ := hu (ix2 (row t (y 0)) (y 1))
  exact ⟨a * b, (congrArg₂ (· * ·) ha hb).trans (EReal.coe_mul a b).symm⟩

/-- What a point leaves for the other factor's gradient is the reference's. -/
theorem block5 (c : Dev nD) (t : Fin cfg0.N) (y : S256x2816.Idx) : out0_5 (iblk m c 0 t) (iblk m c 1 t) (iblk m c 2 t) (iblk m c 3 t) y
      = val_main_v12 (F := Ideal) (gate m c) (weights m c) (cotangent m c) (ix2 (row t (y 0)) (y 1)) := by
  rw [blk0, blk1, blk2, blk3, out5_apply, ref_du, ref_prod]
  exact mul_comm (G := EReal) _ _

/-- Where the arguments named in the precondition are finite, the kernel's first result array is the reference's. -/
theorem final4 (c : Dev nD) (hu : ∀ i, IsReal (factor m c i)) (hw : ∀ i, IsReal (weights m c i)) (hd : ∀ i, IsReal (cotangent m c i)) :
    (dats m 0 c).arrAt 4 cfg0.N = val_main_v11 (F := Ideal) (gate m c) (factor m c) (weights m c) (cotangent m c) := by
  refine (dats m 0 c).arrAt_eq_of_cover 4 _ (fun t _ => ?_) fun i => ?_
  · rw [SwigluBwdIdeal.Value.flushed4]
    funext y
    rw [View.read_apply, emb4 t y]
    exact block4 m c hu hw hd t y
  · obtain ⟨t, y, rfl⟩ := cover i
    exact ⟨t, flush0_4 t, emb4 t y ▸ View.emb_mem_set _ y⟩

/-- The kernel's second result array is the reference's. -/
theorem final5 (c : Dev nD) :
    (dats m 0 c).arrAt 5 cfg0.N = val_main_v12 (F := Ideal) (gate m c) (weights m c) (cotangent m c) := by
  refine (dats m 0 c).arrAt_eq_of_cover 5 _ (fun t _ => ?_) fun i => ?_
  · rw [SwigluBwdIdeal.Value.flushed5]
    funext y
    rw [View.read_apply, emb5 t y]
    exact block5 m c t y
  · obtain ⟨t, y, rfl⟩ := cover i
    exact ⟨t, flush0_5 t, emb5 t y ▸ View.emb_mem_set _ y⟩

/-! ## The claims -/

/-- What the precondition says: the gate's second factor, the weights and the cotangent are finite. -/
theorem pre_finite (c : Dev nD) (h : Cert.Pre_SwigluBwdIdeal_finite_swiglu m) :
    (∀ i, IsReal (factor m c i)) ∧ (∀ i, IsReal (weights m c i)) ∧ ∀ i, IsReal (cotangent m c i) := by
  obtain ⟨h12, h3⟩ := andi_apply_eq_one (congrFun (h c) fun a => a.elim0)
  obtain ⟨h1, h2⟩ := andi_apply_eq_one h12
  exact ⟨isReal_of_all _ _ (fun _ => rfl) _ _ _ _ h1, isReal_of_all _ _ (fun _ => rfl) _ _ _ _ h2, isReal_of_all _ _ (fun _ => rfl) _ _ _ _ h3⟩

/-- The reference runs, leaves its arguments as they were and every semaphore at zero. -/
theorem frame_ref : Cert.quiescent_SwigluRefIdeal := fun m ρ _ =>
  (θ_run Cert.SwigluRefIdeal.defs _ _).mono
    (fun r h => ⟨fun c => (h c).2.2, sem_eq_zero_of_no_sems (by decide) r.2⟩) (Cert.SwigluRefIdeal.Value.run (F := Ideal) m ρ)

/-- At the ideal values the kernel and the reference end with the same two arrays. -/
theorem algebraic : Cert.algebraic_SwigluBwdIdeal_SwigluRefIdeal_pre_finite_swiglu := by
  intro m ρ m' ρ' hpre hagree
  refine ⟨fun c => val_main_v11 (F := Ideal) (gate m c) (factor m c) (weights m c) (cotangent m c),
    fun c => val_main_v12 (F := Ideal) (gate m c) (weights m c) (cotangent m c), ?_, ?_⟩
  · refine (θ_run Cert.SwigluBwdIdeal.defs _ _).mono (fun _ h c => ?_) (SwigluBwdIdeal.Value.run_blocks (F := Ideal) m ρ)
    obtain ⟨hu, hw, hd⟩ := pre_finite m c hpre
    exact ⟨(h c).1.trans (final4 m c hu hw hd), (h c).2.1.trans (final5 m c), (h c).2.2⟩
  · refine (θ_run Cert.SwigluRefIdeal.defs _ _).mono (fun _ h c => ?_) (Cert.SwigluRefIdeal.Value.run (F := Ideal) m' ρ')
    obtain ⟨e0, e1, e2, e3⟩ := hagree c
    refine ⟨(h c).1.trans ?_, (h c).2.1.trans ?_, (h c).2.2⟩
    · rw [val_main_v11_eq, e0, e1, e2, e3]
    · rw [val_main_v12_eq, e0, e2, e3]

end Cert.Swiglu

end
-- ==== Proof.Casts.lean ====
/- Reading a vector through the layout operations the kernels use: a leading axis of size one added or dropped, a row
   repeated down the columns, and a product whose left operand is transposed. -/
module

public import Idealize.ShloMosaic.Lib.ValueIdx
public import Idealize.ShloMosaic.Lib.MatmulPlain
public import Idealize.ShloMosaic.Lib.Pipeline.Value
public import Idealize.ShloMosaic.PureOps.Ideal.Laws
public import Idealize.ShloMosaic.PureOps

@[expose] public section

noncomputable section

namespace Cert.Common

open Idealize.ShloMosaic Idealize.ShloMosaic.ValueIdx
open Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

variable {α : Type}

/-- Dropping a leading axis of size one. -/
theorem cast_drop {a b : ℕ} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) :=
  shapeCast_apply x h _ _ (by
    rw [Shape.rowMajor_val_three, Shape.rowMajor_val_two]
    show (0 * a + i.val) * b + j.val = i.val * b + j.val
    rw [Nat.zero_mul, Nat.zero_add])

/-- Adding a leading axis of size one. -/
theorem cast_add {a b : ℕ} (x : (⟨2, ![a, b]⟩ : Shape).Idx → α) (h : (⟨2, ![a, b]⟩ : Shape).ShapeCasts ⟨3, ![1, a, b]⟩)
    (z : Fin 1) (i : Fin a) (j : Fin b) : shapeCast ⟨3, ![1, a, b]⟩ x h (ix3 z i j) = x (ix2 i j) :=
  shapeCast_apply x h _ _ (by
    rw [Shape.rowMajor_val_three, Shape.rowMajor_val_two]
    have hz : z.val = 0 := by omega
    show i.val * b + j.val = (z.val * a + i.val) * b + j.val
    rw [hz, Nat.zero_mul, Nat.zero_add])

/-- One row repeated down all the rows. -/
theorem bcast_row {a b : ℕ} (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 0 j) :=
  broadcastTo_apply x h _ _ (fun d => by
    match d with
    | ⟨0, _⟩ => rfl
    | ⟨1, _⟩ =>
      show j.val = if b = 1 then 0 else j.val
      split
      · rename_i hb; have := j.isLt; omega
      · rfl)

/-- The transposed left operand's product, `[K,M]ᵀ × [K,N]` read at (r, c). -/
theorem matmul_transposedLhs_apply {M K N : ℕ} {φ₁ φ₂ : FTy} (w : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (⟨[0], [0], [1], [1], [], [], w⟩ : DotDims ⟨2, ![K, M]⟩ ⟨2, ![K, N]⟩ ⟨2, ![M, N]⟩) prec lhs rhs acc (ix2 r c)
      = acc (ix2 r c) + ∑ k : Fin K, lhs (ix2 k r) * rhs (ix2 k c) := by
  rw [Ideal.matmul_apply, ← Equiv.sum_comp (contrEquiv1 (⟨[0], [0], [1], [1], [], [], w⟩ : DotDims _ _ _) K rfl rfl).symm]
  refine congrArg (acc (ix2 r c) + ·) (Finset.sum_congr rfl fun k _ => ?_)
  have hk := contrEquiv1_symm_val (⟨[0], [0], [1], [1], [], [], w⟩ : DotDims ⟨2, ![K, M]⟩ ⟨2, ![K, N]⟩ ⟨2, ![M, N]⟩) K rfl rfl k
  refine congrArg₂ (· * ·) (congrArg lhs ?_) (congrArg rhs ?_)
  · funext a; apply Fin.ext
    match a with
    | ⟨0, _⟩ => exact hk
    | ⟨1, _⟩ => rfl
  · funext a; apply Fin.ext
    match a with
    | ⟨0, _⟩ => exact hk
    | ⟨1, _⟩ => rfl

/-- A list of stores whose first stores all agree with one function `G`: at an index one of those first stores covers, what
    is left is `G`, whatever was stored before them. -/
theorem canon_apply_of_head {Val : EltTy → Type} [∀ e, Nonempty (Val e)] {S : Shape} {e : EltTy} (G : S.Idx → Val e) (R : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ R) y = G y
  | [], _, _, hy => by obtain ⟨p, hp, _⟩ := hy; simp at hp
  | p :: L, hL, y, hy => by
    show View.canon (p :: (L ++ R)) y = G y
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      obtain ⟨q, hq, hyq⟩ := hy
      rcases List.mem_cons.mp hq with rfl | hq'
      · exact absurd hyq hm
      · exact canon_apply_of_head G R L (fun q hq => hL q (by simp [hq])) y ⟨q, hq', hyq⟩

/-- A sum over 4096 rows is the sum over its four groups of 1024. -/
theorem sum_four {M : Type} [AddCommMonoid M] (f : Fin 4096 → M) :
    ∑ r, f r = ∑ c : Fin 4, ∑ j : Fin 1024, f ⟨1024 * c.val + j.val, by omega⟩ := by
  rw [← Finset.sum_product', ← (finProdFinEquiv (m := 4) (n := 1024)).sum_comp]
  refine Finset.sum_congr rfl fun x _ => congrArg f (Fin.ext ?_)
  show x.2.val + 1024 * x.1.val = 1024 * x.1.val + x.2.val
  omega

end Cert.Common
-- ==== Proof.AttnBwdPay.lean ====
/- The arithmetic of one step of the attention gradient, at an index: the four chunks of queries are one computation. -/
module

public import proofs.«01_k».proof.Proof.Casts
public import proofs.«01_k».proof.Proof.Common
public import proofs.«01_k».proof.Proof.Gen.AttnBwdIdeal.Skeleton

@[expose] public section

set_option maxRecDepth 16384

noncomputable section

namespace Cert.AttnBwd

open Idealize.ShloMosaic Idealize.ShloMosaic.TcCoe Idealize.SL.Sem Idealize.ShloMosaic.ValueIdx
open Cert.AttnBwdIdeal Cert.AttnBwdIdeal.Gen Cert.Common

/-- The two constants of the kernel: the score's factor over log 2, and the score's factor. -/
def c2 : EReal := Named.named (F := Ideal) (φ := .f32) κ "c2" 0x3DD53B95#32
def scale : EReal := Named.named (F := Ideal) (φ := .f32) κ "scale" 0x3D93CD3A#32

section
variable (k : FVec Ideal S1024x192 .bf16) (v : FVec Ideal S1024x128 .bf16) (q : Vec Ideal S1x1024x192 .bf16) (g : Vec Ideal S1024x128 .f32)
  (l : Vec Ideal S1x1x1x1024 .f32) (δ : Vec Ideal S1x1x1024 .f32)

/-- The weights of one chunk: key `i`, query `j`. -/
theorem weight_apply (i j : Fin 1024) :
    k0_pay25 k q l (ix2 i j) = Ideal.exp2 ((∑ d : Fin 192, k (ix2 i d) * q (ix3 0 j d)) * c2 - l (ix4 0 0 0 j)) := by
  have e1 : k0_pay25 k q l (ix2 i j) = Ideal.exp2 (FloatOps.matmul (DotDims.transposedRhs 1024 192 1024) none k (k0_pay23 q) (constant S1024x1024 .f32 0x00000000#32) (ix2 i j) * c2
      - broadcastTo S1024x1024 (shapeCast S1x1024 l shapeCasts_S1x1x1x1024_S1x1024) broadcasts_S1x1024_S1024x1024 (ix2 i j)) := rfl
  rw [e1, Ideal.matmul_transposedRhs_apply, bcast_row]
  have e2 : shapeCast S1x1024 l shapeCasts_S1x1x1x1024_S1x1024 (ix2 (0 : Fin 1) j) = l (ix4 0 0 0 j) :=
    shapeCast_apply l _ _ _ (by
      rw [Shape.rowMajor_val_four, Shape.rowMajor_val_two]
      show ((0 * 1 + 0) * 1 + 0) * 1024 + j.val = 0 * 1024 + j.val
      omega)
  have e3 : (constant S1024x1024 .f32 0x00000000#32 : FVec Ideal S1024x1024 .f32) (ix2 i j) = 0 := Ideal.ofBits_zero_f32
  rw [e2, e3, zero_add]
  refine congrArg (fun z => Ideal.exp2 (z * c2 - _)) (Finset.sum_congr rfl fun d _ => congrArg (k (ix2 i d) * ·) ?_)
  exact cast_drop q _ j d

/-- The gradient of one chunk's scores: key `i`, query `j`. -/
theorem dscore_apply (i j : Fin 1024) :
    k0_pay27 k v q g l δ (ix2 i j) = k0_pay25 k q l (ix2 i j) * ((∑ d : Fin 128, v (ix2 i d) * g (ix2 j d)) - δ (ix3 0 0 j)) * scale := by
  have e1 : k0_pay27 k v q g l δ (ix2 i j) = k0_pay25 k q l (ix2 i j) * (FloatOps.matmul (DotDims.transposedRhs 1024 128 1024) none v (k0_pay24 g) (constant S1024x1024 .f32 0x00000000#32) (ix2 i j)
      - broadcastTo S1024x1024 (shapeCast S1x1024 δ shapeCasts_S1x1x1024_S1x1024) broadcasts_S1x1024_S1024x1024 (ix2 i j)) * scale := rfl
  have e3 : (constant S1024x1024 .f32 0x00000000#32 : FVec Ideal S1024x1024 .f32) (ix2 i j) = 0 := Ideal.ofBits_zero_f32
  rw [e1, Ideal.matmul_transposedRhs_apply, bcast_row, cast_drop, e3, zero_add]
  rfl

/-- The value gradient after one chunk. -/
theorem dv_apply (a : Vec Ideal S1x1024x128 .f32) (z : Fin 1) (i : Fin 1024) (d : Fin 128) :
    k0_pay26 k q g l a (ix3 z i d) = a (ix3 0 i d) + ∑ j : Fin 1024, k0_pay25 k q l (ix2 i j) * g (ix2 j d) := by
  have e1 : k0_pay26 k q g l a = shapeCast S1x1024x128 (addf (shapeCast S1024x128 a shapeCasts_S1x1024x128_S1024x128)
      (FloatOps.matmul (DotDims.plain 1024 1024 128) none (truncf .bf16 (k0_pay25 k q l) bitsLt_bf16_f32) (k0_pay24 g) (constant S1024x128 .f32 0x00000000#32))) shapeCasts_S1024x128_S1x1024x128 := rfl
  rw [e1, cast_add]
  refine congrArg₂ (· + ·) (cast_drop a _ i d) ((Ideal.matmul_plain_apply _ _ _ _ i d).trans ?_)
  have e3 : (constant S1024x128 .f32 0x00000000#32 : FVec Ideal S1024x128 .f32) (ix2 i d) = 0 := Ideal.ofBits_zero_f32
  rw [e3, zero_add]
  rfl
end

section
variable (k : FVec Ideal S1024x192 .bf16) (s : FVec Ideal S1024x1024 .f32) (a : Vec Ideal S1x1024x192 .f32)

/-- The key gradient after one chunk. -/
theorem dk_apply (z : Fin 1) (i : Fin 1024) (d : Fin 192) :
    k0_pay28 k s a (ix3 z i d) = a (ix3 0 i d) + ∑ j : Fin 1024, s (ix2 i j) * k (ix2 j d) := by
  have e1 : k0_pay28 k s a = shapeCast S1x1024x192 (addf (shapeCast S1024x192 a shapeCasts_S1x1024x192_S1024x192)
      (FloatOps.matmul (DotDims.plain 1024 1024 192) none (truncf .bf16 s bitsLt_bf16_f32) k (constant S1024x192 .f32 0x00000000#32))) shapeCasts_S1024x192_S1x1024x192 := rfl
  rw [e1, cast_add]
  refine congrArg₂ (· + ·) (cast_drop a _ i d) ((Ideal.matmul_plain_apply _ _ _ _ i d).trans ?_)
  have e3 : (constant S1024x192 .f32 0x00000000#32 : FVec Ideal S1024x192 .f32) (ix2 i d) = 0 := Ideal.ofBits_zero_f32
  rw [e3, zero_add]
  rfl

/-- The query gradient after one chunk. -/
theorem dq_apply (z : Fin 1) (j : Fin 1024) (d : Fin 192) :
    k0_pay29 k s a (ix3 z j d) = a (ix3 0 j d) + ∑ i : Fin 1024, s (ix2 i j) * k (ix2 i d) := by
  have e1 : k0_pay29 k s a = shapeCast S1x1024x192 (addf (shapeCast S1024x192 a shapeCasts_S1x1024x192_S1024x192)
      (FloatOps.matmul dot_S1024x1024_S1024x192_S1024x192_0_0_1_1_n_n none (truncf .bf16 s bitsLt_bf16_f32) k (constant S1024x192 .f32 0x00000000#32))) shapeCasts_S1024x192_S1x1024x192 := rfl
  rw [e1, cast_add]
  refine congrArg₂ (· + ·) (cast_drop a _ j d) ((matmul_transposedLhs_apply (M := 1024) (K := 1024) (N := 192) _ _ _ _ _ j d).trans ?_)
  have e3 : (constant S1024x192 .f32 0x00000000#32 : FVec Ideal S1024x192 .f32) (ix2 j d) = 0 := Ideal.ofBits_zero_f32
  rw [e3, zero_add]
  rfl
end

/-- The other three chunks' steps are the second chunk's. -/
theorem k1_dv (k q g l a) : k0_pay18 (F := Ideal) (k0_pay14 g) (k0_pay15 k q) (k0_pay16 l) a = k0_pay26 (k0_pay9 k) q g l a := rfl
theorem k1_ds (k v q g l δ) : k0_pay19 (F := Ideal) v (k0_pay14 g) (k0_pay15 k q) (k0_pay16 l) δ = k0_pay27 (k0_pay9 k) v q g l δ := rfl
theorem k1_dk (k v q g l δ a) : k0_pay20 (F := Ideal) v (k0_pay13 q) (k0_pay14 g) (k0_pay15 k q) (k0_pay16 l) δ a = k0_pay28 (k0_pay23 q) (k0_pay27 (k0_pay9 k) v q g l δ) a := rfl
theorem k1_dq (k v q g l δ a) : k0_pay22 (F := Ideal) (k0_pay21 (k0_pay9 k) v (k0_pay14 g) (k0_pay15 k q) (k0_pay16 l) δ a) = k0_pay29 (k0_pay9 k) (k0_pay27 (k0_pay9 k) v q g l δ) a := rfl
theorem k3_dv (k q g l a) : k0_pay33 (F := Ideal) (k0_pay31 g) (k0_pay32 k q l) a = k0_pay26 k q g l a := rfl
theorem k3_dk (k v q g l δ a) : k0_pay35 (F := Ideal) v (k0_pay30 q) (k0_pay31 g) (k0_pay32 k q l) δ a = k0_pay28 (k0_pay23 q) (k0_pay27 k v q g l δ) a := rfl
theorem k3_dq (k v q g l δ a) : k0_pay36 (F := Ideal) k v (k0_pay31 g) (k0_pay32 k q l) δ a = k0_pay29 k (k0_pay27 k v q g l δ) a := rfl
theorem k4_dv (k q g l a) : k0_pay40 (F := Ideal) k q g l a = k0_pay26 k q g l a := rfl
theorem k4_dk (k v q g l δ a) : k0_pay1 (F := Ideal) (k0_pay37 q) (k0_pay41 k v q g l δ) a = k0_pay28 (k0_pay23 q) (k0_pay27 k v q g l δ) a := rfl
theorem k4_dq (k v q g l δ a) : k0_pay2 (F := Ideal) k (k0_pay41 k v q g l δ) a = k0_pay29 k (k0_pay27 k v q g l δ) a := rfl

/-- The row sums of the cotangent times the output, once per sublane: `(∑ d, g r d * o r d)` in every row. -/
theorem delta_apply (g o : Vec Ideal S4096x128 .f32) (a : Fin 8) (r : Fin 4096) :
    k0_pay3 g o (ix2 a r) = ∑ d : Fin 128, g (ix2 r d) * o (ix2 r d) := by
  have e1 : k0_pay3 g o (ix2 a r) = FloatOps.matmul (DotDims.transposedRhs 8 128 4096) (some .fp32) (broadcast S8x128 (Ideal.ofBits .f32 0x3F800000#32))
      (mulf g (shapeCast S4096x128 o shapeCasts_S4096x128_S4096x128)) (constant S8x4096 .f32 0x00000000#32) (ix2 a r) := rfl
  have e3 : (constant S8x4096 .f32 0x00000000#32 : FVec Ideal S8x4096 .f32) (ix2 a r) = 0 := Ideal.ofBits_zero_f32
  rw [e1, Ideal.matmul_transposedRhs_apply, e3, zero_add, shapeCast_self]
  refine Finset.sum_congr rfl fun d _ => ?_
  show Ideal.ofBits .f32 0x3F800000#32 * _ = _
  rw [ofBits_one_coe, EReal.coe_one, one_mul]
  rfl

end Cert.AttnBwd
-- ==== Proof.AttnBwdCases.lean ====
/- What one grid point of the attention gradient leaves in its three result blocks and in the scratch row sums, as sums over
   the block's rows. -/
module

public import proofs.«01_k».proof.Proof.AttnBwdPay
public import proofs.«01_k».proof.Proof.Gen.AttnBwdIdeal.Value
public import Idealize.ShloMosaic.Lib.Pipeline.ValueKit.Tiles

@[expose] public section

set_option maxRecDepth 16384

noncomputable section

namespace Cert.AttnBwd

open Idealize.ShloMosaic Idealize.ShloMosaic.TcCoe Idealize.SL.Sem
open Cert.AttnBwdIdeal Cert.AttnBwdIdeal.Gen Cert.Common Idealize.ShloMosaic.ValueIdx

/-- Row `j` of the `c`-th group of 1024 rows. -/
def row (c : Fin 4) (j : Fin 1024) : Fin 4096 := ⟨1024 * c.val + j.val, by omega⟩

/-- A group of 1024 rows of the queries, of the cotangent, of the row log-sums and of the row sums. -/
def rowsQ (x : Vec Ideal S1x4096x192 .bf16) (c : Fin 4) : Vec Ideal S1x1024x192 .bf16 := fun y => x (ix3 0 (row c (y 1)) (y 2))
def rowsG (x : Vec Ideal S4096x128 .f32) (c : Fin 4) : Vec Ideal S1024x128 .f32 := fun y => x (ix2 (row c (y 0)) (y 1))
def rowsL (x : Vec Ideal S1x4x1x1024 .f32) (c : Fin 4) : Vec Ideal S1x1x1x1024 .f32 := fun y => x (ix4 0 c 0 (y 3))
def rowsD (x : Vec Ideal S4x8x1024 .f32) (c : Fin 4) : Vec Ideal S1x1x1024 .f32 := fun y => x (ix3 c 0 (y 2))
def rowsO (x : Vec Ideal S1x4096x192 .f32) (c : Fin 4) : Vec Ideal S1x1024x192 .f32 := fun y => x (ix3 0 (row c (y 1)) (y 2))

theorem ld_q (x : Vec Ideal S1x4096x192 .bf16) (n : ℕ) (c : Fin 4) (hn : n = 1024 * c.val) (inb) :
    View.ld x (Rect.unit ![0, n, 0] ![1, 1024, 192] inb) = rowsQ x c := by
  funext y
  refine View.ld_unit_apply_of x _ _ inb y _ fun a => ?_
  match a with
  | ⟨0, _⟩ => show 0 = 0 + (y 0).val; have : (y 0).val < 1 := (y 0).isLt; omega
  | ⟨1, _⟩ => show 1024 * c.val + (y 1).val = n + (y 1).val; exact congrArg (· + (y 1).val) hn.symm
  | ⟨2, _⟩ => show (y 2).val = 0 + (y 2).val; omega

theorem ld_o (x : Vec Ideal S1x4096x192 .f32) (n : ℕ) (c : Fin 4) (hn : n = 1024 * c.val) (inb) :
    View.ld x (Rect.unit ![0, n, 0] ![1, 1024, 192] inb) = rowsO x c := by
  funext y
  refine View.ld_unit_apply_of x _ _ inb y _ fun a => ?_
  match a with
  | ⟨0, _⟩ => show 0 = 0 + (y 0).val; have : (y 0).val < 1 := (y 0).isLt; omega
  | ⟨1, _⟩ => show 1024 * c.val + (y 1).val = n + (y 1).val; exact congrArg (· + (y 1).val) hn.symm
  | ⟨2, _⟩ => show (y 2).val = 0 + (y 2).val; omega

theorem ld_g (x : Vec Ideal S4096x128 .f32) (n : ℕ) (c : Fin 4) (hn : n = 1024 * c.val) (inb) :
    View.ld x (Rect.unit ![n, 0] ![1024, 128] inb) = rowsG x c := by
  funext y
  refine View.ld_unit_apply_of x _ _ inb y _ fun a => ?_
  match a with
  | ⟨0, _⟩ => show 1024 * c.val + (y 0).val = n + (y 0).val; exact congrArg (· + (y 0).val) hn.symm
  | ⟨1, _⟩ => show (y 1).val = 0 + (y 1).val; omega

theorem ld_l (x : Vec Ideal S1x4x1x1024 .f32) (n : ℕ) (c : Fin 4) (hn : n = c.val) (inb) :
    View.ld x (Rect.unit ![0, n, 0, 0] ![1, 1, 1, 1024] inb) = rowsL x c := by
  funext y
  refine View.ld_unit_apply_of x _ _ inb y _ fun a => ?_
  match a with
  | ⟨0, _⟩ => show 0 = 0 + (y 0).val; have : (y 0).val < 1 := (y 0).isLt; omega
  | ⟨1, _⟩ => show c.val = n + (y 1).val; have : (y 1).val < 1 := (y 1).isLt; omega
  | ⟨2, _⟩ => show 0 = 0 + (y 2).val; have : (y 2).val < 1 := (y 2).isLt; omega
  | ⟨3, _⟩ => show (y 3).val = 0 + (y 3).val; omega

theorem ld_d (x : Vec Ideal S4x8x1024 .f32) (n : ℕ) (c : Fin 4) (hn : n = c.val) (inb) :
    View.ld x (Rect.unit ![n, 0, 0] ![1, 1, 1024] inb) = rowsD x c := by
  funext y
  refine View.ld_unit_apply_of x _ _ inb y _ fun a => ?_
  match a with
  | ⟨0, _⟩ => show c.val = n + (y 0).val; have : (y 0).val < 1 := (y 0).isLt; omega
  | ⟨1, _⟩ => show 0 = 0 + (y 1).val; have : (y 1).val < 1 := (y 1).isLt; omega
  | ⟨2, _⟩ => show (y 2).val = 0 + (y 2).val; omega

section
variable (x0 : Vec Ideal S1x4096x192 .bf16) (x1 : Vec Ideal S1x1024x192 .bf16) (x2 : Vec Ideal S1x1024x128 .bf16)
  (x4 : Vec Ideal S1x4x1x1024 .f32) (x5 : Vec Ideal S4096x128 .f32) (δ : Vec Ideal S4x8x1024 .f32)

/-- The attention weight of key `i` for query `j` of group `c`. -/
def wt (i : Fin 1024) (c : Fin 4) (j : Fin 1024) : EReal :=
  Ideal.exp2 ((∑ d : Fin 192, x1 (ix3 0 i d) * x0 (ix3 0 (row c j) d)) * c2 - x4 (ix4 0 c 0 j))

/-- The score's gradient at key `i` and query `j` of group `c`. -/
def ds (i : Fin 1024) (c : Fin 4) (j : Fin 1024) : EReal :=
  wt x0 x1 x4 i c j * ((∑ d : Fin 128, x2 (ix3 0 i d) * x5 (ix2 (row c j) d)) - δ (ix3 c 0 j)) * scale

theorem wt_eq (c : Fin 4) (i j : Fin 1024) : k0_pay25 (k0_pay9 x1) (rowsQ x0 c) (rowsL x4 c) (ix2 i j) = wt x0 x1 x4 i c j := by
  rw [weight_apply]
  refine congrArg (fun z => Ideal.exp2 (z * c2 - _)) (Finset.sum_congr rfl fun d _ => ?_)
  exact congrArg (· * _) (cast_drop x1 _ i d)

theorem ds_eq (c : Fin 4) (i j : Fin 1024) :
    k0_pay27 (k0_pay9 x1) (k0_pay10 x2) (rowsQ x0 c) (rowsG x5 c) (rowsL x4 c) (rowsD δ c) (ix2 i j) = ds x0 x1 x2 x4 x5 δ i c j := by
  rw [dscore_apply, wt_eq]
  refine congrArg (fun z => wt x0 x1 x4 i c j * (z - _) * scale) (Finset.sum_congr rfl fun d _ => ?_)
  exact congrArg (· * _) (cast_drop x2 _ i d)

section
variable {x0 : Vec Ideal S1x4096x192 .bf16} {x4 : Vec Ideal S1x4x1x1024 .f32} {x5 : Vec Ideal S4096x128 .f32} {δ : Vec Ideal S4x8x1024 .f32} {c : Fin 4}
  {xq : Vec Ideal S1x1024x192 .bf16} {xg : Vec Ideal S1024x128 .f32} {xl : Vec Ideal S1x1x1x1024 .f32} {xd : Vec Ideal S1x1x1024 .f32}
  (hq : xq = rowsQ x0 c) (hg : xg = rowsG x5 c) (hl : xl = rowsL x4 c) (hd : xd = rowsD δ c)
include hq hg hl

theorem step_dv (a : Vec Ideal S1x1024x128 .f32) (z : Fin 1) (i : Fin 1024) (d : Fin 128) {e : EReal} (he : a (ix3 0 i d) = e) :
    k0_pay26 (k0_pay9 x1) xq xg xl a (ix3 z i d)
      = e + ∑ j : Fin 1024, wt x0 x1 x4 i c j * x5 (ix2 (row c j) d) := by
  rw [dv_apply, hq, hg, hl, he]
  exact congrArg (e + ·) (Finset.sum_congr rfl fun j _ => congrArg (· * _) (wt_eq x0 x1 x4 c i j))

include hd
theorem step_dk (a : Vec Ideal S1x1024x192 .f32) (z : Fin 1) (i : Fin 1024) (d : Fin 192) {e : EReal} (he : a (ix3 0 i d) = e) :
    k0_pay28 (k0_pay23 xq) (k0_pay27 (k0_pay9 x1) (k0_pay10 x2) xq xg xl xd) a (ix3 z i d)
      = e + ∑ j : Fin 1024, ds x0 x1 x2 x4 x5 δ i c j * x0 (ix3 0 (row c j) d) := by
  rw [dk_apply, hq, hg, hl, hd, he]
  exact congrArg (e + ·) (Finset.sum_congr rfl fun j _ => congrArg₂ (· * ·) (ds_eq x0 x1 x2 x4 x5 δ c i j) (cast_drop (rowsQ x0 c) _ j d))

theorem step_dq (a : Vec Ideal S1x1024x192 .f32) (z : Fin 1) (j : Fin 1024) (d : Fin 192) {e : EReal} (he : a (ix3 0 j d) = e) :
    k0_pay29 (k0_pay9 x1) (k0_pay27 (k0_pay9 x1) (k0_pay10 x2) xq xg xl xd) a (ix3 z j d)
      = e + ∑ i : Fin 1024, ds x0 x1 x2 x4 x5 δ i c j * x1 (ix3 0 i d) := by
  rw [dq_apply, hq, hg, hl, hd, he]
  exact congrArg (e + ·) (Finset.sum_congr rfl fun i _ => congrArg₂ (· * ·) (ds_eq x0 x1 x2 x4 x5 δ c i j) (cast_drop x1 _ i d))
end

theorem zero_dv (i : Fin 1024) (d : Fin 128) : (k0_pay12 (F := Ideal)) (ix3 0 i d) = 0 := Ideal.ofBits_zero_f32
theorem zero_dk (i : Fin 1024) (d : Fin 192) : (k0_pay11 (F := Ideal)) (ix3 0 i d) = 0 := Ideal.ofBits_zero_f32

/-- The query gradient's block after a point, from what it held. -/
def dqOf (old : Vec Ideal S1x4096x192 .f32) : Vec Ideal S1x4096x192 .f32 := fun y =>
  old (ix3 0 (y 1) (y 2)) + ∑ i : Fin 1024, ds x0 x1 x2 x4 x5 δ i ⟨(y 1).val / 1024, by have : (y 1).val < 4096 := (y 1).isLt; omega⟩
    ⟨(y 1).val % 1024, Nat.mod_lt _ (by omega)⟩ * x1 (ix3 0 i (y 2))

theorem dqOf_row (old : Vec Ideal S1x4096x192 .f32) (z : Fin 1) (c : Fin 4) (j : Fin 1024) (d : Fin 192) :
    dqOf x0 x1 x2 x4 x5 δ old (ix3 z (row c j) d) = old (ix3 0 (row c j) d) + ∑ i : Fin 1024, ds x0 x1 x2 x4 x5 δ i c j * x1 (ix3 0 i d) := by
  have h1 : (1024 * c.val + j.val) / 1024 = c.val := by omega
  have h2 : (1024 * c.val + j.val) % 1024 = j.val := by omega
  show old (ix3 0 (row c j) d) + ∑ i : Fin 1024, ds x0 x1 x2 x4 x5 δ i ⟨(1024 * c.val + j.val) / 1024, _⟩ ⟨(1024 * c.val + j.val) % 1024, _⟩ * x1 (ix3 0 i d) = _
  simp only [h1, h2]

theorem inb_rows (n : ℕ) (h : n ≤ 3072) : ∀ a : Fin 3, (![0, n, 0] : Fin 3 → ℕ) a + (![1, 1024, 192] : Fin 3 → ℕ) a ≤ S1x4096x192.size a := fun a => by
  match a with
  | ⟨0, _⟩ => exact Nat.le_refl 1
  | ⟨1, _⟩ => show n + 1024 ≤ 4096; omega
  | ⟨2, _⟩ => exact Nat.le_refl 192

theorem emb_rows (n : ℕ) (c : Fin 4) (hn : n = 1024 * c.val) (inb) (y : S1x1024x192.Idx) :
    (Rect.unit (s := S1x4096x192) ![0, n, 0] ![1, 1024, 192] inb).emb y = ix3 (y 0) (row c (y 1)) (y 2) := by
  refine funext fun a => Fin.ext ((Rect.idx_unit_val _ _ inb y a).trans ?_)
  match a with
  | ⟨0, _⟩ => show 0 + (y 0).val = (y 0).val; omega
  | ⟨1, _⟩ => show n + (y 1).val = 1024 * c.val + (y 1).val; rw [hn]
  | ⟨2, _⟩ => show 0 + (y 2).val = (y 2).val; omega

/-- The piece stored over one group of rows agrees with the block's closed form. -/
theorem piece_dq (old : Vec Ideal S1x4096x192 .f32) (n : ℕ) {c : Fin 4} (hn : n = 1024 * c.val) (inb) (y : S1x1024x192.Idx)
    {xq : Vec Ideal S1x1024x192 .bf16} {xg : Vec Ideal S1024x128 .f32} {xl : Vec Ideal S1x1x1x1024 .f32} {xd : Vec Ideal S1x1x1024 .f32}
    {xo : Vec Ideal S1x1024x192 .f32} (hq : xq = rowsQ x0 c) (hg : xg = rowsG x5 c) (hl : xl = rowsL x4 c) (hd : xd = rowsD δ c) (ho : xo = rowsO old c) :
    k0_pay29 (k0_pay9 x1) (k0_pay27 (k0_pay9 x1) (k0_pay10 x2) xq xg xl xd) xo y
      = dqOf x0 x1 x2 x4 x5 δ old ((Rect.unit (s := S1x4096x192) ![0, n, 0] ![1, 1024, 192] inb).emb y) := by
  rw [emb_rows n c hn]
  refine Eq.trans ?_ (dqOf_row x0 x1 x2 x4 x5 δ old (y 0) c (y 1) (y 2)).symm
  exact (congrArg _ (eq_ix3 y)).trans (step_dq x1 x2 hq hg hl hd xo (y 0) (y 1) (y 2) (by rw [ho]; rfl))

/-- A row of the block lies in one of the four groups. -/
theorem mem_rows (y : S1x4096x192.Idx) (n : ℕ) (inb) (h : n ≤ (y 1).val) (h' : (y 1).val < n + 1024) :
    y ∈ (Rect.unit (s := S1x4096x192) ![0, n, 0] ![1, 1024, 192] inb).set := by
  refine Rect.mem_set_unit.2 fun a => ?_
  match a with
  | ⟨0, _⟩ => exact ⟨Nat.zero_le _, by show (y 0).val < 0 + 1; have : (y 0).val < 1 := (y 0).isLt; omega⟩
  | ⟨1, _⟩ => exact ⟨h, h'⟩
  | ⟨2, _⟩ => exact ⟨Nat.zero_le _, by show (y 2).val < 0 + 192; have : (y 2).val < 192 := (y 2).isLt; omega⟩
end

section
variable (x3 x5 : Vec Ideal S4096x128 .f32)

/-- The row sums of the cotangent times the output, in the scratch buffer's layout. -/
def dl : Vec Ideal S4x8x1024 .f32 := fun y => ∑ d : Fin 128, x5 (ix2 (row (y 0) (y 2)) d) * x3 (ix2 (row (y 0) (y 2)) d)

theorem slice_delta (n : ℕ) (c : Fin 4) (hn : n = 1024 * c.val) (h : S8x4096.Slices ![0, n] S8x1024) (h' : S8x1024.ShapeCasts S1x8x1024) (y : S1x8x1024.Idx) :
    shapeCast S1x8x1024 (extractStridedSlice S8x1024 ![0, n] (k0_pay3 x5 x3) h) h' y = dl x3 x5 (ix3 c (y 1) (y 2)) := by
  refine (congrArg _ (eq_ix3 y)).trans ((cast_add _ _ (y 0) (y 1) (y 2)).trans ?_)
  refine (extractStridedSlice_apply _ _ h (ix2 (y 1) (y 2)) (ix2 (y 1) (row c (y 2))) fun a => ?_).trans (delta_apply x5 x3 (y 1) (row c (y 2)))
  match a with
  | ⟨0, _⟩ => show (y 1).val = 0 + (y 1).val; omega
  | ⟨1, _⟩ => show 1024 * c.val + (y 2).val = n + (y 2).val; exact congrArg (· + (y 2).val) hn.symm

theorem emb_scratch (n : ℕ) (c : Fin 4) (hn : n = c.val) (inb) (y : S1x8x1024.Idx) :
    (Rect.unit (s := S4x8x1024) ![n, 0, 0] ![1, 8, 1024] inb).emb y = ix3 c (y 1) (y 2) := by
  refine funext fun a => Fin.ext ((Rect.idx_unit_val _ _ inb y a).trans ?_)
  match a with
  | ⟨0, _⟩ => show n + (y 0).val = c.val; have : (y 0).val < 1 := (y 0).isLt; omega
  | ⟨1, _⟩ => show 0 + (y 1).val = (y 1).val; omega
  | ⟨2, _⟩ => show 0 + (y 2).val = (y 2).val; omega

theorem mem_scratch (y : S4x8x1024.Idx) (n : ℕ) (inb) (h : (y 0).val = n) :
    y ∈ (Rect.unit (s := S4x8x1024) ![n, 0, 0] ![1, 8, 1024] inb).set := by
  refine Rect.mem_set_unit.2 fun a => ?_
  match a with
  | ⟨0, _⟩ => exact ⟨h.ge, by show (y 0).val < n + 1; omega⟩
  | ⟨1, _⟩ => exact ⟨Nat.zero_le _, by show (y 1).val < 0 + 8; have : (y 1).val < 8 := (y 1).isLt; omega⟩
  | ⟨2, _⟩ => exact ⟨Nat.zero_le _, by show (y 2).val < 0 + 1024; have : (y 2).val < 1024 := (y 2).isLt; omega⟩

/-- The four stores of the row sums. -/
abbrev stores : List (View.Piece (Elt Ideal) S4x8x1024 .f32) :=
  [⟨Rect.unit ![3, 0, 0] ![1, 8, 1024] inb_S4x8x1024_S1x8x1024_3_0_0, k0_pay7 x5 x3⟩, ⟨Rect.unit ![2, 0, 0] ![1, 8, 1024] inb_S4x8x1024_S1x8x1024_2_0_0, k0_pay6 x5 x3⟩,
   ⟨Rect.unit ![1, 0, 0] ![1, 8, 1024] inb_S4x8x1024_S1x8x1024_1_0_0, k0_pay5 x5 x3⟩, ⟨Rect.unit ![0, 0, 0] ![1, 8, 1024] inb_S4x8x1024_S1x8x1024_0_0_0, k0_pay4 x5 x3⟩]

theorem canon_stores : View.canon (stores x3 x5) = dl x3 x5 := by
  funext y
  refine View.canon_apply_of_pieces (dl x3 x5) _ (fun p hp y => ?_) y ?_
  · simp only [List.mem_cons, List.not_mem_nil, or_false] at hp
    rcases hp with rfl | rfl | rfl | rfl
    · exact (slice_delta x3 x5 3072 3 rfl slices_S8x4096_o0_3072_S8x1024 _ y).trans (congrArg _ (emb_scratch 3 3 rfl inb_S4x8x1024_S1x8x1024_3_0_0 y).symm)
    · exact (slice_delta x3 x5 2048 2 rfl slices_S8x4096_o0_2048_S8x1024 _ y).trans (congrArg _ (emb_scratch 2 2 rfl inb_S4x8x1024_S1x8x1024_2_0_0 y).symm)
    · exact (slice_delta x3 x5 1024 1 rfl slices_S8x4096_o0_1024_S8x1024 _ y).trans (congrArg _ (emb_scratch 1 1 rfl inb_S4x8x1024_S1x8x1024_1_0_0 y).symm)
    · exact (slice_delta x3 x5 0 0 rfl slices_S8x4096_o0_0_S8x1024 _ y).trans (congrArg _ (emb_scratch 0 0 rfl inb_S4x8x1024_S1x8x1024_0_0_0 y).symm)
  · have hy : (y 0).val < 4 := (y 0).isLt
    rcases (by omega : (y 0).val = 3 ∨ (y 0).val = 2 ∨ (y 0).val = 1 ∨ (y 0).val = 0) with h | h | h | h
    · exact ⟨_, .head _, mem_scratch y 3 inb_S4x8x1024_S1x8x1024_3_0_0 h⟩
    · exact ⟨_, .tail _ (.head _), mem_scratch y 2 inb_S4x8x1024_S1x8x1024_2_0_0 h⟩
    · exact ⟨_, .tail _ (.tail _ (.head _)), mem_scratch y 1 inb_S4x8x1024_S1x8x1024_1_0_0 h⟩
    · exact ⟨_, .tail _ (.tail _ (.tail _ (.head _))), mem_scratch y 0 inb_S4x8x1024_S1x8x1024_0_0_0 h⟩

theorem read_stores (v : View sig .tc .vmem S4x8x1024 .f32) (n : ℕ) (c : Fin 4) (hn : n = c.val) (inb) :
    v.readCov (stores x3 x5) (Rect.unit ![n, 0, 0] ![1, 1, 1024] inb).toLoadRect = rowsD (dl x3 x5) c := by
  rw [View.readCov_eq_canon', canon_stores]
  exact ld_d (dl x3 x5) n c hn inb
end

section
variable (v : View sig .tc .vmem S1x4096x192 .f32)

/-- A group of rows read after the zero fill. -/
theorem read_fill (n : ℕ) (c : Fin 4) (hn : n = 1024 * c.val) (inb) :
    v.readCov [⟨Rect.unit ![0, 0, 0] ![1, 4096, 192] inb_S1x4096x192_S1x4096x192_0_0_0, k0_pay8 (F := Ideal)⟩]
      (Rect.unit (s := S1x4096x192) ![0, n, 0] ![1, 1024, 192] inb).toLoadRect = rowsO (fun _ => 0) c := by
  rw [View.readCov_eq_canon', View.canon_unit_zero (S := S1x4096x192) hz3]
  funext j
  exact Ideal.ofBits_zero_f32

/-- A later group of rows read past the store of an earlier group. -/
theorem read_past (n n' : ℕ) (h : n + 1024 ≤ n') (inb inb') (x) (L : List (View.Piece (Elt Ideal) S1x4096x192 .f32)) :
    v.readCov (⟨Rect.unit (s := S1x4096x192) ![0, n, 0] ![1, 1024, 192] inb, x⟩ :: L) (Rect.unit (s := S1x4096x192) ![0, n', 0] ![1, 1024, 192] inb').toLoadRect
      = v.readCov L (Rect.unit (s := S1x4096x192) ![0, n', 0] ![1, 1024, 192] inb').toLoadRect := by
  rw [View.readCov_eq_canon', View.readCov_eq_canon']
  funext j
  refine View.canon_cons_of_not_mem _ _ fun hm => ?_
  have hm' : (Rect.unit (s := S1x4096x192) ![0, n', 0] ![1, 1024, 192] inb').idx j ∈ (Rect.unit (s := S1x4096x192) ![0, n, 0] ![1, 1024, 192] inb).set := hm
  rw [Rect.mem_set_unit] at hm'
  have h1 := (hm' 1).2
  have h2 : ((Rect.unit (s := S1x4096x192) ![0, n', 0] ![1, 1024, 192] inb').idx j 1 : ℕ) = n' + (j 1).val := Rect.idx_unit_val _ _ inb' j 1
  have h3 : ((Rect.unit (s := S1x4096x192) ![0, n', 0] ![1, 1024, 192] inb').idx j 1 : ℕ) < n + 1024 := h1
  omega
end

section
variable (c : Dev nD) (i : grid0.Coords) (arg2 : Memref sig .tc .vmem S1x4096x192 .bf16) (harg2 : arg2.IsWhole) (arg3 : Memref sig .tc .vmem S1x1024x192 .bf16) (harg3 : arg3.IsWhole) (arg4 : Memref sig .tc .vmem S1x1024x128 .bf16) (harg4 : arg4.IsWhole) (arg5 : Memref sig .tc .vmem S4096x128 .f32) (harg5 : arg5.IsWhole) (arg6 : Memref sig .tc .vmem S1x4x1x1024 .f32) (harg6 : arg6.IsWhole) (arg7 : Memref sig .tc .vmem S4096x128 .f32) (harg7 : arg7.IsWhole) (arg8 : Memref sig .tc .vmem S1x4096x192 .f32) (harg8 : arg8.IsWhole) (arg9 : Memref sig .tc .vmem S1x1024x192 .f32) (harg9 : arg9.IsWhole) (arg10 : Memref sig .tc .vmem S1x1024x128 .f32) (harg10 : arg10.IsWhole) (arg11 : Memref sig .tc .vmem S4x8x1024 .f32) (harg11 : arg11.IsWhole)
  (x0 : Vec Ideal S1x4096x192 .bf16) (x1 : Vec Ideal S1x1024x192 .bf16) (x2 : Vec Ideal S1x1024x128 .bf16) (x3 : Vec Ideal S4096x128 .f32) (x4 : Vec Ideal S1x4x1x1024 .f32) (x5 : Vec Ideal S4096x128 .f32)

theorem outB_dv (hc0 : ¬cond0_0 i) (xo6 : Vec Ideal S1x4096x192 .f32) (xs0 : Vec Ideal S4x8x1024 .f32) (z : Fin 1) (k : Fin 1024) (d : Fin 128):
    out0_B_8 c i arg2 harg2 arg3 harg3 arg4 harg4 arg5 harg5 arg6 harg6 arg7 harg7 arg8 harg8 arg9 harg9 arg10 harg10 arg11 harg11 hc0 x0 x1 x2 x3 x4 x5 xo6 xs0 (ix3 z k d) = ∑ g : Fin 4, ∑ j : Fin 1024, wt x0 x1 x4 k g j * x5 (ix2 (row g j) d) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 xo6 xs0)]
  unfold kernelRun0_B
  dsimp only
  sl_unfold_words
  rw [View.canon_cons_unit_zero hz3]
  simp only [View.readCov_cons_toLoadRect, View.readAt_eq_ld, harg2.read_unread, harg3.read_unread, harg4.read_unread, harg6.read_unread, harg7.read_unread, harg8.read_unread, harg11.read_unread, View.ld_unit_zero (S := S1x1024x192) hz3, View.ld_unit_zero (S := S1x1024x128) hz3, k1_dv, k3_dv, k4_dv, k1_ds, k1_dk, k3_dk, k4_dk, k1_dq, k3_dq, k4_dq]
  rw [Fin.sum_univ_four, ← zero_add (∑ j : Fin 1024, wt x0 x1 x4 k 0 j * x5 (ix2 (row 0 j) d))]
  exact step_dv x1 (ld_q x0 3072 3 rfl _) (ld_g x5 3072 3 rfl _) (ld_l x4 3 3 rfl _) _ z k d (step_dv x1 (ld_q x0 2048 2 rfl _) (ld_g x5 2048 2 rfl _) (ld_l x4 2 2 rfl _) _ _ k d (step_dv x1 (ld_q x0 1024 1 rfl _) (ld_g x5 1024 1 rfl _) (ld_l x4 1 1 rfl _) _ _ k d (step_dv x1 (ld_q x0 0 0 rfl _) (ld_g x5 0 0 rfl _) (ld_l x4 0 0 rfl _) _ _ k d (zero_dv k d))))

theorem outB_dk (hc0 : ¬cond0_0 i) (xo6 : Vec Ideal S1x4096x192 .f32) (xs0 : Vec Ideal S4x8x1024 .f32) (z : Fin 1) (k : Fin 1024) (d : Fin 192):
    out0_B_7 c i arg2 harg2 arg3 harg3 arg4 harg4 arg5 harg5 arg6 harg6 arg7 harg7 arg8 harg8 arg9 harg9 arg10 harg10 arg11 harg11 hc0 x0 x1 x2 x3 x4 x5 xo6 xs0 (ix3 z k d) = ∑ g : Fin 4, ∑ j : Fin 1024, ds x0 x1 x2 x4 x5 xs0 k g j * x0 (ix3 0 (row g j) d) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xo6 xs0)]
  unfold kernelRun0_B
  dsimp only
  sl_unfold_words
  rw [View.canon_cons_unit_zero hz3]
  simp only [View.readCov_cons_toLoadRect, View.readAt_eq_ld, harg2.read_unread, harg3.read_unread, harg4.read_unread, harg6.read_unread, harg7.read_unread, harg8.read_unread, harg11.read_unread, View.ld_unit_zero (S := S1x1024x192) hz3, View.ld_unit_zero (S := S1x1024x128) hz3, k1_dv, k3_dv, k4_dv, k1_ds, k1_dk, k3_dk, k4_dk, k1_dq, k3_dq, k4_dq]
  rw [Fin.sum_univ_four, ← zero_add (∑ j : Fin 1024, ds x0 x1 x2 x4 x5 xs0 k 0 j * x0 (ix3 0 (row 0 j) d))]
  exact step_dk x1 x2 (ld_q x0 3072 3 rfl _) (ld_g x5 3072 3 rfl _) (ld_l x4 3 3 rfl _) (ld_d xs0 3 3 rfl _) _ z k d (step_dk x1 x2 (ld_q x0 2048 2 rfl _) (ld_g x5 2048 2 rfl _) (ld_l x4 2 2 rfl _) (ld_d xs0 2 2 rfl _) _ _ k d (step_dk x1 x2 (ld_q x0 1024 1 rfl _) (ld_g x5 1024 1 rfl _) (ld_l x4 1 1 rfl _) (ld_d xs0 1 1 rfl _) _ _ k d (step_dk x1 x2 (ld_q x0 0 0 rfl _) (ld_g x5 0 0 rfl _) (ld_l x4 0 0 rfl _) (ld_d xs0 0 0 rfl _) _ _ k d (zero_dk k d))))

theorem outB_dq (hc0 : ¬cond0_0 i) (xo6 : Vec Ideal S1x4096x192 .f32) (xs0 : Vec Ideal S4x8x1024 .f32) :
    out0_B_6 c i arg2 harg2 arg3 harg3 arg4 harg4 arg5 harg5 arg6 harg6 arg7 harg7 arg8 harg8 arg9 harg9 arg10 harg10 arg11 harg11 hc0 x0 x1 x2 x3 x4 x5 xo6 xs0 = dqOf x0 x1 x2 x4 x5 xs0 xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xo6 xs0)]
  unfold kernelRun0_B
  dsimp only
  sl_unfold_words
  simp only [View.readCov_cons_toLoadRect, View.readAt_eq_ld, harg2.read_unread, harg3.read_unread, harg4.read_unread, harg6.read_unread, harg7.read_unread, harg8.read_unread, harg11.read_unread, View.ld_unit_zero (S := S1x1024x192) hz3, View.ld_unit_zero (S := S1x1024x128) hz3, k1_dv, k3_dv, k4_dv, k1_ds, k1_dk, k3_dk, k4_dk, k1_dq, k3_dq, k4_dq]
  funext y
  refine View.canon_apply_of_pieces (dqOf x0 x1 x2 x4 x5 xs0 xo6) _ (fun p hp y => ?_) y ?_
  · simp only [List.mem_cons, List.not_mem_nil, or_false] at hp
    rcases hp with rfl | rfl | rfl | rfl
    · exact piece_dq x0 x1 x2 x4 x5 xs0 xo6 3072 rfl (inb_rows 3072 (by omega)) y (ld_q x0 3072 3 rfl _) (ld_g x5 3072 3 rfl _) (ld_l x4 3 3 rfl _) (ld_d xs0 3 3 rfl _) (ld_o xo6 3072 3 rfl _)
    · exact piece_dq x0 x1 x2 x4 x5 xs0 xo6 2048 rfl (inb_rows 2048 (by omega)) y (ld_q x0 2048 2 rfl _) (ld_g x5 2048 2 rfl _) (ld_l x4 2 2 rfl _) (ld_d xs0 2 2 rfl _) (ld_o xo6 2048 2 rfl _)
    · exact piece_dq x0 x1 x2 x4 x5 xs0 xo6 1024 rfl (inb_rows 1024 (by omega)) y (ld_q x0 1024 1 rfl _) (ld_g x5 1024 1 rfl _) (ld_l x4 1 1 rfl _) (ld_d xs0 1 1 rfl _) (ld_o xo6 1024 1 rfl _)
    · exact piece_dq x0 x1 x2 x4 x5 xs0 xo6 0 rfl (inb_rows 0 (by omega)) y (ld_q x0 0 0 rfl _) (ld_g x5 0 0 rfl _) (ld_l x4 0 0 rfl _) (ld_d xs0 0 0 rfl _) (ld_o xo6 0 0 rfl _)
  · have hy : (y 1).val < 4096 := (y 1).isLt
    rcases (by omega : 3072 ≤ (y 1).val ∨ (2048 ≤ (y 1).val ∧ (y 1).val < 3072) ∨ (1024 ≤ (y 1).val ∧ (y 1).val < 2048) ∨ (y 1).val < 1024) with h | h | h | h
    · exact ⟨_, .head _, mem_rows y 3072 (inb_rows 3072 (by omega)) h (by omega)⟩
    · exact ⟨_, .tail _ (.head _), mem_rows y 2048 (inb_rows 2048 (by omega)) h.1 (by omega)⟩
    · exact ⟨_, .tail _ (.tail _ (.head _)), mem_rows y 1024 (inb_rows 1024 (by omega)) h.1 (by omega)⟩
    · exact ⟨_, .tail _ (.tail _ (.tail _ (.head _))), mem_rows y 0 (inb_rows 0 (by omega)) (Nat.zero_le _) (by omega)⟩

theorem outA_dv (hc0 : cond0_0 i) (z : Fin 1) (k : Fin 1024) (d : Fin 128):
    out0_A_8 c i arg2 harg2 arg3 harg3 arg4 harg4 arg5 harg5 arg6 harg6 arg7 harg7 arg8 harg8 arg9 harg9 arg10 harg10 arg11 harg11 hc0 x0 x1 x2 x3 x4 x5 (ix3 z k d) = ∑ g : Fin 4, ∑ j : Fin 1024, wt x0 x1 x4 k g j * x5 (ix2 (row g j) d) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero hz3]
  simp only [View.readCov_cons_toLoadRect, View.readAt_eq_ld, harg2.read_unread, harg3.read_unread, harg5.read_unread, harg4.read_unread, harg6.read_unread, harg7.read_unread, harg8.read_unread, harg11.read_unread, View.ld_unit_zero (S := S4096x128) hz2, View.ld_unit_zero (S := S1x1024x192) hz3, View.ld_unit_zero (S := S1x1024x128) hz3, k1_dv, k3_dv, k4_dv, k1_ds, k1_dk, k3_dk, k4_dk, k1_dq, k3_dq, k4_dq]
  rw [Fin.sum_univ_four, ← zero_add (∑ j : Fin 1024, wt x0 x1 x4 k 0 j * x5 (ix2 (row 0 j) d))]
  exact step_dv x1 (ld_q x0 3072 3 rfl _) (ld_g x5 3072 3 rfl _) (ld_l x4 3 3 rfl _) _ z k d (step_dv x1 (ld_q x0 2048 2 rfl _) (ld_g x5 2048 2 rfl _) (ld_l x4 2 2 rfl _) _ _ k d (step_dv x1 (ld_q x0 1024 1 rfl _) (ld_g x5 1024 1 rfl _) (ld_l x4 1 1 rfl _) _ _ k d (step_dv x1 (ld_q x0 0 0 rfl _) (ld_g x5 0 0 rfl _) (ld_l x4 0 0 rfl _) _ _ k d (zero_dv k d))))

theorem outA_dk (hc0 : cond0_0 i) (z : Fin 1) (k : Fin 1024) (d : Fin 192):
    out0_A_7 c i arg2 harg2 arg3 harg3 arg4 harg4 arg5 harg5 arg6 harg6 arg7 harg7 arg8 harg8 arg9 harg9 arg10 harg10 arg11 harg11 hc0 x0 x1 x2 x3 x4 x5 (ix3 z k d) = ∑ g : Fin 4, ∑ j : Fin 1024, ds x0 x1 x2 x4 x5 (dl x3 x5) k g j * x0 (ix3 0 (row g j) d) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero hz3]
  simp only [View.readCov_cons_toLoadRect, View.readAt_eq_ld, harg2.read_unread, harg3.read_unread, harg5.read_unread, harg4.read_unread, harg6.read_unread, harg7.read_unread, harg8.read_unread, harg11.read_unread, View.ld_unit_zero (S := S4096x128) hz2, View.ld_unit_zero (S := S1x1024x192) hz3, View.ld_unit_zero (S := S1x1024x128) hz3, k1_dv, k3_dv, k4_dv, k1_ds, k1_dk, k3_dk, k4_dk, k1_dq, k3_dq, k4_dq]
  rw [Fin.sum_univ_four, ← zero_add (∑ j : Fin 1024, ds x0 x1 x2 x4 x5 (dl x3 x5) k 0 j * x0 (ix3 0 (row 0 j) d))]
  exact step_dk x1 x2 (ld_q x0 3072 3 rfl _) (ld_g x5 3072 3 rfl _) (ld_l x4 3 3 rfl _) (read_stores x3 x5 arg11.view 3 3 rfl _) _ z k d (step_dk x1 x2 (ld_q x0 2048 2 rfl _) (ld_g x5 2048 2 rfl _) (ld_l x4 2 2 rfl _) (read_stores x3 x5 arg11.view 2 2 rfl _) _ _ k d (step_dk x1 x2 (ld_q x0 1024 1 rfl _) (ld_g x5 1024 1 rfl _) (ld_l x4 1 1 rfl _) (read_stores x3 x5 arg11.view 1 1 rfl _) _ _ k d (step_dk x1 x2 (ld_q x0 0 0 rfl _) (ld_g x5 0 0 rfl _) (ld_l x4 0 0 rfl _) (read_stores x3 x5 arg11.view 0 0 rfl _) _ _ k d (zero_dk k d))))

theorem soutA (hc0 : cond0_0 i) : sout0_A_0 c i arg2 harg2 arg3 harg3 arg4 harg4 arg5 harg5 arg6 harg6 arg7 harg7 arg8 harg8 arg9 harg9 arg10 harg10 arg11 harg11 hc0 x0 x1 x2 x3 x4 x5 = dl x3 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg5.read_unread, harg7.read_unread, View.ld_unit_zero (S := S4096x128) hz2]
  exact canon_stores x3 x5

theorem outA_dq (hc0 : cond0_0 i) :
    out0_A_6 c i arg2 harg2 arg3 harg3 arg4 harg4 arg5 harg5 arg6 harg6 arg7 harg7 arg8 harg8 arg9 harg9 arg10 harg10 arg11 harg11 hc0 x0 x1 x2 x3 x4 x5 = dqOf x0 x1 x2 x4 x5 (dl x3 x5) (fun _ => 0) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readCov_cons_toLoadRect, View.readAt_eq_ld, harg2.read_unread, harg3.read_unread, harg5.read_unread, harg4.read_unread, harg6.read_unread, harg7.read_unread, harg8.read_unread, harg11.read_unread, View.ld_unit_zero (S := S4096x128) hz2, View.ld_unit_zero (S := S1x1024x192) hz3, View.ld_unit_zero (S := S1x1024x128) hz3, k1_dv, k3_dv, k4_dv, k1_ds, k1_dk, k3_dk, k4_dk, k1_dq, k3_dq, k4_dq]
  funext y
  refine canon_apply_of_head (dqOf x0 x1 x2 x4 x5 (dl x3 x5) (fun _ => 0)) [_] [_, _, _, _] (fun p hp y => ?_) y ?_
  · simp only [List.mem_cons, List.not_mem_nil, or_false] at hp
    rcases hp with rfl | rfl | rfl | rfl
    · exact piece_dq x0 x1 x2 x4 x5 (dl x3 x5) (fun _ => 0) 3072 rfl (inb_rows 3072 (by omega)) y (ld_q x0 3072 3 rfl _) (ld_g x5 3072 3 rfl _) (ld_l x4 3 3 rfl _) (read_stores x3 x5 arg11.view 3 3 rfl _)
        ((read_past arg8.view 2048 3072 (by omega) _ _ _ _).trans ((read_past arg8.view 1024 3072 (by omega) _ _ _ _).trans ((read_past arg8.view 0 3072 (by omega) _ _ _ _).trans (read_fill arg8.view 3072 3 rfl _))))
    · exact piece_dq x0 x1 x2 x4 x5 (dl x3 x5) (fun _ => 0) 2048 rfl (inb_rows 2048 (by omega)) y (ld_q x0 2048 2 rfl _) (ld_g x5 2048 2 rfl _) (ld_l x4 2 2 rfl _) (read_stores x3 x5 arg11.view 2 2 rfl _)
        ((read_past arg8.view 1024 2048 (by omega) _ _ _ _).trans ((read_past arg8.view 0 2048 (by omega) _ _ _ _).trans (read_fill arg8.view 2048 2 rfl _)))
    · exact piece_dq x0 x1 x2 x4 x5 (dl x3 x5) (fun _ => 0) 1024 rfl (inb_rows 1024 (by omega)) y (ld_q x0 1024 1 rfl _) (ld_g x5 1024 1 rfl _) (ld_l x4 1 1 rfl _) (read_stores x3 x5 arg11.view 1 1 rfl _)
        ((read_past arg8.view 0 1024 (by omega) _ _ _ _).trans (read_fill arg8.view 1024 1 rfl _))
    · exact piece_dq x0 x1 x2 x4 x5 (dl x3 x5) (fun _ => 0) 0 rfl (inb_rows 0 (by omega)) y (ld_q x0 0 0 rfl _) (ld_g x5 0 0 rfl _) (ld_l x4 0 0 rfl _) (read_stores x3 x5 arg11.view 0 0 rfl _)
        (read_fill arg8.view 0 0 rfl _)
  · have hy : (y 1).val < 4096 := (y 1).isLt
    rcases (by omega : 3072 ≤ (y 1).val ∨ (2048 ≤ (y 1).val ∧ (y 1).val < 3072) ∨ (1024 ≤ (y 1).val ∧ (y 1).val < 2048) ∨ (y 1).val < 1024) with h | h | h | h
    · exact ⟨_, .head _, mem_rows y 3072 (inb_rows 3072 (by omega)) h (by omega)⟩
    · exact ⟨_, .tail _ (.head _), mem_rows y 2048 (inb_rows 2048 (by omega)) h.1 (by omega)⟩
    · exact ⟨_, .tail _ (.tail _ (.head _)), mem_rows y 1024 (inb_rows 1024 (by omega)) h.1 (by omega)⟩
    · exact ⟨_, .tail _ (.tail _ (.tail _ (.head _))), mem_rows y 0 (inb_rows 0 (by omega)) (Nat.zero_le _) (by omega)⟩
end
end Cert.AttnBwd
-- ==== Proof.AttnBwdBlocks.lean ====
/- The attention gradient's three result arrays as sums over whole arrays: what each grid point's blocks are, what the points
   of one head leave one after another, and the results at an index. -/
module

public import proofs.«01_k».proof.Proof.AttnBwdCases

@[expose] public section

set_option maxRecDepth 16384

noncomputable section

namespace Cert.AttnBwd

open Idealize.ShloMosaic Idealize.ShloMosaic.TcCoe Idealize.SL.Sem
open Cert.AttnBwdIdeal Cert.AttnBwdIdeal.Gen Cert.Common Idealize.ShloMosaic.ValueIdx

/-! ## Whole arrays -/

/-- Column `d` of head `h` in the cotangent, and in the saved output. -/
def col (h : Fin 4) (d : Fin 128) : Fin 1024 := ⟨128 * h.val + d.val, by omega⟩
def colO (h : Fin 4) (d : Fin 128) : Fin 512 := ⟨128 * h.val + d.val, by omega⟩

section Global

variable (q k : FVec Ideal S4x4096x192 .bf16) (v : FVec Ideal S4x4096x128 .bf16) (o : FVec Ideal S4096x512 .f32)
  (l : FVec Ideal S4x4x1x1024 .f32) (g : FVec Ideal S4096x1024 .f32)

/-- The weight of key `r` for query `j` of group `c`, from the saved row log-sum. -/
def W (h : Fin 4) (r : Fin 4096) (c : Fin 4) (j : Fin 1024) : EReal :=
  Ideal.exp2 ((∑ d : Fin 192, k (ix3 h r d) * q (ix3 h (row c j) d)) * c2 - l (ix4 h c 0 j))

/-- The row sum of cotangent times output. -/
def DL (h c : Fin 4) (j : Fin 1024) : EReal := ∑ d : Fin 128, g (ix2 (row c j) (col h d)) * o (ix2 (row c j) (colO h d))

/-- The gradient of the score of key `r` and query `j` of group `c`. -/
def DS (h : Fin 4) (r : Fin 4096) (c : Fin 4) (j : Fin 1024) : EReal :=
  W q k l h r c j * ((∑ d : Fin 128, v (ix3 h r d) * g (ix2 (row c j) (col h d))) - DL o g h c j) * scale

end Global

/-! ## The blocks of a grid point -/

variable (m : (ℓ : Loc nD τ sig) → Buf (Elt Ideal) ℓ)

/-- Device `c`'s arguments, and the saved output and row log-sums as the region finds them. -/
abbrev qA (c : Dev nD) : FVec Ideal S4x4096x192 .bf16 := m ((c : Thread nD τ).loc main_arg0)
abbrev kA (c : Dev nD) : FVec Ideal S4x4096x192 .bf16 := m ((c : Thread nD τ).loc main_arg1)
abbrev vA (c : Dev nD) : FVec Ideal S4x4096x128 .bf16 := m ((c : Thread nD τ).loc main_arg2)
abbrev gA (c : Dev nD) : FVec Ideal S4096x1024 .f32 := m ((c : Thread nD τ).loc main_arg3)
abbrev oA (c : Dev nD) : FVec Ideal S4096x512 .f32 := V m c main_v16
abbrev lA (c : Dev nD) : FVec Ideal S4x4x1x1024 .f32 := V m c main_v22

/-- The head and the key block of point `t`. -/
def hd (t : Fin cfg0.N) : Fin 4 := ⟨t.val / 4, by have := t.isLt; have hN : cfg0.N = 16 := N_0; omega⟩
def kb (t : Fin cfg0.N) : Fin 4 := ⟨t.val % 4, by omega⟩

/-- Where each input window's block sits in its array. -/
theorem idx_facts : ∀ t : Fin grid0.N,
    (win0_0.index t 0 = t.val / 4 ∧ win0_0.index t 1 = 0 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = 0 ∧ win0_3.index t 1 = t.val / 4)
    ∧ (win0_4.index t 0 = t.val / 4 ∧ win0_4.index t 1 = 0 ∧ win0_4.index t 2 = 0 ∧ win0_4.index t 3 = 0)
    ∧ (win0_5.index t 0 = 0 ∧ win0_5.index t 1 = t.val / 4) := by decide +kernel

theorem blk0 (c : Dev nD) (t : Fin cfg0.N) :
    (iblk m c 0 t : Vec Ideal S1x4096x192 .bf16) = fun y => qA m c (ix3 (hd t) (y 1) (y 2)) := by
  funext y
  unfold iblk
  rw [View.read_apply]
  refine (congrFun (V_main_arg0 m c) _).trans (congrArg _ (funext fun a => Fin.ext ?_))
  have hy : (y 0).val < 1 := (y 0).isLt
  match a with
  | ⟨0, _⟩ => show win0_0.index t 0 * 1 + 1 * (y 0).val = t.val / 4; rw [(idx_facts t).1.1]; omega
  | ⟨1, _⟩ => show win0_0.index t 1 * 4096 + 1 * (y 1).val = (y 1).val; rw [(idx_facts t).1.2.1]; omega
  | ⟨2, _⟩ => show win0_0.index t 2 * 192 + 1 * (y 2).val = (y 2).val; rw [(idx_facts t).1.2.2]; omega

theorem blk1 (c : Dev nD) (t : Fin cfg0.N) :
    (iblk m c 1 t : Vec Ideal S1x1024x192 .bf16) = fun y => kA m c (ix3 (hd t) (row (kb t) (y 1)) (y 2)) := by
  funext y
  unfold iblk
  rw [View.read_apply]
  refine (congrFun (V_main_arg1 m c) _).trans (congrArg _ (funext fun a => Fin.ext ?_))
  have hy : (y 0).val < 1 := (y 0).isLt
  match a with
  | ⟨0, _⟩ => show win0_1.index t 0 * 1 + 1 * (y 0).val = t.val / 4; rw [(idx_facts t).2.1.1]; omega
  | ⟨1, _⟩ => show win0_1.index t 1 * 1024 + 1 * (y 1).val = 1024 * (t.val % 4) + (y 1).val; rw [(idx_facts t).2.1.2.1]; omega
  | ⟨2, _⟩ => show win0_1.index t 2 * 192 + 1 * (y 2).val = (y 2).val; rw [(idx_facts t).2.1.2.2]; omega

theorem blk2 (c : Dev nD) (t : Fin cfg0.N) :
    (iblk m c 2 t : Vec Ideal S1x1024x128 .bf16) = fun y => vA m c (ix3 (hd t) (row (kb t) (y 1)) (y 2)) := by
  funext y
  unfold iblk
  rw [View.read_apply]
  refine (congrFun (V_main_arg2 m c) _).trans (congrArg _ (funext fun a => Fin.ext ?_))
  have hy : (y 0).val < 1 := (y 0).isLt
  match a with
  | ⟨0, _⟩ => show win0_2.index t 0 * 1 + 1 * (y 0).val = t.val / 4; rw [(idx_facts t).2.2.1.1]; omega
  | ⟨1, _⟩ => show win0_2.index t 1 * 1024 + 1 * (y 1).val = 1024 * (t.val % 4) + (y 1).val; rw [(idx_facts t).2.2.1.2.1]; omega
  | ⟨2, _⟩ => show win0_2.index t 2 * 128 + 1 * (y 2).val = (y 2).val; rw [(idx_facts t).2.2.1.2.2]; omega

theorem blk3 (c : Dev nD) (t : Fin cfg0.N) :
    (iblk m c 3 t : Vec Ideal S4096x128 .f32) = fun y => oA m c (ix2 (y 0) (colO (hd t) (y 1))) := by
  funext y
  unfold iblk
  rw [View.read_apply]
  refine congrArg (V m c main_v16) (funext fun a => Fin.ext ?_)
  match a with
  | ⟨0, _⟩ => show win0_3.index t 0 * 4096 + 1 * (y 0).val = (y 0).val; rw [(idx_facts t).2.2.2.1.1]; omega
  | ⟨1, _⟩ => show win0_3.index t 1 * 128 + 1 * (y 1).val = 128 * (t.val / 4) + (y 1).val; rw [(idx_facts t).2.2.2.1.2]; omega

theorem blk4 (c : Dev nD) (t : Fin cfg0.N) :
    (iblk m c 4 t : Vec Ideal S1x4x1x1024 .f32) = fun y => lA m c (ix4 (hd t) (y 1) 0 (y 3)) := by
  funext y
  unfold iblk
  rw [View.read_apply]
  refine congrArg (V m c main_v22) (funext fun a => Fin.ext ?_)
  have hy : (y 0).val < 1 := (y 0).isLt
  have hy2 : (y 2).val < 1 := (y 2).isLt
  match a with
  | ⟨0, _⟩ => show win0_4.index t 0 * 1 + 1 * (y 0).val = t.val / 4; rw [(idx_facts t).2.2.2.2.1.1]; omega
  | ⟨1, _⟩ => show win0_4.index t 1 * 4 + 1 * (y 1).val = (y 1).val; rw [(idx_facts t).2.2.2.2.1.2.1]; omega
  | ⟨2, _⟩ => show win0_4.index t 2 * 1 + 1 * (y 2).val = 0; rw [(idx_facts t).2.2.2.2.1.2.2.1]; omega
  | ⟨3, _⟩ => show win0_4.index t 3 * 1024 + 1 * (y 3).val = (y 3).val; rw [(idx_facts t).2.2.2.2.1.2.2.2]; omega

theorem blk5 (c : Dev nD) (t : Fin cfg0.N) :
    (iblk m c 5 t : Vec Ideal S4096x128 .f32) = fun y => gA m c (ix2 (y 0) (col (hd t) (y 1))) := by
  funext y
  unfold iblk
  rw [View.read_apply]
  refine (congrFun (V_main_arg3 m c) _).trans (congrArg _ (funext fun a => Fin.ext ?_))
  match a with
  | ⟨0, _⟩ => show win0_5.index t 0 * 4096 + 1 * (y 0).val = (y 0).val; rw [(idx_facts t).2.2.2.2.2.1]; omega
  | ⟨1, _⟩ => show win0_5.index t 1 * 128 + 1 * (y 1).val = 128 * (t.val / 4) + (y 1).val; rw [(idx_facts t).2.2.2.2.2.2]; omega

/-! ## A point's terms over the whole arrays -/

theorem wt_blk (c : Dev nD) (t : Fin cfg0.N) (i : Fin 1024) (g : Fin 4) (j : Fin 1024) :
    wt (iblk m c 0 t) (iblk m c 1 t) (iblk m c 4 t) i g j = W (qA m c) (kA m c) (lA m c) (hd t) (row (kb t) i) g j := by
  rw [blk0, blk1, blk4]; rfl

theorem dl_blk (c : Dev nD) (t : Fin cfg0.N) :
    dl (iblk m c 3 t) (iblk m c 5 t) = fun y => DL (oA m c) (gA m c) (hd t) (y 0) (y 2) := by
  rw [blk3, blk5]; rfl

theorem ds_blk (c : Dev nD) (t : Fin cfg0.N) (δ : Vec Ideal S4x8x1024 .f32)
    (hδ : δ = fun y => DL (oA m c) (gA m c) (hd t) (y 0) (y 2)) (i : Fin 1024) (g : Fin 4) (j : Fin 1024) :
    ds (iblk m c 0 t) (iblk m c 1 t) (iblk m c 2 t) (iblk m c 4 t) (iblk m c 5 t) δ i g j
      = DS (qA m c) (kA m c) (vA m c) (oA m c) (lA m c) (gA m c) (hd t) (row (kb t) i) g j := by
  unfold ds
  rw [wt_blk, hδ, blk2, blk5]; rfl

/-- The key block number `b` of a head, and what that block adds to the gradient of the queries. -/
def kbN (b : ℕ) : Fin 4 := ⟨b % 4, Nat.mod_lt _ (by decide)⟩
def DQ (c : Dev nD) (h : Fin 4) (b : ℕ) (g : Fin 4) (j : Fin 1024) (d : Fin 192) : EReal :=
  ∑ i : Fin 1024, DS (qA m c) (kA m c) (vA m c) (oA m c) (lA m c) (gA m c) h (row (kbN b) i) g j * kA m c (ix3 h (row (kbN b) i) d)

theorem dq_blk (c : Dev nD) (t : Fin cfg0.N) (δ : Vec Ideal S4x8x1024 .f32)
    (hδ : δ = fun y => DL (oA m c) (gA m c) (hd t) (y 0) (y 2)) (old : Vec Ideal S1x4096x192 .f32) (z : Fin 1) (g : Fin 4) (j : Fin 1024) (d : Fin 192) :
    dqOf (iblk m c 0 t) (iblk m c 1 t) (iblk m c 2 t) (iblk m c 4 t) (iblk m c 5 t) δ old (ix3 z (row g j) d)
      = old (ix3 0 (row g j) d) + DQ m c (hd t) t.val g j d := by
  rw [dqOf_row]
  refine congrArg (_ + ·) (Finset.sum_congr rfl fun i _ => ?_)
  rw [ds_blk m c t δ hδ, blk1]; rfl

/-! ## What the points leave one after another -/

/-- What the point at position `n` leaves: the row sums of its head in the scratch, its key block's gradients, and the queries'
    gradient summed over the key blocks so far. -/
structure Leaves (c : Dev nD) (n : ℕ) (hn : n < cfg0.N) : Prop where
  s : (outsAt0 m c n hn).2.2.2 = fun y => DL (oA m c) (gA m c) (hd ⟨n, hn⟩) (y 0) (y 2)
  q : ∀ (z : Fin 1) (g : Fin 4) (j : Fin 1024) (d : Fin 192), (outsAt0 m c n hn).1 (ix3 z (row g j) d)
    = ∑ b ∈ Finset.range (n % 4 + 1), DQ m c (hd ⟨n, hn⟩) b g j d
  k : ∀ (z : Fin 1) (i : Fin 1024) (d : Fin 192), (outsAt0 m c n hn).2.1 (ix3 z i d)
    = ∑ g : Fin 4, ∑ j : Fin 1024, DS (qA m c) (kA m c) (vA m c) (oA m c) (lA m c) (gA m c) (hd ⟨n, hn⟩) (row (kb ⟨n, hn⟩) i) g j
        * qA m c (ix3 (hd ⟨n, hn⟩) (row g j) d)
  v : ∀ (z : Fin 1) (i : Fin 1024) (d : Fin 128), (outsAt0 m c n hn).2.2.1 (ix3 z i d)
    = ∑ g : Fin 4, ∑ j : Fin 1024, W (qA m c) (kA m c) (lA m c) (hd ⟨n, hn⟩) (row (kb ⟨n, hn⟩) i) g j
        * gA m c (ix2 (row g j) (col (hd ⟨n, hn⟩) d))

/-- The sum over a block's rows that the keys' gradient is. -/
theorem dk_blk (c : Dev nD) (t : Fin cfg0.N) (δ : Vec Ideal S4x8x1024 .f32)
    (hδ : δ = fun y => DL (oA m c) (gA m c) (hd t) (y 0) (y 2)) (i : Fin 1024) (d : Fin 192) :
    (∑ g : Fin 4, ∑ j : Fin 1024, ds (iblk m c 0 t) (iblk m c 1 t) (iblk m c 2 t) (iblk m c 4 t) (iblk m c 5 t) δ i g j
        * (iblk m c 0 t : Vec Ideal S1x4096x192 .bf16) (ix3 0 (row g j) d))
      = ∑ g : Fin 4, ∑ j : Fin 1024, DS (qA m c) (kA m c) (vA m c) (oA m c) (lA m c) (gA m c) (hd t) (row (kb t) i) g j
        * qA m c (ix3 (hd t) (row g j) d) := by
  refine Finset.sum_congr rfl fun g _ => Finset.sum_congr rfl fun j _ => ?_
  rw [ds_blk m c t δ hδ, blk0]; rfl

/-- The sum over a block's rows that the values' gradient is. -/
theorem dv_blk (c : Dev nD) (t : Fin cfg0.N) (i : Fin 1024) (d : Fin 128) :
    (∑ g : Fin 4, ∑ j : Fin 1024, wt (iblk m c 0 t) (iblk m c 1 t) (iblk m c 4 t) i g j
        * (iblk m c 5 t : Vec Ideal S4096x128 .f32) (ix2 (row g j) d))
      = ∑ g : Fin 4, ∑ j : Fin 1024, W (qA m c) (kA m c) (lA m c) (hd t) (row (kb t) i) g j
        * gA m c (ix2 (row g j) (col (hd t) d)) := by
  refine Finset.sum_congr rfl fun g _ => Finset.sum_congr rfl fun j _ => ?_
  rw [wt_blk m c t, blk5]; rfl

/-- The four parts of what a point leaves. -/
theorem parts {α β γ δ : Type} {p : α × β × γ × δ} {a : α} {b : β} {c : γ} {d : δ} (e : p = (a, b, c, d)) :
    p.1 = a ∧ p.2.1 = b ∧ p.2.2.1 = c ∧ p.2.2.2 = d := by
  subst e; exact ⟨rfl, rfl, rfl, rfl⟩

theorem leaves_A (c : Dev nD) (t : Fin cfg0.N) (h0 : t.val % 4 = 0) : Leaves m c t.val t.isLt := by
  have hδ := dl_blk m c t
  obtain ⟨e6, e7, e8, es⟩ := parts (outsAt0_A m c t h0)
  have eq : (outsAt0 m c t.val t.isLt).1 = dqOf (iblk m c 0 t) (iblk m c 1 t) (iblk m c 2 t) (iblk m c 4 t) (iblk m c 5 t)
      (dl (iblk m c 3 t) (iblk m c 5 t)) (fun _ => 0) := e6.trans (outA_dq ..)
  refine ⟨?_, fun z g j d => ?_, fun z i d => ?_, fun z i d => ?_⟩
  · exact (es.trans (soutA ..)).trans hδ
  · rw [eq]
    refine (dq_blk m c t _ hδ _ z g j d).trans ?_
    rw [h0, Finset.sum_range_one, zero_add]
    unfold DQ
    rw [show kbN t.val = kbN 0 from Fin.ext (show t.val % 4 = 0 % 4 from h0)]
  · refine (congrFun e7 _).trans ?_
    exact (outA_dk ..).trans (dk_blk m c t _ hδ i d)
  · refine (congrFun e8 _).trans ?_
    exact (outA_dv ..).trans (dv_blk m c t i d)

theorem leaves_B (c : Dev nD) (n : ℕ) (hn : n + 1 < cfg0.N) (h0 : ¬(n + 1) % 4 = 0) (h : Leaves m c n (by omega)) :
    Leaves m c (n + 1) hn := by
  have hh : hd ⟨n, by omega⟩ = hd ⟨n + 1, hn⟩ := Fin.ext (show n / 4 = (n + 1) / 4 by omega)
  have hδ := h.s
  rw [hh] at hδ
  obtain ⟨e6, e7, e8, es⟩ := parts (outsAt0_B m c ⟨n + 1, hn⟩ h0)
  have eq : (outsAt0 m c (n + 1) hn).1 = dqOf (iblk m c 0 ⟨n + 1, hn⟩) (iblk m c 1 ⟨n + 1, hn⟩) (iblk m c 2 ⟨n + 1, hn⟩)
      (iblk m c 4 ⟨n + 1, hn⟩) (iblk m c 5 ⟨n + 1, hn⟩) (outsAt0 m c n (by omega)).2.2.2 (outsAt0 m c n (by omega)).1 :=
    e6.trans (outB_dq ..)
  refine ⟨?_, fun z g j d => ?_, fun z i d => ?_, fun z i d => ?_⟩
  · exact es.trans hδ
  · rw [eq]
    refine (dq_blk m c ⟨n + 1, hn⟩ _ hδ _ z g j d).trans ?_
    rw [h.q 0 g j d, hh, show (n + 1) % 4 = n % 4 + 1 by omega, Finset.sum_range_succ _ (n % 4 + 1)]
    refine congrArg (_ + ·) ?_
    unfold DQ
    rw [show kbN (n % 4 + 1) = kbN (n + 1) from Fin.ext (show (n % 4 + 1) % 4 = (n + 1) % 4 by omega)]
  · refine (congrFun e7 _).trans ?_
    exact (outB_dk ..).trans (dk_blk m c ⟨n + 1, hn⟩ _ hδ i d)
  · refine (congrFun e8 _).trans ?_
    exact (outB_dv ..).trans (dv_blk m c ⟨n + 1, hn⟩ i d)

theorem leaves (c : Dev nD) : ∀ (n : ℕ) (hn : n < cfg0.N), Leaves m c n hn
  | 0, hn => leaves_A m c ⟨0, hn⟩ rfl
  | n + 1, hn => if h0 : (n + 1) % 4 = 0 then leaves_A m c ⟨n + 1, hn⟩ h0 else leaves_B m c n hn h0 (leaves c n (by omega))

/-! ## The three results at an index -/

open Cert.AttnBwdIdeal.Value

/-- The fold a result array reads at position `n` is what the point there leaves. -/
theorem sweep (c : Dev nD) (n n' : ℕ) (e : n = n') (h : 0 + n < cfg0.N) (hn : n' < cfg0.N) :
    Pipeline.accAt (fun n h => stAt0 m c n h junk0) (stAt0 m c) 0 n h = outsAt0 m c n' hn := by
  subst e
  exact (outsAt0_sweep m c n hn).symm

theorem G6_apply (c : Dev nD) (h : Fin 4) (g : Fin 4) (j : Fin 1024) (d : Fin 192) :
    (G6 m c : FVec Ideal S4x4096x192 .f32) (ix3 h (row g j) d)
      = ∑ b : Fin 4, ∑ i : Fin 1024, DS (qA m c) (kA m c) (vA m c) (oA m c) (lA m c) (gA m c) h (row b i) g j * kA m c (ix3 h (row b i) d) := by
  have hN : cfg0.N = 16 := N_0
  have hp : pt6Of (ix3 h (row g j) d) = 4 * h.val + 3 := by
    show 4 * (1 * (h.val / 1 - 0) + 1 * ((1024 * g.val + j.val) / 4096 - 0) + 1 * (d.val / 192 - 0)) + 3 = _
    omega
  have hl : loc6Of (ix3 h (row g j) d) = ix3 0 (row g j) d := by
    funext a
    match a with
    | ⟨0, _⟩ => exact Fin.ext (show h.val % 1 = 0 by omega)
    | ⟨1, _⟩ => exact Fin.ext (show (1024 * g.val + j.val) % 4096 = 1024 * g.val + j.val by omega)
    | ⟨2, _⟩ => exact Fin.ext (show d.val % 192 = d.val by omega)
  have hlt : 4 * h.val + 3 < cfg0.N := by omega
  have hh : hd ⟨4 * h.val + 3, hlt⟩ = h := Fin.ext (show (4 * h.val + 3) / 4 = h.val by omega)
  have hs : (∑ b ∈ Finset.range 4, DQ m c h b g j d) = ∑ b : Fin 4, ∑ i : Fin 1024,
      DS (qA m c) (kA m c) (vA m c) (oA m c) (lA m c) (gA m c) h (row b i) g j * kA m c (ix3 h (row b i) d) := by
    rw [Finset.sum_range]
    refine Finset.sum_congr rfl fun b _ => ?_
    unfold DQ
    rw [show kbN b.val = b from Fin.ext (show b.val % 4 = b.val by omega)]
  refine (dif_pos (hp ▸ hlt)).trans ?_
  rw [sweep m c _ _ hp _ hlt, hl, (leaves m c _ hlt).q 0 g j d, hh, show (4 * h.val + 3) % 4 + 1 = 4 by omega]
  exact hs

theorem G7_apply (c : Dev nD) (h : Fin 4) (b : Fin 4) (i : Fin 1024) (d : Fin 192) :
    (G7 m c : FVec Ideal S4x4096x192 .f32) (ix3 h (row b i) d)
      = ∑ g : Fin 4, ∑ j : Fin 1024, DS (qA m c) (kA m c) (vA m c) (oA m c) (lA m c) (gA m c) h (row b i) g j * qA m c (ix3 h (row g j) d) := by
  have hN : cfg0.N = 16 := N_0
  have hp : pt7Of (ix3 h (row b i) d) = 4 * h.val + b.val := by
    show 4 * (h.val / 1 - 0) + 1 * ((1024 * b.val + i.val) / 1024 - 0) + 1 * (d.val / 192 - 0) = _
    omega
  have hl : loc7Of (ix3 h (row b i) d) = ix3 0 i d := by
    funext a
    match a with
    | ⟨0, _⟩ => exact Fin.ext (show h.val % 1 = 0 by omega)
    | ⟨1, _⟩ => exact Fin.ext (show (1024 * b.val + i.val) % 1024 = i.val by omega)
    | ⟨2, _⟩ => exact Fin.ext (show d.val % 192 = d.val by omega)
  have hlt : 4 * h.val + b.val < cfg0.N := by omega
  have hh : hd ⟨4 * h.val + b.val, hlt⟩ = h := Fin.ext (show (4 * h.val + b.val) / 4 = h.val by omega)
  have hk : kb ⟨4 * h.val + b.val, hlt⟩ = b := Fin.ext (show (4 * h.val + b.val) % 4 = b.val by omega)
  refine (dif_pos (hp ▸ hlt)).trans ?_
  rw [sweep m c _ _ hp _ hlt, hl, (leaves m c _ hlt).k 0 i d, hh, hk]

theorem G8_apply (c : Dev nD) (h : Fin 4) (b : Fin 4) (i : Fin 1024) (d : Fin 128) :
    (G8 m c : FVec Ideal S4x4096x128 .f32) (ix3 h (row b i) d)
      = ∑ g : Fin 4, ∑ j : Fin 1024, W (qA m c) (kA m c) (lA m c) h (row b i) g j * gA m c (ix2 (row g j) (col h d)) := by
  have hN : cfg0.N = 16 := N_0
  have hp : pt8Of (ix3 h (row b i) d) = 4 * h.val + b.val := by
    show 4 * (h.val / 1 - 0) + 1 * ((1024 * b.val + i.val) / 1024 - 0) + 1 * (d.val / 128 - 0) = _
    omega
  have hl : loc8Of (ix3 h (row b i) d) = ix3 0 i d := by
    funext a
    match a with
    | ⟨0, _⟩ => exact Fin.ext (show h.val % 1 = 0 by omega)
    | ⟨1, _⟩ => exact Fin.ext (show (1024 * b.val + i.val) % 1024 = i.val by omega)
    | ⟨2, _⟩ => exact Fin.ext (show d.val % 128 = d.val by omega)
  have hlt : 4 * h.val + b.val < cfg0.N := by omega
  have hh : hd ⟨4 * h.val + b.val, hlt⟩ = h := Fin.ext (show (4 * h.val + b.val) / 4 = h.val by omega)
  have hk : kb ⟨4 * h.val + b.val, hlt⟩ = b := Fin.ext (show (4 * h.val + b.val) % 4 = b.val by omega)
  refine (dif_pos (hp ▸ hlt)).trans ?_
  rw [sweep m c _ _ hp _ hlt, hl, (leaves m c _ hlt).v 0 i d, hh, hk]

end Cert.AttnBwd

end
-- ==== Proof.Reals.lean ====
/- Sums, maxima and elementary functions of real numbers among the extended reals. -/
module

public import proofs.«01_k».proof.Proof.Common
public import Idealize.ShloMosaic.Lib.IdealHost

@[expose] public section

noncomputable section

namespace Cert.Common

open Idealize.ShloMosaic

/-- A sum of products of real numbers is the sum taken in the real numbers. -/
theorem sum_coe_mul {ι : Type*} [Fintype ι] (f g : ι → ℝ) :
    (∑ i, (f i : EReal) * (g i : EReal)) = ((∑ i, f i * g i : ℝ) : EReal) := by
  rw [coe_sum]
  exact Finset.sum_congr rfl fun i _ => (EReal.coe_mul _ _).symm

/-- The f32 pattern of minus infinity. -/
theorem ofBits_neg_inf_f32 : Ideal.ofBits .f32 0xFF800000#32 = ⊥ := by simp [Ideal.ofBits, Ideal.ieee]

/-- The f32 patterns of two and of one hundred and ninety-two. -/
theorem ofBits_two_coe : Ideal.ofBits .f32 0x40000000#32 = ((2 : ℝ) : EReal) := by
  simp [Ideal.ofBits, Ideal.ieee]
  rw [← EReal.coe_mul]; norm_num

theorem ofBits_192_coe : Ideal.ofBits .f32 0x43400000#32 = ((192 : ℝ) : EReal) := by
  simp [Ideal.ofBits, Ideal.ieee]
  rw [← EReal.coe_mul]; norm_num

/-- The larger of a real number and a real number, or minus infinity, is real. -/
theorem isReal_max_left {a b : EReal} (ha : a = ⊥ ∨ IsReal a) (hb : IsReal b) : IsReal (max a b) := by
  rcases ha with rfl | ha
  · rwa [max_eq_right bot_le]
  · rcases max_choice a b with h | h <;> rw [h] <;> assumption

/-- The running maximum over a list of real numbers is real, if the list is not empty. -/
theorem isReal_foldl_max {ι : Type*} (x : ι → EReal) (hx : ∀ i, IsReal (x i)) :
    ∀ (l : List ι) (b : EReal), (b = ⊥ ∨ IsReal b) → (l ≠ [] ∨ IsReal b) → IsReal (l.foldl (fun r i => max r (x i)) b)
  | [], _, _, h => h.resolve_left fun h => h rfl
  | i :: l, b, hb, _ => isReal_foldl_max x hx l _ (.inr (isReal_max_left hb (hx i))) (.inr (isReal_max_left hb (hx i)))

/-- A maximum of real numbers over some axes, from minus infinity, is real where some index drops to the place. -/
theorem isReal_reduce_max {s t u : Shape} {axes : List (Fin s.rank)} (x : FVec Ideal s .f32) (init : FVec Ideal u .f32)
    (h : s.ReducesTo axes t) (hu : 0 < u.numel) (j : t.Idx) (hinit : init (Shape.Idx.first hu) = (⊥ : EReal)) (hx : ∀ i, IsReal (x i))
    (i₀ : s.Idx) (hi : h.drop i₀ = j) :
    IsReal (Host.reduce (FloatOps.maximumf (F := Ideal) (φ := .f32)) x init h hu j) := by
  rw [Host.reduce_eq_foldl]
  refine isReal_foldl_max x hx _ _ (.inl hinit) (.inl (List.ne_nil_of_mem (a := i₀) ?_))
  rw [List.mem_filter]
  exact ⟨List.mem_map.2 ⟨s.rowMajor i₀, List.mem_finRange _, s.rowMajor.symm_apply_apply _⟩, decide_eq_true hi⟩

end Cert.Common

end
-- ==== Proof.AttnBwdRef.lean ====
/- The attention gradient's reference at finite arguments: every array it goes through, as real numbers at an index. -/
module

public import proofs.«01_k».proof.Proof.AttnBwdBlocks
public import proofs.«01_k».proof.Proof.Reals
public import proofs.«01_k».proof.Proof.Gen.AttnBwdRefIdeal.Read

@[expose] public section

set_option maxRecDepth 16384

noncomputable section

namespace Cert.AttnBwd

open Idealize.ShloMosaic Idealize.ShloMosaic.TcCoe Idealize.SL.Sem
open Cert.AttnBwdRefIdeal Cert.AttnBwdRefIdeal.Gen Cert.AttnBwdRefIdeal.Read Cert.Common Idealize.ShloMosaic.ValueIdx

/-- An array of real numbers, among the extended reals. -/
abbrev E {s : Shape} (f : s.Idx → ℝ) : s.Idx → EReal := fun i => ((f i : ℝ) : EReal)

variable (q k : S4x4096x192.Idx → ℝ) (v : S4x4096x128.Idx → ℝ) (g : S4096x1024.Idx → ℝ) (tp : Fin 4 → Fin 4096 → ℝ)

/-- The score of query `r` and key `s` in head `h`, its exponential over the row's largest, the row's total and the weight. -/
def sc (h : Fin 4) (r s : Fin 4096) : ℝ := (∑ d : Fin 192, q (ix3 h r d) * k (ix3 h s d)) * (Real.sqrt 192)⁻¹
def ex (h : Fin 4) (r s : Fin 4096) : ℝ := Real.exp (sc q k h r s - tp h r)
def tot (h : Fin 4) (r : Fin 4096) : ℝ := ∑ s : Fin 4096, ex q k tp h r s
def wgt (h : Fin 4) (r s : Fin 4096) : ℝ := ex q k tp h r s / tot q k tp h r

/-- The weight's gradient, and the score's. -/
def dp (h : Fin 4) (r s : Fin 4096) : ℝ := ∑ d : Fin 128, g (ix2 r (col h d)) * v (ix3 h s d)
def dsr (h : Fin 4) (r s : Fin 4096) : ℝ :=
  wgt q k tp h r s * (dp v g h r s - ∑ s' : Fin 4096, dp v g h r s' * wgt q k tp h r s') * (Real.sqrt 192)⁻¹

theorem tot_pos (h : Fin 4) (r : Fin 4096) : 0 < tot q k tp h r :=
  Finset.sum_pos (fun _ _ => Real.exp_pos _) ⟨0, Finset.mem_univ _⟩

/-- The factor of the scores. -/
theorem ref_factor (i : S_.Idx) : val_main_v4 (F := Ideal) i = (((Real.sqrt 192)⁻¹ : ℝ) : EReal) := by
  rw [val_main_v4_apply, val_main_cst_apply]
  show Ideal.rsqrt (Ideal.ofBits .f32 0x43400000#32) = _
  rw [ofBits_192_coe, Ideal.rsqrt_coe, if_neg (by norm_num), if_neg (by norm_num)]

theorem ref_sc (h : Fin 4) (r s : Fin 4096) : val_main_v6 (F := Ideal) (E q) (E k) (ix3 h r s) = (sc q k h r s : EReal) := by
  rw [val_main_v6_apply, val_main_v5_apply, ref_factor, val_main_v3_apply, Ideal.mulf_def]
  unfold sc
  rw [EReal.coe_mul, ← sum_coe_mul]
  refine congrArg (· * _) (Finset.sum_congr rfl fun d _ => ?_)
  rw [eq_ix3 (lidx_main_v3 (ix3 h r s) d), eq_ix3 (ridx_main_v3 (ix3 h r s) d)]
  rfl

/-- The largest score of a row, from minus infinity, is the reference's. -/
theorem ref_top_eq (x0 x1 : FVec Ideal S4x4096x192 .bf16) : val_main_v14 (F := Ideal) x0 x1 = val_main_v7 (F := Ideal) x0 x1 := by
  funext i
  rw [val_main_v14_apply, val_main_v13_apply, val_main_cst_2_apply]
  show max (Ideal.ofBits .f32 0xFF800000#32) _ = _
  rw [ofBits_neg_inf_f32, max_eq_right bot_le]

/-- The largest score of a row is a real number. -/
theorem ref_top : ∃ tp : Fin 4 → Fin 4096 → ℝ, ∀ h r, val_main_v14 (F := Ideal) (E q) (E k) (ix2 h r) = (tp h r : EReal) := by
  have H : ∀ h r, IsReal (val_main_v14 (F := Ideal) (E q) (E k) (ix2 h r)) := by
    intro h r
    rw [ref_top_eq]
    unfold val_main_v7
    refine isReal_reduce_max _ _ _ _ _ ofBits_neg_inf_f32 (fun i => ?_) (ix3 h r 0) ?_
    · exact ⟨_, (congrArg (val_main_v6 (F := Ideal) (E q) (E k)) (eq_ix3 i)).trans (ref_sc q k _ _ _)⟩
    · funext a
      match a with
      | ⟨0, _⟩ => exact Fin.ext (Shape.ReducesTo.drop_apply_val_of_eq reducesTo_S4x4096x4096_S4x4096_d2 (ix3 h r 0) 0 0)
      | ⟨1, _⟩ => exact Fin.ext (Shape.ReducesTo.drop_apply_val_of_eq reducesTo_S4x4096x4096_S4x4096_d2 (ix3 h r 0) 1 1)
  choose tp htp using H
  exact ⟨tp, htp⟩

section
variable {tp} (htp : ∀ h r, val_main_v14 (F := Ideal) (E q) (E k) (ix2 h r) = (tp h r : EReal))
include htp

theorem ref_ex (h : Fin 4) (r s : Fin 4096) : val_main_v27 (F := Ideal) (E q) (E k) (ix3 h r s) = (ex q k tp h r s : EReal) := by
  rw [val_main_v27_apply, val_main_v26_apply, ref_sc, val_main_v25_apply, val_main_v24_apply,
    show idx_main_v24 (idx_main_v25 (ix3 h r s)) = ix2 h r from eq_ix2 _, htp]
  show Ideal.exp ((sc q k h r s : EReal) - (tp h r : EReal)) = _
  rw [← EReal.coe_sub, Ideal.exp_coe]; rfl

theorem ref_tot (h : Fin 4) (r : Fin 4096) : val_main_v28 (F := Ideal) (E q) (E k) (ix2 h r) = (tot q k tp h r : EReal) := by
  rw [val_main_v28_apply, val_main_cst_8_apply]
  show Ideal.ofBits .f32 0x00000000#32 + _ = _
  rw [Ideal.ofBits_zero_f32, zero_add]
  unfold tot
  rw [coe_sum]
  refine Finset.sum_congr rfl fun s _ => ?_
  rw [eq_ix3 (idx_main_v28 _ s)]
  exact ref_ex q k htp h r s

theorem ref_tot1 (i : S4x4096x1.Idx) : val_main_v29 (F := Ideal) (E q) (E k) i = (tot q k tp (i 0) (i 1) : EReal) := by
  rw [val_main_v29_apply, eq_ix2 (idx_main_v29 i)]
  exact ref_tot q k htp (i 0) (i 1)

theorem ref_wgt (h : Fin 4) (r s : Fin 4096) : val_main_v31 (F := Ideal) (E q) (E k) (ix3 h r s) = (wgt q k tp h r s : EReal) := by
  rw [val_main_v31_apply, ref_ex q k htp, val_main_v30_apply, ref_tot1 q k htp]
  exact div_coe_coe _ (tot_pos q k tp h r).ne'

theorem ref_inv (i : S4x4096x1.Idx) : val_main_v34 (F := Ideal) (E q) (E k) i
    = ((1 / (tot q k tp (i 0) (i 1) * tot q k tp (i 0) (i 1)) : ℝ) : EReal) := by
  rw [val_main_v34_apply, val_main_v33_apply, val_main_cst_9_apply, val_main_v32_apply, ref_tot1 q k htp]
  show Ideal.div (Ideal.ofBits .f32 0x3F800000#32) ((tot q k tp (i 0) (i 1) : EReal) * (tot q k tp (i 0) (i 1) : EReal)) = _
  have := tot_pos q k tp (i 0) (i 1)
  rw [ofBits_one_coe, ← EReal.coe_mul, div_coe_coe _ (mul_pos this this).ne']

end

theorem ref_g (h : Fin 4) (d : Fin 128) (r : Fin 4096) : val_main_v40 (F := Ideal) (E g) (ix3 h d r) = (g (ix2 r (col h d)) : EReal) := by
  rw [val_main_v40_apply, val_main_v39_apply, val_main_v38_apply]
  refine congrArg (E g) (funext fun a => Fin.ext ?_)
  match a with
  | ⟨0, _⟩ => show ((r.val * 4 + h.val) * 128 + d.val) / 512 = r.val; omega
  | ⟨1, _⟩ => show ((r.val * 4 + h.val) * 128 + d.val) % 512 = 128 * h.val + d.val; omega

theorem ref_dp (h : Fin 4) (r s : Fin 4096) : val_main_v41 (F := Ideal) (E v) (E g) (ix3 h r s) = (dp v g h r s : EReal) := by
  rw [val_main_v41_apply]
  unfold dp
  rw [← sum_coe_mul]
  refine Finset.sum_congr rfl fun d _ => ?_
  rw [eq_ix3 (lidx_main_v41 (ix3 h r s) d), eq_ix3 (ridx_main_v41 (ix3 h r s) d)]
  exact congrArg (· * _) (ref_g g h d r)

section
variable {tp} (htp : ∀ h r, val_main_v14 (F := Ideal) (E q) (E k) (ix2 h r) = (tp h r : EReal))
include htp

theorem ref_row (h : Fin 4) (r : Fin 4096) : val_main_v47 (F := Ideal) (E q) (E k) (E v) (E g) (ix2 h r)
    = ((∑ s : Fin 4096, dp v g h r s * (1 / (tot q k tp h r * tot q k tp h r)) * ex q k tp h r s : ℝ) : EReal) := by
  rw [val_main_v47_apply, val_main_cst_10_apply]
  show Ideal.ofBits .f32 0x00000000#32 + _ = _
  rw [Ideal.ofBits_zero_f32, zero_add, coe_sum]
  refine Finset.sum_congr rfl fun s _ => ?_
  refine (congrArg (val_main_v46 (F := Ideal) (E q) (E k) (E v) (E g)) (show idx_main_v47 (ix2 h r) s = ix3 h r s from eq_ix3 _)).trans ?_
  rw [val_main_v46_apply, val_main_v45_apply, val_main_v44_apply, ref_inv q k htp, ref_dp, ref_ex q k htp]
  rw [EReal.coe_mul, EReal.coe_mul]; rfl

theorem ref_neg (i : S4x4096.Idx) : val_main_v52 (F := Ideal) (E q) (E k) (E v) (E g) i
    = ((-∑ s : Fin 4096, dp v g (i 0) (i 1) s * (1 / (tot q k tp (i 0) (i 1) * tot q k tp (i 0) (i 1))) * ex q k tp (i 0) (i 1) s : ℝ) : EReal) := by
  rw [val_main_v52_apply, val_main_cst_11_apply]
  show Ideal.ofBits .f32 0x00000000#32 + _ = _
  rw [Ideal.ofBits_zero_f32, zero_add, Fin.sum_univ_one, val_main_v49_apply, val_main_v48_apply, eq_ix2 (idx_main_v48 _)]
  have h0 : (i 0).val < 4 := (i 0).isLt
  have h1 : (i 1).val < 4096 := (i 1).isLt
  rw [show idx_main_v48 (idx_main_v52 i 0) 0 = i 0 from Fin.ext (show (((i 0).val * 4096 + (i 1).val) * 1 + 0) / 4096 = (i 0).val by omega),
    show idx_main_v48 (idx_main_v52 i 0) 1 = i 1 from Fin.ext (show (((i 0).val * 4096 + (i 1).val) * 1 + 0) % 4096 = (i 1).val by omega)]
  refine (congrArg (fun x : EReal => -x) (ref_row q k v g htp (i 0) (i 1))).trans (EReal.coe_neg _).symm

theorem ref_ds (h : Fin 4) (r s : Fin 4096) : val_main_v57 (F := Ideal) (E q) (E k) (E v) (E g) (ix3 h r s) = (dsr q k v g tp h r s : EReal) := by
  rw [val_main_v57_apply, val_main_v56_apply, ref_factor, val_main_v55_apply, ref_ex q k htp, val_main_v54_apply, val_main_v51_apply,
    val_main_v53_apply, val_main_v50_apply, ref_tot1 q k htp, ref_dp, ref_neg q k v g htp]
  have ht := tot_pos q k tp h r
  show (Ideal.div (dp v g h r s : EReal) (tot q k tp h r : EReal)
    + ((-∑ s : Fin 4096, dp v g h r s * (1 / (tot q k tp h r * tot q k tp h r)) * ex q k tp h r s : ℝ) : EReal))
    * (ex q k tp h r s : EReal) * (((Real.sqrt 192)⁻¹ : ℝ) : EReal) = _
  rw [div_coe_coe _ ht.ne', ← EReal.coe_add, ← EReal.coe_mul, ← EReal.coe_mul]
  congr 1
  unfold dsr
  have e : (∑ s : Fin 4096, dp v g h r s * (1 / (tot q k tp h r * tot q k tp h r)) * ex q k tp h r s)
      = (∑ s : Fin 4096, dp v g h r s * wgt q k tp h r s) / tot q k tp h r := by
    rw [Finset.sum_div]
    refine Finset.sum_congr rfl fun s _ => ?_
    unfold wgt
    field_simp
  rw [e]
  unfold wgt
  field_simp
  ring

/-- The reference's three results. -/
theorem ref_dq (h : Fin 4) (r : Fin 4096) (d : Fin 192) : val_main_v59 (F := Ideal) (E q) (E k) (E v) (E g) (ix3 h r d)
    = ((∑ s : Fin 4096, dsr q k v g tp h r s * k (ix3 h s d) : ℝ) : EReal) := by
  rw [val_main_v59_apply, ← sum_coe_mul]
  refine Finset.sum_congr rfl fun s _ => ?_
  rw [eq_ix3 (lidx_main_v59 (ix3 h r d) s), eq_ix3 (ridx_main_v59 (ix3 h r d) s)]
  exact congrArg (· * _) (ref_ds q k v g htp h r s)

theorem ref_dk (h : Fin 4) (s : Fin 4096) (d : Fin 192) : val_main_v58 (F := Ideal) (E q) (E k) (E v) (E g) (ix3 h s d)
    = ((∑ r : Fin 4096, dsr q k v g tp h r s * q (ix3 h r d) : ℝ) : EReal) := by
  rw [val_main_v58_apply, ← sum_coe_mul]
  refine Finset.sum_congr rfl fun r _ => ?_
  rw [eq_ix3 (lidx_main_v58 (ix3 h s d) r), eq_ix3 (ridx_main_v58 (ix3 h s d) r)]
  exact congrArg (· * _) (ref_ds q k v g htp h r s)

theorem ref_dv (h : Fin 4) (s : Fin 4096) (d : Fin 128) : val_main_v43 (F := Ideal) (E q) (E k) (E g) (ix3 h s d)
    = ((∑ r : Fin 4096, wgt q k tp h r s * g (ix2 r (col h d)) : ℝ) : EReal) := by
  rw [val_main_v43_apply, val_main_v42_apply, ← sum_coe_mul]
  refine Finset.sum_congr rfl fun r _ => ?_
  rw [eq_ix3 (lidx_main_v42 _ r), eq_ix3 (ridx_main_v42 _ r)]
  exact (congrArg₂ (· * ·) (ref_g g h d r) (ref_wgt q k htp h r s)).trans (mul_comm (G := EReal) _ _)

/-- The saved output at a row and a head's column. -/
theorem ref_o (h : Fin 4) (r : Fin 4096) (d : Fin 128) : val_main_v37 (F := Ideal) (E q) (E k) (E v) (ix2 r (colO h d))
    = ((∑ s : Fin 4096, v (ix3 h s d) * wgt q k tp h r s : ℝ) : EReal) := by
  have h0 : idx_main_v37 (ix2 r (colO h d)) = ix3 r h d := by
    funext a
    match a with
    | ⟨0, _⟩ => exact Fin.ext (show (r.val * 512 + (128 * h.val + d.val)) / 512 = r.val by omega)
    | ⟨1, _⟩ => exact Fin.ext (show (r.val * 512 + (128 * h.val + d.val)) / 128 % 4 = h.val by omega)
    | ⟨2, _⟩ => exact Fin.ext (show (r.val * 512 + (128 * h.val + d.val)) % 128 = d.val by omega)
  rw [val_main_v37_apply, h0, val_main_v36_apply, val_main_v35_apply, ← sum_coe_mul]
  refine Finset.sum_congr rfl fun s _ => ?_
  rw [eq_ix3 (lidx_main_v35 _ s), eq_ix3 (ridx_main_v35 _ s)]
  exact congrArg (_ * ·) (ref_wgt q k htp h r s)

end

end Cert.AttnBwd

end
-- ==== Proof.AttnBwdSaved.lean ====
/- The attention gradient's saved arrays: the output and the row log-sums, as the region finds them, from the reference's own
   forward terms. -/
module

public import proofs.«01_k».proof.Proof.AttnBwdRef

@[expose] public section

set_option maxRecDepth 16384

noncomputable section

namespace Cert.AttnBwd

open Cert.AttnBwdIdeal Cert.AttnBwdIdeal.Gen Idealize.ShloMosaic Idealize.ShloMosaic.TcCoe Idealize.SL.Sem Idealize.ShloMosaic.ValueIdx
open Cert.Common Cert.AttnBwdRefIdeal.Read

variable (m : (ℓ : Loc nD τ sig) → Buf (Elt Ideal) ℓ)

/-- The scores, their row maxima, the exponentials over them, the row totals and the weights, in the program's own operations. -/
def hS (x0 x1 : FVec Ideal S4x4096x192 .bf16) : FVec Ideal S4x4096x4096 .f32 :=
  mulf (Host.dotGeneral dot_S4x4096x192_S4x4096x192_S4x4096x4096_2_2_1_1_0_0 none x0 x1) (broadcastInDim S4x4096x4096 ![] bcast_S_S4x4096x4096 (Host.rsqrt (constant S_ .f32 0x43400000#32)))
def hM (x0 x1 : FVec Ideal S4x4096x192 .bf16) : FVec Ideal S4x4096x1 .f32 :=
  broadcastInDim S4x4096x1 ![0, 1] bcast_S4x4096_S4x4096x1_0_1 (Host.reduce FloatOps.maximumf (hS x0 x1) (constant S_ .f32 0xFF800000#32 : FVec Ideal S_ .f32) reducesTo_S4x4096x4096_S4x4096_d2 h_S_)
def hE (x0 x1 : FVec Ideal S4x4096x192 .bf16) : FVec Ideal S4x4096x4096 .f32 :=
  Host.exp (subf (hS x0 x1) (broadcastInDim S4x4096x4096 ![0, 1, 2] bcast_S4x4096x1_S4x4096x4096_0_1_2 (hM x0 x1)))
def hZ (x0 x1 : FVec Ideal S4x4096x192 .bf16) : FVec Ideal S4x4096x1 .f32 :=
  broadcastInDim S4x4096x1 ![0, 1] bcast_S4x4096_S4x4096x1_0_1 (Host.reduceAdd (hE x0 x1) (constant S_ .f32 0x00000000#32) reducesTo_S4x4096x4096_S4x4096_d2 h_S_)
def hW (x0 x1 : FVec Ideal S4x4096x192 .bf16) : FVec Ideal S4x4096x4096 .f32 :=
  Host.divf (hE x0 x1) (broadcastInDim S4x4096x4096 ![0, 1, 2] bcast_S4x4096x1_S4x4096x4096_0_1_2 (hZ x0 x1))

/-- They are the reference's. -/
theorem hS_eq (x0 x1 : FVec Ideal S4x4096x192 .bf16) : hS x0 x1 = val_main_v6 (F := Ideal) x0 x1 := rfl

theorem hM_eq (x0 x1 : FVec Ideal S4x4096x192 .bf16) : hM x0 x1 = val_main_v24 (F := Ideal) x0 x1 := by
  unfold hM val_main_v24
  rw [ref_top_eq]
  unfold val_main_v7
  rw [hS_eq]; rfl

theorem hE_eq (x0 x1 : FVec Ideal S4x4096x192 .bf16) : hE x0 x1 = val_main_v27 (F := Ideal) x0 x1 := by
  unfold hE val_main_v27 val_main_v26 val_main_v25
  rw [hM_eq, hS_eq]

theorem hZ_eq (x0 x1 : FVec Ideal S4x4096x192 .bf16) : hZ x0 x1 = val_main_v29 (F := Ideal) x0 x1 := by
  unfold hZ val_main_v29 val_main_v28
  rw [hE_eq]; rfl

theorem hW_eq (x0 x1 : FVec Ideal S4x4096x192 .bf16) : hW x0 x1 = val_main_v31 (F := Ideal) x0 x1 := by
  unfold hW val_main_v31 val_main_v30
  rw [hE_eq, hZ_eq]

/-- The saved output as the region finds it is the reference's forward result. -/
theorem V_o (c : Dev nD) : oA m c = val_main_v37 (F := Ideal) (qA m c) (kA m c) (vA m c) := by
  unfold val_main_v37 val_main_v36 val_main_v35
  rw [← hW_eq]
  unfold hW hZ hE hM hS
  show StableHlo.after hostOps0 (fun b => m (c, b)) main_v16 = _
  after_results <;> rfl

/-- The row log-sums in base two, before they are cut into groups. -/
def lsum (x0 x1 : FVec Ideal S4x4096x192 .bf16) : FVec Ideal S4x4096x1 .f32 :=
  Host.divf (addf (val_main_v24 (F := Ideal) x0 x1) (Host.log (val_main_v29 (F := Ideal) x0 x1)))
    (broadcastInDim S4x4096x1 ![] bcast_S_S4x4096x1 (Host.log (constant S_ .f32 0x40000000#32)))

/-- The quotient, the sum and the logarithm at an index. -/
theorem lsum_pt (a b y : FVec Ideal S4x4096x1 .f32) (i : S4x4096x1.Idx) :
    Host.divf (addf a (Host.log b)) y i = Ideal.div (a i + Ideal.log (b i)) (y i) := rfl
theorem log_pt {s : Shape} (x : FVec Ideal s .f32) (j : s.Idx) : (Host.log x : FVec Ideal s .f32) j = Ideal.log (x j) := rfl
theorem const_pt (w : BitVec 32) (j : S_.Idx) : (constant S_ .f32 w : FVec Ideal S_ .f32) j = Ideal.ofBits .f32 w := rfl

/-- The broadcast logarithm of a constant. -/
theorem log_const (w : BitVec 32) (i : S4x4096x1.Idx) :
    broadcastInDim S4x4096x1 ![] bcast_S_S4x4096x1 (Host.log (constant (F := Ideal) S_ .f32 w)) i = Ideal.log (Ideal.ofBits .f32 w) :=
  (broadcastInDim_scalar_apply _ _ _).trans ((log_pt _ _).trans (congrArg Ideal.log (const_pt _ _)))

/-- The row log-sum at an index. -/
theorem lsum_apply (x0 x1 : FVec Ideal S4x4096x192 .bf16) (i : S4x4096x1.Idx) : lsum x0 x1 i
    = Ideal.div (val_main_v24 (F := Ideal) x0 x1 i + Ideal.log (val_main_v29 (F := Ideal) x0 x1 i)) (Ideal.log (Ideal.ofBits .f32 0x40000000#32)) := by
  unfold lsum
  exact (lsum_pt _ _ _ _).trans (congrArg (Ideal.div _) (log_const _ _))

/-- The row log-sums as the region finds them. -/
theorem V_l (c : Dev nD) : lA m c = shapeCast S4x4x1x1024 (lsum (qA m c) (kA m c)) shapeCasts_S4x4096x1_S4x4x1x1024 := by
  unfold lsum
  rw [← hM_eq, ← hZ_eq]
  unfold hZ hE hM hS
  show StableHlo.after hostOps0 (fun b => m (c, b)) main_v22 = _
  after_results <;> rfl

end Cert.AttnBwd

end
-- ==== Proof.AttnBwd.lean ====
/- The value of the attention's gradient: where the queries, keys, values and the cotangent are finite, the kernel's three
   result arrays are the reference's. -/
module

public import proofs.«01_k».proof.Proof.AttnBwdSaved
public import proofs.«01_k».proof.Defs
public import proofs.«01_k».proof.Proof.Gen.AttnBwdRefIdeal.Run
public import proofs.«01_k».proof.Proof.Gen.Pre_finite_attention_bwd

@[expose] public section

set_option maxRecDepth 16384

noncomputable section

namespace Cert.AttnBwd

open Cert.AttnBwdIdeal Cert.AttnBwdIdeal.Gen Idealize.ShloMosaic Idealize.ShloMosaic.TcCoe Idealize.SL.Sem Idealize.ShloMosaic.ValueIdx
open Cert.Common Cert.AttnBwdRefIdeal.Read

/-- The named constants at the ideal values. -/
theorem c2_coe : c2 = (((Real.sqrt 192)⁻¹ * (Real.log 2)⁻¹ : ℝ) : EReal) := IdealRules.named_const.ideal_named_scalar _ _ _ _ rfl
theorem scale_coe : scale = (((Real.sqrt 192)⁻¹ : ℝ) : EReal) := IdealRules.named_const.ideal_named_scalar _ _ _ _ rfl

/-! ## The kernel's terms at finite arguments -/

section Real

variable (q k : S4x4096x192.Idx → ℝ) (v : S4x4096x128.Idx → ℝ) (g : S4096x1024.Idx → ℝ) {tp : Fin 4 → Fin 4096 → ℝ}
  (htp : ∀ h r, val_main_v14 (F := Ideal) (E q) (E k) (ix2 h r) = (tp h r : EReal))
include htp

theorem lsum_coe (h : Fin 4) (r : Fin 4096) :
    lsum (E q) (E k) (ix3 h r 0) = (((tp h r + Real.log (tot q k tp h r)) / Real.log 2 : ℝ) : EReal) := by
  have e1 : val_main_v24 (F := Ideal) (E q) (E k) (ix3 h r 0) = (tp h r : EReal) :=
    (val_main_v24_apply _ _ _).trans ((congrArg (val_main_v14 (F := Ideal) (E q) (E k)) (eq_ix2 _)).trans (htp _ _))
  have e2 : val_main_v29 (F := Ideal) (E q) (E k) (ix3 h r 0) = (tot q k tp h r : EReal) := ref_tot1 q k htp (ix3 h r 0)
  rw [lsum_apply, e1, e2, ofBits_two_coe, Ideal.log_coe, Ideal.log_coe, if_neg (not_le.2 (tot_pos q k tp _ _)), if_neg (by norm_num),
    ← EReal.coe_add, div_coe_coe _ (Real.log_pos (by norm_num)).ne']

/-- Row `j` of group `c` of the saved log-sums. -/
theorem l_coe (h c : Fin 4) (j : Fin 1024) :
    shapeCast S4x4x1x1024 (lsum (E q) (E k)) shapeCasts_S4x4096x1_S4x4x1x1024 (ix4 h c 0 j)
      = (((tp h (row c j) + Real.log (tot q k tp h (row c j))) / Real.log 2 : ℝ) : EReal) := by
  refine (shapeCast_apply _ _ (ix4 h c 0 j) (ix3 h (row c j) 0) ?_).trans (lsum_coe q k htp _ _)
  rw [Shape.rowMajor_val_three, Shape.rowMajor_val_four]
  show (h.val * 4096 + (1024 * c.val + j.val)) * 1 + 0 = ((h.val * 4 + c.val) * 1 + 0) * 1024 + j.val
  omega

/-- The kernel's weight, a power of two, is the softmax's. -/
theorem W_coe (h : Fin 4) (r : Fin 4096) (c : Fin 4) (j : Fin 1024) :
    W (E q) (E k) (shapeCast S4x4x1x1024 (lsum (E q) (E k)) shapeCasts_S4x4096x1_S4x4x1x1024) h r c j = (wgt q k tp h (row c j) r : EReal) := by
  unfold W
  rw [l_coe q k htp, sum_coe_mul, c2_coe, ← EReal.coe_mul, ← EReal.coe_sub, Ideal.exp2_coe]
  congr 1
  have h2 : (0 : ℝ) < Real.log 2 := Real.log_pos (by norm_num)
  have ht := tot_pos q k tp h (row c j)
  have hs : (∑ d : Fin 192, k (ix3 h r d) * q (ix3 h (row c j) d)) * (Real.sqrt 192)⁻¹ = sc q k h (row c j) r := by
    unfold sc
    exact congrArg (· * _) (Finset.sum_congr rfl fun d _ => mul_comm _ _)
  have e : (∑ d : Fin 192, k (ix3 h r d) * q (ix3 h (row c j) d)) * ((Real.sqrt 192)⁻¹ * (Real.log 2)⁻¹)
      - (tp h (row c j) + Real.log (tot q k tp h (row c j))) / Real.log 2
      = (sc q k h (row c j) r - tp h (row c j) - Real.log (tot q k tp h (row c j))) / Real.log 2 := by
    rw [← hs]; field_simp; ring
  rw [e]
  have hr : ∀ x : ℝ, Real.rpow 2 x = (2 : ℝ) ^ x := fun _ => rfl
  rw [hr, Real.rpow_def_of_pos (by norm_num), mul_div_cancel₀ _ h2.ne', Real.exp_sub, Real.exp_log ht]
  rfl

/-- The row sum of cotangent times output is the row sum of weight times weight's gradient. -/
theorem DL_coe (h c : Fin 4) (j : Fin 1024) :
    DL (val_main_v37 (F := Ideal) (E q) (E k) (E v)) (E g) h c j
      = ((∑ s : Fin 4096, dp v g h (row c j) s * wgt q k tp h (row c j) s : ℝ) : EReal) := by
  unfold DL
  simp only [ref_o q k v htp]
  rw [sum_coe_mul]
  congr 1
  simp only [dp, Finset.mul_sum, Finset.sum_mul]
  rw [Finset.sum_comm]
  exact Finset.sum_congr rfl fun s _ => Finset.sum_congr rfl fun d _ => by ring

theorem DS_coe (h : Fin 4) (r : Fin 4096) (c : Fin 4) (j : Fin 1024) :
    DS (E q) (E k) (E v) (val_main_v37 (F := Ideal) (E q) (E k) (E v)) (shapeCast S4x4x1x1024 (lsum (E q) (E k)) shapeCasts_S4x4096x1_S4x4x1x1024) (E g) h r c j
      = (dsr q k v g tp h (row c j) r : EReal) := by
  unfold DS
  rw [W_coe q k htp, DL_coe q k v g htp, sum_coe_mul, scale_coe, ← EReal.coe_sub, ← EReal.coe_mul, ← EReal.coe_mul]
  congr 1
  unfold dsr
  rw [show (∑ d : Fin 128, v (ix3 h r d) * g (ix2 (row c j) (col h d))) = dp v g h (row c j) r from
    Finset.sum_congr rfl fun d _ => mul_comm _ _]

end Real

/-! ## The result arrays -/

/-- Every row is some row of some group. -/
theorem row_cover (r : Fin 4096) : ∃ (c : Fin 4) (j : Fin 1024), r = row c j :=
  ⟨⟨r.val / 1024, by omega⟩, ⟨r.val % 1024, by omega⟩, Fin.ext (by show r.val = 1024 * (r.val / 1024) + r.val % 1024; omega)⟩

/-- Arrays that agree at every row of every group are equal. -/
theorem ext_rows {D : ℕ} (f f' : (⟨3, ![4, 4096, D]⟩ : Shape).Idx → EReal)
    (H : ∀ (h b : Fin 4) (j : Fin 1024) (d : Fin D), f (ix3 h (row b j) d) = f' (ix3 h (row b j) d)) : f = f' := by
  funext i
  obtain ⟨b, j, hr⟩ := row_cover (i 1)
  have hi : i = ix3 (i 0) (row b j) (i 2) := (eq_ix3 i).trans (congrArg (fun r => ix3 (i 0) r (i 2)) hr)
  exact (congrArg f hi).trans ((H _ _ _ _).trans (congrArg f' hi).symm)

/-- A sum over the groups and their rows is the sum over all rows. -/
theorem sum_blocks (f : Fin 4 → Fin 1024 → EReal) (a b : Fin 4096 → ℝ) (H : ∀ c j, f c j = (a (row c j) : EReal) * b (row c j)) :
    ∑ c, ∑ j, f c j = ((∑ s, a s * b s : ℝ) : EReal) := by
  rw [← sum_coe_mul, sum_four]
  exact Finset.sum_congr rfl fun c _ => Finset.sum_congr rfl fun j _ => H c j

section Results

open Cert.AttnBwdIdeal.Value

variable (m : (ℓ : Loc nD τ sig) → Buf (Elt Ideal) ℓ) (c : Dev nD) (q k : S4x4096x192.Idx → ℝ) (v : S4x4096x128.Idx → ℝ) (g : S4096x1024.Idx → ℝ)
  (hq : qA m c = E q) (hk : kA m c = E k) (hv : vA m c = E v) (hg : gA m c = E g)
include hq hk hv hg

theorem G6_eq : (G6 m c : FVec Ideal S4x4096x192 .f32) = val_main_v59 (F := Ideal) (qA m c) (kA m c) (vA m c) (gA m c) := by
  obtain ⟨tp, htp⟩ := ref_top q k
  refine ext_rows _ _ fun h b j d => (G6_apply m c h b j d).trans ?_
  rw [V_o, V_l, hq, hk, hv, hg]
  refine Eq.trans ?_ (ref_dq q k v g htp h (row b j) d).symm
  exact sum_blocks _ (fun s => dsr q k v g tp h (row b j) s) (fun s => k (ix3 h s d)) fun b' j' =>
    congrArg (· * (k (ix3 h (row b' j') d) : EReal)) (DS_coe q k v g htp h (row b' j') b j)

theorem G7_eq : (G7 m c : FVec Ideal S4x4096x192 .f32) = val_main_v58 (F := Ideal) (qA m c) (kA m c) (vA m c) (gA m c) := by
  obtain ⟨tp, htp⟩ := ref_top q k
  refine ext_rows _ _ fun h b j d => (G7_apply m c h b j d).trans ?_
  rw [V_o, V_l, hq, hk, hv, hg]
  refine Eq.trans ?_ (ref_dk q k v g htp h (row b j) d).symm
  exact sum_blocks _ (fun r => dsr q k v g tp h r (row b j)) (fun r => q (ix3 h r d)) fun b' j' =>
    congrArg (· * (q (ix3 h (row b' j') d) : EReal)) (DS_coe q k v g htp h (row b j) b' j')

omit hv in
theorem G8_eq : (G8 m c : FVec Ideal S4x4096x128 .f32) = val_main_v43 (F := Ideal) (qA m c) (kA m c) (gA m c) := by
  obtain ⟨tp, htp⟩ := ref_top q k
  refine ext_rows _ _ fun h b j d => (G8_apply m c h b j d).trans ?_
  rw [V_l, hq, hk, hg]
  refine Eq.trans ?_ (ref_dv q k g htp h (row b j) d).symm
  exact sum_blocks _ (fun r => wgt q k tp h r (row b j)) (fun r => g (ix2 r (col h d))) fun b' j' =>
    congrArg (· * (g (ix2 (row b' j') (col h d)) : EReal)) (W_coe q k htp h (row b j) b' j')

end Results

/-! ## The claims -/

variable (m : (ℓ : Loc nD τ sig) → Buf (Elt Ideal) ℓ)

/-- What the precondition says: the four arguments are finite. -/
theorem pre_finite (c : Dev nD) (h : Cert.Pre_AttnBwdIdeal_finite_attention_bwd m) :
    (∃ q, qA m c = E q) ∧ (∃ k, kA m c = E k) ∧ (∃ v, vA m c = E v) ∧ ∃ g, gA m c = E g := by
  obtain ⟨h123, h4⟩ := andi_apply_eq_one (congrFun (h c) fun a => a.elim0)
  obtain ⟨h12, h3⟩ := andi_apply_eq_one h123
  obtain ⟨h1, h2⟩ := andi_apply_eq_one h12
  have r1 : ∀ i, IsReal (qA m c i) := isReal_of_all (qA m c) _ (fun _ => rfl) _ _ _ _ h1
  have r2 : ∀ i, IsReal (kA m c i) := isReal_of_all (kA m c) _ (fun _ => rfl) _ _ _ _ h2
  have r3 : ∀ i, IsReal (vA m c i) := isReal_of_all (vA m c) _ (fun _ => rfl) _ _ _ _ h3
  have r4 : ∀ i, IsReal (gA m c i) := isReal_of_all (gA m c) _ (fun _ => rfl) _ _ _ _ h4
  choose q hq using r1
  choose k hk using r2
  choose v hv using r3
  choose g hg using r4
  exact ⟨⟨q, funext hq⟩, ⟨k, funext hk⟩, ⟨v, funext hv⟩, ⟨g, funext hg⟩⟩

/-- The reference runs, leaves its arguments as they were and every semaphore at zero. -/
theorem frame_ref : Cert.quiescent_AttnBwdRefIdeal := fun m ρ _ =>
  (θ_run Cert.AttnBwdRefIdeal.defs _ _).mono
    (fun r h => ⟨fun c => (h c).2.2.2, sem_eq_zero_of_no_sems (by decide) r.2⟩) (Cert.AttnBwdRefIdeal.Value.run (F := Ideal) m ρ)

/-- At the ideal values the kernel and the reference end with the same three arrays. -/
theorem algebraic : Cert.algebraic_AttnBwdIdeal_AttnBwdRefIdeal_pre_finite_attention_bwd := by
  intro m ρ m' ρ' hpre hagree
  refine ⟨fun c => val_main_v59 (F := Ideal) (qA m c) (kA m c) (vA m c) (gA m c),
    fun c => val_main_v58 (F := Ideal) (qA m c) (kA m c) (vA m c) (gA m c),
    fun c => val_main_v43 (F := Ideal) (qA m c) (kA m c) (gA m c), ?_, ?_⟩
  · refine (θ_run Cert.AttnBwdIdeal.defs _ _).mono (fun _ h c => ?_) (AttnBwdIdeal.Value.run (F := Ideal) m ρ)
    obtain ⟨⟨q, hq⟩, ⟨k, hk⟩, ⟨v, hv⟩, ⟨g, hg⟩⟩ := pre_finite m c hpre
    exact ⟨(h c).1.trans (G6_eq m c q k v g hq hk hv hg), (h c).2.1.trans (G7_eq m c q k v g hq hk hv hg),
      (h c).2.2.1.trans (G8_eq m c q k g hq hk hg), (h c).2.2.2⟩
  · refine (θ_run Cert.AttnBwdRefIdeal.defs _ _).mono (fun _ h c => ?_) (Cert.AttnBwdRefIdeal.Value.run (F := Ideal) m' ρ')
    obtain ⟨e0, e1, e2, e3⟩ := hagree c
    refine ⟨(h c).1.trans ?_, (h c).2.1.trans ?_, (h c).2.2.1.trans ?_, (h c).2.2.2⟩
    · rw [val_main_v59_eq, e0, e1, e2, e3]
    · rw [val_main_v58_eq, e0, e1, e2, e3]
    · rw [val_main_v43_eq, e0, e1, e3]

end Cert.AttnBwd

end
-- ==== Proof.Norms.lean ====
/- The gradient of the RMS norm, one row of 1024 values at a time: the form in which the kernels write it out and the
   form in which the derivative of the norm's own lines gives it, and that the two are equal on finite values. -/
module

public import proofs.«01_k».proof.Proof.Common
public import proofs.«01_k».proof.Proof.Reals
public import Idealize.ShloMosaic.Lib.Pointwise
public import Idealize.ShloMosaic.Lib.Pipeline.ValueKit

@[expose] public section

noncomputable section

namespace Cert.Norms

open Idealize.ShloMosaic Cert.Common

/-- The reciprocal root mean square of a row, the small term added to the mean. -/
def invRms (x : Fin 1024 → EReal) : EReal :=
  Ideal.rsqrt (Ideal.div (∑ k, x k * x k) (Ideal.ofBits .f32 0x44800000#32) + Ideal.ofBits .f32 0x358637BD#32)

/-- The gradient with respect to the row as the kernels write it: `p` the cotangent of the norm's result, `g` the gain,
    `e` the gradient that reaches the row on the other path. -/
def rowGrad (x p g : Fin 1024 → EReal) (e : EReal) (d : Fin 1024) : EReal :=
  invRms x * (p d * g d - x d * invRms x * Ideal.div (∑ k, x k * invRms x * (p k * g k)) (Ideal.ofBits .f32 0x44800000#32)) + e

/-- What the derivative of the norm's lines multiplies `x` with, twice. -/
def meanPart (x p g : Fin 1024 → EReal) : EReal :=
  Ideal.div ((∑ k, x k * (p k * g k)) * (Ideal.ofBits .f32 0xBF000000#32 * Ideal.div (invRms x)
    (Ideal.div (∑ k, x k * x k) (Ideal.ofBits .f32 0x44800000#32) + Ideal.ofBits .f32 0x358637BD#32))) (Ideal.ofBits .f32 0x44800000#32)

/-- The gradient with respect to the row as the derivative of the norm's lines gives it. -/
def rowGradRef (x p g : Fin 1024 → EReal) (e : EReal) (d : Fin 1024) : EReal :=
  e + p d * g d * invRms x + x d * meanPart x p g + meanPart x p g * x d

/-- The bit pattern of 1024. -/
theorem ofBits_1024 : Ideal.ofBits .f32 0x44800000#32 = ((1024 : ℝ) : EReal) := by
  simp [Ideal.ofBits, Ideal.ieee]
  rw [← EReal.coe_mul]; norm_num

/-- The bit pattern of minus one half. -/
theorem ofBits_neg_half : Ideal.ofBits .f32 0xBF000000#32 = ((-(1 / 2) : ℝ) : EReal) := by
  simp [Ideal.ofBits, Ideal.ieee]
  rw [← EReal.coe_mul]; norm_num

/-- The small term added to the mean is a positive real number. -/
theorem ofBits_eps : ∃ ε : ℝ, 0 < ε ∧ Ideal.ofBits .f32 0x358637BD#32 = (ε : EReal) := by
  refine ⟨(8796093 * 2 ^ (-43 : ℤ) : ℝ), by positivity, ?_⟩
  simp [Ideal.ofBits, Ideal.ieee]

/-- The square of a value is not negative. -/
theorem mul_self_nonneg' (a : EReal) : 0 ≤ a * a := by
  induction a with
  | bot => simp
  | top => simp
  | coe r => exact_mod_cast mul_self_nonneg r

/-- A real factor that is not negative goes into a sum. -/
theorem coe_mul_sum {ι : Type*} (s : Finset ι) {c : ℝ} (hc : 0 ≤ c) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha, ← ih, EReal.left_distrib_of_nonneg_of_ne_top (by exact_mod_cast hc) (EReal.coe_ne_top c)]

/-- Where a value of the row is infinite the reciprocal root mean square is zero. -/
theorem sum_sq_top (x : Fin 1024 → EReal) (k : Fin 1024) (h : ¬ IsReal (x k)) : ∑ k, x k * x k = ⊤ := by
  have hk : x k * x k = ⊤ := by
    induction hx : x k with
    | bot => simp
    | top => simp
    | coe r => exact absurd ⟨r, hx⟩ h
  exact top_le_iff.mp (hk ▸ Finset.single_le_sum (f := fun k => x k * x k) (fun i _ => mul_self_nonneg' (x i)) (Finset.mem_univ k))

/-- The two forms of the row's gradient are equal, whatever the row, the cotangent and the gain are: an infinite value of
    the row makes the norm's factor zero in both. -/
theorem rowGrad_eq (x p g : Fin 1024 → EReal) (e : EReal) (d : Fin 1024) : rowGrad x p g e d = rowGradRef x p g e d := by
  obtain ⟨ε, hε, he⟩ := ofBits_eps
  have h1024 : (1024 : ℝ) ≠ 0 := by norm_num
  by_cases hx : ∀ k, IsReal (x k)
  · choose a ha using hx
    obtain rfl : x = fun k => (a k : EReal) := funext ha
    have hs : 0 ≤ ∑ k, a k * a k := Finset.sum_nonneg fun k _ => mul_self_nonneg _
    have ht : 0 < (∑ k, a k * a k) / 1024 + ε := by positivity
    unfold rowGradRef rowGrad meanPart invRms
    simp only [ofBits_1024, ofBits_neg_half, he, ← EReal.coe_mul, ← coe_sum, div_coe_coe _ h1024, ← EReal.coe_add,
      Ideal.rsqrt_coe, not_lt.mpr ht.le, ht.ne', if_false, div_coe_coe _ ht.ne', Ideal.div_coe h1024]
    generalize (∑ k, a k * a k) / 1024 + ε = t at ht ⊢
    have hq : 0 < Real.sqrt t := Real.sqrt_pos.mpr ht
    have hr : t = Real.sqrt t * Real.sqrt t := (Real.mul_self_sqrt ht.le).symm
    have hS : ∑ k, ((a k * (Real.sqrt t)⁻¹ : ℝ) : EReal) * (p k * g k) = (((Real.sqrt t)⁻¹ : ℝ) : EReal) * ∑ k, (a k : EReal) * (p k * g k) := by
      rw [coe_mul_sum _ (by positivity)]
      exact Finset.sum_congr rfl fun k _ => by rw [EReal.coe_mul]; ac_rfl
    rw [hS, sub_eq_add_neg, EReal.left_distrib_of_nonneg_of_ne_top (by exact_mod_cast (by positivity : (0 : ℝ) ≤ (Real.sqrt t)⁻¹)) (EReal.coe_ne_top _),
      add_comm _ e, add_assoc (e + _), ← add_assoc e, mul_comm _ (p d * g d)]
    congr 1
    generalize ∑ k, (a k : EReal) * (p k * g k) = S
    generalize Real.sqrt t = q at *
    subst hr
    rw [mul_comm (S * _ * _) (a d : EReal)]
    have e1 : ∀ u v w z : ℝ, (u : EReal) * -((v : EReal) * ((w : EReal) * S * (z : EReal))) = ((-(u * v * w * z) : ℝ) : EReal) * S := by
      intro u v w z
      rw [EReal.coe_neg, EReal.neg_mul, mul_neg]
      congr 1
      push_cast
      ac_rfl
    have e2 : ∀ u v w : ℝ, (u : EReal) * (S * (v : EReal) * (w : EReal)) + (u : EReal) * (S * (v : EReal) * (w : EReal))
        = ((u * v * w : ℝ) : EReal) * S + ((u * v * w : ℝ) : EReal) * S := by
      intro u v w
      push_cast
      congr 1 <;> ac_rfl
    have e3 : ∀ u : ℝ, (u : EReal) * S + (u : EReal) * S = ((2 * u : ℝ) : EReal) * S := by
      intro u
      rw [EReal.coe_mul, mul_assoc, show ((2 : ℝ) : EReal) = 1 + 1 by norm_cast,
        EReal.right_distrib_of_nonneg zero_le_one zero_le_one, one_mul]
    rw [e1, e2, e3]
    congr 2
    field_simp
  · obtain ⟨k, hk⟩ := not_forall.mp hx
    have hr : invRms x = 0 := by
      unfold invRms
      rw [sum_sq_top x k hk, ofBits_1024, he, Ideal.div_coe h1024, EReal.top_mul_coe_of_pos (by norm_num), EReal.top_add_coe]
      rfl
    have hm : meanPart x p g = 0 := by
      unfold meanPart
      rw [hr, sum_sq_top x k hk, ofBits_1024, he, Ideal.div_coe h1024, Ideal.div_coe h1024, EReal.top_mul_coe_of_pos (by norm_num), EReal.top_add_coe]
      simp [Ideal.div]
    unfold rowGradRef rowGrad
    rw [hr, hm]
    simp

/-- A sum over 4096 rows, taken tile by tile. -/
theorem sum_tiles {M : Type} [AddCommMonoid M] {N B : ℕ} (h : N * B = 4096) (f : Fin 4096 → M) :
    ∑ r, f r = ∑ t : Fin N, ∑ j : Fin B, f ⟨t.val * B + j.val, by
      have := t.isLt; have := j.isLt; calc t.val * B + j.val < t.val * B + B := by omega
        _ = (t.val + 1) * B := by ring
        _ ≤ N * B := Nat.mul_le_mul_right _ (by omega)
        _ = 4096 := h⟩ := by
  rw [← Finset.sum_product', ← ((finProdFinEquiv (m := N) (n := B)).trans (finCongr h)).sum_comp]
  refine Finset.sum_congr rfl fun x _ => congrArg f (Fin.ext ?_)
  show x.2.val + B * x.1.val = x.1.val * B + x.2.val
  rw [mul_comm, add_comm]

end Cert.Norms

end
-- ==== Proof.NormPle.lean ====
/- The value of the gradient of the norm before the per-layer-embedding gate: the kernel's three result arrays are the
   reference's. -/
module

public import proofs.«01_k».proof.Defs
public import proofs.«01_k».proof.Proof.Norms
public import proofs.«01_k».proof.Proof.Gen.NormPleBwdIdeal.Value
public import proofs.«01_k».proof.Proof.Gen.NormPleRefIdeal.Read

@[expose] public section

noncomputable section

namespace Cert.NormPle

open Cert.NormPleBwdIdeal Cert.NormPleBwdIdeal.Gen Idealize.ShloMosaic Idealize.ShloMosaic.TcCoe Idealize.SL.Sem
open Idealize.ShloMosaic.Pipeline (Dat)
open Cert.Common Cert.Norms

variable (m : (ℓ : Loc nD τ sig) → Buf (Elt Ideal) ℓ) (ρ : Dev nD → PrngReg)

/-- Device `c`'s five arguments, at their types. -/
abbrev X (c : Dev nD) : FVec Ideal S4096x1024 .f32 := m ((c : Thread nD τ).loc main_arg0)
abbrev E (c : Dev nD) : FVec Ideal S4096x1024 .f32 := m ((c : Thread nD τ).loc main_arg1)
abbrev P (c : Dev nD) : FVec Ideal S4096x1024 .bf16 := m ((c : Thread nD τ).loc main_arg2)
abbrev W (c : Dev nD) : FVec Ideal S1x1024x1024 .f32 := m ((c : Thread nD τ).loc main_arg3)
abbrev G (c : Dev nD) : FVec Ideal S1x1024 .f32 := m ((c : Thread nD τ).loc main_arg4)

/-! ## The kernel's payloads, read at an index -/

section
variable (p : Vec Ideal S1024x1024 .bf16) (w : Vec Ideal S1024x1024 .bf16) (x e : Vec Ideal S1024x1024 .f32) (g : Vec Ideal S1x1024 .f32)

/-- The cotangent of the norm's result: the gate's cotangent times the transposed weights. -/
theorem cot_apply (r d : Fin 1024) : k0_pay2 p w (ix2 r d) = ∑ k : Fin 1024, p (ix2 r k) * w (ix2 d k) := by
  pointwise [k0_pay2]

theorem dx_apply (r d : Fin 1024) : k0_pay5 p w x e g (ix2 r d)
    = rowGrad (fun k => x (ix2 r k)) (fun k => k0_pay2 p w (ix2 r k)) (fun k => g (ix2 0 k)) (e (ix2 r d)) d := by
  pointwise [k0_pay5, k0_pay4, k0_pay3, rowGrad, invRms]

theorem dg_apply (z : Fin 1) (d : Fin 1024) : k0_pay6 p w x (ix2 z d)
    = ∑ r : Fin 1024, k0_pay2 p w (ix2 r d) * (x (ix2 r d) * invRms fun k => x (ix2 r k)) := by
  pointwise [k0_pay6, k0_pay4, k0_pay3, invRms]

theorem dg_step (acc part : Vec Ideal S1x1024 .f32) (j : S1x1024.Idx) : k0_pay1 part acc j = acc j + part j := by
  pointwise [k0_pay1]
end

end Cert.NormPle

namespace Cert.NormPle.Reference

open Cert.NormPleRefIdeal Cert.NormPleRefIdeal.Read Idealize.ShloMosaic Cert.Norms

/-! ## The reference, read at an index -/

variable (x e : FVec Ideal S4096x1024 .f32) (p : FVec Ideal S4096x1024 .bf16) (w : FVec Ideal S1x1024x1024 .f32) (g : FVec Ideal S1x1024 .f32)

theorem cot_apply (r : Fin 4096) (d : Fin 1024) : val_main_v20 (F := Ideal) p w (ix2 r d) = ∑ k : Fin 1024, p (ix2 r k) * w (ix3 0 d k) := by
  pointwise [val_main_v20, val_main_v19, val_main_v18, val_main_v17]

theorem dx_apply (r : Fin 4096) (d : Fin 1024) : val_main_v41 (F := Ideal) x e p w g (ix2 r d)
    = rowGradRef (fun k => x (ix2 r k)) (fun k => val_main_v20 (F := Ideal) p w (ix2 r k)) (fun k => g (ix2 0 k)) (e (ix2 r d)) d := by
  pointwise [val_main_v41, val_main_v40, val_main_v39, val_main_v38, val_main_v37, val_main_v36, val_main_v35, val_main_v34,
    val_main_v33, val_main_v32, val_main_v31, val_main_v30, val_main_v29, val_main_v28, val_main_v27, val_main_v25, val_main_v24,
    val_main_v14, val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_5, val_main_cst_6, val_main_cst_7, Finset.univ_unique, Finset.sum_singleton, rowGradRef, meanPart, invRms]

theorem dg_apply (z : Fin 1) (d : Fin 1024) : val_main_v42 (F := Ideal) x p w (ix2 z d)
    = ∑ r : Fin 4096, x (ix2 r d) * (invRms fun k => x (ix2 r k)) * val_main_v20 (F := Ideal) p w (ix2 r d) := by
  pointwise [val_main_v42, val_main_v26, val_main_v23, val_main_v22, val_main_v21, val_main_v13, val_main_v12, val_main_v8,
    val_main_v7, val_main_v6, val_main_v5, val_main_v4, val_main_v3, val_main_v2, val_main_v1, val_main_cst, val_main_cst_0,
    val_main_cst_1, val_main_cst_3, val_main_cst_4, Finset.univ_unique, Finset.sum_singleton, invRms]

end Cert.NormPle.Reference

namespace Cert.NormPle

open Cert.NormPleBwdIdeal Cert.NormPleBwdIdeal.Gen Idealize.ShloMosaic Idealize.ShloMosaic.TcCoe Idealize.SL.Sem
open Idealize.ShloMosaic.Pipeline (Dat)
open Cert.Common Cert.Norms
open Cert.NormPleRefIdeal.Read (val_main_v20 val_main_v41 val_main_v42 val_main_v43 val_main_v41_eq val_main_v42_eq val_main_v43_eq)

variable (m : (ℓ : Loc nD τ sig) → Buf (Elt Ideal) ℓ) (ρ : Dev nD → PrngReg)

/-! ## The blocks a grid point reads -/

/-- Where each window's block sits in its array. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

theorem blkP (c : Dev nD) (t : Fin cfg0.N) (r k : Fin 1024) :
    (iblk m c 0 t : Vec Ideal S1024x1024 .bf16) (ix2 r k) = P m c (ix2 (row t r) k) := by
  blk_simp [iblk]
  refine (congrFun (V_main_arg2 m c) _).trans (congrArg (P m c) ?_)
  blk_ext [(idx t).1, row]

theorem blkX (c : Dev nD) (t : Fin cfg0.N) (r k : Fin 1024) :
    (iblk m c 2 t : Vec Ideal S1024x1024 .f32) (ix2 r k) = X m c (ix2 (row t r) k) := by
  blk_simp [iblk]
  refine (congrFun (V_main_arg0 m c) _).trans (congrArg (X m c) ?_)
  blk_ext [(idx t).2.2.1, row]

theorem blkE (c : Dev nD) (t : Fin cfg0.N) (r k : Fin 1024) :
    (iblk m c 3 t : Vec Ideal S1024x1024 .f32) (ix2 r k) = E m c (ix2 (row t r) k) := by
  blk_simp [iblk]
  refine (congrFun (V_main_arg1 m c) _).trans (congrArg (E m c) ?_)
  blk_ext [(idx t).2.2.2.1, row]

theorem blkG (c : Dev nD) (t : Fin cfg0.N) (k : Fin 1024) :
    (iblk m c 4 t : Vec Ideal S1x1024 .f32) (ix2 0 k) = G m c (ix2 0 k) := by
  blk_simp [iblk]
  refine (congrFun (V_main_arg4 m c) _).trans (congrArg (G m c) ?_)
  blk_ext [(idx t).2.2.2.2.1]

/-- The weights as the region finds them: the argument, its leading axis of size one dropped. -/
theorem V_w (c : Dev nD) : (V m c main_v1 : FVec Ideal S1024x1024 .bf16)
    = Cert.NormPleRefIdeal.Read.val_main_v17 (F := Ideal) (W m c) := by
  show StableHlo.after hostOps0 (fun b => m (c, b)) main_v1 = _
  after_results <;> rfl

theorem blkW (c : Dev nD) (t : Fin cfg0.N) (r k : Fin 1024) :
    (iblk m c 1 t : Vec Ideal S1024x1024 .bf16) (ix2 r k) = W m c (ix3 0 r k) := by
  blk_simp [iblk]
  refine (congrFun (V_w m c) _).trans ?_
  have e : (win0_1.blk t).view.emb (ix2 r k) = (ix2 r k : S1024x1024.Idx) := by blk_ext [(idx t).2.1]
  rw [e]
  pointwise [Cert.NormPleRefIdeal.Read.val_main_v17]

/-- The cotangent of the norm's result in block `t` is the reference's in the rows of the block. -/
theorem blk_cot (c : Dev nD) (t : Fin cfg0.N) (r d : Fin 1024) :
    k0_pay2 (iblk m c 0 t) (iblk m c 1 t) (ix2 r d) = val_main_v20 (F := Ideal) (P m c) (W m c) (ix2 (row t r) d) := by
  rw [cot_apply, Reference.cot_apply]
  simp only [blkP, blkW]

/-! ## The result arrays -/

/-- What a point leaves for the row's gradient is the reference's. -/
theorem block_dx (c : Dev nD)
    (t : Fin cfg0.N) (r d : Fin 1024) :
    k0_pay5 (iblk m c 0 t) (iblk m c 1 t) (iblk m c 2 t) (iblk m c 3 t) (iblk m c 4 t) (ix2 r d)
      = val_main_v41 (F := Ideal) (X m c) (E m c) (P m c) (W m c) (G m c) (ix2 (row t r) d) := by
  rw [dx_apply, Reference.dx_apply]
  simp only [blk_cot, blkX, blkE, blkG]
  exact rowGrad_eq _ _ _ _ _

theorem final_dx (c : Dev nD) :
    (dats m 0 c).arrAt 5 cfg0.N = val_main_v41 (F := Ideal) (X m c) (E m c) (P m c) (W m c) (G m c) := by
  refine (dats m 0 c).arrAt_eq_of_covers 5 _ (by decide +kernel) fun t _ y => ?_
  blk_simp
  rw [after0_5]
  have hN : cfg0.N = 4 := N_0
  have ht : t.val < cfg0.N := t.isLt
  have e : ((View.whole main_v2_0).slice (win0_5.rect t)).emb y = (ix2 (row t (y 0)) (y 1) : S4096x1024.Idx) := by
    blk_ext [(idx t).2.2.2.2.2.1, row]
  rw [e, ← block_dx m c t (y 0) (y 1)]
  by_cases h : t.val % 4 = 0
  · rw [outsAt0_A m c t h (by omega)]
    frame_out
    exact congrArg _ (eq_ix2 y)
  · rw [outsAt0_B m c t h (by omega)]
    frame_out
    exact congrArg _ (eq_ix2 y)

/-- The rounded copy of the row's gradient is the reference's. -/
theorem final_dx_bf16 (c : Dev nD) :
    (dats m 0 c).arrAt 6 cfg0.N = val_main_v43 (F := Ideal) (X m c) (E m c) (P m c) (W m c) (G m c) := by
  refine (dats m 0 c).arrAt_eq_of_covers 6 _ (by decide +kernel) fun t _ y => ?_
  blk_simp
  rw [after0_6]
  have hN : cfg0.N = 4 := N_0
  have ht : t.val < cfg0.N := t.isLt
  have e : ((View.whole main_v2_1).slice (win0_6.rect t)).emb y = (ix2 (row t (y 0)) (y 1) : S4096x1024.Idx) := by
    blk_ext [(idx t).2.2.2.2.2.2, row]
  rw [e]
  refine Eq.trans ?_ (block_dx m c t (y 0) (y 1))
  by_cases h : t.val % 4 = 0
  · rw [outsAt0_A m c t h (by omega)]
    frame_out
    exact congrArg (k0_pay5 (F := Ideal) _ _ _ _ _) (eq_ix2 y)
  · rw [outsAt0_B m c t h (by omega)]
    frame_out
    exact congrArg (k0_pay5 (F := Ideal) _ _ _ _ _) (eq_ix2 y)

/-- The blocks' column sums, added up, are the reference's sum over all rows. -/
theorem dg_sum (c : Dev nD) (z : Fin 1) (d : Fin 1024) :
    ∑ t : Fin cfg0.N, k0_pay6 (iblk m c 0 t) (iblk m c 1 t) (iblk m c 2 t) (ix2 z d) = val_main_v42 (F := Ideal) (X m c) (P m c) (W m c) (ix2 z d) := by
  have hN : cfg0.N = 4 := N_0
  refine Eq.trans ?_ ((Reference.dg_apply (X m c) (P m c) (W m c) z d).trans (sum_tiles (N := cfg0.N) (B := 1024) (by rw [hN]) _)).symm
  refine Finset.sum_congr rfl fun t _ => (dg_apply _ _ _ z d).trans (Finset.sum_congr rfl fun r _ => ?_)
  rw [blk_cot]
  simp only [blkX]
  exact mul_comm _ _

/-- The gain's gradient is the reference's. -/
theorem final_dg (c : Dev nD) :
    (dats m 0 c).arrAt 7 cfg0.N = val_main_v42 (F := Ideal) (X m c) (P m c) (W m c) := by
  have hN : cfg0.N = 4 := N_0
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0) _
      (fun t h j => by rw [outsAt0_A m c t h (by have := t.isLt; omega)]; frame_out; rw [zero_add])
      (fun t h j => by rw [outsAt0_B m c t h (by omega)]; frame_out; rw [dg_step])
      (le_of_eq N_0) t0_3 rfl j, zero_add]
  obtain ⟨z, d, rfl⟩ : ∃ (z : Fin 1) (d : Fin 1024), j = ix2 z d := ⟨j 0, j 1, eq_ix2 j⟩
  exact dg_sum m c z d

/-! ## The claims -/

/-- The reference runs, leaves its arguments as they were and every semaphore at zero. -/
theorem frame_ref : Cert.quiescent_NormPleRefIdeal := fun m ρ _ =>
  (θ_run Cert.NormPleRefIdeal.defs _ _).mono
    (fun r h => ⟨fun c => (h c).2.2.2, sem_eq_zero_of_no_sems (by decide) r.2⟩) (Cert.NormPleRefIdeal.Value.run (F := Ideal) m ρ)

/-- At the ideal values the kernel and the reference end with the same three arrays. -/
theorem algebraic : Cert.algebraic_NormPleBwdIdeal_NormPleRefIdeal := by
  intro m ρ m' ρ' _ hagree
  refine ⟨fun c => val_main_v41 (F := Ideal) (X m c) (E m c) (P m c) (W m c) (G m c),
    fun c => val_main_v43 (F := Ideal) (X m c) (E m c) (P m c) (W m c) (G m c), fun c => val_main_v42 (F := Ideal) (X m c) (P m c) (W m c), ?_, ?_⟩
  · refine (θ_run Cert.NormPleBwdIdeal.defs _ _).mono (fun _ h c => ?_) (NormPleBwdIdeal.Value.run_blocks (F := Ideal) m ρ)
    exact ⟨(h c).1.trans (final_dx m c), (h c).2.1.trans (final_dx_bf16 m c), (h c).2.2.1.trans (final_dg m c), (h c).2.2.2⟩
  · refine (θ_run Cert.NormPleRefIdeal.defs _ _).mono (fun _ h c => ?_) (Cert.NormPleRefIdeal.Value.run (F := Ideal) m' ρ')
    obtain ⟨e0, e1, e2, e3, e4⟩ := hagree c
    refine ⟨(h c).1.trans ?_, (h c).2.1.trans ?_, (h c).2.2.1.trans ?_, (h c).2.2.2⟩
    · rw [val_main_v41_eq, e0, e1, e2, e3, e4]
    · rw [val_main_v43_eq, e0, e1, e2, e3, e4]
    · rw [val_main_v42_eq, e0, e2, e3]

end Cert.NormPle

end
-- ==== Proof.NormFfn.lean ====
/- The value of the gradient of the norm before the gated feed-forward layer: the kernel's three result arrays are the
   reference's. -/
module

public import proofs.«01_k».proof.Defs
public import proofs.«01_k».proof.Proof.Norms
public import proofs.«01_k».proof.Proof.Gen.NormFfnBwdIdeal.Value
public import proofs.«01_k».proof.Proof.Gen.NormFfnRefIdeal.Read

@[expose] public section

noncomputable section

namespace Cert.NormFfn.Reference

open Cert.NormFfnRefIdeal Cert.NormFfnRefIdeal.Read Idealize.ShloMosaic Cert.Norms

/-! ## The reference, read at an index -/

variable (x e : FVec Ideal S4096x1024 .f32) (p q : FVec Ideal S4096x2816 .bf16) (w u : FVec Ideal S1x1024x2816 .f32) (g : FVec Ideal S1x1024 .f32)

/-- The cotangent of the norm's result: the two products' cotangents, each times its transposed weights. -/
theorem cot_apply (r : Fin 4096) (d : Fin 1024) : val_main_v25 (F := Ideal) p q w u (ix2 r d)
    = ∑ k : Fin 2816, q (ix2 r k) * u (ix3 0 d k) + ∑ k : Fin 2816, p (ix2 r k) * w (ix3 0 d k) := by
  pointwise [val_main_v25, val_main_v24, val_main_v23, val_main_v22, val_main_v21, val_main_v19, val_main_v17]

theorem dx_apply (r : Fin 4096) (d : Fin 1024) : val_main_v46 (F := Ideal) x e p q w u g (ix2 r d)
    = rowGradRef (fun k => x (ix2 r k)) (fun k => val_main_v25 (F := Ideal) p q w u (ix2 r k)) (fun k => g (ix2 0 k)) (e (ix2 r d)) d := by
  pointwise [val_main_v46, val_main_v45, val_main_v44, val_main_v43, val_main_v42, val_main_v41, val_main_v40, val_main_v39,
    val_main_v38, val_main_v37, val_main_v36, val_main_v35, val_main_v34, val_main_v33, val_main_v32, val_main_v30, val_main_v29,
    val_main_v14, val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_5, val_main_cst_6, val_main_cst_7, Finset.univ_unique, Finset.sum_singleton, rowGradRef, meanPart, invRms]

theorem dg_apply (z : Fin 1) (d : Fin 1024) : val_main_v47 (F := Ideal) x p q w u (ix2 z d)
    = ∑ r : Fin 4096, x (ix2 r d) * (invRms fun k => x (ix2 r k)) * val_main_v25 (F := Ideal) p q w u (ix2 r d) := by
  pointwise [val_main_v47, val_main_v31, val_main_v28, val_main_v27, val_main_v26, val_main_v13, val_main_v12, val_main_v8,
    val_main_v7, val_main_v6, val_main_v5, val_main_v4, val_main_v3, val_main_v2, val_main_v1, val_main_cst, val_main_cst_0,
    val_main_cst_1, val_main_cst_3, val_main_cst_4, Finset.univ_unique, Finset.sum_singleton, invRms]

end Cert.NormFfn.Reference

namespace Cert.NormFfn

open Cert.NormFfnBwdIdeal Cert.NormFfnBwdIdeal.Gen Idealize.ShloMosaic Idealize.ShloMosaic.TcCoe Idealize.SL.Sem
open Idealize.ShloMosaic.Pipeline (Dat)
open Cert.Common Cert.Norms
open Cert.NormFfnRefIdeal.Read (val_main_v25 val_main_v46 val_main_v47 val_main_v48 val_main_v46_eq val_main_v47_eq val_main_v48_eq)

/-! ## The kernel's payloads, read at an index -/

section
variable (p q : Vec Ideal S256x2816 .bf16) (w u : Vec Ideal S2816x1024 .bf16) (x e : Vec Ideal S256x1024 .f32) (g : Vec Ideal S1x1024 .f32)

theorem cot_apply (r : Fin 256) (d : Fin 1024) : k0_pay4 p w q u (ix2 r d)
    = ∑ k : Fin 2816, p (ix2 r k) * w (ix2 k d) + ∑ k : Fin 2816, q (ix2 r k) * u (ix2 k d) := by
  pointwise [k0_pay4]

theorem dx_apply (r : Fin 256) (d : Fin 1024) : k0_pay7 p w q u x e g (ix2 r d)
    = rowGrad (fun k => x (ix2 r k)) (fun k => k0_pay4 p w q u (ix2 r k)) (fun k => g (ix2 0 k)) (e (ix2 r d)) d := by
  pointwise [k0_pay7, k0_pay6, k0_pay5, rowGrad, invRms]

/-- The column sums of the gain's gradient over a block. -/
theorem dg_apply (z : Fin 1) (d : Fin 1024) : k0_pay1 (k0_pay8 p w q u x) (ix2 z d)
    = ∑ r : Fin 256, k0_pay4 p w q u (ix2 r d) * (x (ix2 r d) * invRms fun k => x (ix2 r k)) := by
  pointwise [k0_pay1, k0_pay8, k0_pay6, k0_pay5, invRms]

theorem dg_step (part : FVec Ideal S256x1024 .f32) (acc : Vec Ideal S1x1024 .f32) (j : S1x1024.Idx) : k0_pay3 part acc j = acc j + k0_pay1 part j := by
  pointwise [k0_pay3, k0_pay1]
end

variable (m : (ℓ : Loc nD τ sig) → Buf (Elt Ideal) ℓ) (ρ : Dev nD → PrngReg)

/-- Device `c`'s seven arguments, at their types. -/
abbrev X (c : Dev nD) : FVec Ideal S4096x1024 .f32 := m ((c : Thread nD τ).loc main_arg0)
abbrev E (c : Dev nD) : FVec Ideal S4096x1024 .f32 := m ((c : Thread nD τ).loc main_arg1)
abbrev P (c : Dev nD) : FVec Ideal S4096x2816 .bf16 := m ((c : Thread nD τ).loc main_arg2)
abbrev Q (c : Dev nD) : FVec Ideal S4096x2816 .bf16 := m ((c : Thread nD τ).loc main_arg3)
abbrev W (c : Dev nD) : FVec Ideal S1x1024x2816 .f32 := m ((c : Thread nD τ).loc main_arg4)
abbrev U (c : Dev nD) : FVec Ideal S1x1024x2816 .f32 := m ((c : Thread nD τ).loc main_arg5)
abbrev G (c : Dev nD) : FVec Ideal S1x1024 .f32 := m ((c : Thread nD τ).loc main_arg6)

/-! ## The blocks a grid point reads -/

/-- Where each window's block sits in its array. -/
theorem idx : ∀ t : Fin cfg0.N, (win0_0.index t = ![t.val, 0] ∧ win0_1.index t = ![0, 0] ∧ win0_2.index t = ![0, 0]
    ∧ win0_3.index t = ![t.val, 0] ∧ win0_4.index t = ![t.val, 0]) ∧ win0_5.index t = ![t.val, 0] ∧ win0_6.index t = ![0, 0]
    ∧ win0_7.index t = ![t.val, 0] ∧ win0_8.index t = ![t.val, 0] :=
  (by decide +kernel : ∀ t : Fin grid0.N, _)

/-- The row of the whole array that row `r` of block `t` is. -/
def row (t : Fin cfg0.N) (r : Fin 256) : Fin 4096 := ⟨t.val * 256 + r.val, by have := t.isLt; have hN : cfg0.N = 16 := N_0; omega⟩

theorem blkP (c : Dev nD) (t : Fin cfg0.N) (r : Fin 256) (k : Fin 2816) :
    (iblk m c 0 t : Vec Ideal S256x2816 .bf16) (ix2 r k) = P m c (ix2 (row t r) k) := by
  blk_simp [iblk]
  refine (congrFun (V_main_arg2 m c) _).trans (congrArg (P m c) ?_)
  blk_ext [(idx t).1.1, row]

theorem blkQ (c : Dev nD) (t : Fin cfg0.N) (r : Fin 256) (k : Fin 2816) :
    (iblk m c 3 t : Vec Ideal S256x2816 .bf16) (ix2 r k) = Q m c (ix2 (row t r) k) := by
  blk_simp [iblk]
  refine (congrFun (V_main_arg3 m c) _).trans (congrArg (Q m c) ?_)
  blk_ext [(idx t).1.2.2.2.1, row]

theorem blkX (c : Dev nD) (t : Fin cfg0.N) (r : Fin 256) (k : Fin 1024) :
    (iblk m c 4 t : Vec Ideal S256x1024 .f32) (ix2 r k) = X m c (ix2 (row t r) k) := by
  blk_simp [iblk]
  refine (congrFun (V_main_arg0 m c) _).trans (congrArg (X m c) ?_)
  blk_ext [(idx t).1.2.2.2.2, row]

theorem blkE (c : Dev nD) (t : Fin cfg0.N) (r : Fin 256) (k : Fin 1024) :
    (iblk m c 5 t : Vec Ideal S256x1024 .f32) (ix2 r k) = E m c (ix2 (row t r) k) := by
  blk_simp [iblk]
  refine (congrFun (V_main_arg1 m c) _).trans (congrArg (E m c) ?_)
  blk_ext [(idx t).2.1, row]

theorem blkG (c : Dev nD) (t : Fin cfg0.N) (k : Fin 1024) :
    (iblk m c 6 t : Vec Ideal S1x1024 .f32) (ix2 0 k) = G m c (ix2 0 k) := by
  blk_simp [iblk]
  refine (congrFun (V_main_arg6 m c) _).trans (congrArg (G m c) ?_)
  blk_ext [(idx t).2.2.1]

/-- The weights as the region finds them: the argument transposed, its leading axis of size one dropped. -/
theorem V_w (c : Dev nD) (i : S2816x1024.Idx) : (V m c main_v2 : FVec Ideal S2816x1024 .bf16) i = W m c (ix3 0 (i 1) (i 0)) := by
  have h : (V m c main_v2 : FVec Ideal S2816x1024 .bf16) = (truncf (F := Ideal) .bf16 (transpose S2816x1024 [1, 0]
      (Cert.NormFfnRefIdeal.Read.val_main_v17 (F := Ideal) (W m c)) transposes_S1024x2816_S2816x1024_1_0) bitsLt_bf16_f32 : FVec Ideal S2816x1024 .bf16) := by
    show StableHlo.after hostOps0 (fun b => m (c, b)) main_v2 = _
    after_results <;> rfl
  rw [h]
  pointwise [Cert.NormFfnRefIdeal.Read.val_main_v17]

theorem V_u (c : Dev nD) (i : S2816x1024.Idx) : (V m c main_v5 : FVec Ideal S2816x1024 .bf16) i = U m c (ix3 0 (i 1) (i 0)) := by
  have h : (V m c main_v5 : FVec Ideal S2816x1024 .bf16) = (truncf (F := Ideal) .bf16 (transpose S2816x1024 [1, 0]
      (Cert.NormFfnRefIdeal.Read.val_main_v19 (F := Ideal) (U m c)) transposes_S1024x2816_S2816x1024_1_0) bitsLt_bf16_f32 : FVec Ideal S2816x1024 .bf16) := by
    show StableHlo.after hostOps0 (fun b => m (c, b)) main_v5 = _
    after_results <;> rfl
  rw [h]
  pointwise [Cert.NormFfnRefIdeal.Read.val_main_v19]

theorem blkW (c : Dev nD) (t : Fin cfg0.N) (k : Fin 2816) (d : Fin 1024) :
    (iblk m c 1 t : Vec Ideal S2816x1024 .bf16) (ix2 k d) = W m c (ix3 0 d k) := by
  blk_simp [iblk]
  have e : (win0_1.blk t).view.emb (ix2 k d) = (ix2 k d : S2816x1024.Idx) := by blk_ext [(idx t).1.2.1]
  exact (congrArg (V m c main_v2) e).trans (V_w m c (ix2 k d))

theorem blkU (c : Dev nD) (t : Fin cfg0.N) (k : Fin 2816) (d : Fin 1024) :
    (iblk m c 2 t : Vec Ideal S2816x1024 .bf16) (ix2 k d) = U m c (ix3 0 d k) := by
  blk_simp [iblk]
  have e : (win0_2.blk t).view.emb (ix2 k d) = (ix2 k d : S2816x1024.Idx) := by blk_ext [(idx t).1.2.2.1]
  exact (congrArg (V m c main_v5) e).trans (V_u m c (ix2 k d))

/-- The cotangent of the norm's result in block `t` is the reference's in the rows of the block. -/
theorem blk_cot (c : Dev nD) (t : Fin cfg0.N) (r : Fin 256) (d : Fin 1024) :
    k0_pay4 (iblk m c 0 t) (iblk m c 1 t) (iblk m c 3 t) (iblk m c 2 t) (ix2 r d)
      = val_main_v25 (F := Ideal) (P m c) (Q m c) (W m c) (U m c) (ix2 (row t r) d) := by
  rw [cot_apply, Reference.cot_apply]
  simp only [blkP, blkW, blkQ, blkU]
  exact add_comm _ _

/-! ## The result arrays -/

/-- What a point leaves for the row's gradient is the reference's. -/
theorem block_dx (c : Dev nD) (t : Fin cfg0.N) (r : Fin 256) (d : Fin 1024) :
    k0_pay7 (iblk m c 0 t) (iblk m c 1 t) (iblk m c 3 t) (iblk m c 2 t) (iblk m c 4 t) (iblk m c 5 t) (iblk m c 6 t) (ix2 r d)
      = val_main_v46 (F := Ideal) (X m c) (E m c) (P m c) (Q m c) (W m c) (U m c) (G m c) (ix2 (row t r) d) := by
  rw [dx_apply, Reference.dx_apply]
  simp only [blk_cot, blkX, blkE, blkG]
  exact rowGrad_eq _ _ _ _ _

theorem final_dx (c : Dev nD) :
    (dats m 0 c).arrAt 7 cfg0.N = val_main_v46 (F := Ideal) (X m c) (E m c) (P m c) (Q m c) (W m c) (U m c) (G m c) := by
  refine (dats m 0 c).arrAt_eq_of_covers 7 _ (by decide +kernel) fun t _ y => ?_
  blk_simp
  rw [after0_7]
  have hN : cfg0.N = 16 := N_0
  have ht : t.val < cfg0.N := t.isLt
  have e : ((View.whole main_v6_0).slice (win0_7.rect t)).emb y = (ix2 (row t (y 0)) (y 1) : S4096x1024.Idx) := by
    blk_ext [(idx t).2.2.2.1, row]
  rw [e, ← block_dx m c t (y 0) (y 1)]
  by_cases h : t.val % 16 = 0
  · rw [outsAt0_A m c t h (by omega)]
    frame_out
    exact congrArg _ (eq_ix2 y)
  · rw [outsAt0_B m c t h (by omega)]
    frame_out
    exact congrArg _ (eq_ix2 y)

/-- The rounded copy of the row's gradient is the reference's. -/
theorem final_dx_bf16 (c : Dev nD) :
    (dats m 0 c).arrAt 8 cfg0.N = val_main_v48 (F := Ideal) (X m c) (E m c) (P m c) (Q m c) (W m c) (U m c) (G m c) := by
  refine (dats m 0 c).arrAt_eq_of_covers 8 _ (by decide +kernel) fun t _ y => ?_
  blk_simp
  rw [after0_8]
  have hN : cfg0.N = 16 := N_0
  have ht : t.val < cfg0.N := t.isLt
  have e : ((View.whole main_v6_1).slice (win0_8.rect t)).emb y = (ix2 (row t (y 0)) (y 1) : S4096x1024.Idx) := by
    blk_ext [(idx t).2.2.2.2, row]
  rw [e]
  refine Eq.trans ?_ (block_dx m c t (y 0) (y 1))
  by_cases h : t.val % 16 = 0
  · rw [outsAt0_A m c t h (by omega)]
    frame_out
    exact congrArg (k0_pay7 (F := Ideal) _ _ _ _ _ _ _) (eq_ix2 y)
  · rw [outsAt0_B m c t h (by omega)]
    frame_out
    exact congrArg (k0_pay7 (F := Ideal) _ _ _ _ _ _ _) (eq_ix2 y)

/-- The blocks' column sums, added up, are the reference's sum over all rows. -/
theorem dg_sum (c : Dev nD) (z : Fin 1) (d : Fin 1024) :
    ∑ t : Fin cfg0.N, k0_pay1 (k0_pay8 (iblk m c 0 t) (iblk m c 1 t) (iblk m c 3 t) (iblk m c 2 t) (iblk m c 4 t)) (ix2 z d)
      = val_main_v47 (F := Ideal) (X m c) (P m c) (Q m c) (W m c) (U m c) (ix2 z d) := by
  have hN : cfg0.N = 16 := N_0
  refine Eq.trans ?_ ((Reference.dg_apply (X m c) (P m c) (Q m c) (W m c) (U m c) z d).trans (sum_tiles (N := cfg0.N) (B := 256) (by rw [hN]) _)).symm
  refine Finset.sum_congr rfl fun t _ => (dg_apply _ _ _ _ _ z d).trans (Finset.sum_congr rfl fun r _ => ?_)
  rw [blk_cot]
  simp only [blkX]
  exact mul_comm _ _

/-- The gain's gradient is the reference's. -/
theorem final_dg (c : Dev nD) :
    (dats m 0 c).arrAt 9 cfg0.N = val_main_v47 (F := Ideal) (X m c) (P m c) (Q m c) (W m c) (U m c) := by
  have hN : cfg0.N = 16 := N_0
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
      (fun t h j => by rw [outsAt0_A m c t h (by have := t.isLt; omega)]; frame_out; rw [zero_add])
      (fun t h j => by rw [outsAt0_B m c t h (by omega)]; frame_out; rw [dg_step])
      (le_of_eq N_0) t0_15 rfl j, zero_add]
  obtain ⟨z, d, rfl⟩ : ∃ (z : Fin 1) (d : Fin 1024), j = ix2 z d := ⟨j 0, j 1, eq_ix2 j⟩
  exact dg_sum m c z d

/-! ## The claims -/

/-- The reference runs, leaves its arguments as they were and every semaphore at zero. -/
theorem frame_ref : Cert.quiescent_NormFfnRefIdeal := fun m ρ _ =>
  (θ_run Cert.NormFfnRefIdeal.defs _ _).mono
    (fun r h => ⟨fun c => (h c).2.2.2, sem_eq_zero_of_no_sems (by decide) r.2⟩) (Cert.NormFfnRefIdeal.Value.run (F := Ideal) m ρ)

/-- At the ideal values the kernel and the reference end with the same three arrays. -/
theorem algebraic : Cert.algebraic_NormFfnBwdIdeal_NormFfnRefIdeal := by
  intro m ρ m' ρ' _ hagree
  refine ⟨fun c => val_main_v46 (F := Ideal) (X m c) (E m c) (P m c) (Q m c) (W m c) (U m c) (G m c),
    fun c => val_main_v48 (F := Ideal) (X m c) (E m c) (P m c) (Q m c) (W m c) (U m c) (G m c),
    fun c => val_main_v47 (F := Ideal) (X m c) (P m c) (Q m c) (W m c) (U m c), ?_, ?_⟩
  · refine (θ_run Cert.NormFfnBwdIdeal.defs _ _).mono (fun _ h c => ?_) (NormFfnBwdIdeal.Value.run_blocks (F := Ideal) m ρ)
    exact ⟨(h c).1.trans (final_dx m c), (h c).2.1.trans (final_dx_bf16 m c), (h c).2.2.1.trans (final_dg m c), (h c).2.2.2⟩
  · refine (θ_run Cert.NormFfnRefIdeal.defs _ _).mono (fun _ h c => ?_) (Cert.NormFfnRefIdeal.Value.run (F := Ideal) m' ρ')
    obtain ⟨e0, e1, e2, e3, e4, e5, e6⟩ := hagree c
    refine ⟨(h c).1.trans ?_, (h c).2.1.trans ?_, (h c).2.2.1.trans ?_, (h c).2.2.2⟩
    · rw [val_main_v46_eq, e0, e1, e2, e3, e4, e5, e6]
    · rw [val_main_v48_eq, e0, e1, e2, e3, e4, e5, e6]
    · rw [val_main_v47_eq, e0, e2, e3, e4, e5]

end Cert.NormFfn

end
-- ==== Proof.NormMix.lean ====
/- The value of the gradient of the first norm and of the step's input: the kernel's two result arrays are the reference's.
   The kernel takes the input product's columns in an order of its own, padded with zeros. -/
module

public import proofs.«01_k».proof.Defs
public import proofs.«01_k».proof.Proof.Norms
public import proofs.«01_k».proof.Proof.Gen.NormMixBwdIdeal.Value
public import proofs.«01_k».proof.Proof.Gen.NormMixRefIdeal.Read

@[expose] public section

noncomputable section

namespace Cert.NormMix.Reference

open Cert.NormMixRefIdeal Cert.NormMixRefIdeal.Read Idealize.ShloMosaic Cert.Norms

/-! ## The reference, read at an index -/

variable (x e : FVec Ideal S4096x1024 .f32) (p : FVec Ideal S4096x3136 .bf16) (w : FVec Ideal S1x1024x3136 .f32) (g : FVec Ideal S1x1024 .f32)

/-- The cotangent of the norm's result: the product's cotangent times the transposed weights. -/
theorem cot_apply (r : Fin 4096) (d : Fin 1024) : val_main_v20 (F := Ideal) p w (ix2 r d) = ∑ k : Fin 3136, p (ix2 r k) * w (ix3 0 d k) := by
  pointwise [val_main_v20, val_main_v19, val_main_v17]

theorem dx_apply (r : Fin 4096) (d : Fin 1024) : val_main_v41 (F := Ideal) x e p w g (ix2 r d)
    = rowGradRef (fun k => x (ix2 r k)) (fun k => val_main_v20 (F := Ideal) p w (ix2 r k)) (fun k => g (ix2 0 k)) (e (ix2 r d)) d := by
  pointwise [val_main_v41, val_main_v40, val_main_v39, val_main_v38, val_main_v37, val_main_v36, val_main_v35, val_main_v34,
    val_main_v33, val_main_v32, val_main_v31, val_main_v30, val_main_v29, val_main_v28, val_main_v27, val_main_v25, val_main_v24,
    val_main_v14, val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_5, val_main_cst_6, val_main_cst_7, Finset.univ_unique, Finset.sum_singleton, rowGradRef, meanPart, invRms]

theorem dg_apply (z : Fin 1) (d : Fin 1024) : val_main_v42 (F := Ideal) x p w (ix2 z d)
    = ∑ r : Fin 4096, x (ix2 r d) * (invRms fun k => x (ix2 r k)) * val_main_v20 (F := Ideal) p w (ix2 r d) := by
  pointwise [val_main_v42, val_main_v26, val_main_v23, val_main_v22, val_main_v21, val_main_v13, val_main_v12, val_main_v8,
    val_main_v7, val_main_v6, val_main_v5, val_main_v4, val_main_v3, val_main_v2, val_main_v1, val_main_cst, val_main_cst_0,
    val_main_cst_1, val_main_cst_3, val_main_cst_4, Finset.univ_unique, Finset.sum_singleton, invRms]

end Cert.NormMix.Reference

namespace Cert.NormMix

open Cert.NormMixBwdIdeal Cert.NormMixBwdIdeal.Gen Idealize.ShloMosaic Idealize.ShloMosaic.TcCoe Idealize.SL.Sem
open Idealize.ShloMosaic.Pipeline (Dat)
open Cert.Common Cert.Norms
open Cert.NormMixRefIdeal.Read (val_main_v20 val_main_v41 val_main_v42 val_main_v41_eq val_main_v42_eq)

/-! ## The kernel's payloads, read at an index -/

section
variable (p : Vec Ideal S512x3200 .bf16) (w : Vec Ideal S3200x1024 .bf16) (x e : Vec Ideal S512x1024 .f32) (g : Vec Ideal S1x1024 .f32)

theorem cot_apply (r : Fin 512) (d : Fin 1024) : k0_pay2 p w (ix2 r d) = ∑ k : Fin 3200, p (ix2 r k) * w (ix2 k d) := by
  pointwise [k0_pay2]

theorem dx_apply (r : Fin 512) (d : Fin 1024) : k0_pay5 p w x e g (ix2 r d)
    = rowGrad (fun k => x (ix2 r k)) (fun k => k0_pay2 p w (ix2 r k)) (fun k => g (ix2 0 k)) (e (ix2 r d)) d := by
  pointwise [k0_pay5, k0_pay4, k0_pay3, rowGrad, invRms]

/-- The column sums of the gain's gradient over a block. -/
theorem dg_apply (z : Fin 1) (d : Fin 1024) : k0_pay6 p w x (ix2 z d)
    = ∑ r : Fin 512, k0_pay2 p w (ix2 r d) * (x (ix2 r d) * invRms fun k => x (ix2 r k)) := by
  pointwise [k0_pay6, k0_pay4, k0_pay3, invRms]

theorem dg_step (acc part : Vec Ideal S1x1024 .f32) (j : S1x1024.Idx) : k0_pay1 part acc j = acc j + part j := by
  pointwise [k0_pay1]
end

/-! ## The columns in the kernel's order -/

/-- The cotangent's columns in the kernel's order. -/
def cols (p : FVec Ideal S4096x3136 .bf16) : FVec Ideal S4096x3200 .bf16 :=
  concatenate S4096x3200 1 [⟨S4096x512, extractStridedSlice S4096x512 ![0, 0] p slices_S4096x3136_S4096x512_0_0⟩,
    ⟨S4096x2560, extractStridedSlice S4096x2560 ![0, 576] p slices_S4096x3136_S4096x2560_0_576⟩,
    ⟨S4096x128, pad S4096x128 ![0, 0] ![0, 64] ![0, 0] (extractStridedSlice S4096x64 ![0, 512] p slices_S4096x3136_S4096x64_0_512)
      (sitofp (F := Ideal) .bf16 (constantI S_ 32 0#32)) pads_S4096x64_S4096x128_000_0640 h_S_⟩] concatenates_S4096x512_S4096x2560_S4096x128_S4096x3200_d1

/-- The weights transposed. -/
def weightsT (w : FVec Ideal S1x1024x3136 .f32) : FVec Ideal S3136x1024 .bf16 :=
  truncf .bf16 (transpose S3136x1024 [1, 0] (shapeCast S1024x3136 w shapeCasts_S1x1024x3136_S1024x3136) transposes_S1024x3136_S3136x1024_1_0) bitsLt_bf16_f32

/-- The weights' rows in the kernel's order. -/
def rows (w : FVec Ideal S1x1024x3136 .f32) : FVec Ideal S3200x1024 .bf16 :=
  concatenate S3200x1024 0 [⟨S512x1024, extractStridedSlice S512x1024 ![0, 0] (weightsT w) slices_S3136x1024_S512x1024_0_0⟩,
    ⟨S2560x1024, extractStridedSlice S2560x1024 ![576, 0] (weightsT w) slices_S3136x1024_S2560x1024_576_0⟩,
    ⟨S64x1024, extractStridedSlice S64x1024 ![512, 0] (weightsT w) slices_S3136x1024_S64x1024_512_0⟩,
    ⟨S64x1024, broadcastInDim S64x1024 ![] bcast_S_S64x1024 (constant (F := Ideal) S_ .bf16 0x0000#16)⟩] concatenates_S512x1024_S2560x1024_S64x1024_S64x1024_S3200x1024_d0

section
variable (p : FVec Ideal S4096x3136 .bf16) (w : FVec Ideal S1x1024x3136 .f32) (r : Fin 4096) (d : Fin 1024)

theorem cols_0 (k : Fin 512) : cols p (ix2 r ⟨k.val, by omega⟩) = p (ix2 r ⟨k.val, by omega⟩) := by
  pointwise [cols]

theorem cols_1 (k : Fin 2560) : cols p (ix2 r ⟨512 + k.val, by omega⟩) = p (ix2 r ⟨576 + k.val, by omega⟩) := by
  pointwise [cols]

theorem cols_2 (k : Fin 64) : cols p (ix2 r ⟨3072 + k.val, by omega⟩) = p (ix2 r ⟨512 + k.val, by omega⟩) := by
  pointwise [cols]
  rw [dif_neg (by omega), dif_neg (by omega), dif_pos (by omega)]
  exact congrArg (fun k => p (ix2 r k)) (Fin.ext (by show 512 + (3072 + k.val - 512 - 2560) = 512 + k.val; omega))

theorem rows_0 (k : Fin 512) : rows w (ix2 ⟨k.val, by omega⟩ d) = w (ix3 0 d ⟨k.val, by omega⟩) := by
  pointwise [rows, weightsT]

theorem rows_1 (k : Fin 2560) : rows w (ix2 ⟨512 + k.val, by omega⟩ d) = w (ix3 0 d ⟨576 + k.val, by omega⟩) := by
  pointwise [rows, weightsT]

theorem rows_2 (k : Fin 64) : rows w (ix2 ⟨3072 + k.val, by omega⟩ d) = w (ix3 0 d ⟨512 + k.val, by omega⟩) := by
  pointwise [rows, weightsT]
  rw [dif_neg (by omega), dif_neg (by omega), dif_pos (by omega)]
  exact congrArg (fun k => w (ix3 0 d k)) (Fin.ext (by show 512 + (3072 + k.val - 512 - 2560) = 512 + k.val; omega))

/-- The rows that pad the weights are zero. -/
theorem rows_3 (k : Fin 64) : rows w (ix2 ⟨3136 + k.val, by omega⟩ d) = 0 := by
  pointwise [rows]
  rw [dif_neg (by omega), dif_neg (by omega), dif_neg (by omega)]

end

/-- A sum over 3200 places that are 3136 places in another order, and zeros. -/
theorem sum_places (f : Fin 3200 → EReal) (f' : Fin 3136 → EReal) (h0 : ∀ k : Fin 512, f ⟨k.val, by omega⟩ = f' ⟨k.val, by omega⟩)
    (h1 : ∀ k : Fin 2560, f ⟨512 + k.val, by omega⟩ = f' ⟨576 + k.val, by omega⟩) (h2 : ∀ k : Fin 64, f ⟨3072 + k.val, by omega⟩ = f' ⟨512 + k.val, by omega⟩)
    (h3 : ∀ k : Fin 64, f ⟨3136 + k.val, by omega⟩ = 0) : ∑ k, f k = ∑ k, f' k := by
  have a1 : ∑ k, f k = ∑ k : Fin 512, f ⟨k.val, by omega⟩ + ∑ k : Fin 2688, f ⟨512 + k.val, by omega⟩ := Fin.sum_univ_add (a := 512) (b := 2688) f
  have a2 : ∑ k : Fin 2688, f ⟨512 + k.val, by omega⟩ = ∑ k : Fin 2560, f ⟨512 + k.val, by omega⟩ + ∑ k : Fin 128, f ⟨512 + (2560 + k.val), by omega⟩ :=
    Fin.sum_univ_add (a := 2560) (b := 128) fun k : Fin 2688 => f ⟨512 + k.val, by omega⟩
  have a3 : ∑ k : Fin 128, f ⟨512 + (2560 + k.val), by omega⟩
      = ∑ k : Fin 64, f ⟨512 + (2560 + k.val), by omega⟩ + ∑ k : Fin 64, f ⟨512 + (2560 + (64 + k.val)), by omega⟩ :=
    Fin.sum_univ_add (a := 64) (b := 64) fun k : Fin 128 => f ⟨512 + (2560 + k.val), by omega⟩
  have b1 : ∑ k, f' k = ∑ k : Fin 512, f' ⟨k.val, by omega⟩ + ∑ k : Fin 2624, f' ⟨512 + k.val, by omega⟩ := Fin.sum_univ_add (a := 512) (b := 2624) f'
  have b2 : ∑ k : Fin 2624, f' ⟨512 + k.val, by omega⟩ = ∑ k : Fin 64, f' ⟨512 + k.val, by omega⟩ + ∑ k : Fin 2560, f' ⟨512 + (64 + k.val), by omega⟩ :=
    Fin.sum_univ_add (a := 64) (b := 2560) fun k : Fin 2624 => f' ⟨512 + k.val, by omega⟩
  have c3 : ∑ k : Fin 64, f ⟨512 + (2560 + (64 + k.val)), by omega⟩ = 0 :=
    Finset.sum_eq_zero fun k _ => (congrArg f (Fin.ext (by show 512 + (2560 + (64 + k.val)) = 3136 + k.val; omega))).trans (h3 k)
  have c2 : ∑ k : Fin 64, f ⟨512 + (2560 + k.val), by omega⟩ = ∑ k : Fin 64, f' ⟨512 + k.val, by omega⟩ :=
    Finset.sum_congr rfl fun k _ => (congrArg f (Fin.ext (by show 512 + (2560 + k.val) = 3072 + k.val; omega))).trans (h2 k)
  have c1 : ∑ k : Fin 2560, f ⟨512 + k.val, by omega⟩ = ∑ k : Fin 2560, f' ⟨512 + (64 + k.val), by omega⟩ :=
    Finset.sum_congr rfl fun k _ => (h1 k).trans (congrArg f' (Fin.ext (by show 576 + k.val = 512 + (64 + k.val); omega)))
  rw [a1, a2, a3, b1, b2, c1, c2, c3, add_zero, Finset.sum_congr rfl fun k _ => h0 k, add_comm (∑ k : Fin 2560, _)]

/-- The product over the kernel's columns is the product over the columns as they are. -/
theorem sum_cols (p : FVec Ideal S4096x3136 .bf16) (w : FVec Ideal S1x1024x3136 .f32) (r : Fin 4096) (d : Fin 1024) :
    ∑ k : Fin 3200, cols p (ix2 r k) * rows w (ix2 k d) = ∑ k : Fin 3136, p (ix2 r k) * w (ix3 0 d k) :=
  sum_places _ _ (fun k => by rw [cols_0, rows_0]) (fun k => by rw [cols_1, rows_1]) (fun k => by rw [cols_2, rows_2])
    fun k => by rw [rows_3, mul_zero]

variable (m : (ℓ : Loc nD τ sig) → Buf (Elt Ideal) ℓ) (ρ : Dev nD → PrngReg)

/-- Device `c`'s five arguments, at their types. -/
abbrev X (c : Dev nD) : FVec Ideal S4096x1024 .f32 := m ((c : Thread nD τ).loc main_arg0)
abbrev E (c : Dev nD) : FVec Ideal S4096x1024 .f32 := m ((c : Thread nD τ).loc main_arg1)
abbrev P (c : Dev nD) : FVec Ideal S4096x3136 .bf16 := m ((c : Thread nD τ).loc main_arg2)
abbrev W (c : Dev nD) : FVec Ideal S1x1024x3136 .f32 := m ((c : Thread nD τ).loc main_arg3)
abbrev G (c : Dev nD) : FVec Ideal S1x1024 .f32 := m ((c : Thread nD τ).loc main_arg4)

/-! ## The blocks a grid point reads -/

/-- Where each window's block sits in its array. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

/-- The row of the whole array that row `r` of block `t` is. -/
def row (t : Fin cfg0.N) (r : Fin 512) : Fin 4096 := ⟨t.val * 512 + r.val, by have := t.isLt; have hN : cfg0.N = 8 := N_0; omega⟩

/-- The cotangent as the region finds it. -/
theorem V_cols (c : Dev nD) : (V m c main_v4 : FVec Ideal S4096x3200 .bf16) = cols (P m c) := by
  show StableHlo.after (List.flatten [hostOps0, hostOps0_1, hostOps0_2]) (fun b => m (c, b)) main_v4 = _
  simp only [List.flatten_cons, List.flatten_nil, List.append_nil, List.cons_append, List.nil_append]
  after_results <;> rfl

/-- The weights as the region finds them. -/
theorem V_rows (c : Dev nD) : (V m c main_v12 : FVec Ideal S3200x1024 .bf16) = rows (W m c) := by
  show StableHlo.after (List.flatten [hostOps0, hostOps0_1, hostOps0_2]) (fun b => m (c, b)) main_v12 = _
  simp only [List.flatten_cons, List.flatten_nil, List.append_nil, List.cons_append, List.nil_append]
  after_results <;> rfl

theorem blkP (c : Dev nD) (t : Fin cfg0.N) (r : Fin 512) (k : Fin 3200) :
    (iblk m c 0 t : Vec Ideal S512x3200 .bf16) (ix2 r k) = cols (P m c) (ix2 (row t r) k) := by
  blk_simp [iblk]
  have e : (win0_0.blk t).view.emb (ix2 r k) = (ix2 (row t r) k : S4096x3200.Idx) := by blk_ext [(idx t).1, row]
  exact (congrArg (V m c main_v4) e).trans (congrFun (V_cols m c) _)

theorem blkW (c : Dev nD) (t : Fin cfg0.N) (k : Fin 3200) (d : Fin 1024) :
    (iblk m c 1 t : Vec Ideal S3200x1024 .bf16) (ix2 k d) = rows (W m c) (ix2 k d) := by
  blk_simp [iblk]
  have e : (win0_1.blk t).view.emb (ix2 k d) = (ix2 k d : S3200x1024.Idx) := by blk_ext [(idx t).2.1]
  exact (congrArg (V m c main_v12) e).trans (congrFun (V_rows m c) _)

theorem blkX (c : Dev nD) (t : Fin cfg0.N) (r : Fin 512) (k : Fin 1024) :
    (iblk m c 2 t : Vec Ideal S512x1024 .f32) (ix2 r k) = X m c (ix2 (row t r) k) := by
  blk_simp [iblk]
  refine (congrFun (V_main_arg0 m c) _).trans (congrArg (X m c) ?_)
  blk_ext [(idx t).2.2.1, row]

theorem blkE (c : Dev nD) (t : Fin cfg0.N) (r : Fin 512) (k : Fin 1024) :
    (iblk m c 3 t : Vec Ideal S512x1024 .f32) (ix2 r k) = E m c (ix2 (row t r) k) := by
  blk_simp [iblk]
  refine (congrFun (V_main_arg1 m c) _).trans (congrArg (E m c) ?_)
  blk_ext [(idx t).2.2.2.1, row]

theorem blkG (c : Dev nD) (t : Fin cfg0.N) (k : Fin 1024) :
    (iblk m c 4 t : Vec Ideal S1x1024 .f32) (ix2 0 k) = G m c (ix2 0 k) := by
  blk_simp [iblk]
  refine (congrFun (V_main_arg4 m c) _).trans (congrArg (G m c) ?_)
  blk_ext [(idx t).2.2.2.2.1]

/-- The cotangent of the norm's result in block `t` is the reference's in the rows of the block. -/
theorem blk_cot (c : Dev nD) (t : Fin cfg0.N) (r : Fin 512) (d : Fin 1024) :
    k0_pay2 (iblk m c 0 t) (iblk m c 1 t) (ix2 r d) = val_main_v20 (F := Ideal) (P m c) (W m c) (ix2 (row t r) d) := by
  rw [cot_apply, Reference.cot_apply, ← sum_cols]
  simp only [blkP, blkW]

/-! ## The result arrays -/

/-- What a point leaves for the row's gradient is the reference's. -/
theorem block_dx (c : Dev nD) (t : Fin cfg0.N) (r : Fin 512) (d : Fin 1024) :
    k0_pay5 (iblk m c 0 t) (iblk m c 1 t) (iblk m c 2 t) (iblk m c 3 t) (iblk m c 4 t) (ix2 r d)
      = val_main_v41 (F := Ideal) (X m c) (E m c) (P m c) (W m c) (G m c) (ix2 (row t r) d) := by
  rw [dx_apply, Reference.dx_apply]
  simp only [blk_cot, blkX, blkE, blkG]
  exact rowGrad_eq _ _ _ _ _

/-- The step's input's gradient is the reference's. -/
theorem final_dx (c : Dev nD) :
    (dats m 0 c).arrAt 5 cfg0.N = val_main_v41 (F := Ideal) (X m c) (E m c) (P m c) (W m c) (G m c) := by
  refine (dats m 0 c).arrAt_eq_of_covers 5 _ (by decide +kernel) fun t _ y => ?_
  blk_simp
  rw [after0_5]
  have hN : cfg0.N = 8 := N_0
  have ht : t.val < cfg0.N := t.isLt
  have e : ((View.whole main_v13_0).slice (win0_5.rect t)).emb y = (ix2 (row t (y 0)) (y 1) : S4096x1024.Idx) := by
    blk_ext [(idx t).2.2.2.2.2, row]
  rw [e, ← block_dx m c t (y 0) (y 1)]
  by_cases h : t.val % 8 = 0
  · rw [outsAt0_A m c t h (by omega)]
    frame_out
    exact congrArg _ (eq_ix2 y)
  · rw [outsAt0_B m c t h (by omega)]
    frame_out
    exact congrArg _ (eq_ix2 y)

/-- The blocks' column sums, added up, are the reference's sum over all rows. -/
theorem dg_sum (c : Dev nD) (z : Fin 1) (d : Fin 1024) :
    ∑ t : Fin cfg0.N, k0_pay6 (iblk m c 0 t) (iblk m c 1 t) (iblk m c 2 t) (ix2 z d) = val_main_v42 (F := Ideal) (X m c) (P m c) (W m c) (ix2 z d) := by
  have hN : cfg0.N = 8 := N_0
  refine Eq.trans ?_ ((Reference.dg_apply (X m c) (P m c) (W m c) z d).trans (sum_tiles (N := cfg0.N) (B := 512) (by rw [hN]) _)).symm
  refine Finset.sum_congr rfl fun t _ => (dg_apply _ _ _ z d).trans (Finset.sum_congr rfl fun r _ => ?_)
  rw [blk_cot]
  simp only [blkX]
  exact mul_comm _ _

/-- The gain's gradient is the reference's. -/
theorem final_dg (c : Dev nD) : (dats m 0 c).arrAt 6 cfg0.N = val_main_v42 (F := Ideal) (X m c) (P m c) (W m c) := by
  have hN : cfg0.N = 8 := N_0
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
      (fun t h j => by rw [outsAt0_A m c t h (by have := t.isLt; omega)]; frame_out; rw [zero_add])
      (fun t h j => by rw [outsAt0_B m c t h (by omega)]; frame_out; rw [dg_step])
      (le_of_eq N_0) t0_7 rfl j, zero_add]
  obtain ⟨z, d, rfl⟩ : ∃ (z : Fin 1) (d : Fin 1024), j = ix2 z d := ⟨j 0, j 1, eq_ix2 j⟩
  exact dg_sum m c z d

/-! ## The claims -/

/-- The reference runs, leaves its arguments as they were and every semaphore at zero. -/
theorem frame_ref : Cert.quiescent_NormMixRefIdeal := fun m ρ _ =>
  (θ_run Cert.NormMixRefIdeal.defs _ _).mono
    (fun r h => ⟨fun c => (h c).2.2, sem_eq_zero_of_no_sems (by decide) r.2⟩) (Cert.NormMixRefIdeal.Value.run (F := Ideal) m ρ)

/-- At the ideal values the kernel and the reference end with the same two arrays. -/
theorem algebraic : Cert.algebraic_NormMixBwdIdeal_NormMixRefIdeal := by
  intro m ρ m' ρ' _ hagree
  refine ⟨fun c => val_main_v41 (F := Ideal) (X m c) (E m c) (P m c) (W m c) (G m c),
    fun c => val_main_v42 (F := Ideal) (X m c) (P m c) (W m c), ?_, ?_⟩
  · refine (θ_run Cert.NormMixBwdIdeal.defs _ _).mono (fun _ h c => ?_) (NormMixBwdIdeal.Value.run_blocks (F := Ideal) m ρ)
    exact ⟨(h c).1.trans (final_dx m c), (h c).2.1.trans (final_dg m c), (h c).2.2⟩
  · refine (θ_run Cert.NormMixRefIdeal.defs _ _).mono (fun _ h c => ?_) (Cert.NormMixRefIdeal.Value.run (F := Ideal) m' ρ')
    obtain ⟨e0, e1, e2, e3, e4⟩ := hagree c
    refine ⟨(h c).1.trans ?_, (h c).2.1.trans ?_, (h c).2.2⟩
    · rw [val_main_v41_eq, e0, e1, e2, e3, e4]
    · rw [val_main_v42_eq, e0, e2, e3]

end Cert.NormMix

end
-- ==== Proof.PleLoss.lean ====
/- The value of the loss and of its gradients at the last residual, the per-layer-embedding gate and the gated projection:
   the kernel's four result arrays are the reference's. -/
module

public import proofs.«01_k».proof.Defs
public import proofs.«01_k».proof.Proof.Norms
public import proofs.«01_k».proof.Proof.Gen.PleLossIdeal.Value
public import proofs.«01_k».proof.Proof.Gen.PleLossRefIdeal.Read

@[expose] public section

noncomputable section

namespace Cert.LossGrad

open Idealize.ShloMosaic Cert.Common

/-! ## One value at a time -/

/-- The gate of the value `s`. -/
def gate (s : EReal) : EReal := Ideal.div 1 (1 + Ideal.exp (-s))

/-- The prediction's error: `x` the residual, `s` what the gate is of, `q` the projection, `y` the target. -/
def err (x s q y : EReal) : EReal := x + gate s * q - y

/-- The gate as the kernel writes it, with the hyperbolic tangent of one half of the value. -/
theorem gate_eq (s : EReal) : Ideal.ofBits .f32 0x3F000000#32 * Ideal.tanh (Ideal.ofBits .f32 0x3F000000#32 * s) + Ideal.ofBits .f32 0x3F000000#32 = gate s := by
  rw [ofBits_half_f32, half_tanh]
  rfl

/-- The error's factor: the kernel multiplies with 1/1024, the derivative of the mean of squares with one half over 1024 and with two. -/
theorem scale_eq (e : EReal) : Ideal.div (Ideal.ofBits .f32 0x3F000000#32) (Ideal.ofBits .f32 0x44800000#32) * (Ideal.ofBits .f32 0x40000000#32 * e)
    = e * Ideal.ofBits .f32 0x3A800000#32 := by
  have h : Ideal.ofBits .f32 0x3A800000#32 = ((1 / 1024 : ℝ) : EReal) := by
    simp [Ideal.ofBits, Ideal.ieee]
    rw [← EReal.coe_mul]; norm_num
  rw [h, ofBits_half_f32, ofBits_two_coe, Norms.ofBits_1024, div_coe_coe _ (by norm_num : (1024 : ℝ) ≠ 0), ← mul_assoc, ← EReal.coe_mul, mul_comm]
  congr 2
  norm_num

end Cert.LossGrad

namespace Cert.LossGrad.Reference

open Cert.PleLossRefIdeal Cert.PleLossRefIdeal.Read Idealize.ShloMosaic Cert.LossGrad

/-! ## The reference, read at an index -/

variable (h : FVec Ideal S4096x1024 .bf16) (w : FVec Ideal S1x1024x1024 .f32) (q x y : FVec Ideal S4096x1024 .f32)

theorem pg_apply (r : Fin 4096) (d : Fin 1024) : val_main_v2 (F := Ideal) h w (ix2 r d) = ∑ k : Fin 1024, h (ix2 r k) * w (ix3 0 k d) := by
  pointwise [val_main_v2, val_main_v1, val_main_v0]

/-- The error at row `r`, column `d`. -/
def errAt (r : Fin 4096) (d : Fin 1024) : EReal := err (x (ix2 r d)) (val_main_v2 (F := Ideal) h w (ix2 r d)) (q (ix2 r d)) (y (ix2 r d))

theorem dx_apply (r : Fin 4096) (d : Fin 1024) : val_main_v28 (F := Ideal) h w q x y (ix2 r d) = errAt h w q x y r d * Ideal.ofBits .f32 0x3A800000#32 := by
  pointwise [val_main_v28, val_main_v27, val_main_v26, val_main_v25, val_main_v24, val_main_v23, val_main_v17, val_main_v16,
    val_main_v14, val_main_v13, val_main_v12, val_main_v8, val_main_v7, val_main_v6, val_main_v5, val_main_v4, val_main_v3,
    val_main_cst, val_main_cst_0, val_main_cst_1, val_main_cst_2, val_main_cst_3, val_main_cst_4, val_main_cst_5, val_main_cst_6,
    val_main_cst_7, val_main_cst_8, val_main_cst_9]
  exact scale_eq _

theorem dpg_apply (r : Fin 4096) (d : Fin 1024) : val_main_v32 (F := Ideal) h w q x y (ix2 r d)
    = val_main_v28 (F := Ideal) h w q x y (ix2 r d) * q (ix2 r d)
      * (gate (val_main_v2 (F := Ideal) h w (ix2 r d)) * (1 - gate (val_main_v2 (F := Ideal) h w (ix2 r d)))) := by
  pointwise [val_main_v32, val_main_v31, val_main_v30, val_main_v11, val_main_v10, val_main_v9, val_main_v8, val_main_v7,
    val_main_v6, val_main_v5, val_main_v4, val_main_v3, val_main_cst, val_main_cst_0, val_main_cst_1, val_main_cst_2, val_main_cst_3, gate]

theorem dpp_apply (r : Fin 4096) (d : Fin 1024) : val_main_v33 (F := Ideal) h w q x y (ix2 r d)
    = gate (val_main_v2 (F := Ideal) h w (ix2 r d)) * val_main_v28 (F := Ideal) h w q x y (ix2 r d) := by
  pointwise [val_main_v33, val_main_v29, val_main_v8, val_main_v7, val_main_v6, val_main_v5, val_main_v4, val_main_v3,
    val_main_cst, val_main_cst_0, val_main_cst_1, val_main_cst_2, val_main_cst_3, gate]

theorem loss_apply (z z' : Fin 1) : val_main_v34 (F := Ideal) h w q x y (ix2 z z')
    = Ideal.ofBits .f32 0x3F000000#32 * ∑ r : Fin 4096, Ideal.div (∑ d : Fin 1024, errAt h w q x y r d * errAt h w q x y r d) (Ideal.ofBits .f32 0x44800000#32) := by
  pointwise [val_main_v34, val_main_v22, val_main_v21, val_main_v20, val_main_v19, val_main_v18, val_main_v15, val_main_v14,
    val_main_v13, val_main_v12, val_main_v8, val_main_v7, val_main_v6, val_main_v5, val_main_v4, val_main_v3, val_main_cst,
    val_main_cst_0, val_main_cst_1, val_main_cst_2, val_main_cst_3, val_main_cst_4, val_main_cst_5, val_main_cst_6, val_main_cst_7,
    errAt, err, gate]

end Cert.LossGrad.Reference

namespace Cert.LossGrad

open Cert.PleLossIdeal Cert.PleLossIdeal.Gen Idealize.ShloMosaic Idealize.ShloMosaic.TcCoe Idealize.SL.Sem
open Idealize.ShloMosaic.Pipeline (Dat)
open Cert.Common Cert.Norms
open Cert.PleLossRefIdeal.Read (val_main_v2 val_main_v28 val_main_v32 val_main_v33 val_main_v34 val_main_v28_eq val_main_v32_eq val_main_v33_eq val_main_v34_eq)

/-! ## The kernel's payloads, read at an index -/

section
variable (h : Vec Ideal S512x1024 .bf16) (w : Vec Ideal S1024x1024 .bf16) (q x y : Vec Ideal S512x1024 .f32)

/-- What the gate is of: the product with the gate's weights. -/
def pg (r : Fin 512) (d : Fin 1024) : EReal := ∑ k : Fin 1024, h (ix2 r k) * w (ix2 k d)

theorem gate_apply (r : Fin 512) (d : Fin 1024) : k0_pay4 h w (ix2 r d) = gate (pg h w r d) := by
  pointwise [k0_pay4, pg]
  exact gate_eq _

theorem dx_apply (r : Fin 512) (d : Fin 1024) : k0_pay6 h w q x y (ix2 r d)
    = err (x (ix2 r d)) (pg h w r d) (q (ix2 r d)) (y (ix2 r d)) * Ideal.ofBits .f32 0x3A800000#32 := by
  pointwise [k0_pay6, k0_pay5]
  rw [gate_apply, err]

theorem dpg_apply (r : Fin 512) (d : Fin 1024) : k0_pay8 h w q x y (ix2 r d)
    = k0_pay6 h w q x y (ix2 r d) * q (ix2 r d) * k0_pay4 h w (ix2 r d) * (1 - k0_pay4 h w (ix2 r d)) := by
  pointwise [k0_pay8]

theorem dpp_apply (r : Fin 512) (d : Fin 1024) : k0_pay9 h w q x y (ix2 r d) = k0_pay6 h w q x y (ix2 r d) * k0_pay4 h w (ix2 r d) := by
  pointwise [k0_pay9]

theorem err_apply (r : Fin 512) (d : Fin 1024) : k0_pay5 h w q x y (ix2 r d)
    = err (x (ix2 r d)) (pg h w r d) (q (ix2 r d)) (y (ix2 r d)) := by
  pointwise [k0_pay5]
  rw [gate_apply, err]

/-- A block's part of the loss. -/
theorem loss_apply (z z' : Fin 1) : k0_pay7 h w q x y (ix2 z z') = Ideal.ofBits .f32 0x3F000000#32
    * ∑ r : Fin 512, Ideal.div (∑ d : Fin 1024, k0_pay5 h w q x y (ix2 r d) * k0_pay5 h w q x y (ix2 r d)) (Ideal.ofBits .f32 0x44800000#32) := by
  pointwise [k0_pay7]

theorem loss_step (part : FVec Ideal S1x1 .f32) (acc : Vec Ideal S1x1 .f32) (j : S1x1.Idx) : k0_pay3 part acc j = acc j + part j := by
  pointwise [k0_pay3]
end

variable (m : (ℓ : Loc nD τ sig) → Buf (Elt Ideal) ℓ) (ρ : Dev nD → PrngReg)

/-- Device `c`'s five arguments, at their types. -/
abbrev H (c : Dev nD) : FVec Ideal S4096x1024 .bf16 := m ((c : Thread nD τ).loc main_arg0)
abbrev W (c : Dev nD) : FVec Ideal S1x1024x1024 .f32 := m ((c : Thread nD τ).loc main_arg1)
abbrev Q (c : Dev nD) : FVec Ideal S4096x1024 .f32 := m ((c : Thread nD τ).loc main_arg2)
abbrev X (c : Dev nD) : FVec Ideal S4096x1024 .f32 := m ((c : Thread nD τ).loc main_arg3)
abbrev Y (c : Dev nD) : FVec Ideal S4096x1024 .f32 := m ((c : Thread nD τ).loc main_arg4)

/-! ## The blocks a grid point reads -/

/-- Where each window's block sits in its array. -/
theorem idx : ∀ t : Fin cfg0.N, (win0_0.index t = ![t.val, 0] ∧ win0_1.index t = ![0, 0] ∧ win0_2.index t = ![t.val, 0]
    ∧ win0_3.index t = ![t.val, 0] ∧ win0_4.index t = ![t.val, 0]) ∧ win0_5.index t = ![t.val, 0] ∧ win0_6.index t = ![t.val, 0]
    ∧ win0_7.index t = ![t.val, 0] :=
  (by decide +kernel : ∀ t : Fin grid0.N, _)

/-- The row of the whole array that row `r` of block `t` is. -/
def row (t : Fin cfg0.N) (r : Fin 512) : Fin 4096 := ⟨t.val * 512 + r.val, by have := t.isLt; have hN : cfg0.N = 8 := N_0; omega⟩

theorem blkH (c : Dev nD) (t : Fin cfg0.N) (r : Fin 512) (k : Fin 1024) :
    (iblk m c 0 t : Vec Ideal S512x1024 .bf16) (ix2 r k) = H m c (ix2 (row t r) k) := by
  blk_simp [iblk]
  refine (congrFun (V_main_arg0 m c) _).trans (congrArg (H m c) ?_)
  blk_ext [(idx t).1.1, row]

theorem blkQ (c : Dev nD) (t : Fin cfg0.N) (r : Fin 512) (k : Fin 1024) :
    (iblk m c 2 t : Vec Ideal S512x1024 .f32) (ix2 r k) = Q m c (ix2 (row t r) k) := by
  blk_simp [iblk]
  refine (congrFun (V_main_arg2 m c) _).trans (congrArg (Q m c) ?_)
  blk_ext [(idx t).1.2.2.1, row]

theorem blkX (c : Dev nD) (t : Fin cfg0.N) (r : Fin 512) (k : Fin 1024) :
    (iblk m c 3 t : Vec Ideal S512x1024 .f32) (ix2 r k) = X m c (ix2 (row t r) k) := by
  blk_simp [iblk]
  refine (congrFun (V_main_arg3 m c) _).trans (congrArg (X m c) ?_)
  blk_ext [(idx t).1.2.2.2.1, row]

theorem blkY (c : Dev nD) (t : Fin cfg0.N) (r : Fin 512) (k : Fin 1024) :
    (iblk m c 4 t : Vec Ideal S512x1024 .f32) (ix2 r k) = Y m c (ix2 (row t r) k) := by
  blk_simp [iblk]
  refine (congrFun (V_main_arg4 m c) _).trans (congrArg (Y m c) ?_)
  blk_ext [(idx t).1.2.2.2.2, row]

/-- The weights as the region finds them: the argument, its leading axis of size one dropped. -/
theorem V_w (c : Dev nD) (i : S1024x1024.Idx) : (V m c main_v1 : FVec Ideal S1024x1024 .bf16) i = W m c (ix3 0 (i 0) (i 1)) := by
  have h : (V m c main_v1 : FVec Ideal S1024x1024 .bf16)
      = (truncf (F := Ideal) .bf16 (Cert.PleLossRefIdeal.Read.val_main_v1 (F := Ideal) (W m c)) bitsLt_bf16_f32 : FVec Ideal S1024x1024 .bf16) := by
    show StableHlo.after hostOps0 (fun b => m (c, b)) main_v1 = _
    after_results <;> rfl
  rw [h]
  pointwise [Cert.PleLossRefIdeal.Read.val_main_v1]

theorem blkW (c : Dev nD) (t : Fin cfg0.N) (k d : Fin 1024) :
    (iblk m c 1 t : Vec Ideal S1024x1024 .bf16) (ix2 k d) = W m c (ix3 0 k d) := by
  blk_simp [iblk]
  have e : (win0_1.blk t).view.emb (ix2 k d) = (ix2 k d : S1024x1024.Idx) := by blk_ext [(idx t).1.2.1]
  exact (congrArg (V m c main_v1) e).trans (V_w m c (ix2 k d))

/-- What the gate is of, in block `t`, is the reference's in the rows of the block. -/
theorem blk_pg (c : Dev nD) (t : Fin cfg0.N) (r : Fin 512) (d : Fin 1024) :
    pg (iblk m c 0 t) (iblk m c 1 t) r d = val_main_v2 (F := Ideal) (H m c) (W m c) (ix2 (row t r) d) := by
  rw [pg, Reference.pg_apply]
  simp only [blkH, blkW]

/-! ## The result arrays -/

theorem block_err (c : Dev nD) (t : Fin cfg0.N) (r : Fin 512) (d : Fin 1024) :
    k0_pay5 (iblk m c 0 t) (iblk m c 1 t) (iblk m c 2 t) (iblk m c 3 t) (iblk m c 4 t) (ix2 r d)
      = Reference.errAt (H m c) (W m c) (Q m c) (X m c) (Y m c) (row t r) d := by
  rw [err_apply, blk_pg, blkX, blkQ, blkY, Reference.errAt]

/-- What a point leaves for the residual's gradient is the reference's. -/
theorem block_dx (c : Dev nD) (t : Fin cfg0.N) (r : Fin 512) (d : Fin 1024) :
    k0_pay6 (iblk m c 0 t) (iblk m c 1 t) (iblk m c 2 t) (iblk m c 3 t) (iblk m c 4 t) (ix2 r d)
      = val_main_v28 (F := Ideal) (H m c) (W m c) (Q m c) (X m c) (Y m c) (ix2 (row t r) d) := by
  rw [dx_apply, blk_pg, blkX, blkQ, blkY, Reference.dx_apply, Reference.errAt]

/-- What a point leaves for the gate's gradient is the reference's. -/
theorem block_dpg (c : Dev nD) (t : Fin cfg0.N) (r : Fin 512) (d : Fin 1024) :
    k0_pay8 (iblk m c 0 t) (iblk m c 1 t) (iblk m c 2 t) (iblk m c 3 t) (iblk m c 4 t) (ix2 r d)
      = val_main_v32 (F := Ideal) (H m c) (W m c) (Q m c) (X m c) (Y m c) (ix2 (row t r) d) := by
  rw [dpg_apply, block_dx, gate_apply, blk_pg, blkQ, Reference.dpg_apply, mul_assoc]

/-- What a point leaves for the projection's gradient is the reference's. -/
theorem block_dpp (c : Dev nD) (t : Fin cfg0.N) (r : Fin 512) (d : Fin 1024) :
    k0_pay9 (iblk m c 0 t) (iblk m c 1 t) (iblk m c 2 t) (iblk m c 3 t) (iblk m c 4 t) (ix2 r d)
      = val_main_v33 (F := Ideal) (H m c) (W m c) (Q m c) (X m c) (Y m c) (ix2 (row t r) d) := by
  rw [dpp_apply, block_dx, gate_apply, blk_pg, Reference.dpp_apply, mul_comm]

theorem final_dx (c : Dev nD) :
    (dats m 0 c).arrAt 5 cfg0.N = val_main_v28 (F := Ideal) (H m c) (W m c) (Q m c) (X m c) (Y m c) := by
  refine (dats m 0 c).arrAt_eq_of_covers 5 _ (by decide +kernel) fun t _ y => ?_
  blk_simp
  rw [after0_5]
  have hN : cfg0.N = 8 := N_0
  have ht : t.val < cfg0.N := t.isLt
  have e : ((View.whole main_v2_0).slice (win0_5.rect t)).emb y = (ix2 (row t (y 0)) (y 1) : S4096x1024.Idx) := by
    blk_ext [(idx t).2.1, row]
  rw [e, ← block_dx m c t (y 0) (y 1)]
  by_cases h : t.val % 8 = 0
  · rw [outsAt0_A m c t h (by omega)]
    frame_out
    exact congrArg _ (eq_ix2 y)
  · rw [outsAt0_B m c t h (by omega)]
    frame_out
    exact congrArg _ (eq_ix2 y)

theorem final_dpg (c : Dev nD) :
    (dats m 0 c).arrAt 6 cfg0.N = val_main_v32 (F := Ideal) (H m c) (W m c) (Q m c) (X m c) (Y m c) := by
  refine (dats m 0 c).arrAt_eq_of_covers 6 _ (by decide +kernel) fun t _ y => ?_
  blk_simp
  rw [after0_6]
  have hN : cfg0.N = 8 := N_0
  have ht : t.val < cfg0.N := t.isLt
  have e : ((View.whole main_v2_1).slice (win0_6.rect t)).emb y = (ix2 (row t (y 0)) (y 1) : S4096x1024.Idx) := by
    blk_ext [(idx t).2.2.1, row]
  rw [e]
  refine Eq.trans ?_ (block_dpg m c t (y 0) (y 1))
  by_cases h : t.val % 8 = 0
  · rw [outsAt0_A m c t h (by omega)]
    frame_out
    exact congrArg (k0_pay8 (F := Ideal) _ _ _ _ _) (eq_ix2 y)
  · rw [outsAt0_B m c t h (by omega)]
    frame_out
    exact congrArg (k0_pay8 (F := Ideal) _ _ _ _ _) (eq_ix2 y)

theorem final_dpp (c : Dev nD) :
    (dats m 0 c).arrAt 7 cfg0.N = val_main_v33 (F := Ideal) (H m c) (W m c) (Q m c) (X m c) (Y m c) := by
  refine (dats m 0 c).arrAt_eq_of_covers 7 _ (by decide +kernel) fun t _ y => ?_
  blk_simp
  rw [after0_7]
  have hN : cfg0.N = 8 := N_0
  have ht : t.val < cfg0.N := t.isLt
  have e : ((View.whole main_v2_2).slice (win0_7.rect t)).emb y = (ix2 (row t (y 0)) (y 1) : S4096x1024.Idx) := by
    blk_ext [(idx t).2.2.2, row]
  rw [e]
  refine Eq.trans ?_ (block_dpp m c t (y 0) (y 1))
  by_cases h : t.val % 8 = 0
  · rw [outsAt0_A m c t h (by omega)]
    frame_out
    exact congrArg (k0_pay9 (F := Ideal) _ _ _ _ _) (eq_ix2 y)
  · rw [outsAt0_B m c t h (by omega)]
    frame_out
    exact congrArg (k0_pay9 (F := Ideal) _ _ _ _ _) (eq_ix2 y)

/-- The blocks' parts of the loss, added up, are the loss. -/
theorem loss_sum (c : Dev nD) (z z' : Fin 1) :
    ∑ t : Fin cfg0.N, k0_pay7 (iblk m c 0 t) (iblk m c 1 t) (iblk m c 2 t) (iblk m c 3 t) (iblk m c 4 t) (ix2 z z')
      = val_main_v34 (F := Ideal) (H m c) (W m c) (Q m c) (X m c) (Y m c) (ix2 z z') := by
  have hN : cfg0.N = 8 := N_0
  rw [Reference.loss_apply, sum_tiles (N := cfg0.N) (B := 512) (by rw [hN]), ofBits_half_f32, coe_mul_sum _ (by norm_num)]
  refine Finset.sum_congr rfl fun t _ => (loss_apply _ _ _ _ _ z z').trans ?_
  rw [ofBits_half_f32]
  refine congrArg _ (Finset.sum_congr rfl fun r _ => congrArg (fun s => Ideal.div s _) (Finset.sum_congr rfl fun d _ => ?_))
  rw [block_err]
  rfl

/-- The loss is the reference's. -/
theorem final_loss (c : Dev nD) :
    (dats m 0 c).arrAt 8 cfg0.N = val_main_v34 (F := Ideal) (H m c) (W m c) (Q m c) (X m c) (Y m c) := by
  have hN : cfg0.N = 8 := N_0
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
      (fun t h j => by rw [outsAt0_A m c t h (by have := t.isLt; omega)]; frame_out; rw [zero_add])
      (fun t h j => by rw [outsAt0_B m c t h (by omega)]; frame_out; rw [loss_step])
      (le_of_eq N_0) t0_7 rfl j, zero_add]
  obtain ⟨z, z', rfl⟩ : ∃ (z z' : Fin 1), j = ix2 z z' := ⟨j 0, j 1, eq_ix2 j⟩
  exact loss_sum m c z z'

/-! ## The claims -/

/-- The reference runs, leaves its arguments as they were and every semaphore at zero. -/
theorem frame_ref : Cert.quiescent_PleLossRefIdeal := fun m ρ _ =>
  (θ_run Cert.PleLossRefIdeal.defs _ _).mono
    (fun r h => ⟨fun c => (h c).2.2.2.2, sem_eq_zero_of_no_sems (by decide) r.2⟩) (Cert.PleLossRefIdeal.Value.run (F := Ideal) m ρ)

/-- At the ideal values the kernel and the reference end with the same four arrays. -/
theorem algebraic : Cert.algebraic_PleLossIdeal_PleLossRefIdeal := by
  intro m ρ m' ρ' _ hagree
  refine ⟨fun c => val_main_v28 (F := Ideal) (H m c) (W m c) (Q m c) (X m c) (Y m c),
    fun c => val_main_v32 (F := Ideal) (H m c) (W m c) (Q m c) (X m c) (Y m c),
    fun c => val_main_v33 (F := Ideal) (H m c) (W m c) (Q m c) (X m c) (Y m c),
    fun c => val_main_v34 (F := Ideal) (H m c) (W m c) (Q m c) (X m c) (Y m c), ?_, ?_⟩
  · refine (θ_run Cert.PleLossIdeal.defs _ _).mono (fun _ h c => ?_) (PleLossIdeal.Value.run_blocks (F := Ideal) m ρ)
    exact ⟨(h c).1.trans (final_dx m c), (h c).2.1.trans (final_dpg m c), (h c).2.2.1.trans (final_dpp m c),
      (h c).2.2.2.1.trans (final_loss m c), (h c).2.2.2.2⟩
  · refine (θ_run Cert.PleLossRefIdeal.defs _ _).mono (fun _ h c => ?_) (Cert.PleLossRefIdeal.Value.run (F := Ideal) m' ρ')
    obtain ⟨e0, e1, e2, e3, e4⟩ := hagree c
    refine ⟨(h c).1.trans ?_, (h c).2.1.trans ?_, (h c).2.2.1.trans ?_, (h c).2.2.2.1.trans ?_, (h c).2.2.2.2⟩
    · rw [val_main_v28_eq, e0, e1, e2, e3, e4]
    · rw [val_main_v32_eq, e0, e1, e2, e3, e4]
    · rw [val_main_v33_eq, e0, e1, e2, e3, e4]
    · rw [val_main_v34_eq, e0, e1, e2, e3, e4]

end Cert.LossGrad

end
-- ==== Proof.NormVjp.lean ====
/- The gradient of the RMS norm of a row of any width, in the form the derivative of the norm's lines has. -/
module

public import proofs.«01_k».proof.Proof.Common
public import Idealize.ShloMosaic.Lib.Pointwise
public import Idealize.ShloMosaic.Lib.Pipeline.ValueKit

@[expose] public section

noncomputable section

namespace Cert.NormVjp

open Idealize.ShloMosaic

variable {N : ℕ} (n : BitVec 32) (x p g : Fin N → EReal)

/-- The mean of the squares of a row, the small term added; `n` the pattern of the row's width. -/
def meanSq : EReal := Ideal.div (∑ k, x k * x k) (Ideal.ofBits .f32 n) + Ideal.ofBits .f32 0x358637BD#32

/-- The reciprocal root mean square of a row. -/
def invRms : EReal := Ideal.rsqrt (meanSq n x)

/-- What the derivative multiplies `x` with, twice: `p` the cotangent of the norm's result, `g` the gain. -/
def meanPart : EReal :=
  Ideal.div ((∑ k, x k * (p k * g k)) * (Ideal.ofBits .f32 0xBF000000#32 * Ideal.div (invRms n x) (meanSq n x))) (Ideal.ofBits .f32 n)

/-- The gradient with respect to entry `d` of the row. -/
def rowGrad (d : Fin N) : EReal := p d * g d * invRms n x + x d * meanPart n x p g + meanPart n x p g * x d

/-- A sum over 4096 rows, taken tile by tile. -/
theorem sum_tiles {M : Type} [AddCommMonoid M] {N B : ℕ} (h : N * B = 4096) (f : Fin 4096 → M) (row : Fin N → Fin B → Fin 4096)
    (hrow : ∀ t j, (row t j).val = t.val * B + j.val) : ∑ r, f r = ∑ t, ∑ j, f (row t j) := by
  rw [← Finset.sum_product', ← ((finProdFinEquiv (m := N) (n := B)).trans (finCongr h)).sum_comp]
  refine Finset.sum_congr rfl fun x _ => congrArg f (Fin.ext ?_)
  rw [hrow]
  show x.2.val + B * x.1.val = x.1.val * B + x.2.val
  rw [mul_comm, add_comm]

end Cert.NormVjp

end
-- ==== Proof.LatentNorm.lean ====
/- The value of the gradients of the two latent norms: the kernel's four result arrays are the reference's. The kernel reads
   the two latents out of one array whose columns are in an order of its own. -/
module

public import proofs.«01_k».proof.Defs
public import proofs.«01_k».proof.Proof.NormVjp
public import proofs.«01_k».proof.Proof.Gen.LatentNormBwdIdeal.Value
public import proofs.«01_k».proof.Proof.Gen.LatentNormRefIdeal.Read
public import proofs.«01_k».proof.Proof.Gen.LatentNormRefIdeal.Run

@[expose] public section

noncomputable section

namespace Cert.LatentNorm.Reference

open Cert.LatentNormRefIdeal Cert.LatentNormRefIdeal.Read Idealize.ShloMosaic Cert.NormVjp

/-! ## The reference, read at an index -/

variable (z : FVec Ideal S4096x3136 .f32) (p : FVec Ideal S4096x256 .f32) (g : FVec Ideal S1x256 .f32)

/-- The first latent is the first 256 columns. -/
theorem dq_apply (r : Fin 4096) (d : Fin 256) : val_main_v78 (F := Ideal) z p g (ix2 r d)
    = rowGrad 0x43800000#32 (fun k : Fin 256 => z (ix2 r ⟨k.val, by omega⟩)) (fun k => p (ix2 r k)) (fun k => g (ix2 0 k)) d := by
  pointwise [val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v16, val_main_v15, val_main_v14, val_main_v13, val_main_v12,
    val_main_v11, val_main_v10, val_main_v9, val_main_v8, val_main_v7, val_main_v6, val_main_v5, val_main_v4, val_main_v3,
    val_main_v2, val_main_v0, val_main_cst, val_main_cst_0, val_main_cst_1, val_main_cst_2, val_main_cst_12, val_main_cst_13,
    val_main_cst_14, val_main_cst_15, val_main_cst_16, Finset.univ_unique, Finset.sum_singleton, rowGrad, meanPart, invRms, meanSq]

theorem dgq_apply (i : Fin 1) (d : Fin 256) : val_main_v77 (F := Ideal) z p (ix2 i d)
    = ∑ r : Fin 4096, z (ix2 r ⟨d.val, by omega⟩) * invRms 0x43800000#32 (fun k : Fin 256 => z (ix2 r ⟨k.val, by omega⟩)) * p (ix2 r d) := by
  pointwise [val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v16, val_main_v15, val_main_v14, val_main_v13, val_main_v12,
    val_main_v11, val_main_v10, val_main_v9, val_main_v8, val_main_v7, val_main_v6, val_main_v5, val_main_v4, val_main_v3,
    val_main_v2, val_main_v0, val_main_cst, val_main_cst_0, val_main_cst_1, val_main_cst_2, val_main_cst_12, val_main_cst_13,
    val_main_cst_14, val_main_cst_15, val_main_cst_16, Finset.univ_unique, Finset.sum_singleton, invRms, meanSq]

/-- The second latent is the next 256. -/
theorem dk_apply (r : Fin 4096) (d : Fin 256) : val_main_v79 (F := Ideal) z p g (ix2 r d)
    = rowGrad 0x43800000#32 (fun k : Fin 256 => z (ix2 r ⟨256 + k.val, by omega⟩)) (fun k => p (ix2 r k)) (fun k => g (ix2 0 k)) d := by
  pointwise [val_main_v79, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v38, val_main_v37, val_main_v36, val_main_v33, val_main_v32, val_main_v31, val_main_v30, val_main_v29,
    val_main_v28, val_main_v27, val_main_v26, val_main_v25, val_main_v24, val_main_v23, val_main_v22, val_main_v21, val_main_v20,
    val_main_v19, val_main_v1, val_main_v32, val_main_v31, val_main_cst_3, val_main_cst_4, val_main_cst_5, val_main_cst_6,
    val_main_cst_7, val_main_cst_8, val_main_cst_9, val_main_cst_10, val_main_cst_11, Finset.univ_unique, Finset.sum_singleton, rowGrad, meanPart, invRms, meanSq]

theorem dgk_apply (i : Fin 1) (d : Fin 256) : val_main_v56 (F := Ideal) z p (ix2 i d)
    = ∑ r : Fin 4096, z (ix2 r ⟨256 + d.val, by omega⟩) * invRms 0x43800000#32 (fun k : Fin 256 => z (ix2 r ⟨256 + k.val, by omega⟩)) * p (ix2 r d) := by
  pointwise [val_main_v79, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v38, val_main_v37, val_main_v36, val_main_v33, val_main_v32, val_main_v31, val_main_v30, val_main_v29,
    val_main_v28, val_main_v27, val_main_v26, val_main_v25, val_main_v24, val_main_v23, val_main_v22, val_main_v21, val_main_v20,
    val_main_v19, val_main_v1, val_main_v32, val_main_v31, val_main_cst_3, val_main_cst_4, val_main_cst_5, val_main_cst_6,
    val_main_cst_7, val_main_cst_8, val_main_cst_9, val_main_cst_10, val_main_cst_11, Finset.univ_unique, Finset.sum_singleton, invRms, meanSq]

end Cert.LatentNorm.Reference

namespace Cert.LatentNorm

open Cert.LatentNormBwdIdeal Cert.LatentNormBwdIdeal.Gen Idealize.ShloMosaic Idealize.ShloMosaic.TcCoe Idealize.SL.Sem
open Idealize.ShloMosaic.Pipeline (Dat)
open Cert.Common Cert.NormVjp
open Cert.LatentNormRefIdeal.Read (val_main_v78 val_main_v79 val_main_v77 val_main_v56 val_main_v78_eq val_main_v79_eq val_main_v77_eq val_main_v56_eq)

/-! ## The kernel's payloads, read at an index -/

section
variable (x p : Vec Ideal S1024x256 .f32) (g : Vec Ideal S1x256 .f32)

/-- The rounded gradients of the two latents' blocks, and the column sums of the two gains' gradients over a block. -/
def dxQ : FVec Ideal S1024x256 .bf16 := k0_pay15 (k0_pay3 x) p g (k0_pay6 x) (k0_pay7 x)
def dxK : FVec Ideal S1024x256 .bf16 := k0_pay16 (k0_pay4 x) p (k0_pay10 x) (k0_pay11 x) (k0_pay13 g)
def dgQ : FVec Ideal S1x256 .f32 := k0_pay14 p (k0_pay8 x)
def dgK : FVec Ideal S1x256 .f32 := k0_pay12 x p

theorem dxQ_apply (r : Fin 1024) (d : Fin 256) : dxQ x p g (ix2 r d)
    = rowGrad 0x43800000#32 (fun k : Fin 256 => x (ix2 r k)) (fun k => p (ix2 r k)) (fun k => g (ix2 0 k)) d := by
  pointwise [dxQ, k0_pay15, k0_pay3, k0_pay6, k0_pay7, k0_pay5, Finset.univ_unique, Finset.sum_singleton, rowGrad, meanPart, invRms, meanSq]

theorem dxK_apply (r : Fin 1024) (d : Fin 256) : dxK x p g (ix2 r d)
    = rowGrad 0x43800000#32 (fun k : Fin 256 => x (ix2 r k)) (fun k => p (ix2 r k)) (fun k => g (ix2 0 k)) d := by
  pointwise [dxK, k0_pay16, k0_pay4, k0_pay10, k0_pay11, k0_pay9, k0_pay13, Finset.univ_unique, Finset.sum_singleton, rowGrad, meanPart, invRms, meanSq]

theorem dgQ_apply (i : Fin 1) (d : Fin 256) : dgQ x p (ix2 i d)
    = ∑ r : Fin 1024, x (ix2 r d) * invRms 0x43800000#32 (fun k : Fin 256 => x (ix2 r k)) * p (ix2 r d) := by
  pointwise [dgQ, k0_pay14, k0_pay8, k0_pay3, k0_pay6, k0_pay5, invRms, meanSq]

theorem dgK_apply (i : Fin 1) (d : Fin 256) : dgK x p (ix2 i d)
    = ∑ r : Fin 1024, x (ix2 r d) * invRms 0x43800000#32 (fun k : Fin 256 => x (ix2 r k)) * p (ix2 r d) := by
  pointwise [dgK, k0_pay12, k0_pay4, k0_pay10, k0_pay9, invRms, meanSq]

theorem dgQ_step (acc part : Vec Ideal S1x256 .f32) (j : S1x256.Idx) : k0_pay1 part acc j = acc j + part j := by
  pointwise [k0_pay1]

theorem dgK_step (acc part : Vec Ideal S1x256 .f32) (j : S1x256.Idx) : k0_pay2 part acc j = acc j + part j := by
  pointwise [k0_pay2]
end

/-! ## The columns in the kernel's order -/

/-- The input product's columns in the kernel's order. -/
def cols (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- The first 512 of them are the first 512. -/
theorem cols_0 (z : FVec Ideal S4096x3136 .f32) (r : Fin 4096) (k : Fin 512) : cols z (ix2 r ⟨k.val, by omega⟩) = z (ix2 r ⟨k.val, by omega⟩) := by
  pointwise [cols]

variable (m : (ℓ : Loc nD τ sig) → Buf (Elt Ideal) ℓ) (ρ : Dev nD → PrngReg)

/-- Device `c`'s five arguments, at their types. -/
abbrev Z (c : Dev nD) : FVec Ideal S4096x3136 .f32 := m ((c : Thread nD τ).loc main_arg0)
abbrev PQ (c : Dev nD) : FVec Ideal S4096x256 .f32 := m ((c : Thread nD τ).loc main_arg1)
abbrev PK (c : Dev nD) : FVec Ideal S4096x256 .f32 := m ((c : Thread nD τ).loc main_arg2)
abbrev GQ (c : Dev nD) : FVec Ideal S1x256 .f32 := m ((c : Thread nD τ).loc main_arg3)
abbrev GK (c : Dev nD) : FVec Ideal S1x256 .f32 := m ((c : Thread nD τ).loc main_arg4)

/-! ## The blocks a grid point reads -/

/-- Where each window's block sits in its array. -/
theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

/-- The columns as the region finds them. -/
theorem V_cols (c : Dev nD) : (V m c main_v4 : FVec Ideal S4096x3200 .f32) = cols (Z m c) := by
  show StableHlo.after (List.flatten [hostOps0, hostOps0_1, hostOps0_2]) (fun b => m (c, b)) main_v4 = _
  simp only [List.flatten_cons, List.flatten_nil, List.append_nil, List.cons_append, List.nil_append]
  after_results <;> rfl

theorem blkQ (c : Dev nD) (t : Fin cfg0.N) (r : Fin 1024) (k : Fin 256) :
    (X0_0 m c t : Vec Ideal S1024x256 .f32) (ix2 r k) = Z m c (ix2 (row t r) ⟨k.val, by omega⟩) := by
  unfold X0_0 Pipeline.Window.fill
  rw [dif_pos (moved0_0 t (ix2 r k))]
  blk_simp [iblk]
  refine (congrFun (V_cols m c) _).trans ((congrArg (cols (Z m c)) ?_).trans (cols_0 (Z m c) (row t r) ⟨k.val, by omega⟩))
  blk_ext [(idx t).1, row]

theorem blkK (c : Dev nD) (t : Fin cfg0.N) (r : Fin 1024) (k : Fin 256) :
    (X0_1 m c t : Vec Ideal S1024x256 .f32) (ix2 r k) = Z m c (ix2 (row t r) ⟨256 + k.val, by omega⟩) := by
  unfold X0_1 Pipeline.Window.fill
  rw [dif_pos (moved0_1 t (ix2 r k))]
  blk_simp [iblk]
  refine (congrFun (V_cols m c) _).trans ((congrArg (cols (Z m c)) ?_).trans (cols_0 (Z m c) (row t r) ⟨256 + k.val, by omega⟩))
  blk_ext [(idx t).2.1, row]

theorem blkPQ (c : Dev nD) (t : Fin cfg0.N) (r : Fin 1024) (k : Fin 256) :
    (iblk m c 2 t : Vec Ideal S1024x256 .f32) (ix2 r k) = PQ m c (ix2 (row t r) k) := by
  blk_simp [iblk]
  refine (congrFun (V_main_arg1 m c) _).trans (congrArg (PQ m c) ?_)
  blk_ext [(idx t).2.2.1, row]

theorem blkPK (c : Dev nD) (t : Fin cfg0.N) (r : Fin 1024) (k : Fin 256) :
    (iblk m c 3 t : Vec Ideal S1024x256 .f32) (ix2 r k) = PK m c (ix2 (row t r) k) := by
  blk_simp [iblk]
  refine (congrFun (V_main_arg2 m c) _).trans (congrArg (PK m c) ?_)
  blk_ext [(idx t).2.2.2.1, row]

theorem blkGQ (c : Dev nD) (t : Fin cfg0.N) (k : Fin 256) :
    (iblk m c 4 t : Vec Ideal S1x256 .f32) (ix2 0 k) = GQ m c (ix2 0 k) := by
  blk_simp [iblk]
  refine (congrFun (V_main_arg3 m c) _).trans (congrArg (GQ m c) ?_)
  blk_ext [(idx t).2.2.2.2.1]

theorem blkGK (c : Dev nD) (t : Fin cfg0.N) (k : Fin 256) :
    (iblk m c 5 t : Vec Ideal S1x256 .f32) (ix2 0 k) = GK m c (ix2 0 k) := by
  blk_simp [iblk]
  refine (congrFun (V_main_arg4 m c) _).trans (congrArg (GK m c) ?_)
  blk_ext [(idx t).2.2.2.2.2.1]

/-! ## The result arrays -/

/-- What a point leaves for the first latent's gradient is the reference's in the rows of the block. -/
theorem block_q (c : Dev nD) (t : Fin cfg0.N) (r : Fin 1024) (d : Fin 256) :
    dxQ (X0_0 m c t) (iblk m c 2 t) (iblk m c 4 t) (ix2 r d) = val_main_v78 (F := Ideal) (Z m c) (PQ m c) (GQ m c) (ix2 (row t r) d) := by
  rw [dxQ_apply, Reference.dq_apply]
  simp only [blkQ, blkPQ, blkGQ]

/-- The same of the second latent. -/
theorem block_k (c : Dev nD) (t : Fin cfg0.N) (r : Fin 1024) (d : Fin 256) :
    dxK (X0_1 m c t) (iblk m c 3 t) (iblk m c 5 t) (ix2 r d) = val_main_v79 (F := Ideal) (Z m c) (PK m c) (GK m c) (ix2 (row t r) d) := by
  rw [dxK_apply, Reference.dk_apply]
  simp only [blkK, blkPK, blkGK]

/-- The first latent's gradient is the reference's. -/
theorem final_q (c : Dev nD) : (dats m 0 c).arrAt 6 cfg0.N = val_main_v78 (F := Ideal) (Z m c) (PQ m c) (GQ m c) := by
  refine (dats m 0 c).arrAt_eq_of_covers 6 _ (by decide +kernel) fun t _ y => ?_
  blk_simp
  rw [after0_6]
  have hN : cfg0.N = 4 := N_0
  have ht : t.val < cfg0.N := t.isLt
  have e : ((View.whole main_v5_0).slice (win0_6.rect t)).emb y = (ix2 (row t (y 0)) (y 1) : S4096x256.Idx) := by
    blk_ext [(idx t).2.2.2.2.2.2.1, row]
  rw [e, ← block_q m c t (y 0) (y 1)]
  by_cases h : t.val % 4 = 0
  · rw [outsAt0_A m c t h (by omega) h (by omega)]
    frame_out
    exact congrArg _ (eq_ix2 y)
  · rw [outsAt0_B m c t h (by omega) h (by omega)]
    frame_out
    exact congrArg _ (eq_ix2 y)

/-- The second latent's gradient is the reference's. -/
theorem final_k (c : Dev nD) : (dats m 0 c).arrAt 7 cfg0.N = val_main_v79 (F := Ideal) (Z m c) (PK m c) (GK m c) := by
  refine (dats m 0 c).arrAt_eq_of_covers 7 _ (by decide +kernel) fun t _ y => ?_
  blk_simp
  rw [after0_7]
  have hN : cfg0.N = 4 := N_0
  have ht : t.val < cfg0.N := t.isLt
  have e : ((View.whole main_v5_1).slice (win0_7.rect t)).emb y = (ix2 (row t (y 0)) (y 1) : S4096x256.Idx) := by
    blk_ext [(idx t).2.2.2.2.2.2.2, row]
  rw [e, ← block_k m c t (y 0) (y 1)]
  by_cases h : t.val % 4 = 0
  · rw [outsAt0_A m c t h (by omega) h (by omega)]
    frame_out
    exact congrArg _ (eq_ix2 y)
  · rw [outsAt0_B m c t h (by omega) h (by omega)]
    frame_out
    exact congrArg _ (eq_ix2 y)

/-- The blocks' column sums, added up, are the reference's sums over all rows. -/
theorem dgq_sum (c : Dev nD) (i : Fin 1) (d : Fin 256) :
    ∑ t : Fin cfg0.N, dgQ (X0_0 m c t) (iblk m c 2 t) (ix2 i d) = val_main_v77 (F := Ideal) (Z m c) (PQ m c) (ix2 i d) := by
  have hN : cfg0.N = 4 := N_0
  refine Eq.trans ?_ ((Reference.dgq_apply (Z m c) (PQ m c) i d).trans (sum_tiles (N := cfg0.N) (B := 1024) (by rw [hN]) _ row fun _ _ => rfl)).symm
  refine Finset.sum_congr rfl fun t _ => (dgQ_apply _ _ i d).trans (Finset.sum_congr rfl fun r _ => ?_)
  simp only [blkQ, blkPQ]

theorem dgk_sum (c : Dev nD) (i : Fin 1) (d : Fin 256) :
    ∑ t : Fin cfg0.N, dgK (X0_1 m c t) (iblk m c 3 t) (ix2 i d) = val_main_v56 (F := Ideal) (Z m c) (PK m c) (ix2 i d) := by
  have hN : cfg0.N = 4 := N_0
  refine Eq.trans ?_ ((Reference.dgk_apply (Z m c) (PK m c) i d).trans (sum_tiles (N := cfg0.N) (B := 1024) (by rw [hN]) _ row fun _ _ => rfl)).symm
  refine Finset.sum_congr rfl fun t _ => (dgK_apply _ _ i d).trans (Finset.sum_congr rfl fun r _ => ?_)
  simp only [blkK, blkPK]

/-- The first gain's gradient is the reference's. -/
theorem final_gq (c : Dev nD) : (dats m 0 c).arrAt 8 cfg0.N = val_main_v77 (F := Ideal) (Z m c) (PQ m c) := by
  have hN : cfg0.N = 4 := N_0
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => 0) (fun t => dgQ (X0_0 m c t) (iblk m c 2 t))
      (fun t h j => by rw [outsAt0_A m c t h (by have := t.isLt; omega) h (by have := t.isLt; omega)]; frame_out; rw [zero_add]; rfl)
      (fun t h j => by rw [outsAt0_B m c t h (by omega) h (by omega)]; frame_out; rw [dgQ_step]; rfl)
      (le_of_eq N_0) t0_3 rfl j, zero_add]
  obtain ⟨i, d, rfl⟩ : ∃ (i : Fin 1) (d : Fin 256), j = ix2 i d := ⟨j 0, j 1, eq_ix2 j⟩
  exact dgq_sum m c i d

/-- The second gain's gradient is the reference's. -/
theorem final_gk (c : Dev nD) : (dats m 0 c).arrAt 9 cfg0.N = val_main_v56 (F := Ideal) (Z m c) (PK m c) := by
  have hN : cfg0.N = 4 := N_0
  refine (dats m 0 c).arrAt_eq_of_after_last 9 t0_3 (by decide +kernel) _ fun j => ?_
  blk_simp
  rw [after0_9, Pipeline.eq_sum_fin_of_reset_step_apply_last (fun n h => (outsAt0 m c n h).2.2.2) 4 (fun _ => 0) (fun t => dgK (X0_1 m c t) (iblk m c 3 t))
      (fun t h j => by rw [outsAt0_A m c t h (by have := t.isLt; omega) h (by have := t.isLt; omega)]; frame_out; rw [zero_add]; rfl)
      (fun t h j => by rw [outsAt0_B m c t h (by omega) h (by omega)]; frame_out; rw [dgK_step]; rfl)
      (le_of_eq N_0) t0_3 rfl j, zero_add]
  obtain ⟨i, d, rfl⟩ : ∃ (i : Fin 1) (d : Fin 256), j = ix2 i d := ⟨j 0, j 1, eq_ix2 j⟩
  exact dgk_sum m c i d

/-! ## The claims -/

/-- The reference runs, leaves its arguments as they were and every semaphore at zero. -/
theorem frame_ref : Cert.quiescent_LatentNormRefIdeal := fun m ρ _ =>
  (θ_run Cert.LatentNormRefIdeal.defs _ _).mono
    (fun r h => ⟨fun c => (h c).2.2.2.2, sem_eq_zero_of_no_sems (by decide) r.2⟩) (Cert.LatentNormRefIdeal.Value.run (F := Ideal) m ρ)

/-- At the ideal values the kernel and the reference end with the same four arrays. -/
theorem algebraic : Cert.algebraic_LatentNormBwdIdeal_LatentNormRefIdeal := by
  intro m ρ m' ρ' _ hagree
  refine ⟨fun c => val_main_v78 (F := Ideal) (Z m c) (PQ m c) (GQ m c), fun c => val_main_v79 (F := Ideal) (Z m c) (PK m c) (GK m c),
    fun c => val_main_v77 (F := Ideal) (Z m c) (PQ m c), fun c => val_main_v56 (F := Ideal) (Z m c) (PK m c), ?_, ?_⟩
  · refine (θ_run Cert.LatentNormBwdIdeal.defs _ _).mono (fun _ h c => ?_) (LatentNormBwdIdeal.Value.run_blocks (F := Ideal) m ρ)
    exact ⟨(h c).1.trans (final_q m c), (h c).2.1.trans (final_k m c), (h c).2.2.1.trans (final_gq m c), (h c).2.2.2.1.trans (final_gk m c), (h c).2.2.2.2⟩
  · refine (θ_run Cert.LatentNormRefIdeal.defs _ _).mono (fun _ h c => ?_) (Cert.LatentNormRefIdeal.Value.run (F := Ideal) m' ρ')
    obtain ⟨e0, e1, e2, e3, e4⟩ := hagree c
    refine ⟨(h c).1.trans ?_, (h c).2.1.trans ?_, (h c).2.2.1.trans ?_, (h c).2.2.2.1.trans ?_, (h c).2.2.2.2⟩
    · rw [val_main_v78_eq, e0, e1, e3]
    · rw [val_main_v79_eq, e0, e2, e4]
    · rw [val_main_v77_eq, e0, e1]
    · rw [val_main_v56_eq, e0, e2]

end Cert.LatentNorm

end
-- ==== Proof.MixOut.lean ====
/- The value of the gradients of the recurrence's output norm and output gate: the kernel's three result arrays are the
   reference's. The kernel goes through the four heads one after the other and adds up their results, each padded to the
   whole width; its gate is written with the hyperbolic tangent. -/
module

public import proofs.«01_k».proof.Defs
public import proofs.«01_k».proof.Proof.NormVjp
public import proofs.«01_k».proof.Proof.Gen.MixOutBwdIdeal.Value
public import proofs.«01_k».proof.Proof.Gen.MixOutRefIdeal.Read
public import proofs.«01_k».proof.Proof.Gen.MixOutRefIdeal.Run

@[expose] public section

noncomputable section

namespace Cert.MixOut

/-- Column `e` of head `h`. -/
def col (h : Fin 4) (e : Fin 128) : Fin 512 := ⟨h.val * 128 + e.val, by omega⟩

end Cert.MixOut

namespace Cert.MixOut.Reference

open Cert.MixOutRefIdeal Cert.MixOutRefIdeal.Read Idealize.ShloMosaic Cert.NormVjp

/-! ## The reference, read at an index -/

variable (a b : FVec Ideal S4096x512 .f32) (z : FVec Ideal S4096x3136 .f32) (p : FVec Ideal S4096x1024 .f32) (g : FVec Ideal S1x4x128 .f32)

/-- The entries of a row in head `h`: of the sum of the two directions, of the gate's argument, of the cotangent, of the
    norm's cotangent, of the gain. -/
def oRow (r : Fin 4096) (h : Fin 4) (k : Fin 128) : EReal := a (ix2 r (col h k)) + b (ix2 r (col h k))
def hg (r : Fin 4096) (h : Fin 4) (k : Fin 128) : EReal := z (ix2 r ⟨2624 + (col h k).val, by omega⟩)
def cot (r : Fin 4096) (h : Fin 4) (k : Fin 128) : EReal := p (ix2 r ⟨512 + (col h k).val, by omega⟩)
def pRow (r : Fin 4096) (h : Fin 4) (k : Fin 128) : EReal := cot p r h k * (hg z r h k * Ideal.logistic (hg z r h k))
def gRow (h : Fin 4) (k : Fin 128) : EReal := g (ix3 0 h k)

theorem do_apply (r : Fin 4096) (h : Fin 4) (e : Fin 128) : val_main_v49 (F := Ideal) a b z p g (ix2 r (col h e))
    = rowGrad 0x43000000#32 (oRow a b r h) (pRow z p r h) (gRow g h) e := by
  pointwise [val_main_v49, val_main_v47, val_main_v45, val_main_v46, val_main_v38, val_main_v44, val_main_v43, val_main_v2, val_main_v32, val_main_v37, val_main_v42, val_main_v0, val_main_v27, val_main_v31, val_main_v11, val_main_v41, val_main_cst_7, val_main_v25, val_main_v17, val_main_v10, val_main_v39, val_main_v40, val_main_v23, val_main_v21_0, val_main_v3, val_main_v8, val_main_v9, val_main_v36, val_main_v14, val_main_cst_6, val_main_v1, val_main_v21_2, val_main_v6, val_main_v7, val_main_cst_1, val_main_v35, val_main_v13, val_main_v12, val_main_call0_v4, val_main_call0_v3, val_main_v5, val_main_cst_0, val_main_v34, val_main_cst_5, val_main_cst_2, val_main_call0_cst_0, val_main_call0_v2, val_main_call0_v1, val_main_v4, val_main_cst, val_main_call0_cst, val_main_call0_v0, Finset.univ_unique, Finset.sum_singleton, oRow, pRow, gRow, hg, cot, col, rowGrad, meanPart, invRms, meanSq, Ideal.logistic]

theorem dhg_apply (r : Fin 4096) (h : Fin 4) (e : Fin 128) : val_main_v50 (F := Ideal) a b z p g (ix2 r (col h e))
    = oRow a b r h e * invRms 0x43000000#32 (oRow a b r h) * gRow g h e * cot p r h e * Ideal.logistic (hg z r h e)
      + hg z r h e * (oRow a b r h e * invRms 0x43000000#32 (oRow a b r h) * gRow g h e * cot p r h e) * (Ideal.logistic (hg z r h e) * (1 - Ideal.logistic (hg z r h e))) := by
  pointwise [val_main_v50, val_main_v26, val_main_call1_v1, val_main_call1_v2, val_main_v24, val_main_v21_2, val_main_call1_v0, val_main_v21_1, val_main_v20, val_main_v23, val_main_call0_v4, val_main_call0_v3, val_main_v1, val_main_call0_v7, val_main_v19, val_main_call0_cst_0, val_main_call0_v2, val_main_call0_v1, val_main_call0_v6, val_main_v16, val_main_v18, val_main_call0_cst, val_main_call0_v0, val_main_call0_cst_1, val_main_v2, val_main_v15, val_main_v17, val_main_v0, val_main_v11, val_main_v3, val_main_v10, val_main_v8, val_main_v9, val_main_v6, val_main_v7, val_main_cst_1, val_main_v5, val_main_cst_0, val_main_v4, val_main_cst, oRow, pRow, gRow, hg, cot, col, invRms, meanSq, Ideal.logistic]

theorem dg_apply (i : Fin 1) (h : Fin 4) (e : Fin 128) : val_main_v51 (F := Ideal) a b z p (ix2 i (col h e))
    = ∑ r : Fin 4096, oRow a b r h e * invRms 0x43000000#32 (oRow a b r h) * pRow z p r h e := by
  pointwise [val_main_v51, val_main_v48, val_main_v33, val_main_v30, val_main_cst_4, val_main_v29, val_main_v28, val_main_cst_3, val_main_v16, val_main_v27, val_main_v2, val_main_v15, val_main_v25, val_main_v0, val_main_v11, val_main_v23, val_main_v21_0, val_main_v10, val_main_v1, val_main_v21_2, val_main_v8, val_main_v9, val_main_call0_v4, val_main_call0_v3, val_main_v6, val_main_v7, val_main_cst_1, val_main_call0_cst_0, val_main_call0_v2, val_main_call0_v1, val_main_v5, val_main_cst_0, val_main_call0_cst, val_main_call0_v0, val_main_v4, val_main_cst, Finset.univ_unique, Finset.sum_singleton, oRow, pRow, gRow, hg, cot, col, invRms, meanSq, Ideal.logistic]

end Cert.MixOut.Reference

namespace Cert.MixOut

open Cert.MixOutBwdIdeal Cert.MixOutBwdIdeal.Gen Idealize.ShloMosaic Idealize.ShloMosaic.TcCoe Idealize.SL.Sem
open Idealize.ShloMosaic.Pipeline (Dat)
open Cert.Common Cert.NormVjp
open Cert.MixOutRefIdeal.Read (val_main_v49 val_main_v50 val_main_v51 val_main_v49_eq val_main_v50_eq val_main_v51_eq)

/-- The kernel's logistic function. -/
def gate (x : EReal) : EReal := Ideal.ofBits .f32 0x3F000000#32 * Ideal.tanh (Ideal.ofBits .f32 0x3F000000#32 * x) + Ideal.ofBits .f32 0x3F000000#32

/-- The derivative of the kernel's gate, times `y`, in the kernel's order of factors. -/
def gateGrad (y x : EReal) : EReal :=
  Ideal.ofBits .f32 0x3F000000#32 * (Ideal.ofBits .f32 0x3F000000#32 * y
    * ((Ideal.ofBits .f32 0x3F800000#32 + Ideal.tanh (Ideal.ofBits .f32 0x3F000000#32 * x))
      * (Ideal.ofBits .f32 0x3F800000#32 - Ideal.tanh (Ideal.ofBits .f32 0x3F000000#32 * x))))

section
variable (a b w p : Vec Ideal S1024x512 .f32) (g : Vec Ideal S1x512 .f32)
/-! ## The kernel's payloads, read at an index -/

/-- The blocks of the three results as one point computes them: the gradient of the two directions' sum, the rounded one
    of the gate's argument, and the column sums of the gain's over the block. -/
def dO : FVec Ideal S1024x512 .f32 := k0_pay2 (k0_pay9 a b) (k0_pay12 a b) (k0_pay13 a b) (k0_pay80 (k0_pay23 (k0_pay7 a b)) (k0_pay24 (k0_pay6 g)) (k0_pay26 (k0_pay7 a b)) (k0_pay27 (k0_pay7 a b)) (k0_pay73 (k0_pay35 (k0_pay7 a b)) (k0_pay36 (k0_pay6 g)) (k0_pay38 (k0_pay7 a b)) (k0_pay39 (k0_pay7 a b)) (k0_pay66 p (k0_pay46 (k0_pay5 w)) (k0_pay47 (k0_pay7 a b)) (k0_pay48 (k0_pay6 g)) (k0_pay50 (k0_pay7 a b)) (k0_pay51 (k0_pay7 a b)) (k0_pay56 (k0_pay5 w)) (k0_pay57 (F := Ideal))) (k0_pay69 p (k0_pay45 (k0_pay34 (k0_pay5 w))))) (k0_pay76 (k0_pay33 (k0_pay5 w)) (k0_pay61 p))) (k0_pay82 (k0_pay21 (k0_pay8 w) (k0_pay18 w) (k0_pay19 (F := Ideal))) (k0_pay60 p)) (k0_pay85 (k0_pay10 g))
def dH : FVec Ideal S1024x512 .bf16 := k0_pay3 (k0_pay81 (k0_pay74 (k0_pay43 (k0_pay34 (k0_pay5 w))) (k0_pay67 p (k0_pay46 (k0_pay5 w)) (k0_pay53 (k0_pay6 g) (k0_pay7 a b)) (k0_pay55 (k0_pay5 w)) (k0_pay56 (k0_pay5 w)) (k0_pay57 (F := Ideal))) (k0_pay70 p (k0_pay34 (k0_pay5 w)) (k0_pay41 (k0_pay35 (k0_pay7 a b)) (k0_pay36 (k0_pay6 g)) (k0_pay38 (k0_pay7 a b)))) (k0_pay71 p (k0_pay41 (k0_pay35 (k0_pay7 a b)) (k0_pay36 (k0_pay6 g)) (k0_pay38 (k0_pay7 a b))) (k0_pay44 (k0_pay34 (k0_pay5 w)))) (Scalar.ofBits (F := Ideal) .f32 0x3F000000#32)) (k0_pay77 (k0_pay29 (k0_pay6 g) (k0_pay7 a b)) (k0_pay32 (k0_pay5 w)) (k0_pay61 p)) (k0_pay78 (k0_pay22 (k0_pay5 w)) (k0_pay29 (k0_pay6 g) (k0_pay7 a b)) (k0_pay31 (k0_pay5 w)) (k0_pay61 p))) (k0_pay83 (k0_pay8 w) (k0_pay15 a b g) (k0_pay17 w) (k0_pay20 (k0_pay18 w) (k0_pay19 (F := Ideal))) (k0_pay60 p))
def dG : FVec Ideal S1x512 .f32 := k0_pay1 (k0_pay79 (k0_pay28 (k0_pay7 a b)) (k0_pay72 (k0_pay40 (k0_pay35 (k0_pay7 a b)) (k0_pay38 (k0_pay7 a b))) (k0_pay65 p (k0_pay46 (k0_pay5 w)) (k0_pay52 (k0_pay7 a b)) (k0_pay56 (k0_pay5 w)) (k0_pay57 (F := Ideal))) (k0_pay69 p (k0_pay45 (k0_pay34 (k0_pay5 w))))) (k0_pay76 (k0_pay33 (k0_pay5 w)) (k0_pay61 p))) (k0_pay84 (k0_pay14 a b) (k0_pay21 (k0_pay8 w) (k0_pay18 w) (k0_pay19 (F := Ideal))) (k0_pay60 p))

/-- The entries of a row in head `h`: of the sum of the two directions, of the cotangent, of the gate's argument, of the gain. -/
def oRow (h : Fin 4) (r : Fin 1024) (k : Fin 128) : EReal := a (ix2 r (col h k)) + b (ix2 r (col h k))
def pRow (h : Fin 4) (r : Fin 1024) (k : Fin 128) : EReal := p (ix2 r (col h k)) * (w (ix2 r (col h k)) * gate (w (ix2 r (col h k))))
def gRow (h : Fin 4) (k : Fin 128) : EReal := g (ix2 0 (col h k))

/-- The gated half of the cotangent, cut out of the padded whole, head by head. -/
theorem half_0 (r : Fin 1024) (e : Fin 128) : k0_pay60 (F := Ideal) p (ix2 r e) = p (ix2 r ⟨0 + e.val, by omega⟩) := by
  have h1 : ¬ 512 + e.val < 512 := by omega
  have h2 : 512 + e.val - 512 = 0 + e.val := by omega
  pointwise [k0_pay60, k0_pay59, h1, h2]

theorem half_1 (r : Fin 1024) (e : Fin 128) : k0_pay61 (F := Ideal) p (ix2 r e) = p (ix2 r ⟨128 + e.val, by omega⟩) := by
  have h1 : ¬ 640 + e.val < 512 := by omega
  have h2 : 640 + e.val - 512 = 128 + e.val := by omega
  pointwise [k0_pay61, k0_pay59, h1, h2]

theorem half_2 (r : Fin 1024) (e : Fin 128) : k0_pay62 (F := Ideal) p (ix2 r e) = p (ix2 r ⟨256 + e.val, by omega⟩) := by
  have h1 : ¬ 768 + e.val < 512 := by omega
  have h2 : 768 + e.val - 512 = 256 + e.val := by omega
  pointwise [k0_pay62, k0_pay59, h1, h2]

theorem half_3 (r : Fin 1024) (e : Fin 128) : k0_pay63 (F := Ideal) p (ix2 r e) = p (ix2 r ⟨384 + e.val, by omega⟩) := by
  have h1 : ¬ 896 + e.val < 512 := by omega
  have h2 : 896 + e.val - 512 = 384 + e.val := by omega
  pointwise [k0_pay63, k0_pay59, h1, h2]

theorem dO_0 (r : Fin 1024) (d : Fin 512) (e : Fin 128) (hd : d.val = 0 + e.val) : dO a b w p g (ix2 r d) = rowGrad 0x43000000#32 (oRow a b 0 r) (pRow w p 0 r) (gRow g 0) e := by
  have h1 := e.isLt
  have h2 : e.val < 256 := by omega
  have h3 : e.val < 384 := by omega
  have h4 : d.val = e.val := by omega
  pointwise [dO, k0_pay2, k0_pay9, k0_pay12, k0_pay13, k0_pay80, k0_pay23, k0_pay7, k0_pay24, k0_pay6, k0_pay26, k0_pay27, k0_pay73, k0_pay35, k0_pay36, k0_pay38, k0_pay39, k0_pay66, k0_pay46, k0_pay5, k0_pay47, k0_pay48, k0_pay50, k0_pay51, k0_pay56, k0_pay57, k0_pay69, k0_pay45, k0_pay34, k0_pay76, k0_pay33, k0_pay82, k0_pay21, k0_pay8, k0_pay18, k0_pay19, k0_pay85, k0_pay10, k0_pay11, k0_pay25, k0_pay37, k0_pay64, k0_pay49, k0_pay54, k0_pay44, k0_pay22, k0_pay32, k0_pay20, k0_pay16, k0_pay58, k0_pay42, k0_pay30, half_0, half_1, half_2, half_3, h1, h2, h3, h4, Finset.univ_unique, Finset.sum_singleton, oRow, pRow, gRow, col, rowGrad, meanPart, invRms, meanSq, gate]

theorem dH_0 (r : Fin 1024) (d : Fin 512) (e : Fin 128) (hd : d.val = 0 + e.val) : dH a b w p g (ix2 r d)
    = oRow a b 0 r e * invRms 0x43000000#32 (oRow a b 0 r) * gRow g 0 e * p (ix2 r (col 0 e)) * gate (w (ix2 r (col 0 e)))
      + gateGrad (w (ix2 r (col 0 e)) * (oRow a b 0 r e * invRms 0x43000000#32 (oRow a b 0 r) * gRow g 0 e * p (ix2 r (col 0 e)))) (w (ix2 r (col 0 e))) := by
  have h1 := e.isLt
  have h2 : e.val < 256 := by omega
  have h3 : e.val < 384 := by omega
  have h4 : d.val = e.val := by omega
  pointwise [dH, k0_pay3, k0_pay81, k0_pay74, k0_pay43, k0_pay34, k0_pay5, k0_pay67, k0_pay46, k0_pay53, k0_pay6, k0_pay7, k0_pay55, k0_pay56, k0_pay57, k0_pay70, k0_pay41, k0_pay35, k0_pay36, k0_pay38, k0_pay71, k0_pay44, k0_pay77, k0_pay29, k0_pay32, k0_pay78, k0_pay22, k0_pay31, k0_pay83, k0_pay8, k0_pay15, k0_pay17, k0_pay20, k0_pay18, k0_pay19, k0_pay42, k0_pay58, k0_pay48, k0_pay52, k0_pay54, k0_pay68, k0_pay40, k0_pay37, k0_pay75, k0_pay24, k0_pay28, k0_pay30, k0_pay10, k0_pay14, k0_pay16, k0_pay50, k0_pay47, k0_pay26, k0_pay23, k0_pay12, k0_pay9, k0_pay49, k0_pay25, k0_pay11, half_0, half_1, half_2, half_3, h1, h2, h3, h4, Finset.univ_unique, Finset.sum_singleton, oRow, pRow, gRow, col, invRms, meanSq, gate, gateGrad]

theorem dG_0 (i : Fin 1) (d : Fin 512) (e : Fin 128) (hd : d.val = 0 + e.val) : dG a b w p (ix2 i d) = ∑ r : Fin 1024, oRow a b 0 r e * invRms 0x43000000#32 (oRow a b 0 r) * pRow w p 0 r e := by
  have h1 := e.isLt
  have h2 : e.val < 256 := by omega
  have h3 : e.val < 384 := by omega
  have h4 : d.val = e.val := by omega
  pointwise [dG, k0_pay1, k0_pay79, k0_pay28, k0_pay7, k0_pay72, k0_pay40, k0_pay35, k0_pay38, k0_pay65, k0_pay46, k0_pay5, k0_pay52, k0_pay56, k0_pay57, k0_pay69, k0_pay45, k0_pay34, k0_pay76, k0_pay33, k0_pay84, k0_pay14, k0_pay21, k0_pay8, k0_pay18, k0_pay19, k0_pay26, k0_pay23, k0_pay37, k0_pay64, k0_pay50, k0_pay47, k0_pay54, k0_pay44, k0_pay22, k0_pay32, k0_pay82, k0_pay12, k0_pay9, k0_pay20, k0_pay16, k0_pay25, k0_pay58, k0_pay49, k0_pay42, k0_pay30, k0_pay11, half_0, half_1, half_2, half_3, h1, h2, h3, h4, Finset.univ_unique, Finset.sum_singleton, oRow, pRow, gRow, col, invRms, meanSq, gate]

theorem dO_1 (r : Fin 1024) (d : Fin 512) (e : Fin 128) (hd : d.val = 128 + e.val) : dO a b w p g (ix2 r d) = rowGrad 0x43000000#32 (oRow a b 1 r) (pRow w p 1 r) (gRow g 1) e := by
  have he := e.isLt
  have h1 : ¬ d.val < 128 := by omega
  have h2 : d.val < 256 := by omega
  have h3 : d.val < 384 := by omega
  have h4 : d.val - 128 = e.val := by omega
  pointwise [dO, k0_pay2, k0_pay9, k0_pay12, k0_pay13, k0_pay80, k0_pay23, k0_pay7, k0_pay24, k0_pay6, k0_pay26, k0_pay27, k0_pay73, k0_pay35, k0_pay36, k0_pay38, k0_pay39, k0_pay66, k0_pay46, k0_pay5, k0_pay47, k0_pay48, k0_pay50, k0_pay51, k0_pay56, k0_pay57, k0_pay69, k0_pay45, k0_pay34, k0_pay76, k0_pay33, k0_pay82, k0_pay21, k0_pay8, k0_pay18, k0_pay19, k0_pay85, k0_pay10, k0_pay11, k0_pay25, k0_pay37, k0_pay64, k0_pay49, k0_pay54, k0_pay44, k0_pay22, k0_pay32, k0_pay20, k0_pay16, k0_pay58, k0_pay42, k0_pay30, half_0, half_1, half_2, half_3, h1, h2, h3, h4, Finset.univ_unique, Finset.sum_singleton, oRow, pRow, gRow, col, rowGrad, meanPart, invRms, meanSq, gate]

theorem dH_1 (r : Fin 1024) (d : Fin 512) (e : Fin 128) (hd : d.val = 128 + e.val) : dH a b w p g (ix2 r d)
    = oRow a b 1 r e * invRms 0x43000000#32 (oRow a b 1 r) * gRow g 1 e * p (ix2 r (col 1 e)) * gate (w (ix2 r (col 1 e)))
      + gateGrad (w (ix2 r (col 1 e)) * (oRow a b 1 r e * invRms 0x43000000#32 (oRow a b 1 r) * gRow g 1 e * p (ix2 r (col 1 e)))) (w (ix2 r (col 1 e))) := by
  have he := e.isLt
  have h1 : ¬ d.val < 128 := by omega
  have h2 : d.val < 256 := by omega
  have h3 : d.val < 384 := by omega
  have h4 : d.val - 128 = e.val := by omega
  pointwise [dH, k0_pay3, k0_pay81, k0_pay74, k0_pay43, k0_pay34, k0_pay5, k0_pay67, k0_pay46, k0_pay53, k0_pay6, k0_pay7, k0_pay55, k0_pay56, k0_pay57, k0_pay70, k0_pay41, k0_pay35, k0_pay36, k0_pay38, k0_pay71, k0_pay44, k0_pay77, k0_pay29, k0_pay32, k0_pay78, k0_pay22, k0_pay31, k0_pay83, k0_pay8, k0_pay15, k0_pay17, k0_pay20, k0_pay18, k0_pay19, k0_pay42, k0_pay58, k0_pay48, k0_pay52, k0_pay54, k0_pay68, k0_pay40, k0_pay37, k0_pay75, k0_pay24, k0_pay28, k0_pay30, k0_pay10, k0_pay14, k0_pay16, k0_pay50, k0_pay47, k0_pay26, k0_pay23, k0_pay12, k0_pay9, k0_pay49, k0_pay25, k0_pay11, half_0, half_1, half_2, half_3, h1, h2, h3, h4, Finset.univ_unique, Finset.sum_singleton, oRow, pRow, gRow, col, invRms, meanSq, gate, gateGrad]

theorem dG_1 (i : Fin 1) (d : Fin 512) (e : Fin 128) (hd : d.val = 128 + e.val) : dG a b w p (ix2 i d) = ∑ r : Fin 1024, oRow a b 1 r e * invRms 0x43000000#32 (oRow a b 1 r) * pRow w p 1 r e := by
  have he := e.isLt
  have h1 : ¬ d.val < 128 := by omega
  have h2 : d.val < 256 := by omega
  have h3 : d.val < 384 := by omega
  have h4 : d.val - 128 = e.val := by omega
  pointwise [dG, k0_pay1, k0_pay79, k0_pay28, k0_pay7, k0_pay72, k0_pay40, k0_pay35, k0_pay38, k0_pay65, k0_pay46, k0_pay5, k0_pay52, k0_pay56, k0_pay57, k0_pay69, k0_pay45, k0_pay34, k0_pay76, k0_pay33, k0_pay84, k0_pay14, k0_pay21, k0_pay8, k0_pay18, k0_pay19, k0_pay26, k0_pay23, k0_pay37, k0_pay64, k0_pay50, k0_pay47, k0_pay54, k0_pay44, k0_pay22, k0_pay32, k0_pay82, k0_pay12, k0_pay9, k0_pay20, k0_pay16, k0_pay25, k0_pay58, k0_pay49, k0_pay42, k0_pay30, k0_pay11, half_0, half_1, half_2, half_3, h1, h2, h3, h4, Finset.univ_unique, Finset.sum_singleton, oRow, pRow, gRow, col, invRms, meanSq, gate]

theorem dO_2 (r : Fin 1024) (d : Fin 512) (e : Fin 128) (hd : d.val = 256 + e.val) : dO a b w p g (ix2 r d) = rowGrad 0x43000000#32 (oRow a b 2 r) (pRow w p 2 r) (gRow g 2) e := by
  have he := e.isLt
  have h1 : ¬ d.val < 128 := by omega
  have h2 : ¬ d.val < 256 := by omega
  have h3 : d.val < 384 := by omega
  have h4 : d.val - 256 = e.val := by omega
  pointwise [dO, k0_pay2, k0_pay9, k0_pay12, k0_pay13, k0_pay80, k0_pay23, k0_pay7, k0_pay24, k0_pay6, k0_pay26, k0_pay27, k0_pay73, k0_pay35, k0_pay36, k0_pay38, k0_pay39, k0_pay66, k0_pay46, k0_pay5, k0_pay47, k0_pay48, k0_pay50, k0_pay51, k0_pay56, k0_pay57, k0_pay69, k0_pay45, k0_pay34, k0_pay76, k0_pay33, k0_pay82, k0_pay21, k0_pay8, k0_pay18, k0_pay19, k0_pay85, k0_pay10, k0_pay11, k0_pay25, k0_pay37, k0_pay64, k0_pay49, k0_pay54, k0_pay44, k0_pay22, k0_pay32, k0_pay20, k0_pay16, k0_pay58, k0_pay42, k0_pay30, half_0, half_1, half_2, half_3, h1, h2, h3, h4, Finset.univ_unique, Finset.sum_singleton, oRow, pRow, gRow, col, rowGrad, meanPart, invRms, meanSq, gate]

theorem dH_2 (r : Fin 1024) (d : Fin 512) (e : Fin 128) (hd : d.val = 256 + e.val) : dH a b w p g (ix2 r d)
    = oRow a b 2 r e * invRms 0x43000000#32 (oRow a b 2 r) * gRow g 2 e * p (ix2 r (col 2 e)) * gate (w (ix2 r (col 2 e)))
      + gateGrad (w (ix2 r (col 2 e)) * (oRow a b 2 r e * invRms 0x43000000#32 (oRow a b 2 r) * gRow g 2 e * p (ix2 r (col 2 e)))) (w (ix2 r (col 2 e))) := by
  have he := e.isLt
  have h1 : ¬ d.val < 128 := by omega
  have h2 : ¬ d.val < 256 := by omega
  have h3 : d.val < 384 := by omega
  have h4 : d.val - 256 = e.val := by omega
  pointwise [dH, k0_pay3, k0_pay81, k0_pay74, k0_pay43, k0_pay34, k0_pay5, k0_pay67, k0_pay46, k0_pay53, k0_pay6, k0_pay7, k0_pay55, k0_pay56, k0_pay57, k0_pay70, k0_pay41, k0_pay35, k0_pay36, k0_pay38, k0_pay71, k0_pay44, k0_pay77, k0_pay29, k0_pay32, k0_pay78, k0_pay22, k0_pay31, k0_pay83, k0_pay8, k0_pay15, k0_pay17, k0_pay20, k0_pay18, k0_pay19, k0_pay42, k0_pay58, k0_pay48, k0_pay52, k0_pay54, k0_pay68, k0_pay40, k0_pay37, k0_pay75, k0_pay24, k0_pay28, k0_pay30, k0_pay10, k0_pay14, k0_pay16, k0_pay50, k0_pay47, k0_pay26, k0_pay23, k0_pay12, k0_pay9, k0_pay49, k0_pay25, k0_pay11, half_0, half_1, half_2, half_3, h1, h2, h3, h4, Finset.univ_unique, Finset.sum_singleton, oRow, pRow, gRow, col, invRms, meanSq, gate, gateGrad]

theorem dG_2 (i : Fin 1) (d : Fin 512) (e : Fin 128) (hd : d.val = 256 + e.val) : dG a b w p (ix2 i d) = ∑ r : Fin 1024, oRow a b 2 r e * invRms 0x43000000#32 (oRow a b 2 r) * pRow w p 2 r e := by
  have he := e.isLt
  have h1 : ¬ d.val < 128 := by omega
  have h2 : ¬ d.val < 256 := by omega
  have h3 : d.val < 384 := by omega
  have h4 : d.val - 256 = e.val := by omega
  pointwise [dG, k0_pay1, k0_pay79, k0_pay28, k0_pay7, k0_pay72, k0_pay40, k0_pay35, k0_pay38, k0_pay65, k0_pay46, k0_pay5, k0_pay52, k0_pay56, k0_pay57, k0_pay69, k0_pay45, k0_pay34, k0_pay76, k0_pay33, k0_pay84, k0_pay14, k0_pay21, k0_pay8, k0_pay18, k0_pay19, k0_pay26, k0_pay23, k0_pay37, k0_pay64, k0_pay50, k0_pay47, k0_pay54, k0_pay44, k0_pay22, k0_pay32, k0_pay82, k0_pay12, k0_pay9, k0_pay20, k0_pay16, k0_pay25, k0_pay58, k0_pay49, k0_pay42, k0_pay30, k0_pay11, half_0, half_1, half_2, half_3, h1, h2, h3, h4, Finset.univ_unique, Finset.sum_singleton, oRow, pRow, gRow, col, invRms, meanSq, gate]

theorem dO_3 (r : Fin 1024) (d : Fin 512) (e : Fin 128) (hd : d.val = 384 + e.val) : dO a b w p g (ix2 r d) = rowGrad 0x43000000#32 (oRow a b 3 r) (pRow w p 3 r) (gRow g 3) e := by
  have he := e.isLt
  have h1 : ¬ d.val < 128 := by omega
  have h2 : ¬ d.val < 256 := by omega
  have h3 : ¬ d.val < 384 := by omega
  have h4 : d.val - 384 = e.val := by omega
  pointwise [dO, k0_pay2, k0_pay9, k0_pay12, k0_pay13, k0_pay80, k0_pay23, k0_pay7, k0_pay24, k0_pay6, k0_pay26, k0_pay27, k0_pay73, k0_pay35, k0_pay36, k0_pay38, k0_pay39, k0_pay66, k0_pay46, k0_pay5, k0_pay47, k0_pay48, k0_pay50, k0_pay51, k0_pay56, k0_pay57, k0_pay69, k0_pay45, k0_pay34, k0_pay76, k0_pay33, k0_pay82, k0_pay21, k0_pay8, k0_pay18, k0_pay19, k0_pay85, k0_pay10, k0_pay11, k0_pay25, k0_pay37, k0_pay64, k0_pay49, k0_pay54, k0_pay44, k0_pay22, k0_pay32, k0_pay20, k0_pay16, k0_pay58, k0_pay42, k0_pay30, half_0, half_1, half_2, half_3, h1, h2, h3, h4, Finset.univ_unique, Finset.sum_singleton, oRow, pRow, gRow, col, rowGrad, meanPart, invRms, meanSq, gate]

theorem dH_3 (r : Fin 1024) (d : Fin 512) (e : Fin 128) (hd : d.val = 384 + e.val) : dH a b w p g (ix2 r d)
    = oRow a b 3 r e * invRms 0x43000000#32 (oRow a b 3 r) * gRow g 3 e * p (ix2 r (col 3 e)) * gate (w (ix2 r (col 3 e)))
      + gateGrad (w (ix2 r (col 3 e)) * (oRow a b 3 r e * invRms 0x43000000#32 (oRow a b 3 r) * gRow g 3 e * p (ix2 r (col 3 e)))) (w (ix2 r (col 3 e))) := by
  have he := e.isLt
  have h1 : ¬ d.val < 128 := by omega
  have h2 : ¬ d.val < 256 := by omega
  have h3 : ¬ d.val < 384 := by omega
  have h4 : d.val - 384 = e.val := by omega
  pointwise [dH, k0_pay3, k0_pay81, k0_pay74, k0_pay43, k0_pay34, k0_pay5, k0_pay67, k0_pay46, k0_pay53, k0_pay6, k0_pay7, k0_pay55, k0_pay56, k0_pay57, k0_pay70, k0_pay41, k0_pay35, k0_pay36, k0_pay38, k0_pay71, k0_pay44, k0_pay77, k0_pay29, k0_pay32, k0_pay78, k0_pay22, k0_pay31, k0_pay83, k0_pay8, k0_pay15, k0_pay17, k0_pay20, k0_pay18, k0_pay19, k0_pay42, k0_pay58, k0_pay48, k0_pay52, k0_pay54, k0_pay68, k0_pay40, k0_pay37, k0_pay75, k0_pay24, k0_pay28, k0_pay30, k0_pay10, k0_pay14, k0_pay16, k0_pay50, k0_pay47, k0_pay26, k0_pay23, k0_pay12, k0_pay9, k0_pay49, k0_pay25, k0_pay11, half_0, half_1, half_2, half_3, h1, h2, h3, h4, Finset.univ_unique, Finset.sum_singleton, oRow, pRow, gRow, col, invRms, meanSq, gate, gateGrad]

theorem dG_3 (i : Fin 1) (d : Fin 512) (e : Fin 128) (hd : d.val = 384 + e.val) : dG a b w p (ix2 i d) = ∑ r : Fin 1024, oRow a b 3 r e * invRms 0x43000000#32 (oRow a b 3 r) * pRow w p 3 r e := by
  have he := e.isLt
  have h1 : ¬ d.val < 128 := by omega
  have h2 : ¬ d.val < 256 := by omega
  have h3 : ¬ d.val < 384 := by omega
  have h4 : d.val - 384 = e.val := by omega
  pointwise [dG, k0_pay1, k0_pay79, k0_pay28, k0_pay7, k0_pay72, k0_pay40, k0_pay35, k0_pay38, k0_pay65, k0_pay46, k0_pay5, k0_pay52, k0_pay56, k0_pay57, k0_pay69, k0_pay45, k0_pay34, k0_pay76, k0_pay33, k0_pay84, k0_pay14, k0_pay21, k0_pay8, k0_pay18, k0_pay19, k0_pay26, k0_pay23, k0_pay37, k0_pay64, k0_pay50, k0_pay47, k0_pay54, k0_pay44, k0_pay22, k0_pay32, k0_pay82, k0_pay12, k0_pay9, k0_pay20, k0_pay16, k0_pay25, k0_pay58, k0_pay49, k0_pay42, k0_pay30, k0_pay11, half_0, half_1, half_2, half_3, h1, h2, h3, h4, Finset.univ_unique, Finset.sum_singleton, oRow, pRow, gRow, col, invRms, meanSq, gate]

end

/-! ## The kernel's gate -/

theorem gate_eq (x : EReal) : gate x = Ideal.logistic x := by
  rw [← half_tanh]; unfold gate; rw [ofBits_half_f32]

/-- The derivative through the hyperbolic tangent is the logistic function's. -/
theorem gateGrad_eq (y x : EReal) : gateGrad y x = y * (Ideal.logistic x * (1 - Ideal.logistic x)) := by
  rw [← half_tanh]
  unfold gateGrad
  rw [ofBits_half_f32, ofBits_one_coe]
  obtain ⟨τ, hτ⟩ : ∃ τ : ℝ, Ideal.tanh (((1 / 2 : ℝ) : EReal) * x) = (τ : EReal) := by
    induction x with
    | bot => exact ⟨-1, by rw [EReal.coe_mul_bot_of_pos (by norm_num), Ideal.tanh_bot]; rfl⟩
    | top => exact ⟨1, by rw [EReal.coe_mul_top_of_pos (by norm_num), Ideal.tanh_top]; rfl⟩
    | coe r => exact ⟨_, by rw [← EReal.coe_mul, Ideal.tanh_coe]⟩
  rw [hτ, ← EReal.coe_one]
  simp only [← EReal.coe_mul, ← EReal.coe_add, ← EReal.coe_sub]
  rw [mul_comm ((1 / 2 : ℝ) : EReal) y, mul_assoc y, ← EReal.coe_mul, mul_left_comm, ← EReal.coe_mul]
  congr 2
  ring

section
variable (a b w p : Vec Ideal S1024x512 .f32) (g : Vec Ideal S1x512 .f32)

/-- Every column is column `e` of a head `h`. -/
theorem exists_col (d : Fin 512) : ∃ h e, d = col h e := ⟨⟨d.val / 128, by omega⟩, ⟨d.val % 128, by omega⟩, Fin.ext (by simp only [col]; omega)⟩

/-- The gradients' blocks in any head. -/
theorem dO_apply (r : Fin 1024) (h : Fin 4) (e : Fin 128) :
    dO a b w p g (ix2 r (col h e)) = rowGrad 0x43000000#32 (oRow a b h r) (pRow w p h r) (gRow g h) e := by
  fin_cases h
  · exact dO_0 a b w p g r _ e rfl
  · exact dO_1 a b w p g r _ e rfl
  · exact dO_2 a b w p g r _ e rfl
  · exact dO_3 a b w p g r _ e rfl

theorem dH_apply (r : Fin 1024) (h : Fin 4) (e : Fin 128) : dH a b w p g (ix2 r (col h e))
    = oRow a b h r e * invRms 0x43000000#32 (oRow a b h r) * gRow g h e * p (ix2 r (col h e)) * gate (w (ix2 r (col h e)))
      + gateGrad (w (ix2 r (col h e)) * (oRow a b h r e * invRms 0x43000000#32 (oRow a b h r) * gRow g h e * p (ix2 r (col h e)))) (w (ix2 r (col h e))) := by
  fin_cases h
  · exact dH_0 a b w p g r _ e rfl
  · exact dH_1 a b w p g r _ e rfl
  · exact dH_2 a b w p g r _ e rfl
  · exact dH_3 a b w p g r _ e rfl

theorem dG_apply (i : Fin 1) (h : Fin 4) (e : Fin 128) : dG a b w p (ix2 i (col h e))
    = ∑ r : Fin 1024, oRow a b h r e * invRms 0x43000000#32 (oRow a b h r) * pRow w p h r e := by
  fin_cases h
  · exact dG_0 a b w p i _ e rfl
  · exact dG_1 a b w p i _ e rfl
  · exact dG_2 a b w p i _ e rfl
  · exact dG_3 a b w p i _ e rfl

/-- A later point's sums are added to what is there. -/
theorem dG_step (x : FVec Ideal S1x512 .f32) (y : FVec Ideal S1x128 .f32) (acc : Vec Ideal S1x512 .f32) (j : S1x512.Idx) :
    k0_pay4 x y acc j = acc j + k0_pay1 x y j := by
  pointwise [k0_pay4]
end

/-! ## The columns in the kernel's order -/

/-- The input product's columns in the kernel's order. -/
def cols (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- The output gate's columns among them. -/
theorem cols_hg (z : FVec Ideal S4096x3136 .f32) (r : Fin 4096) (k : Fin 512) : cols z (ix2 r ⟨2560 + k.val, by omega⟩) = z (ix2 r ⟨2624 + k.val, by omega⟩) := by
  have h1 : ¬ 2560 + k.val < 512 := by omega
  have h2 : 2560 + k.val - 512 < 2560 := by omega
  have h3 : 576 + (2560 + k.val - 512) = 2624 + k.val := by omega
  pointwise [cols, h1, h2, h3]

variable (m : (ℓ : Loc nD τ sig) → Buf (Elt Ideal) ℓ) (ρ : Dev nD → PrngReg)

/-- Device `c`'s five arguments, at their types. -/
abbrev OF (c : Dev nD) : FVec Ideal S4096x512 .f32 := m ((c : Thread nD τ).loc main_arg0)
abbrev OB (c : Dev nD) : FVec Ideal S4096x512 .f32 := m ((c : Thread nD τ).loc main_arg1)
abbrev Z (c : Dev nD) : FVec Ideal S4096x3136 .f32 := m ((c : Thread nD τ).loc main_arg2)
abbrev DM (c : Dev nD) : FVec Ideal S4096x1024 .f32 := m ((c : Thread nD τ).loc main_arg3)
abbrev G (c : Dev nD) : FVec Ideal S1x4x128 .f32 := m ((c : Thread nD τ).loc main_arg4)

/-! ## The blocks a grid point reads -/

/-- Where each window's block sits in its array. -/
theorem idx : ∀ t : Fin cfg0.N, win0_0.index t = ![t.val, 0] ∧ win0_1.index t = ![t.val, 0] ∧ win0_2.index t = ![t.val, 5]
    ∧ win0_3.index t = ![t.val, 1] ∧ win0_4.index t = ![0, 0] ∧ win0_5.index t = ![t.val, 0] ∧ win0_6.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

/-- The columns as the region finds them. -/
theorem V_cols (c : Dev nD) : (V m c main_v4 : FVec Ideal S4096x3200 .f32) = cols (Z m c) := by
  show StableHlo.after (List.flatten [hostOps0, hostOps0_1, hostOps0_2]) (fun b => m (c, b)) main_v4 = _
  simp only [List.flatten_cons, List.flatten_nil, List.append_nil, List.cons_append, List.nil_append]
  after_results <;> rfl

/-- The gain as the region finds it: one row, the heads side by side. -/
theorem V_gain (c : Dev nD) : (V m c main_v5 : FVec Ideal S1x512 .f32) = shapeCast S1x512 (G m c) shapeCasts_S1x4x128_S1x512 := by
  show StableHlo.after (List.flatten [hostOps0, hostOps0_1, hostOps0_2]) (fun b => m (c, b)) main_v5 = _
  simp only [List.flatten_cons, List.flatten_nil, List.append_nil, List.cons_append, List.nil_append]
  after_results <;> rfl

theorem blk0 (c : Dev nD) (t : Fin cfg0.N) (r : Fin 1024) (k : Fin 512) :
    (iblk m c 0 t : Vec Ideal S1024x512 .f32) (ix2 r k) = OF m c (ix2 (row t r) k) := by
  blk_simp [iblk]
  refine (congrFun (V_main_arg0 m c) _).trans (congrArg (OF m c) ?_)
  blk_ext [(idx t).1, row]

theorem blk1 (c : Dev nD) (t : Fin cfg0.N) (r : Fin 1024) (k : Fin 512) :
    (iblk m c 1 t : Vec Ideal S1024x512 .f32) (ix2 r k) = OB m c (ix2 (row t r) k) := by
  blk_simp [iblk]
  refine (congrFun (V_main_arg1 m c) _).trans (congrArg (OB m c) ?_)
  blk_ext [(idx t).2.1, row]

theorem blk2 (c : Dev nD) (t : Fin cfg0.N) (r : Fin 1024) (k : Fin 512) :
    (X0_2 m c t : Vec Ideal S1024x512 .f32) (ix2 r k) = Z m c (ix2 (row t r) ⟨2624 + k.val, by omega⟩) := by
  unfold X0_2 Pipeline.Window.fill
  rw [dif_pos (moved0_2 t (ix2 r k))]
  blk_simp [iblk]
  refine (congrFun (V_cols m c) _).trans ((congrArg (cols (Z m c)) ?_).trans (cols_hg (Z m c) (row t r) k))
  blk_ext [(idx t).2.2.1, row]

theorem blk3 (c : Dev nD) (t : Fin cfg0.N) (r : Fin 1024) (k : Fin 512) :
    (iblk m c 3 t : Vec Ideal S1024x512 .f32) (ix2 r k) = DM m c (ix2 (row t r) ⟨512 + k.val, by omega⟩) := by
  blk_simp [iblk]
  refine (congrFun (V_main_arg3 m c) _).trans (congrArg (DM m c) ?_)
  blk_ext [(idx t).2.2.2.1, row]

theorem blk4 (c : Dev nD) (t : Fin cfg0.N) (h : Fin 4) (k : Fin 128) :
    (iblk m c 4 t : Vec Ideal S1x512 .f32) (ix2 0 (col h k)) = G m c (ix3 0 h k) := by
  blk_simp [iblk]
  refine (congrFun (V_gain m c) _).trans (Eq.trans (congrArg (shapeCast S1x512 (G m c) shapeCasts_S1x4x128_S1x512) (?_ : _ = ix2 0 (col h k))) ?_)
  · blk_ext [(idx t).2.2.2.2.1]
  · pointwise [col]

/-! ## The result arrays -/

/-- A row of a block is the row of the whole array, head by head. -/
theorem oRow_eq (c : Dev nD) (t : Fin cfg0.N) (r : Fin 1024) (h : Fin 4) :
    oRow (iblk m c 0 t) (iblk m c 1 t) h r = Reference.oRow (OF m c) (OB m c) (row t r) h :=
  funext fun k => by unfold oRow Reference.oRow; rw [blk0, blk1]

theorem pRow_eq (c : Dev nD) (t : Fin cfg0.N) (r : Fin 1024) (h : Fin 4) :
    pRow (X0_2 m c t) (iblk m c 3 t) h r = Reference.pRow (Z m c) (DM m c) (row t r) h :=
  funext fun k => by unfold pRow Reference.pRow Reference.cot Reference.hg; rw [blk2, blk3, gate_eq]

theorem gRow_eq (c : Dev nD) (t : Fin cfg0.N) (h : Fin 4) : gRow (iblk m c 4 t) h = Reference.gRow (G m c) h :=
  funext fun k => by unfold gRow Reference.gRow; rw [blk4]

/-- What a point leaves for the recurrence's gradient is the reference's in the rows of the block. -/
theorem block_o (c : Dev nD) (t : Fin cfg0.N) (r : Fin 1024) (d : Fin 512) :
    dO (iblk m c 0 t) (iblk m c 1 t) (X0_2 m c t) (iblk m c 3 t) (iblk m c 4 t) (ix2 r d)
      = val_main_v49 (F := Ideal) (OF m c) (OB m c) (Z m c) (DM m c) (G m c) (ix2 (row t r) d) := by
  obtain ⟨h, e, rfl⟩ := exists_col d
  rw [dO_apply, Reference.do_apply, oRow_eq, pRow_eq, gRow_eq]

/-- The same of the gate's. -/
theorem block_h (c : Dev nD) (t : Fin cfg0.N) (r : Fin 1024) (d : Fin 512) :
    dH (iblk m c 0 t) (iblk m c 1 t) (X0_2 m c t) (iblk m c 3 t) (iblk m c 4 t) (ix2 r d)
      = val_main_v50 (F := Ideal) (OF m c) (OB m c) (Z m c) (DM m c) (G m c) (ix2 (row t r) d) := by
  obtain ⟨h, e, rfl⟩ := exists_col d
  rw [dH_apply, Reference.dhg_apply, oRow_eq, gRow_eq, gate_eq, gateGrad_eq, blk2, blk3]
  rfl

/-- The recurrence's gradient is the reference's. -/
theorem final_o (c : Dev nD) : (dats m 0 c).arrAt 5 cfg0.N = val_main_v49 (F := Ideal) (OF m c) (OB m c) (Z m c) (DM m c) (G m c) := by
  refine (dats m 0 c).arrAt_eq_of_covers 5 _ (by decide +kernel) fun t _ y => ?_
  blk_simp
  rw [after0_5]
  have hN : cfg0.N = 4 := N_0
  have ht : t.val < cfg0.N := t.isLt
  have e : ((View.whole main_v6_0).slice (win0_5.rect t)).emb y = (ix2 (row t (y 0)) (y 1) : S4096x512.Idx) := by
    blk_ext [(idx t).2.2.2.2.2.1, row]
  rw [e, ← block_o m c t (y 0) (y 1)]
  by_cases h : t.val % 4 = 0
  · rw [outsAt0_A m c t h (by omega)]
    frame_out
    exact congrArg _ (eq_ix2 y)
  · rw [outsAt0_B m c t h (by omega)]
    frame_out
    exact congrArg _ (eq_ix2 y)

/-- The gate's gradient is the reference's. -/
theorem final_h (c : Dev nD) : (dats m 0 c).arrAt 6 cfg0.N = val_main_v50 (F := Ideal) (OF m c) (OB m c) (Z m c) (DM m c) (G m c) := by
  refine (dats m 0 c).arrAt_eq_of_covers 6 _ (by decide +kernel) fun t _ y => ?_
  blk_simp
  rw [after0_6]
  have hN : cfg0.N = 4 := N_0
  have ht : t.val < cfg0.N := t.isLt
  have e : ((View.whole main_v6_1).slice (win0_6.rect t)).emb y = (ix2 (row t (y 0)) (y 1) : S4096x512.Idx) := by
    blk_ext [(idx t).2.2.2.2.2.2, row]
  rw [e, ← block_h m c t (y 0) (y 1)]
  by_cases h : t.val % 4 = 0
  · rw [outsAt0_A m c t h (by omega)]
    frame_out
    exact congrArg _ (eq_ix2 y)
  · rw [outsAt0_B m c t h (by omega)]
    frame_out
    exact congrArg _ (eq_ix2 y)

/-- The blocks' column sums, added up, are the reference's sums over all rows. -/
theorem dg_sum (c : Dev nD) (i : Fin 1) (d : Fin 512) :
    ∑ t : Fin cfg0.N, dG (iblk m c 0 t) (iblk m c 1 t) (X0_2 m c t) (iblk m c 3 t) (ix2 i d)
      = val_main_v51 (F := Ideal) (OF m c) (OB m c) (Z m c) (DM m c) (ix2 i d) := by
  have hN : cfg0.N = 4 := N_0
  obtain ⟨h, e, rfl⟩ := exists_col d
  refine Eq.trans ?_ ((Reference.dg_apply (OF m c) (OB m c) (Z m c) (DM m c) i h e).trans (sum_tiles (N := cfg0.N) (B := 1024) (by rw [hN]) _ row fun _ _ => rfl)).symm
  refine Finset.sum_congr rfl fun t _ => (dG_apply _ _ _ _ i h e).trans (Finset.sum_congr rfl fun r _ => ?_)
  rw [oRow_eq, pRow_eq]

/-- The gain's gradient is the reference's. -/
theorem final_g (c : Dev nD) : (dats m 0 c).arrAt 7 cfg0.N = val_main_v51 (F := Ideal) (OF m c) (OB m c) (Z m c) (DM m c) := by
  have hN : cfg0.N = 4 := N_0
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0)
      (fun t => dG (iblk m c 0 t) (iblk m c 1 t) (X0_2 m c t) (iblk m c 3 t))
      (fun t h j => by rw [outsAt0_A m c t h (by have := t.isLt; omega)]; frame_out; rw [zero_add]; rfl)
      (fun t h j => by rw [outsAt0_B m c t h (by omega)]; frame_out; rw [dG_step]; rfl)
      (le_of_eq N_0) t0_3 rfl j, zero_add]
  obtain ⟨i, d, rfl⟩ : ∃ (i : Fin 1) (d : Fin 512), j = ix2 i d := ⟨j 0, j 1, eq_ix2 j⟩
  exact dg_sum m c i d

/-! ## The claims -/

/-- The reference runs, leaves its arguments as they were and every semaphore at zero. -/
theorem frame_ref : Cert.quiescent_MixOutRefIdeal := fun m ρ _ =>
  (θ_run Cert.MixOutRefIdeal.defs _ _).mono
    (fun r h => ⟨fun c => (h c).2.2.2, sem_eq_zero_of_no_sems (by decide) r.2⟩) (Cert.MixOutRefIdeal.Value.run (F := Ideal) m ρ)

/-- At the ideal values the kernel and the reference end with the same three arrays. -/
theorem algebraic : Cert.algebraic_MixOutBwdIdeal_MixOutRefIdeal := by
  intro m ρ m' ρ' _ hagree
  refine ⟨fun c => val_main_v49 (F := Ideal) (OF m c) (OB m c) (Z m c) (DM m c) (G m c), fun c => val_main_v50 (F := Ideal) (OF m c) (OB m c) (Z m c) (DM m c) (G m c),
    fun c => val_main_v51 (F := Ideal) (OF m c) (OB m c) (Z m c) (DM m c), ?_, ?_⟩
  · refine (θ_run Cert.MixOutBwdIdeal.defs _ _).mono (fun _ h c => ?_) (MixOutBwdIdeal.Value.run_blocks (F := Ideal) m ρ)
    exact ⟨(h c).1.trans (final_o m c), (h c).2.1.trans (final_h m c), (h c).2.2.1.trans (final_g m c), (h c).2.2.2⟩
  · refine (θ_run Cert.MixOutRefIdeal.defs _ _).mono (fun _ h c => ?_) (Cert.MixOutRefIdeal.Value.run (F := Ideal) m' ρ')
    obtain ⟨e0, e1, e2, e3, e4⟩ := hagree c
    refine ⟨(h c).1.trans ?_, (h c).2.1.trans ?_, (h c).2.2.1.trans ?_, (h c).2.2.2⟩
    · rw [val_main_v49_eq, e0, e1, e2, e3, e4]
    · rw [val_main_v50_eq, e0, e1, e2, e3, e4]
    · rw [val_main_v51_eq, e0, e1, e2, e3]

end Cert.MixOut

end
-- ==== Proof.HeadNormReference.lean ====
/- The reference of the head norms and the rotary embedding, read at an index. -/
module

public import proofs.«01_k».proof.Proof.NormVjp
public import proofs.«01_k».proof.Proof.Gen.HeadNormRefIdeal.Read
public import Idealize.ShloMosaic.Lib.KernelVsHost

@[expose] public section

noncomputable section

namespace Cert.HeadNorm

open Idealize.ShloMosaic Cert.NormVjp

/-- The gradient of the rotary embedding of a row's last 64 entries, its first 128 taken as they are: `p` the cotangent,
    `cs` and `sn` the row's cosines and sines. -/
def rot (cs sn : Fin 32 → EReal) (p : Fin 192 → EReal) (d : Fin 192) : EReal :=
  if h : d.val < 128 then p d
  else if h' : d.val < 160 then p ⟨d.val + 32, by omega⟩ * sn ⟨d.val - 128, by omega⟩ + p d * cs ⟨d.val - 128, by omega⟩
  else p d * cs ⟨d.val - 160, by omega⟩ + -p ⟨d.val - 32, by omega⟩ * sn ⟨d.val - 160, by omega⟩

/-- A head's row of the key: its own 128 entries, then the 64 all heads share. -/
def keyRow (kv : Fin 128 → EReal) (kr : Fin 64 → EReal) (d : Fin 192) : EReal :=
  if h : d.val < 128 then kv ⟨d.val, h⟩ else kr ⟨d.val - 128, by omega⟩

end Cert.HeadNorm

namespace Cert.HeadNorm.Reference

open Cert.HeadNormRefIdeal Cert.HeadNormRefIdeal.Read Idealize.ShloMosaic Cert.NormVjp

/-- A host sum over the two leading axes of a three-dimensional array. -/
theorem sum_leading {a b n : ℕ} (h : (⟨3, ![a, b, n]⟩ : Shape).ReducesTo [0, 1] ⟨1, ![n]⟩) (x : (⟨3, ![a, b, n]⟩ : Shape).Idx → EReal) (init : EReal)
    (d : Fin n) : Ideal.hostReduceAdd h x init (ix1 d) = init + ∑ r : Fin a, ∑ k : Fin b, x (ix3 r k d) := by
  unfold Ideal.hostReduceAdd
  rw [Finset.sum_filter_eq_sum_of_fiber _ (fun p : Fin a × Fin b => (ix3 p.1 p.2 d : (⟨3, ![a, b, n]⟩ : Shape).Idx))
    (fun p p' e => Prod.ext (congrFun e 0) (congrFun e 1)) (fun i => ?_) x, Fintype.sum_prod_type]
  constructor
  · intro e
    refine ⟨(i 0, i 1), funext fun c => Fin.ext ?_⟩
    match c with
    | ⟨0, _⟩ => rfl
    | ⟨1, _⟩ => rfl
    | ⟨2, _⟩ => exact (congrArg Fin.val (congrFun e 0)).symm
  · rintro ⟨k, rfl⟩
    funext c
    match c with
    | ⟨0, _⟩ => rfl

variable (q : FVec Ideal S4096x768 .f32) (kv : FVec Ideal S4096x1024 .f32) (z : FVec Ideal S4096x3136 .f32) (cs sn : FVec Ideal S4096x32 .f32)
  (pq pk : FVec Ideal S4x4096x192 .f32) (pv : FVec Ideal S4x4096x128 .f32) (gq gk : FVec Ideal S1x192 .f32)

/-- A head's rows of the query, of the key, and of the two cotangents after the rotary embedding's gradient. -/
def qRow (h : Fin 4) (r : Fin 4096) (k : Fin 192) : EReal := q (ix2 r ⟨h.val * 192 + k.val, by omega⟩)
def kRow (h : Fin 4) (r : Fin 4096) : Fin 192 → EReal :=
  keyRow (fun k => kv (ix2 r ⟨h.val * 256 + k.val, by omega⟩)) (fun k => z (ix2 r ⟨512 + k.val, by omega⟩))
def pRow (p : FVec Ideal S4x4096x192 .f32) (h : Fin 4) (r : Fin 4096) : Fin 192 → EReal :=
  rot (fun k => cs (ix2 r k)) (fun k => sn (ix2 r k)) (fun k => p (ix3 h r k))

/-- The gradients of a head's rows before the norm. -/
def gradQ (h : Fin 4) (r : Fin 4096) : Fin 192 → EReal := rowGrad 0x43400000#32 (qRow q h r) (pRow cs sn pq h r) (fun k => gq (ix2 0 k))
def gradK (h : Fin 4) (r : Fin 4096) : Fin 192 → EReal := rowGrad 0x43400000#32 (kRow kv z h r) (pRow cs sn pk h r) (fun k => gk (ix2 0 k))

/-- A head's part of the gain's gradient at a row. -/
def gainQ (h : Fin 4) (r : Fin 4096) (d : Fin 192) : EReal := qRow q h r d * invRms 0x43400000#32 (qRow q h r) * pRow cs sn pq h r d
def gainK (h : Fin 4) (r : Fin 4096) (d : Fin 192) : EReal := kRow kv z h r d * invRms 0x43400000#32 (kRow kv z h r) * pRow cs sn pk h r d

/-- The heads of the query and of the key. -/
theorem q_heads (r : Fin 4096) (h : Fin 4) (d : Fin 192) : val_main_v1 (F := Ideal) q (ix3 r h d) = qRow q h r d := by
  pointwise [val_main_v1, qRow]

theorem k_heads (r : Fin 4096) (h : Fin 4) (d : Fin 192) : val_main_v7 (F := Ideal) kv z (ix3 r h d) = kRow kv z h r d := by
  rcases Nat.lt_or_ge d.val 128 with h1 | h1
  · pointwise [val_main_v7, val_main_v3, val_main_v6, val_main_v2, val_main_v5, val_main_v0, kRow, keyRow, h1]
  · have h1' : ¬ d.val < 128 := by omega
    pointwise [val_main_v7, val_main_v3, val_main_v6, val_main_v2, val_main_v5, val_main_v0, kRow, keyRow, h1']

/-- The gradient of the rotary embedding. -/
theorem pq_heads (r : Fin 4096) (h : Fin 4) (d : Fin 192) : val_main_v119 (F := Ideal) cs sn pq (ix3 r h d) = pRow cs sn pq h r d := by
  rcases Nat.lt_or_ge d.val 128 with h1 | h1
  · have h0 : ¬ 128 ≤ d.val := by omega
    pointwise [val_main_v119, val_main_v117, val_main_v118, val_main_v116, val_main_cst_9, val_main_v101, val_main_cst_10, val_main_v115, val_main_v112, val_main_v81, val_main_v108, val_main_v114, val_main_v106, val_main_v111, val_main_v104, val_main_v107, val_main_v103, val_main_v113, val_main_v105, val_main_v109, val_main_v110, val_main_v102, val_main_v43, val_main_v42, pRow, rot, h1, h0, false_and, dite_false, zero_add]
  · have h1' : ¬ d.val < 128 := by omega
    have e1 : d.val - 128 < 64 := by omega
    have h0 : 128 ≤ d.val := h1
    rcases Nat.lt_or_ge d.val 160 with h2 | h2
    · have h3 : d.val - 128 < 32 := by omega
      have e2 : 128 + (32 + (d.val - 128)) = d.val + 32 := by omega
      have e3 : 128 + (d.val - 128) = d.val := by omega
      pointwise [val_main_v119, val_main_v117, val_main_v118, val_main_v116, val_main_cst_9, val_main_v101, val_main_cst_10, val_main_v115, val_main_v112, val_main_v81, val_main_v108, val_main_v114, val_main_v106, val_main_v111, val_main_v104, val_main_v107, val_main_v103, val_main_v113, val_main_v105, val_main_v109, val_main_v110, val_main_v102, val_main_v43, val_main_v42, pRow, rot, h1', h2, h3, h0, e1, e2, e3, add_zero]
    · have h2' : ¬ d.val < 160 := by omega
      have h3 : ¬ d.val - 128 < 32 := by omega
      have e0 : d.val - 128 - 32 = d.val - 160 := by omega
      have e2 : 128 + (32 + (d.val - 160)) = d.val := by omega
      have e3 : 128 + (d.val - 160) = d.val - 32 := by omega
      pointwise [val_main_v119, val_main_v117, val_main_v118, val_main_v116, val_main_cst_9, val_main_v101, val_main_cst_10, val_main_v115, val_main_v112, val_main_v81, val_main_v108, val_main_v114, val_main_v106, val_main_v111, val_main_v104, val_main_v107, val_main_v103, val_main_v113, val_main_v105, val_main_v109, val_main_v110, val_main_v102, val_main_v43, val_main_v42, pRow, rot, h1', h2', h3, h0, e0, e1, e2, e3, add_zero]

/-- The gradient of the rotary embedding. -/
theorem pk_heads (r : Fin 4096) (h : Fin 4) (d : Fin 192) : val_main_v100 (F := Ideal) cs sn pk (ix3 r h d) = pRow cs sn pk h r d := by
  rcases Nat.lt_or_ge d.val 128 with h1 | h1
  · have h0 : ¬ 128 ≤ d.val := by omega
    pointwise [val_main_v100, val_main_v98, val_main_v99, val_main_v97, val_main_cst_7, val_main_v82, val_main_cst_8, val_main_v96, val_main_v93, val_main_v80, val_main_v89, val_main_v95, val_main_v87, val_main_v92, val_main_v85, val_main_v88, val_main_v84, val_main_v94, val_main_v86, val_main_v90, val_main_v91, val_main_v83, val_main_v43, val_main_v42, pRow, rot, h1, h0, false_and, dite_false, zero_add]
  · have h1' : ¬ d.val < 128 := by omega
    have e1 : d.val - 128 < 64 := by omega
    have h0 : 128 ≤ d.val := h1
    rcases Nat.lt_or_ge d.val 160 with h2 | h2
    · have h3 : d.val - 128 < 32 := by omega
      have e2 : 128 + (32 + (d.val - 128)) = d.val + 32 := by omega
      have e3 : 128 + (d.val - 128) = d.val := by omega
      pointwise [val_main_v100, val_main_v98, val_main_v99, val_main_v97, val_main_cst_7, val_main_v82, val_main_cst_8, val_main_v96, val_main_v93, val_main_v80, val_main_v89, val_main_v95, val_main_v87, val_main_v92, val_main_v85, val_main_v88, val_main_v84, val_main_v94, val_main_v86, val_main_v90, val_main_v91, val_main_v83, val_main_v43, val_main_v42, pRow, rot, h1', h2, h3, h0, e1, e2, e3, add_zero]
    · have h2' : ¬ d.val < 160 := by omega
      have h3 : ¬ d.val - 128 < 32 := by omega
      have e0 : d.val - 128 - 32 = d.val - 160 := by omega
      have e2 : 128 + (32 + (d.val - 160)) = d.val := by omega
      have e3 : 128 + (d.val - 160) = d.val - 32 := by omega
      pointwise [val_main_v100, val_main_v98, val_main_v99, val_main_v97, val_main_cst_7, val_main_v82, val_main_cst_8, val_main_v96, val_main_v93, val_main_v80, val_main_v89, val_main_v95, val_main_v87, val_main_v92, val_main_v85, val_main_v88, val_main_v84, val_main_v94, val_main_v86, val_main_v90, val_main_v91, val_main_v83, val_main_v43, val_main_v42, pRow, rot, h1', h2', h3, h0, e0, e1, e2, e3, add_zero]

/-- The gradients of the heads' rows. -/
theorem gq_heads (r : Fin 4096) (h : Fin 4) (d : Fin 192) : val_main_v160 (F := Ideal) q cs sn pq gq (ix3 r h d) = gradQ q cs sn pq gq h r d := by
  pointwise [val_main_v160, val_main_v158, val_main_v159, val_main_v151, val_main_v157, val_main_v156, val_main_v145, val_main_v150, val_main_v155, val_main_v144, val_main_v16, val_main_v154, val_main_cst_20, val_main_v22, val_main_v15, val_main_v152, val_main_v153, val_main_v8, val_main_v13, val_main_v14, val_main_v149, val_main_v19, val_main_cst_19, val_main_v11, val_main_v12, val_main_cst_1, val_main_v148, val_main_v18, val_main_v17, val_main_v10, val_main_cst_0, val_main_v147, val_main_cst_18, val_main_cst_2, val_main_v9, val_main_cst, q_heads, k_heads, pq_heads, pk_heads, Finset.univ_unique, Finset.sum_singleton, rowGrad, meanPart, invRms, meanSq, gradQ]

theorem gk_heads (r : Fin 4096) (h : Fin 4) (d : Fin 192) : val_main_v139 (F := Ideal) kv z cs sn pk gk (ix3 r h d) = gradK kv z cs sn pk gk h r d := by
  pointwise [val_main_v139, val_main_v137, val_main_v138, val_main_v130, val_main_v136, val_main_v135, val_main_v124, val_main_v129, val_main_v134, val_main_v123, val_main_v33, val_main_v133, val_main_cst_15, val_main_v39, val_main_v32, val_main_v131, val_main_v132, val_main_v25, val_main_v30, val_main_v31, val_main_v128, val_main_v36, val_main_cst_14, val_main_v28, val_main_v29, val_main_cst_5, val_main_v127, val_main_v35, val_main_v34, val_main_v27, val_main_cst_4, val_main_v126, val_main_cst_13, val_main_cst_6, val_main_v26, val_main_cst_3, q_heads, k_heads, pq_heads, pk_heads, Finset.univ_unique, Finset.sum_singleton, rowGrad, meanPart, invRms, meanSq, gradK]

/-- The padding's value. -/
theorem pad_zero : (FloatOps.sitofp .f32 (0#32 : BitVec 32) : Ideal .f32) = 0 := Idealize.ShloMosaic.sitofp_zero

/-- The five results. -/
theorem dq_apply (r : Fin 4096) (d : Fin 768) (h : Fin 4) (e : Fin 192) (hd : d.val = h.val * 192 + e.val) :
    val_main_v173 (F := Ideal) q cs sn pq gq (ix2 r d) = gradQ q cs sn pq gq h r e := by
  rw [show d = ⟨h.val * 192 + e.val, by omega⟩ from Fin.ext hd]
  pointwise [val_main_v173, val_main_v171, gq_heads]

theorem dkv_apply (r : Fin 4096) (d : Fin 1024) (h : Fin 4) (e : Fin 256) (hd : d.val = h.val * 256 + e.val) :
    val_main_v174 (F := Ideal) kv z cs sn pk pv gk (ix2 r d)
      = if he : e.val < 128 then gradK kv z cs sn pk gk h r ⟨e.val, by omega⟩ else pv (ix3 h r ⟨e.val - 128, by omega⟩) := by
  rw [show d = ⟨h.val * 256 + e.val, by omega⟩ from Fin.ext hd]
  rcases Nat.lt_or_ge e.val 128 with h5 | h5
  · have h0 : ¬ 128 ≤ e.val := by omega
    pointwise [val_main_v174, val_main_v170, val_main_v169, val_main_v168, val_main_v167, val_main_v162, val_main_v79, val_main_cst_23, val_main_cst_24, gk_heads, h5, h0, false_and, dite_false, zero_add]
  · have h5' : ¬ e.val < 128 := by omega
    have e1 : e.val - 128 < 128 := by omega
    have h0 : 128 ≤ e.val := h5
    pointwise [val_main_v174, val_main_v170, val_main_v169, val_main_v168, val_main_v167, val_main_v162, val_main_v79, val_main_cst_23, val_main_cst_24, gk_heads, h5', h0, e1, add_zero]

theorem dkr_apply (r : Fin 4096) (d : Fin 128) : val_main_v175 (F := Ideal) kv z cs sn pk gk (ix2 r d)
    = if hd : d.val < 64 then ∑ h : Fin 4, gradK kv z cs sn pk gk h r ⟨128 + d.val, by omega⟩ else 0 := by
  pointwise [val_main_v175, val_main_v172, val_main_v166, val_main_call0_v0, val_main_v165, val_main_cst_22, val_main_c, val_main_v164, val_main_v163, val_main_cst_21, gk_heads, Finset.univ_unique, Finset.sum_singleton, pad_zero]

theorem dgq_apply (i : Fin 1) (d : Fin 192) : val_main_v161 (F := Ideal) q cs sn pq (ix2 i d) = ∑ r : Fin 4096, ∑ h : Fin 4, gainQ q cs sn pq h r d := by
  pointwise [val_main_v161, val_main_v146, val_main_v143, val_main_cst_17, val_main_v142, val_main_v141, val_main_cst_16, val_main_v21, val_main_v20, val_main_v16, val_main_v15, val_main_v13, val_main_v14, val_main_v11, val_main_v12, val_main_cst_1, val_main_v10, val_main_cst_0, val_main_v9, val_main_cst, q_heads, k_heads, pq_heads, pk_heads, Finset.univ_unique, Finset.sum_singleton, rowGrad, meanPart, invRms, meanSq, sum_leading, gainQ]

theorem dgk_apply (i : Fin 1) (d : Fin 192) : val_main_v140 (F := Ideal) kv z cs sn pk (ix2 i d) = ∑ r : Fin 4096, ∑ h : Fin 4, gainK kv z cs sn pk h r d := by
  pointwise [val_main_v140, val_main_v125, val_main_v122, val_main_cst_12, val_main_v121, val_main_v120, val_main_cst_11, val_main_v38, val_main_v37, val_main_v33, val_main_v32, val_main_v30, val_main_v31, val_main_v28, val_main_v29, val_main_cst_5, val_main_v27, val_main_cst_4, val_main_v26, val_main_cst_3, q_heads, k_heads, pq_heads, pk_heads, Finset.univ_unique, Finset.sum_singleton, rowGrad, meanPart, invRms, meanSq, sum_leading, gainK]

end Cert.HeadNorm.Reference

end
-- ==== Proof.HeadNorm.lean ====
/- The value of the gradients of the head norms and the rotary embedding: the kernel's five result arrays are the
   reference's. The kernel goes through the four heads one after the other and adds up their results, each padded to the
   whole width. -/
module

public import proofs.«01_k».proof.Defs
public import proofs.«01_k».proof.Proof.HeadNormReference
public import proofs.«01_k».proof.Proof.Gen.HeadNormBwdIdeal.Value
public import proofs.«01_k».proof.Proof.Gen.HeadNormRefIdeal.Run

@[expose] public section

noncomputable section

namespace Cert.HeadNorm

open Cert.HeadNormBwdIdeal Cert.HeadNormBwdIdeal.Gen Idealize.ShloMosaic Idealize.ShloMosaic.TcCoe Idealize.SL.Sem
open Idealize.ShloMosaic.Pipeline (Dat)
open Cert.Common Cert.NormVjp
open Cert.HeadNormRefIdeal.Read (val_main_v173 val_main_v174 val_main_v175 val_main_v161 val_main_v140 val_main_v173_eq val_main_v174_eq val_main_v175_eq val_main_v161_eq val_main_v140_eq)

/-! ## The kernel's payloads, read at an index -/

section
variable (q : Vec Ideal S512x768 .f32) (kv : Vec Ideal S512x1024 .f32) (kr : Vec Ideal S512x128 .f32) (cs sn : Vec Ideal S512x32 .f32)
  (pq pk : Vec Ideal S4x512x192 .f32) (pv : Vec Ideal S4x512x128 .f32) (gq gk : Vec Ideal S1x192 .f32)

/-- A head's rows of the key, and of the two cotangents after the rotary embedding's gradient. -/
def kRow (h : Fin 4) (r : Fin 512) : Fin 192 → EReal :=
  keyRow (fun k => kv (ix2 r ⟨h.val * 256 + k.val, by omega⟩)) (fun k => kr (ix2 r ⟨k.val, by omega⟩))
def pRow (p : Vec Ideal S4x512x192 .f32) (h : Fin 4) (r : Fin 512) : Fin 192 → EReal :=
  rot (fun k => cs (ix2 r k)) (fun k => sn (ix2 r k)) (fun k => p (ix3 h r k))

/-- The rotary embedding's gradient of one head's block. -/
theorem rot_apply (x : FVec Ideal S512x192 .f32) (r : Fin 512) (d : Fin 192) : k0_pay64 (F := Ideal) cs sn x (ix2 r d)
    = rot (fun k => cs (ix2 r k)) (fun k => sn (ix2 r k)) (fun k => x (ix2 r k)) d := by
  rcases Nat.lt_or_ge d.val 128 with h1 | h1
  · pointwise [k0_pay64, rot, h1]
  · have h1' : ¬ d.val < 128 := by omega
    rcases Nat.lt_or_ge d.val 160 with h2 | h2
    · have h3 : d.val - 128 < 32 := by omega
      have e1 : 128 + (32 + (d.val - 128)) = d.val + 32 := by omega
      have e2 : 128 + (d.val - 128) = d.val := by omega
      pointwise [k0_pay64, rot, h1', h2, h3, e1, e2]
    · have h2' : ¬ d.val < 160 := by omega
      have h3 : ¬ d.val - 128 < 32 := by omega
      have e0 : d.val - 128 - 32 = d.val - 160 := by omega
      have e1 : 128 + (32 + (d.val - 160)) = d.val := by omega
      have e2 : 128 + (d.val - 160) = d.val - 32 := by omega
      pointwise [k0_pay64, rot, h1', h2', h3, e0, e1, e2, zero_sub]

/-- The cotangent's heads, and their rotary embedding's gradients. -/
theorem pQ_0 (r : Fin 512) (d : Fin 192) : ((k0_pay105 cs sn (k0_pay55 pq))) (ix2 r d) = pRow cs sn pq 0 r d :=
  (rot_apply cs sn (k0_pay55 pq) r d).trans (congrArg (fun f => rot _ _ f d) (funext fun k => by pointwise [k0_pay55]))

theorem pQ_1 (r : Fin 512) (d : Fin 192) : ((k0_pay89 cs sn (k0_pay56 pq))) (ix2 r d) = pRow cs sn pq 1 r d :=
  (rot_apply cs sn (k0_pay56 pq) r d).trans (congrArg (fun f => rot _ _ f d) (funext fun k => by pointwise [k0_pay56]))

theorem pQ_2 (r : Fin 512) (d : Fin 192) : ((k0_pay75 cs sn (k0_pay57 pq) (k0_pay74 (k0_pay57 pq)))) (ix2 r d) = pRow cs sn pq 2 r d :=
  (rot_apply cs sn (k0_pay57 pq) r d).trans (congrArg (fun f => rot _ _ f d) (funext fun k => by pointwise [k0_pay57]))

theorem pQ_3 (r : Fin 512) (d : Fin 192) : ((k0_pay64 cs sn (k0_pay58 pq))) (ix2 r d) = pRow cs sn pq 3 r d :=
  (rot_apply cs sn (k0_pay58 pq) r d).trans (congrArg (fun f => rot _ _ f d) (funext fun k => by pointwise [k0_pay58]))

theorem pK_0 (r : Fin 512) (d : Fin 192) : (k0_pay104 (k0_pay98 (k0_pay51 pk)) (k0_pay102 cs sn (k0_pay51 pk)) (k0_pay103 cs sn (k0_pay51 pk))) (ix2 r d) = pRow cs sn pk 0 r d :=
  (rot_apply cs sn (k0_pay51 pk) r d).trans (congrArg (fun f => rot _ _ f d) (funext fun k => by pointwise [k0_pay51]))

theorem pK_1 (r : Fin 512) (d : Fin 192) : (k0_pay88 (k0_pay85 (k0_pay52 pk)) (k0_pay86 cs sn (k0_pay52 pk)) (k0_pay87 (F := Ideal))) (ix2 r d) = pRow cs sn pk 1 r d :=
  (rot_apply cs sn (k0_pay52 pk) r d).trans (congrArg (fun f => rot _ _ f d) (funext fun k => by pointwise [k0_pay52]))

theorem pK_2 (r : Fin 512) (d : Fin 192) : ((k0_pay73 cs sn (k0_pay53 pk))) (ix2 r d) = pRow cs sn pk 2 r d :=
  (rot_apply cs sn (k0_pay53 pk) r d).trans (congrArg (fun f => rot _ _ f d) (funext fun k => by pointwise [k0_pay53]))

theorem pK_3 (r : Fin 512) (d : Fin 192) : (k0_pay63 (k0_pay60 pk) (k0_pay61 cs sn pk) (k0_pay62 (F := Ideal))) (ix2 r d) = pRow cs sn pk 3 r d :=
  (rot_apply cs sn (k0_pay54 pk) r d).trans (congrArg (fun f => rot _ _ f d) (funext fun k => by pointwise [k0_pay54]))

/-- The key's heads. -/
theorem kRow_0 (r : Fin 512) (d : Fin 192) : (k0_pay9 kv kr) (ix2 r d) = kRow kv kr 0 r d := by
  rcases Nat.lt_or_ge d.val 128 with h1 | h1
  · pointwise [k0_pay9, k0_pay3, kRow, keyRow, h1]
  · have h1' : ¬ d.val < 128 := by omega
    pointwise [k0_pay9, k0_pay3, kRow, keyRow, h1']

theorem kRow_1 (r : Fin 512) (d : Fin 192) : ((k0_pay20 kv (k0_pay3 kr))) (ix2 r d) = kRow kv kr 1 r d := by
  rcases Nat.lt_or_ge d.val 128 with h1 | h1
  · pointwise [k0_pay20, k0_pay3, kRow, keyRow, h1]
  · have h1' : ¬ d.val < 128 := by omega
    pointwise [k0_pay20, k0_pay3, kRow, keyRow, h1']

theorem kRow_2 (r : Fin 512) (d : Fin 192) : ((k0_pay31 kv (k0_pay3 kr))) (ix2 r d) = kRow kv kr 2 r d := by
  rcases Nat.lt_or_ge d.val 128 with h1 | h1
  · pointwise [k0_pay31, k0_pay3, kRow, keyRow, h1]
  · have h1' : ¬ d.val < 128 := by omega
    pointwise [k0_pay31, k0_pay3, kRow, keyRow, h1']

theorem kRow_3 (r : Fin 512) (d : Fin 192) : ((k0_pay41 kv (k0_pay3 kr))) (ix2 r d) = kRow kv kr 3 r d := by
  rcases Nat.lt_or_ge d.val 128 with h1 | h1
  · pointwise [k0_pay41, k0_pay3, kRow, keyRow, h1]
  · have h1' : ¬ d.val < 128 := by omega
    pointwise [k0_pay41, k0_pay3, kRow, keyRow, h1']

/-- A head's row of the query. -/
def qRow (h : Fin 4) (r : Fin 512) (k : Fin 192) : EReal := q (ix2 r ⟨h.val * 192 + k.val, by omega⟩)

/-- The gradients of a head's rows before and after the norm. -/
def gradQ (h : Fin 4) (r : Fin 512) : Fin 192 → EReal := rowGrad 0x43400000#32 (qRow q h r) (pRow cs sn pq h r) (fun k => gq (ix2 0 k))
def gradK (h : Fin 4) (r : Fin 512) : Fin 192 → EReal := rowGrad 0x43400000#32 (kRow kv kr h r) (pRow cs sn pk h r) (fun k => gk (ix2 0 k))

/-- The blocks of the five results as one point computes them. -/
def dQ : FVec Ideal S512x768 .bf16 := k0_pay113 gq (k0_pay4 q) (k0_pay6 q) (k0_pay7 q) (k0_pay96 gq (k0_pay15 q) (k0_pay17 q) (k0_pay18 q) (k0_pay83 gq (k0_pay25 q) (k0_pay28 (k0_pay26 q)) (k0_pay29 (k0_pay26 q)) (k0_pay71 gq (k0_pay36 q) (k0_pay38 q) (k0_pay39 q) (k0_pay64 cs sn (k0_pay58 pq))) (k0_pay75 cs sn (k0_pay57 pq) (k0_pay74 (k0_pay57 pq)))) (k0_pay89 cs sn (k0_pay56 pq))) (k0_pay105 cs sn (k0_pay55 pq))
def dKV : FVec Ideal S512x1024 .bf16 := k0_pay114 (k0_pay9 kv kr) (k0_pay94 (k0_pay81 (k0_pay69 (k0_pay68 gk (k0_pay41 kv (k0_pay3 kr)) (k0_pay45 (k0_pay42 kv (k0_pay3 kr)) (k0_pay43 (F := Ideal))) (k0_pay46 (k0_pay42 kv (k0_pay3 kr)) (k0_pay43 (F := Ideal))) (k0_pay59 pv) (k0_pay60 pk) (k0_pay61 cs sn pk) (k0_pay62 (F := Ideal))) (Scalar.ofBits (F := Ideal) .f32 0x00000000#32)) (k0_pay79 gk (k0_pay31 kv (k0_pay3 kr)) (k0_pay33 kv (k0_pay3 kr)) (k0_pay34 kv (k0_pay3 kr)) (k0_pay72 (k0_pay50 pv)) (k0_pay73 cs sn (k0_pay53 pk))) (Scalar.ofBits (F := Ideal) .f32 0x00000000#32) (k0_pay80 (F := Ideal))) (k0_pay84 (k0_pay49 pv)) (k0_pay92 gk (k0_pay20 kv (k0_pay3 kr)) (k0_pay22 kv (k0_pay3 kr)) (k0_pay23 kv (k0_pay3 kr)) (k0_pay85 (k0_pay52 pk)) (k0_pay86 cs sn (k0_pay52 pk)) (k0_pay87 (F := Ideal)))) (k0_pay97 (k0_pay48 pv)) (k0_pay108 gk (k0_pay12 (k0_pay10 kv kr)) (k0_pay98 (k0_pay51 pk)) (k0_pay102 cs sn (k0_pay51 pk)) (k0_pay103 cs sn (k0_pay51 pk))) (k0_pay109 gk (k0_pay9 kv kr) (k0_pay13 (k0_pay10 kv kr)) (k0_pay98 (k0_pay51 pk)) (k0_pay102 cs sn (k0_pay51 pk)) (k0_pay103 cs sn (k0_pay51 pk))) (k0_pay110 gk (k0_pay9 kv kr) (k0_pay13 (k0_pay10 kv kr)) (k0_pay98 (k0_pay51 pk)) (k0_pay102 cs sn (k0_pay51 pk)) (k0_pay103 cs sn (k0_pay51 pk)))
def dKR : FVec Ideal S512x128 .bf16 := (k0_pay115 (k0_pay9 kv kr) (k0_pay93 gk (k0_pay20 kv (k0_pay3 kr)) (k0_pay22 kv (k0_pay3 kr)) (k0_pay23 kv (k0_pay3 kr)) (k0_pay78 gk (k0_pay31 kv (k0_pay3 kr)) (k0_pay33 kv (k0_pay3 kr)) (k0_pay34 kv (k0_pay3 kr)) (k0_pay67 gk (k0_pay41 kv (k0_pay3 kr)) (k0_pay45 (k0_pay42 kv (k0_pay3 kr)) (k0_pay43 (F := Ideal))) (k0_pay46 (k0_pay42 kv (k0_pay3 kr)) (k0_pay43 (F := Ideal))) (k0_pay60 pk) (k0_pay61 cs sn pk) (k0_pay62 (F := Ideal))) (k0_pay73 cs sn (k0_pay53 pk))) (k0_pay85 (k0_pay52 pk)) (k0_pay86 cs sn (k0_pay52 pk)) (k0_pay87 (F := Ideal))) (k0_pay108 gk (k0_pay12 (k0_pay10 kv kr)) (k0_pay98 (k0_pay51 pk)) (k0_pay102 cs sn (k0_pay51 pk)) (k0_pay103 cs sn (k0_pay51 pk))) (k0_pay109 gk (k0_pay9 kv kr) (k0_pay13 (k0_pay10 kv kr)) (k0_pay98 (k0_pay51 pk)) (k0_pay102 cs sn (k0_pay51 pk)) (k0_pay103 cs sn (k0_pay51 pk))) (k0_pay110 gk (k0_pay9 kv kr) (k0_pay13 (k0_pay10 kv kr)) (k0_pay98 (k0_pay51 pk)) (k0_pay102 cs sn (k0_pay51 pk)) (k0_pay103 cs sn (k0_pay51 pk))))
def dGQ : FVec Ideal S1x192 .f32 := (k0_pay112 (k0_pay8 q) (k0_pay95 (k0_pay19 q) (k0_pay82 (k0_pay30 (k0_pay25 q) (k0_pay26 q)) (k0_pay70 (k0_pay40 q) (k0_pay64 cs sn (k0_pay58 pq))) (k0_pay75 cs sn (k0_pay57 pq) (k0_pay74 (k0_pay57 pq)))) (k0_pay89 cs sn (k0_pay56 pq))) (k0_pay105 cs sn (k0_pay55 pq)))
def dGK : FVec Ideal S1x192 .f32 := (k0_pay106 (k0_pay14 (k0_pay9 kv kr) (k0_pay10 kv kr)) (k0_pay90 (k0_pay24 kv (k0_pay3 kr)) (k0_pay76 (k0_pay35 kv (k0_pay3 kr)) (k0_pay65 (k0_pay47 (k0_pay41 kv (k0_pay3 kr)) (k0_pay42 kv (k0_pay3 kr)) (k0_pay43 (F := Ideal))) (k0_pay60 pk) (k0_pay61 cs sn pk) (k0_pay62 (F := Ideal))) (k0_pay73 cs sn (k0_pay53 pk))) (k0_pay85 (k0_pay52 pk)) (k0_pay86 cs sn (k0_pay52 pk)) (k0_pay87 (F := Ideal))) (k0_pay98 (k0_pay51 pk)) (k0_pay102 cs sn (k0_pay51 pk)) (k0_pay103 cs sn (k0_pay51 pk)))

theorem dQ_0 (r : Fin 512) (d : Fin 768) (e : Fin 192) (hd : d.val = 0 + e.val) : dQ q cs sn pq gq (ix2 r d) = gradQ q cs sn pq gq 0 r e := by
  have h1 : e.val < 192 := by omega
  have h2 : e.val < 384 := by omega
  have h3 : e.val < 576 := by omega
  have h4 : d.val = e.val := by omega
  pointwise [dQ, k0_pay113, k0_pay4, k0_pay6, k0_pay7, k0_pay96, k0_pay15, k0_pay17, k0_pay18, k0_pay83, k0_pay25, k0_pay28, k0_pay26, k0_pay29, k0_pay71, k0_pay36, k0_pay38, k0_pay39, k0_pay5, k0_pay16, k0_pay27, k0_pay37, h1, h2, h3, h4, pQ_0, pK_0, kRow_0, pQ_1, pK_1, kRow_1, pQ_2, pK_2, kRow_2, pQ_3, pK_3, kRow_3, Finset.univ_unique, Finset.sum_singleton, rowGrad, meanPart, invRms, meanSq, gradQ, qRow]

theorem dKV_0 (r : Fin 512) (d : Fin 1024) (e : Fin 256) (hd : d.val = 0 + e.val) : dKV kv kr cs sn pk pv gk (ix2 r d)
    = if h : e.val < 128 then gradK kv kr cs sn pk gk 0 r ⟨e.val, by omega⟩ else pv (ix3 0 r ⟨e.val - 128, by omega⟩) := by
  have h1 : e.val < 256 := by omega
  have h2 : e.val < 512 := by omega
  have h3 : e.val < 768 := by omega
  have h4 : d.val = e.val := by omega
  rcases Nat.lt_or_ge e.val 128 with h5 | h5
  · pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5]
  · have h5' : ¬ e.val < 128 := by omega
    pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5']

theorem dQ_1 (r : Fin 512) (d : Fin 768) (e : Fin 192) (hd : d.val = 192 + e.val) : dQ q cs sn pq gq (ix2 r d) = gradQ q cs sn pq gq 1 r e := by
  have h1 : ¬ d.val < 192 := by omega
  have h2 : d.val < 384 := by omega
  have h3 : d.val < 576 := by omega
  have h4 : d.val - 192 = e.val := by omega
  pointwise [dQ, k0_pay113, k0_pay4, k0_pay6, k0_pay7, k0_pay96, k0_pay15, k0_pay17, k0_pay18, k0_pay83, k0_pay25, k0_pay28, k0_pay26, k0_pay29, k0_pay71, k0_pay36, k0_pay38, k0_pay39, k0_pay5, k0_pay16, k0_pay27, k0_pay37, h1, h2, h3, h4, pQ_0, pK_0, kRow_0, pQ_1, pK_1, kRow_1, pQ_2, pK_2, kRow_2, pQ_3, pK_3, kRow_3, Finset.univ_unique, Finset.sum_singleton, rowGrad, meanPart, invRms, meanSq, gradQ, qRow]

theorem dKV_1 (r : Fin 512) (d : Fin 1024) (e : Fin 256) (hd : d.val = 256 + e.val) : dKV kv kr cs sn pk pv gk (ix2 r d)
    = if h : e.val < 128 then gradK kv kr cs sn pk gk 1 r ⟨e.val, by omega⟩ else pv (ix3 1 r ⟨e.val - 128, by omega⟩) := by
  have h1 : ¬ d.val < 256 := by omega
  have h2 : d.val < 512 := by omega
  have h3 : d.val < 768 := by omega
  have h4 : d.val - 256 = e.val := by omega
  rcases Nat.lt_or_ge e.val 128 with h5 | h5
  · pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5]
  · have h5' : ¬ e.val < 128 := by omega
    pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5']

theorem dQ_2 (r : Fin 512) (d : Fin 768) (e : Fin 192) (hd : d.val = 384 + e.val) : dQ q cs sn pq gq (ix2 r d) = gradQ q cs sn pq gq 2 r e := by
  have h1 : ¬ d.val < 192 := by omega
  have h2 : ¬ d.val < 384 := by omega
  have h3 : d.val < 576 := by omega
  have h4 : d.val - 384 = e.val := by omega
  pointwise [dQ, k0_pay113, k0_pay4, k0_pay6, k0_pay7, k0_pay96, k0_pay15, k0_pay17, k0_pay18, k0_pay83, k0_pay25, k0_pay28, k0_pay26, k0_pay29, k0_pay71, k0_pay36, k0_pay38, k0_pay39, k0_pay5, k0_pay16, k0_pay27, k0_pay37, h1, h2, h3, h4, pQ_0, pK_0, kRow_0, pQ_1, pK_1, kRow_1, pQ_2, pK_2, kRow_2, pQ_3, pK_3, kRow_3, Finset.univ_unique, Finset.sum_singleton, rowGrad, meanPart, invRms, meanSq, gradQ, qRow]

theorem dKV_2 (r : Fin 512) (d : Fin 1024) (e : Fin 256) (hd : d.val = 512 + e.val) : dKV kv kr cs sn pk pv gk (ix2 r d)
    = if h : e.val < 128 then gradK kv kr cs sn pk gk 2 r ⟨e.val, by omega⟩ else pv (ix3 2 r ⟨e.val - 128, by omega⟩) := by
  have h1 : ¬ d.val < 256 := by omega
  have h2 : ¬ d.val < 512 := by omega
  have h3 : d.val < 768 := by omega
  have h4 : d.val - 512 = e.val := by omega
  rcases Nat.lt_or_ge e.val 128 with h5 | h5
  · pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5]
  · have h5' : ¬ e.val < 128 := by omega
    pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5']

theorem dQ_3 (r : Fin 512) (d : Fin 768) (e : Fin 192) (hd : d.val = 576 + e.val) : dQ q cs sn pq gq (ix2 r d) = gradQ q cs sn pq gq 3 r e := by
  have h1 : ¬ d.val < 192 := by omega
  have h2 : ¬ d.val < 384 := by omega
  have h3 : ¬ d.val < 576 := by omega
  have h4 : d.val - 576 = e.val := by omega
  pointwise [dQ, k0_pay113, k0_pay4, k0_pay6, k0_pay7, k0_pay96, k0_pay15, k0_pay17, k0_pay18, k0_pay83, k0_pay25, k0_pay28, k0_pay26, k0_pay29, k0_pay71, k0_pay36, k0_pay38, k0_pay39, k0_pay5, k0_pay16, k0_pay27, k0_pay37, h1, h2, h3, h4, pQ_0, pK_0, kRow_0, pQ_1, pK_1, kRow_1, pQ_2, pK_2, kRow_2, pQ_3, pK_3, kRow_3, Finset.univ_unique, Finset.sum_singleton, rowGrad, meanPart, invRms, meanSq, gradQ, qRow]

theorem dKV_3 (r : Fin 512) (d : Fin 1024) (e : Fin 256) (hd : d.val = 768 + e.val) : dKV kv kr cs sn pk pv gk (ix2 r d)
    = if h : e.val < 128 then gradK kv kr cs sn pk gk 3 r ⟨e.val, by omega⟩ else pv (ix3 3 r ⟨e.val - 128, by omega⟩) := by
  have h1 : ¬ d.val < 256 := by omega
  have h2 : ¬ d.val < 512 := by omega
  have h3 : ¬ d.val < 768 := by omega
  have h4 : d.val - 768 = e.val := by omega
  rcases Nat.lt_or_ge e.val 128 with h5 | h5
  · pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5]
  · have h5' : ¬ e.val < 128 := by omega
    pointwise [dKV, k0_pay114, k0_pay94, k0_pay81, k0_pay69, k0_pay68, k0_pay45, k0_pay42, k0_pay43, k0_pay46, k0_pay59, k0_pay79, k0_pay33, k0_pay34, k0_pay72, k0_pay50, k0_pay80, k0_pay84, k0_pay49, k0_pay92, k0_pay22, k0_pay23, k0_pay97, k0_pay48, k0_pay108, k0_pay12, k0_pay10, k0_pay109, k0_pay13, k0_pay110, k0_pay111, k0_pay66, k0_pay44, k0_pay77, k0_pay32, k0_pay91, k0_pay21, k0_pay107, k0_pay11, h1, h2, h3, h4, pQ_0, pK_0, kRow_0, pQ_1, pK_1, kRow_1, pQ_2, pK_2, kRow_2, pQ_3, pK_3, kRow_3, Finset.univ_unique, Finset.sum_singleton, rowGrad, meanPart, invRms, meanSq, gradK, h5']

theorem dKR_apply (r : Fin 512) (d : Fin 128) : dKR kv kr cs sn pk gk (ix2 r d)
    = if h : d.val < 64 then gradK kv kr cs sn pk gk 3 r ⟨128 + d.val, by omega⟩ + gradK kv kr cs sn pk gk 2 r ⟨128 + d.val, by omega⟩
        + gradK kv kr cs sn pk gk 1 r ⟨128 + d.val, by omega⟩ + gradK kv kr cs sn pk gk 0 r ⟨128 + d.val, by omega⟩ else 0 := by
  pointwise [dKR, k0_pay115, k0_pay93, k0_pay22, k0_pay23, k0_pay78, k0_pay33, k0_pay34, k0_pay67, k0_pay45, k0_pay42, k0_pay43, k0_pay46, k0_pay108, k0_pay12, k0_pay10, k0_pay109, k0_pay13, k0_pay110, k0_pay111, k0_pay91, k0_pay21, k0_pay77, k0_pay32, k0_pay66, k0_pay44, k0_pay107, k0_pay11, pQ_0, pK_0, kRow_0, pQ_1, pK_1, kRow_1, pQ_2, pK_2, kRow_2, pQ_3, pK_3, kRow_3, Finset.univ_unique, Finset.sum_singleton, rowGrad, meanPart, invRms, meanSq, gradK]

/-- A head's part of the gain's gradient over a block. -/
def gainQ (h : Fin 4) (d : Fin 192) : EReal := ∑ r : Fin 512, qRow q h r d * invRms 0x43400000#32 (qRow q h r) * pRow cs sn pq h r d
def gainK (h : Fin 4) (d : Fin 192) : EReal := ∑ r : Fin 512, kRow kv kr h r d * invRms 0x43400000#32 (kRow kv kr h r) * pRow cs sn pk h r d

theorem dGQ_apply (i : Fin 1) (d : Fin 192) : dGQ q cs sn pq (ix2 i d) = gainQ q cs sn pq 3 d + gainQ q cs sn pq 2 d + gainQ q cs sn pq 1 d + gainQ q cs sn pq 0 d := by
  pointwise [dGQ, k0_pay112, k0_pay8, k0_pay95, k0_pay19, k0_pay82, k0_pay30, k0_pay25, k0_pay26, k0_pay70, k0_pay40, k0_pay6, k0_pay4, k0_pay17, k0_pay15, k0_pay28, k0_pay38, k0_pay36, k0_pay5, k0_pay16, k0_pay27, k0_pay37, pQ_0, pK_0, kRow_0, pQ_1, pK_1, kRow_1, pQ_2, pK_2, kRow_2, pQ_3, pK_3, kRow_3, Finset.univ_unique, Finset.sum_singleton, rowGrad, meanPart, invRms, meanSq, gainQ, qRow]

theorem dGK_apply (i : Fin 1) (d : Fin 192) : dGK kv kr cs sn pk (ix2 i d) = gainK kv kr cs sn pk 3 d + gainK kv kr cs sn pk 2 d + gainK kv kr cs sn pk 1 d + gainK kv kr cs sn pk 0 d := by
  pointwise [dGK, k0_pay106, k0_pay14, k0_pay10, k0_pay90, k0_pay24, k0_pay76, k0_pay35, k0_pay65, k0_pay47, k0_pay42, k0_pay43, k0_pay12, k0_pay22, k0_pay33, k0_pay45, k0_pay11, k0_pay21, k0_pay32, k0_pay44, pQ_0, pK_0, kRow_0, pQ_1, pK_1, kRow_1, pQ_2, pK_2, kRow_2, pQ_3, pK_3, kRow_3, Finset.univ_unique, Finset.sum_singleton, rowGrad, meanPart, invRms, meanSq, gainK]

theorem dGQ_step (x acc : Vec Ideal S1x192 .f32) (j : S1x192.Idx) : k0_pay1 x acc j = acc j + x j := by
  pointwise [k0_pay1]

theorem dGK_step (x acc : Vec Ideal S1x192 .f32) (j : S1x192.Idx) : k0_pay2 x acc j = acc j + x j := by
  pointwise [k0_pay2]

end

section
variable (q : Vec Ideal S512x768 .f32) (kv : Vec Ideal S512x1024 .f32) (kr : Vec Ideal S512x128 .f32) (cs sn : Vec Ideal S512x32 .f32)
  (pq pk : Vec Ideal S4x512x192 .f32) (pv : Vec Ideal S4x512x128 .f32) (gq gk : Vec Ideal S1x192 .f32)

/-- The gradients' blocks in any head. -/
theorem dQ_apply (r : Fin 512) (d : Fin 768) (h : Fin 4) (e : Fin 192) (hd : d.val = h.val * 192 + e.val) :
    dQ q cs sn pq gq (ix2 r d) = gradQ q cs sn pq gq h r e := by
  fin_cases h
  · exact dQ_0 q cs sn pq gq r d e (by simpa using hd)
  · exact dQ_1 q cs sn pq gq r d e (by simpa using hd)
  · exact dQ_2 q cs sn pq gq r d e (by simpa using hd)
  · exact dQ_3 q cs sn pq gq r d e (by simpa using hd)

theorem dKV_apply (r : Fin 512) (d : Fin 1024) (h : Fin 4) (e : Fin 256) (hd : d.val = h.val * 256 + e.val) : dKV kv kr cs sn pk pv gk (ix2 r d)
    = if he : e.val < 128 then gradK kv kr cs sn pk gk h r ⟨e.val, by omega⟩ else pv (ix3 h r ⟨e.val - 128, by omega⟩) := by
  fin_cases h
  · exact dKV_0 kv kr cs sn pk pv gk r d e (by simpa using hd)
  · exact dKV_1 kv kr cs sn pk pv gk r d e (by simpa using hd)
  · exact dKV_2 kv kr cs sn pk pv gk r d e (by simpa using hd)
  · exact dKV_3 kv kr cs sn pk pv gk r d e (by simpa using hd)
end

/-- The kernel's order of the four heads. -/
theorem heads_sum (f : Fin 4 → EReal) : f 3 + f 2 + f 1 + f 0 = ∑ h, f h := by
  rw [Fin.sum_univ_four]
  abel

/-! ## The columns in the kernel's order -/

/-- The input product's columns in the kernel's order. -/
def cols (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- The rotary key's columns among them. -/
theorem cols_kr (z : FVec Ideal S4096x3136 .f32) (r : Fin 4096) (k : Fin 64) : cols z (ix2 r ⟨3072 + k.val, by omega⟩) = z (ix2 r ⟨512 + k.val, by omega⟩) := by
  have h1 : ¬ 3072 + k.val < 512 := by omega
  have h2 : ¬ 3072 + k.val - 512 < 2560 := by omega
  have h3 : 3072 + k.val - 512 - 2560 = k.val := by omega
  pointwise [cols, h1, h2, h3]

variable (m : (ℓ : Loc nD τ sig) → Buf (Elt Ideal) ℓ) (ρ : Dev nD → PrngReg)

/-- Device `c`'s ten arguments, at their types. -/
abbrev Q (c : Dev nD) : FVec Ideal S4096x768 .f32 := m ((c : Thread nD τ).loc main_arg0)
abbrev KV (c : Dev nD) : FVec Ideal S4096x1024 .f32 := m ((c : Thread nD τ).loc main_arg1)
abbrev Z (c : Dev nD) : FVec Ideal S4096x3136 .f32 := m ((c : Thread nD τ).loc main_arg2)
abbrev CS (c : Dev nD) : FVec Ideal S4096x32 .f32 := m ((c : Thread nD τ).loc main_arg3)
abbrev SN (c : Dev nD) : FVec Ideal S4096x32 .f32 := m ((c : Thread nD τ).loc main_arg4)
abbrev PQ (c : Dev nD) : FVec Ideal S4x4096x192 .f32 := m ((c : Thread nD τ).loc main_arg5)
abbrev PK (c : Dev nD) : FVec Ideal S4x4096x192 .f32 := m ((c : Thread nD τ).loc main_arg6)
abbrev PV (c : Dev nD) : FVec Ideal S4x4096x128 .f32 := m ((c : Thread nD τ).loc main_arg7)
abbrev GQ (c : Dev nD) : FVec Ideal S1x192 .f32 := m ((c : Thread nD τ).loc main_arg8)
abbrev GK (c : Dev nD) : FVec Ideal S1x192 .f32 := m ((c : Thread nD τ).loc main_arg9)

/-! ## The blocks a grid point reads -/

/-- Where each window's block sits in its array. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 24] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

/-- The row of the whole array that row `r` of block `t` is. -/
def row (t : Fin cfg0.N) (r : Fin 512) : Fin 4096 := ⟨t.val * 512 + r.val, by have := t.isLt; have hN : cfg0.N = 8 := N_0; omega⟩

/-- The columns as the region finds them. -/
theorem V_cols (c : Dev nD) : (V m c main_v4 : FVec Ideal S4096x3200 .f32) = cols (Z m c) := by
  show StableHlo.after (List.flatten [hostOps0, hostOps0_1, hostOps0_2]) (fun b => m (c, b)) main_v4 = _
  simp only [List.flatten_cons, List.flatten_nil, List.append_nil, List.cons_append, List.nil_append]
  after_results <;> rfl

theorem blk0 (c : Dev nD) (t : Fin cfg0.N) (r : Fin 512) (k : Fin 768) :
    (iblk m c 0 t : Vec Ideal S512x768 .f32) (ix2 r k) = Q m c (ix2 (row t r) k) := by
  blk_simp [iblk]
  refine (congrFun (V_main_arg0 m c) _).trans (congrArg (Q m c) ?_)
  blk_ext [idx0 t, row]

theorem blk1 (c : Dev nD) (t : Fin cfg0.N) (r : Fin 512) (k : Fin 1024) :
    (iblk m c 1 t : Vec Ideal S512x1024 .f32) (ix2 r k) = KV m c (ix2 (row t r) k) := by
  blk_simp [iblk]
  refine (congrFun (V_main_arg1 m c) _).trans (congrArg (KV m c) ?_)
  blk_ext [idx1 t, row]

theorem blk2 (c : Dev nD) (t : Fin cfg0.N) (r : Fin 512) (k : Fin 64) :
    (iblk m c 2 t : Vec Ideal S512x128 .f32) (ix2 r ⟨k.val, by omega⟩) = Z m c (ix2 (row t r) ⟨512 + k.val, by omega⟩) := by
  blk_simp [iblk]
  refine (congrFun (V_cols m c) _).trans ((congrArg (cols (Z m c)) ?_).trans (cols_kr (Z m c) (row t r) k))
  blk_ext [idx2 t, row]

theorem blk3 (c : Dev nD) (t : Fin cfg0.N) (r : Fin 512) (k : Fin 32) :
    (iblk m c 3 t : Vec Ideal S512x32 .f32) (ix2 r k) = CS m c (ix2 (row t r) k) := by
  blk_simp [iblk]
  refine (congrFun (V_main_arg3 m c) _).trans (congrArg (CS m c) ?_)
  blk_ext [idx3 t, row]

theorem blk4 (c : Dev nD) (t : Fin cfg0.N) (r : Fin 512) (k : Fin 32) :
    (iblk m c 4 t : Vec Ideal S512x32 .f32) (ix2 r k) = SN m c (ix2 (row t r) k) := by
  blk_simp [iblk]
  refine (congrFun (V_main_arg4 m c) _).trans (congrArg (SN m c) ?_)
  blk_ext [idx4 t, row]

theorem blk5 (c : Dev nD) (t : Fin cfg0.N) (h : Fin 4) (r : Fin 512) (k : Fin 192) :
    (iblk m c 5 t : Vec Ideal S4x512x192 .f32) (ix3 h r k) = PQ m c (ix3 h (row t r) k) := by
  blk_simp [iblk]
  refine (congrFun (V_main_arg5 m c) _).trans (congrArg (PQ m c) ?_)
  blk_ext [idx5 t, row]

theorem blk6 (c : Dev nD) (t : Fin cfg0.N) (h : Fin 4) (r : Fin 512) (k : Fin 192) :
    (iblk m c 6 t : Vec Ideal S4x512x192 .f32) (ix3 h r k) = PK m c (ix3 h (row t r) k) := by
  blk_simp [iblk]
  refine (congrFun (V_main_arg6 m c) _).trans (congrArg (PK m c) ?_)
  blk_ext [idx6 t, row]

theorem blk7 (c : Dev nD) (t : Fin cfg0.N) (h : Fin 4) (r : Fin 512) (k : Fin 128) :
    (iblk m c 7 t : Vec Ideal S4x512x128 .f32) (ix3 h r k) = PV m c (ix3 h (row t r) k) := by
  blk_simp [iblk]
  refine (congrFun (V_main_arg7 m c) _).trans (congrArg (PV m c) ?_)
  blk_ext [idx7 t, row]

theorem blk8 (c : Dev nD) (t : Fin cfg0.N) (k : Fin 192) :
    (iblk m c 8 t : Vec Ideal S1x192 .f32) (ix2 0 k) = GQ m c (ix2 0 k) := by
  blk_simp [iblk]
  refine (congrFun (V_main_arg8 m c) _).trans (congrArg (GQ m c) ?_)
  blk_ext [idx8 t]

theorem blk9 (c : Dev nD) (t : Fin cfg0.N) (k : Fin 192) :
    (iblk m c 9 t : Vec Ideal S1x192 .f32) (ix2 0 k) = GK m c (ix2 0 k) := by
  blk_simp [iblk]
  refine (congrFun (V_main_arg9 m c) _).trans (congrArg (GK m c) ?_)
  blk_ext [idx9 t]

/-! ## The result arrays -/

/-- A row of a block is the row of the whole array, head by head. -/
theorem qRow_eq (c : Dev nD) (t : Fin cfg0.N) (h : Fin 4) (r : Fin 512) : qRow (iblk m c 0 t) h r = Reference.qRow (Q m c) h (row t r) :=
  funext fun k => by unfold qRow Reference.qRow; rw [blk0]

theorem kRow_eq (c : Dev nD) (t : Fin cfg0.N) (h : Fin 4) (r : Fin 512) :
    kRow (iblk m c 1 t) (iblk m c 2 t) h r = Reference.kRow (KV m c) (Z m c) h (row t r) := by
  unfold kRow Reference.kRow
  congr 1
  · exact funext fun k => blk1 m c t r _
  · exact funext fun k => blk2 m c t r k

theorem pqRow_eq (c : Dev nD) (t : Fin cfg0.N) (h : Fin 4) (r : Fin 512) :
    pRow (iblk m c 3 t) (iblk m c 4 t) (iblk m c 5 t) h r = Reference.pRow (CS m c) (SN m c) (PQ m c) h (row t r) := by
  unfold pRow Reference.pRow
  congr 1
  · exact funext fun k => blk3 m c t r k
  · exact funext fun k => blk4 m c t r k
  · exact funext fun k => blk5 m c t h r k

theorem pkRow_eq (c : Dev nD) (t : Fin cfg0.N) (h : Fin 4) (r : Fin 512) :
    pRow (iblk m c 3 t) (iblk m c 4 t) (iblk m c 6 t) h r = Reference.pRow (CS m c) (SN m c) (PK m c) h (row t r) := by
  unfold pRow Reference.pRow
  congr 1
  · exact funext fun k => blk3 m c t r k
  · exact funext fun k => blk4 m c t r k
  · exact funext fun k => blk6 m c t h r k

theorem gradQ_eq (c : Dev nD) (t : Fin cfg0.N) (h : Fin 4) (r : Fin 512) :
    gradQ (iblk m c 0 t) (iblk m c 3 t) (iblk m c 4 t) (iblk m c 5 t) (iblk m c 8 t) h r
      = Reference.gradQ (Q m c) (CS m c) (SN m c) (PQ m c) (GQ m c) h (row t r) := by
  unfold gradQ Reference.gradQ
  rw [qRow_eq, pqRow_eq, show (fun k => (iblk m c 8 t : Vec Ideal S1x192 .f32) (ix2 0 k)) = fun k => GQ m c (ix2 0 k) from funext fun k => blk8 m c t k]

theorem gradK_eq (c : Dev nD) (t : Fin cfg0.N) (h : Fin 4) (r : Fin 512) :
    gradK (iblk m c 1 t) (iblk m c 2 t) (iblk m c 3 t) (iblk m c 4 t) (iblk m c 6 t) (iblk m c 9 t) h r
      = Reference.gradK (KV m c) (Z m c) (CS m c) (SN m c) (PK m c) (GK m c) h (row t r) := by
  unfold gradK Reference.gradK
  rw [kRow_eq, pkRow_eq, show (fun k => (iblk m c 9 t : Vec Ideal S1x192 .f32) (ix2 0 k)) = fun k => GK m c (ix2 0 k) from funext fun k => blk9 m c t k]

/-- The reference's five results on device `c`. -/
abbrev refQ (c : Dev nD) : FVec Ideal S4096x768 .bf16 := val_main_v173 (F := Ideal) (Q m c) (CS m c) (SN m c) (PQ m c) (GQ m c)
abbrev refKV (c : Dev nD) : FVec Ideal S4096x1024 .bf16 := val_main_v174 (F := Ideal) (KV m c) (Z m c) (CS m c) (SN m c) (PK m c) (PV m c) (GK m c)
abbrev refKR (c : Dev nD) : FVec Ideal S4096x128 .bf16 := val_main_v175 (F := Ideal) (KV m c) (Z m c) (CS m c) (SN m c) (PK m c) (GK m c)
abbrev refGQ (c : Dev nD) : FVec Ideal S1x192 .f32 := val_main_v161 (F := Ideal) (Q m c) (CS m c) (SN m c) (PQ m c)
abbrev refGK (c : Dev nD) : FVec Ideal S1x192 .f32 := val_main_v140 (F := Ideal) (KV m c) (Z m c) (CS m c) (SN m c) (PK m c)

/-- What one point computes for each of the five results. -/
abbrev ptQ (c : Dev nD) (t : Fin cfg0.N) := dQ (iblk m c 0 t) (iblk m c 3 t) (iblk m c 4 t) (iblk m c 5 t) (iblk m c 8 t)
abbrev ptKV (c : Dev nD) (t : Fin cfg0.N) := dKV (iblk m c 1 t) (iblk m c 2 t) (iblk m c 3 t) (iblk m c 4 t) (iblk m c 6 t) (iblk m c 7 t) (iblk m c 9 t)
abbrev ptKR (c : Dev nD) (t : Fin cfg0.N) := dKR (iblk m c 1 t) (iblk m c 2 t) (iblk m c 3 t) (iblk m c 4 t) (iblk m c 6 t) (iblk m c 9 t)
abbrev ptGQ (c : Dev nD) (t : Fin cfg0.N) := dGQ (iblk m c 0 t) (iblk m c 3 t) (iblk m c 4 t) (iblk m c 5 t)
abbrev ptGK (c : Dev nD) (t : Fin cfg0.N) := dGK (iblk m c 1 t) (iblk m c 2 t) (iblk m c 3 t) (iblk m c 4 t) (iblk m c 6 t)

/-- What a point leaves for the query's gradient is the reference's in the rows of the block. -/
theorem block_q (c : Dev nD) (t : Fin cfg0.N) (r : Fin 512) (d : Fin 768) : ptQ m c t (ix2 r d) = refQ m c (ix2 (row t r) d) := by
  have hd : d.val = (⟨d.val / 192, by omega⟩ : Fin 4).val * 192 + (⟨d.val % 192, by omega⟩ : Fin 192).val := by simp only; omega
  exact (dQ_apply _ _ _ _ _ r d _ _ hd).trans ((congrFun (gradQ_eq m c t _ r) _).trans (Reference.dq_apply _ _ _ _ _ (row t r) d _ _ hd).symm)

/-- The same of the gradient of the keys' and values' product. -/
theorem block_kv (c : Dev nD) (t : Fin cfg0.N) (r : Fin 512) (d : Fin 1024) : ptKV m c t (ix2 r d) = refKV m c (ix2 (row t r) d) := by
  have hd : d.val = (⟨d.val / 256, by omega⟩ : Fin 4).val * 256 + (⟨d.val % 256, by omega⟩ : Fin 256).val := by simp only; omega
  refine (dKV_apply _ _ _ _ _ _ _ r d _ _ hd).trans (Eq.trans ?_ (Reference.dkv_apply _ _ _ _ _ _ _ (row t r) d _ _ hd).symm)
  rw [gradK_eq]
  split
  · rfl
  · exact blk7 m c t _ r _

/-- The same of the rotary key's gradient, the four heads' added up. -/
theorem block_kr (c : Dev nD) (t : Fin cfg0.N) (r : Fin 512) (d : Fin 128) : ptKR m c t (ix2 r d) = refKR m c (ix2 (row t r) d) := by
  refine (dKR_apply _ _ _ _ _ _ r d).trans (Eq.trans ?_ (Reference.dkr_apply _ _ _ _ _ _ (row t r) d).symm)
  simp only [gradK_eq]
  split
  · exact heads_sum fun h => Reference.gradK (KV m c) (Z m c) (CS m c) (SN m c) (PK m c) (GK m c) h (row t r) _
  · rfl

/-- The result array is the reference's. -/
theorem final_q (c : Dev nD) : (dats m 0 c).arrAt 10 cfg0.N = refQ m c := by
  refine (dats m 0 c).arrAt_eq_of_covers 10 _ (by decide +kernel) fun t _ y => ?_
  blk_simp
  rw [after0_10]
  have hN : cfg0.N = 8 := N_0
  have ht : t.val < cfg0.N := t.isLt
  have e : ((View.whole main_v5_0).slice (win0_10.rect t)).emb y = (ix2 (row t (y 0)) (y 1) : S4096x768.Idx) := by
    blk_ext [idx10 t, row]
  rw [e, ← block_q m c t (y 0) (y 1)]
  by_cases h : t.val % 8 = 0
  · rw [outsAt0_A m c t h (by omega) h (by omega)]
    frame_out
    exact congrArg _ (eq_ix2 y)
  · rw [outsAt0_B m c t h (by omega) h (by omega)]
    frame_out
    exact congrArg _ (eq_ix2 y)

/-- The result array is the reference's. -/
theorem final_kv (c : Dev nD) : (dats m 0 c).arrAt 11 cfg0.N = refKV m c := by
  refine (dats m 0 c).arrAt_eq_of_covers 11 _ (by decide +kernel) fun t _ y => ?_
  blk_simp
  rw [after0_11]
  have hN : cfg0.N = 8 := N_0
  have ht : t.val < cfg0.N := t.isLt
  have e : ((View.whole main_v5_1).slice (win0_11.rect t)).emb y = (ix2 (row t (y 0)) (y 1) : S4096x1024.Idx) := by
    blk_ext [idx11 t, row]
  rw [e, ← block_kv m c t (y 0) (y 1)]
  by_cases h : t.val % 8 = 0
  · rw [outsAt0_A m c t h (by omega) h (by omega)]
    frame_out
    exact congrArg _ (eq_ix2 y)
  · rw [outsAt0_B m c t h (by omega) h (by omega)]
    frame_out
    exact congrArg _ (eq_ix2 y)

/-- The result array is the reference's. -/
theorem final_kr (c : Dev nD) : (dats m 0 c).arrAt 12 cfg0.N = refKR m c := by
  refine (dats m 0 c).arrAt_eq_of_covers 12 _ (by decide +kernel) fun t _ y => ?_
  blk_simp
  rw [after0_12]
  have hN : cfg0.N = 8 := N_0
  have ht : t.val < cfg0.N := t.isLt
  have e : ((View.whole main_v5_2).slice (win0_12.rect t)).emb y = (ix2 (row t (y 0)) (y 1) : S4096x128.Idx) := by
    blk_ext [idx12 t, row]
  rw [e, ← block_kr m c t (y 0) (y 1)]
  by_cases h : t.val % 8 = 0
  · rw [outsAt0_A m c t h (by omega) h (by omega)]
    frame_out
    exact congrArg _ (eq_ix2 y)
  · rw [outsAt0_B m c t h (by omega) h (by omega)]
    frame_out
    exact congrArg _ (eq_ix2 y)

/-- The blocks' sums of the gain's gradient, added up, are the reference's sum over all rows and heads. -/
theorem gq_sum (c : Dev nD) (i : Fin 1) (d : Fin 192) : ∑ t : Fin cfg0.N, ptGQ m c t (ix2 i d) = refGQ m c (ix2 i d) := by
  have hN : cfg0.N = 8 := N_0
  refine Eq.trans ?_ ((Reference.dgq_apply _ _ _ _ i d).trans (sum_tiles (N := cfg0.N) (B := 512) (by rw [hN]) _ row fun _ _ => rfl)).symm
  refine Finset.sum_congr rfl fun t _ => (dGQ_apply _ _ _ _ i d).trans ((heads_sum fun h => gainQ _ _ _ _ h d).trans ?_)
  unfold gainQ Reference.gainQ
  rw [Finset.sum_comm]
  refine Finset.sum_congr rfl fun r _ => Finset.sum_congr rfl fun h _ => ?_
  rw [qRow_eq, pqRow_eq]

/-- The gain's gradient is the reference's. -/
theorem final_gq (c : Dev nD) : (dats m 0 c).arrAt 13 cfg0.N = refGQ m c := by
  have hN : cfg0.N = 8 := N_0
  refine (dats m 0 c).arrAt_eq_of_after_last 13 t0_7 (by decide +kernel) _ fun j => ?_
  blk_simp
  rw [after0_13, Pipeline.eq_sum_fin_of_reset_step_apply_last (fun n h => (outsAt0 m c n h).2.2.2.1) 8 (fun _ => 0)
      (fun t => ptGQ m c t)
      (fun t h j => by rw [outsAt0_A m c t h (by have := t.isLt; omega) h (by have := t.isLt; omega)]; frame_out; rw [zero_add]; rfl)
      (fun t h j => by rw [outsAt0_B m c t h (by omega) h (by omega)]; frame_out; rw [dGQ_step]; rfl)
      (le_of_eq N_0) t0_7 rfl j, zero_add]
  obtain ⟨i, d, rfl⟩ : ∃ (i : Fin 1) (d : Fin 192), j = ix2 i d := ⟨j 0, j 1, eq_ix2 j⟩
  exact gq_sum m c i d

/-- The blocks' sums of the gain's gradient, added up, are the reference's sum over all rows and heads. -/
theorem gk_sum (c : Dev nD) (i : Fin 1) (d : Fin 192) : ∑ t : Fin cfg0.N, ptGK m c t (ix2 i d) = refGK m c (ix2 i d) := by
  have hN : cfg0.N = 8 := N_0
  refine Eq.trans ?_ ((Reference.dgk_apply _ _ _ _ _ i d).trans (sum_tiles (N := cfg0.N) (B := 512) (by rw [hN]) _ row fun _ _ => rfl)).symm
  refine Finset.sum_congr rfl fun t _ => (dGK_apply _ _ _ _ _ i d).trans ((heads_sum fun h => gainK _ _ _ _ _ h d).trans ?_)
  unfold gainK Reference.gainK
  rw [Finset.sum_comm]
  refine Finset.sum_congr rfl fun r _ => Finset.sum_congr rfl fun h _ => ?_
  rw [kRow_eq, pkRow_eq]

/-- The gain's gradient is the reference's. -/
theorem final_gk (c : Dev nD) : (dats m 0 c).arrAt 14 cfg0.N = refGK m c := by
  have hN : cfg0.N = 8 := N_0
  refine (dats m 0 c).arrAt_eq_of_after_last 14 t0_7 (by decide +kernel) _ fun j => ?_
  blk_simp
  rw [after0_14, Pipeline.eq_sum_fin_of_reset_step_apply_last (fun n h => (outsAt0 m c n h).2.2.2.2) 8 (fun _ => 0)
      (fun t => ptGK m c t)
      (fun t h j => by rw [outsAt0_A m c t h (by have := t.isLt; omega) h (by have := t.isLt; omega)]; frame_out; rw [zero_add]; rfl)
      (fun t h j => by rw [outsAt0_B m c t h (by omega) h (by omega)]; frame_out; rw [dGK_step]; rfl)
      (le_of_eq N_0) t0_7 rfl j, zero_add]
  obtain ⟨i, d, rfl⟩ : ∃ (i : Fin 1) (d : Fin 192), j = ix2 i d := ⟨j 0, j 1, eq_ix2 j⟩
  exact gk_sum m c i d

/-! ## The claims -/

/-- The reference runs, leaves its arguments as they were and every semaphore at zero. -/
theorem frame_ref : Cert.quiescent_HeadNormRefIdeal := fun m ρ _ =>
  (θ_run Cert.HeadNormRefIdeal.defs _ _).mono
    (fun r h => ⟨fun c => (h c).2.2.2.2.2, sem_eq_zero_of_no_sems (by decide) r.2⟩) (Cert.HeadNormRefIdeal.Value.run (F := Ideal) m ρ)

/-- At the ideal values the kernel and the reference end with the same five arrays. -/
theorem algebraic : Cert.algebraic_HeadNormBwdIdeal_HeadNormRefIdeal := by
  intro m ρ m' ρ' _ hagree
  refine ⟨refQ m, refKV m, refKR m, refGQ m, refGK m, ?_, ?_⟩
  · refine (θ_run Cert.HeadNormBwdIdeal.defs _ _).mono (fun _ h c => ?_) (HeadNormBwdIdeal.Value.run_blocks (F := Ideal) m ρ)
    exact ⟨(h c).1.trans (final_q m c), (h c).2.1.trans (final_kv m c), (h c).2.2.1.trans (final_kr m c), (h c).2.2.2.1.trans (final_gq m c),
      (h c).2.2.2.2.1.trans (final_gk m c), (h c).2.2.2.2.2⟩
  · refine (θ_run Cert.HeadNormRefIdeal.defs _ _).mono (fun _ h c => ?_) (Cert.HeadNormRefIdeal.Value.run (F := Ideal) m' ρ')
    obtain ⟨e0, e1, e2, e3, e4, e5, e6, e7, e8, e9⟩ := hagree c
    refine ⟨(h c).1.trans ?_, (h c).2.1.trans ?_, (h c).2.2.1.trans ?_, (h c).2.2.2.1.trans ?_, (h c).2.2.2.2.1.trans ?_, (h c).2.2.2.2.2⟩
    · rw [val_main_v173_eq]
      show val_main_v173 (F := Ideal) (m' ((c : Thread Cert.HeadNormRefIdeal.nD Cert.HeadNormRefIdeal.τ).loc Cert.HeadNormRefIdeal.main_arg0)) (m' ((c : Thread Cert.HeadNormRefIdeal.nD Cert.HeadNormRefIdeal.τ).loc Cert.HeadNormRefIdeal.main_arg3)) (m' ((c : Thread Cert.HeadNormRefIdeal.nD Cert.HeadNormRefIdeal.τ).loc Cert.HeadNormRefIdeal.main_arg4)) (m' ((c : Thread Cert.HeadNormRefIdeal.nD Cert.HeadNormRefIdeal.τ).loc Cert.HeadNormRefIdeal.main_arg5)) (m' ((c : Thread Cert.HeadNormRefIdeal.nD Cert.HeadNormRefIdeal.τ).loc Cert.HeadNormRefIdeal.main_arg8)) = _
      rw [e0, e3, e4, e5, e8]
    · rw [val_main_v174_eq]
      show val_main_v174 (F := Ideal) (m' ((c : Thread Cert.HeadNormRefIdeal.nD Cert.HeadNormRefIdeal.τ).loc Cert.HeadNormRefIdeal.main_arg1)) (m' ((c : Thread Cert.HeadNormRefIdeal.nD Cert.HeadNormRefIdeal.τ).loc Cert.HeadNormRefIdeal.main_arg2)) (m' ((c : Thread Cert.HeadNormRefIdeal.nD Cert.HeadNormRefIdeal.τ).loc Cert.HeadNormRefIdeal.main_arg3)) (m' ((c : Thread Cert.HeadNormRefIdeal.nD Cert.HeadNormRefIdeal.τ).loc Cert.HeadNormRefIdeal.main_arg4)) (m' ((c : Thread Cert.HeadNormRefIdeal.nD Cert.HeadNormRefIdeal.τ).loc Cert.HeadNormRefIdeal.main_arg6)) (m' ((c : Thread Cert.HeadNormRefIdeal.nD Cert.HeadNormRefIdeal.τ).loc Cert.HeadNormRefIdeal.main_arg7)) (m' ((c : Thread Cert.HeadNormRefIdeal.nD Cert.HeadNormRefIdeal.τ).loc Cert.HeadNormRefIdeal.main_arg9)) = _
      rw [e1, e2, e3, e4, e6, e7, e9]
    · rw [val_main_v175_eq]
      show val_main_v175 (F := Ideal) (m' ((c : Thread Cert.HeadNormRefIdeal.nD Cert.HeadNormRefIdeal.τ).loc Cert.HeadNormRefIdeal.main_arg1)) (m' ((c : Thread Cert.HeadNormRefIdeal.nD Cert.HeadNormRefIdeal.τ).loc Cert.HeadNormRefIdeal.main_arg2)) (m' ((c : Thread Cert.HeadNormRefIdeal.nD Cert.HeadNormRefIdeal.τ).loc Cert.HeadNormRefIdeal.main_arg3)) (m' ((c : Thread Cert.HeadNormRefIdeal.nD Cert.HeadNormRefIdeal.τ).loc Cert.HeadNormRefIdeal.main_arg4)) (m' ((c : Thread Cert.HeadNormRefIdeal.nD Cert.HeadNormRefIdeal.τ).loc Cert.HeadNormRefIdeal.main_arg6)) (m' ((c : Thread Cert.HeadNormRefIdeal.nD Cert.HeadNormRefIdeal.τ).loc Cert.HeadNormRefIdeal.main_arg9)) = _
      rw [e1, e2, e3, e4, e6, e9]
    · rw [val_main_v161_eq]
      show val_main_v161 (F := Ideal) (m' ((c : Thread Cert.HeadNormRefIdeal.nD Cert.HeadNormRefIdeal.τ).loc Cert.HeadNormRefIdeal.main_arg0)) (m' ((c : Thread Cert.HeadNormRefIdeal.nD Cert.HeadNormRefIdeal.τ).loc Cert.HeadNormRefIdeal.main_arg3)) (m' ((c : Thread Cert.HeadNormRefIdeal.nD Cert.HeadNormRefIdeal.τ).loc Cert.HeadNormRefIdeal.main_arg4)) (m' ((c : Thread Cert.HeadNormRefIdeal.nD Cert.HeadNormRefIdeal.τ).loc Cert.HeadNormRefIdeal.main_arg5)) = _
      rw [e0, e3, e4, e5]
    · rw [val_main_v140_eq]
      show val_main_v140 (F := Ideal) (m' ((c : Thread Cert.HeadNormRefIdeal.nD Cert.HeadNormRefIdeal.τ).loc Cert.HeadNormRefIdeal.main_arg1)) (m' ((c : Thread Cert.HeadNormRefIdeal.nD Cert.HeadNormRefIdeal.τ).loc Cert.HeadNormRefIdeal.main_arg2)) (m' ((c : Thread Cert.HeadNormRefIdeal.nD Cert.HeadNormRefIdeal.τ).loc Cert.HeadNormRefIdeal.main_arg3)) (m' ((c : Thread Cert.HeadNormRefIdeal.nD Cert.HeadNormRefIdeal.τ).loc Cert.HeadNormRefIdeal.main_arg4)) (m' ((c : Thread Cert.HeadNormRefIdeal.nD Cert.HeadNormRefIdeal.τ).loc Cert.HeadNormRefIdeal.main_arg6)) = _
      rw [e1, e2, e3, e4, e6]

end Cert.HeadNorm

end
-- ==== Proof.AttnFwdSteps.lean ====
/- One chunk of keys of the forward attention: what the running maximum, sum and weighted sum become. -/
module

public import proofs.«01_k».proof.Proof.Reals
public import proofs.«01_k».proof.Proof.Gen.AttnFwdIdeal.Skeleton
public import Idealize.ShloMosaic.Lib.Pointwise

@[expose] public section

set_option maxRecDepth 16384

noncomputable section

namespace Cert.AttnFwdValue

open Idealize.ShloMosaic Idealize.ShloMosaic.TcCoe Idealize.SL.Sem
open Cert.AttnFwdIdeal Cert.AttnFwdIdeal.Gen Cert.Common

/-- The score's factor over log 2, and the inverse of log 2: the constants of the kernel. -/
def c2 : EReal := Named.named (F := Ideal) (φ := .f32) κ "c2" 0x3DD53B95#32
def log2e : EReal := Named.named (F := Ideal) (φ := .f32) κ "log2e" 0x3FB8AA3B#32

theorem c2_coe : c2 = (((Real.sqrt 192)⁻¹ * (Real.log 2)⁻¹ : ℝ) : EReal) := IdealRules.named_const.ideal_named_scalar _ _ _ _ rfl
theorem log2e_coe : log2e = (((Real.log 2)⁻¹ : ℝ) : EReal) := IdealRules.named_const.ideal_named_scalar _ _ _ _ rfl

/-- The largest of finitely many real numbers, from minus infinity, is real. -/
theorem isReal_fold_max {ι : Type*} [DecidableEq ι] (s : Finset ι) (hs : s.Nonempty) (f : ι → EReal) (hf : ∀ i, IsReal (f i)) :
    IsReal (s.fold max ⊥ f) := by
  induction hs using Finset.Nonempty.cons_induction with
  | singleton a => rw [Finset.fold_singleton]; rw [max_eq_left bot_le]; exact hf a
  | cons a s h _ ih => rw [Finset.fold_cons]; exact isReal_max_left (.inr (hf a)) ih

/-- The same of a vector's maximum over one axis. -/
theorem isReal_multi_max {s t : Shape} {a : Fin s.rank} (x : FVec Ideal s .f32) (b : BitVec 32) (h : s.Reduces [a] t)
    (hφ : FKind.Formats .f32) (hacc : b = FKind.maximumf.neutral .f32 hφ) (hb : Ideal.ofBits .f32 b = ⊥) (ha : 0 < s.size a)
    (hx : ∀ i, IsReal (x i)) (j : t.Idx) : IsReal (multiReduction .maximumf [a] t x b h hφ hacc j) := by
  refine (Ideal.multiReduction_maximumf_single x b h hφ hacc j).symm ▸ ?_
  show IsReal (Finset.fold max (Ideal.ofBits .f32 b) _ _)
  rw [hb]
  exact isReal_fold_max _ ⟨⟨0, ha⟩, Finset.mem_univ _⟩ _ fun _ => hx _

section
variable (q : FVec Ideal S1024x192 .bf16) (m l : FVec Ideal S1024x1 .f32) (acc : FVec Ideal S1024x128 .f32)
  (k : Vec Ideal S1x1024x192 .bf16) (v : Vec Ideal S1x1024x128 .bf16)

/-- The score of query `r` and the chunk's key `j`, before its factor. -/
theorem score_apply (r j : Fin 1024) : k0_pay11 q k (ix2 r j) = ∑ d : Fin 192, q (ix2 r d) * k (ix3 0 j d) := by
  pointwise [k0_pay11]

/-- The weight of key `j` in row `r`, over the new maximum. -/
theorem weight_apply (r j : Fin 1024) :
    k0_pay13 q m k (ix2 r j) = Ideal.exp2 ((k0_pay11 q k (ix2 r j) - k0_pay12 q m k (ix2 r 0)) * c2) := by
  pointwise [k0_pay13, c2]
  rfl

/-- The factor that takes what was summed to the new maximum. -/
theorem rescale_apply (r : Fin 1024) :
    k0_pay14 q m k (ix2 r 0) = Ideal.exp2 ((m (ix2 r 0) - k0_pay12 q m k (ix2 r 0)) * c2) := by
  pointwise [k0_pay14, c2]
  rfl

/-- The new sum of a row, and its new weighted sum of values. -/
theorem sum_apply (r : Fin 1024) :
    k0_pay15 q m l k (ix2 r 0) = l (ix2 r 0) * k0_pay14 q m k (ix2 r 0) + ∑ j : Fin 1024, k0_pay13 q m k (ix2 r j) := by
  pointwise [k0_pay15]

theorem wsum_apply (r : Fin 1024) (d : Fin 128) :
    k0_pay16 q m acc k v (ix2 r d)
      = acc (ix2 r d) * k0_pay14 q m k (ix2 r 0) + ∑ j : Fin 1024, k0_pay13 q m k (ix2 r j) * v (ix3 0 j d) := by
  pointwise [k0_pay16]

/-- The new maximum of a row of real scores is real. -/
theorem isReal_top (r : Fin 1024) (hm : m (ix2 r 0) = ⊥ ∨ IsReal (m (ix2 r 0))) (hs : ∀ i, IsReal (k0_pay11 q k i)) :
    IsReal (k0_pay12 q m k (ix2 r 0)) := by
  exact isReal_max_left hm (isReal_multi_max _ _ _ _ _ ofBits_neg_inf_f32 (by decide) hs _)

end

/-! ## Real scores -/

/-- The factor of the scores. -/
def fac : ℝ := (Real.sqrt 192)⁻¹

/-- The kernel's power of two is the exponential of the score times its factor. -/
theorem exp2_c2 (x : ℝ) : Ideal.exp2 ((x : EReal) * c2) = ((Real.exp (x * fac) : ℝ) : EReal) := by
  rw [c2_coe, ← EReal.coe_mul, Ideal.exp2_coe]
  refine congrArg _ ((Real.rpow_def_of_pos (by norm_num) _).trans (congrArg Real.exp ?_))
  have h2 : Real.log 2 ≠ 0 := (Real.log_pos (by norm_num)).ne'
  show Real.log 2 * (x * (fac * (Real.log 2)⁻¹)) = x * fac
  field_simp

/-- After some chunks: the maxima are `μ`, and the sums `Z` and weighted sums `A` are held over them. -/
def Known (Z : Fin 1024 → ℝ) (A : Fin 1024 → Fin 128 → ℝ) (m l : FVec Ideal S1024x1 .f32) (acc : FVec Ideal S1024x128 .f32) : Prop :=
  ∃ μ : Fin 1024 → ℝ, ∀ r, m (ix2 r 0) = (μ r : EReal) ∧ l (ix2 r 0) = ((Z r * Real.exp (-(μ r * fac)) : ℝ) : EReal)
    ∧ ∀ d, acc (ix2 r d) = ((A r d * Real.exp (-(μ r * fac)) : ℝ) : EReal)

/-- What the next chunk needs: taken to any real maximum, the sums are `Z` and `A` over it. -/
structure Held (Z : Fin 1024 → ℝ) (A : Fin 1024 → Fin 128 → ℝ) (m l : FVec Ideal S1024x1 .f32) (acc : FVec Ideal S1024x128 .f32) : Prop where
  top : ∀ r, m (ix2 r 0) = ⊥ ∨ IsReal (m (ix2 r 0))
  sum : ∀ r (μ : ℝ), l (ix2 r 0) * Ideal.exp2 ((m (ix2 r 0) - μ) * c2) = ((Z r * Real.exp (-(μ * fac)) : ℝ) : EReal)
  wsum : ∀ r d (μ : ℝ), acc (ix2 r d) * Ideal.exp2 ((m (ix2 r 0) - μ) * c2) = ((A r d * Real.exp (-(μ * fac)) : ℝ) : EReal)

theorem rescale_real (z μ ν : ℝ) :
    ((z * Real.exp (-(μ * fac)) : ℝ) : EReal) * Ideal.exp2 (((μ : EReal) - (ν : EReal)) * c2) = ((z * Real.exp (-(ν * fac)) : ℝ) : EReal) := by
  rw [← EReal.coe_sub, exp2_c2, ← EReal.coe_mul, mul_assoc, ← Real.exp_add]
  congr 4
  ring

theorem Known.held {Z : Fin 1024 → ℝ} {A : Fin 1024 → Fin 128 → ℝ} {m l : FVec Ideal S1024x1 .f32} {acc : FVec Ideal S1024x128 .f32}
    (h : Known Z A m l acc) : Held Z A m l acc := by
  obtain ⟨μ, h⟩ := h
  refine ⟨fun r => .inr ⟨_, (h r).1⟩, fun r ν => ?_, fun r d ν => ?_⟩
  · rw [(h r).1, (h r).2.1]; exact rescale_real _ _ _
  · rw [(h r).1, (h r).2.2 d]; exact rescale_real _ _ _

/-- The sums the first chunk starts from. -/
def zero1 : FVec Ideal S1024x1 .f32 := broadcast S1024x1 (Scalar.ofBits .f32 0x00000000#32)
def zero128 : FVec Ideal S1024x128 .f32 := broadcast S1024x128 (Scalar.ofBits .f32 0x00000000#32)

theorem held_zero : Held (fun _ => 0) (fun _ _ => 0) (k0_pay4 (F := Ideal)) zero1 zero128 where
  top _ := .inl ofBits_neg_inf_f32
  sum r μ := by
    have e : zero1 (ix2 r 0) = 0 := Ideal.ofBits_zero_f32
    rw [e, zero_mul, zero_mul, EReal.coe_zero]
  wsum r d μ := by
    have e : zero128 (ix2 r d) = 0 := Ideal.ofBits_zero_f32
    rw [e, zero_mul, zero_mul, EReal.coe_zero]

/-- One chunk adds its exponentials to the sum, and its weighted values to the weighted sum. -/
theorem step {Z : Fin 1024 → ℝ} {A : Fin 1024 → Fin 128 → ℝ} {q : FVec Ideal S1024x192 .bf16} {m l : FVec Ideal S1024x1 .f32}
    {acc : FVec Ideal S1024x128 .f32} {k : Vec Ideal S1x1024x192 .bf16} {v : Vec Ideal S1x1024x128 .bf16}
    {S : Fin 1024 → Fin 1024 → ℝ} {V : Fin 1024 → Fin 128 → ℝ} (hS : ∀ r j, k0_pay11 q k (ix2 r j) = (S r j : EReal))
    (hV : ∀ j d, v (ix3 0 j d) = (V j d : EReal)) (h : Held Z A m l acc) :
    Known (fun r => Z r + ∑ j, Real.exp (S r j * fac)) (fun r d => A r d + ∑ j, Real.exp (S r j * fac) * V j d)
      (k0_pay12 q m k) (k0_pay15 q m l k) (k0_pay16 q m acc k v) := by
  have top : ∀ r, IsReal (k0_pay12 q m k (ix2 r 0)) := fun r =>
    isReal_top q m k r (h.top r) fun i => ⟨_, (congrArg (k0_pay11 q k) (eq_ix2 i)).trans (hS _ _)⟩
  choose μ hμ using top
  have w : ∀ r j, k0_pay13 q m k (ix2 r j) = ((Real.exp (S r j * fac) * Real.exp (-(μ r * fac)) : ℝ) : EReal) := by
    intro r j
    rw [weight_apply, hS, hμ, ← EReal.coe_sub, exp2_c2, ← Real.exp_add]
    congr 2
    ring
  refine ⟨μ, fun r => ⟨hμ r, ?_, fun d => ?_⟩⟩
  · rw [sum_apply, rescale_apply, hμ, h.sum r (μ r), add_mul, EReal.coe_add, Finset.sum_mul, coe_sum]
    exact congrArg _ (Finset.sum_congr rfl fun j _ => w r j)
  · rw [wsum_apply, rescale_apply, hμ, h.wsum r d (μ r), add_mul, EReal.coe_add, Finset.sum_mul, coe_sum]
    refine congrArg _ (Finset.sum_congr rfl fun j _ => ?_)
    rw [w r j, hV, ← EReal.coe_mul]
    congr 1
    ring

/-- After the last chunk: the weighted sum over the sum, and the sum's logarithm to base two. -/
theorem Known.out {Z : Fin 1024 → ℝ} {A : Fin 1024 → Fin 128 → ℝ} {m l : FVec Ideal S1024x1 .f32} {acc : FVec Ideal S1024x128 .f32}
    (h : Known Z A m l acc) (hZ : ∀ r, 0 < Z r) (r : Fin 1024) (d : Fin 128) :
    divf acc (broadcastTo S1024x128 l broadcasts_S1024x1_S1024x128) (ix2 r d) = ((A r d / Z r : ℝ) : EReal) := by
  obtain ⟨μ, h⟩ := h
  have e : divf acc (broadcastTo S1024x128 l broadcasts_S1024x1_S1024x128) (ix2 r d) = Ideal.div (acc (ix2 r d)) (l (ix2 r 0)) := by
    pointwise []
    try rfl
  have hp : Z r * Real.exp (-(μ r * fac)) ≠ 0 := (mul_pos (hZ r) (Real.exp_pos _)).ne'
  rw [e, (h r).2.1, (h r).2.2 d, div_coe_coe _ hp, mul_div_mul_right _ _ (Real.exp_pos _).ne']

theorem Known.log {Z : Fin 1024 → ℝ} {A : Fin 1024 → Fin 128 → ℝ} {m l : FVec Ideal S1024x1 .f32} {acc : FVec Ideal S1024x128 .f32}
    (h : Known Z A m l acc) (hZ : ∀ r, 0 < Z r) (r : Fin 1024) :
    k0_pay2 m l (ix3 0 r 0) = ((Real.log (Z r) / Real.log 2 : ℝ) : EReal) := by
  obtain ⟨μ, h⟩ := h
  have e : k0_pay2 m l (ix3 0 r 0) = m (ix2 r 0) * c2 + Ideal.log (l (ix2 r 0)) * log2e := by
    pointwise [k0_pay2, c2, log2e]
    try rfl
  have hp : 0 < Z r * Real.exp (-(μ r * fac)) := mul_pos (hZ r) (Real.exp_pos _)
  rw [e, (h r).1, (h r).2.1, Ideal.log_coe, if_neg (not_le.2 hp), c2_coe, log2e_coe, ← EReal.coe_mul, ← EReal.coe_mul, ← EReal.coe_add,
    Real.log_mul (hZ r).ne' (Real.exp_pos _).ne', Real.log_exp]
  congr 1
  show μ r * (fac * _) + _ = _
  rw [div_eq_mul_inv]
  ring

/-! ## The four chunks -/

/-- A sum over the numbers below four is the sum over the four chunks. -/
theorem sum_four {M : Type*} [AddCommMonoid M] (f : Fin 4 → M) : ∑ i ∈ Finset.range (3 + 1), f (Fin.ofNat 4 i) = ∑ c, f c := by
  rw [Finset.sum_range]
  exact Finset.sum_congr rfl fun c _ => congrArg f (Fin.ext (Nat.mod_eq_of_lt c.isLt))

section
variable (q : Vec Ideal S1x1024x192 .bf16) (k : Fin 4 → Vec Ideal S1x1024x192 .bf16) (v : Fin 4 → Vec Ideal S1x1024x128 .bf16)

/-- The maxima, the sums and the weighted sums after `n` chunks. -/
def state : ℕ → FVec Ideal S1024x1 .f32 × FVec Ideal S1024x1 .f32 × FVec Ideal S1024x128 .f32
  | 0 => (k0_pay4, zero1, zero128)
  | n + 1 => let s := state n; let c := Fin.ofNat 4 n
    (k0_pay12 (k0_pay3 q) s.1 (k c), k0_pay15 (k0_pay3 q) s.1 s.2.1 (k c), k0_pay16 (k0_pay3 q) s.1 s.2.2 (k c) (v c))

/-- The block of the result, and of the log-sums. -/
def outBlock : Vec Ideal S1024x128 .f32 :=
  divf (state q k v 4).2.2 (broadcastTo S1024x128 (state q k v 4).2.1 broadcasts_S1024x1_S1024x128)
def logBlock : Vec Ideal S1x1024x1 .f32 := k0_pay2 (state q k v 4).1 (state q k v 4).2.1

variable (Q : Fin 1024 → Fin 192 → ℝ) (K : Fin 4 → Fin 1024 → Fin 192 → ℝ) (V : Fin 4 → Fin 1024 → Fin 128 → ℝ)

/-- The exponential of a score. -/
def ew (c : Fin 4) (r j : Fin 1024) : ℝ := Real.exp ((∑ d, Q r d * K c j d) * fac)

variable {q k v Q K V} (hq : ∀ r d, q (ix3 0 r d) = (Q r d : EReal)) (hk : ∀ c j d, k c (ix3 0 j d) = (K c j d : EReal))
  (hv : ∀ c j d, v c (ix3 0 j d) = (V c j d : EReal))
include hq hk hv

theorem state_known : ∀ n : ℕ, Known (fun r => ∑ i ∈ Finset.range (n + 1), ∑ j, ew Q K (Fin.ofNat 4 i) r j)
    (fun r d => ∑ i ∈ Finset.range (n + 1), ∑ j, ew Q K (Fin.ofNat 4 i) r j * V (Fin.ofNat 4 i) j d)
    (state q k v (n + 1)).1 (state q k v (n + 1)).2.1 (state q k v (n + 1)).2.2 := by
  have hS : ∀ c r j, k0_pay11 (k0_pay3 q) (k c) (ix2 r j) = ((∑ d, Q r d * K c j d : ℝ) : EReal) := by
    intro c r j
    rw [score_apply, ← sum_coe_mul]
    refine Finset.sum_congr rfl fun d _ => ?_
    have e : k0_pay3 q (ix2 r d) = q (ix3 0 r d) := by pointwise [k0_pay3]
    rw [e, hq, hk]
  intro n
  induction n with
  | zero =>
    simp only [zero_add, Finset.range_one, Finset.sum_singleton]
    have := step (hS (Fin.ofNat 4 0)) (hv (Fin.ofNat 4 0)) held_zero
    simp only [zero_add] at this
    exact this
  | succ n ih =>
    simp only [Finset.sum_range_succ _ (n + 1)]
    exact step (hS _) (hv _) ih.held

theorem total_pos (r : Fin 1024) : 0 < ∑ c, ∑ j, ew Q K c r j :=
  Finset.sum_pos (fun _ _ => Finset.sum_pos (fun _ _ => Real.exp_pos _) ⟨0, Finset.mem_univ _⟩) ⟨0, Finset.mem_univ _⟩

theorem last_known : Known (fun r => ∑ c, ∑ j, ew Q K c r j) (fun r d => ∑ c, ∑ j, ew Q K c r j * V c j d)
    (state q k v 4).1 (state q k v 4).2.1 (state q k v 4).2.2 := by
  have h := state_known hq hk hv 3
  rwa [funext fun r => sum_four fun c => ∑ j, ew Q K c r j,
    funext fun r => funext fun d => sum_four fun c => ∑ j, ew Q K c r j * V c j d] at h

theorem outBlock_apply (r : Fin 1024) (d : Fin 128) :
    outBlock q k v (ix2 r d) = (((∑ c, ∑ j, ew Q K c r j * V c j d) / ∑ c, ∑ j, ew Q K c r j : ℝ) : EReal) :=
  (last_known hq hk hv).out (total_pos hq hk hv) r d

theorem logBlock_apply (r : Fin 1024) :
    logBlock q k v (ix3 0 r 0) = ((Real.log (∑ c, ∑ j, ew Q K c r j) / Real.log 2 : ℝ) : EReal) :=
  (last_known hq hk hv).log (total_pos hq hk hv) r

end

end Cert.AttnFwdValue

end
-- ==== Proof.AttnFwdReference.lean ====
/- The forward attention's reference at finite arguments: its two results, at an index, over the exponentials of the scores. -/
module

public import proofs.«01_k».proof.Proof.AttnFwdSteps
public import proofs.«01_k».proof.Proof.Gen.AttnFwdRefIdeal.Read

@[expose] public section

set_option maxRecDepth 16384

noncomputable section

namespace Cert.AttnFwdValue

open Idealize.ShloMosaic Idealize.ShloMosaic.TcCoe Idealize.SL.Sem
open Cert.AttnFwdRefIdeal Cert.AttnFwdRefIdeal.Gen Cert.AttnFwdRefIdeal.Read Cert.Common

/-- An array of real numbers, among the extended reals. -/
abbrev E {s : Shape} (f : s.Idx → ℝ) : s.Idx → EReal := fun i => ((f i : ℝ) : EReal)

/-- The column of the result that holds component `d` of head `h`. -/
def headCol (h : Fin 4) (d : Fin 128) : Fin 512 := ⟨128 * h.val + d.val, by omega⟩

variable (q k : S4x4096x192.Idx → ℝ) (v : S4x4096x128.Idx → ℝ)

/-- The score of query `r` and key `s` in head `h`, its exponential, and a row's total of the exponentials. -/
def score (h : Fin 4) (r s : Fin 4096) : ℝ := (∑ d : Fin 192, q (ix3 h r d) * k (ix3 h s d)) * fac
def expScore (h : Fin 4) (r s : Fin 4096) : ℝ := Real.exp (score q k h r s)
def total (h : Fin 4) (r : Fin 4096) : ℝ := ∑ s : Fin 4096, expScore q k h r s

theorem total_pos' (h : Fin 4) (r : Fin 4096) : 0 < total q k h r :=
  Finset.sum_pos (fun _ _ => Real.exp_pos _) ⟨0, Finset.mem_univ _⟩

theorem ref_factor (i : S_.Idx) : val_main_v4 (F := Ideal) i = ((fac : ℝ) : EReal) := by
  rw [val_main_v4_apply, val_main_cst_apply]
  show Ideal.rsqrt (Ideal.ofBits .f32 0x43400000#32) = _
  rw [ofBits_192_coe, Ideal.rsqrt_coe, if_neg (by norm_num), if_neg (by norm_num), fac]

theorem ref_score (h : Fin 4) (r s : Fin 4096) : val_main_v6 (F := Ideal) (E q) (E k) (ix3 h r s) = (score q k h r s : EReal) := by
  rw [val_main_v6_apply, val_main_v5_apply, ref_factor, val_main_v3_apply, Ideal.mulf_def]
  unfold score
  rw [EReal.coe_mul, ← sum_coe_mul]
  refine congrArg (· * _) (Finset.sum_congr rfl fun d _ => ?_)
  rw [eq_ix3 (lidx_main_v3 (ix3 h r s) d), eq_ix3 (ridx_main_v3 (ix3 h r s) d)]
  rfl

/-- The largest score of a row, from minus infinity, is a real number. -/
theorem ref_top : ∃ tp : Fin 4 → Fin 4096 → ℝ, ∀ h r, val_main_v7 (F := Ideal) (E q) (E k) (ix2 h r) = (tp h r : EReal) := by
  have H : ∀ h r, IsReal (val_main_v7 (F := Ideal) (E q) (E k) (ix2 h r)) := by
    intro h r
    unfold val_main_v7
    refine isReal_reduce_max _ _ _ _ _ ofBits_neg_inf_f32 (fun i => ?_) (ix3 h r 0) ?_
    · exact ⟨_, (congrArg (val_main_v6 (F := Ideal) (E q) (E k)) (eq_ix3 i)).trans (ref_score q k _ _ _)⟩
    · funext a
      match a with
      | ⟨0, _⟩ => exact Fin.ext (Shape.ReducesTo.drop_apply_val_of_eq reducesTo_S4x4096x4096_S4x4096_d2 (ix3 h r 0) 0 0)
      | ⟨1, _⟩ => exact Fin.ext (Shape.ReducesTo.drop_apply_val_of_eq reducesTo_S4x4096x4096_S4x4096_d2 (ix3 h r 0) 1 1)
  choose tp htp using H
  exact ⟨tp, htp⟩

section
variable {tp : Fin 4 → Fin 4096 → ℝ} (htp : ∀ h r, val_main_v7 (F := Ideal) (E q) (E k) (ix2 h r) = (tp h r : EReal))
include htp

theorem ref_top1 (h : Fin 4) (r : Fin 4096) : val_main_v9 (F := Ideal) (E q) (E k) (ix2 h r) = (tp h r : EReal) := by
  rw [val_main_v9_apply, val_main_v8_apply, val_main_cst_1_apply, htp]
  show max (Ideal.ofBits .f32 0xFF800000#32) _ = _
  rw [ofBits_neg_inf_f32, max_eq_right bot_le]

/-- The exponentials over the row's largest score: in the weights, and again in the log-sum. -/
theorem ref_exp (h : Fin 4) (r s : Fin 4096) :
    val_main_v13 (F := Ideal) (E q) (E k) (ix3 h r s) = ((expScore q k h r s * Real.exp (-tp h r) : ℝ) : EReal) := by
  rw [val_main_v13_apply, val_main_v12_apply, ref_score, val_main_v11_apply, val_main_v10_apply,
    show idx_main_v10 (idx_main_v11 (ix3 h r s)) = ix2 h r from eq_ix2 _, ref_top1 q k htp]
  show Ideal.exp ((score q k h r s : EReal) - (tp h r : EReal)) = _
  rw [← EReal.coe_sub, Ideal.exp_coe, expScore, ← Real.exp_add, sub_eq_add_neg]

theorem ref_exp' (h : Fin 4) (r s : Fin 4096) :
    val_main_v25 (F := Ideal) (E q) (E k) (ix3 h r s) = ((expScore q k h r s * Real.exp (-tp h r) : ℝ) : EReal) := by
  rw [val_main_v25_apply, val_main_v24_apply, ref_score, val_main_v23_apply, val_main_v22_apply,
    show idx_main_v22 (idx_main_v23 (ix3 h r s)) = ix2 h r from eq_ix2 _, show val_main_v21 (F := Ideal) (E q) (E k) (ix2 h r) = _ from htp h r]
  show Ideal.exp ((score q k h r s : EReal) - (tp h r : EReal)) = _
  rw [← EReal.coe_sub, Ideal.exp_coe, expScore, ← Real.exp_add, sub_eq_add_neg]

theorem ref_total (h : Fin 4) (r : Fin 4096) :
    val_main_v14 (F := Ideal) (E q) (E k) (ix2 h r) = ((total q k h r * Real.exp (-tp h r) : ℝ) : EReal) := by
  rw [val_main_v14_apply, val_main_cst_2_apply]
  show Ideal.ofBits .f32 0x00000000#32 + _ = _
  rw [Ideal.ofBits_zero_f32, zero_add, total, Finset.sum_mul, coe_sum]
  refine Finset.sum_congr rfl fun s _ => ?_
  rw [eq_ix3 (idx_main_v14 _ s)]
  exact ref_exp q k htp h r s

theorem ref_total' (h : Fin 4) (r : Fin 4096) :
    val_main_v26 (F := Ideal) (E q) (E k) (ix2 h r) = ((total q k h r * Real.exp (-tp h r) : ℝ) : EReal) := by
  rw [val_main_v26_apply, val_main_cst_4_apply]
  show Ideal.ofBits .f32 0x00000000#32 + _ = _
  rw [Ideal.ofBits_zero_f32, zero_add, total, Finset.sum_mul, coe_sum]
  refine Finset.sum_congr rfl fun s _ => ?_
  rw [eq_ix3 (idx_main_v26 _ s)]
  exact ref_exp' q k htp h r s

/-- The weight of a key is its exponential over the total. -/
theorem ref_weight (h : Fin 4) (r s : Fin 4096) :
    val_main_v17 (F := Ideal) (E q) (E k) (ix3 h r s) = ((expScore q k h r s / total q k h r : ℝ) : EReal) := by
  rw [val_main_v17_apply, ref_exp q k htp, val_main_v16_apply, val_main_v15_apply,
    show idx_main_v15 (idx_main_v16 (ix3 h r s)) = ix2 h r from eq_ix2 _, ref_total q k htp]
  refine (div_coe_coe _ (mul_pos (total_pos' q k h r) (Real.exp_pos _)).ne').trans ?_
  rw [mul_div_mul_right _ _ (Real.exp_pos _).ne']

end

/-- The result: the weighted sum of the values over the total. -/
theorem ref_out (h : Fin 4) (r : Fin 4096) (d : Fin 128) : val_main_v20 (F := Ideal) (E q) (E k) (E v) (ix2 r (headCol h d))
    = (((∑ s : Fin 4096, expScore q k h r s * v (ix3 h s d)) / total q k h r : ℝ) : EReal) := by
  obtain ⟨tp, htp⟩ := ref_top q k
  have e : idx_main_v19 (idx_main_v20 (ix2 r (headCol h d))) = ix3 h d r := by
    refine funext fun a => Fin.ext ?_
    match a with
    | ⟨0, _⟩ => show (r.val * 512 + (128 * h.val + d.val)) / 128 % 4 = h.val; omega
    | ⟨1, _⟩ => show (r.val * 512 + (128 * h.val + d.val)) % 128 = d.val; omega
    | ⟨2, _⟩ => show (r.val * 512 + (128 * h.val + d.val)) / 512 = r.val; omega
  rw [val_main_v20_apply, val_main_v19_apply, e, val_main_v18_apply, Finset.sum_div, coe_sum]
  refine Finset.sum_congr rfl fun s _ => ?_
  rw [eq_ix3 (lidx_main_v18 (ix3 h d r) s), eq_ix3 (ridx_main_v18 (ix3 h d r) s)]
  refine (congrArg (((v (ix3 h s d) : ℝ) : EReal) * ·) (ref_weight q k htp h r s)).trans ?_
  rw [← EReal.coe_mul]
  congr 1
  ring

/-- The log-sum of a row, to base two. -/
theorem ref_log (h : Fin 4) (r : Fin 4096) :
    val_main_v32 (F := Ideal) (E q) (E k) (ix3 h r 0) = ((Real.log (total q k h r) / Real.log 2 : ℝ) : EReal) := by
  obtain ⟨tp, htp⟩ := ref_top q k
  have hp : 0 < total q k h r * Real.exp (-tp h r) := mul_pos (total_pos' q k h r) (Real.exp_pos _)
  rw [val_main_v32_apply, val_main_v29_apply, val_main_v22_apply, val_main_v28_apply, val_main_v27_apply, val_main_v31_apply, val_main_v30_apply,
    val_main_cst_5_apply, show idx_main_v22 (ix3 h r 0) = ix2 h r from eq_ix2 _, show idx_main_v27 (ix3 h r 0) = ix2 h r from eq_ix2 _,
    show val_main_v21 (F := Ideal) (E q) (E k) (ix2 h r) = _ from htp h r, ref_total' q k htp]
  show Ideal.div ((tp h r : EReal) + Ideal.log ((total q k h r * Real.exp (-tp h r) : ℝ) : EReal)) (Ideal.log (Ideal.ofBits .f32 0x40000000#32)) = _
  rw [ofBits_two_coe, Ideal.log_coe, Ideal.log_coe, if_neg (not_le.2 hp), if_neg (by norm_num), ← EReal.coe_add,
    div_coe_coe _ (Real.log_pos (by norm_num)).ne', Real.log_mul (total_pos' q k h r).ne' (Real.exp_pos _).ne', Real.log_exp]
  congr 2
  ring

end Cert.AttnFwdValue

end
-- ==== Proof.AttnFwd.lean ====
/- The value of the forward attention: where the queries, keys and values are finite, the kernel's two result arrays are the
   reference's. -/
module

public import proofs.«01_k».proof.Defs
public import proofs.«01_k».proof.Proof.NormVjp
public import proofs.«01_k».proof.Proof.AttnFwdReference
public import proofs.«01_k».proof.Proof.Gen.AttnFwdIdeal.Value
public import proofs.«01_k».proof.Proof.Gen.AttnFwdRefIdeal.Run
public import proofs.«01_k».proof.Proof.Gen.Pre_finite_attention_fwd

@[expose] public section

set_option maxRecDepth 16384

noncomputable section

namespace Cert.AttnFwdValue

open Cert.AttnFwdIdeal Cert.AttnFwdIdeal.Gen Idealize.ShloMosaic Idealize.ShloMosaic.TcCoe Idealize.SL.Sem
open Idealize.ShloMosaic.Pipeline (Dat)
open Cert.Common Cert.NormVjp
open Cert.AttnFwdRefIdeal.Read (val_main_v20 val_main_v32 val_main_v20_eq val_main_v32_eq)

/-! ## The four chunks of a block -/

/-- Row `j` of chunk `c`. -/
def row (c : Fin 4) (j : Fin 1024) : Fin 4096 := ⟨c.val * 1024 + j.val, by omega⟩

/-- The rows of chunk `c` of the keys, and of the values. -/
def rowsK (x : Vec Ideal S1x4096x192 .bf16) (c : Fin 4) : Vec Ideal S1x1024x192 .bf16 := fun y => x (ix3 0 (row c (y 1)) (y 2))
def rowsV (x : Vec Ideal S1x4096x128 .bf16) (c : Fin 4) : Vec Ideal S1x1024x128 .bf16 := fun y => x (ix3 0 (row c (y 1)) (y 2))

theorem hz3 : (![0, 0, 0] : Fin 3 → ℕ) = fun _ => 0 := by decide
theorem hz2 : (![0, 0] : Fin 2 → ℕ) = fun _ => 0 := by decide

theorem inbK (c : Fin 4) : ∀ a, (![0, c.val * 1024, 0] : Fin 3 → ℕ) a + (![1, 1024, 192] : Fin 3 → ℕ) a ≤ S1x4096x192.size a := by
  intro a
  match a with
  | ⟨0, _⟩ => show 0 + 1 ≤ 1; omega
  | ⟨1, _⟩ => show c.val * 1024 + 1024 ≤ 4096; omega
  | ⟨2, _⟩ => show 0 + 192 ≤ 192; omega

/-- What a point loads of the keys. -/
def ldK (x : Vec Ideal S1x4096x192 .bf16) (c : Fin 4) : Vec Ideal S1x1024x192 .bf16 :=
  View.ld x (Rect.unit (s := S1x4096x192) ![0, c.val * 1024, 0] ![1, 1024, 192] (inbK c))

theorem ldK_eq (x : Vec Ideal S1x4096x192 .bf16) : ldK x = rowsK x := by
  funext c y
  refine View.ld_unit_apply_of x _ _ (inbK c) y _ fun a => ?_
  match a with
  | ⟨0, _⟩ => show 0 = 0 + (y 0).val; have : (y 0).val < 1 := (y 0).isLt; omega
  | ⟨1, _⟩ => rfl
  | ⟨2, _⟩ => show (y 2).val = 0 + (y 2).val; omega

theorem inbV (c : Fin 4) : ∀ a, (![0, c.val * 1024, 0] : Fin 3 → ℕ) a + (![1, 1024, 128] : Fin 3 → ℕ) a ≤ S1x4096x128.size a := by
  intro a
  match a with
  | ⟨0, _⟩ => show 0 + 1 ≤ 1; omega
  | ⟨1, _⟩ => show c.val * 1024 + 1024 ≤ 4096; omega
  | ⟨2, _⟩ => show 0 + 128 ≤ 128; omega

/-- What a point loads of the values. -/
def ldV (x : Vec Ideal S1x4096x128 .bf16) (c : Fin 4) : Vec Ideal S1x1024x128 .bf16 :=
  View.ld x (Rect.unit (s := S1x4096x128) ![0, c.val * 1024, 0] ![1, 1024, 128] (inbV c))

theorem ldV_eq (x : Vec Ideal S1x4096x128 .bf16) : ldV x = rowsV x := by
  funext c y
  refine View.ld_unit_apply_of x _ _ (inbV c) y _ fun a => ?_
  match a with
  | ⟨0, _⟩ => show 0 = 0 + (y 0).val; have : (y 0).val < 1 := (y 0).isLt; omega
  | ⟨1, _⟩ => rfl
  | ⟨2, _⟩ => show (y 2).val = 0 + (y 2).val; omega

section
variable (c : Dev nD) (i : grid0.Coords) (arg2 : Memref sig .tc .vmem S1x1024x192 .bf16) (harg2 : arg2.IsWhole) (arg3 : Memref sig .tc .vmem S1x4096x192 .bf16) (harg3 : arg3.IsWhole)
  (arg4 : Memref sig .tc .vmem S1x4096x128 .bf16) (harg4 : arg4.IsWhole) (arg5 : Memref sig .tc .vmem S1024x128 .f32) (harg5 : arg5.IsWhole) (arg6 : Memref sig .tc .vmem S1x1024x1 .f32) (harg6 : arg6.IsWhole)
  (x0 : Vec Ideal S1x1024x192 .bf16) (x1 : Vec Ideal S1x4096x192 .bf16) (x2 : Vec Ideal S1x4096x128 .bf16)

/-- What a point leaves in the result's block, and in the log-sums'. -/
theorem out_o : out0_A_3 c i arg2 harg2 arg3 harg3 arg4 harg4 arg5 harg5 arg6 harg6 x0 x1 x2 = outBlock x0 (rowsK x1) (rowsV x2) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_cons_unit_zero hz2]
  simp only [View.readAt_eq_ld, harg2.read_unread, harg3.read_unread, harg4.read_unread, View.ld_unit_zero (S := S1x1024x192) hz3]
  exact Eq.trans (b := outBlock x0 (ldK x1) (ldV x2)) rfl (congrArg₂ (outBlock x0) (ldK_eq x1) (ldV_eq x2))

theorem out_l : out0_A_4 c i arg2 harg2 arg3 harg3 arg4 harg4 arg5 harg5 arg6 harg6 x0 x1 x2 = logBlock x0 (rowsK x1) (rowsV x2) := by
  unfold out0_A_4
  rw [View.read_writes_eq_canon _ _ _ (cover0_A_4 c i arg2 harg2 arg3 harg3 arg4 harg4 arg5 harg5 arg6 harg6 x0 x1 x2)]
  unfold kernelRun0_A
  dsimp only
  sl_unfold_words
  rw [View.canon_cons_unit_zero hz3]
  simp only [View.readAt_eq_ld, harg2.read_unread, harg3.read_unread, View.ld_unit_zero (S := S1x1024x192) hz3]
  exact Eq.trans (b := logBlock x0 (ldK x1) (ldV x2)) rfl (congrArg₂ (logBlock x0) (ldK_eq x1) (ldV_eq x2))
end

/-! ## The blocks of a point, and the whole arrays -/

theorem idx0 : ∀ t : Fin cfg0.N, win0_0.index t = ![t.val / 4, t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val / 4, t.val % 4, 0] := (by decide +kernel : ∀ t : Fin grid0.N, _)

/-- The head of a point, and its chunk of rows. -/
def head (t : Fin cfg0.N) : Fin 4 := ⟨t.val / 4, by have := t.isLt; have hN : cfg0.N = 16 := N_0; omega⟩
def tile (t : Fin cfg0.N) : Fin 4 := ⟨t.val % 4, by omega⟩

variable (m : (ℓ : Loc nD τ sig) → Buf (Elt Ideal) ℓ)

/-- The queries, the keys and the values. -/
def qA (c : Dev nD) : FVec Ideal S4x4096x192 .bf16 := m ((c : Thread nD τ).loc main_arg0)
def kA (c : Dev nD) : FVec Ideal S4x4096x192 .bf16 := m ((c : Thread nD τ).loc main_arg1)
def vA (c : Dev nD) : FVec Ideal S4x4096x128 .bf16 := m ((c : Thread nD τ).loc main_arg2)

theorem iblk_q (c : Dev nD) (t : Fin cfg0.N) (r : Fin 1024) (d : Fin 192) :
    (iblk m c 0 t : Vec Ideal S1x1024x192 .bf16) (ix3 0 r d) = qA m c (ix3 (head t) (row (tile t) r) d) := by
  have hN : cfg0.N = 16 := N_0
  blk_simp [iblk]
  refine (congrFun (V_main_arg0 m c) _).trans (congrArg (qA m c) ?_)
  blk_ext [idx0 t, row, head, tile]

theorem iblk_k (c : Dev nD) (t : Fin cfg0.N) (j : Fin 4096) (d : Fin 192) :
    (iblk m c 1 t : Vec Ideal S1x4096x192 .bf16) (ix3 0 j d) = kA m c (ix3 (head t) j d) := by
  blk_simp [iblk]
  refine (congrFun (V_main_arg1 m c) _).trans (congrArg (kA m c) ?_)
  blk_ext [idx1 t, head]

theorem iblk_v (c : Dev nD) (t : Fin cfg0.N) (j : Fin 4096) (d : Fin 128) :
    (iblk m c 2 t : Vec Ideal S1x4096x128 .bf16) (ix3 0 j d) = vA m c (ix3 (head t) j d) := by
  blk_simp [iblk]
  refine (congrFun (V_main_arg2 m c) _).trans (congrArg (vA m c) ?_)
  blk_ext [idx2 t, head]

section
variable (c : Dev nD) (q k : S4x4096x192.Idx → ℝ) (v : S4x4096x128.Idx → ℝ) (hq : qA m c = E q) (hk : kA m c = E k) (hv : vA m c = E v)
include hq hk

/-- The exponentials of a point's scores are the reference's. -/
theorem ew_eq (t : Fin cfg0.N) (c' : Fin 4) (r j : Fin 1024) :
    ew (fun r d => q (ix3 (head t) (row (tile t) r) d)) (fun c' j d => k (ix3 (head t) (row c' j) d)) c' r j
      = expScore q k (head t) (row (tile t) r) (row c' j) := rfl

theorem total_eq (t : Fin cfg0.N) (r : Fin 1024) :
    ∑ c', ∑ j, ew (fun r d => q (ix3 (head t) (row (tile t) r) d)) (fun c' j d => k (ix3 (head t) (row c' j) d)) c' r j
      = total q k (head t) (row (tile t) r) :=
  (sum_tiles (by norm_num) (fun s => expScore q k (head t) (row (tile t) r) s) row fun _ _ => rfl).symm

include hv

theorem block_o (t : Fin cfg0.N) (r : Fin 1024) (d : Fin 128) :
    outBlock (iblk m c 0 t) (rowsK (iblk m c 1 t)) (rowsV (iblk m c 2 t)) (ix2 r d)
      = val_main_v20 (F := Ideal) (qA m c) (kA m c) (vA m c) (ix2 (row (tile t) r) (headCol (head t) d)) := by
  rw [hq, hk, hv, ref_out]
  refine (outBlock_apply (Q := fun r d => q (ix3 (head t) (row (tile t) r) d)) (K := fun c' j d => k (ix3 (head t) (row c' j) d))
    (V := fun c' j d => v (ix3 (head t) (row c' j) d)) (fun r d => (iblk_q m c t r d).trans (congrFun hq _))
    (fun c' j d => (iblk_k m c t (row c' j) d).trans (congrFun hk _)) (fun c' j d => (iblk_v m c t (row c' j) d).trans (congrFun hv _)) r d).trans ?_
  rw [total_eq m c q k hq hk,
    sum_tiles (by norm_num) (fun s => expScore q k (head t) (row (tile t) r) s * v (ix3 (head t) s d)) row fun _ _ => rfl]
  rfl

theorem block_l (t : Fin cfg0.N) (r : Fin 1024) :
    logBlock (iblk m c 0 t) (rowsK (iblk m c 1 t)) (rowsV (iblk m c 2 t)) (ix3 0 r 0)
      = val_main_v32 (F := Ideal) (qA m c) (kA m c) (ix3 (head t) (row (tile t) r) 0) := by
  rw [hq, hk, ref_log]
  refine (logBlock_apply (Q := fun r d => q (ix3 (head t) (row (tile t) r) d)) (K := fun c' j d => k (ix3 (head t) (row c' j) d))
    (V := fun c' j d => v (ix3 (head t) (row c' j) d)) (fun r d => (iblk_q m c t r d).trans (congrFun hq _))
    (fun c' j d => (iblk_k m c t (row c' j) d).trans (congrFun hk _)) (fun c' j d => (iblk_v m c t (row c' j) d).trans (congrFun hv _)) r).trans ?_
  rw [total_eq m c q k hq hk]

/-- The result array is the reference's. -/
theorem final_o : (dats m 0 c).arrAt 3 cfg0.N = val_main_v20 (F := Ideal) (qA m c) (kA m c) (vA m c) := by
  refine (dats m 0 c).arrAt_eq_of_covers 3 _ (by decide +kernel) fun t _ y => ?_
  blk_simp
  rw [after0_3]
  have hN : cfg0.N = 16 := N_0
  have ht : t.val < cfg0.N := t.isLt
  have e : ((View.whole main_v0_0).slice (win0_3.rect t)).emb y = (ix2 (row (tile t) (y 0)) (headCol (head t) (y 1)) : S4096x512.Idx) := by
    blk_ext [idx3 t, row, head, tile, headCol]
  rw [e, ← block_o m c q k v hq hk hv t (y 0) (y 1)]
  dsimp only [outsAt0]
  rw [out_o]
  exact congrArg _ (eq_ix2 y)

/-- The array of log-sums is the reference's. -/
theorem final_l : (dats m 0 c).arrAt 4 cfg0.N = val_main_v32 (F := Ideal) (qA m c) (kA m c) := by
  refine (dats m 0 c).arrAt_eq_of_covers 4 _ (by decide +kernel) fun t _ y => ?_
  blk_simp
  rw [after0_4]
  have hN : cfg0.N = 16 := N_0
  have ht : t.val < cfg0.N := t.isLt
  have e : ((View.whole main_v0_1).slice (win0_4.rect t)).emb y = (ix3 (head t) (row (tile t) (y 1)) 0 : S4x4096x1.Idx) := by
    blk_ext [idx4 t, row, head, tile]
  rw [e, ← block_l m c q k v hq hk hv t (y 1)]
  dsimp only [outsAt0]
  rw [out_l]
  refine congrArg _ ((eq_ix3 y).trans ?_)
  have h0 : y 0 = (0 : Fin 1) := Subsingleton.elim (α := Fin 1) _ _
  have h2 : y 2 = (0 : Fin 1) := Subsingleton.elim (α := Fin 1) _ _
  rw [h0, h2]

end

/-! ## The claims -/

/-- What the precondition says: the three arguments are finite. -/
theorem pre_finite (c : Dev nD) (h : Cert.Pre_AttnFwdIdeal_finite_attention_fwd m) :
    (∃ q, qA m c = E q) ∧ (∃ k, kA m c = E k) ∧ ∃ v, vA m c = E v := by
  obtain ⟨h12, h3⟩ := andi_apply_eq_one (congrFun (h c) fun a => a.elim0)
  obtain ⟨h1, h2⟩ := andi_apply_eq_one h12
  have r1 : ∀ i, IsReal (qA m c i) := isReal_of_all (qA m c) _ (fun _ => rfl) _ _ _ _ h1
  have r2 : ∀ i, IsReal (kA m c i) := isReal_of_all (kA m c) _ (fun _ => rfl) _ _ _ _ h2
  have r3 : ∀ i, IsReal (vA m c i) := isReal_of_all (vA m c) _ (fun _ => rfl) _ _ _ _ h3
  choose q hq using r1
  choose k hk using r2
  choose v hv using r3
  exact ⟨⟨q, funext hq⟩, ⟨k, funext hk⟩, ⟨v, funext hv⟩⟩

/-- The reference runs, leaves its arguments as they were and every semaphore at zero. -/
theorem frame_ref : Cert.quiescent_AttnFwdRefIdeal := fun m ρ _ =>
  (θ_run Cert.AttnFwdRefIdeal.defs _ _).mono
    (fun r h => ⟨fun c => (h c).2.2, sem_eq_zero_of_no_sems (by decide) r.2⟩) (Cert.AttnFwdRefIdeal.Value.run (F := Ideal) m ρ)

/-- At the ideal values the kernel and the reference end with the same two arrays. -/
theorem algebraic : Cert.algebraic_AttnFwdIdeal_AttnFwdRefIdeal_pre_finite_attention_fwd := by
  intro m ρ m' ρ' hpre hagree
  refine ⟨fun c => val_main_v20 (F := Ideal) (qA m c) (kA m c) (vA m c), fun c => val_main_v32 (F := Ideal) (qA m c) (kA m c), ?_, ?_⟩
  · refine (θ_run Cert.AttnFwdIdeal.defs _ _).mono (fun _ h c => ?_) (Cert.AttnFwdIdeal.Value.run_blocks (F := Ideal) m ρ)
    obtain ⟨⟨q, hq⟩, ⟨k, hk⟩, ⟨v, hv⟩⟩ := pre_finite m c hpre
    exact ⟨(h c).1.trans (final_o m c q k v hq hk hv), (h c).2.1.trans (final_l m c q k v hq hk hv), (h c).2.2⟩
  · refine (θ_run Cert.AttnFwdRefIdeal.defs _ _).mono (fun _ h c => ?_) (Cert.AttnFwdRefIdeal.Value.run (F := Ideal) m' ρ')
    obtain ⟨e0, e1, e2⟩ := hagree c
    refine ⟨(h c).1.trans ?_, (h c).2.1.trans ?_, (h c).2.2⟩
    · rw [val_main_v20_eq]
      show val_main_v20 (F := Ideal) (m' ((c : Thread Cert.AttnFwdRefIdeal.nD Cert.AttnFwdRefIdeal.τ).loc Cert.AttnFwdRefIdeal.main_arg0)) (m' ((c : Thread Cert.AttnFwdRefIdeal.nD Cert.AttnFwdRefIdeal.τ).loc Cert.AttnFwdRefIdeal.main_arg1)) (m' ((c : Thread Cert.AttnFwdRefIdeal.nD Cert.AttnFwdRefIdeal.τ).loc Cert.AttnFwdRefIdeal.main_arg2)) = _
      rw [e0, e1, e2]
      rfl
    · rw [val_main_v32_eq]
      show val_main_v32 (F := Ideal) (m' ((c : Thread Cert.AttnFwdRefIdeal.nD Cert.AttnFwdRefIdeal.τ).loc Cert.AttnFwdRefIdeal.main_arg0)) (m' ((c : Thread Cert.AttnFwdRefIdeal.nD Cert.AttnFwdRefIdeal.τ).loc Cert.AttnFwdRefIdeal.main_arg1)) = _
      rw [e0, e1]
      rfl

end Cert.AttnFwdValue

end
-- ==== Proof.ForwardNorms.lean ====
/- The values of the norms of the forward pass: the norm in front of the input product and the two latent norms. Kernel
   and reference write the same norm; the kernel goes over the rows in blocks, and finds its latent columns in an array
   whose columns are in another order. -/
module

public import proofs.«01_k».proof.Defs
public import Idealize.ShloMosaic.Lib.Pointwise
public import Idealize.ShloMosaic.Lib.Pipeline.ValueKit
public import proofs.«01_k».proof.Proof.Gen.NormInIdeal.Frame
public import proofs.«01_k».proof.Proof.Gen.NormInIdeal.Value
public import proofs.«01_k».proof.Proof.Gen.NormInRefIdeal.Read
public import proofs.«01_k».proof.Proof.Gen.NormInRefIdeal.Run
public import proofs.«01_k».proof.Proof.Gen.LatentNormFwdIdeal.Frame
public import proofs.«01_k».proof.Proof.Gen.LatentNormFwdIdeal.Value
public import proofs.«01_k».proof.Proof.Gen.LatentNormFwdRefIdeal.Read
public import proofs.«01_k».proof.Proof.Gen.LatentNormFwdRefIdeal.Run

@[expose] public section

noncomputable section

namespace Cert.ForwardNorms

open Idealize.ShloMosaic

/-- The norm of a row `x` with the gain `g`, the mean a division by `n`, at entry `d`. -/
def normed {w : Nat} (n : EReal) (x g : Fin w → EReal) (d : Fin w) : EReal :=
  x d * Ideal.rsqrt (Ideal.div (∑ k, x k * x k) n + Ideal.ofBits .f32 0x358637BD#32) * g d

end Cert.ForwardNorms

/-! ## The norm in front of the input product -/

namespace Cert.FwdNormIn.Reference

open Cert.NormInRefIdeal Cert.NormInRefIdeal.Read Idealize.ShloMosaic Cert.ForwardNorms

/-- The reference's result at an index. -/
theorem y_apply (x : FVec Ideal S4096x1024 .f32) (g : FVec Ideal S1x1024 .f32) (r : Fin 4096) (d : Fin 1024) :
    val_main_v14 (F := Ideal) x g (ix2 r d)
      = normed (Ideal.ofBits .f32 0x44800000#32) (fun k => x (ix2 r k)) (fun k => g (ix2 0 k)) d := by
  unfold normed
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14, zero_add]

end Cert.FwdNormIn.Reference

namespace Cert.FwdNormIn

open Cert.NormInIdeal Cert.NormInIdeal.Gen Idealize.ShloMosaic Idealize.ShloMosaic.TcCoe Cert.ForwardNorms Idealize.SL.Sem
open Cert.NormInRefIdeal.Read (val_main_v14 val_main_v14_eq)

variable (m : (ℓ : Loc nD τ sig) → Buf (Elt Ideal) ℓ) (ρ : Dev nD → PrngReg)

/-- Device `c`'s two arguments, at their types. -/
abbrev X (c : Dev nD) : FVec Ideal S4096x1024 .f32 := m ((c : Thread nD τ).loc main_arg0)
abbrev G (c : Dev nD) : FVec Ideal S1x1024 .f32 := m ((c : Thread nD τ).loc main_arg1)

/-- What one run of the body stores, at an index. -/
theorem pay_apply (x : Vec Ideal S1024x1024 .f32) (g : Vec Ideal S1x1024 .f32) (r d : Fin 1024) : k0_pay1 x g (ix2 r d)
    = normed (Ideal.ofBits .f32 0x44800000#32) (fun k => x (ix2 r k)) (fun k => g (ix2 0 k)) d := by
  unfold normed
  pointwise [k0_pay1]

/-- Where each window's block sits in its array. -/
theorem idx : ∀ t : Fin cfg0.N, win0_0.index t = ![t.val, 0] ∧ win0_1.index t = ![0, 0] ∧ win0_2.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

theorem blk0 (c : Dev nD) (t : Fin cfg0.N) (r k : Fin 1024) :
    (iblk m c 0 t : Vec Ideal S1024x1024 .f32) (ix2 r k) = X m c (ix2 (row t r) k) := by
  blk_simp [iblk]
  refine (congrFun (V_main_arg0 m c) _).trans (congrArg (X m c) ?_)
  blk_ext [(idx t).1, row]

theorem blk1 (c : Dev nD) (t : Fin cfg0.N) (k : Fin 1024) : (iblk m c 1 t : Vec Ideal S1x1024 .f32) (ix2 0 k) = G m c (ix2 0 k) := by
  blk_simp [iblk]
  refine (congrFun (V_main_arg1 m c) _).trans (congrArg (G m c) ?_)
  blk_ext [(idx t).2.1]

/-- What a point leaves is the reference's array in the rows of the block. -/
theorem block (c : Dev nD) (t : Fin cfg0.N) (r d : Fin 1024) :
    k0_pay1 (iblk m c 0 t) (iblk m c 1 t) (ix2 r d) = val_main_v14 (F := Ideal) (X m c) (G m c) (ix2 (row t r) d) := by
  rw [pay_apply, Reference.y_apply]
  simp only [blk0, blk1]

/-- The kernel's array is the reference's. -/
theorem final (c : Dev nD) : (dats m 0 c).arrAt 2 cfg0.N = val_main_v14 (F := Ideal) (X m c) (G m c) := by
  refine (dats m 0 c).arrAt_eq_of_covers 2 _ (by decide +kernel) fun t _ y => ?_
  blk_simp
  rw [after0_2]
  have e : ((View.whole main_v0).slice (win0_2.rect t)).emb y = (ix2 (row t (y 0)) (y 1) : S4096x1024.Idx) := by
    blk_ext [(idx t).2.2, row]
  rw [e, ← block m c t (y 0) (y 1)]
  dsimp only [out0_2]
  frame_out
  exact congrArg _ (eq_ix2 y)

/-- The reference runs, leaves its arguments as they were and every semaphore at zero. -/
theorem frame_ref : Cert.quiescent_NormInRefIdeal := fun m ρ _ =>
  (θ_run Cert.NormInRefIdeal.defs _ _).mono
    (fun r h => ⟨fun c => (h c).2, sem_eq_zero_of_no_sems (by decide) r.2⟩) (Cert.NormInRefIdeal.Value.run (F := Ideal) m ρ)

/-- At the ideal values the kernel and the reference end with the same array. -/
theorem algebraic : Cert.algebraic_NormInIdeal_NormInRefIdeal := by
  intro m ρ m' ρ' _ hagree
  refine ⟨fun c => val_main_v14 (F := Ideal) (X m c) (G m c), ?_, ?_⟩
  · refine (θ_run Cert.NormInIdeal.defs _ _).mono (fun _ h c => ?_) (NormInIdeal.Value.run_blocks (F := Ideal) m ρ)
    exact ⟨(h c).1.trans (final m c), (h c).2⟩
  · refine (θ_run Cert.NormInRefIdeal.defs _ _).mono (fun _ h c => ?_) (Cert.NormInRefIdeal.Value.run (F := Ideal) m' ρ')
    obtain ⟨e0, e1⟩ := hagree c
    refine ⟨(h c).1.trans ?_, (h c).2⟩
    rw [val_main_v14_eq, e0, e1]

end Cert.FwdNormIn

/-! ## The two latent norms -/

namespace Cert.FwdLatent.Reference

open Cert.LatentNormFwdRefIdeal Cert.LatentNormFwdRefIdeal.Read Idealize.ShloMosaic Cert.ForwardNorms

/-- The reference's first result at an index, -/
theorem q_apply (z : FVec Ideal S4096x3136 .f32) (g : FVec Ideal S1x256 .f32) (r : Fin 4096) (d : Fin 256) :
    val_main_v30 (F := Ideal) z g (ix2 r d)
      = normed (Ideal.ofBits .f32 0x43800000#32) (fun k => z (ix2 r ⟨k.val, by omega⟩)) (fun k => g (ix2 0 k)) d := by
  unfold normed
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14, val_main_v30,
    zero_add]

/-- and its second. -/
theorem kv_apply (z : FVec Ideal S4096x3136 .f32) (g : FVec Ideal S1x256 .f32) (r : Fin 4096) (d : Fin 256) :
    val_main_v31 (F := Ideal) z g (ix2 r d)
      = normed (Ideal.ofBits .f32 0x43800000#32) (fun k => z (ix2 r ⟨256 + k.val, by omega⟩)) (fun k => g (ix2 0 k)) d := by
  unfold normed
  pointwise [val_main_v15, val_main_v16, val_main_cst_2, val_main_v17, val_main_v18, val_main_cst_3, val_main_v19, val_main_v20,
    val_main_cst_4, val_main_v21, val_main_v22, val_main_v23, val_main_v24, val_main_v25, val_main_v26, val_main_v27, val_main_v28,
    val_main_v29, val_main_v31, zero_add]

end Cert.FwdLatent.Reference

namespace Cert.FwdLatent

open Cert.LatentNormFwdIdeal Cert.LatentNormFwdIdeal.Gen Idealize.ShloMosaic Idealize.ShloMosaic.TcCoe Cert.ForwardNorms Idealize.SL.Sem
open Cert.LatentNormFwdRefIdeal.Read (val_main_v30 val_main_v30_eq val_main_v31 val_main_v31_eq)

/-- What one run of the body stores for the first latent, at an index, -/
theorem payQ_apply (x : Vec Ideal S1024x256 .f32) (g : Vec Ideal S1x256 .f32) (r : Fin 1024) (d : Fin 256) : k0_pay1 x g (ix2 r d)
    = normed (Ideal.ofBits .f32 0x43800000#32) (fun k => x (ix2 r k)) (fun k => g (ix2 0 k)) d := by
  unfold normed
  pointwise [k0_pay1]

/-- and for the second. -/
theorem payK_apply (x : Vec Ideal S1024x256 .f32) (g : Vec Ideal S1x256 .f32) (r : Fin 1024) (d : Fin 256) : k0_pay2 x g (ix2 r d)
    = normed (Ideal.ofBits .f32 0x43800000#32) (fun k => x (ix2 r k)) (fun k => g (ix2 0 k)) d := by
  unfold normed
  pointwise [k0_pay2]

/-- The input product's columns in the kernel's order: the rotary key's come last, padded. -/
def ordered (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- The first 512 of them stay where they are. -/
theorem ordered_latent (z : FVec Ideal S4096x3136 .f32) (r : Fin 4096) (k : Fin 512) :
    ordered z (ix2 r ⟨k.val, by omega⟩) = z (ix2 r ⟨k.val, by omega⟩) := by
  pointwise [ordered]

variable (m : (ℓ : Loc nD τ sig) → Buf (Elt Ideal) ℓ) (ρ : Dev nD → PrngReg)

/-- Device `c`'s three arguments, at their types. -/
abbrev Z (c : Dev nD) : FVec Ideal S4096x3136 .f32 := m ((c : Thread nD τ).loc main_arg0)
abbrev GQ (c : Dev nD) : FVec Ideal S1x256 .f32 := m ((c : Thread nD τ).loc main_arg1)
abbrev GK (c : Dev nD) : FVec Ideal S1x256 .f32 := m ((c : Thread nD τ).loc main_arg2)

/-- Where each window's block sits in its array. -/
theorem idx : ∀ t : Fin cfg0.N, win0_0.index t = ![t.val, 0] ∧ win0_1.index t = ![t.val, 1] ∧ win0_2.index t = ![0, 0]
    ∧ win0_3.index t = ![0, 0] ∧ win0_4.index t = ![t.val, 0] ∧ win0_5.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

/-- The columns as the region finds them. -/
theorem V_cols (c : Dev nD) : (V m c main_v4 : FVec Ideal S4096x3200 .f32) = ordered (Z m c) := by
  show StableHlo.after (List.flatten [hostOps0, hostOps0_1, hostOps0_2]) (fun b => m (c, b)) main_v4 = _
  simp only [List.flatten_cons, List.flatten_nil, List.append_nil, List.cons_append, List.nil_append]
  after_results <;> rfl

theorem blkQ (c : Dev nD) (t : Fin cfg0.N) (r : Fin 1024) (k : Fin 256) :
    (X0_0 m c t : Vec Ideal S1024x256 .f32) (ix2 r k) = Z m c (ix2 (row t r) ⟨k.val, by omega⟩) := by
  unfold X0_0 Pipeline.Window.fill
  rw [dif_pos (moved0_0 t (ix2 r k))]
  blk_simp [iblk]
  refine (congrFun (V_cols m c) _).trans ((congrArg (ordered (Z m c)) ?_).trans (ordered_latent (Z m c) (row t r) ⟨k.val, by omega⟩))
  blk_ext [(idx t).1, row]

theorem blkK (c : Dev nD) (t : Fin cfg0.N) (r : Fin 1024) (k : Fin 256) :
    (X0_1 m c t : Vec Ideal S1024x256 .f32) (ix2 r k) = Z m c (ix2 (row t r) ⟨256 + k.val, by omega⟩) := by
  unfold X0_1 Pipeline.Window.fill
  rw [dif_pos (moved0_1 t (ix2 r k))]
  blk_simp [iblk]
  refine (congrFun (V_cols m c) _).trans ((congrArg (ordered (Z m c)) ?_).trans (ordered_latent (Z m c) (row t r) ⟨256 + k.val, by omega⟩))
  blk_ext [(idx t).2.1, row]

theorem blkGQ (c : Dev nD) (t : Fin cfg0.N) (k : Fin 256) :
    (iblk m c 2 t : Vec Ideal S1x256 .f32) (ix2 0 k) = GQ m c (ix2 0 k) := by
  blk_simp [iblk]
  refine (congrFun (V_main_arg1 m c) _).trans (congrArg (GQ m c) ?_)
  blk_ext [(idx t).2.2.1]

theorem blkGK (c : Dev nD) (t : Fin cfg0.N) (k : Fin 256) :
    (iblk m c 3 t : Vec Ideal S1x256 .f32) (ix2 0 k) = GK m c (ix2 0 k) := by
  blk_simp [iblk]
  refine (congrFun (V_main_arg2 m c) _).trans (congrArg (GK m c) ?_)
  blk_ext [(idx t).2.2.2.1]

/-- What a point leaves for the first latent is the reference's in the rows of the block, -/
theorem block_q (c : Dev nD) (t : Fin cfg0.N) (r : Fin 1024) (d : Fin 256) :
    k0_pay1 (X0_0 m c t) (iblk m c 2 t) (ix2 r d) = val_main_v30 (F := Ideal) (Z m c) (GQ m c) (ix2 (row t r) d) := by
  rw [payQ_apply, Reference.q_apply]
  simp only [blkQ, blkGQ]

/-- and for the second. -/
theorem block_k (c : Dev nD) (t : Fin cfg0.N) (r : Fin 1024) (d : Fin 256) :
    k0_pay2 (X0_1 m c t) (iblk m c 3 t) (ix2 r d) = val_main_v31 (F := Ideal) (Z m c) (GK m c) (ix2 (row t r) d) := by
  rw [payK_apply, Reference.kv_apply]
  simp only [blkK, blkGK]

/-- The kernel's first array is the reference's, -/
theorem final_q (c : Dev nD) : (dats m 0 c).arrAt 4 cfg0.N = val_main_v30 (F := Ideal) (Z m c) (GQ m c) := by
  refine (dats m 0 c).arrAt_eq_of_covers 4 _ (by decide +kernel) fun t _ y => ?_
  blk_simp
  rw [after0_4]
  have e : ((View.whole main_v5_0).slice (win0_4.rect t)).emb y = (ix2 (row t (y 0)) (y 1) : S4096x256.Idx) := by
    blk_ext [(idx t).2.2.2.2.1, row]
  rw [e, ← block_q m c t (y 0) (y 1)]
  dsimp only [outsAt0]
  frame_out
  exact congrArg _ (eq_ix2 y)

/-- and so is its second. -/
theorem final_k (c : Dev nD) : (dats m 0 c).arrAt 5 cfg0.N = val_main_v31 (F := Ideal) (Z m c) (GK m c) := by
  refine (dats m 0 c).arrAt_eq_of_covers 5 _ (by decide +kernel) fun t _ y => ?_
  blk_simp
  rw [after0_5]
  have e : ((View.whole main_v5_1).slice (win0_5.rect t)).emb y = (ix2 (row t (y 0)) (y 1) : S4096x256.Idx) := by
    blk_ext [(idx t).2.2.2.2.2, row]
  rw [e, ← block_k m c t (y 0) (y 1)]
  dsimp only [outsAt0]
  frame_out
  exact congrArg _ (eq_ix2 y)

/-- The reference runs, leaves its arguments as they were and every semaphore at zero. -/
theorem frame_ref : Cert.quiescent_LatentNormFwdRefIdeal := fun m ρ _ =>
  (θ_run Cert.LatentNormFwdRefIdeal.defs _ _).mono
    (fun r h => ⟨fun c => (h c).2.2, sem_eq_zero_of_no_sems (by decide) r.2⟩) (Cert.LatentNormFwdRefIdeal.Value.run (F := Ideal) m ρ)

/-- At the ideal values the kernel and the reference end with the same two arrays. -/
theorem algebraic : Cert.algebraic_LatentNormFwdIdeal_LatentNormFwdRefIdeal := by
  intro m ρ m' ρ' _ hagree
  refine ⟨fun c => val_main_v30 (F := Ideal) (Z m c) (GQ m c), fun c => val_main_v31 (F := Ideal) (Z m c) (GK m c), ?_, ?_⟩
  · refine (θ_run Cert.LatentNormFwdIdeal.defs _ _).mono (fun _ h c => ?_) (LatentNormFwdIdeal.Value.run_blocks (F := Ideal) m ρ)
    exact ⟨(h c).1.trans (final_q m c), (h c).2.1.trans (final_k m c), (h c).2.2⟩
  · refine (θ_run Cert.LatentNormFwdRefIdeal.defs _ _).mono (fun _ h c => ?_) (Cert.LatentNormFwdRefIdeal.Value.run (F := Ideal) m' ρ')
    obtain ⟨e0, e1, e2⟩ := hagree c
    refine ⟨(h c).1.trans ?_, (h c).2.1.trans ?_, (h c).2.2⟩
    · rw [val_main_v30_eq, e0, e1]
    · rw [val_main_v31_eq, e0, e2]

end Cert.FwdLatent

end
-- ==== Proof.ForwardHeads.lean ====
/- The value of the head norms and the rotary embedding of the forward pass: query, key and value by heads. The kernel
   goes through the four heads one after the other and finds the key's shared columns in an array whose columns are in
   another order. -/
module

public import proofs.«01_k».proof.Proof.ForwardNorms
public import proofs.«01_k».proof.Proof.HeadNormReference
public import proofs.«01_k».proof.Proof.Gen.HeadNormFwdIdeal.Frame
public import proofs.«01_k».proof.Proof.Gen.HeadNormFwdIdeal.Value
public import proofs.«01_k».proof.Proof.Gen.HeadNormFwdRefIdeal.Read
public import proofs.«01_k».proof.Proof.Gen.HeadNormFwdRefIdeal.Run

@[expose] public section

noncomputable section

namespace Cert.FwdHeads

/-- The rotary embedding of a row's last 64 entries, its first 128 taken as they are: `cs` and `sn` the row's cosines and
    sines. -/
def turned (cs sn : Fin 32 → EReal) (y : Fin 192 → EReal) (d : Fin 192) : EReal :=
  if h : d.val < 128 then y d
  else if h' : d.val < 160 then y d * cs ⟨d.val - 128, by omega⟩ - y ⟨d.val + 32, by omega⟩ * sn ⟨d.val - 128, by omega⟩
  else y ⟨d.val - 32, by omega⟩ * sn ⟨d.val - 160, by omega⟩ + y d * cs ⟨d.val - 160, by omega⟩

end Cert.FwdHeads

namespace Cert.FwdHeads.Reference

open Cert.HeadNormFwdRefIdeal Cert.HeadNormFwdRefIdeal.Read Idealize.ShloMosaic Cert.ForwardNorms
open Cert.HeadNorm (keyRow)

variable (q : FVec Ideal S4096x768 .f32) (kv : FVec Ideal S4096x1024 .f32) (z : FVec Ideal S4096x3136 .f32) (p : IVec S4096 32)
  (gq gk : FVec Ideal S1x192 .f32)

/-- A head's row of the query, and of the key. -/
def qRow (h : Fin 4) (r : Fin 4096) (k : Fin 192) : EReal := q (ix2 r ⟨h.val * 192 + k.val, by omega⟩)
def kRow (h : Fin 4) (r : Fin 4096) : Fin 192 → EReal :=
  keyRow (fun k => kv (ix2 r ⟨h.val * 256 + k.val, by omega⟩)) (fun k => z (ix2 r ⟨512 + k.val, by omega⟩))

/-- The cosines and the sines, the query and the key by heads, and their norms. -/
theorem cos_apply (r : Fin 4096) (i : Fin 1) (k : Fin 32) : val_main_v17 (F := Ideal) p (ix3 r i k) = val_main_v16 (F := Ideal) p (ix2 r k) := by
  pointwise [val_main_v17]

theorem sin_apply (r : Fin 4096) (i : Fin 1) (k : Fin 32) : val_main_v19 (F := Ideal) p (ix3 r i k) = val_main_v18 (F := Ideal) p (ix2 r k) := by
  pointwise [val_main_v19]

theorem q_heads (r : Fin 4096) (h : Fin 4) (d : Fin 192) : val_main_v20 (F := Ideal) q (ix3 r h d) = qRow q h r d := by
  pointwise [val_main_v20, qRow]

theorem k_heads (r : Fin 4096) (h : Fin 4) (d : Fin 192) : val_main_v27 (F := Ideal) kv z (ix3 r h d) = kRow kv z h r d := by
  rcases Nat.lt_or_ge d.val 128 with h1 | h1
  · pointwise [val_main_v27, val_main_v26, val_main_v25, val_main_v24, val_main_v22, val_main_v21, kRow, keyRow, h1]
  · have h1' : ¬ d.val < 128 := by omega
    pointwise [val_main_v27, val_main_v26, val_main_v25, val_main_v24, val_main_v22, val_main_v21, kRow, keyRow, h1']

theorem q_normed (r : Fin 4096) (h : Fin 4) (d : Fin 192) : val_main_v41 (F := Ideal) q gq (ix3 r h d)
    = normed (Ideal.ofBits .f32 0x43400000#32) (qRow q h r) (fun k => gq (ix2 0 k)) d := by
  unfold normed
  pointwise [val_main_v41, val_main_v40, val_main_v39, val_main_v38, val_main_v37, val_main_v36, val_main_v35, val_main_v34, val_main_cst_5,
    val_main_v33, val_main_v32, val_main_cst_4, val_main_v31, val_main_v30, val_main_cst_3, val_main_v29, val_main_v28, q_heads, zero_add]

theorem k_normed (r : Fin 4096) (h : Fin 4) (d : Fin 192) : val_main_v55 (F := Ideal) kv z gk (ix3 r h d)
    = normed (Ideal.ofBits .f32 0x43400000#32) (kRow kv z h r) (fun k => gk (ix2 0 k)) d := by
  unfold normed
  pointwise [val_main_v55, val_main_v54, val_main_v53, val_main_v52, val_main_v51, val_main_v50, val_main_v49, val_main_v48, val_main_cst_8,
    val_main_v47, val_main_v46, val_main_cst_7, val_main_v45, val_main_v44, val_main_cst_6, val_main_v43, val_main_v42, k_heads, zero_add]

/-- The reference's first result at an index, -/
theorem q_apply (h : Fin 4) (r : Fin 4096) (d : Fin 192) : val_main_v89 (F := Ideal) q p gq (ix3 h r d)
    = turned (fun k => val_main_v16 (F := Ideal) p (ix2 r k)) (fun k => val_main_v18 (F := Ideal) p (ix2 r k))
        (normed (Ideal.ofBits .f32 0x43400000#32) (qRow q h r) (fun k => gq (ix2 0 k))) d := by
  rcases Nat.lt_or_ge d.val 128 with h1 | h1
  · pointwise [val_main_v89, val_main_v88, val_main_v71, val_main_v70, val_main_v69, val_main_v68, val_main_v67, val_main_v66, val_main_v65, val_main_v64, val_main_v63, val_main_v62, val_main_v61, val_main_v60, val_main_v59, val_main_v58, val_main_v57, val_main_v56, q_normed, cos_apply, sin_apply, turned, h1]
  · have h1' : ¬ d.val < 128 := by omega
    rcases Nat.lt_or_ge d.val 160 with h2 | h2
    · have h3 : d.val - 128 < 32 := by omega
      have e1 : 128 + (32 + (d.val - 128)) = d.val + 32 := by omega
      have e2 : 128 + (d.val - 128) = d.val := by omega
      pointwise [val_main_v89, val_main_v88, val_main_v71, val_main_v70, val_main_v69, val_main_v68, val_main_v67, val_main_v66, val_main_v65, val_main_v64, val_main_v63, val_main_v62, val_main_v61, val_main_v60, val_main_v59, val_main_v58, val_main_v57, val_main_v56, q_normed, cos_apply, sin_apply, turned, h1', h2, h3, e1, e2]
    · have h2' : ¬ d.val < 160 := by omega
      have h3 : ¬ d.val - 128 < 32 := by omega
      have e0 : d.val - 128 - 32 = d.val - 160 := by omega
      have e1 : 128 + (32 + (d.val - 160)) = d.val := by omega
      have e2 : 128 + (d.val - 160) = d.val - 32 := by omega
      pointwise [val_main_v89, val_main_v88, val_main_v71, val_main_v70, val_main_v69, val_main_v68, val_main_v67, val_main_v66, val_main_v65, val_main_v64, val_main_v63, val_main_v62, val_main_v61, val_main_v60, val_main_v59, val_main_v58, val_main_v57, val_main_v56, q_normed, cos_apply, sin_apply, turned, h1', h2', h3, e0, e1, e2]

/-- its second, -/
theorem k_apply (h : Fin 4) (r : Fin 4096) (d : Fin 192) : val_main_v91 (F := Ideal) kv z p gk (ix3 h r d)
    = turned (fun k => val_main_v16 (F := Ideal) p (ix2 r k)) (fun k => val_main_v18 (F := Ideal) p (ix2 r k))
        (normed (Ideal.ofBits .f32 0x43400000#32) (kRow kv z h r) (fun k => gk (ix2 0 k))) d := by
  rcases Nat.lt_or_ge d.val 128 with h1 | h1
  · pointwise [val_main_v91, val_main_v90, val_main_v87, val_main_v86, val_main_v85, val_main_v84, val_main_v83, val_main_v82, val_main_v81, val_main_v80, val_main_v79, val_main_v78, val_main_v77, val_main_v76, val_main_v75, val_main_v74, val_main_v73, val_main_v72, k_normed, cos_apply, sin_apply, turned, h1]
  · have h1' : ¬ d.val < 128 := by omega
    rcases Nat.lt_or_ge d.val 160 with h2 | h2
    · have h3 : d.val - 128 < 32 := by omega
      have e1 : 128 + (32 + (d.val - 128)) = d.val + 32 := by omega
      have e2 : 128 + (d.val - 128) = d.val := by omega
      pointwise [val_main_v91, val_main_v90, val_main_v87, val_main_v86, val_main_v85, val_main_v84, val_main_v83, val_main_v82, val_main_v81, val_main_v80, val_main_v79, val_main_v78, val_main_v77, val_main_v76, val_main_v75, val_main_v74, val_main_v73, val_main_v72, k_normed, cos_apply, sin_apply, turned, h1', h2, h3, e1, e2]
    · have h2' : ¬ d.val < 160 := by omega
      have h3 : ¬ d.val - 128 < 32 := by omega
      have e0 : d.val - 128 - 32 = d.val - 160 := by omega
      have e1 : 128 + (32 + (d.val - 160)) = d.val := by omega
      have e2 : 128 + (d.val - 160) = d.val - 32 := by omega
      pointwise [val_main_v91, val_main_v90, val_main_v87, val_main_v86, val_main_v85, val_main_v84, val_main_v83, val_main_v82, val_main_v81, val_main_v80, val_main_v79, val_main_v78, val_main_v77, val_main_v76, val_main_v75, val_main_v74, val_main_v73, val_main_v72, k_normed, cos_apply, sin_apply, turned, h1', h2', h3, e0, e1, e2]

/-- and its third. -/
theorem v_apply (h : Fin 4) (r : Fin 4096) (d : Fin 128) :
    val_main_v93 (F := Ideal) kv (ix3 h r d) = kv (ix2 r ⟨h.val * 256 + (128 + d.val), by omega⟩) := by
  pointwise [val_main_v93, val_main_v92, val_main_v23, val_main_v21]

end Cert.FwdHeads.Reference

namespace Cert.FwdHeads

open Cert.HeadNormFwdIdeal Cert.HeadNormFwdIdeal.Gen Idealize.ShloMosaic Idealize.ShloMosaic.TcCoe Cert.ForwardNorms Idealize.SL.Sem
open Cert.HeadNorm (keyRow)
open Cert.HeadNormFwdRefIdeal.Read (val_main_v16 val_main_v18 val_main_v89 val_main_v89_eq val_main_v91 val_main_v91_eq val_main_v93 val_main_v93_eq)

/-! ## The kernel's payloads, read at an index -/

section
variable (q : Vec Ideal S512x768 .f32) (kv : Vec Ideal S512x1024 .f32) (kr : Vec Ideal S512x128 .f32) (cs sn : Vec Ideal S512x32 .f32)
  (gq gk : Vec Ideal S1x192 .f32)

/-- A head's row of the query, and of the key. -/
def qRow (h : Fin 4) (r : Fin 512) (k : Fin 192) : EReal := q (ix2 r ⟨h.val * 192 + k.val, by omega⟩)
def kRow (h : Fin 4) (r : Fin 512) : Fin 192 → EReal :=
  keyRow (fun k => kv (ix2 r ⟨h.val * 256 + k.val, by omega⟩)) (fun k => kr (ix2 r ⟨k.val, by omega⟩))

/-- The norm of a block's rows. -/
def normBlock (x : FVec Ideal S512x192 .f32) (g : Vec Ideal S1x192 .f32) : FVec Ideal S512x192 .f32 :=
  mulf (mulf x (broadcastTo S512x192 (rsqrt (addf (divf (shapeCast S512x1 (multiReduction .add [1] S512 (mulf x x) 0x00000000#32
      reduces_S512x192_S512 (.inl rfl) rfl) shapeCasts_S512_S512x1) (broadcast S512x1 (Scalar.ofBits .f32 0x43400000#32)))
      (broadcast S512x1 (Scalar.ofBits .f32 0x358637BD#32)))) broadcasts_S512x1_S512x192))
    (broadcastTo S512x192 g broadcasts_S1x192_S512x192)

theorem normBlock_apply (x : FVec Ideal S512x192 .f32) (g : Vec Ideal S1x192 .f32) (r : Fin 512) (d : Fin 192) : normBlock x g (ix2 r d)
    = normed (Ideal.ofBits .f32 0x43400000#32) (fun k => x (ix2 r k)) (fun k => g (ix2 0 k)) d := by
  unfold normed
  pointwise [normBlock, zero_add]

/-- A head's key: its own columns and the shared ones. -/
def keyBlock (x : FVec Ideal S512x128 .f32) (y : FVec Ideal S512x64 .f32) : FVec Ideal S512x192 .f32 :=
  concatenate S512x192 1 [⟨S512x128, x⟩, ⟨S512x64, y⟩] concatenates_S512x128_S512x64_S512x192_d1

theorem keyBlock_apply (x : FVec Ideal S512x128 .f32) (y : FVec Ideal S512x64 .f32) (r : Fin 512) (d : Fin 192) :
    keyBlock x y (ix2 r d) = keyRow (fun k => x (ix2 r k)) (fun k => y (ix2 r k)) d := by
  rcases Nat.lt_or_ge d.val 128 with h1 | h1
  · pointwise [keyBlock, keyRow, h1]
  · have h1' : ¬ d.val < 128 := by omega
    pointwise [keyBlock, keyRow, h1']

/-- The rotary embedding of one head's block. -/
theorem turned_apply (x : FVec Ideal S512x192 .f32) (r : Fin 512) (d : Fin 192) : k0_pay10 (F := Ideal) cs sn x (ix2 r d)
    = turned (fun k => cs (ix2 r k)) (fun k => sn (ix2 r k)) (fun k => x (ix2 r k)) d := by
  rcases Nat.lt_or_ge d.val 128 with h1 | h1
  · pointwise [k0_pay10, turned, h1]
  · have h1' : ¬ d.val < 128 := by omega
    rcases Nat.lt_or_ge d.val 160 with h2 | h2
    · have h3 : d.val - 128 < 32 := by omega
      have e1 : 128 + (32 + (d.val - 128)) = d.val + 32 := by omega
      have e2 : 128 + (d.val - 128) = d.val := by omega
      pointwise [k0_pay10, turned, h1', h2, h3, e1, e2]
    · have h2' : ¬ d.val < 160 := by omega
      have h3 : ¬ d.val - 128 < 32 := by omega
      have e0 : d.val - 128 - 32 = d.val - 160 := by omega
      have e1 : 128 + (32 + (d.val - 160)) = d.val := by omega
      have e2 : 128 + (d.val - 160) = d.val - 32 := by omega
      pointwise [k0_pay10, turned, h1', h2', h3, e0, e1, e2]

theorem keyRow_congr {f f' : Fin 128 → EReal} {g g' : Fin 64 → EReal} (hf : ∀ k, f k = f' k) (hg : ∀ k, g k = g' k) (d : Fin 192) :
    keyRow f g d = keyRow f' g' d := by
  rw [funext hf, funext hg]

/-- The query's heads after the norm, -/
theorem q_0 (r : Fin 512) (d : Fin 192) : k0_pay7 q gq (ix2 r d)
    = normed (Ideal.ofBits .f32 0x43400000#32) (qRow q 0 r) (fun k => gq (ix2 0 k)) d := by
  show normBlock (extractStridedSlice S512x192 ![0, 0] q slices_S512x768_o0_0_S512x192) gq (ix2 r d) = _
  exact (normBlock_apply _ gq r d).trans (congrArg (fun f => normed _ f _ d) (show _ = qRow q 0 r from funext fun k => by pointwise [qRow]))

theorem q_1 (r : Fin 512) (d : Fin 192) : k0_pay13 q gq (ix2 r d)
    = normed (Ideal.ofBits .f32 0x43400000#32) (qRow q 1 r) (fun k => gq (ix2 0 k)) d := by
  show normBlock (extractStridedSlice S512x192 ![0, 192] q slices_S512x768_o0_192_S512x192) gq (ix2 r d) = _
  exact (normBlock_apply _ gq r d).trans (congrArg (fun f => normed _ f _ d) (show _ = qRow q 1 r from funext fun k => by pointwise [qRow]))

theorem q_2 (r : Fin 512) (d : Fin 192) : k0_pay20 q gq (ix2 r d)
    = normed (Ideal.ofBits .f32 0x43400000#32) (qRow q 2 r) (fun k => gq (ix2 0 k)) d := by
  show normBlock (extractStridedSlice S512x192 ![0, 384] q slices_S512x768_o0_384_S512x192) gq (ix2 r d) = _
  exact (normBlock_apply _ gq r d).trans (congrArg (fun f => normed _ f _ d) (show _ = qRow q 2 r from funext fun k => by pointwise [qRow]))

theorem q_3 (r : Fin 512) (d : Fin 192) : k0_pay28 q gq (ix2 r d)
    = normed (Ideal.ofBits .f32 0x43400000#32) (qRow q 3 r) (fun k => gq (ix2 0 k)) d := by
  show normBlock (extractStridedSlice S512x192 ![0, 576] q slices_S512x768_o0_576_S512x192) gq (ix2 r d) = _
  exact (normBlock_apply _ gq r d).trans (congrArg (fun f => normed _ f _ d) (show _ = qRow q 3 r from funext fun k => by pointwise [qRow]))

/-- and the key's. -/
theorem k_0 (r : Fin 512) (d : Fin 192) : k0_pay9 kv kr gk (ix2 r d)
    = normed (Ideal.ofBits .f32 0x43400000#32) (kRow kv kr 0 r) (fun k => gk (ix2 0 k)) d :=
  (normBlock_apply (keyBlock (extractStridedSlice S512x128 ![0, 0] (k0_pay8 kv) slices_S512x256_o0_0_S512x128) (k0_pay6 kr)) gk r d).trans
    (congrArg (fun f => normed _ f _ d) (funext fun k => (keyBlock_apply _ _ r k).trans
      (keyRow_congr (g' := fun k => kr (ix2 r ⟨k.val, by omega⟩)) (f' := fun k => kv (ix2 r ⟨0 * 256 + k.val, by omega⟩))
        (fun k => by pointwise [k0_pay8]) (fun k => by pointwise [k0_pay6]) k)))

theorem k_1 (r : Fin 512) (d : Fin 192) : k0_pay15 kv gk (k0_pay6 kr) (ix2 r d)
    = normed (Ideal.ofBits .f32 0x43400000#32) (kRow kv kr 1 r) (fun k => gk (ix2 0 k)) d :=
  (normBlock_apply (keyBlock (extractStridedSlice S512x128 ![0, 0] (k0_pay14 kv) slices_S512x256_o0_0_S512x128) (k0_pay6 kr)) gk r d).trans
    (congrArg (fun f => normed _ f _ d) (funext fun k => (keyBlock_apply _ _ r k).trans
      (keyRow_congr (g' := fun k => kr (ix2 r ⟨k.val, by omega⟩)) (f' := fun k => kv (ix2 r ⟨1 * 256 + k.val, by omega⟩))
        (fun k => by pointwise [k0_pay14]) (fun k => by pointwise [k0_pay6]) k)))

theorem k_2 (r : Fin 512) (d : Fin 192) : k0_pay22 kv gk (k0_pay6 kr) (ix2 r d)
    = normed (Ideal.ofBits .f32 0x43400000#32) (kRow kv kr 2 r) (fun k => gk (ix2 0 k)) d :=
  (normBlock_apply (keyBlock (extractStridedSlice S512x128 ![0, 0] (k0_pay21 kv) slices_S512x256_o0_0_S512x128) (k0_pay6 kr)) gk r d).trans
    (congrArg (fun f => normed _ f _ d) (funext fun k => (keyBlock_apply _ _ r k).trans
      (keyRow_congr (g' := fun k => kr (ix2 r ⟨k.val, by omega⟩)) (f' := fun k => kv (ix2 r ⟨2 * 256 + k.val, by omega⟩))
        (fun k => by pointwise [k0_pay21]) (fun k => by pointwise [k0_pay6]) k)))

theorem k_3 (r : Fin 512) (d : Fin 192) : k0_pay30 kv gk (k0_pay6 kr) (ix2 r d)
    = normed (Ideal.ofBits .f32 0x43400000#32) (kRow kv kr 3 r) (fun k => gk (ix2 0 k)) d :=
  (normBlock_apply (keyBlock (extractStridedSlice S512x128 ![0, 0] (k0_pay29 kv) slices_S512x256_o0_0_S512x128) (k0_pay6 kr)) gk r d).trans
    (congrArg (fun f => normed _ f _ d) (funext fun k => (keyBlock_apply _ _ r k).trans
      (keyRow_congr (g' := fun k => kr (ix2 r ⟨k.val, by omega⟩)) (f' := fun k => kv (ix2 r ⟨3 * 256 + k.val, by omega⟩))
        (fun k => by pointwise [k0_pay29]) (fun k => by pointwise [k0_pay6]) k)))

/-- The four heads' blocks, one above the other. -/
def stacked (a b c d : FVec Ideal S512x192 .f32) : FVec Ideal S4x512x192 .bf16 :=
  truncf .bf16 (concatenate S4x512x192 0 [⟨S1x512x192, shapeCast S1x512x192 a shapeCasts_S512x192_S1x512x192⟩,
    ⟨S1x512x192, shapeCast S1x512x192 b shapeCasts_S512x192_S1x512x192⟩, ⟨S1x512x192, shapeCast S1x512x192 c shapeCasts_S512x192_S1x512x192⟩,
    ⟨S1x512x192, shapeCast S1x512x192 d shapeCasts_S512x192_S1x512x192⟩]
    concatenates_S1x512x192_S1x512x192_S1x512x192_S1x512x192_S4x512x192_d0 : FVec Ideal S4x512x192 .f32) bitsLt_bf16_f32

theorem stacked_0 (a b c d : FVec Ideal S512x192 .f32) (r : Fin 512) (e : Fin 192) : stacked a b c d (ix3 0 r e) = a (ix2 r e) := by
  pointwise [stacked]

theorem stacked_1 (a b c d : FVec Ideal S512x192 .f32) (r : Fin 512) (e : Fin 192) : stacked a b c d (ix3 1 r e) = b (ix2 r e) := by
  pointwise [stacked]

theorem stacked_2 (a b c d : FVec Ideal S512x192 .f32) (r : Fin 512) (e : Fin 192) : stacked a b c d (ix3 2 r e) = c (ix2 r e) := by
  pointwise [stacked]

theorem stacked_3 (a b c d : FVec Ideal S512x192 .f32) (r : Fin 512) (e : Fin 192) : stacked a b c d (ix3 3 r e) = d (ix2 r e) := by
  pointwise [stacked]

/-- The blocks of the three results as one point computes them. -/
def oQ : FVec Ideal S4x512x192 .bf16 :=
  k0_pay1 (k0_pay4 cs) (k0_pay5 sn) (k0_pay10 (k0_pay4 cs) (k0_pay5 sn) (k0_pay7 q gq))
    (k0_pay17 (k0_pay4 cs) (k0_pay5 sn) (k0_pay13 q gq) (k0_pay16 q gq)) (k0_pay25 (k0_pay4 cs) (k0_pay5 sn) (k0_pay23 q gq) (k0_pay24 q gq))
    (k0_pay31 q gq) (k0_pay32 q gq) (k0_pay33 q gq)
def oK : FVec Ideal S4x512x192 .bf16 :=
  k0_pay2 (k0_pay4 cs) (k0_pay5 sn) (k0_pay11 (k0_pay4 cs) (k0_pay5 sn) (k0_pay9 kv kr gk))
    (k0_pay18 (k0_pay4 cs) (k0_pay5 sn) (k0_pay15 kv gk (k0_pay6 kr))) (k0_pay26 (k0_pay4 cs) (k0_pay5 sn) (k0_pay22 kv gk (k0_pay6 kr)))
    (k0_pay30 kv gk (k0_pay6 kr))
def oV : FVec Ideal S4x512x128 .bf16 :=
  k0_pay3 (k0_pay12 (k0_pay8 kv)) (k0_pay19 (k0_pay14 kv)) (k0_pay27 (k0_pay21 kv)) (k0_pay29 kv)

/-- The first two are the four heads' embeddings. -/
theorem oQ_eq : oQ q cs sn gq = stacked (k0_pay10 (k0_pay4 cs) (k0_pay5 sn) (k0_pay7 q gq)) (k0_pay10 (k0_pay4 cs) (k0_pay5 sn) (k0_pay13 q gq))
    (k0_pay10 (k0_pay4 cs) (k0_pay5 sn) (k0_pay20 q gq)) (k0_pay10 (k0_pay4 cs) (k0_pay5 sn) (k0_pay28 q gq)) := rfl

theorem oK_eq : oK kv kr cs sn gk = stacked (k0_pay10 (k0_pay4 cs) (k0_pay5 sn) (k0_pay9 kv kr gk))
    (k0_pay10 (k0_pay4 cs) (k0_pay5 sn) (k0_pay15 kv gk (k0_pay6 kr))) (k0_pay10 (k0_pay4 cs) (k0_pay5 sn) (k0_pay22 kv gk (k0_pay6 kr)))
    (k0_pay10 (k0_pay4 cs) (k0_pay5 sn) (k0_pay30 kv gk (k0_pay6 kr))) := rfl

/-- The cosines and the sines are read as they are. -/
theorem cos_eq : k0_pay4 (F := Ideal) cs = cs := by
  funext j
  pointwise [k0_pay4]

theorem sin_eq : k0_pay5 (F := Ideal) sn = sn := by
  funext j
  pointwise [k0_pay5]

theorem oQ_apply (h : Fin 4) (r : Fin 512) (d : Fin 192) : oQ q cs sn gq (ix3 h r d)
    = turned (fun k => cs (ix2 r k)) (fun k => sn (ix2 r k)) (normed (Ideal.ofBits .f32 0x43400000#32) (qRow q h r) (fun k => gq (ix2 0 k))) d := by
  rw [oQ_eq, cos_eq, sin_eq]
  fin_cases h
  · exact (stacked_0 _ _ _ _ r d).trans ((turned_apply _ _ _ r d).trans (congrArg (fun f => turned _ _ f d) (funext (q_0 q gq r))))
  · exact (stacked_1 _ _ _ _ r d).trans ((turned_apply _ _ _ r d).trans (congrArg (fun f => turned _ _ f d) (funext (q_1 q gq r))))
  · exact (stacked_2 _ _ _ _ r d).trans ((turned_apply _ _ _ r d).trans (congrArg (fun f => turned _ _ f d) (funext (q_2 q gq r))))
  · exact (stacked_3 _ _ _ _ r d).trans ((turned_apply _ _ _ r d).trans (congrArg (fun f => turned _ _ f d) (funext (q_3 q gq r))))

theorem oK_apply (h : Fin 4) (r : Fin 512) (d : Fin 192) : oK kv kr cs sn gk (ix3 h r d)
    = turned (fun k => cs (ix2 r k)) (fun k => sn (ix2 r k)) (normed (Ideal.ofBits .f32 0x43400000#32) (kRow kv kr h r) (fun k => gk (ix2 0 k))) d := by
  rw [oK_eq, cos_eq, sin_eq]
  fin_cases h
  · exact (stacked_0 _ _ _ _ r d).trans ((turned_apply _ _ _ r d).trans (congrArg (fun f => turned _ _ f d) (funext (k_0 kv kr gk r))))
  · exact (stacked_1 _ _ _ _ r d).trans ((turned_apply _ _ _ r d).trans (congrArg (fun f => turned _ _ f d) (funext (k_1 kv kr gk r))))
  · exact (stacked_2 _ _ _ _ r d).trans ((turned_apply _ _ _ r d).trans (congrArg (fun f => turned _ _ f d) (funext (k_2 kv kr gk r))))
  · exact (stacked_3 _ _ _ _ r d).trans ((turned_apply _ _ _ r d).trans (congrArg (fun f => turned _ _ f d) (funext (k_3 kv kr gk r))))

theorem oV_apply (h : Fin 4) (r : Fin 512) (d : Fin 128) : oV kv (ix3 h r d) = kv (ix2 r ⟨h.val * 256 + (128 + d.val), by omega⟩) := by
  fin_cases h
  · pointwise [oV, k0_pay3, k0_pay12, k0_pay8]
  · pointwise [oV, k0_pay3, k0_pay19, k0_pay14]
  · pointwise [oV, k0_pay3, k0_pay27, k0_pay21]
  · pointwise [oV, k0_pay3, k0_pay29]

end

/-! ## The columns in the kernel's order -/

/-- The input product's columns in the kernel's order. -/
def ordered (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- The rotary key's columns among them. -/
theorem ordered_key (z : FVec Ideal S4096x3136 .f32) (r : Fin 4096) (k : Fin 64) :
    ordered z (ix2 r ⟨3072 + k.val, by omega⟩) = z (ix2 r ⟨512 + k.val, by omega⟩) := by
  have h1 : ¬ 3072 + k.val < 512 := by omega
  have h2 : ¬ 3072 + k.val - 512 < 2560 := by omega
  have h3 : 3072 + k.val - 512 - 2560 = k.val := by omega
  pointwise [ordered, h1, h2, h3]

variable (m : (ℓ : Loc nD τ sig) → Buf (Elt Ideal) ℓ) (ρ : Dev nD → PrngReg)

/-- Device `c`'s six arguments, at their types. -/
abbrev Q (c : Dev nD) : FVec Ideal S4096x768 .f32 := m ((c : Thread nD τ).loc main_arg0)
abbrev KV (c : Dev nD) : FVec Ideal S4096x1024 .f32 := m ((c : Thread nD τ).loc main_arg1)
abbrev Z (c : Dev nD) : FVec Ideal S4096x3136 .f32 := m ((c : Thread nD τ).loc main_arg2)
abbrev PS (c : Dev nD) : IVec S4096 32 := m ((c : Thread nD τ).loc main_arg3)
abbrev GQ (c : Dev nD) : FVec Ideal S1x192 .f32 := m ((c : Thread nD τ).loc main_arg4)
abbrev GK (c : Dev nD) : FVec Ideal S1x192 .f32 := m ((c : Thread nD τ).loc main_arg5)

/-- Where each window's block sits in its array. -/
theorem idx : ∀ t : Fin cfg0.N, win0_0.index t = ![t.val, 0] ∧ win0_1.index t = ![t.val, 0] ∧ win0_2.index t = ![t.val, 24]
    ∧ win0_3.index t = ![t.val, 0] ∧ win0_4.index t = ![t.val, 0] ∧ win0_5.index t = ![0, 0] ∧ win0_6.index t = ![0, 0]
    ∧ win0_7.index t = ![0, t.val, 0] ∧ win0_8.index t = ![0, t.val, 0] ∧ win0_9.index t = ![0, t.val, 0] :=
  (by decide +kernel : ∀ t : Fin grid0.N, _)

/-- The row of the whole array that row `r` of block `t` is. -/
def row (t : Fin cfg0.N) (r : Fin 512) : Fin 4096 := ⟨t.val * 512 + r.val, by have := t.isLt; have hN : cfg0.N = 8 := N_0; omega⟩

/-- The columns, the cosines and the sines as the region finds them. -/
theorem V_cols (c : Dev nD) : (V m c main_v4 : FVec Ideal S4096x3200 .f32) = ordered (Z m c) := by
  show StableHlo.after (List.flatten [hostOps0, hostOps0_1, hostOps0_2]) (fun b => m (c, b)) main_v4 = _
  simp only [List.flatten_cons, List.flatten_nil, List.append_nil, List.cons_append, List.nil_append]
  after_results <;> rfl

theorem V_cos (c : Dev nD) : (V m c main_v21 : FVec Ideal S4096x32 .f32) = val_main_v16 (F := Ideal) (PS m c) := by
  show StableHlo.after (List.flatten [hostOps0, hostOps0_1, hostOps0_2]) (fun b => m (c, b)) main_v21 = _
  simp only [List.flatten_cons, List.flatten_nil, List.append_nil, List.cons_append, List.nil_append]
  after_results <;> rfl

theorem V_sin (c : Dev nD) : (V m c main_v22 : FVec Ideal S4096x32 .f32) = val_main_v18 (F := Ideal) (PS m c) := by
  show StableHlo.after (List.flatten [hostOps0, hostOps0_1, hostOps0_2]) (fun b => m (c, b)) main_v22 = _
  simp only [List.flatten_cons, List.flatten_nil, List.append_nil, List.cons_append, List.nil_append]
  after_results <;> rfl

theorem blk0 (c : Dev nD) (t : Fin cfg0.N) (r : Fin 512) (k : Fin 768) :
    (iblk m c 0 t : Vec Ideal S512x768 .f32) (ix2 r k) = Q m c (ix2 (row t r) k) := by
  blk_simp [iblk]
  refine (congrFun (V_main_arg0 m c) _).trans (congrArg (Q m c) ?_)
  blk_ext [(idx t).1, row]

theorem blk1 (c : Dev nD) (t : Fin cfg0.N) (r : Fin 512) (k : Fin 1024) :
    (iblk m c 1 t : Vec Ideal S512x1024 .f32) (ix2 r k) = KV m c (ix2 (row t r) k) := by
  blk_simp [iblk]
  refine (congrFun (V_main_arg1 m c) _).trans (congrArg (KV m c) ?_)
  blk_ext [(idx t).2.1, row]

theorem blk2 (c : Dev nD) (t : Fin cfg0.N) (r : Fin 512) (k : Fin 64) :
    (iblk m c 2 t : Vec Ideal S512x128 .f32) (ix2 r ⟨k.val, by omega⟩) = Z m c (ix2 (row t r) ⟨512 + k.val, by omega⟩) := by
  blk_simp [iblk]
  refine (congrFun (V_cols m c) _).trans ((congrArg (ordered (Z m c)) ?_).trans (ordered_key (Z m c) (row t r) k))
  blk_ext [(idx t).2.2.1, row]

theorem blk3 (c : Dev nD) (t : Fin cfg0.N) (r : Fin 512) (k : Fin 32) :
    (iblk m c 3 t : Vec Ideal S512x32 .f32) (ix2 r k) = val_main_v16 (F := Ideal) (PS m c) (ix2 (row t r) k) := by
  blk_simp [iblk]
  refine (congrFun (V_cos m c) _).trans (congrArg (val_main_v16 (F := Ideal) (PS m c)) ?_)
  blk_ext [(idx t).2.2.2.1, row]

theorem blk4 (c : Dev nD) (t : Fin cfg0.N) (r : Fin 512) (k : Fin 32) :
    (iblk m c 4 t : Vec Ideal S512x32 .f32) (ix2 r k) = val_main_v18 (F := Ideal) (PS m c) (ix2 (row t r) k) := by
  blk_simp [iblk]
  refine (congrFun (V_sin m c) _).trans (congrArg (val_main_v18 (F := Ideal) (PS m c)) ?_)
  blk_ext [(idx t).2.2.2.2.1, row]

theorem blk5 (c : Dev nD) (t : Fin cfg0.N) (k : Fin 192) : (iblk m c 5 t : Vec Ideal S1x192 .f32) (ix2 0 k) = GQ m c (ix2 0 k) := by
  blk_simp [iblk]
  refine (congrFun (V_main_arg4 m c) _).trans (congrArg (GQ m c) ?_)
  blk_ext [(idx t).2.2.2.2.2.1]

theorem blk6 (c : Dev nD) (t : Fin cfg0.N) (k : Fin 192) : (iblk m c 6 t : Vec Ideal S1x192 .f32) (ix2 0 k) = GK m c (ix2 0 k) := by
  blk_simp [iblk]
  refine (congrFun (V_main_arg5 m c) _).trans (congrArg (GK m c) ?_)
  blk_ext [(idx t).2.2.2.2.2.2.1]

/-! ## The result arrays -/

/-- A row of a block is the row of the whole array, head by head. -/
theorem qRow_eq (c : Dev nD) (t : Fin cfg0.N) (h : Fin 4) (r : Fin 512) : qRow (iblk m c 0 t) h r = Reference.qRow (Q m c) h (row t r) :=
  funext fun k => by unfold qRow Reference.qRow; rw [blk0]

theorem kRow_eq (c : Dev nD) (t : Fin cfg0.N) (h : Fin 4) (r : Fin 512) :
    kRow (iblk m c 1 t) (iblk m c 2 t) h r = Reference.kRow (KV m c) (Z m c) h (row t r) := by
  unfold kRow Reference.kRow
  congr 1
  · exact funext fun k => blk1 m c t r _
  · exact funext fun k => blk2 m c t r k

/-- What a point leaves for the query is the reference's in the rows of the block, -/
theorem block_q (c : Dev nD) (t : Fin cfg0.N) (h : Fin 4) (r : Fin 512) (d : Fin 192) :
    oQ (iblk m c 0 t) (iblk m c 3 t) (iblk m c 4 t) (iblk m c 5 t) (ix3 h r d)
      = val_main_v89 (F := Ideal) (Q m c) (PS m c) (GQ m c) (ix3 h (row t r) d) := by
  rw [oQ_apply, Reference.q_apply, qRow_eq]
  simp only [blk3, blk4, blk5]

/-- for the key, -/
theorem block_k (c : Dev nD) (t : Fin cfg0.N) (h : Fin 4) (r : Fin 512) (d : Fin 192) :
    oK (iblk m c 1 t) (iblk m c 2 t) (iblk m c 3 t) (iblk m c 4 t) (iblk m c 6 t) (ix3 h r d)
      = val_main_v91 (F := Ideal) (KV m c) (Z m c) (PS m c) (GK m c) (ix3 h (row t r) d) := by
  rw [oK_apply, Reference.k_apply, kRow_eq]
  simp only [blk3, blk4, blk6]

/-- and for the value. -/
theorem block_v (c : Dev nD) (t : Fin cfg0.N) (h : Fin 4) (r : Fin 512) (d : Fin 128) :
    oV (iblk m c 1 t) (ix3 h r d) = val_main_v93 (F := Ideal) (KV m c) (ix3 h (row t r) d) := by
  rw [oV_apply, Reference.v_apply, blk1]

/-- The kernel's array of the queries is the reference's. -/
theorem final_q (c : Dev nD) : (dats m 0 c).arrAt 7 cfg0.N = val_main_v89 (F := Ideal) (Q m c) (PS m c) (GQ m c) := by
  refine (dats m 0 c).arrAt_eq_of_covers 7 _ (by decide +kernel) fun t _ y => ?_
  blk_simp
  rw [after0_7]
  have e : ((View.whole main_v23_0).slice (win0_7.rect t)).emb y = (ix3 (y 0) (row t (y 1)) (y 2) : S4x4096x192.Idx) := by
    blk_ext [(idx t).2.2.2.2.2.2.2.1, row]
  rw [e, ← block_q m c t (y 0) (y 1) (y 2)]
  unfold_out out0_7
  frame_out
  exact congrArg _ (eq_ix3 y)

/-- The kernel's array of the keys is the reference's. -/
theorem final_k (c : Dev nD) : (dats m 0 c).arrAt 8 cfg0.N = val_main_v91 (F := Ideal) (KV m c) (Z m c) (PS m c) (GK m c) := by
  refine (dats m 0 c).arrAt_eq_of_covers 8 _ (by decide +kernel) fun t _ y => ?_
  blk_simp
  rw [after0_8]
  have e : ((View.whole main_v23_1).slice (win0_8.rect t)).emb y = (ix3 (y 0) (row t (y 1)) (y 2) : S4x4096x192.Idx) := by
    blk_ext [(idx t).2.2.2.2.2.2.2.2.1, row]
  rw [e, ← block_k m c t (y 0) (y 1) (y 2)]
  unfold_out out0_8
  frame_out
  exact congrArg _ (eq_ix3 y)

/-- The kernel's array of the values is the reference's. -/
theorem final_v (c : Dev nD) : (dats m 0 c).arrAt 9 cfg0.N = val_main_v93 (F := Ideal) (KV m c) := by
  refine (dats m 0 c).arrAt_eq_of_covers 9 _ (by decide +kernel) fun t _ y => ?_
  blk_simp
  rw [after0_9]
  have e : ((View.whole main_v23_2).slice (win0_9.rect t)).emb y = (ix3 (y 0) (row t (y 1)) (y 2) : S4x4096x128.Idx) := by
    blk_ext [(idx t).2.2.2.2.2.2.2.2.2, row]
  rw [e, ← block_v m c t (y 0) (y 1) (y 2)]
  unfold_out out0_9
  frame_out
  exact congrArg _ (eq_ix3 y)

/-- The reference runs, leaves its arguments as they were and every semaphore at zero. -/
theorem frame_ref : Cert.quiescent_HeadNormFwdRefIdeal := fun m ρ _ =>
  (θ_run Cert.HeadNormFwdRefIdeal.defs _ _).mono
    (fun r h => ⟨fun c => (h c).2.2.2, sem_eq_zero_of_no_sems (by decide) r.2⟩) (Cert.HeadNormFwdRefIdeal.Value.run (F := Ideal) m ρ)

/-- At the ideal values the kernel and the reference end with the same three arrays. -/
theorem algebraic : Cert.algebraic_HeadNormFwdIdeal_HeadNormFwdRefIdeal := by
  intro m ρ m' ρ' _ hagree
  refine ⟨fun c => val_main_v89 (F := Ideal) (Q m c) (PS m c) (GQ m c), fun c => val_main_v91 (F := Ideal) (KV m c) (Z m c) (PS m c) (GK m c),
    fun c => val_main_v93 (F := Ideal) (KV m c), ?_, ?_⟩
  · refine (θ_run Cert.HeadNormFwdIdeal.defs _ _).mono (fun _ h c => ?_) (HeadNormFwdIdeal.Value.run_blocks (F := Ideal) m ρ)
    exact ⟨(h c).1.trans (final_q m c), (h c).2.1.trans (final_k m c), (h c).2.2.1.trans (final_v m c), (h c).2.2.2⟩
  · refine (θ_run Cert.HeadNormFwdRefIdeal.defs _ _).mono (fun _ h c => ?_) (Cert.HeadNormFwdRefIdeal.Value.run (F := Ideal) m' ρ')
    obtain ⟨e0, e1, e2, e3, e4, e5⟩ := hagree c
    refine ⟨(h c).1.trans ?_, (h c).2.1.trans ?_, (h c).2.2.1.trans ?_, (h c).2.2.2⟩
    · rw [val_main_v89_eq, e0, e3, e4]
    · rw [val_main_v91_eq, e1, e2, e3, e5]
    · rw [val_main_v93_eq, e1]

end Cert.FwdHeads

end
-- ==== Proof.ForwardLower.lean ====
/- The value of the recurrence's lower bounds: the kernel takes the first row of a softmax over the layers, the reference
   the first row of its running sum. -/
module

public import proofs.«01_k».proof.Proof.ForwardNorms
public import proofs.«01_k».proof.Proof.Reals
public import proofs.«01_k».proof.Proof.Gen.LowerBoundsIdeal.Frame
public import proofs.«01_k».proof.Proof.Gen.LowerBoundsIdeal.Value
public import proofs.«01_k».proof.Proof.Gen.LowerBoundsRefIdeal.Read
public import proofs.«01_k».proof.Proof.Gen.LowerBoundsRefIdeal.Run

@[expose] public section

noncomputable section

namespace Cert.FwdLower.Reference

open Cert.LowerBoundsRefIdeal Cert.LowerBoundsRefIdeal.Read Idealize.ShloMosaic

/-- The largest of the layers' parameters, and a layer's share. -/
def top (x : FVec Ideal S2x2x512 .f32) (i : Fin 2) (d : Fin 512) : EReal := Finset.univ.fold max (Ideal.ofBits .f32 0xFF800000#32) fun l : Fin 2 => x (ix3 l i d)
def share (x : FVec Ideal S2x2x512 .f32) (l i : Fin 2) (d : Fin 512) : EReal :=
  Ideal.div (Ideal.exp (x (ix3 l i d) - top x i d)) (∑ k : Fin 2, Ideal.exp (x (ix3 k i d) - top x i d))

/-- The reference's softmax at an index. -/
theorem softmax_apply (x : FVec Ideal S2x2x512 .f32) (l i : Fin 2) (d : Fin 512) :
    val_main_v10 (F := Ideal) x (ix3 l i d) = share x l i d := by
  have hb (y : EReal) : max (Ideal.ofBits .f32 0xFF800000#32) y = y := by rw [Cert.Common.ofBits_neg_inf_f32]; exact max_eq_right bot_le
  unfold share top
  pointwise [val_main_cst, val_main_v0, val_main_cst_0, val_main_v1, val_main_v2, val_main_v3, val_main_v4, val_main_v5, val_main_v6,
    val_main_cst_1, val_main_v7, val_main_v8, val_main_v9, val_main_v10, zero_add, hb]

/-- The two positions of the running sum's window, in order. -/
theorem window_two {α : Type} (g : α → Fin (Shape.numel ⟨3, ![2, 1, 1]⟩) → α) (v : α) :
    (List.finRange (Shape.numel ⟨3, ![2, 1, 1]⟩)).foldl g v = g (g v ⟨0, by decide⟩) ⟨1, by decide⟩ := rfl

/-- The first row of the running sum over the layers is the first layer's row: the window's other position lies outside. -/
theorem first_sum (y : FVec Ideal S2x2x512 .f32) (i : Fin 2) (d : Fin 512) :
    Host.reduceWindowAdd ![2, 1, 1] ![1, 1, 1] ![1, 0, 0] ![0, 0, 0] y (val_main_call0_call0_v0 (F := Ideal))
      Gen.reduceWindows_S2x2x512_S2x2x512_w2s1p1_0_w1s1p0_0_w1s1p0_0 Gen.h_S_ (ix3 0 i d) = y (ix3 0 i d) := by
  have hv : val_main_call0_call0_v0 (F := Ideal) (Shape.Idx.first Gen.h_S_) = 0 := by
    show Ideal.ofBits .f32 0x00000000#32 = 0
    exact Ideal.ofBits_zero_f32
  unfold Host.reduceWindowAdd
  rw [Ideal.hostReduceWindowAdd_def, hv]
  unfold Ideal.hostReduceWindowAdd Host.reduceWindow
  refine (window_two _ _).trans ?_
  have p0 : ∀ a, ((⟨3, ![2, 1, 1]⟩ : Shape).rowMajor.symm ⟨0, by decide⟩ a).val = 0 := by decide +kernel
  have p1 : ∀ a, ((⟨3, ![2, 1, 1]⟩ : Shape).rowMajor.symm ⟨1, by decide⟩ a).val = (![1, 0, 0] : Fin 3 → Nat) a := by decide +kernel
  refine (congrArg₂ (· + ·) (congrArg₂ (· + ·) rfl (dif_neg ?_)) (dif_pos ?_)).trans ?_
  · intro h
    have h0 : 1 ≤ 0 * 1 + ((⟨3, ![2, 1, 1]⟩ : Shape).rowMajor.symm ⟨0, by decide⟩ 0).val := (h 0).1
    rw [p0 0] at h0
    omega
  · intro a
    have hi := i.isLt
    have hd := d.isLt
    match a with
    | ⟨0, _⟩ =>
      show 1 ≤ 0 * 1 + ((⟨3, ![2, 1, 1]⟩ : Shape).rowMajor.symm ⟨1, by decide⟩ 0).val ∧ 0 * 1 + ((⟨3, ![2, 1, 1]⟩ : Shape).rowMajor.symm ⟨1, by decide⟩ 0).val - 1 < 2
      rw [p1 0]; decide
    | ⟨1, _⟩ =>
      show 0 ≤ i.val * 1 + ((⟨3, ![2, 1, 1]⟩ : Shape).rowMajor.symm ⟨1, by decide⟩ 1).val ∧ i.val * 1 + ((⟨3, ![2, 1, 1]⟩ : Shape).rowMajor.symm ⟨1, by decide⟩ 1).val - 0 < 2
      rw [p1 1]; show 0 ≤ i.val * 1 + 0 ∧ i.val * 1 + 0 - 0 < 2; omega
    | ⟨2, _⟩ =>
      show 0 ≤ d.val * 1 + ((⟨3, ![2, 1, 1]⟩ : Shape).rowMajor.symm ⟨1, by decide⟩ 2).val ∧ d.val * 1 + ((⟨3, ![2, 1, 1]⟩ : Shape).rowMajor.symm ⟨1, by decide⟩ 2).val - 0 < 512
      rw [p1 2]; show 0 ≤ d.val * 1 + 0 ∧ d.val * 1 + 0 - 0 < 512; omega
  · show (0 : EReal) + 0 + y _ = _
    rw [zero_add, zero_add]
    refine congrArg y (funext fun a => Fin.ext ?_)
    match a with
    | ⟨0, _⟩ => exact congrArg (fun n => 0 * 1 + n - 1) (p1 0)
    | ⟨1, _⟩ => exact (congrArg (fun n => i.val * 1 + n - 0) (p1 1)).trans (by show i.val * 1 + 0 - 0 = i.val; omega)
    | ⟨2, _⟩ => exact (congrArg (fun n => d.val * 1 + n - 0) (p1 2)).trans (by show d.val * 1 + 0 - 0 = d.val; omega)

/-- The reference's result at an index. -/
theorem lower_apply (x : FVec Ideal S2x2x512 .f32) (i : Fin 2) (d : Fin 512) :
    val_main_v13 (F := Ideal) x (ix2 i d) = share x 0 i d := by
  rw [← softmax_apply, ← first_sum (val_main_v10 (F := Ideal) x) i d]
  pointwise [val_main_v13, val_main_v12, val_main_v11]

end Cert.FwdLower.Reference

namespace Cert.FwdLower

open Cert.LowerBoundsIdeal Cert.LowerBoundsIdeal.Gen Idealize.ShloMosaic Idealize.ShloMosaic.TcCoe Idealize.SL.Sem
open Cert.LowerBoundsRefIdeal.Read (val_main_v13 val_main_v13_eq)

/-- What the body stores, at an index. -/
theorem pay_apply (x : Vec Ideal S2x2x512 .f32) (i : Fin 2) (d : Fin 512) : k0_pay1 x (ix2 i d) = Reference.share x 0 i d := by
  unfold Reference.share Reference.top
  pointwise [k0_pay1]

variable (m : (ℓ : Loc nD τ sig) → Buf (Elt Ideal) ℓ) (ρ : Dev nD → PrngReg)

/-- Device `c`'s argument, at its type. -/
abbrev L (c : Dev nD) : FVec Ideal S2x2x512 .f32 := m ((c : Thread nD τ).loc main_arg0)

/-- The one block of each window is its whole array. -/
theorem idx : ∀ t : Fin cfg0.N, win0_0.index t = ![0, 0, 0] ∧ win0_1.index t = ![0, 0] := (by decide +kernel : ∀ t : Fin grid0.N, _)

theorem blk0 (c : Dev nD) (t : Fin cfg0.N) : (iblk m c 0 t : Vec Ideal S2x2x512 .f32) = L m c := by
  funext y
  blk_simp [iblk]
  refine (congrFun (V_main_arg0 m c) _).trans (congrArg (L m c) ?_)
  blk_ext [(idx t).1]

/-- What the body leaves is the reference's array. -/
theorem block (c : Dev nD) (t : Fin cfg0.N) (i : Fin 2) (d : Fin 512) :
    k0_pay1 (iblk m c 0 t) (ix2 i d) = val_main_v13 (F := Ideal) (L m c) (ix2 i d) := by
  rw [blk0, pay_apply, Reference.lower_apply]

/-- The kernel's array is the reference's. -/
theorem final (c : Dev nD) : (dats m 0 c).arrAt 1 cfg0.N = val_main_v13 (F := Ideal) (L m c) := by
  refine (dats m 0 c).arrAt_eq_of_covers 1 _ (by decide +kernel) fun t _ y => ?_
  blk_simp
  rw [after0_1]
  have e : ((View.whole main_v0).slice (win0_1.rect t)).emb y = (ix2 (y 0) (y 1) : S2x512.Idx) := by
    blk_ext [(idx t).2]
  rw [e, ← block m c t (y 0) (y 1)]
  dsimp only [out0_1]
  frame_out
  exact congrArg _ (eq_ix2 y)

/-- The reference runs, leaves its argument as it was and every semaphore at zero. -/
theorem frame_ref : Cert.quiescent_LowerBoundsRefIdeal := fun m ρ _ =>
  (θ_run Cert.LowerBoundsRefIdeal.defs _ _).mono
    (fun r h => ⟨fun c => (h c).2, sem_eq_zero_of_no_sems (by decide) r.2⟩) (Cert.LowerBoundsRefIdeal.Value.run (F := Ideal) m ρ)

/-- At the ideal values the kernel and the reference end with the same array. -/
theorem algebraic : Cert.algebraic_LowerBoundsIdeal_LowerBoundsRefIdeal := by
  intro m ρ m' ρ' _ hagree
  refine ⟨fun c => val_main_v13 (F := Ideal) (L m c), ?_, ?_⟩
  · refine (θ_run Cert.LowerBoundsIdeal.defs _ _).mono (fun _ h c => ?_) (LowerBoundsIdeal.Value.run_blocks (F := Ideal) m ρ)
    exact ⟨(h c).1.trans (final m c), (h c).2⟩
  · refine (θ_run Cert.LowerBoundsRefIdeal.defs _ _).mono (fun _ h c => ?_) (Cert.LowerBoundsRefIdeal.Value.run (F := Ideal) m' ρ')
    refine ⟨(h c).1.trans ?_, (h c).2⟩
    rw [val_main_v13_eq, hagree c]

end Cert.FwdLower

end
-- ==== Proof.ForwardMix.lean ====
/- The value of the call that joins the two mixers: the norm of the recurrence's output in each head, its gate, and the
   attention's output beside it. The kernel goes through the four heads one after the other and writes its gate with the
   hyperbolic tangent. -/
module

public import proofs.«01_k».proof.Proof.ForwardNorms
public import proofs.«01_k».proof.Proof.MixOut
public import proofs.«01_k».proof.Proof.Gen.MixOutFwdIdeal.Frame
public import proofs.«01_k».proof.Proof.Gen.MixOutFwdIdeal.Value
public import proofs.«01_k».proof.Proof.Gen.MixOutFwdRefIdeal.Read
public import proofs.«01_k».proof.Proof.Gen.MixOutFwdRefIdeal.Run

@[expose] public section

noncomputable section

namespace Cert.FwdMix.Reference

open Cert.MixOutFwdRefIdeal Cert.MixOutFwdRefIdeal.Read Idealize.ShloMosaic Cert.ForwardNorms
open Cert.MixOut (col)

variable (x a b : FVec Ideal S4096x512 .f32) (z : FVec Ideal S4096x3136 .f32) (g : FVec Ideal S1x4x128 .f32)

/-- The attention's half of the result, -/
theorem left_apply (r : Fin 4096) (d : Fin 1024) (k : Fin 512) (hd : d.val = k.val) :
    val_main_v21 (F := Ideal) x a b z g (ix2 r d) = x (ix2 r k) := by
  have h : d.val < 512 := by omega
  pointwise [val_main_v21, val_main_v20, h, hd]

/-- and head `h` of the recurrence's. -/
theorem right_apply (r : Fin 4096) (d : Fin 1024) (h : Fin 4) (e : Fin 128) (hd : d.val = 512 + (col h e).val) :
    val_main_v21 (F := Ideal) x a b z g (ix2 r d)
      = normed (Ideal.ofBits .f32 0x43000000#32) (fun k => a (ix2 r (col h k)) + b (ix2 r (col h k))) (fun k => g (ix3 0 h k)) e
        * (z (ix2 r ⟨2624 + (col h e).val, by omega⟩) * Ideal.logistic (z (ix2 r ⟨2624 + (col h e).val, by omega⟩))) := by
  have h1 : ¬ d.val < 512 := by omega
  have h2 : d.val - 512 = (col h e).val := by omega
  unfold normed
  pointwise [val_main_v21, val_main_v20, h1, h2, val_main_v19, val_main_v18, val_main_call0_v5, val_main_call0_v4, val_main_call0_cst_0,
    val_main_call0_v3, val_main_call0_v2, val_main_call0_cst, val_main_call0_v1, val_main_call0_v0, val_main_v17, val_main_v16,
    val_main_v15, val_main_v14, val_main_v13, val_main_v12, val_main_v11, val_main_v10, val_main_v9, val_main_v8, val_main_cst_1,
    val_main_v7, val_main_v6, val_main_cst_0, val_main_v5, val_main_v4, val_main_cst, val_main_v3, val_main_v2, val_main_v1,
    val_main_v0, zero_add, Ideal.logistic, col]

end Cert.FwdMix.Reference

namespace Cert.FwdMix

open Cert.MixOutFwdIdeal Cert.MixOutFwdIdeal.Gen Idealize.ShloMosaic Idealize.ShloMosaic.TcCoe Cert.ForwardNorms Idealize.SL.Sem
open Cert.MixOut (col gate gate_eq exists_col)
open Cert.MixOutFwdRefIdeal.Read (val_main_v21 val_main_v21_eq)

section
variable (x a b w : Vec Ideal S1024x512 .f32) (g : Vec Ideal S1x512 .f32)

/-- What one run of the body stores, from the blocks of the attention, of the two directions, of the gate and the gain. -/
def stored : FVec Ideal S1024x1024 .bf16 :=
  k0_pay1 x (k0_pay5 a b w g) (k0_pay10 (k0_pay6 w) (k0_pay7 a b) (k0_pay8 g) (k0_pay9 a b) (Scalar.ofBits .f32 0x358637BD#32))
    (k0_pay11 (k0_pay2 w) (k0_pay3 g) (k0_pay4 a b)) (k0_pay12 (k0_pay2 w)) (k0_pay13 (k0_pay4 a b)) (k0_pay14 (k0_pay3 g))
    (k0_pay15 (k0_pay4 a b)) (Scalar.ofBits .f32 0x358637BD#32)

/-- Entry `e` of head `h` of a row: normed and gated. -/
def entry (h : Fin 4) (r : Fin 1024) (e : Fin 128) : EReal :=
  normed (Ideal.ofBits .f32 0x43000000#32) (fun k => a (ix2 r (col h k)) + b (ix2 r (col h k))) (fun k => g (ix2 0 (col h k))) e
    * (w (ix2 r (col h e)) * gate (w (ix2 r (col h e))))

/-- The attention's half is copied, -/
theorem left (r : Fin 1024) (d : Fin 1024) (k : Fin 512) (hd : d.val = k.val) : stored x a b w g (ix2 r d) = x (ix2 r k) := by
  have h : d.val < 512 := by omega
  pointwise [stored, k0_pay1, h, hd]

/-- and the heads follow, one after the other. -/
theorem head_0 (r : Fin 1024) (d : Fin 1024) (e : Fin 128) (hd : d.val = 512 + e.val) :
    stored x a b w g (ix2 r d) = entry a b w g 0 r e := by
  have he := e.isLt
  have h0 : ¬ d.val < 512 := by omega
  have h1 : d.val - 512 < 128 := by omega
  have hs : d.val - 512 = e.val := by omega
  unfold entry normed
  pointwise [stored, k0_pay1, k0_pay5, k0_pay2, k0_pay3, k0_pay4, zero_add, h0, h1, hs, col, gate]

theorem head_1 (r : Fin 1024) (d : Fin 1024) (e : Fin 128) (hd : d.val = 640 + e.val) :
    stored x a b w g (ix2 r d) = entry a b w g 1 r e := by
  have he := e.isLt
  have h0 : ¬ d.val < 512 := by omega
  have h1 : ¬ d.val - 512 < 128 := by omega
  have h2 : d.val - 512 - 128 < 128 := by omega
  have hs : d.val - 512 - 128 = e.val := by omega
  unfold entry normed
  pointwise [stored, k0_pay1, k0_pay6, k0_pay7, k0_pay8, k0_pay9, k0_pay10, k0_pay2, k0_pay3, k0_pay4, zero_add, h0, h1, h2, hs, col, gate]

theorem head_2 (r : Fin 1024) (d : Fin 1024) (e : Fin 128) (hd : d.val = 768 + e.val) :
    stored x a b w g (ix2 r d) = entry a b w g 2 r e := by
  have he := e.isLt
  have h0 : ¬ d.val < 512 := by omega
  have h1 : ¬ d.val - 512 < 128 := by omega
  have h2 : ¬ d.val - 512 - 128 < 128 := by omega
  have h3 : d.val - 512 - 128 - 128 < 128 := by omega
  have hs : d.val - 512 - 128 - 128 = e.val := by omega
  unfold entry normed
  pointwise [stored, k0_pay1, k0_pay11, k0_pay2, k0_pay3, k0_pay4, zero_add, h0, h1, h2, h3, hs, col, gate]

theorem head_3 (r : Fin 1024) (d : Fin 1024) (e : Fin 128) (hd : d.val = 896 + e.val) :
    stored x a b w g (ix2 r d) = entry a b w g 3 r e := by
  have he := e.isLt
  have h0 : ¬ d.val < 512 := by omega
  have h1 : ¬ d.val - 512 < 128 := by omega
  have h2 : ¬ d.val - 512 - 128 < 128 := by omega
  have h3 : ¬ d.val - 512 - 128 - 128 < 128 := by omega
  have hs : d.val - 512 - 128 - 128 - 128 = e.val := by omega
  unfold entry normed
  pointwise [stored, k0_pay1, k0_pay12, k0_pay13, k0_pay14, k0_pay15, k0_pay2, k0_pay3, k0_pay4, zero_add, h0, h1, h2, h3, hs, col, gate]

theorem head_apply (r : Fin 1024) (d : Fin 1024) (h : Fin 4) (e : Fin 128) (hd : d.val = 512 + (col h e).val) :
    stored x a b w g (ix2 r d) = entry a b w g h r e := by
  fin_cases h
  · exact head_0 x a b w g r d e (hd.trans (by simp only [col]; omega))
  · exact head_1 x a b w g r d e (hd.trans (by simp only [col]; omega))
  · exact head_2 x a b w g r d e (hd.trans (by simp only [col]; omega))
  · exact head_3 x a b w g r d e (hd.trans (by simp only [col]; omega))

end

/-! ## The columns in the kernel's order -/

/-- The input product's columns in the kernel's order. -/
def ordered (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- The gate's columns among them. -/
theorem ordered_gate (z : FVec Ideal S4096x3136 .f32) (r : Fin 4096) (k : Fin 512) :
    ordered z (ix2 r ⟨2560 + k.val, by omega⟩) = z (ix2 r ⟨2624 + k.val, by omega⟩) := by
  have h1 : ¬ 2560 + k.val < 512 := by omega
  have h2 : 2560 + k.val - 512 < 2560 := by omega
  have h3 : 576 + (2560 + k.val - 512) = 2624 + k.val := by omega
  pointwise [ordered, h1, h2, h3]

variable (m : (ℓ : Loc nD τ sig) → Buf (Elt Ideal) ℓ) (ρ : Dev nD → PrngReg)

/-- Device `c`'s five arguments, at their types. -/
abbrev AT (c : Dev nD) : FVec Ideal S4096x512 .f32 := m ((c : Thread nD τ).loc main_arg0)
abbrev OF (c : Dev nD) : FVec Ideal S4096x512 .f32 := m ((c : Thread nD τ).loc main_arg1)
abbrev OB (c : Dev nD) : FVec Ideal S4096x512 .f32 := m ((c : Thread nD τ).loc main_arg2)
abbrev Z (c : Dev nD) : FVec Ideal S4096x3136 .f32 := m ((c : Thread nD τ).loc main_arg3)
abbrev G (c : Dev nD) : FVec Ideal S1x4x128 .f32 := m ((c : Thread nD τ).loc main_arg4)

/-- Where each window's block sits in its array. -/
theorem idx : ∀ t : Fin cfg0.N, win0_0.index t = ![t.val, 0] ∧ win0_1.index t = ![t.val, 0] ∧ win0_2.index t = ![t.val, 0]
    ∧ win0_3.index t = ![t.val, 5] ∧ win0_4.index t = ![0, 0] ∧ win0_5.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

/-- The columns as the region finds them. -/
theorem V_cols (c : Dev nD) : (V m c main_v4 : FVec Ideal S4096x3200 .f32) = ordered (Z m c) := by
  show StableHlo.after (List.flatten [hostOps0, hostOps0_1, hostOps0_2]) (fun b => m (c, b)) main_v4 = _
  simp only [List.flatten_cons, List.flatten_nil, List.append_nil, List.cons_append, List.nil_append]
  after_results <;> rfl

/-- The gain as the region finds it: one row, the heads side by side. -/
theorem V_gain (c : Dev nD) : (V m c main_v5 : FVec Ideal S1x512 .f32) = shapeCast S1x512 (G m c) shapeCasts_S1x4x128_S1x512 := by
  show StableHlo.after (List.flatten [hostOps0, hostOps0_1, hostOps0_2]) (fun b => m (c, b)) main_v5 = _
  simp only [List.flatten_cons, List.flatten_nil, List.append_nil, List.cons_append, List.nil_append]
  after_results <;> rfl

theorem blk0 (c : Dev nD) (t : Fin cfg0.N) (r : Fin 1024) (k : Fin 512) :
    (iblk m c 0 t : Vec Ideal S1024x512 .f32) (ix2 r k) = AT m c (ix2 (row t r) k) := by
  blk_simp [iblk]
  refine (congrFun (V_main_arg0 m c) _).trans (congrArg (AT m c) ?_)
  blk_ext [(idx t).1, row]

theorem blk1 (c : Dev nD) (t : Fin cfg0.N) (r : Fin 1024) (k : Fin 512) :
    (iblk m c 1 t : Vec Ideal S1024x512 .f32) (ix2 r k) = OF m c (ix2 (row t r) k) := by
  blk_simp [iblk]
  refine (congrFun (V_main_arg1 m c) _).trans (congrArg (OF m c) ?_)
  blk_ext [(idx t).2.1, row]

theorem blk2 (c : Dev nD) (t : Fin cfg0.N) (r : Fin 1024) (k : Fin 512) :
    (iblk m c 2 t : Vec Ideal S1024x512 .f32) (ix2 r k) = OB m c (ix2 (row t r) k) := by
  blk_simp [iblk]
  refine (congrFun (V_main_arg2 m c) _).trans (congrArg (OB m c) ?_)
  blk_ext [(idx t).2.2.1, row]

theorem blk3 (c : Dev nD) (t : Fin cfg0.N) (r : Fin 1024) (k : Fin 512) :
    (X0_3 m c t : Vec Ideal S1024x512 .f32) (ix2 r k) = Z m c (ix2 (row t r) ⟨2624 + k.val, by omega⟩) := by
  unfold X0_3 Pipeline.Window.fill
  rw [dif_pos (moved0_3 t (ix2 r k))]
  blk_simp [iblk]
  refine (congrFun (V_cols m c) _).trans ((congrArg (ordered (Z m c)) ?_).trans (ordered_gate (Z m c) (row t r) k))
  blk_ext [(idx t).2.2.2.1, row]

theorem blk4 (c : Dev nD) (t : Fin cfg0.N) (h : Fin 4) (k : Fin 128) :
    (iblk m c 4 t : Vec Ideal S1x512 .f32) (ix2 0 (col h k)) = G m c (ix3 0 h k) := by
  blk_simp [iblk]
  refine (congrFun (V_gain m c) _).trans (Eq.trans (congrArg (shapeCast S1x512 (G m c) shapeCasts_S1x4x128_S1x512) (?_ : _ = ix2 0 (col h k))) ?_)
  · blk_ext [(idx t).2.2.2.2.1]
  · pointwise [col]

/-- What a point leaves is the reference's array in the rows of the block. -/
theorem block (c : Dev nD) (t : Fin cfg0.N) (r d : Fin 1024) :
    stored (iblk m c 0 t) (iblk m c 1 t) (iblk m c 2 t) (X0_3 m c t) (iblk m c 4 t) (ix2 r d)
      = val_main_v21 (F := Ideal) (AT m c) (OF m c) (OB m c) (Z m c) (G m c) (ix2 (row t r) d) := by
  by_cases hd : d.val < 512
  · rw [left _ _ _ _ _ r d ⟨d.val, hd⟩ rfl, Reference.left_apply _ _ _ _ _ (row t r) d ⟨d.val, hd⟩ rfl, blk0]
  · obtain ⟨h, e, hk⟩ := exists_col ⟨d.val - 512, by omega⟩
    have hv : d.val = 512 + (col h e).val := by rw [← hk]; show d.val = 512 + (d.val - 512); omega
    rw [head_apply _ _ _ _ _ r d h e hv, Reference.right_apply _ _ _ _ _ (row t r) d h e hv]
    unfold entry
    simp only [blk1, blk2, blk3, blk4, gate_eq]

/-- The kernel's array is the reference's. -/
theorem final (c : Dev nD) :
    (dats m 0 c).arrAt 5 cfg0.N = val_main_v21 (F := Ideal) (AT m c) (OF m c) (OB m c) (Z m c) (G m c) := by
  refine (dats m 0 c).arrAt_eq_of_covers 5 _ (by decide +kernel) fun t _ y => ?_
  blk_simp
  rw [after0_5]
  have e : ((View.whole main_v6).slice (win0_5.rect t)).emb y = (ix2 (row t (y 0)) (y 1) : S4096x1024.Idx) := by
    blk_ext [(idx t).2.2.2.2.2, row]
  rw [e, ← block m c t (y 0) (y 1)]
  dsimp only [outsAt0]
  frame_out
  exact congrArg _ (eq_ix2 y)

/-- The reference runs, leaves its arguments as they were and every semaphore at zero. -/
theorem frame_ref : Cert.quiescent_MixOutFwdRefIdeal := fun m ρ _ =>
  (θ_run Cert.MixOutFwdRefIdeal.defs _ _).mono
    (fun r h => ⟨fun c => (h c).2, sem_eq_zero_of_no_sems (by decide) r.2⟩) (Cert.MixOutFwdRefIdeal.Value.run (F := Ideal) m ρ)

/-- At the ideal values the kernel and the reference end with the same array. -/
theorem algebraic : Cert.algebraic_MixOutFwdIdeal_MixOutFwdRefIdeal := by
  intro m ρ m' ρ' _ hagree
  refine ⟨fun c => val_main_v21 (F := Ideal) (AT m c) (OF m c) (OB m c) (Z m c) (G m c), ?_, ?_⟩
  · refine (θ_run Cert.MixOutFwdIdeal.defs _ _).mono (fun _ h c => ?_) (MixOutFwdIdeal.Value.run_blocks (F := Ideal) m ρ)
    exact ⟨(h c).1.trans (final m c), (h c).2⟩
  · refine (θ_run Cert.MixOutFwdRefIdeal.defs _ _).mono (fun _ h c => ?_) (Cert.MixOutFwdRefIdeal.Value.run (F := Ideal) m' ρ')
    obtain ⟨e0, e1, e2, e3, e4⟩ := hagree c
    refine ⟨(h c).1.trans ?_, (h c).2⟩
    rw [val_main_v21_eq, e0, e1, e2, e3, e4]

end Cert.FwdMix

end
-- ==== Proof.ForwardProducts.lean ====
/- The values of the products of the forward pass that carry more than a product: the output projection with the residual
   sum and the next norm, and the two gate products with the gated product. -/
module

public import proofs.«01_k».proof.Proof.ForwardNorms
public import proofs.«01_k».proof.Proof.Common
public import proofs.«01_k».proof.Proof.Casts
public import proofs.«01_k».proof.Proof.Gen.OutProjIdeal.Frame
public import proofs.«01_k».proof.Proof.Gen.OutProjIdeal.Value
public import proofs.«01_k».proof.Proof.Gen.OutProjRefIdeal.Read
public import proofs.«01_k».proof.Proof.Gen.OutProjRefIdeal.Run
public import proofs.«01_k».proof.Proof.Gen.GateUpIdeal.Frame
public import proofs.«01_k».proof.Proof.Gen.GateUpIdeal.Value
public import proofs.«01_k».proof.Proof.Gen.GateUpRefIdeal.Read
public import proofs.«01_k».proof.Proof.Gen.GateUpRefIdeal.Run

@[expose] public section

noncomputable section

/-! ## The output projection -/

namespace Cert.FwdOut.Reference

open Cert.OutProjRefIdeal Cert.OutProjRefIdeal.Read Idealize.ShloMosaic Cert.ForwardNorms

variable (x : FVec Ideal S4096x1024 .f32) (y : FVec Ideal S4096x1024 .bf16) (w : FVec Ideal S1x1024x1024 .f32) (g : FVec Ideal S1x1024 .f32)

/-- A row of the residual stream after the mixing product. -/
def sumRow (r : Fin 4096) (d : Fin 1024) : EReal := x (ix2 r d) + ∑ k : Fin 1024, y (ix2 r k) * w (ix3 0 k d)

/-- The reference's first result at an index, -/
theorem x1_apply (r : Fin 4096) (d : Fin 1024) : val_main_v3 (F := Ideal) x y w (ix2 r d) = sumRow x y w r d := by
  unfold sumRow
  pointwise [val_main_v0, val_main_v1, val_main_v2, val_main_v3]

/-- and its second. -/
theorem h_apply (r : Fin 4096) (d : Fin 1024) : val_main_v18 (F := Ideal) x y w g (ix2 r d)
    = normed (Ideal.ofBits .f32 0x44800000#32) (sumRow x y w r) (fun k => g (ix2 0 k)) d := by
  unfold normed
  simp only [← x1_apply]
  pointwise [val_main_v4, val_main_v5, val_main_cst, val_main_v6, val_main_v7, val_main_cst_0, val_main_v8, val_main_v9, val_main_cst_1,
    val_main_v10, val_main_v11, val_main_v12, val_main_v13, val_main_v14, val_main_v15, val_main_v16, val_main_v17, val_main_v18, zero_add]

end Cert.FwdOut.Reference

namespace Cert.FwdOut

open Cert.OutProjIdeal Cert.OutProjIdeal.Gen Idealize.ShloMosaic Idealize.ShloMosaic.TcCoe Cert.ForwardNorms Idealize.SL.Sem
open Cert.OutProjRefIdeal.Read (val_main_v1 val_main_v3 val_main_v3_eq val_main_v18 val_main_v18_eq)

/-- What one run of the body stores for the residual stream, at an index, -/
theorem sum_apply (y w : Vec Ideal S1024x1024 .bf16) (x : Vec Ideal S1024x1024 .f32) (r d : Fin 1024) :
    k0_pay1 y w x (ix2 r d) = x (ix2 r d) + ∑ k : Fin 1024, y (ix2 r k) * w (ix2 k d) := by
  rw [add_comm (x (ix2 r d))]
  pointwise [k0_pay1, zero_add]

/-- and for the norm. -/
theorem norm_apply (y w : Vec Ideal S1024x1024 .bf16) (x : Vec Ideal S1024x1024 .f32) (g : Vec Ideal S1x1024 .f32) (r d : Fin 1024) :
    k0_pay2 y w x g (ix2 r d)
      = normed (Ideal.ofBits .f32 0x44800000#32) (fun k => k0_pay1 y w x (ix2 r k)) (fun k => g (ix2 0 k)) d := by
  unfold normed
  pointwise [k0_pay2]

variable (m : (ℓ : Loc nD τ sig) → Buf (Elt Ideal) ℓ) (ρ : Dev nD → PrngReg)

/-- Device `c`'s four arguments, at their types. -/
abbrev X (c : Dev nD) : FVec Ideal S4096x1024 .f32 := m ((c : Thread nD τ).loc main_arg0)
abbrev Y (c : Dev nD) : FVec Ideal S4096x1024 .bf16 := m ((c : Thread nD τ).loc main_arg1)
abbrev W (c : Dev nD) : FVec Ideal S1x1024x1024 .f32 := m ((c : Thread nD τ).loc main_arg2)
abbrev G (c : Dev nD) : FVec Ideal S1x1024 .f32 := m ((c : Thread nD τ).loc main_arg3)

/-- Where each window's block sits in its array. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

/-- The weights as the region finds them: the argument, its leading axis of size one dropped. -/
theorem V_w (c : Dev nD) (i : S1024x1024.Idx) : (V m c main_v1 : FVec Ideal S1024x1024 .bf16) i = W m c (ix3 0 (i 0) (i 1)) := by
  have h : (V m c main_v1 : FVec Ideal S1024x1024 .bf16)
      = (truncf (F := Ideal) .bf16 (val_main_v1 (F := Ideal) (W m c)) bitsLt_bf16_f32 : FVec Ideal S1024x1024 .bf16) := by
    show StableHlo.after hostOps0 (fun b => m (c, b)) main_v1 = _
    after_results <;> rfl
  rw [h]
  pointwise [val_main_v1]

theorem blk0 (c : Dev nD) (t : Fin cfg0.N) (r k : Fin 1024) :
    (iblk m c 0 t : Vec Ideal S1024x1024 .bf16) (ix2 r k) = Y m c (ix2 (row t r) k) := by
  blk_simp [iblk]
  refine (congrFun (V_main_arg1 m c) _).trans (congrArg (Y m c) ?_)
  blk_ext [(idx t).1, row]

theorem blk1 (c : Dev nD) (t : Fin cfg0.N) (k d : Fin 1024) :
    (iblk m c 1 t : Vec Ideal S1024x1024 .bf16) (ix2 k d) = W m c (ix3 0 k d) := by
  blk_simp [iblk]
  refine Eq.trans (congrArg (V m c main_v1 : FVec Ideal S1024x1024 .bf16) (?_ : _ = ix2 k d)) (V_w m c (ix2 k d))
  blk_ext [(idx t).2.1]

theorem blk2 (c : Dev nD) (t : Fin cfg0.N) (r k : Fin 1024) :
    (iblk m c 2 t : Vec Ideal S1024x1024 .f32) (ix2 r k) = X m c (ix2 (row t r) k) := by
  blk_simp [iblk]
  refine (congrFun (V_main_arg0 m c) _).trans (congrArg (X m c) ?_)
  blk_ext [(idx t).2.2.1, row]

theorem blk3 (c : Dev nD) (t : Fin cfg0.N) (k : Fin 1024) : (iblk m c 3 t : Vec Ideal S1x1024 .f32) (ix2 0 k) = G m c (ix2 0 k) := by
  blk_simp [iblk]
  refine (congrFun (V_main_arg3 m c) _).trans (congrArg (G m c) ?_)
  blk_ext [(idx t).2.2.2.1]

/-- A row of a block's sum is the reference's row. -/
theorem sum_row (c : Dev nD) (t : Fin cfg0.N) (r d : Fin 1024) :
    k0_pay1 (iblk m c 0 t) (iblk m c 1 t) (iblk m c 2 t) (ix2 r d) = Reference.sumRow (X m c) (Y m c) (W m c) (row t r) d := by
  rw [sum_apply]
  unfold Reference.sumRow
  simp only [blk0, blk1, blk2]

/-- What a point leaves for the residual stream is the reference's in the rows of the block, -/
theorem block_x (c : Dev nD) (t : Fin cfg0.N) (r d : Fin 1024) : k0_pay1 (iblk m c 0 t) (iblk m c 1 t) (iblk m c 2 t) (ix2 r d)
    = val_main_v3 (F := Ideal) (X m c) (Y m c) (W m c) (ix2 (row t r) d) := by
  rw [sum_row, Reference.x1_apply]

/-- and for the norm. -/
theorem block_h (c : Dev nD) (t : Fin cfg0.N) (r d : Fin 1024) :
    k0_pay2 (iblk m c 0 t) (iblk m c 1 t) (iblk m c 2 t) (iblk m c 3 t) (ix2 r d)
      = val_main_v18 (F := Ideal) (X m c) (Y m c) (W m c) (G m c) (ix2 (row t r) d) := by
  rw [norm_apply, Reference.h_apply]
  simp only [sum_row, blk3]

/-- The kernel's first array is the reference's, -/
theorem final_x (c : Dev nD) : (dats m 0 c).arrAt 4 cfg0.N = val_main_v3 (F := Ideal) (X m c) (Y m c) (W m c) := by
  refine (dats m 0 c).arrAt_eq_of_covers 4 _ (by decide +kernel) fun t _ y => ?_
  blk_simp
  rw [after0_4]
  have e : ((View.whole main_v2_0).slice (win0_4.rect t)).emb y = (ix2 (row t (y 0)) (y 1) : S4096x1024.Idx) := by
    blk_ext [(idx t).2.2.2.2.1, row]
  rw [e, ← block_x m c t (y 0) (y 1)]
  dsimp only [out0_4]
  frame_out
  exact congrArg _ (eq_ix2 y)

/-- and so is its second. -/
theorem final_h (c : Dev nD) : (dats m 0 c).arrAt 5 cfg0.N = val_main_v18 (F := Ideal) (X m c) (Y m c) (W m c) (G m c) := by
  refine (dats m 0 c).arrAt_eq_of_covers 5 _ (by decide +kernel) fun t _ y => ?_
  blk_simp
  rw [after0_5]
  have e : ((View.whole main_v2_1).slice (win0_5.rect t)).emb y = (ix2 (row t (y 0)) (y 1) : S4096x1024.Idx) := by
    blk_ext [(idx t).2.2.2.2.2, row]
  rw [e, ← block_h m c t (y 0) (y 1)]
  dsimp only [out0_5]
  frame_out
  exact congrArg _ (eq_ix2 y)

/-- The reference runs, leaves its arguments as they were and every semaphore at zero. -/
theorem frame_ref : Cert.quiescent_OutProjRefIdeal := fun m ρ _ =>
  (θ_run Cert.OutProjRefIdeal.defs _ _).mono
    (fun r h => ⟨fun c => (h c).2.2, sem_eq_zero_of_no_sems (by decide) r.2⟩) (Cert.OutProjRefIdeal.Value.run (F := Ideal) m ρ)

/-- At the ideal values the kernel and the reference end with the same two arrays. -/
theorem algebraic : Cert.algebraic_OutProjIdeal_OutProjRefIdeal := by
  intro m ρ m' ρ' _ hagree
  refine ⟨fun c => val_main_v3 (F := Ideal) (X m c) (Y m c) (W m c), fun c => val_main_v18 (F := Ideal) (X m c) (Y m c) (W m c) (G m c), ?_, ?_⟩
  · refine (θ_run Cert.OutProjIdeal.defs _ _).mono (fun _ h c => ?_) (OutProjIdeal.Value.run_blocks (F := Ideal) m ρ)
    exact ⟨(h c).1.trans (final_x m c), (h c).2.1.trans (final_h m c), (h c).2.2⟩
  · refine (θ_run Cert.OutProjRefIdeal.defs _ _).mono (fun _ h c => ?_) (Cert.OutProjRefIdeal.Value.run (F := Ideal) m' ρ')
    obtain ⟨e0, e1, e2, e3⟩ := hagree c
    refine ⟨(h c).1.trans ?_, (h c).2.1.trans ?_, (h c).2.2⟩
    · rw [val_main_v3_eq, e0, e1, e2]
    · rw [val_main_v18_eq, e0, e1, e2, e3]

end Cert.FwdOut

/-! ## The gate products -/

namespace Cert.FwdGate.Reference

open Cert.GateUpRefIdeal Cert.GateUpRefIdeal.Read Idealize.ShloMosaic

variable (h : FVec Ideal S4096x1024 .bf16) (a b : FVec Ideal S1x1024x2816 .f32)

/-- An entry of a product with the weights. -/
def prod (w : FVec Ideal S1x1024x2816 .f32) (r : Fin 4096) (d : Fin 2816) : EReal := ∑ k : Fin 1024, h (ix2 r k) * w (ix3 0 k d)

/-- The reference's three results at an index. -/
theorem gt_apply (r : Fin 4096) (d : Fin 2816) : val_main_v7 (F := Ideal) h a (ix2 r d) = prod h a r d := by
  unfold prod
  pointwise [val_main_v0, val_main_v1, val_main_v2, val_main_v7]

theorem up_apply (r : Fin 4096) (d : Fin 2816) : val_main_v8 (F := Ideal) h b (ix2 r d) = prod h b r d := by
  unfold prod
  pointwise [val_main_v0, val_main_v3, val_main_v4, val_main_v8]

theorem act_apply (r : Fin 4096) (d : Fin 2816) : val_main_v9 (F := Ideal) h a b (ix2 r d)
    = prod h a r d * Ideal.logistic (prod h a r d) * prod h b r d := by
  unfold prod
  pointwise [val_main_v0, val_main_v1, val_main_v2, val_main_v3, val_main_v4, val_main_call0_v0, val_main_call0_v1, val_main_call0_cst,
    val_main_call0_v2, val_main_call0_v3, val_main_call0_cst_0, val_main_call0_v4, val_main_call0_v5, val_main_v5, val_main_v6, val_main_v9,
    Ideal.logistic]

end Cert.FwdGate.Reference

namespace Cert.FwdGate

open Cert.GateUpIdeal Cert.GateUpIdeal.Gen Idealize.ShloMosaic Idealize.ShloMosaic.TcCoe Idealize.SL.Sem Cert.Common
open Cert.GateUpRefIdeal.Read (val_main_v1 val_main_v3 val_main_v7 val_main_v8 val_main_v9 val_main_v7_eq val_main_v8_eq val_main_v9_eq)

/-- What one run of the body multiplies, at an index: both matrices come with their axes exchanged. -/
theorem prod_apply (h : Vec Ideal S256x1024 .bf16) (w : Vec Ideal S2816x1024 .bf16) (r : Fin 256) (d : Fin 2816) :
    k0_pay1 h w (ix2 r d) = ∑ k : Fin 1024, h (ix2 r k) * w (ix2 d k) := by
  pointwise [k0_pay1, zero_add]

/-- What it stores for the gated product, from the two products. -/
theorem act_apply (h : Vec Ideal S256x1024 .bf16) (a b : Vec Ideal S2816x1024 .bf16) (y : S256x2816.Idx) :
    k0_pay5 h a h b y = k0_pay1 h a y * Ideal.logistic (k0_pay1 h a y) * k0_pay1 h b y := by
  rw [← half_tanh, ← ofBits_half_f32]
  rfl

variable (m : (ℓ : Loc nD τ sig) → Buf (Elt Ideal) ℓ) (ρ : Dev nD → PrngReg)

/-- Device `c`'s three arguments, at their types. -/
abbrev H (c : Dev nD) : FVec Ideal S4096x1024 .bf16 := m ((c : Thread nD τ).loc main_arg0)
abbrev A (c : Dev nD) : FVec Ideal S1x1024x2816 .f32 := m ((c : Thread nD τ).loc main_arg1)
abbrev B (c : Dev nD) : FVec Ideal S1x1024x2816 .f32 := m ((c : Thread nD τ).loc main_arg2)

/-- Where each window's block sits in its array. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The row of the whole array that row `r` of block `t` is. -/
def row (t : Fin cfg0.N) (r : Fin 256) : Fin 4096 := ⟨t.val * 256 + r.val, by have := t.isLt; have hN : cfg0.N = 16 := N_0; omega⟩

/-- Weights with their leading axis dropped and the other two exchanged. -/
def turned (w : FVec Ideal S1x1024x2816 .f32) : FVec Ideal S2816x1024 .bf16 :=
  truncf (F := Ideal) .bf16 (transpose S2816x1024 [1, 0] (val_main_v1 (F := Ideal) w) transposes_S1024x2816_S2816x1024_1_0) bitsLt_bf16_f32

theorem turned_apply (w : FVec Ideal S1x1024x2816 .f32) (d : Fin 2816) (k : Fin 1024) : turned w (ix2 d k) = w (ix3 0 k d) := by
  pointwise [turned, val_main_v1]

/-- The weights as the region finds them. -/
theorem V_a (c : Dev nD) : (V m c main_v2 : FVec Ideal S2816x1024 .bf16) = turned (A m c) := by
  show StableHlo.after hostOps0 (fun b => m (c, b)) main_v2 = _
  after_results <;> rfl

theorem V_b (c : Dev nD) : (V m c main_v5 : FVec Ideal S2816x1024 .bf16) = turned (B m c) := by
  show StableHlo.after hostOps0 (fun b => m (c, b)) main_v5 = _
  after_results <;> rfl

theorem blk0 (c : Dev nD) (t : Fin cfg0.N) (r : Fin 256) (k : Fin 1024) :
    (iblk m c 0 t : Vec Ideal S256x1024 .bf16) (ix2 r k) = H m c (ix2 (row t r) k) := by
  blk_simp [iblk]
  refine (congrFun (V_main_arg0 m c) _).trans (congrArg (H m c) ?_)
  blk_ext [(idx t).1, row]

theorem blk1 (c : Dev nD) (t : Fin cfg0.N) (d : Fin 2816) (k : Fin 1024) :
    (iblk m c 1 t : Vec Ideal S2816x1024 .bf16) (ix2 d k) = A m c (ix3 0 k d) := by
  blk_simp [iblk]
  refine (congrFun (V_a m c) _).trans ((congrArg (turned (A m c)) (?_ : _ = ix2 d k)).trans (turned_apply (A m c) d k))
  blk_ext [(idx t).2.1]

theorem blk2 (c : Dev nD) (t : Fin cfg0.N) (d : Fin 2816) (k : Fin 1024) :
    (iblk m c 2 t : Vec Ideal S2816x1024 .bf16) (ix2 d k) = B m c (ix3 0 k d) := by
  blk_simp [iblk]
  refine (congrFun (V_b m c) _).trans ((congrArg (turned (B m c)) (?_ : _ = ix2 d k)).trans (turned_apply (B m c) d k))
  blk_ext [(idx t).2.2.1]

/-- A block's products are the reference's in the rows of the block. -/
theorem prod_a (c : Dev nD) (t : Fin cfg0.N) (r : Fin 256) (d : Fin 2816) :
    k0_pay1 (iblk m c 0 t) (iblk m c 1 t) (ix2 r d) = Reference.prod (H m c) (A m c) (row t r) d := by
  rw [prod_apply]
  unfold Reference.prod
  simp only [blk0, blk1]

theorem prod_b (c : Dev nD) (t : Fin cfg0.N) (r : Fin 256) (d : Fin 2816) :
    k0_pay1 (iblk m c 0 t) (iblk m c 2 t) (ix2 r d) = Reference.prod (H m c) (B m c) (row t r) d := by
  rw [prod_apply]
  unfold Reference.prod
  simp only [blk0, blk2]

/-- What a point leaves for the three results is the reference's in the rows of the block. -/
theorem block_gt (c : Dev nD) (t : Fin cfg0.N) (r : Fin 256) (d : Fin 2816) :
    k0_pay3 (iblk m c 0 t) (iblk m c 1 t) (ix2 r d) = val_main_v7 (F := Ideal) (H m c) (A m c) (ix2 (row t r) d) :=
  (prod_a m c t r d).trans (Reference.gt_apply (H m c) (A m c) (row t r) d).symm

theorem block_up (c : Dev nD) (t : Fin cfg0.N) (r : Fin 256) (d : Fin 2816) :
    k0_pay4 (iblk m c 0 t) (iblk m c 2 t) (ix2 r d) = val_main_v8 (F := Ideal) (H m c) (B m c) (ix2 (row t r) d) :=
  (prod_b m c t r d).trans (Reference.up_apply (H m c) (B m c) (row t r) d).symm

theorem block_act (c : Dev nD) (t : Fin cfg0.N) (r : Fin 256) (d : Fin 2816) :
    k0_pay5 (iblk m c 0 t) (iblk m c 1 t) (iblk m c 0 t) (iblk m c 2 t) (ix2 r d)
      = val_main_v9 (F := Ideal) (H m c) (A m c) (B m c) (ix2 (row t r) d) := by
  rw [act_apply, prod_a, prod_b, Reference.act_apply]

/-- The kernel's three arrays are the reference's. -/
theorem final_gt (c : Dev nD) : (dats m 0 c).arrAt 3 cfg0.N = val_main_v7 (F := Ideal) (H m c) (A m c) := by
  refine (dats m 0 c).arrAt_eq_of_covers 3 _ (by decide +kernel) fun t _ y => ?_
  blk_simp
  rw [after0_3]
  have e : ((View.whole main_v6_0).slice (win0_3.rect t)).emb y = (ix2 (row t (y 0)) (y 1) : S4096x2816.Idx) := by
    blk_ext [(idx t).2.2.2.1, row]
  rw [e, ← block_gt m c t (y 0) (y 1)]
  dsimp only [out0_3]
  frame_out
  exact congrArg _ (eq_ix2 y)

theorem final_up (c : Dev nD) : (dats m 0 c).arrAt 4 cfg0.N = val_main_v8 (F := Ideal) (H m c) (B m c) := by
  refine (dats m 0 c).arrAt_eq_of_covers 4 _ (by decide +kernel) fun t _ y => ?_
  blk_simp
  rw [after0_4]
  have e : ((View.whole main_v6_1).slice (win0_4.rect t)).emb y = (ix2 (row t (y 0)) (y 1) : S4096x2816.Idx) := by
    blk_ext [(idx t).2.2.2.2.1, row]
  rw [e, ← block_up m c t (y 0) (y 1)]
  dsimp only [out0_4]
  frame_out
  exact congrArg _ (eq_ix2 y)

theorem final_act (c : Dev nD) : (dats m 0 c).arrAt 5 cfg0.N = val_main_v9 (F := Ideal) (H m c) (A m c) (B m c) := by
  refine (dats m 0 c).arrAt_eq_of_covers 5 _ (by decide +kernel) fun t _ y => ?_
  blk_simp
  rw [after0_5]
  have e : ((View.whole main_v6_2).slice (win0_5.rect t)).emb y = (ix2 (row t (y 0)) (y 1) : S4096x2816.Idx) := by
    blk_ext [(idx t).2.2.2.2.2, row]
  rw [e, ← block_act m c t (y 0) (y 1)]
  dsimp only [out0_5]
  frame_out
  exact congrArg _ (eq_ix2 y)

/-- The reference runs, leaves its arguments as they were and every semaphore at zero. -/
theorem frame_ref : Cert.quiescent_GateUpRefIdeal := fun m ρ _ =>
  (θ_run Cert.GateUpRefIdeal.defs _ _).mono
    (fun r h => ⟨fun c => (h c).2.2.2, sem_eq_zero_of_no_sems (by decide) r.2⟩) (Cert.GateUpRefIdeal.Value.run (F := Ideal) m ρ)

/-- At the ideal values the kernel and the reference end with the same three arrays. -/
theorem algebraic : Cert.algebraic_GateUpIdeal_GateUpRefIdeal := by
  intro m ρ m' ρ' _ hagree
  refine ⟨fun c => val_main_v7 (F := Ideal) (H m c) (A m c), fun c => val_main_v8 (F := Ideal) (H m c) (B m c),
    fun c => val_main_v9 (F := Ideal) (H m c) (A m c) (B m c), ?_, ?_⟩
  · refine (θ_run Cert.GateUpIdeal.defs _ _).mono (fun _ h c => ?_) (GateUpIdeal.Value.run_blocks (F := Ideal) m ρ)
    exact ⟨(h c).1.trans (final_gt m c), (h c).2.1.trans (final_up m c), (h c).2.2.1.trans (final_act m c), (h c).2.2.2⟩
  · refine (θ_run Cert.GateUpRefIdeal.defs _ _).mono (fun _ h c => ?_) (Cert.GateUpRefIdeal.Value.run (F := Ideal) m' ρ')
    obtain ⟨e0, e1, e2⟩ := hagree c
    refine ⟨(h c).1.trans ?_, (h c).2.1.trans ?_, (h c).2.2.1.trans ?_, (h c).2.2.2⟩
    · rw [val_main_v7_eq, e0, e1]
    · rw [val_main_v8_eq, e0, e2]
    · rw [val_main_v9_eq, e0, e1, e2]

end Cert.FwdGate

end
-- ==== Proof.DWeight.lean ====
/- The value of a plain product: the gradient of the gate's weights, one column block of the activations against the other
   operand's columns, over all rows at once. -/
module

public import proofs.«01_k».proof.Defs
public import Idealize.ShloMosaic.Lib.Pointwise
public import Idealize.ShloMosaic.Lib.Pipeline.ValueKit
public import proofs.«01_k».proof.Proof.Gen.DWGateIdeal.Frame
public import proofs.«01_k».proof.Proof.Gen.DWGateIdeal.Value
public import proofs.«01_k».proof.Proof.Gen.DWGateRefIdeal.Read
public import proofs.«01_k».proof.Proof.Gen.DWGateRefIdeal.Run

@[expose] public section

noncomputable section

namespace Cert.WeightGrad

open Cert.DWGateIdeal Cert.DWGateIdeal.Gen Idealize.ShloMosaic Idealize.ShloMosaic.TcCoe Idealize.SL.Sem
open Cert.DWGateRefIdeal.Read (val_main_v0 val_main_v1 val_main_v2 val_main_v3 val_main_v4 val_main_v5 val_main_v5_eq)

/-- The reference's result at an index: the gate's cotangents of a column against a column of the rows it was made from. -/
theorem ref_apply (h : FVec Ideal Cert.DWGateRefIdeal.S4096x1024 .bf16) (z : FVec Ideal Cert.DWGateRefIdeal.S4096x2816 .bf16) (n : Fin 2816) (d : Fin 1024) :
    val_main_v5 (F := Ideal) h z (ix2 n d) = ∑ r : Fin 4096, z (ix2 r n) * h (ix2 r d) := by
  simp only [mul_comm (z _)]
  pointwise [val_main_v0, val_main_v1, val_main_v2, val_main_v3, val_main_v4, val_main_v5]

/-- What one run of the body stores, at an index. -/
theorem prod_apply (z : Vec Ideal S4096x1408 .bf16) (h : Vec Ideal S4096x512 .bf16) (n : Fin 1408) (d : Fin 512) :
    k0_pay1 z h (ix2 n d) = ∑ r : Fin 4096, z (ix2 r n) * h (ix2 r d) := by
  pointwise [k0_pay1, zero_add]

variable (m : (ℓ : Loc nD τ sig) → Buf (Elt Ideal) ℓ) (ρ : Dev nD → PrngReg)

/-- Device `c`'s two arguments, at their types. -/
abbrev H (c : Dev nD) : FVec Ideal S4096x1024 .bf16 := m ((c : Thread nD τ).loc main_arg0)
abbrev Z (c : Dev nD) : FVec Ideal S4096x2816 .bf16 := m ((c : Thread nD τ).loc main_arg1)

/-- Where each window's block sits in its array: two blocks of rows of the result, each with two blocks of columns. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row and the column of the whole result that a row and a column of block `t` are. -/
def row (t : Fin cfg0.N) (n : Fin 1408) : Fin 2816 := ⟨t.val / 2 * 1408 + n.val, by have ht : t.val < cfg0.N := t.isLt; have hN : cfg0.N = 4 := N_0; omega⟩
def col (t : Fin cfg0.N) (d : Fin 512) : Fin 1024 := ⟨t.val % 2 * 512 + d.val, by omega⟩

theorem blk0 (c : Dev nD) (t : Fin cfg0.N) (r : Fin 4096) (n : Fin 1408) :
    (iblk m c 0 t : Vec Ideal S4096x1408 .bf16) (ix2 r n) = Z m c (ix2 r (row t n)) := by
  blk_simp [iblk]
  refine (congrFun (V_main_arg1 m c) _).trans (congrArg (Z m c) ?_)
  blk_ext [(idx t).1, row]

theorem blk1 (c : Dev nD) (t : Fin cfg0.N) (r : Fin 4096) (d : Fin 512) :
    (iblk m c 1 t : Vec Ideal S4096x512 .bf16) (ix2 r d) = H m c (ix2 r (col t d)) := by
  blk_simp [iblk]
  refine (congrFun (V_main_arg0 m c) _).trans (congrArg (H m c) ?_)
  blk_ext [(idx t).2.1, col]

/-- What a point leaves is the reference's block. -/
theorem block (c : Dev nD) (t : Fin cfg0.N) (n : Fin 1408) (d : Fin 512) :
    k0_pay1 (iblk m c 0 t) (iblk m c 1 t) (ix2 n d) = val_main_v5 (F := Ideal) (H m c) (Z m c) (ix2 (row t n) (col t d)) := by
  rw [prod_apply, ref_apply]
  simp only [blk0, blk1]

/-- The kernel's array is the reference's. -/
theorem final (c : Dev nD) : (dats m 0 c).arrAt 2 cfg0.N = val_main_v5 (F := Ideal) (H m c) (Z m c) := by
  refine (dats m 0 c).arrAt_eq_of_covers 2 _ (by decide +kernel) fun t _ y => ?_
  blk_simp
  rw [after0_2]
  have e : ((View.whole main_v0).slice (win0_2.rect t)).emb y = (ix2 (row t (y 0)) (col t (y 1)) : S2816x1024.Idx) := by
    blk_ext [(idx t).2.2, row, col]
  rw [e, ← block m c t (y 0) (y 1)]
  dsimp only [out0_2]
  frame_out
  exact congrArg _ (eq_ix2 y)

/-- The reference runs, leaves its arguments as they were and every semaphore at zero. -/
theorem frame_ref : Cert.quiescent_DWGateRefIdeal := fun m ρ _ =>
  (θ_run Cert.DWGateRefIdeal.defs _ _).mono
    (fun r h => ⟨fun c => (h c).2, sem_eq_zero_of_no_sems (by decide) r.2⟩) (Cert.DWGateRefIdeal.Value.run (F := Ideal) m ρ)

/-- At the ideal values the kernel and the reference end with the same array. -/
theorem algebraic : Cert.algebraic_DWGateIdeal_DWGateRefIdeal := by
  intro m ρ m' ρ' _ hagree
  refine ⟨fun c => val_main_v5 (F := Ideal) (H m c) (Z m c), ?_, ?_⟩
  · refine (θ_run Cert.DWGateIdeal.defs _ _).mono (fun _ h c => ?_) (DWGateIdeal.Value.run_blocks (F := Ideal) m ρ)
    exact ⟨(h c).1.trans (final m c), (h c).2⟩
  · refine (θ_run Cert.DWGateRefIdeal.defs _ _).mono (fun _ h c => ?_) (Cert.DWGateRefIdeal.Value.run (F := Ideal) m' ρ')
    obtain ⟨e0, e1⟩ := hagree c
    refine ⟨(h c).1.trans ?_, (h c).2⟩
    rw [val_main_v5_eq, e0, e1]

end Cert.WeightGrad

end
-- ==== Proof.Optimiser.lean ====
/- The value of the optimiser's step of one weight: the sum of the two gradients, and AdamW's change, mean and square mean. -/
module

public import proofs.«01_k».proof.Defs
public import Idealize.ShloMosaic.Lib.Pointwise
public import Idealize.ShloMosaic.Lib.Pipeline.ValueKit
public import proofs.«01_k».proof.Proof.Gen.AdamwIdeal.Frame
public import proofs.«01_k».proof.Proof.Gen.AdamwIdeal.Value
public import proofs.«01_k».proof.Proof.Gen.AdamwRefIdeal.Read
public import proofs.«01_k».proof.Proof.Gen.AdamwRefIdeal.Run

@[expose] public section

noncomputable section

namespace Cert.OptStep

open Cert.AdamwIdeal Cert.AdamwIdeal.Gen Idealize.ShloMosaic Idealize.ShloMosaic.TcCoe Idealize.SL.Sem
open Cert.AdamwRefIdeal.Read

/-- The step of one number: the new mean of the gradients, -/
def mean (g m : EReal) : EReal := Ideal.ofBits .f32 0x3F666666#32 * m + Ideal.ofBits .f32 0x3DCCCCCD#32 * g

/-- the new mean of their squares, -/
def square (g v : EReal) : EReal := Ideal.ofBits .f32 0x3F7FBE77#32 * v + Ideal.ofBits .f32 0x3A83126F#32 * (g * g)

/-- and the change of the weight. -/
def change (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
      + Ideal.ofBits .f32 0x3C23D70A#32 * w)

section Reference

variable (w : FVec Ideal Cert.AdamwRefIdeal.S1x704x1024 .f32) (a b : FVec Ideal Cert.AdamwRefIdeal.S704x1024 .f32) (m v : FVec Ideal Cert.AdamwRefIdeal.S1x704x1024 .f32)
variable (r : Fin 704) (d : Fin 1024)

/-- The reference's four results at an index. -/
theorem ref_grad : val_main_v3 (F := Ideal) a b (ix2 r d) = a (ix2 r d) + b (ix2 r d) := by
  pointwise [val_main_v3]

theorem ref_mean : val_main_v8 (F := Ideal) a b m (ix2 r d) = mean (a (ix2 r d) + b (ix2 r d)) (m (ix3 0 r d)) := by
  unfold mean
  pointwise [val_main_v1, val_main_v3, val_main_v4, val_main_cst, val_main_v5, val_main_cst_0, val_main_v6, val_main_v7, val_main_v8]

theorem ref_square : val_main_v14 (F := Ideal) a b v (ix2 r d) = square (a (ix2 r d) + b (ix2 r d)) (v (ix3 0 r d)) := by
  unfold square
  pointwise [val_main_v2, val_main_v3, val_main_cst_1, val_main_v9, val_main_v10, val_main_v11, val_main_cst_2, val_main_v12, val_main_v13, val_main_v14]

theorem ref_change : val_main_v27 (F := Ideal) w a b m v (ix2 r d)
    = change (w (ix3 0 r d)) (a (ix2 r d) + b (ix2 r d)) (m (ix3 0 r d)) (v (ix3 0 r d)) := by
  unfold change
  rw [← ref_mean a b m r d, ← ref_square a b v r d]
  pointwise [val_main_v0, val_main_cst_3, val_main_v15, val_main_v16, val_main_cst_4, val_main_v17, val_main_v18, val_main_v19, val_main_cst_5,
    val_main_v20, val_main_v21, val_main_v22, val_main_cst_6, val_main_v23, val_main_v24, val_main_v25, val_main_cst_7, val_main_v26, val_main_v27]

end Reference

section Body

variable (a b w m v : Vec Ideal S704x1024 .f32) (r : Fin 704) (d : Fin 1024)

/-- What one run of the body stores, at an index. -/
theorem body_grad : k0_pay2 a b (ix2 r d) = a (ix2 r d) + b (ix2 r d) := by
  pointwise [k0_pay2]

theorem body_mean : k0_pay3 a b m (ix2 r d) = mean (a (ix2 r d) + b (ix2 r d)) (m (ix2 r d)) := by
  unfold mean
  pointwise [k0_pay3, k0_pay2]

theorem body_square : k0_pay4 a b v (ix2 r d) = square (a (ix2 r d) + b (ix2 r d)) (v (ix2 r d)) := by
  unfold square
  pointwise [k0_pay4, k0_pay2]

theorem body_change : k0_pay5 a b w m v (ix2 r d) = change (w (ix2 r d)) (a (ix2 r d) + b (ix2 r d)) (m (ix2 r d)) (v (ix2 r d)) := by
  unfold change
  rw [← body_mean a b m r d, ← body_square a b v r d]
  pointwise [k0_pay5]

end Body

variable (m : (ℓ : Loc nD τ sig) → Buf (Elt Ideal) ℓ) (ρ : Dev nD → PrngReg)

/-- Device `c`'s five arguments, at their types. -/
abbrev W (c : Dev nD) : FVec Ideal S1x704x1024 .f32 := m ((c : Thread nD τ).loc main_arg0)
abbrev A (c : Dev nD) : FVec Ideal S704x1024 .f32 := m ((c : Thread nD τ).loc main_arg1)
abbrev B (c : Dev nD) : FVec Ideal S704x1024 .f32 := m ((c : Thread nD τ).loc main_arg2)
abbrev M (c : Dev nD) : FVec Ideal S1x704x1024 .f32 := m ((c : Thread nD τ).loc main_arg3)
abbrev Q (c : Dev nD) : FVec Ideal S1x704x1024 .f32 := m ((c : Thread nD τ).loc main_arg4)

/-- Every window's one block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The three arrays as the region finds them: the arguments, the leading axis of size one dropped. -/
theorem V_w (c : Dev nD) (i : S704x1024.Idx) : (V m c main_v0 : FVec Ideal S704x1024 .f32) i = W m c (ix3 0 (i 0) (i 1)) := by
  have h : (V m c main_v0 : FVec Ideal S704x1024 .f32) = val_main_v0 (F := Ideal) (W m c) := by
    show StableHlo.after hostOps0 (fun b => m (c, b)) main_v0 = _
    after_results <;> rfl
  rw [h]
  pointwise [val_main_v0]

theorem V_m (c : Dev nD) (i : S704x1024.Idx) : (V m c main_v1 : FVec Ideal S704x1024 .f32) i = M m c (ix3 0 (i 0) (i 1)) := by
  have h : (V m c main_v1 : FVec Ideal S704x1024 .f32) = val_main_v1 (F := Ideal) (M m c) := by
    show StableHlo.after hostOps0 (fun b => m (c, b)) main_v1 = _
    after_results <;> rfl
  rw [h]
  pointwise [val_main_v1]

theorem V_q (c : Dev nD) (i : S704x1024.Idx) : (V m c main_v2 : FVec Ideal S704x1024 .f32) i = Q m c (ix3 0 (i 0) (i 1)) := by
  have h : (V m c main_v2 : FVec Ideal S704x1024 .f32) = val_main_v2 (F := Ideal) (Q m c) := by
    show StableHlo.after hostOps0 (fun b => m (c, b)) main_v2 = _
    after_results <;> rfl
  rw [h]
  pointwise [val_main_v2]

/-- A block at an index. -/
theorem blk0 (c : Dev nD) (t : Fin cfg0.N) (r : Fin 704) (d : Fin 1024) :
    (iblk m c 0 t : Vec Ideal S704x1024 .f32) (ix2 r d) = W m c (ix3 0 r d) := by
  blk_simp [iblk]
  refine Eq.trans (congrArg (V m c main_v0 : FVec Ideal S704x1024 .f32) (?_ : _ = ix2 r d)) (V_w m c (ix2 r d))
  blk_ext [(idx t).1]

theorem blk1 (c : Dev nD) (t : Fin cfg0.N) (r : Fin 704) (d : Fin 1024) :
    (iblk m c 1 t : Vec Ideal S704x1024 .f32) (ix2 r d) = A m c (ix2 r d) := by
  blk_simp [iblk]
  refine (congrFun (V_main_arg1 m c) _).trans (congrArg (A m c) ?_)
  blk_ext [(idx t).2.1]

theorem blk2 (c : Dev nD) (t : Fin cfg0.N) (r : Fin 704) (d : Fin 1024) :
    (iblk m c 2 t : Vec Ideal S704x1024 .f32) (ix2 r d) = B m c (ix2 r d) := by
  blk_simp [iblk]
  refine (congrFun (V_main_arg2 m c) _).trans (congrArg (B m c) ?_)
  blk_ext [(idx t).2.2.1]

theorem blk3 (c : Dev nD) (t : Fin cfg0.N) (r : Fin 704) (d : Fin 1024) :
    (iblk m c 3 t : Vec Ideal S704x1024 .f32) (ix2 r d) = M m c (ix3 0 r d) := by
  blk_simp [iblk]
  refine Eq.trans (congrArg (V m c main_v1 : FVec Ideal S704x1024 .f32) (?_ : _ = ix2 r d)) (V_m m c (ix2 r d))
  blk_ext [(idx t).2.2.2.1]

theorem blk4 (c : Dev nD) (t : Fin cfg0.N) (r : Fin 704) (d : Fin 1024) :
    (iblk m c 4 t : Vec Ideal S704x1024 .f32) (ix2 r d) = Q m c (ix3 0 r d) := by
  blk_simp [iblk]
  refine Eq.trans (congrArg (V m c main_v2 : FVec Ideal S704x1024 .f32) (?_ : _ = ix2 r d)) (V_q m c (ix2 r d))
  blk_ext [(idx t).2.2.2.2.1]

/-- What the point leaves is the reference's. -/
theorem block_grad (c : Dev nD) (t : Fin cfg0.N) (r : Fin 704) (d : Fin 1024) :
    k0_pay2 (iblk m c 1 t) (iblk m c 2 t) (ix2 r d) = val_main_v3 (F := Ideal) (A m c) (B m c) (ix2 r d) := by
  rw [body_grad, ref_grad]
  simp only [blk1, blk2]

theorem block_change (c : Dev nD) (t : Fin cfg0.N) (r : Fin 704) (d : Fin 1024) :
    k0_pay5 (iblk m c 1 t) (iblk m c 2 t) (iblk m c 0 t) (iblk m c 3 t) (iblk m c 4 t) (ix2 r d) = val_main_v27 (F := Ideal) (W m c) (A m c) (B m c) (M m c) (Q m c) (ix2 r d) := by
  rw [body_change, ref_change]
  simp only [blk0, blk1, blk2, blk3, blk4]

theorem block_mean (c : Dev nD) (t : Fin cfg0.N) (r : Fin 704) (d : Fin 1024) :
    k0_pay3 (iblk m c 1 t) (iblk m c 2 t) (iblk m c 3 t) (ix2 r d) = val_main_v8 (F := Ideal) (A m c) (B m c) (M m c) (ix2 r d) := by
  rw [body_mean, ref_mean]
  simp only [blk1, blk2, blk3]

theorem block_square (c : Dev nD) (t : Fin cfg0.N) (r : Fin 704) (d : Fin 1024) :
    k0_pay4 (iblk m c 1 t) (iblk m c 2 t) (iblk m c 4 t) (ix2 r d) = val_main_v14 (F := Ideal) (A m c) (B m c) (Q m c) (ix2 r d) := by
  rw [body_square, ref_square]
  simp only [blk1, blk2, blk4]

/-- The kernel's four arrays are the reference's. -/
theorem final_grad (c : Dev nD) : (dats m 0 c).arrAt 5 cfg0.N = val_main_v3 (F := Ideal) (A m c) (B m c) := by
  refine (dats m 0 c).arrAt_eq_of_covers 5 _ (by decide +kernel) fun t _ y => ?_
  blk_simp
  rw [after0_5]
  have e : ((View.whole main_v3_0).slice (win0_5.rect t)).emb y = (ix2 (y 0) (y 1) : S704x1024.Idx) := by
    blk_ext [(idx t).2.2.2.2.2.1]
  rw [e, ← block_grad m c t (y 0) (y 1)]
  dsimp only [out0_5]
  frame_out
  exact congrArg _ (eq_ix2 y)

theorem final_change (c : Dev nD) : (dats m 0 c).arrAt 6 cfg0.N = val_main_v27 (F := Ideal) (W m c) (A m c) (B m c) (M m c) (Q m c) := by
  refine (dats m 0 c).arrAt_eq_of_covers 6 _ (by decide +kernel) fun t _ y => ?_
  blk_simp
  rw [after0_6]
  have e : ((View.whole main_v3_1).slice (win0_6.rect t)).emb y = (ix2 (y 0) (y 1) : S704x1024.Idx) := by
    blk_ext [(idx t).2.2.2.2.2.2.1]
  rw [e, ← block_change m c t (y 0) (y 1)]
  dsimp only [out0_6]
  frame_out
  exact congrArg _ (eq_ix2 y)

theorem final_mean (c : Dev nD) : (dats m 0 c).arrAt 7 cfg0.N = val_main_v8 (F := Ideal) (A m c) (B m c) (M m c) := by
  refine (dats m 0 c).arrAt_eq_of_covers 7 _ (by decide +kernel) fun t _ y => ?_
  blk_simp
  rw [after0_7]
  have e : ((View.whole main_v3_2).slice (win0_7.rect t)).emb y = (ix2 (y 0) (y 1) : S704x1024.Idx) := by
    blk_ext [(idx t).2.2.2.2.2.2.2.1]
  rw [e, ← block_mean m c t (y 0) (y 1)]
  dsimp only [out0_7]
  frame_out
  exact congrArg _ (eq_ix2 y)

theorem final_square (c : Dev nD) : (dats m 0 c).arrAt 8 cfg0.N = val_main_v14 (F := Ideal) (A m c) (B m c) (Q m c) := by
  refine (dats m 0 c).arrAt_eq_of_covers 8 _ (by decide +kernel) fun t _ y => ?_
  blk_simp
  rw [after0_8]
  have e : ((View.whole main_v3_3).slice (win0_8.rect t)).emb y = (ix2 (y 0) (y 1) : S704x1024.Idx) := by
    blk_ext [(idx t).2.2.2.2.2.2.2.2]
  rw [e, ← block_square m c t (y 0) (y 1)]
  dsimp only [out0_8]
  frame_out
  exact congrArg _ (eq_ix2 y)

/-- The reference runs, leaves its arguments as they were and every semaphore at zero. -/
theorem frame_ref : Cert.quiescent_AdamwRefIdeal := fun m ρ _ =>
  (θ_run Cert.AdamwRefIdeal.defs _ _).mono
    (fun r h => ⟨fun c => (h c).2.2.2.2, sem_eq_zero_of_no_sems (by decide) r.2⟩) (Cert.AdamwRefIdeal.Value.run (F := Ideal) m ρ)

/-- At the ideal values the kernel and the reference end with the same four arrays. -/
theorem algebraic : Cert.algebraic_AdamwIdeal_AdamwRefIdeal := by
  intro m ρ m' ρ' _ hagree
  refine ⟨fun c => val_main_v3 (F := Ideal) (A m c) (B m c), fun c => val_main_v27 (F := Ideal) (W m c) (A m c) (B m c) (M m c) (Q m c),
    fun c => val_main_v8 (F := Ideal) (A m c) (B m c) (M m c), fun c => val_main_v14 (F := Ideal) (A m c) (B m c) (Q m c), ?_, ?_⟩
  · refine (θ_run Cert.AdamwIdeal.defs _ _).mono (fun _ h c => ?_) (AdamwIdeal.Value.run_blocks (F := Ideal) m ρ)
    exact ⟨(h c).1.trans (final_grad m c), (h c).2.1.trans (final_change m c), (h c).2.2.1.trans (final_mean m c),
      (h c).2.2.2.1.trans (final_square m c), (h c).2.2.2.2.2⟩
  · refine (θ_run Cert.AdamwRefIdeal.defs _ _).mono (fun _ h c => ?_) (Cert.AdamwRefIdeal.Value.run (F := Ideal) m' ρ')
    obtain ⟨e0, e1, e2, e3, e4⟩ := hagree c
    refine ⟨(h c).1.trans ?_, (h c).2.1.trans ?_, (h c).2.2.1.trans ?_, (h c).2.2.2.1.trans ?_, (h c).2.2.2.2⟩
    · rw [val_main_v3_eq, e1, e2]
    · rw [val_main_v27_eq, e0, e1, e2, e3, e4]
    · rw [val_main_v8_eq, e1, e2, e3]
    · rw [val_main_v14_eq, e1, e2, e4]

end Cert.OptStep

end
-- ==== Proof.RecurrenceSums.lean ====
/- The gated recurrence over real numbers: the sum over all earlier rows, taken in chunks of 64 rows with a state between the
   chunks. -/
module

public import proofs.«01_k».proof.Proof.Common

@[expose] public section

noncomputable section

namespace Cert.RecurrenceSums

variable (g : Fin 64 → ℝ)

/-- One where row `i` of a chunk is not after row `j`, else zero. -/
def upTo (j i : Fin 64) : ℝ := if i.val ≤ j.val then 1 else 0

/-- The sum of a chunk's logarithms up to row `j`, and of all of them. -/
def part (j : Fin 64) : ℝ := ∑ i : Fin 64, upTo j i * g i
def whole : ℝ := ∑ i : Fin 64, g i

variable (G k v : ℕ → ℝ)

/-- The sum of the logarithms of the gates of all rows before row `n`. -/
def before (n : ℕ) : ℝ := ∑ s ∈ Finset.range n, G s

/-- Row `j` of chunk `C` of a column. -/
def chunk (f : ℕ → ℝ) (C : ℕ) : Fin 64 → ℝ := fun j => f (64 * C + j.val)

theorem part_chunk (C : ℕ) (j : Fin 64) : part (chunk G C) j = before G (64 * C + j.val + 1) - before G (64 * C) := by
  unfold part before
  rw [show 64 * C + j.val + 1 = 64 * C + (j.val + 1) by omega, Finset.sum_range_add, add_sub_cancel_left,
    show (∑ i : Fin 64, upTo j i * chunk G C i) = ∑ i ∈ Finset.range 64, (if i ≤ j.val then (1 : ℝ) else 0) * G (64 * C + i) from
      (Finset.sum_range (fun i => (if i ≤ j.val then (1 : ℝ) else 0) * G (64 * C + i))).symm]
  have hj := j.isLt
  rw [← Finset.sum_subset (s₁ := Finset.range (j.val + 1)) (s₂ := Finset.range 64)]
  · refine Finset.sum_congr rfl fun i hi => ?_
    rw [if_pos (by have := Finset.mem_range.1 hi; omega), one_mul]
  · intro i hi; rw [Finset.mem_range] at *; omega
  · intro i _ hi
    rw [if_neg (by rw [Finset.mem_range] at hi; omega), zero_mul]

theorem whole_chunk (C : ℕ) : whole (chunk G C) = before G (64 * (C + 1)) - before G (64 * C) := by
  unfold whole before
  rw [show 64 * (C + 1) = 64 * C + 64 by ring, Finset.sum_range_add, add_sub_cancel_left]
  exact (Finset.sum_range (fun i => G (64 * C + i))).symm

/-- The state before chunk `C`: the earlier rows' products, each times the gates after its row. -/
def state (C : ℕ) : ℝ := ∑ s ∈ Finset.range (64 * C), v s * (k s * Real.exp (before G (64 * C) - before G (s + 1)))

theorem state_zero : state G k v 0 = 0 := by simp [state]

/-- One chunk: the state times the chunk's gates, and the chunk's own products. -/
theorem state_succ (C : ℕ) : state G k v (C + 1) = state G k v C * Real.exp (whole (chunk G C))
    + ∑ j : Fin 64, chunk v C j * (chunk k C j * Real.exp (whole (chunk G C) - part (chunk G C) j)) := by
  unfold state
  rw [show 64 * (C + 1) = 64 * C + 64 by ring, Finset.sum_range_add, Finset.sum_mul, ← show 64 * (C + 1) = 64 * C + 64 by ring]
  refine congrArg₂ (· + ·) (Finset.sum_congr rfl fun s _ => ?_) ?_
  · rw [whole_chunk, mul_assoc, mul_assoc, ← Real.exp_add]
    congr 3
    ring
  · rw [Finset.sum_range]
    refine Finset.sum_congr rfl fun j _ => ?_
    rw [whole_chunk, part_chunk]
    unfold chunk
    congr 3
    ring

variable {D : ℕ} (q : Fin D → ℝ) (K Gs : Fin D → ℕ → ℝ)

/-- The reference's sum over all rows, those after the row with weight zero. -/
def overRows (t : ℕ) : ℝ :=
  ∑ s ∈ Finset.range 4096, v s * ((∑ d, q d * K d s * Real.exp (before (Gs d) (t + 1) - before (Gs d) (s + 1))) * if s ≤ t then 1 else 0)

/-- The kernel's: the chunk's rows, and the state before the chunk. -/
def inChunk (C : ℕ) (j : Fin 64) : ℝ :=
  (∑ i : Fin 64, (∑ d, q d * chunk (K d) C i * Real.exp (part (chunk (Gs d) C) j - part (chunk (Gs d) C) i)) * upTo j i * chunk v C i)
    + ∑ d, q d * Real.exp (part (chunk (Gs d) C) j) * state (Gs d) (K d) v C

theorem overRows_eq (C : ℕ) (hC : C < 64) (j : Fin 64) : overRows v q K Gs (64 * C + j.val) = inChunk v q K Gs C j := by
  have hj := j.isLt
  obtain ⟨R, hR⟩ : ∃ R, 4096 = 64 * C + 64 + R := ⟨4096 - (64 * C + 64), by omega⟩
  unfold overRows inChunk
  rw [hR, Finset.sum_range_add, Finset.sum_range_add, add_comm (∑ i : Fin 64, _)]
  rw [Finset.sum_eq_zero (s := Finset.range R) fun s _ => by rw [if_neg (by omega), mul_zero, mul_zero], add_zero]
  refine congrArg₂ (· + ·) ?_ ?_
  · unfold state
    simp only [Finset.mul_sum]
    rw [Finset.sum_comm]
    refine Finset.sum_congr rfl fun s hs => ?_
    rw [if_pos (by have := Finset.mem_range.1 hs; omega), mul_one, Finset.mul_sum]
    refine Finset.sum_congr rfl fun d _ => ?_
    rw [part_chunk, show before (Gs d) (64 * C + j.val + 1) - before (Gs d) (s + 1)
      = (before (Gs d) (64 * C + j.val + 1) - before (Gs d) (64 * C)) + (before (Gs d) (64 * C) - before (Gs d) (s + 1)) by ring, Real.exp_add]
    ring
  · rw [Finset.sum_range]
    refine Finset.sum_congr rfl fun i _ => ?_
    have e : (if 64 * C + i.val ≤ 64 * C + j.val then (1 : ℝ) else 0) = upTo j i := by
      unfold upTo
      by_cases h : i.val ≤ j.val
      · rw [if_pos h, if_pos (by omega)]
      · rw [if_neg h, if_neg (by omega)]
    rw [e, mul_comm]
    refine congrArg (· * upTo j i * _) (Finset.sum_congr rfl fun d _ => ?_)
    rw [part_chunk, part_chunk]
    congr 2
    ring

end Cert.RecurrenceSums

end
-- ==== Proof.RecurrenceBlock.lean ====
/- What one point of the recurrence's forward pass stores: for each head, 16 chunks of 64 rows with the state between them. -/
module

public import proofs.«01_k».proof.Proof.Reals
public import proofs.«01_k».proof.Proof.Casts
public import proofs.«01_k».proof.Proof.RecurrenceSums
public import proofs.«01_k».proof.Proof.Gen.GlaFwdIdeal.Frame
public import Idealize.ShloMosaic.Lib.Pointwise

@[expose] public section

set_option maxRecDepth 16384

noncomputable section

namespace Cert.Recurrence

open Idealize.ShloMosaic Idealize.ShloMosaic.TcCoe Idealize.SL.Sem
open Cert.GlaFwdIdeal Cert.GlaFwdIdeal.Gen Cert.Common

theorem slices64 (c : Fin 16) : S16x64x128.Slices ![c.val, 0, 0] S1x64x128 := by revert c; decide
theorem slices1 (c : Fin 16) : S16x1x128.Slices ![c.val, 0, 0] S1x1x128 := by revert c; decide
theorem slices128 (c : Fin 16) : S16x128x128.Slices ![c.val, 0, 0] S1x128x128 := by revert c; decide

/-- What the state before chunk `c` adds to the chunk's rows. -/
def inter (x : FVec Ideal S16x64x128 .f32) (c : Fin 16) (st : FVec Ideal S128x128 .f32) : FVec Ideal S64x128 .f32 :=
  matmul dot_S64x128_S128x128_S64x128_1_1_0_0_n_n none
    (truncf .bf16 (shapeCast S64x128 (extractStridedSlice S1x64x128 ![c.val, 0, 0] x (slices64 c)) shapeCasts_S1x64x128_S64x128) bitsLt_bf16_f32)
    (truncf .bf16 st bitsLt_bf16_f32) (constant S64x128 .f32 0x00000000#32)

/-- The state after chunk `c`. -/
def next (d : FVec Ideal S16x1x128 .f32) (w : FVec Ideal S16x128x128 .f32) (c : Fin 16) (st : FVec Ideal S128x128 .f32) : FVec Ideal S128x128 .f32 :=
  addf (mulf st (broadcastTo S128x128 (shapeCast S1x128 (extractStridedSlice S1x1x128 ![c.val, 0, 0] d (slices1 c)) shapeCasts_S1x1x128_S1x128) broadcasts_S1x128_S128x128))
    (shapeCast S128x128 (extractStridedSlice S1x128x128 ![c.val, 0, 0] w (slices128 c)) shapeCasts_S1x128x128_S128x128)

/-- The state after `n` chunks. -/
def after (d : FVec Ideal S16x1x128 .f32) (w : FVec Ideal S16x128x128 .f32) (st : FVec Ideal S128x128 .f32) : ℕ → FVec Ideal S128x128 .f32
  | 0 => st
  | n + 1 => next d w (Fin.ofNat 16 n) (after d w st n)

section
variable (xq xz xv : Vec Ideal S1024x128 .f32) (lo : Vec Ideal S1x1x128 .f32) (s0 : Vec Ideal S1x128x128 .f32)

/-- A head's gated query, key, value, logarithms to base two and their running sum in each chunk. -/
def hq : FVec Ideal S16x64x128 .f32 := k0_pay13 (k0_pay10 xq)
def hk : FVec Ideal S16x64x128 .f32 := k0_pay14 (k0_pay7 xz) (k0_pay9 lo) (k0_pay11 lo) (Scalar.ofBits .f32 0x3F000000#32)
def hv : FVec Ideal S16x64x128 .f32 := k0_pay15 (k0_pay8 xv)
def hg : FVec Ideal S16x64x128 .f32 := k0_pay16 (k0_pay7 xz) (k0_pay9 lo) (k0_pay11 lo) (Scalar.ofBits .f32 0x3F000000#32)
def hb : FVec Ideal S16x64x128 .f32 := k0_pay18 (k0_pay7 xz) (k0_pay9 lo) (k0_pay11 lo) (Scalar.ofBits .f32 0x3F000000#32)
def hm : FVec Ideal S16x128 .f32 := k0_pay19 (k0_pay7 xz) (k0_pay9 lo) (k0_pay11 lo) (Scalar.ofBits .f32 0x3F000000#32)

/-- The part of the result inside the chunks, what each chunk adds to the state, its decay, and the decayed queries. -/
def hin : FVec Ideal S16x64x128 .f32 := k0_pay21 (hq xq) (hk xz lo) (hv xv) (k0_pay17 (F := Ideal)) (hb xz lo) (hm xz lo)
def hw : FVec Ideal S16x128x128 .f32 := k0_pay22 (hk xz lo) (hv xv) (hg xz lo) (hb xz lo)
def hd : FVec Ideal S16x1x128 .f32 := k0_pay23 (hg xz lo)
def hx : FVec Ideal S16x64x128 .f32 := k0_pay24 (hq xq) (hb xz lo)

/-- The state before chunk `n` of the point. -/
def hs (n : ℕ) : FVec Ideal S128x128 .f32 := after (hd xz lo) (hw xz xv lo) (k0_pay3 s0) n

def piece (n : ℕ) : FVec Ideal S64x128 .f32 := inter (hx xq xz lo) (Fin.ofNat 16 n) (hs xz xv lo s0 n)

/-- A head's stored rows, and its stored state. -/
def rowsOut : FVec Ideal S1024x128 .f32 :=
  k0_pay61 (hin xq xz xv lo) (piece xq xz xv lo s0 0) (piece xq xz xv lo s0 1) (piece xq xz xv lo s0 2) (piece xq xz xv lo s0 3)
    (piece xq xz xv lo s0 4) (piece xq xz xv lo s0 5) (piece xq xz xv lo s0 6) (piece xq xz xv lo s0 7) (piece xq xz xv lo s0 8)
    (piece xq xz xv lo s0 9) (piece xq xz xv lo s0 10) (piece xq xz xv lo s0 11) (piece xq xz xv lo s0 12) (piece xq xz xv lo s0 13)
    (piece xq xz xv lo s0 14) (piece xq xz xv lo s0 15)
def stateOut : FVec Ideal S1x128x128 .f32 := k0_pay1 (hs xz xv lo s0 16)
end

/-! ## The four heads of a point -/

theorem inbX (h : Fin 4) : ∀ a, (![0, 128 * h.val] : Fin 2 → ℕ) a + (![1024, 128] : Fin 2 → ℕ) a ≤ S1024x512.size a := by
  intro a
  match a with
  | ⟨0, _⟩ => show 0 + 1024 ≤ 1024; omega
  | ⟨1, _⟩ => show 128 * h.val + 128 ≤ 512; omega
theorem inbL (h : Fin 4) : ∀ a, (![h.val, 0, 0] : Fin 3 → ℕ) a + (![1, 1, 128] : Fin 3 → ℕ) a ≤ S4x1x128.size a := by
  intro a
  match a with
  | ⟨0, _⟩ => show h.val + 1 ≤ 4; omega
  | ⟨1, _⟩ => show 0 + 1 ≤ 1; omega
  | ⟨2, _⟩ => show 0 + 128 ≤ 128; omega
theorem inbS (h : Fin 4) : ∀ a, (![h.val, 0, 0] : Fin 3 → ℕ) a + (![1, 128, 128] : Fin 3 → ℕ) a ≤ S4x128x128.size a := by
  intro a
  match a with
  | ⟨0, _⟩ => show h.val + 1 ≤ 4; omega
  | ⟨1, _⟩ => show 0 + 128 ≤ 128; omega
  | ⟨2, _⟩ => show 0 + 128 ≤ 128; omega

/-- A head's columns of a block, its row of the lower bounds, and its state. -/
def colsX (x : Vec Ideal S1024x512 .f32) (h : Fin 4) : Vec Ideal S1024x128 .f32 := View.ld x (Rect.unit (s := S1024x512) ![0, 128 * h.val] ![1024, 128] (inbX h))
def rowL (x : Vec Ideal S4x1x128 .f32) (h : Fin 4) : Vec Ideal S1x1x128 .f32 := View.ld x (Rect.unit (s := S4x1x128) ![h.val, 0, 0] ![1, 1, 128] (inbL h))
def matS (x : Vec Ideal S4x128x128 .f32) (h : Fin 4) : Vec Ideal S1x128x128 .f32 := View.ld x (Rect.unit (s := S4x128x128) ![h.val, 0, 0] ![1, 128, 128] (inbS h))

section
variable (x0 x1 x2 : Vec Ideal S1024x512 .f32) (x3 : Vec Ideal S4x1x128 .f32) (xs : Vec Ideal S4x128x128 .f32)

/-- What head `h` stores of its rows, and of its state. -/
def headRows (h : Fin 4) : FVec Ideal S1024x128 .f32 := rowsOut (colsX x0 h) (colsX x1 h) (colsX x2 h) (rowL x3 h) (matS xs h)
def headState (h : Fin 4) : FVec Ideal S1x128x128 .f32 := stateOut (colsX x1 h) (colsX x2 h) (rowL x3 h) (matS xs h)

/-- The states the first point starts from. -/
def zeros : Vec Ideal S4x128x128 .f32 := k0_pay2 (F := Ideal)

/-- A point's stores of rows and of states, last first. -/
def rowPieces : List (View.Piece (Elt Ideal) S1024x512 .f32) :=
  [⟨Rect.unit (s := S1024x512) ![0, 128 * (3 : Fin 4).val] ![1024, 128] (inbX 3), headRows x0 x1 x2 x3 xs 3⟩,
   ⟨Rect.unit (s := S1024x512) ![0, 128 * (2 : Fin 4).val] ![1024, 128] (inbX 2), headRows x0 x1 x2 x3 xs 2⟩,
   ⟨Rect.unit (s := S1024x512) ![0, 128 * (1 : Fin 4).val] ![1024, 128] (inbX 1), headRows x0 x1 x2 x3 xs 1⟩,
   ⟨Rect.unit (s := S1024x512) ![0, 128 * (0 : Fin 4).val] ![1024, 128] (inbX 0), headRows x0 x1 x2 x3 xs 0⟩]

def statePieces : List (View.Piece (Elt Ideal) S4x128x128 .f32) :=
  [⟨Rect.unit (s := S4x128x128) ![(3 : Fin 4).val, 0, 0] ![1, 128, 128] (inbS 3), headState x1 x2 x3 xs 3⟩,
   ⟨Rect.unit (s := S4x128x128) ![(2 : Fin 4).val, 0, 0] ![1, 128, 128] (inbS 2), headState x1 x2 x3 xs 2⟩,
   ⟨Rect.unit (s := S4x128x128) ![(1 : Fin 4).val, 0, 0] ![1, 128, 128] (inbS 1), headState x1 x2 x3 xs 1⟩,
   ⟨Rect.unit (s := S4x128x128) ![(0 : Fin 4).val, 0, 0] ![1, 128, 128] (inbS 0), headState x1 x2 x3 xs 0⟩]

variable (c : Dev nD) (i : grid0.Coords) (arg2 : Memref sig .tc .vmem S1024x512 .f32) (harg2 : arg2.IsWhole) (arg3 : Memref sig .tc .vmem S1024x512 .f32) (harg3 : arg3.IsWhole)
  (arg4 : Memref sig .tc .vmem S1024x512 .f32) (harg4 : arg4.IsWhole) (arg5 : Memref sig .tc .vmem S4x1x128 .f32) (harg5 : arg5.IsWhole) (arg6 : Memref sig .tc .vmem S1024x512 .f32) (harg6 : arg6.IsWhole)
  (arg7 : Memref sig .tc .vmem S4x1x128x128 .f32) (harg7 : arg7.IsWhole) (arg8 : Memref sig .tc .vmem S4x128x128 .f32) (harg8 : arg8.IsWhole)

set_option maxHeartbeats 400000 in
theorem pieces_B (hc0 : ¬cond0_0 i) :
    (kernelRun0_B c i arg2 harg2 arg3 harg3 arg4 harg4 arg5 harg5 arg6 harg6 arg7 harg7 arg8 harg8 hc0 x0 x1 x2 x3 xs).1 = rowPieces x0 x1 x2 x3 xs := by
  unfold kernelRun0_B
  dsimp only
  sl_unfold_words
  simp only [View.readAt_eq_ld, harg2.read_unread, harg3.read_unread, harg4.read_unread, harg5.read_unread, harg8.read_unread]
  rfl

set_option maxHeartbeats 400000 in
theorem spieces_B (hc0 : ¬cond0_0 i) :
    (kernelRun0_B c i arg2 harg2 arg3 harg3 arg4 harg4 arg5 harg5 arg6 harg6 arg7 harg7 arg8 harg8 hc0 x0 x1 x2 x3 xs).2.2.1 = statePieces x1 x2 x3 xs := by
  unfold kernelRun0_B
  dsimp only
  sl_unfold_words
  simp only [View.readAt_eq_ld, harg3.read_unread, harg4.read_unread, harg5.read_unread, harg8.read_unread]
  rfl

/-- Zeros stored over the states, read back. -/
theorem canon_zeros : View.canon [(⟨Rect.unit (s := S4x128x128) ![0, 0, 0] ![4, 128, 128] inb_S4x128x128_S4x128x128_0_0_0, k0_pay2 (F := Ideal)⟩ : View.Piece (Elt Ideal) S4x128x128 .f32)] = zeros :=
  View.canon_cons_unit_zero (S := S4x128x128) hz3 _ _ _

set_option maxHeartbeats 400000 in
theorem pieces_A (hc0 : cond0_0 i) :
    (kernelRun0_A c i arg2 harg2 arg3 harg3 arg4 harg4 arg5 harg5 arg6 harg6 arg7 harg7 arg8 harg8 hc0 x0 x1 x2 x3).1 = rowPieces x0 x1 x2 x3 zeros := by
  unfold kernelRun0_A
  dsimp only
  sl_unfold_words
  simp only [View.readAt_eq_ld, View.readCov_eq_canon', canon_zeros, harg2.read_unread, harg3.read_unread, harg4.read_unread, harg5.read_unread]
  rfl

set_option maxHeartbeats 400000 in
theorem spieces_A (hc0 : cond0_0 i) :
    (kernelRun0_A c i arg2 harg2 arg3 harg3 arg4 harg4 arg5 harg5 arg6 harg6 arg7 harg7 arg8 harg8 hc0 x0 x1 x2 x3).2.2.1
      = statePieces x1 x2 x3 zeros ++ [⟨Rect.unit (s := S4x128x128) ![0, 0, 0] S4x128x128.size inb_S4x128x128_S4x128x128_0_0_0, zeros⟩] := by
  unfold kernelRun0_A
  dsimp only
  sl_unfold_words
  simp only [View.readAt_eq_ld, View.readCov_eq_canon', canon_zeros, harg3.read_unread, harg4.read_unread, harg5.read_unread]
  rfl

/-- What a list of stores of the heads' rows, or states, leaves. -/
def rowsAll : Vec Ideal S1024x512 .f32 := fun y => headRows x0 x1 x2 x3 xs ⟨(y 1).val / 128, by have := (y 1).isLt; have : (y 1).val < 512 := this; omega⟩ (ix2 (y 0) ⟨(y 1).val % 128, by omega⟩)
def statesAll : Vec Ideal S4x128x128 .f32 := fun y => headState x1 x2 x3 xs (y 0) (ix3 0 (y 1) (y 2))

theorem rowPieces_of : ∀ p ∈ rowPieces x0 x1 x2 x3 xs, ∀ x : p.1.shape.Idx, p.2 x = rowsAll x0 x1 x2 x3 xs (p.1.emb x) := by
  have key : ∀ (h : Fin 4) (x : S1024x128.Idx), headRows x0 x1 x2 x3 xs h x
      = rowsAll x0 x1 x2 x3 xs ((Rect.unit (s := S1024x512) ![0, 128 * h.val] ![1024, 128] (inbX h)).emb x) := by
    intro h x
    have h1 : (x 1).val < 128 := (x 1).isLt
    have e0 : (((Rect.unit (s := S1024x512) ![0, 128 * h.val] ![1024, 128] (inbX h)).emb x) 0).val = (x 0).val := by
      show 0 + 1 * (x 0).val = _; omega
    have e1 : (((Rect.unit (s := S1024x512) ![0, 128 * h.val] ![1024, 128] (inbX h)).emb x) 1).val = 128 * h.val + (x 1).val := by
      show 128 * h.val + 1 * (x 1).val = _; omega
    unfold rowsAll
    refine congrArg₂ (headRows x0 x1 x2 x3 xs) (Fin.ext ?_) (funext fun a => Fin.ext ?_)
    · show h.val = _ / 128; rw [e1]; omega
    · match a with
      | ⟨0, _⟩ => exact e0.symm
      | ⟨1, _⟩ => show (x 1).val = _ % 128; rw [e1]; omega
  intro p hp
  simp only [rowPieces, List.mem_cons, List.not_mem_nil, or_false] at hp
  rcases hp with rfl | rfl | rfl | rfl
  · exact key 3
  · exact key 2
  · exact key 1
  · exact key 0

theorem statePieces_of : ∀ p ∈ statePieces x1 x2 x3 xs, ∀ x : p.1.shape.Idx, p.2 x = statesAll x1 x2 x3 xs (p.1.emb x) := by
  have key : ∀ (h : Fin 4) (x : S1x128x128.Idx), headState x1 x2 x3 xs h x
      = statesAll x1 x2 x3 xs ((Rect.unit (s := S4x128x128) ![h.val, 0, 0] ![1, 128, 128] (inbS h)).emb x) := by
    intro h x
    have h0 : (x 0).val < 1 := (x 0).isLt
    unfold statesAll
    refine congrArg₂ (headState x1 x2 x3 xs) (Fin.ext ?_) (funext fun a => Fin.ext ?_)
    · show h.val = h.val + 1 * (x 0).val; omega
    · match a with
      | ⟨0, _⟩ => show (x 0).val = 0; omega
      | ⟨1, _⟩ => show (x 1).val = 0 + 1 * (x 1).val; omega
      | ⟨2, _⟩ => show (x 2).val = 0 + 1 * (x 2).val; omega
  intro p hp
  simp only [statePieces, List.mem_cons, List.not_mem_nil, or_false] at hp
  rcases hp with rfl | rfl | rfl | rfl
  · exact key 3
  · exact key 2
  · exact key 1
  · exact key 0

theorem statePieces_cover (y : S4x128x128.Idx) : ∃ p ∈ statePieces x1 x2 x3 xs, y ∈ p.1.set :=
  View.cover_of_tiledL (statePieces x1 x2 x3 xs) S1x128x128.size (by sl_kernel_rfl) y
theorem rowPieces_cover (y : S1024x512.Idx) : ∃ p ∈ rowPieces x0 x1 x2 x3 xs, y ∈ p.1.set :=
  View.cover_of_tiledL (rowPieces x0 x1 x2 x3 xs) S1024x128.size (by sl_kernel_rfl) y

theorem canon_rows : View.canon (rowPieces x0 x1 x2 x3 xs) = rowsAll x0 x1 x2 x3 xs := by
  funext y
  have := canon_apply_of_head (rowsAll x0 x1 x2 x3 xs) [] _ (rowPieces_of x0 x1 x2 x3 xs) y (rowPieces_cover x0 x1 x2 x3 xs y)
  rwa [List.append_nil] at this

theorem canon_states (R : List (View.Piece (Elt Ideal) S4x128x128 .f32)) : View.canon (statePieces x1 x2 x3 xs ++ R) = statesAll x1 x2 x3 xs :=
  funext fun y => canon_apply_of_head (statesAll x1 x2 x3 xs) R _ (statePieces_of x1 x2 x3 xs) y (statePieces_cover x1 x2 x3 xs y)

/-- What a point leaves in the result's block and in the states, at the first point and at a later one. -/
theorem rows_A (hc0 : cond0_0 i) :
    out0_A_4 c i arg2 harg2 arg3 harg3 arg4 harg4 arg5 harg5 arg6 harg6 arg7 harg7 arg8 harg8 hc0 x0 x1 x2 x3 = rowsAll x0 x1 x2 x3 zeros := by
  unfold out0_A_4
  rw [View.read_writes_eq_canon _ _ _ (cover0_A_4 c i arg2 harg2 arg3 harg3 arg4 harg4 arg5 harg5 arg6 harg6 arg7 harg7 arg8 harg8 hc0 x0 x1 x2 x3),
    pieces_A, canon_rows]
theorem rows_B (hc0 : ¬cond0_0 i) :
    out0_B_4 c i arg2 harg2 arg3 harg3 arg4 harg4 arg5 harg5 arg6 harg6 arg7 harg7 arg8 harg8 hc0 x0 x1 x2 x3 xs = rowsAll x0 x1 x2 x3 xs := by
  unfold out0_B_4
  rw [View.read_writes_eq_canon _ _ _ (cover0_B_4 c i arg2 harg2 arg3 harg3 arg4 harg4 arg5 harg5 arg6 harg6 arg7 harg7 arg8 harg8 hc0 x0 x1 x2 x3 xs),
    pieces_B, canon_rows]
theorem states_A (hc0 : cond0_0 i) :
    sout0_A_0 c i arg2 harg2 arg3 harg3 arg4 harg4 arg5 harg5 arg6 harg6 arg7 harg7 arg8 harg8 hc0 x0 x1 x2 x3 = statesAll x1 x2 x3 zeros := by
  unfold sout0_A_0
  rw [View.read_writes_eq_canon _ _ _ (scover0_A_0 c i arg2 harg2 arg3 harg3 arg4 harg4 arg5 harg5 arg6 harg6 arg7 harg7 arg8 harg8 hc0 x0 x1 x2 x3),
    spieces_A, canon_states]
theorem states_B (hc0 : ¬cond0_0 i) :
    sout0_B_0 c i arg2 harg2 arg3 harg3 arg4 harg4 arg5 harg5 arg6 harg6 arg7 harg7 arg8 harg8 hc0 x0 x1 x2 x3 xs = statesAll x1 x2 x3 xs := by
  unfold sout0_B_0
  rw [View.read_writes_eq_canon _ _ _ (scover0_B_0 c i arg2 harg2 arg3 harg3 arg4 harg4 arg5 harg5 arg6 harg6 arg7 harg7 arg8 harg8 hc0 x0 x1 x2 x3 xs),
    spieces_B, ← List.append_nil (statePieces x1 x2 x3 xs), canon_states]

end

end Cert.Recurrence

end
-- ==== Proof.RecurrenceSteps.lean ====
/- One head's rows of a point of the recurrence's forward pass, at an index and over real numbers. -/
module

public import proofs.«01_k».proof.Proof.RecurrenceBlock

@[expose] public section

set_option maxRecDepth 16384

noncomputable section

namespace Cert.Recurrence

open Idealize.ShloMosaic Idealize.ShloMosaic.TcCoe Idealize.SL.Sem
open Cert.GlaFwdIdeal Cert.GlaFwdIdeal.Gen Cert.Common Cert.RecurrenceSums

/-- A sum of real numbers is real. -/
theorem isReal_sum {ι : Type*} [Fintype ι] (f : ι → EReal) (hf : ∀ i, IsReal (f i)) : IsReal (∑ i, f i) := by
  choose r hr using hf
  exact ⟨∑ i, r i, by rw [coe_sum]; exact Finset.sum_congr rfl fun i _ => hr i⟩

/-- Row `j` of chunk `c` of a point. -/
def rowOf (c : Fin 16) (j : Fin 64) : Fin 1024 := ⟨c.val * 64 + j.val, by omega⟩

/-- The rows taken as chunks, and back. -/
theorem cast_chunks {α : Type} (x : S1024x128.Idx → α) (h : S1024x128.ShapeCasts S16x64x128) (c : Fin 16) (j : Fin 64) (d : Fin 128) :
    shapeCast S16x64x128 x h (ix3 c j d) = x (ix2 (rowOf c j) d) :=
  shapeCast_apply x h _ _ (by rw [Shape.rowMajor_val_three, Shape.rowMajor_val_two]; rfl)
theorem cast_rows {α : Type} (x : S16x64x128.Idx → α) (h : S16x64x128.ShapeCasts S1024x128) (c : Fin 16) (j : Fin 64) (d : Fin 128) :
    shapeCast S1024x128 x h (ix2 (rowOf c j) d) = x (ix3 c j d) :=
  shapeCast_apply x h _ _ (by rw [Shape.rowMajor_val_three, Shape.rowMajor_val_two]; rfl)

section
variable (v14 : FVec Ideal S1024x128 .f32) (v18 v28 : FVec Ideal S1x128 .f32) (cst : EReal)

/-- The running sum in a chunk, its terms split in three. -/
theorem sum_apply (c : Fin 16) (j : Fin 64) (d : Fin 128) : k0_pay18 v14 v18 v28 cst (ix3 c j d)
    = (∑ i : Fin 64, k0_pay17 (F := Ideal) (ix2 j i) * k0_pay16 v14 v18 v28 cst (ix3 c i d))
      + (∑ i : Fin 64, k0_pay17 (F := Ideal) (ix2 j i) * (k0_pay16 v14 v18 v28 cst (ix3 c i d) - k0_pay16 v14 v18 v28 cst (ix3 c i d)))
      + ∑ i : Fin 64, k0_pay17 (F := Ideal) (ix2 j i) * ((k0_pay16 v14 v18 v28 cst (ix3 c i d) - k0_pay16 v14 v18 v28 cst (ix3 c i d))
          - (k0_pay16 v14 v18 v28 cst (ix3 c i d) - k0_pay16 v14 v18 v28 cst (ix3 c i d))) := by
  pointwise [k0_pay18]

/-- Some of a chunk's logarithms, or zeros: their sum is real where they are. -/
theorem mid_real (hg : ∀ i, IsReal (k0_pay16 v14 v18 v28 cst i)) (c : Fin 16) (d : Fin 128) : IsReal (k0_pay19 v14 v18 v28 cst (ix2 c d)) := by
  pointwise [k0_pay19]
  refine isReal_sum _ fun x => ?_
  unfold Scalar.select
  split
  · exact hg _
  · exact ⟨0, rfl⟩
end

section
variable (q k v g b : FVec Ideal S16x64x128 .f32) (msk : FVec Ideal S64x64 .f32) (mid : FVec Ideal S16x128 .f32)

theorem in_apply (c : Fin 16) (j : Fin 64) (a : Fin 128) : k0_pay21 q k v msk b mid (ix3 c j a)
    = ∑ i : Fin 64, ((∑ d : Fin 128, (q (ix3 c j d) * Ideal.exp2 (b (ix3 c j d) - mid (ix2 c d))) * (k (ix3 c i d) * Ideal.exp2 (mid (ix2 c d) - b (ix3 c i d))))
        * msk (ix2 j i)) * v (ix3 c i a) := by
  pointwise [k0_pay21]
  rfl

theorem total_apply (c : Fin 16) (d : Fin 128) : k0_pay20 g (ix3 c 0 d) = ∑ j : Fin 64, g (ix3 c j d) := by
  pointwise [k0_pay20]

theorem add_apply (c : Fin 16) (a d : Fin 128) : k0_pay22 k v g b (ix3 c a d)
    = ∑ j : Fin 64, v (ix3 c j a) * (k (ix3 c j d) * Ideal.exp2 (k0_pay20 g (ix3 c 0 d) - b (ix3 c j d))) := by
  pointwise [k0_pay22]
  rfl

theorem decay_apply (c : Fin 16) (d : Fin 128) : k0_pay23 g (ix3 c 0 d) = Ideal.exp2 (k0_pay20 g (ix3 c 0 d)) := by
  pointwise [k0_pay23]
  rfl

theorem decayed_apply (c : Fin 16) (j : Fin 64) (d : Fin 128) : k0_pay24 q b (ix3 c j d) = q (ix3 c j d) * Ideal.exp2 (b (ix3 c j d)) := by
  pointwise [k0_pay24]
  rfl
end

theorem inter_apply (x : FVec Ideal S16x64x128 .f32) (c : Fin 16) (st : FVec Ideal S128x128 .f32) (j : Fin 64) (a : Fin 128) :
    inter x c st (ix2 j a) = ∑ d : Fin 128, x (ix3 c j d) * st (ix2 a d) := by
  have e (d : Fin 128) : extractStridedSlice S1x64x128 ![c.val, 0, 0] x (slices64 c) (ix3 0 j d) = x (ix3 c j d) :=
    extractStridedSlice_apply _ _ _ _ _ fun a => by
      match a with
      | ⟨0, _⟩ => rfl
      | ⟨1, _⟩ => show j.val = 0 + j.val; omega
      | ⟨2, _⟩ => show d.val = 0 + d.val; omega
  have e' (d : Fin 128) := (cast_drop (extractStridedSlice S1x64x128 ![c.val, 0, 0] x (slices64 c)) shapeCasts_S1x64x128_S64x128 j d).trans (e d)
  unfold inter
  generalize shapeCast S64x128 (extractStridedSlice S1x64x128 ![c.val, 0, 0] x (slices64 c)) shapeCasts_S1x64x128_S64x128 = y at e' ⊢
  simp only [← e']
  pointwise
  rfl

theorem next_apply (dc : FVec Ideal S16x1x128 .f32) (w : FVec Ideal S16x128x128 .f32) (c : Fin 16) (st : FVec Ideal S128x128 .f32) (a d : Fin 128) :
    next dc w c st (ix2 a d) = st (ix2 a d) * dc (ix3 c 0 d) + w (ix3 c a d) := by
  have e1 : extractStridedSlice S1x1x128 ![c.val, 0, 0] dc (slices1 c) (ix3 0 0 d) = dc (ix3 c 0 d) :=
    extractStridedSlice_apply _ _ _ _ _ fun a => by
      match a with
      | ⟨0, _⟩ => rfl
      | ⟨1, _⟩ => rfl
      | ⟨2, _⟩ => show d.val = 0 + d.val; omega
  have e2 : extractStridedSlice S1x128x128 ![c.val, 0, 0] w (slices128 c) (ix3 0 a d) = w (ix3 c a d) :=
    extractStridedSlice_apply _ _ _ _ _ fun b => by
      match b with
      | ⟨0, _⟩ => rfl
      | ⟨1, _⟩ => show a.val = 0 + a.val; omega
      | ⟨2, _⟩ => show d.val = 0 + d.val; omega
  rw [← e1, ← e2]
  exact congrArg₂ (· + ·) (congrArg (st (ix2 a d) * ·) ((bcast_row _ _ _ _).trans (cast_drop _ _ _ _))) (cast_drop _ _ _ _)

section
variable (xq xz xv : Vec Ideal S1024x128 .f32) (lo : Vec Ideal S1x1x128 .f32) (s0 : Vec Ideal S1x128x128 .f32)

theorem hq_apply (c : Fin 16) (j : Fin 64) (d : Fin 128) : hq xq (ix3 c j d)
    = xq (ix2 (rowOf c j) d) * (Ideal.ofBits .f32 0x3F000000#32 * Ideal.tanh (Ideal.ofBits .f32 0x3F000000#32 * xq (ix2 (rowOf c j) d)) + Ideal.ofBits .f32 0x3F000000#32) := by
  unfold hq k0_pay13
  refine (cast_chunks _ _ _ _ _).trans ?_
  pointwise [k0_pay10]

theorem hv_apply (c : Fin 16) (j : Fin 64) (d : Fin 128) : hv xv (ix3 c j d) = xv (ix2 (rowOf c j) d) := by
  unfold hv k0_pay15
  refine (cast_chunks _ _ _ _ _).trans ?_
  pointwise [k0_pay8]

/-- The gate of a row. -/
def gateE (r : Fin 1024) (d : Fin 128) : EReal :=
  lo (ix3 0 0 d) + (Ideal.ofBits .f32 0x3F800000#32 - lo (ix3 0 0 d))
    * (Ideal.ofBits .f32 0x3F000000#32 * Ideal.tanh (Ideal.ofBits .f32 0x3F000000#32 * xz (ix2 r d)) + Ideal.ofBits .f32 0x3F000000#32)

theorem gate_apply (r : Fin 1024) (d : Fin 128) :
    k0_pay12 (k0_pay7 xz) (k0_pay9 lo) (k0_pay11 lo) (Ideal.ofBits .f32 0x3F000000#32) (ix2 r d) = gateE xz lo r d := by
  unfold gateE
  pointwise [k0_pay12, k0_pay7, k0_pay9, k0_pay11]

theorem hk_apply (c : Fin 16) (j : Fin 64) (d : Fin 128) : hk xz lo (ix3 c j d) = Ideal.ofBits .f32 0x3F800000#32 - gateE xz lo (rowOf c j) d := by
  unfold hk k0_pay14
  refine (cast_chunks _ _ _ _ _).trans ?_
  rw [← gate_apply]
  rfl

/-- The inverse of log 2: the kernel's constant. -/
def log2e : EReal := Named.named (F := Ideal) (φ := .f32) κ "log2e" 0x3FB8AA3B#32
theorem log2e_coe : log2e = (((Real.log 2)⁻¹ : ℝ) : EReal) := IdealRules.named_const.ideal_named_scalar _ _ _ _ rfl

theorem hg_apply (c : Fin 16) (j : Fin 64) (d : Fin 128) : hg xz lo (ix3 c j d) = Ideal.log (gateE xz lo (rowOf c j) d) * log2e := by
  unfold hg k0_pay16
  refine (cast_chunks _ _ _ _ _).trans ?_
  rw [← gate_apply]
  rfl

/-- The result's rows: those of the chunks, and what the states add. -/
theorem rowsOut_apply (c : Fin 16) (j : Fin 64) (a : Fin 128) :
    rowsOut xq xz xv lo s0 (ix2 (rowOf c j) a) = hin xq xz xv lo (ix3 c j a) + piece xq xz xv lo s0 c.val (ix2 j a) := by
  have h := concatenate_ofFn_apply (t := S1024x128) (s₁ := S64x128) 0 (fun n : Fin 16 => piece xq xz xv lo s0 n.val)
    concatenates_S64x128_S64x128_S64x128_S64x128_S64x128_S64x128_S64x128_S64x128_S64x128_S64x128_S64x128_S64x128_S64x128_S64x128_S64x128_S64x128_S1024x128_d0 rfl 64 rfl (ix2 (rowOf c j) a) c
    (by show (c.val * 64 + j.val) / 64 = c.val; omega) (ix2 j a) (by show j.val = (c.val * 64 + j.val) % 64; omega)
    (fun b hb => by
      match b with
      | ⟨0, _⟩ => exact absurd rfl hb
      | ⟨1, _⟩ => rfl)
  exact congrArg₂ (· + ·) (cast_rows _ _ _ _ _) h
end

theorem mask_words : ∀ j i : Fin 64, IntOp.cmpi .sge (BitVec.ofNat 32 j.val) (BitVec.ofNat 32 i.val) = if i.val ≤ j.val then 1#1 else 0#1 := by
  decide +kernel

theorem mask_apply (j i : Fin 64) : k0_pay17 (F := Ideal) (ix2 j i) = (upTo j i : EReal) := by
  pointwise [k0_pay17]
  rw [mask_words]
  unfold upTo
  split
  · show (((BitVec.setWidth 32 (1#1)).toInt : ℝ) : EReal) = ((1 : ℝ) : EReal)
    rw [show (BitVec.setWidth 32 (1#1)).toInt = 1 by decide, Int.cast_one]
  · show (((BitVec.setWidth 32 (0#1)).toInt : ℝ) : EReal) = ((0 : ℝ) : EReal)
    rw [show (BitVec.setWidth 32 (0#1)).toInt = 0 by decide, Int.cast_zero]

/-! ## Real values -/

/-- The gate of a row, its logarithm, the key and the gated query. -/
def gate (L z : ℝ) : ℝ := L + (1 - L) * sig z
def lg (L : ℝ) (z : ℕ → ℝ) : ℕ → ℝ := fun s => Real.log (gate L (z s))
def ky (L : ℝ) (z : ℕ → ℝ) : ℕ → ℝ := fun s => 1 - gate L (z s)
def qy (q : ℝ) : ℝ := q * sig q

theorem sig_pos (x : ℝ) : 0 < sig x := inv_pos.2 (by have := Real.exp_pos (-x); linarith)

theorem gate_pos {L : ℝ} (h0 : 0 < L) (h1 : L < 1) (z : ℝ) : 0 < gate L z :=
  add_pos h0 (mul_pos (by linarith) (sig_pos z))

/-- Logarithms to base two. -/
theorem exp2_base (a : ℝ) : Ideal.exp2 ((a * (Real.log 2)⁻¹ : ℝ) : EReal) = ((Real.exp a : ℝ) : EReal) := by
  rw [Ideal.exp2_coe]
  refine congrArg _ ((Real.rpow_def_of_pos (by norm_num) _).trans (congrArg Real.exp ?_))
  have h2 : Real.log 2 ≠ 0 := (Real.log_pos (by norm_num)).ne'
  field_simp

theorem exp2_sub (a b : ℝ) : Ideal.exp2 (((a * (Real.log 2)⁻¹ : ℝ) : EReal) - ((b * (Real.log 2)⁻¹ : ℝ) : EReal)) = ((Real.exp (a - b) : ℝ) : EReal) := by
  rw [← EReal.coe_sub, ← sub_mul, exp2_base]

theorem base_of_real {x : EReal} (h : IsReal x) : ∃ a : ℝ, x = ((a * (Real.log 2)⁻¹ : ℝ) : EReal) := by
  obtain ⟨r, rfl⟩ := h
  have h2 : Real.log 2 ≠ 0 := (Real.log_pos (by norm_num)).ne'
  exact ⟨r * Real.log 2, by rw [mul_assoc, mul_inv_cancel₀ h2, mul_one]⟩

/-- A head's columns at a point are real: rows `64 C₀` on of `q`, `z` and `v`, with lower bounds `L`. -/
structure Data (C₀ : ℕ) (L : Fin 128 → ℝ) (q z v : Fin 128 → ℕ → ℝ) (xq xz xv : Vec Ideal S1024x128 .f32) (lo : Vec Ideal S1x1x128 .f32) : Prop where
  q : ∀ c j d, xq (ix2 (rowOf c j) d) = (chunk (q d) (C₀ + c.val) j : EReal)
  z : ∀ c j d, xz (ix2 (rowOf c j) d) = (chunk (z d) (C₀ + c.val) j : EReal)
  v : ∀ c j d, xv (ix2 (rowOf c j) d) = (chunk (v d) (C₀ + c.val) j : EReal)
  lo : ∀ d, lo (ix3 0 0 d) = (L d : EReal)
  pos : ∀ d, 0 < L d
  lt : ∀ d, L d < 1

section
variable {C₀ : ℕ} {L : Fin 128 → ℝ} {q z v : Fin 128 → ℕ → ℝ} {xq xz xv : Vec Ideal S1024x128 .f32} {lo : Vec Ideal S1x1x128 .f32}
  (D : Data C₀ L q z v xq xz xv lo) (c : Fin 16) (j : Fin 64) (d : Fin 128)
include D

theorem Data.hq : hq xq (ix3 c j d) = (qy (chunk (q d) (C₀ + c.val) j) : EReal) := by
  rw [hq_apply, ofBits_half_f32, half_tanh, D.q, logistic_coe', ← EReal.coe_mul]
  rfl

theorem Data.hv : hv xv (ix3 c j d) = (chunk (v d) (C₀ + c.val) j : EReal) := (hv_apply xv c j d).trans (D.v c j d)

theorem Data.gate : gateE xz lo (rowOf c j) d = (gate (L d) (chunk (z d) (C₀ + c.val) j) : EReal) := by
  unfold gateE
  rw [ofBits_half_f32, half_tanh, D.z, D.lo, logistic_coe', ofBits_one_coe, ← EReal.coe_sub, ← EReal.coe_mul, ← EReal.coe_add]
  rfl

theorem Data.hk : hk xz lo (ix3 c j d) = (chunk (ky (L d) (z d)) (C₀ + c.val) j : EReal) := by
  rw [hk_apply, D.gate, ofBits_one_coe, ← EReal.coe_sub]
  rfl

theorem Data.hg : hg xz lo (ix3 c j d) = ((chunk (lg (L d) (z d)) (C₀ + c.val) j * (Real.log 2)⁻¹ : ℝ) : EReal) := by
  rw [hg_apply, D.gate, Ideal.log_coe, if_neg (not_le.2 (gate_pos (D.pos d) (D.lt d) _)), log2e_coe, ← EReal.coe_mul]
  rfl

theorem Data.hb : hb xz lo (ix3 c j d) = ((part (chunk (lg (L d) (z d)) (C₀ + c.val)) j * (Real.log 2)⁻¹ : ℝ) : EReal) := by
  refine (sum_apply _ _ _ _ c j d).trans ?_
  have e (i : Fin 64) : k0_pay16 (k0_pay7 xz) (k0_pay9 lo) (k0_pay11 lo) (Scalar.ofBits .f32 0x3F000000#32) (ix3 c i d) = _ := D.hg c i d
  simp only [e, mask_apply, ← EReal.coe_sub, ← EReal.coe_mul, ← EReal.coe_add, ← coe_sum, sub_self, mul_zero, Finset.sum_const_zero, add_zero]
  unfold part
  rw [Finset.sum_mul]
  refine congrArg _ (Finset.sum_congr rfl fun i _ => ?_)
  ring

theorem Data.total : k0_pay20 (Recurrence.hg xz lo) (ix3 c 0 d) = ((whole (chunk (lg (L d) (z d)) (C₀ + c.val)) * (Real.log 2)⁻¹ : ℝ) : EReal) := by
  rw [total_apply]
  simp only [D.hg, ← coe_sum]
  unfold whole
  rw [Finset.sum_mul]

theorem Data.hm : ∃ μ : ℝ, hm xz lo (ix2 c d) = ((μ * (Real.log 2)⁻¹ : ℝ) : EReal) := by
  refine base_of_real (mid_real _ _ _ _ (fun i => ?_) c d)
  rw [eq_ix3 i]
  exact ⟨_, D.hg (i 0) (i 1) (i 2)⟩

/-- The sum over the chunk's rows. -/
theorem Data.hin (a : Fin 128) : hin xq xz xv lo (ix3 c j a)
    = ((∑ i : Fin 64, (∑ d, qy (chunk (q d) (C₀ + c.val) j) * chunk (ky (L d) (z d)) (C₀ + c.val) i
        * Real.exp (part (chunk (lg (L d) (z d)) (C₀ + c.val)) j - part (chunk (lg (L d) (z d)) (C₀ + c.val)) i)) * upTo j i * chunk (v a) (C₀ + c.val) i : ℝ) : EReal) := by
  refine (in_apply _ _ _ _ _ _ c j a).trans ?_
  choose μ hμ using D.hm c
  simp only [D.hq, D.hk, D.hv, D.hb, hμ, mask_apply, exp2_sub, ← EReal.coe_mul, ← coe_sum]
  refine congrArg _ (Finset.sum_congr rfl fun i _ => congrArg (· * upTo j i * _) (Finset.sum_congr rfl fun d _ => ?_))
  rw [show part (chunk (lg (L d) (z d)) (C₀ + c.val)) j - part (chunk (lg (L d) (z d)) (C₀ + c.val)) i
    = (part (chunk (lg (L d) (z d)) (C₀ + c.val)) j - μ d) + (μ d - part (chunk (lg (L d) (z d)) (C₀ + c.val)) i) by ring, Real.exp_add]
  ring

/-- What a chunk adds to the state, its decay, and its decayed queries. -/
theorem Data.hw (a : Fin 128) : hw xz xv lo (ix3 c a d)
    = ((∑ j : Fin 64, chunk (v a) (C₀ + c.val) j * (chunk (ky (L d) (z d)) (C₀ + c.val) j
        * Real.exp (whole (chunk (lg (L d) (z d)) (C₀ + c.val)) - part (chunk (lg (L d) (z d)) (C₀ + c.val)) j)) : ℝ) : EReal) := by
  refine (add_apply _ _ _ _ c a d).trans ?_
  simp only [D.hk, D.hv, D.hb, D.total, exp2_sub, ← EReal.coe_mul, ← coe_sum]

theorem Data.hd : hd xz lo (ix3 c 0 d) = ((Real.exp (whole (chunk (lg (L d) (z d)) (C₀ + c.val))) : ℝ) : EReal) := by
  refine (decay_apply _ c d).trans ?_
  rw [D.total, exp2_base]

theorem Data.hx : hx xq xz lo (ix3 c j d)
    = ((qy (chunk (q d) (C₀ + c.val) j) * Real.exp (part (chunk (lg (L d) (z d)) (C₀ + c.val)) j) : ℝ) : EReal) := by
  refine (decayed_apply _ _ c j d).trans ?_
  rw [D.hq, D.hb, exp2_base, ← EReal.coe_mul]

variable {s0 : Vec Ideal S1x128x128 .f32} (hs0 : ∀ a d, s0 (ix3 0 a d) = (RecurrenceSums.state (lg (L d) (z d)) (ky (L d) (z d)) (v a) C₀ : EReal))
include hs0

/-- The state before each chunk. -/
theorem Data.held (n : ℕ) (hn : n ≤ 16) (a d : Fin 128) :
    hs xz xv lo s0 n (ix2 a d) = (RecurrenceSums.state (lg (L d) (z d)) (ky (L d) (z d)) (v a) (C₀ + n) : EReal) := by
  induction n with
  | zero => exact (cast_drop _ _ a d).trans (hs0 a d)
  | succ n ih =>
    have ec : (Fin.ofNat 16 n).val = n := Nat.mod_eq_of_lt hn
    refine (next_apply _ _ _ _ a d).trans ?_
    rw [show after (Recurrence.hd xz lo) (Recurrence.hw xz xv lo) (k0_pay3 s0) n (ix2 a d) = _ from ih (by omega),
      D.hd, D.hw, ec, ← EReal.coe_mul, ← EReal.coe_add, ← state_succ]
    rfl

/-- The state after the point. -/
theorem Data.stateOut (a d : Fin 128) : stateOut xz xv lo s0 (ix3 0 a d) = (RecurrenceSums.state (lg (L d) (z d)) (ky (L d) (z d)) (v a) (C₀ + 16) : EReal) :=
  (cast_add _ _ 0 a d).trans (D.held hs0 16 le_rfl a d)

/-- The rows of the result are the sums over all rows. -/
theorem Data.rowsOut (hC : C₀ + c.val < 64) (a : Fin 128) : rowsOut xq xz xv lo s0 (ix2 (rowOf c j) a)
    = (overRows (v a) (fun d => qy (q d (64 * (C₀ + c.val) + j.val))) (fun d => ky (L d) (z d)) (fun d => lg (L d) (z d)) (64 * (C₀ + c.val) + j.val) : EReal) := by
  rw [rowsOut_apply, D.hin, overRows_eq _ _ _ _ _ hC]
  have ec : Fin.ofNat 16 c.val = c := Fin.ext (Nat.mod_eq_of_lt c.isLt)
  have e : piece xq xz xv lo s0 c.val (ix2 j a) = ((∑ d, qy (q d (64 * (C₀ + c.val) + j.val)) * Real.exp (part (chunk (lg (L d) (z d)) (C₀ + c.val)) j)
      * RecurrenceSums.state (lg (L d) (z d)) (ky (L d) (z d)) (v a) (C₀ + c.val) : ℝ) : EReal) := by
    refine (inter_apply _ _ _ j a).trans ?_
    rw [ec, coe_sum]
    refine Finset.sum_congr rfl fun d _ => ?_
    rw [D.hx, D.held hs0 c.val c.isLt.le, ← EReal.coe_mul]
    rfl
  rw [e, ← EReal.coe_add]
  rfl
end

end Cert.Recurrence

end
-- ==== Proof.RecurrenceReference.lean ====
/- The reference of the recurrence's forward pass at real arguments: each row the sum over the rows so far. -/
module

public import proofs.«01_k».proof.Proof.RecurrenceSteps
public import proofs.«01_k».proof.Proof.ForwardLower
public import proofs.«01_k».proof.Proof.Gen.GlaFwdRefIdeal.Read

@[expose] public section

noncomputable section

namespace Cert.Recurrence

open Idealize.ShloMosaic Idealize.ShloMosaic.TcCoe Idealize.SL.Sem
open Cert.GlaFwdRefIdeal Cert.GlaFwdRefIdeal.Gen Cert.GlaFwdRefIdeal.Read Cert.Common Cert.RecurrenceSums

/-- Numbers added from zero in order are their sum. -/
theorem foldl_add (n : ℕ) (f : Fin n → EReal) : (List.finRange n).foldl (fun r i => r + f i) 0 = ∑ i, f i := by
  rw [Fin.sum_univ_def, List.sum_eq_foldl, List.foldl_map]

/-- A window that ends at row `t` and starts 4095 rows before it holds the rows so far. -/
theorem window_sum (G : ℕ → ℝ) (t : ℕ) (ht : t < 4096) :
    (∑ n ∈ Finset.range 4096, if 4095 ≤ t + n then G (t + n - 4095) else 0) = before G (t + 1) := by
  rw [show 4096 = (4095 - t) + (t + 1) by omega, Finset.sum_range_add,
    Finset.sum_eq_zero (s := Finset.range (4095 - t)) fun n hn => if_neg (by have := Finset.mem_range.1 hn; omega), zero_add]
  refine Finset.sum_congr rfl fun n _ => ?_
  rw [if_pos (by omega), show t + (4095 - t + n) - 4095 = n by omega]

/-- The coordinates of a window position. -/
theorem window_coord (n : Fin (Shape.numel ⟨3, ![1, 4096, 1]⟩)) :
    ((⟨3, ![1, 4096, 1]⟩ : Shape).rowMajor.symm n 0).val = 0 ∧ ((⟨3, ![1, 4096, 1]⟩ : Shape).rowMajor.symm n 1).val = n.val
      ∧ ((⟨3, ![1, 4096, 1]⟩ : Shape).rowMajor.symm n 2).val = 0 := by
  have h := Shape.rowMajor_val_three ((⟨3, ![1, 4096, 1]⟩ : Shape).rowMajor.symm n)
  rw [Equiv.apply_symm_apply] at h
  have h0 : ((⟨3, ![1, 4096, 1]⟩ : Shape).rowMajor.symm n 0).val < 1 := ((⟨3, ![1, 4096, 1]⟩ : Shape).rowMajor.symm n 0).isLt
  have h2 : ((⟨3, ![1, 4096, 1]⟩ : Shape).rowMajor.symm n 2).val < 1 := ((⟨3, ![1, 4096, 1]⟩ : Shape).rowMajor.symm n 2).isLt
  have h' : n.val = (((⟨3, ![1, 4096, 1]⟩ : Shape).rowMajor.symm n 0).val * 4096 + ((⟨3, ![1, 4096, 1]⟩ : Shape).rowMajor.symm n 1).val) * 1
    + ((⟨3, ![1, 4096, 1]⟩ : Shape).rowMajor.symm n 2).val := h
  omega

/-- The running sum over the rows, at real values. -/
theorem running_sum (y : FVec Ideal S4x4096x128 .f32) (h : Fin 4) (d : Fin 128) (G : ℕ → ℝ) (hy : ∀ s : Fin 4096, y (ix3 h s d) = (G s.val : EReal)) (t : Fin 4096) :
    Host.reduceWindowAdd ![1, 4096, 1] ![1, 1, 1] ![0, 4095, 0] ![0, 0, 0] y (val_main_call2_call0_v0 (F := Ideal))
      reduceWindows_S4x4096x128_S4x4096x128_w1s1p0_0_w4096s1p4095_0_w1s1p0_0 h_S_ (ix3 h t d) = (before G (t.val + 1) : EReal) := by
  have hv : val_main_call2_call0_v0 (F := Ideal) (Shape.Idx.first h_S_) = 0 := by
    show Ideal.ofBits .f32 0x00000000#32 = 0
    exact Ideal.ofBits_zero_f32
  unfold Host.reduceWindowAdd
  rw [Ideal.hostReduceWindowAdd_def, hv]
  unfold Ideal.hostReduceWindowAdd Host.reduceWindow
  refine (foldl_add _ _).trans ?_
  rw [← window_sum G t.val t.isLt, coe_sum]
  refine Eq.trans (Finset.sum_congr rfl fun n _ => ?_) (Fin.sum_univ_eq_sum_range (fun n => (((if 4095 ≤ t.val + n then G (t.val + n - 4095) else 0 : ℝ)) : EReal)) 4096)
  obtain ⟨p0, p1, p2⟩ := window_coord n
  have hn : n.val < 4096 := n.isLt
  have hh := h.isLt
  have hd := d.isLt
  have ht := t.isLt
  by_cases hc : 4095 ≤ t.val + n.val
  · rw [if_pos hc]
    refine (dif_pos ?_).trans ?_
    · intro a
      match a with
      | ⟨0, _⟩ =>
        show 0 ≤ h.val * 1 + ((⟨3, ![1, 4096, 1]⟩ : Shape).rowMajor.symm n 0).val ∧ h.val * 1 + ((⟨3, ![1, 4096, 1]⟩ : Shape).rowMajor.symm n 0).val - 0 < 4
        rw [p0]; omega
      | ⟨1, _⟩ =>
        show 4095 ≤ t.val * 1 + ((⟨3, ![1, 4096, 1]⟩ : Shape).rowMajor.symm n 1).val ∧ t.val * 1 + ((⟨3, ![1, 4096, 1]⟩ : Shape).rowMajor.symm n 1).val - 4095 < 4096
        rw [p1]; omega
      | ⟨2, _⟩ =>
        show 0 ≤ d.val * 1 + ((⟨3, ![1, 4096, 1]⟩ : Shape).rowMajor.symm n 2).val ∧ d.val * 1 + ((⟨3, ![1, 4096, 1]⟩ : Shape).rowMajor.symm n 2).val - 0 < 128
        rw [p2]; omega
    · refine Eq.trans (congrArg y (funext fun a => Fin.ext ?_)) (hy ⟨t.val + n.val - 4095, by omega⟩)
      match a with
      | ⟨0, _⟩ => exact (congrArg (fun k => h.val * 1 + k - 0) p0).trans (by show h.val * 1 + 0 - 0 = h.val; omega)
      | ⟨1, _⟩ => exact (congrArg (fun k => t.val * 1 + k - 4095) p1).trans (by show t.val * 1 + n.val - 4095 = t.val + n.val - 4095; omega)
      | ⟨2, _⟩ => exact (congrArg (fun k => d.val * 1 + k - 0) p2).trans (by show d.val * 1 + 0 - 0 = d.val; omega)
  · rw [if_neg hc]
    refine (dif_neg ?_).trans rfl
    intro hin
    have h1 : 4095 ≤ t.val * 1 + ((⟨3, ![1, 4096, 1]⟩ : Shape).rowMajor.symm n 1).val := (hin 1).1
    rw [p1] at h1
    omega

/-! ## The lower bounds -/

/-- A layer's share of real parameters lies between zero and one. -/
theorem share_real (x : FVec Ideal S2x2x512 .f32) (hx : ∀ i, IsReal (x i)) (l i : Fin 2) (D : Fin 512) :
    ∃ r : ℝ, FwdLower.Reference.share x l i D = (r : EReal) ∧ 0 < r ∧ r < 1 := by
  have ht : IsReal (FwdLower.Reference.top x i D) := by
    rw [show FwdLower.Reference.top x i D = max (x (ix3 0 i D)) (max (x (ix3 1 i D)) (Ideal.ofBits .f32 0xFF800000#32)) from rfl,
      ofBits_neg_inf_f32, max_eq_left (bot_le : (⊥ : EReal) ≤ x (ix3 1 i D))]
    rcases max_choice (x (ix3 0 i D)) (x (ix3 1 i D)) with e | e <;> rw [e] <;> exact hx _
  obtain ⟨u, hu⟩ := ht
  choose p hp using fun k : Fin 2 => hx (ix3 k i D)
  have hs : (0 : ℝ) < ∑ k, Real.exp (p k - u) := Finset.sum_pos (fun _ _ => Real.exp_pos _) ⟨0, Finset.mem_univ _⟩
  refine ⟨Real.exp (p l - u) / ∑ k, Real.exp (p k - u), ?_, div_pos (Real.exp_pos _) hs, ?_⟩
  · unfold FwdLower.Reference.share
    rw [hu]
    simp only [hp, ← EReal.coe_sub, Ideal.exp_coe, ← coe_sum]
    exact div_coe_coe _ hs.ne'
  · rw [div_lt_one hs, Fin.sum_univ_two]
    have h0 := Real.exp_pos (p 0 - u)
    have h1 := Real.exp_pos (p 1 - u)
    match l with
    | 0 => linarith
    | 1 => linarith

/-- The reference's lower bounds are the first layer's shares. -/
theorem ref_lower (x1 : FVec Ideal S2x2x512 .f32) (D : Fin 512) : val_main_v15 (F := Ideal) x1 (ix1 D) = FwdLower.Reference.share x1 0 0 D := by
  rw [val_main_v15_apply, val_main_v14_apply, val_main_v13_apply, val_main_v12_apply]
  refine Eq.trans ?_ ((FwdLower.Reference.first_sum (val_main_v10 (F := Ideal) x1) 0 D).trans (FwdLower.Reference.softmax_apply x1 0 0 D))
  refine congrArg (val_main_v11 (F := Ideal) x1) (funext fun a => Fin.ext ?_)
  have hD := D.isLt
  match a with
  | ⟨0, _⟩ => rfl
  | ⟨1, _⟩ => show _ % 2 = 0; simp
  | ⟨2, _⟩ => show _ % 512 = D.val; simp

/-! ## The result -/

/-- An argument's columns as functions of the row. -/
def col (z : S4096x3136.Idx → ℝ) (k : Fin 3136) : ℕ → ℝ := fun s => if h : s < 4096 then z (ix2 ⟨s, h⟩ k) else 0

theorem col_at (z : S4096x3136.Idx → ℝ) (k : Fin 3136) (s : Fin 4096) : col z k s.val = z (ix2 s k) := dif_pos s.isLt

/-- Component `d` of head `h` among the 512 of a field, and the query's, the gate's and the value's columns that hold it. -/
def comp (h : Fin 4) (d : Fin 128) : Fin 512 := ⟨128 * h.val + d.val, by omega⟩
def colQ (D : Fin 512) : Fin 3136 := ⟨576 + D.val, by omega⟩
def colF (D : Fin 512) : Fin 3136 := ⟨1088 + D.val, by omega⟩
def colV (D : Fin 512) : Fin 3136 := ⟨2112 + D.val, by omega⟩

variable (z : S4096x3136.Idx → ℝ) (L : Fin 512 → ℝ)

/-- A row of the recurrence as the sum over the rows so far. -/
def result (h : Fin 4) (t : ℕ) (a : Fin 128) : ℝ :=
  overRows (col z (colV (comp h a))) (fun d => qy (col z (colQ (comp h d)) t)) (fun d => ky (L (comp h d)) (col z (colF (comp h d))))
    (fun d => lg (L (comp h d)) (col z (colF (comp h d)))) t

/-- One over one plus an exponential is the logistic function. -/
theorem host_logistic (r : ℝ) : Ideal.div (Ideal.ofBits .f32 0x3F800000#32) (Ideal.ofBits .f32 0x3F800000#32 + Ideal.exp (-(r : EReal))) = (Common.sig r : EReal) := by
  have h : (1 : ℝ) + Real.exp (-r) ≠ 0 := by have := Real.exp_pos (-r); linarith
  rw [ofBits_one_coe, ← EReal.coe_neg, Ideal.exp_coe, ← EReal.coe_add, div_coe_coe _ h]
  unfold Common.sig
  rw [one_div]

variable (x1 : FVec Ideal S2x2x512 .f32)

theorem ref_q (t : Fin 4096) (D : Fin 512) : val_main_v17 (F := Ideal) (fun i => (z i : EReal)) (ix2 t D) = (qy (col z (colQ D) t.val) : EReal) := by
  rw [col_at]
  unfold qy
  rw [EReal.coe_mul, ← host_logistic]
  pointwise [val_main_v16, val_main_call1_v0, val_main_call1_v1, val_main_call1_cst, val_main_call1_v2, val_main_call1_v3, val_main_call1_cst_0,
    val_main_call1_v4, val_main_call1_v5, val_main_v17]
  rfl

section
variable (hL : ∀ D, FwdLower.Reference.share x1 0 0 D = (L D : EReal)) (hpos : ∀ D, 0 < L D) (hlt : ∀ D, L D < 1)
include hL

theorem ref_gate (t : Fin 4096) (D : Fin 512) :
    val_main_v37 (F := Ideal) (fun i => (z i : EReal)) x1 (ix2 t D) = (gate (L D) (col z (colF D) t.val) : EReal) := by
  rw [col_at]
  unfold gate
  have e := (ref_lower x1 D).trans (hL D)
  generalize hy : val_main_v15 (F := Ideal) x1 = y at e
  have one : (1 : EReal) = Ideal.ofBits .f32 0x3F800000#32 := ofBits_one_coe.symm
  rw [EReal.coe_add, EReal.coe_mul, EReal.coe_sub, ← host_logistic, ← e, EReal.coe_one, one]
  subst hy
  pointwise [val_main_cst_2, val_main_v23, val_main_v24, val_main_v25, val_main_v26, val_main_v27, val_main_cst_3, val_main_v28, val_main_v29,
    val_main_cst_4, val_main_v30, val_main_v31, val_main_v32, val_main_v33, val_main_v34, val_main_v35, val_main_v36, val_main_v37]
  rfl

omit hL in
/-- A row of a head's component, from the 512 components of the row. -/
theorem heads_idx (h : Fin 4) (s : Fin 4096) (d : Fin 128) : idx_main_v18 (idx_main_v19 (ix3 h s d)) = ix2 s (comp h d) := by
  refine funext fun a => Fin.ext ?_
  have hh := h.isLt
  have hd := d.isLt
  match a with
  | ⟨0, _⟩ => show ((s.val * 4 + h.val) * 128 + d.val) / 512 = s.val; omega
  | ⟨1, _⟩ => show ((s.val * 4 + h.val) * 128 + d.val) % 512 = 128 * h.val + d.val; omega

omit hL in
theorem ref_qh (h : Fin 4) (t : Fin 4096) (d : Fin 128) :
    val_main_v19 (F := Ideal) (fun i => (z i : EReal)) (ix3 h t d) = (qy (col z (colQ (comp h d)) t.val) : EReal) := by
  rw [val_main_v19_apply, val_main_v18_apply, heads_idx, ref_q]

omit hL in
theorem ref_vh (h : Fin 4) (t : Fin 4096) (d : Fin 128) :
    val_main_v22 (F := Ideal) (fun i => (z i : EReal)) (ix3 h t d) = (col z (colV (comp h d)) t.val : EReal) := by
  rw [val_main_v22_apply, val_main_v21_apply, show idx_main_v21 (idx_main_v22 (ix3 h t d)) = ix2 t (comp h d) from heads_idx h t d, col_at]
  pointwise [val_main_v20]
  rfl

theorem ref_kh (h : Fin 4) (t : Fin 4096) (d : Fin 128) :
    val_main_v41 (F := Ideal) (fun i => (z i : EReal)) x1 (ix3 h t d) = (ky (L (comp h d)) (col z (colF (comp h d))) t.val : EReal) := by
  rw [val_main_v41_apply, val_main_v40_apply, show idx_main_v40 (idx_main_v41 (ix3 h t d)) = ix2 t (comp h d) from heads_idx h t d, val_main_v39_apply,
    ref_gate z L x1 hL]
  show Ideal.ofBits .f32 0x3F800000#32 - _ = _
  rw [ofBits_one_coe, ← EReal.coe_sub]
  rfl

include hpos hlt

theorem ref_gh (h : Fin 4) (t : Fin 4096) (d : Fin 128) :
    val_main_v44 (F := Ideal) (fun i => (z i : EReal)) x1 (ix3 h t d) = (lg (L (comp h d)) (col z (colF (comp h d))) t.val : EReal) := by
  rw [val_main_v44_apply, val_main_v43_apply, show idx_main_v43 (idx_main_v44 (ix3 h t d)) = ix2 t (comp h d) from heads_idx h t d, val_main_v42_apply,
    ref_gate z L x1 hL]
  show Ideal.log ((gate (L (comp h d)) (col z (colF (comp h d)) t.val) : ℝ) : EReal) = _
  rw [Ideal.log_coe, if_neg (not_le.2 (gate_pos (hpos _) (hlt _) _))]
  rfl

theorem ref_bh (h : Fin 4) (t : Fin 4096) (d : Fin 128) :
    val_main_v45 (F := Ideal) (fun i => (z i : EReal)) x1 (ix3 h t d) = (before (lg (L (comp h d)) (col z (colF (comp h d)))) (t.val + 1) : EReal) :=
  running_sum _ h d _ (fun s => ref_gh z L x1 hL hpos hlt h s d) t

/-- The product of a query and a key, times the gates between them. -/
theorem ref_pair (h : Fin 4) (t s : Fin 4096) (d : Fin 128) :
    val_main_v57 (F := Ideal) (fun i => (z i : EReal)) x1 (ix4 h t s d)
      = ((qy (col z (colQ (comp h d)) t.val) * ky (L (comp h d)) (col z (colF (comp h d))) s.val
          * Real.exp (before (lg (L (comp h d)) (col z (colF (comp h d)))) (t.val + 1) - before (lg (L (comp h d)) (col z (colF (comp h d)))) (s.val + 1)) : ℝ) : EReal) := by
  rw [val_main_v57_apply, val_main_v50_apply, val_main_v48_apply, val_main_v46_apply, val_main_v49_apply, val_main_v47_apply,
    val_main_v56_apply, val_main_v55_apply, val_main_v53_apply, val_main_v51_apply, val_main_v54_apply, val_main_v52_apply,
    show idx_main_v46 (idx_main_v48 (ix4 h t s d)) = ix3 h t d from eq_ix3 _, show idx_main_v47 (idx_main_v49 (ix4 h t s d)) = ix3 h s d from eq_ix3 _,
    show idx_main_v51 (idx_main_v53 (ix4 h t s d)) = ix3 h t d from eq_ix3 _, show idx_main_v52 (idx_main_v54 (ix4 h t s d)) = ix3 h s d from eq_ix3 _,
    ref_qh, ref_kh z L x1 hL, ref_bh z L x1 hL hpos hlt, ref_bh z L x1 hL hpos hlt]
  generalize qy (col z (colQ (comp h d)) t.val) = a
  generalize ky (L (comp h d)) (col z (colF (comp h d))) s.val = b
  generalize before (lg (L (comp h d)) (col z (colF (comp h d)))) (t.val + 1) = p
  generalize before (lg (L (comp h d)) (col z (colF (comp h d)))) (s.val + 1) = q
  show (a : EReal) * (b : EReal) * Ideal.exp ((p : EReal) - (q : EReal)) = _
  rw [← EReal.coe_sub, Ideal.exp_coe, ← EReal.coe_mul, ← EReal.coe_mul]

omit hL hpos hlt in
/-- The mask: one where key `s` is not after query `t`, else zero. -/
theorem ref_mask (t s : Fin 4096) : val_main_v60 (F := Ideal) (ix2 t s) = (((if s.val ≤ t.val then 1 else 0 : ℝ)) : EReal) := by
  have hw : val_main_call3_v4 (F := Ideal) (ix2 t s) = if s.val ≤ t.val then 1#1 else 0#1 := by
    rw [val_main_call3_v4_apply]
    show IntOp.cmpi .sge (BitVec.ofNat 32 t.val + 0#32) (BitVec.ofNat 32 s.val) = _
    rw [BitVec.add_zero]
    have ht := t.isLt
    have hs := s.isLt
    have e (n : ℕ) (hn : n < 4096) : (BitVec.ofNat 32 n).toInt = n := by
      rw [BitVec.toInt_eq_toNat_bmod, BitVec.toNat_ofNat, Nat.mod_eq_of_lt (by omega)]
      exact Int.bmod_eq_of_le (by omega) (by omega)
    unfold IntOp.cmpi
    simp only [BitVec.sle, e t.val ht, e s.val hs, Nat.cast_le]
    by_cases hc : s.val ≤ t.val <;> simp [hc]
  rw [val_main_v60_apply, hw]
  split
  · show Ideal.ofBits .f32 0x3F800000#32 = _
    rw [ofBits_one_coe]
  · show Ideal.ofBits .f32 0x00000000#32 = _
    rw [Ideal.ofBits_zero_f32]
    rfl

theorem ref_weight (h : Fin 4) (t s : Fin 4096) :
    val_main_v63 (F := Ideal) (fun i => (z i : EReal)) x1 (ix3 h t s)
      = (((∑ d, qy (col z (colQ (comp h d)) t.val) * ky (L (comp h d)) (col z (colF (comp h d))) s.val
          * Real.exp (before (lg (L (comp h d)) (col z (colF (comp h d)))) (t.val + 1) - before (lg (L (comp h d)) (col z (colF (comp h d)))) (s.val + 1)))
          * if s.val ≤ t.val then 1 else 0 : ℝ) : EReal) := by
  have e1 : val_main_v58 (F := Ideal) (fun i => (z i : EReal)) x1 (ix3 h t s)
      = ∑ d, ((qy (col z (colQ (comp h d)) t.val) * ky (L (comp h d)) (col z (colF (comp h d))) s.val
          * Real.exp (before (lg (L (comp h d)) (col z (colF (comp h d)))) (t.val + 1) - before (lg (L (comp h d)) (col z (colF (comp h d)))) (s.val + 1)) : ℝ) : EReal) := by
    rw [val_main_v58_apply, val_main_cst_6_apply]
    show Ideal.ofBits .f32 0x00000000#32 + _ = _
    rw [Ideal.ofBits_zero_f32, zero_add]
    refine Finset.sum_congr rfl fun d _ => ?_
    rw [eq_ix4 (idx_main_v58 _ d)]
    exact ref_pair z L x1 hL hpos hlt h t s d
  rw [val_main_v63_apply, e1, val_main_v62_apply, val_main_v61_apply, show idx_main_v61 (idx_main_v62 (ix3 h t s)) = ix2 t s from eq_ix2 _, ref_mask,
    ← coe_sum]
  exact (EReal.coe_mul _ _).symm

/-- The reference's result at an index. -/
theorem ref_result (h : Fin 4) (t : Fin 4096) (a : Fin 128) :
    val_main_v66 (F := Ideal) (fun i => (z i : EReal)) x1 (ix2 t (comp h a)) = (result z L h t.val a : EReal) := by
  have e : idx_main_v65 (idx_main_v66 (ix2 t (comp h a))) = ix3 h a t := by
    refine funext fun b => Fin.ext ?_
    have hh := h.isLt
    have ha := a.isLt
    match b with
    | ⟨0, _⟩ => show (t.val * 512 + (128 * h.val + a.val)) / 128 % 4 = h.val; omega
    | ⟨1, _⟩ => show (t.val * 512 + (128 * h.val + a.val)) % 128 = a.val; omega
    | ⟨2, _⟩ => show (t.val * 512 + (128 * h.val + a.val)) / 512 = t.val; omega
  rw [val_main_v66_apply, val_main_v65_apply, e, val_main_v64_apply]
  unfold result overRows
  rw [coe_sum, Finset.sum_range]
  refine Finset.sum_congr rfl fun s _ => ?_
  rw [eq_ix3 (lidx_main_v64 (ix3 h a t) s), eq_ix3 (ridx_main_v64 (ix3 h a t) s), EReal.coe_mul]
  exact congrArg₂ (· * ·) (ref_vh z h s a) (ref_weight z L x1 hL hpos hlt h t s)

end

end Cert.Recurrence

end
-- ==== Proof.GlaFwdValue.lean ====
/- The value of the recurrence's forward pass: the kernel's array, chunk by chunk with states between the chunks, is the
   reference's, each row the sum over the rows so far. -/
module

public import proofs.«01_k».proof.Proof.RecurrenceReference
public import proofs.«01_k».proof.Proof.Gen.GlaFwdIdeal.Value
public import proofs.«01_k».proof.Proof.Gen.GlaFwdRefIdeal.Run
public import proofs.«01_k».proof.Proof.Gen.Pre_finite_gla_fwd

@[expose] public section

noncomputable section

namespace Cert.Recurrence

open Idealize.ShloMosaic Idealize.ShloMosaic.TcCoe Idealize.SL.Sem
open Cert.GlaFwdIdeal Cert.GlaFwdIdeal.Gen Cert.Common Cert.RecurrenceSums
open Cert.GlaFwdRefIdeal.Read (val_main_v13 val_main_v13_apply val_main_v12_apply val_main_v11 val_main_v10 val_main_v66 val_main_v66_eq)

/-- The input product's columns in the kernel's order. -/
def ordered (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- Columns 512 to 3071 among them. -/
theorem ordered_mid (z : FVec Ideal S4096x3136 .f32) (r : Fin 4096) (k : Fin 2560) :
    ordered z (ix2 r ⟨512 + k.val, by omega⟩) = z (ix2 r ⟨576 + k.val, by omega⟩) := by
  have h1 : ¬ 512 + k.val < 512 := by omega
  have h2 : 512 + k.val - 512 < 2560 := by omega
  have h3 : 576 + (512 + k.val - 512) = 576 + k.val := by omega
  pointwise [ordered, h1, h2, h3]

/-- The lower bounds, one row for each head. -/
def lowRows (x1 : FVec Ideal S2x2x512 .f32) : FVec Ideal S4x1x128 .f32 :=
  shapeCast S4x1x128 (extractStridedSlice S1x4x1x128 ![0, 0, 0, 0] (shapeCast S2x4x1x128 (val_main_v13 (F := Ideal) x1) shapeCasts_S2x512_S2x4x1x128)
    slices_S2x4x1x128_S1x4x1x128_0_0_0_0) shapeCasts_S1x4x1x128_S4x1x128

theorem lowRows_apply (x1 : FVec Ideal S2x2x512 .f32) (h : Fin 4) (d : Fin 128) : lowRows x1 (ix3 h 0 d) = FwdLower.Reference.share x1 0 0 (comp h d) := by
  have hh := h.isLt
  have hd := d.isLt
  unfold lowRows
  refine (shapeCast_apply _ _ (ix3 h 0 d) (ix4 0 h 0 d) ?_).trans ?_
  · rw [Shape.rowMajor_val_three, Shape.rowMajor_val_four]
    show ((0 * 4 + h.val) * 1 + 0) * 128 + d.val = (h.val * 1 + 0) * 128 + d.val
    omega
  refine (extractStridedSlice_apply _ _ _ _ (ix4 0 h 0 d) fun a => ?_).trans ?_
  · match a with
    | ⟨0, _⟩ => rfl
    | ⟨1, _⟩ => show h.val = 0 + h.val; omega
    | ⟨2, _⟩ => rfl
    | ⟨3, _⟩ => show d.val = 0 + d.val; omega
  refine (shapeCast_apply _ _ (ix4 0 h 0 d) (ix2 0 (comp h d)) ?_).trans ?_
  · rw [Shape.rowMajor_val_two, Shape.rowMajor_val_four]
    show 0 * 512 + (128 * h.val + d.val) = ((0 * 4 + h.val) * 1 + 0) * 128 + d.val
    omega
  rw [val_main_v13_apply, val_main_v12_apply]
  refine Eq.trans ?_ ((FwdLower.Reference.first_sum (val_main_v10 (F := Ideal) x1) 0 (comp h d)).trans (FwdLower.Reference.softmax_apply x1 0 0 (comp h d)))
  refine congrArg (val_main_v11 (F := Ideal) x1) (funext fun a => Fin.ext ?_)
  match a with
  | ⟨0, _⟩ => rfl
  | ⟨1, _⟩ => show (0 * 512 + (128 * h.val + d.val)) / 512 % 2 = 0; omega
  | ⟨2, _⟩ => show (0 * 512 + (128 * h.val + d.val)) % 512 = 128 * h.val + d.val; omega

variable (m : (ℓ : Loc nD τ sig) → Buf (Elt Ideal) ℓ) (ρ : Dev nD → PrngReg)

/-- Device `c`'s two arguments, at their types. -/
abbrev ZA (c : Dev nD) : FVec Ideal S4096x3136 .f32 := m ((c : Thread nD τ).loc main_arg0)
abbrev PA (c : Dev nD) : FVec Ideal S2x2x512 .f32 := m ((c : Thread nD τ).loc main_arg1)

/-- The columns and the lower bounds as the region finds them. -/
theorem V_cols (c : Dev nD) : (V m c main_v19 : FVec Ideal S4096x3200 .f32) = ordered (ZA m c) := by
  show StableHlo.after (List.flatten [hostOps0, hostOps0_1, hostOps0_2, hostOps0_3, hostOps0_4]) (fun b => m (c, b)) main_v19 = _
  simp only [List.flatten_cons, List.flatten_nil, List.append_nil, List.cons_append, List.nil_append]
  after_results <;> rfl

theorem V_low (c : Dev nD) : (V m c main_v21 : FVec Ideal S4x1x128 .f32) = lowRows (PA m c) := by
  show StableHlo.after (List.flatten [hostOps0, hostOps0_1, hostOps0_2, hostOps0_3, hostOps0_4]) (fun b => m (c, b)) main_v21 = _
  simp only [List.flatten_cons, List.flatten_nil, List.append_nil, List.cons_append, List.nil_append]
  after_results <;> rfl

/-- Where each window's block sits in its array. -/
theorem idx : ∀ t : Fin cfg0.N, win0_0.index t = ![t.val, 1] ∧ win0_1.index t = ![t.val, 2] ∧ win0_2.index t = ![t.val, 4]
    ∧ win0_3.index t = ![0, 0, 0] ∧ win0_4.index t = ![t.val, 0] :=
  (by decide +kernel : ∀ t : Fin grid0.N, _)

/-- The row of the whole array that row `r` of block `t` is. -/
def row (t : Fin cfg0.N) (r : Fin 1024) : Fin 4096 := ⟨t.val * 1024 + r.val, by have := t.isLt; have hN : cfg0.N = 4 := N_0; omega⟩

theorem blkQ (c : Dev nD) (t : Fin cfg0.N) (r : Fin 1024) (k : Fin 512) :
    (X0_0 m c t : Vec Ideal S1024x512 .f32) (ix2 r k) = ZA m c (ix2 (row t r) (colQ k)) := by
  unfold X0_0 Pipeline.Window.fill
  rw [dif_pos (moved0_0 t (ix2 r k))]
  blk_simp [iblk]
  refine (congrFun (V_cols m c) _).trans ((congrArg (ordered (ZA m c)) ?_).trans (ordered_mid (ZA m c) (row t r) ⟨k.val, by omega⟩))
  blk_ext [(idx t).1, row]

theorem blkF (c : Dev nD) (t : Fin cfg0.N) (r : Fin 1024) (k : Fin 512) :
    (X0_1 m c t : Vec Ideal S1024x512 .f32) (ix2 r k) = ZA m c (ix2 (row t r) (colF k)) := by
  unfold X0_1 Pipeline.Window.fill
  rw [dif_pos (moved0_1 t (ix2 r k))]
  blk_simp [iblk]
  refine (congrFun (V_cols m c) _).trans ((congrArg (ordered (ZA m c)) ?_).trans ((ordered_mid (ZA m c) (row t r) ⟨512 + k.val, by omega⟩).trans ?_))
  · blk_ext [(idx t).2.1, row]
  · exact congrArg (fun k' => ZA m c (ix2 (row t r) k')) (Fin.ext (by show 576 + (512 + k.val) = 1088 + k.val; omega))

theorem blkV (c : Dev nD) (t : Fin cfg0.N) (r : Fin 1024) (k : Fin 512) :
    (X0_2 m c t : Vec Ideal S1024x512 .f32) (ix2 r k) = ZA m c (ix2 (row t r) (colV k)) := by
  unfold X0_2 Pipeline.Window.fill
  rw [dif_pos (moved0_2 t (ix2 r k))]
  blk_simp [iblk]
  refine (congrFun (V_cols m c) _).trans ((congrArg (ordered (ZA m c)) ?_).trans ((ordered_mid (ZA m c) (row t r) ⟨1536 + k.val, by omega⟩).trans ?_))
  · blk_ext [(idx t).2.2.1, row]
  · exact congrArg (fun k' => ZA m c (ix2 (row t r) k')) (Fin.ext (by show 576 + (1536 + k.val) = 2112 + k.val; omega))

theorem blkL (c : Dev nD) (t : Fin cfg0.N) (h : Fin 4) (d : Fin 128) :
    (iblk m c 3 t : Vec Ideal S4x1x128 .f32) (ix3 h 0 d) = FwdLower.Reference.share (PA m c) 0 0 (comp h d) := by
  blk_simp [iblk]
  refine (congrFun (V_low m c) _).trans ((congrArg (lowRows (PA m c)) ?_).trans (lowRows_apply (PA m c) h d))
  blk_ext [(idx t).2.2.2.1]

/-! ## The head's parts of a point -/

theorem colsX_apply (x : Vec Ideal S1024x512 .f32) (h : Fin 4) (r : Fin 1024) (d : Fin 128) : colsX x h (ix2 r d) = x (ix2 r (comp h d)) :=
  View.ld_unit_apply_of x _ _ (inbX h) (ix2 r d) _ fun a => by
    match a with
    | ⟨0, _⟩ => show r.val = 0 + r.val; omega
    | ⟨1, _⟩ => rfl
theorem rowL_apply (x : Vec Ideal S4x1x128 .f32) (h : Fin 4) (d : Fin 128) : rowL x h (ix3 0 0 d) = x (ix3 h 0 d) :=
  View.ld_unit_apply_of x _ _ (inbL h) (ix3 0 0 d) _ fun a => by
    match a with
    | ⟨0, _⟩ => rfl
    | ⟨1, _⟩ => rfl
    | ⟨2, _⟩ => show d.val = 0 + d.val; omega
theorem matS_apply (x : Vec Ideal S4x128x128 .f32) (h : Fin 4) (a d : Fin 128) : matS x h (ix3 0 a d) = x (ix3 h a d) :=
  View.ld_unit_apply_of x _ _ (inbS h) (ix3 0 a d) _ fun b => by
    match b with
    | ⟨0, _⟩ => rfl
    | ⟨1, _⟩ => show a.val = 0 + a.val; omega
    | ⟨2, _⟩ => show d.val = 0 + d.val; omega

section
variable (c : Dev nD) (z : S4096x3136.Idx → ℝ) (L : Fin 512 → ℝ) (hz : ZA m c = fun i => (z i : EReal))
  (hL : ∀ D, FwdLower.Reference.share (PA m c) 0 0 D = (L D : EReal)) (hpos : ∀ D, 0 < L D) (hlt : ∀ D, L D < 1)

/-- Row `j` of chunk `c'` of point `t`, in the whole array. -/
theorem row_chunk (t : Fin cfg0.N) (c' : Fin 16) (j : Fin 64) (k : Fin 3136) :
    (z (ix2 (row t (rowOf c' j)) k) : EReal) = (chunk (col z k) (16 * t.val + c'.val) j : EReal) := by
  rw [← col_at z]
  unfold chunk
  rw [show (row t (rowOf c' j)).val = 64 * (16 * t.val + c'.val) + j.val by show t.val * 1024 + (c'.val * 64 + j.val) = _; omega]

include hz hL hpos hlt

theorem data (t : Fin cfg0.N) (h : Fin 4) :
    Data (16 * t.val) (fun d => L (comp h d)) (fun d => col z (colQ (comp h d))) (fun d => col z (colF (comp h d))) (fun d => col z (colV (comp h d)))
      (colsX (X0_0 m c t) h) (colsX (X0_1 m c t) h) (colsX (X0_2 m c t) h) (rowL (iblk m c 3 t) h) where
  q c' j d := by rw [colsX_apply, blkQ, hz]; exact row_chunk z t c' j _
  z c' j d := by rw [colsX_apply, blkF, hz]; exact row_chunk z t c' j _
  v c' j d := by rw [colsX_apply, blkV, hz]; exact row_chunk z t c' j _
  lo d := by rw [rowL_apply, blkL, hL]
  pos d := hpos _
  lt d := hlt _

/-- The states a point leaves: those before the next point's first chunk. -/
theorem states (n : ℕ) (hn : n < cfg0.N) (h : Fin 4) (a d : Fin 128) : (outsAt0 m c n hn).2.2 (ix3 h a d)
    = (state (lg (L (comp h d)) (col z (colF (comp h d)))) (ky (L (comp h d)) (col z (colF (comp h d)))) (col z (colV (comp h a))) (16 * n + 16) : EReal) := by
  induction n generalizing h a d with
  | zero =>
    rw [outsAt0_A m c ⟨0, hn⟩ rfl]
    dsimp only
    rw [states_A]
    show headState (X0_1 m c _) (X0_2 m c _) (iblk m c 3 _) _ h (ix3 0 a d) = _
    refine Data.stateOut (data m c z L hz hL hpos hlt ⟨0, hn⟩ h) (fun a d => ?_) a d
    refine (matS_apply _ _ a d).trans (Eq.trans ?_ (congrArg _ (state_zero _ _ _).symm))
    unfold zeros
    pointwise [k0_pay2]
    rfl
  | succ n ih =>
    have hN : cfg0.N = 4 := N_0
    rw [outsAt0_B m c ⟨n + 1, hn⟩ (by show ¬(n + 1) % 4 = 0; omega)]
    dsimp only
    rw [states_B]
    show headState (X0_1 m c _) (X0_2 m c _) (iblk m c 3 _) _ h (ix3 0 a d) = _
    refine Data.stateOut (data m c z L hz hL hpos hlt ⟨n + 1, hn⟩ h) (fun a d => ?_) a d
    rw [matS_apply]
    exact ih (Nat.lt_of_succ_lt hn) h a d

/-- What a point leaves of the result. -/
theorem rows (t : Fin cfg0.N) (h : Fin 4) (c' : Fin 16) (j : Fin 64) (a : Fin 128) :
    (outsAt0 m c t.val t.isLt).1 (ix2 (rowOf c' j) (comp h a)) = (result z L h (row t (rowOf c' j)).val a : EReal) := by
  have hN : cfg0.N = 4 := N_0
  have ht := t.isLt
  have hh := h.isLt
  have ha := a.isLt
  have e1 : (⟨(comp h a).val / 128, by show (128 * h.val + a.val) / 128 < 4; omega⟩ : Fin 4) = h := Fin.ext (by show (128 * h.val + a.val) / 128 = h.val; omega)
  have e2 : (⟨(comp h a).val % 128, by omega⟩ : Fin 128) = a := Fin.ext (by show (128 * h.val + a.val) % 128 = a.val; omega)
  have er : (row t (rowOf c' j)).val = 64 * (16 * t.val + c'.val) + j.val := by show t.val * 1024 + (c'.val * 64 + j.val) = _; omega
  have D := data m c z L hz hL hpos hlt t h
  have hC : 16 * t.val + c'.val < 64 := by omega
  rw [er]
  by_cases h0 : t.val % 4 = 0
  · have t0 : t.val = 0 := by omega
    rw [outsAt0_A m c t h0]
    dsimp only
    rw [rows_A]
    refine (congrArg₂ (fun (x : Fin 4) (y : Fin 128) => headRows (X0_0 m c t) (X0_1 m c t) (X0_2 m c t) (iblk m c 3 t) zeros x (ix2 (rowOf c' j) y)) e1 e2).trans ?_
    refine D.rowsOut c' j (fun a d => ?_) hC a
    rw [matS_apply, t0, state_zero]
    unfold zeros
    pointwise [k0_pay2]
    rfl
  · rw [outsAt0_B m c t h0]
    dsimp only
    rw [rows_B]
    refine (congrArg₂ (fun (x : Fin 4) (y : Fin 128) => headRows (X0_0 m c t) (X0_1 m c t) (X0_2 m c t) (iblk m c 3 t) _ x (ix2 (rowOf c' j) y)) e1 e2).trans ?_
    refine D.rowsOut c' j (fun a d => ?_) hC a
    rw [matS_apply, states m c z L hz hL hpos hlt, show 16 * (t.val - 1) + 16 = 16 * t.val by omega]

/-- The kernel's array is the reference's. -/
theorem final : (dats m 0 c).arrAt 4 cfg0.N = val_main_v66 (F := Ideal) (ZA m c) (PA m c) := by
  refine (dats m 0 c).arrAt_eq_of_covers 4 _ (by decide +kernel) fun t _ y => ?_
  blk_simp
  rw [after0_4]
  have h0 : (y 0).val < 1024 := (y 0).isLt
  have h1 : (y 1).val < 512 := (y 1).isLt
  obtain ⟨c', j, er⟩ : ∃ (c' : Fin 16) (j : Fin 64), y 0 = rowOf c' j :=
    ⟨⟨(y 0).val / 64, by omega⟩, ⟨(y 0).val % 64, by omega⟩, Fin.ext (by show (y 0).val = (y 0).val / 64 * 64 + (y 0).val % 64; omega)⟩
  obtain ⟨h, a, ec⟩ : ∃ (h : Fin 4) (a : Fin 128), y 1 = comp h a :=
    ⟨⟨(y 1).val / 128, by omega⟩, ⟨(y 1).val % 128, by omega⟩, Fin.ext (by show (y 1).val = 128 * ((y 1).val / 128) + (y 1).val % 128; omega)⟩
  have e : ((View.whole main_v22_0).slice (win0_4.rect t)).emb y = (ix2 (row t (y 0)) (y 1) : S4096x512.Idx) := by
    blk_ext [(idx t).2.2.2.2, row]
  have ey : y = (ix2 (rowOf c' j) (comp h a) : S1024x512.Idx) := (eq_ix2 y).trans (by rw [er, ec])
  rw [e, er, ec]
  refine ((congrArg _ ey).trans (rows m c z L hz hL hpos hlt t h c' j a)).trans ?_
  rw [hz]
  exact (ref_result z L (PA m c) hL hpos hlt h (row t (rowOf c' j)) a).symm

end

/-! ## The claims -/

/-- What the precondition says: the arguments are finite. -/
theorem pre_finite (c : Dev nD) (h : Cert.Pre_GlaFwdIdeal_finite_gla_fwd m) :
    (∃ z : S4096x3136.Idx → ℝ, ZA m c = fun i => (z i : EReal)) ∧ ∀ i, IsReal (PA m c i) := by
  obtain ⟨h1, h2⟩ := andi_apply_eq_one (congrFun (h c) fun a => a.elim0)
  have r1 : ∀ i, IsReal (ZA m c i) := isReal_of_all (ZA m c) _ (fun _ => rfl) _ _ _ _ h1
  have r2 : ∀ i, IsReal (PA m c i) := isReal_of_all (PA m c) _ (fun _ => rfl) _ _ _ _ h2
  choose z hz using r1
  exact ⟨⟨z, funext hz⟩, r2⟩

/-- The reference runs, leaves its arguments as they were and every semaphore at zero. -/
theorem frame_ref : Cert.quiescent_GlaFwdRefIdeal := fun m ρ _ =>
  (θ_run Cert.GlaFwdRefIdeal.defs _ _).mono
    (fun r h => ⟨fun c => (h c).2, sem_eq_zero_of_no_sems (by decide) r.2⟩) (Cert.GlaFwdRefIdeal.Value.run (F := Ideal) m ρ)

/-- At the ideal values the kernel and the reference end with the same array. -/
theorem algebraic : Cert.algebraic_GlaFwdIdeal_GlaFwdRefIdeal_pre_finite_gla_fwd := by
  intro m ρ m' ρ' hpre hagree
  refine ⟨fun c => val_main_v66 (F := Ideal) (ZA m c) (PA m c), ?_, ?_⟩
  · refine (θ_run Cert.GlaFwdIdeal.defs _ _).mono (fun _ h c => ?_) (Cert.GlaFwdIdeal.Value.run_blocks (F := Ideal) m ρ)
    obtain ⟨⟨z, hz⟩, hp⟩ := pre_finite m c hpre
    choose L hL hpos hlt using fun D => share_real (PA m c) hp 0 0 D
    exact ⟨(h c).1.trans (final m c z L hz hL hpos hlt), (h c).2.2⟩
  · refine (θ_run Cert.GlaFwdRefIdeal.defs _ _).mono (fun _ h c => ?_) (Cert.GlaFwdRefIdeal.Value.run (F := Ideal) m' ρ')
    obtain ⟨e0, e1⟩ := hagree c
    refine ⟨(h c).1.trans ?_, (h c).2⟩
    rw [val_main_v66_eq]
    show val_main_v66 (F := Ideal) (m' ((c : Thread Cert.GlaFwdRefIdeal.nD Cert.GlaFwdRefIdeal.τ).loc Cert.GlaFwdRefIdeal.main_arg0)) (m' ((c : Thread Cert.GlaFwdRefIdeal.nD Cert.GlaFwdRefIdeal.τ).loc Cert.GlaFwdRefIdeal.main_arg1)) = _
    rw [e0, e1]

end Cert.Recurrence

end
-- ==== Proof.RevBlock.lean ====
/- What one point of the recurrence's forward pass from the last row to the first stores: for each head, 16 chunks of 64 rows,
   the last first, with the state between them. -/
module

public import proofs.«01_k».proof.Proof.Reals
public import proofs.«01_k».proof.Proof.Casts
public import proofs.«01_k».proof.Proof.RecurrenceSums
public import proofs.«01_k».proof.Proof.Gen.GlaFwdRevIdeal.Frame
public import Idealize.ShloMosaic.Lib.Pointwise

@[expose] public section

set_option maxRecDepth 16384

noncomputable section

namespace Cert.RecurrenceRev

open Idealize.ShloMosaic Idealize.ShloMosaic.TcCoe Idealize.SL.Sem
open Cert.GlaFwdRevIdeal Cert.GlaFwdRevIdeal.Gen Cert.Common

theorem slices64 (c : Fin 16) : S16x64x128.Slices ![c.val, 0, 0] S1x64x128 := by revert c; decide
theorem slices1 (c : Fin 16) : S16x1x128.Slices ![c.val, 0, 0] S1x1x128 := by revert c; decide
theorem slices128 (c : Fin 16) : S16x128x128.Slices ![c.val, 0, 0] S1x128x128 := by revert c; decide

/-- What the state before chunk `c` adds to the chunk's rows. -/
def inter (x : FVec Ideal S16x64x128 .f32) (c : Fin 16) (st : FVec Ideal S128x128 .f32) : FVec Ideal S64x128 .f32 :=
  matmul dot_S64x128_S128x128_S64x128_1_1_0_0_n_n none
    (truncf .bf16 (shapeCast S64x128 (extractStridedSlice S1x64x128 ![c.val, 0, 0] x (slices64 c)) shapeCasts_S1x64x128_S64x128) bitsLt_bf16_f32)
    (truncf .bf16 st bitsLt_bf16_f32) (constant S64x128 .f32 0x00000000#32)

/-- The state after chunk `c`. -/
def next (d : FVec Ideal S16x1x128 .f32) (w : FVec Ideal S16x128x128 .f32) (c : Fin 16) (st : FVec Ideal S128x128 .f32) : FVec Ideal S128x128 .f32 :=
  addf (mulf st (broadcastTo S128x128 (shapeCast S1x128 (extractStridedSlice S1x1x128 ![c.val, 0, 0] d (slices1 c)) shapeCasts_S1x1x128_S1x128) broadcasts_S1x128_S128x128))
    (shapeCast S128x128 (extractStridedSlice S1x128x128 ![c.val, 0, 0] w (slices128 c)) shapeCasts_S1x128x128_S128x128)

/-- The state after the last `n` chunks. -/
def after (d : FVec Ideal S16x1x128 .f32) (w : FVec Ideal S16x128x128 .f32) (st : FVec Ideal S128x128 .f32) : ℕ → FVec Ideal S128x128 .f32
  | 0 => st
  | n + 1 => next d w (Fin.ofNat 16 n).rev (after d w st n)

section
variable (xq xz xv : Vec Ideal S1024x128 .f32) (lo : Vec Ideal S1x1x128 .f32) (s0 : Vec Ideal S1x128x128 .f32)

/-- A head's gated query, key, value, logarithms to base two and their running sum in each chunk. -/
def hq : FVec Ideal S16x64x128 .f32 := k0_pay13 (k0_pay10 xq)
def hk : FVec Ideal S16x64x128 .f32 := k0_pay14 (k0_pay7 xz) (k0_pay9 lo) (k0_pay11 lo) (Scalar.ofBits .f32 0x3F000000#32)
def hv : FVec Ideal S16x64x128 .f32 := k0_pay15 (k0_pay8 xv)
def hg : FVec Ideal S16x64x128 .f32 := k0_pay16 (k0_pay7 xz) (k0_pay9 lo) (k0_pay11 lo) (Scalar.ofBits .f32 0x3F000000#32)
def hb : FVec Ideal S16x64x128 .f32 := k0_pay18 (k0_pay7 xz) (k0_pay9 lo) (k0_pay11 lo) (Scalar.ofBits .f32 0x3F000000#32)
def hm : FVec Ideal S16x128 .f32 := k0_pay19 (k0_pay7 xz) (k0_pay9 lo) (k0_pay11 lo) (Scalar.ofBits .f32 0x3F000000#32)

/-- The part of the result inside the chunks, what each chunk adds to the state, its decay, and the decayed queries. -/
def hin : FVec Ideal S16x64x128 .f32 := k0_pay21 (hq xq) (hk xz lo) (hv xv) (k0_pay17 (F := Ideal)) (hb xz lo) (hm xz lo)
def hw : FVec Ideal S16x128x128 .f32 := k0_pay22 (hk xz lo) (hv xv) (hg xz lo) (hb xz lo)
def hd : FVec Ideal S16x1x128 .f32 := k0_pay23 (hg xz lo)
def hx : FVec Ideal S16x64x128 .f32 := k0_pay24 (hq xq) (hb xz lo)

/-- The state before the `n`-th chunk from the last, and what it adds to that chunk's rows. -/
def hs (n : ℕ) : FVec Ideal S128x128 .f32 := after (hd xz lo) (hw xz xv lo) (k0_pay3 s0) n

def piece (n : ℕ) : FVec Ideal S64x128 .f32 := inter (hx xq xz lo) (Fin.ofNat 16 n).rev (hs xz xv lo s0 n)

/-- A head's stored rows, and its stored state. -/
def rowsOut : FVec Ideal S1024x128 .f32 :=
  k0_pay61 (hin xq xz xv lo) (piece xq xz xv lo s0 0) (piece xq xz xv lo s0 1) (piece xq xz xv lo s0 2) (piece xq xz xv lo s0 3)
    (piece xq xz xv lo s0 4) (piece xq xz xv lo s0 5) (piece xq xz xv lo s0 6) (piece xq xz xv lo s0 7) (piece xq xz xv lo s0 8)
    (piece xq xz xv lo s0 9) (piece xq xz xv lo s0 10) (piece xq xz xv lo s0 11) (piece xq xz xv lo s0 12) (piece xq xz xv lo s0 13)
    (piece xq xz xv lo s0 14) (piece xq xz xv lo s0 15)
def stateOut : FVec Ideal S1x128x128 .f32 := k0_pay1 (hs xz xv lo s0 16)
end

/-! ## The four heads of a point -/

theorem inbX (h : Fin 4) : ∀ a, (![0, 128 * h.val] : Fin 2 → ℕ) a + (![1024, 128] : Fin 2 → ℕ) a ≤ S1024x512.size a := by
  intro a
  match a with
  | ⟨0, _⟩ => show 0 + 1024 ≤ 1024; omega
  | ⟨1, _⟩ => show 128 * h.val + 128 ≤ 512; omega
theorem inbL (h : Fin 4) : ∀ a, (![h.val, 0, 0] : Fin 3 → ℕ) a + (![1, 1, 128] : Fin 3 → ℕ) a ≤ S4x1x128.size a := by
  intro a
  match a with
  | ⟨0, _⟩ => show h.val + 1 ≤ 4; omega
  | ⟨1, _⟩ => show 0 + 1 ≤ 1; omega
  | ⟨2, _⟩ => show 0 + 128 ≤ 128; omega
theorem inbS (h : Fin 4) : ∀ a, (![h.val, 0, 0] : Fin 3 → ℕ) a + (![1, 128, 128] : Fin 3 → ℕ) a ≤ S4x128x128.size a := by
  intro a
  match a with
  | ⟨0, _⟩ => show h.val + 1 ≤ 4; omega
  | ⟨1, _⟩ => show 0 + 128 ≤ 128; omega
  | ⟨2, _⟩ => show 0 + 128 ≤ 128; omega

/-- A head's columns of a block, its row of the lower bounds, and its state. -/
def colsX (x : Vec Ideal S1024x512 .f32) (h : Fin 4) : Vec Ideal S1024x128 .f32 := View.ld x (Rect.unit (s := S1024x512) ![0, 128 * h.val] ![1024, 128] (inbX h))
def rowL (x : Vec Ideal S4x1x128 .f32) (h : Fin 4) : Vec Ideal S1x1x128 .f32 := View.ld x (Rect.unit (s := S4x1x128) ![h.val, 0, 0] ![1, 1, 128] (inbL h))
def matS (x : Vec Ideal S4x128x128 .f32) (h : Fin 4) : Vec Ideal S1x128x128 .f32 := View.ld x (Rect.unit (s := S4x128x128) ![h.val, 0, 0] ![1, 128, 128] (inbS h))

section
variable (x0 x1 x2 : Vec Ideal S1024x512 .f32) (x3 : Vec Ideal S4x1x128 .f32) (xs : Vec Ideal S4x128x128 .f32)

/-- What head `h` stores of its rows, and of its state. -/
def headRows (h : Fin 4) : FVec Ideal S1024x128 .f32 := rowsOut (colsX x0 h) (colsX x1 h) (colsX x2 h) (rowL x3 h) (matS xs h)
def headState (h : Fin 4) : FVec Ideal S1x128x128 .f32 := stateOut (colsX x1 h) (colsX x2 h) (rowL x3 h) (matS xs h)

/-- The states the first point starts from. -/
def zeros : Vec Ideal S4x128x128 .f32 := k0_pay2 (F := Ideal)

/-- A point's stores of rows and of states, last first. -/
def rowPieces : List (View.Piece (Elt Ideal) S1024x512 .f32) :=
  [⟨Rect.unit (s := S1024x512) ![0, 128 * (3 : Fin 4).val] ![1024, 128] (inbX 3), headRows x0 x1 x2 x3 xs 3⟩,
   ⟨Rect.unit (s := S1024x512) ![0, 128 * (2 : Fin 4).val] ![1024, 128] (inbX 2), headRows x0 x1 x2 x3 xs 2⟩,
   ⟨Rect.unit (s := S1024x512) ![0, 128 * (1 : Fin 4).val] ![1024, 128] (inbX 1), headRows x0 x1 x2 x3 xs 1⟩,
   ⟨Rect.unit (s := S1024x512) ![0, 128 * (0 : Fin 4).val] ![1024, 128] (inbX 0), headRows x0 x1 x2 x3 xs 0⟩]

def statePieces : List (View.Piece (Elt Ideal) S4x128x128 .f32) :=
  [⟨Rect.unit (s := S4x128x128) ![(3 : Fin 4).val, 0, 0] ![1, 128, 128] (inbS 3), headState x1 x2 x3 xs 3⟩,
   ⟨Rect.unit (s := S4x128x128) ![(2 : Fin 4).val, 0, 0] ![1, 128, 128] (inbS 2), headState x1 x2 x3 xs 2⟩,
   ⟨Rect.unit (s := S4x128x128) ![(1 : Fin 4).val, 0, 0] ![1, 128, 128] (inbS 1), headState x1 x2 x3 xs 1⟩,
   ⟨Rect.unit (s := S4x128x128) ![(0 : Fin 4).val, 0, 0] ![1, 128, 128] (inbS 0), headState x1 x2 x3 xs 0⟩]

variable (c : Dev nD) (i : grid0.Coords) (arg2 : Memref sig .tc .vmem S1024x512 .f32) (harg2 : arg2.IsWhole) (arg3 : Memref sig .tc .vmem S1024x512 .f32) (harg3 : arg3.IsWhole)
  (arg4 : Memref sig .tc .vmem S1024x512 .f32) (harg4 : arg4.IsWhole) (arg5 : Memref sig .tc .vmem S4x1x128 .f32) (harg5 : arg5.IsWhole) (arg6 : Memref sig .tc .vmem S1024x512 .f32) (harg6 : arg6.IsWhole)
  (arg7 : Memref sig .tc .vmem S4x1x128x128 .f32) (harg7 : arg7.IsWhole) (arg8 : Memref sig .tc .vmem S4x128x128 .f32) (harg8 : arg8.IsWhole)

set_option maxHeartbeats 400000 in
theorem pieces_B (hc0 : ¬cond0_0 i) :
    (kernelRun0_B c i arg2 harg2 arg3 harg3 arg4 harg4 arg5 harg5 arg6 harg6 arg7 harg7 arg8 harg8 hc0 x0 x1 x2 x3 xs).1 = rowPieces x0 x1 x2 x3 xs := by
  unfold kernelRun0_B
  dsimp only
  sl_unfold_words
  simp only [View.readAt_eq_ld, harg2.read_unread, harg3.read_unread, harg4.read_unread, harg5.read_unread, harg8.read_unread]
  rfl

set_option maxHeartbeats 400000 in
theorem spieces_B (hc0 : ¬cond0_0 i) :
    (kernelRun0_B c i arg2 harg2 arg3 harg3 arg4 harg4 arg5 harg5 arg6 harg6 arg7 harg7 arg8 harg8 hc0 x0 x1 x2 x3 xs).2.2.1 = statePieces x1 x2 x3 xs := by
  unfold kernelRun0_B
  dsimp only
  sl_unfold_words
  simp only [View.readAt_eq_ld, harg3.read_unread, harg4.read_unread, harg5.read_unread, harg8.read_unread]
  rfl

/-- Zeros stored over the states, read back. -/
theorem canon_zeros : View.canon [(⟨Rect.unit (s := S4x128x128) ![0, 0, 0] ![4, 128, 128] inb_S4x128x128_S4x128x128_0_0_0, k0_pay2 (F := Ideal)⟩ : View.Piece (Elt Ideal) S4x128x128 .f32)] = zeros :=
  View.canon_cons_unit_zero (S := S4x128x128) hz3 _ _ _

set_option maxHeartbeats 400000 in
theorem pieces_A (hc0 : cond0_0 i) :
    (kernelRun0_A c i arg2 harg2 arg3 harg3 arg4 harg4 arg5 harg5 arg6 harg6 arg7 harg7 arg8 harg8 hc0 x0 x1 x2 x3).1 = rowPieces x0 x1 x2 x3 zeros := by
  unfold kernelRun0_A
  dsimp only
  sl_unfold_words
  simp only [View.readAt_eq_ld, View.readCov_eq_canon', canon_zeros, harg2.read_unread, harg3.read_unread, harg4.read_unread, harg5.read_unread]
  rfl

set_option maxHeartbeats 400000 in
theorem spieces_A (hc0 : cond0_0 i) :
    (kernelRun0_A c i arg2 harg2 arg3 harg3 arg4 harg4 arg5 harg5 arg6 harg6 arg7 harg7 arg8 harg8 hc0 x0 x1 x2 x3).2.2.1
      = statePieces x1 x2 x3 zeros ++ [⟨Rect.unit (s := S4x128x128) ![0, 0, 0] S4x128x128.size inb_S4x128x128_S4x128x128_0_0_0, zeros⟩] := by
  unfold kernelRun0_A
  dsimp only
  sl_unfold_words
  simp only [View.readAt_eq_ld, View.readCov_eq_canon', canon_zeros, harg3.read_unread, harg4.read_unread, harg5.read_unread]
  rfl

/-- What a list of stores of the heads' rows, or states, leaves. -/
def rowsAll : Vec Ideal S1024x512 .f32 := fun y => headRows x0 x1 x2 x3 xs ⟨(y 1).val / 128, by have := (y 1).isLt; have : (y 1).val < 512 := this; omega⟩ (ix2 (y 0) ⟨(y 1).val % 128, by omega⟩)
def statesAll : Vec Ideal S4x128x128 .f32 := fun y => headState x1 x2 x3 xs (y 0) (ix3 0 (y 1) (y 2))

theorem rowPieces_of : ∀ p ∈ rowPieces x0 x1 x2 x3 xs, ∀ x : p.1.shape.Idx, p.2 x = rowsAll x0 x1 x2 x3 xs (p.1.emb x) := by
  have key : ∀ (h : Fin 4) (x : S1024x128.Idx), headRows x0 x1 x2 x3 xs h x
      = rowsAll x0 x1 x2 x3 xs ((Rect.unit (s := S1024x512) ![0, 128 * h.val] ![1024, 128] (inbX h)).emb x) := by
    intro h x
    have h1 : (x 1).val < 128 := (x 1).isLt
    have e0 : (((Rect.unit (s := S1024x512) ![0, 128 * h.val] ![1024, 128] (inbX h)).emb x) 0).val = (x 0).val := by
      show 0 + 1 * (x 0).val = _; omega
    have e1 : (((Rect.unit (s := S1024x512) ![0, 128 * h.val] ![1024, 128] (inbX h)).emb x) 1).val = 128 * h.val + (x 1).val := by
      show 128 * h.val + 1 * (x 1).val = _; omega
    unfold rowsAll
    refine congrArg₂ (headRows x0 x1 x2 x3 xs) (Fin.ext ?_) (funext fun a => Fin.ext ?_)
    · show h.val = _ / 128; rw [e1]; omega
    · match a with
      | ⟨0, _⟩ => exact e0.symm
      | ⟨1, _⟩ => show (x 1).val = _ % 128; rw [e1]; omega
  intro p hp
  simp only [rowPieces, List.mem_cons, List.not_mem_nil, or_false] at hp
  rcases hp with rfl | rfl | rfl | rfl
  · exact key 3
  · exact key 2
  · exact key 1
  · exact key 0

theorem statePieces_of : ∀ p ∈ statePieces x1 x2 x3 xs, ∀ x : p.1.shape.Idx, p.2 x = statesAll x1 x2 x3 xs (p.1.emb x) := by
  have key : ∀ (h : Fin 4) (x : S1x128x128.Idx), headState x1 x2 x3 xs h x
      = statesAll x1 x2 x3 xs ((Rect.unit (s := S4x128x128) ![h.val, 0, 0] ![1, 128, 128] (inbS h)).emb x) := by
    intro h x
    have h0 : (x 0).val < 1 := (x 0).isLt
    unfold statesAll
    refine congrArg₂ (headState x1 x2 x3 xs) (Fin.ext ?_) (funext fun a => Fin.ext ?_)
    · show h.val = h.val + 1 * (x 0).val; omega
    · match a with
      | ⟨0, _⟩ => show (x 0).val = 0; omega
      | ⟨1, _⟩ => show (x 1).val = 0 + 1 * (x 1).val; omega
      | ⟨2, _⟩ => show (x 2).val = 0 + 1 * (x 2).val; omega
  intro p hp
  simp only [statePieces, List.mem_cons, List.not_mem_nil, or_false] at hp
  rcases hp with rfl | rfl | rfl | rfl
  · exact key 3
  · exact key 2
  · exact key 1
  · exact key 0

theorem statePieces_cover (y : S4x128x128.Idx) : ∃ p ∈ statePieces x1 x2 x3 xs, y ∈ p.1.set :=
  View.cover_of_tiledL (statePieces x1 x2 x3 xs) S1x128x128.size (by sl_kernel_rfl) y
theorem rowPieces_cover (y : S1024x512.Idx) : ∃ p ∈ rowPieces x0 x1 x2 x3 xs, y ∈ p.1.set :=
  View.cover_of_tiledL (rowPieces x0 x1 x2 x3 xs) S1024x128.size (by sl_kernel_rfl) y

theorem canon_rows : View.canon (rowPieces x0 x1 x2 x3 xs) = rowsAll x0 x1 x2 x3 xs := by
  funext y
  have := canon_apply_of_head (rowsAll x0 x1 x2 x3 xs) [] _ (rowPieces_of x0 x1 x2 x3 xs) y (rowPieces_cover x0 x1 x2 x3 xs y)
  rwa [List.append_nil] at this

theorem canon_states (R : List (View.Piece (Elt Ideal) S4x128x128 .f32)) : View.canon (statePieces x1 x2 x3 xs ++ R) = statesAll x1 x2 x3 xs :=
  funext fun y => canon_apply_of_head (statesAll x1 x2 x3 xs) R _ (statePieces_of x1 x2 x3 xs) y (statePieces_cover x1 x2 x3 xs y)

/-- What a point leaves in the result's block and in the states, at the first point and at a later one. -/
theorem rows_A (hc0 : cond0_0 i) :
    out0_A_4 c i arg2 harg2 arg3 harg3 arg4 harg4 arg5 harg5 arg6 harg6 arg7 harg7 arg8 harg8 hc0 x0 x1 x2 x3 = rowsAll x0 x1 x2 x3 zeros := by
  unfold out0_A_4
  rw [View.read_writes_eq_canon _ _ _ (cover0_A_4 c i arg2 harg2 arg3 harg3 arg4 harg4 arg5 harg5 arg6 harg6 arg7 harg7 arg8 harg8 hc0 x0 x1 x2 x3),
    pieces_A, canon_rows]
theorem rows_B (hc0 : ¬cond0_0 i) :
    out0_B_4 c i arg2 harg2 arg3 harg3 arg4 harg4 arg5 harg5 arg6 harg6 arg7 harg7 arg8 harg8 hc0 x0 x1 x2 x3 xs = rowsAll x0 x1 x2 x3 xs := by
  unfold out0_B_4
  rw [View.read_writes_eq_canon _ _ _ (cover0_B_4 c i arg2 harg2 arg3 harg3 arg4 harg4 arg5 harg5 arg6 harg6 arg7 harg7 arg8 harg8 hc0 x0 x1 x2 x3 xs),
    pieces_B, canon_rows]
theorem states_A (hc0 : cond0_0 i) :
    sout0_A_0 c i arg2 harg2 arg3 harg3 arg4 harg4 arg5 harg5 arg6 harg6 arg7 harg7 arg8 harg8 hc0 x0 x1 x2 x3 = statesAll x1 x2 x3 zeros := by
  unfold sout0_A_0
  rw [View.read_writes_eq_canon _ _ _ (scover0_A_0 c i arg2 harg2 arg3 harg3 arg4 harg4 arg5 harg5 arg6 harg6 arg7 harg7 arg8 harg8 hc0 x0 x1 x2 x3),
    spieces_A, canon_states]
theorem states_B (hc0 : ¬cond0_0 i) :
    sout0_B_0 c i arg2 harg2 arg3 harg3 arg4 harg4 arg5 harg5 arg6 harg6 arg7 harg7 arg8 harg8 hc0 x0 x1 x2 x3 xs = statesAll x1 x2 x3 xs := by
  unfold sout0_B_0
  rw [View.read_writes_eq_canon _ _ _ (scover0_B_0 c i arg2 harg2 arg3 harg3 arg4 harg4 arg5 harg5 arg6 harg6 arg7 harg7 arg8 harg8 hc0 x0 x1 x2 x3 xs),
    spieces_B, ← List.append_nil (statePieces x1 x2 x3 xs), canon_states]

end

end Cert.RecurrenceRev

end
-- ==== Proof.RevSteps.lean ====
/- One head's rows of a point of the recurrence's forward pass from the last row to the first, at an index and over real numbers.
   Chunks and rows are counted from the last. -/
module

public import proofs.«01_k».proof.Proof.RecurrenceSteps
public import proofs.«01_k».proof.Proof.RevBlock

@[expose] public section

set_option maxRecDepth 16384

noncomputable section

namespace Cert.RecurrenceRev

open Idealize.ShloMosaic Idealize.ShloMosaic.TcCoe Idealize.SL.Sem
open Cert.GlaFwdRevIdeal Cert.GlaFwdRevIdeal.Gen Cert.Common Cert.RecurrenceSums
open Cert.Recurrence (isReal_sum rowOf gate lg ky qy gate_pos exp2_base exp2_sub base_of_real)

/-- A sum over a chunk's rows, taken from the last. -/
theorem sum_rev (f : Fin 64 → EReal) : ∑ i, f i = ∑ i : Fin 64, f i.rev := (Equiv.sum_comp Fin.revPerm f).symm

/-- The rows taken as chunks, and back. -/
theorem cast_chunks {α : Type} (x : S1024x128.Idx → α) (h : S1024x128.ShapeCasts S16x64x128) (c : Fin 16) (j : Fin 64) (d : Fin 128) :
    shapeCast S16x64x128 x h (ix3 c j d) = x (ix2 (rowOf c j) d) :=
  shapeCast_apply x h _ _ (by rw [Shape.rowMajor_val_three, Shape.rowMajor_val_two]; rfl)
theorem cast_rows {α : Type} (x : S16x64x128.Idx → α) (h : S16x64x128.ShapeCasts S1024x128) (c : Fin 16) (j : Fin 64) (d : Fin 128) :
    shapeCast S1024x128 x h (ix2 (rowOf c j) d) = x (ix3 c j d) :=
  shapeCast_apply x h _ _ (by rw [Shape.rowMajor_val_three, Shape.rowMajor_val_two]; rfl)

section
variable (v14 : FVec Ideal S1024x128 .f32) (v18 v28 : FVec Ideal S1x128 .f32) (cst : EReal)

/-- The running sum in a chunk, its terms split in three. -/
theorem sum_apply (c : Fin 16) (j : Fin 64) (d : Fin 128) : k0_pay18 v14 v18 v28 cst (ix3 c j d)
    = (∑ i : Fin 64, k0_pay17 (F := Ideal) (ix2 j i) * k0_pay16 v14 v18 v28 cst (ix3 c i d))
      + (∑ i : Fin 64, k0_pay17 (F := Ideal) (ix2 j i) * (k0_pay16 v14 v18 v28 cst (ix3 c i d) - k0_pay16 v14 v18 v28 cst (ix3 c i d)))
      + ∑ i : Fin 64, k0_pay17 (F := Ideal) (ix2 j i) * ((k0_pay16 v14 v18 v28 cst (ix3 c i d) - k0_pay16 v14 v18 v28 cst (ix3 c i d))
          - (k0_pay16 v14 v18 v28 cst (ix3 c i d) - k0_pay16 v14 v18 v28 cst (ix3 c i d))) := by
  pointwise [k0_pay18]

/-- Some of a chunk's logarithms, or zeros: their sum is real where they are. -/
theorem mid_real (hg : ∀ i, IsReal (k0_pay16 v14 v18 v28 cst i)) (c : Fin 16) (d : Fin 128) : IsReal (k0_pay19 v14 v18 v28 cst (ix2 c d)) := by
  pointwise [k0_pay19]
  refine isReal_sum _ fun x => ?_
  unfold Scalar.select
  split
  · exact hg _
  · exact ⟨0, rfl⟩
end

section
variable (q k v g b : FVec Ideal S16x64x128 .f32) (msk : FVec Ideal S64x64 .f32) (mid : FVec Ideal S16x128 .f32)

theorem in_apply (c : Fin 16) (j : Fin 64) (a : Fin 128) : k0_pay21 q k v msk b mid (ix3 c j a)
    = ∑ i : Fin 64, ((∑ d : Fin 128, (q (ix3 c j d) * Ideal.exp2 (b (ix3 c j d) - mid (ix2 c d))) * (k (ix3 c i d) * Ideal.exp2 (mid (ix2 c d) - b (ix3 c i d))))
        * msk (ix2 j i)) * v (ix3 c i a) := by
  pointwise [k0_pay21]
  rfl

theorem total_apply (c : Fin 16) (d : Fin 128) : k0_pay20 g (ix3 c 0 d) = ∑ j : Fin 64, g (ix3 c j d) := by
  pointwise [k0_pay20]

theorem add_apply (c : Fin 16) (a d : Fin 128) : k0_pay22 k v g b (ix3 c a d)
    = ∑ j : Fin 64, v (ix3 c j a) * (k (ix3 c j d) * Ideal.exp2 (k0_pay20 g (ix3 c 0 d) - b (ix3 c j d))) := by
  pointwise [k0_pay22]
  rfl

theorem decay_apply (c : Fin 16) (d : Fin 128) : k0_pay23 g (ix3 c 0 d) = Ideal.exp2 (k0_pay20 g (ix3 c 0 d)) := by
  pointwise [k0_pay23]
  rfl

theorem decayed_apply (c : Fin 16) (j : Fin 64) (d : Fin 128) : k0_pay24 q b (ix3 c j d) = q (ix3 c j d) * Ideal.exp2 (b (ix3 c j d)) := by
  pointwise [k0_pay24]
  rfl
end

theorem inter_apply (x : FVec Ideal S16x64x128 .f32) (c : Fin 16) (st : FVec Ideal S128x128 .f32) (j : Fin 64) (a : Fin 128) :
    inter x c st (ix2 j a) = ∑ d : Fin 128, x (ix3 c j d) * st (ix2 a d) := by
  have e (d : Fin 128) : extractStridedSlice S1x64x128 ![c.val, 0, 0] x (slices64 c) (ix3 0 j d) = x (ix3 c j d) :=
    extractStridedSlice_apply _ _ _ _ _ fun a => by
      match a with
      | ⟨0, _⟩ => rfl
      | ⟨1, _⟩ => show j.val = 0 + j.val; omega
      | ⟨2, _⟩ => show d.val = 0 + d.val; omega
  have e' (d : Fin 128) := (cast_drop (extractStridedSlice S1x64x128 ![c.val, 0, 0] x (slices64 c)) shapeCasts_S1x64x128_S64x128 j d).trans (e d)
  unfold inter
  generalize shapeCast S64x128 (extractStridedSlice S1x64x128 ![c.val, 0, 0] x (slices64 c)) shapeCasts_S1x64x128_S64x128 = y at e' ⊢
  simp only [← e']
  pointwise
  rfl

theorem next_apply (dc : FVec Ideal S16x1x128 .f32) (w : FVec Ideal S16x128x128 .f32) (c : Fin 16) (st : FVec Ideal S128x128 .f32) (a d : Fin 128) :
    next dc w c st (ix2 a d) = st (ix2 a d) * dc (ix3 c 0 d) + w (ix3 c a d) := by
  have e1 : extractStridedSlice S1x1x128 ![c.val, 0, 0] dc (slices1 c) (ix3 0 0 d) = dc (ix3 c 0 d) :=
    extractStridedSlice_apply _ _ _ _ _ fun a => by
      match a with
      | ⟨0, _⟩ => rfl
      | ⟨1, _⟩ => rfl
      | ⟨2, _⟩ => show d.val = 0 + d.val; omega
  have e2 : extractStridedSlice S1x128x128 ![c.val, 0, 0] w (slices128 c) (ix3 0 a d) = w (ix3 c a d) :=
    extractStridedSlice_apply _ _ _ _ _ fun b => by
      match b with
      | ⟨0, _⟩ => rfl
      | ⟨1, _⟩ => show a.val = 0 + a.val; omega
      | ⟨2, _⟩ => show d.val = 0 + d.val; omega
  rw [← e1, ← e2]
  exact congrArg₂ (· + ·) (congrArg (st (ix2 a d) * ·) ((bcast_row _ _ _ _).trans (cast_drop _ _ _ _))) (cast_drop _ _ _ _)

section
variable (xq xz xv : Vec Ideal S1024x128 .f32) (lo : Vec Ideal S1x1x128 .f32) (s0 : Vec Ideal S1x128x128 .f32)

theorem hq_apply (c : Fin 16) (j : Fin 64) (d : Fin 128) : hq xq (ix3 c j d)
    = xq (ix2 (rowOf c j) d) * (Ideal.ofBits .f32 0x3F000000#32 * Ideal.tanh (Ideal.ofBits .f32 0x3F000000#32 * xq (ix2 (rowOf c j) d)) + Ideal.ofBits .f32 0x3F000000#32) := by
  unfold hq k0_pay13
  refine (cast_chunks _ _ _ _ _).trans ?_
  pointwise [k0_pay10]

theorem hv_apply (c : Fin 16) (j : Fin 64) (d : Fin 128) : hv xv (ix3 c j d) = xv (ix2 (rowOf c j) d) := by
  unfold hv k0_pay15
  refine (cast_chunks _ _ _ _ _).trans ?_
  pointwise [k0_pay8]

/-- The gate of a row. -/
def gateE (r : Fin 1024) (d : Fin 128) : EReal :=
  lo (ix3 0 0 d) + (Ideal.ofBits .f32 0x3F800000#32 - lo (ix3 0 0 d))
    * (Ideal.ofBits .f32 0x3F000000#32 * Ideal.tanh (Ideal.ofBits .f32 0x3F000000#32 * xz (ix2 r d)) + Ideal.ofBits .f32 0x3F000000#32)

theorem gate_apply (r : Fin 1024) (d : Fin 128) :
    k0_pay12 (k0_pay7 xz) (k0_pay9 lo) (k0_pay11 lo) (Ideal.ofBits .f32 0x3F000000#32) (ix2 r d) = gateE xz lo r d := by
  unfold gateE
  pointwise [k0_pay12, k0_pay7, k0_pay9, k0_pay11]

theorem hk_apply (c : Fin 16) (j : Fin 64) (d : Fin 128) : hk xz lo (ix3 c j d) = Ideal.ofBits .f32 0x3F800000#32 - gateE xz lo (rowOf c j) d := by
  unfold hk k0_pay14
  refine (cast_chunks _ _ _ _ _).trans ?_
  rw [← gate_apply]
  rfl

/-- The inverse of log 2: the kernel's constant. -/
def log2e : EReal := Named.named (F := Ideal) (φ := .f32) κ "log2e" 0x3FB8AA3B#32
theorem log2e_coe : log2e = (((Real.log 2)⁻¹ : ℝ) : EReal) := IdealRules.named_const.ideal_named_scalar _ _ _ _ rfl

theorem hg_apply (c : Fin 16) (j : Fin 64) (d : Fin 128) : hg xz lo (ix3 c j d) = Ideal.log (gateE xz lo (rowOf c j) d) * log2e := by
  unfold hg k0_pay16
  refine (cast_chunks _ _ _ _ _).trans ?_
  rw [← gate_apply]
  rfl

/-- The result's rows: those of the chunks, and what the states add. -/
theorem rowsOut_apply (c : Fin 16) (j : Fin 64) (a : Fin 128) :
    rowsOut xq xz xv lo s0 (ix2 (rowOf c j) a) = hin xq xz xv lo (ix3 c j a) + piece xq xz xv lo s0 c.rev.val (ix2 j a) := by
  have h := concatenate_ofFn_apply (t := S1024x128) (s₁ := S64x128) 0 (fun n : Fin 16 => piece xq xz xv lo s0 n.rev.val)
    concatenates_S64x128_S64x128_S64x128_S64x128_S64x128_S64x128_S64x128_S64x128_S64x128_S64x128_S64x128_S64x128_S64x128_S64x128_S64x128_S64x128_S1024x128_d0 rfl 64 rfl (ix2 (rowOf c j) a) c
    (by show (c.val * 64 + j.val) / 64 = c.val; omega) (ix2 j a) (by show j.val = (c.val * 64 + j.val) % 64; omega)
    (fun b hb => by
      match b with
      | ⟨0, _⟩ => exact absurd rfl hb
      | ⟨1, _⟩ => rfl)
  exact congrArg₂ (· + ·) (cast_rows _ _ _ _ _) h
end

theorem mask_words : ∀ j i : Fin 64, IntOp.cmpi .sle (BitVec.ofNat 32 j.rev.val) (BitVec.ofNat 32 i.rev.val) = if i.val ≤ j.val then 1#1 else 0#1 := by
  decide +kernel

theorem mask_apply (j i : Fin 64) : k0_pay17 (F := Ideal) (ix2 j.rev i.rev) = (upTo j i : EReal) := by
  pointwise [k0_pay17]
  rw [mask_words]
  unfold upTo
  split
  · show (((BitVec.setWidth 32 (1#1)).toInt : ℝ) : EReal) = ((1 : ℝ) : EReal)
    rw [show (BitVec.setWidth 32 (1#1)).toInt = 1 by decide, Int.cast_one]
  · show (((BitVec.setWidth 32 (0#1)).toInt : ℝ) : EReal) = ((0 : ℝ) : EReal)
    rw [show (BitVec.setWidth 32 (0#1)).toInt = 0 by decide, Int.cast_zero]

/-! ## Real values -/

/-- A head's columns at a point are real: from the last row, rows `64 C₀` on of `q`, `z` and `v`, with lower bounds `L`. -/
structure Data (C₀ : ℕ) (L : Fin 128 → ℝ) (q z v : Fin 128 → ℕ → ℝ) (xq xz xv : Vec Ideal S1024x128 .f32) (lo : Vec Ideal S1x1x128 .f32) : Prop where
  q : ∀ (c : Fin 16) (j : Fin 64) (d : Fin 128), xq (ix2 (rowOf c.rev j.rev) d) = (chunk (q d) (C₀ + c.val) j : EReal)
  z : ∀ (c : Fin 16) (j : Fin 64) (d : Fin 128), xz (ix2 (rowOf c.rev j.rev) d) = (chunk (z d) (C₀ + c.val) j : EReal)
  v : ∀ (c : Fin 16) (j : Fin 64) (d : Fin 128), xv (ix2 (rowOf c.rev j.rev) d) = (chunk (v d) (C₀ + c.val) j : EReal)
  lo : ∀ d, lo (ix3 0 0 d) = (L d : EReal)
  pos : ∀ d, 0 < L d
  lt : ∀ d, L d < 1

section
variable {C₀ : ℕ} {L : Fin 128 → ℝ} {q z v : Fin 128 → ℕ → ℝ} {xq xz xv : Vec Ideal S1024x128 .f32} {lo : Vec Ideal S1x1x128 .f32}
  (D : Data C₀ L q z v xq xz xv lo) (c : Fin 16) (j : Fin 64) (d : Fin 128)
include D

theorem Data.hq : hq xq (ix3 c.rev j.rev d) = (qy (chunk (q d) (C₀ + c.val) j) : EReal) := by
  rw [hq_apply, ofBits_half_f32, half_tanh, D.q, logistic_coe', ← EReal.coe_mul]
  rfl

theorem Data.hv : hv xv (ix3 c.rev j.rev d) = (chunk (v d) (C₀ + c.val) j : EReal) := (hv_apply xv c.rev j.rev d).trans (D.v c j d)

theorem Data.gate : gateE xz lo (rowOf c.rev j.rev) d = (gate (L d) (chunk (z d) (C₀ + c.val) j) : EReal) := by
  unfold gateE
  rw [ofBits_half_f32, half_tanh, D.z, D.lo, logistic_coe', ofBits_one_coe, ← EReal.coe_sub, ← EReal.coe_mul, ← EReal.coe_add]
  rfl

theorem Data.hk : hk xz lo (ix3 c.rev j.rev d) = (chunk (ky (L d) (z d)) (C₀ + c.val) j : EReal) := by
  rw [hk_apply, D.gate, ofBits_one_coe, ← EReal.coe_sub]
  rfl

theorem Data.hg : hg xz lo (ix3 c.rev j.rev d) = ((chunk (lg (L d) (z d)) (C₀ + c.val) j * (Real.log 2)⁻¹ : ℝ) : EReal) := by
  rw [hg_apply, D.gate, Ideal.log_coe, if_neg (not_le.2 (gate_pos (D.pos d) (D.lt d) _)), log2e_coe, ← EReal.coe_mul]
  rfl

theorem Data.hb : hb xz lo (ix3 c.rev j.rev d) = ((part (chunk (lg (L d) (z d)) (C₀ + c.val)) j * (Real.log 2)⁻¹ : ℝ) : EReal) := by
  refine (sum_apply _ _ _ _ c.rev j.rev d).trans ((congrArg₂ (· + ·) (congrArg₂ (· + ·) (sum_rev _) (sum_rev _)) (sum_rev _)).trans ?_)
  have e (i : Fin 64) : k0_pay16 (k0_pay7 xz) (k0_pay9 lo) (k0_pay11 lo) (Scalar.ofBits .f32 0x3F000000#32) (ix3 c.rev i.rev d) = _ := D.hg c i d
  simp only [e, mask_apply, ← EReal.coe_sub, ← EReal.coe_mul, ← EReal.coe_add, ← coe_sum, sub_self, mul_zero, Finset.sum_const_zero, add_zero]
  unfold part
  rw [Finset.sum_mul]
  refine congrArg _ (Finset.sum_congr rfl fun i _ => ?_)
  ring

theorem Data.total : k0_pay20 (RecurrenceRev.hg xz lo) (ix3 c.rev 0 d) = ((whole (chunk (lg (L d) (z d)) (C₀ + c.val)) * (Real.log 2)⁻¹ : ℝ) : EReal) := by
  refine (total_apply _ c.rev d).trans ((sum_rev _).trans ?_)
  simp only [D.hg, ← coe_sum]
  unfold whole
  rw [Finset.sum_mul]

theorem Data.hm : ∃ μ : ℝ, hm xz lo (ix2 c.rev d) = ((μ * (Real.log 2)⁻¹ : ℝ) : EReal) := by
  refine base_of_real (mid_real _ _ _ _ (fun i => ?_) c.rev d)
  rw [eq_ix3 i, ← Fin.rev_rev (i 0), ← Fin.rev_rev (i 1)]
  exact ⟨_, D.hg (i 0).rev (i 1).rev (i 2)⟩

/-- The sum over the chunk's rows. -/
theorem Data.hin (a : Fin 128) : hin xq xz xv lo (ix3 c.rev j.rev a)
    = ((∑ i : Fin 64, (∑ d, qy (chunk (q d) (C₀ + c.val) j) * chunk (ky (L d) (z d)) (C₀ + c.val) i
        * Real.exp (part (chunk (lg (L d) (z d)) (C₀ + c.val)) j - part (chunk (lg (L d) (z d)) (C₀ + c.val)) i)) * upTo j i * chunk (v a) (C₀ + c.val) i : ℝ) : EReal) := by
  refine (in_apply _ _ _ _ _ _ c.rev j.rev a).trans ((sum_rev _).trans ?_)
  choose μ hμ using D.hm c
  simp only [D.hq, D.hk, D.hv, D.hb, hμ, mask_apply, exp2_sub, ← EReal.coe_mul, ← coe_sum]
  refine congrArg _ (Finset.sum_congr rfl fun i _ => congrArg (· * upTo j i * _) (Finset.sum_congr rfl fun d _ => ?_))
  rw [show part (chunk (lg (L d) (z d)) (C₀ + c.val)) j - part (chunk (lg (L d) (z d)) (C₀ + c.val)) i
    = (part (chunk (lg (L d) (z d)) (C₀ + c.val)) j - μ d) + (μ d - part (chunk (lg (L d) (z d)) (C₀ + c.val)) i) by ring, Real.exp_add]
  ring

/-- What a chunk adds to the state, its decay, and its decayed queries. -/
theorem Data.hw (a : Fin 128) : hw xz xv lo (ix3 c.rev a d)
    = ((∑ j : Fin 64, chunk (v a) (C₀ + c.val) j * (chunk (ky (L d) (z d)) (C₀ + c.val) j
        * Real.exp (whole (chunk (lg (L d) (z d)) (C₀ + c.val)) - part (chunk (lg (L d) (z d)) (C₀ + c.val)) j)) : ℝ) : EReal) := by
  refine (add_apply _ _ _ _ c.rev a d).trans ((sum_rev _).trans ?_)
  simp only [D.hk, D.hv, D.hb, D.total, exp2_sub, ← EReal.coe_mul, ← coe_sum]

theorem Data.hd : hd xz lo (ix3 c.rev 0 d) = ((Real.exp (whole (chunk (lg (L d) (z d)) (C₀ + c.val))) : ℝ) : EReal) := by
  refine (decay_apply _ c.rev d).trans ?_
  rw [D.total, exp2_base]

theorem Data.hx : hx xq xz lo (ix3 c.rev j.rev d)
    = ((qy (chunk (q d) (C₀ + c.val) j) * Real.exp (part (chunk (lg (L d) (z d)) (C₀ + c.val)) j) : ℝ) : EReal) := by
  refine (decayed_apply _ _ c.rev j.rev d).trans ?_
  rw [D.hq, D.hb, exp2_base, ← EReal.coe_mul]

variable {s0 : Vec Ideal S1x128x128 .f32} (hs0 : ∀ a d, s0 (ix3 0 a d) = (RecurrenceSums.state (lg (L d) (z d)) (ky (L d) (z d)) (v a) C₀ : EReal))
include hs0

/-- The state before each chunk. -/
theorem Data.held (n : ℕ) (hn : n ≤ 16) (a d : Fin 128) :
    hs xz xv lo s0 n (ix2 a d) = (RecurrenceSums.state (lg (L d) (z d)) (ky (L d) (z d)) (v a) (C₀ + n) : EReal) := by
  induction n with
  | zero => exact (cast_drop _ _ a d).trans (hs0 a d)
  | succ n ih =>
    have ec : (Fin.ofNat 16 n).val = n := Nat.mod_eq_of_lt hn
    refine (next_apply _ _ _ _ a d).trans ?_
    rw [show after (RecurrenceRev.hd xz lo) (RecurrenceRev.hw xz xv lo) (k0_pay3 s0) n (ix2 a d) = _ from ih (by omega),
      D.hd, D.hw, ec, ← EReal.coe_mul, ← EReal.coe_add, ← state_succ]
    rfl

/-- The state after the point. -/
theorem Data.stateOut (a d : Fin 128) : stateOut xz xv lo s0 (ix3 0 a d) = (RecurrenceSums.state (lg (L d) (z d)) (ky (L d) (z d)) (v a) (C₀ + 16) : EReal) :=
  (cast_add _ _ 0 a d).trans (D.held hs0 16 le_rfl a d)

/-- The rows of the result are the sums over all rows. -/
theorem Data.rowsOut (hC : C₀ + c.val < 64) (a : Fin 128) : rowsOut xq xz xv lo s0 (ix2 (rowOf c.rev j.rev) a)
    = (overRows (v a) (fun d => qy (q d (64 * (C₀ + c.val) + j.val))) (fun d => ky (L d) (z d)) (fun d => lg (L d) (z d)) (64 * (C₀ + c.val) + j.val) : EReal) := by
  rw [rowsOut_apply, D.hin, Fin.rev_rev, overRows_eq _ _ _ _ _ hC]
  have ec : Fin.ofNat 16 c.val = c := Fin.ext (Nat.mod_eq_of_lt c.isLt)
  have e : piece xq xz xv lo s0 c.val (ix2 j.rev a) = ((∑ d, qy (q d (64 * (C₀ + c.val) + j.val)) * Real.exp (part (chunk (lg (L d) (z d)) (C₀ + c.val)) j)
      * RecurrenceSums.state (lg (L d) (z d)) (ky (L d) (z d)) (v a) (C₀ + c.val) : ℝ) : EReal) := by
    refine (inter_apply _ _ _ j.rev a).trans ?_
    rw [ec, coe_sum]
    refine Finset.sum_congr rfl fun d _ => ?_
    rw [D.hx, D.held hs0 c.val c.isLt.le, ← EReal.coe_mul]
    rfl
  rw [e, ← EReal.coe_add]
  rfl
end

end Cert.RecurrenceRev

end
-- ==== Proof.RevReference.lean ====
/- The reference of the recurrence's forward pass from the last row to the first, at real arguments: each row the sum over the
   rows from the last to it. Rows are counted from the last. -/
module

public import proofs.«01_k».proof.Proof.RevSteps
public import proofs.«01_k».proof.Proof.RecurrenceReference
public import proofs.«01_k».proof.Proof.Gen.GlaFwdRevRefIdeal.Read

@[expose] public section

noncomputable section

namespace Cert.RecurrenceRev

open Idealize.ShloMosaic Idealize.ShloMosaic.TcCoe Idealize.SL.Sem
open Cert.GlaFwdRevRefIdeal Cert.GlaFwdRevRefIdeal.Gen Cert.GlaFwdRevRefIdeal.Read Cert.Common Cert.RecurrenceSums
open Cert.Recurrence (gate lg ky qy gate_pos comp colQ colV host_logistic)

/-- The running sum over the rows, at real values. -/
theorem running_sum (y : FVec Ideal S4x4096x128 .f32) (h : Fin 4) (d : Fin 128) (G : ℕ → ℝ) (hy : ∀ s : Fin 4096, y (ix3 h s d) = (G s.val : EReal)) (t : Fin 4096) :
    Host.reduceWindowAdd ![1, 4096, 1] ![1, 1, 1] ![0, 4095, 0] ![0, 0, 0] y (val_main_call2_call0_v0 (F := Ideal))
      reduceWindows_S4x4096x128_S4x4096x128_w1s1p0_0_w4096s1p4095_0_w1s1p0_0 h_S_ (ix3 h t d) = (before G (t.val + 1) : EReal) :=
  Recurrence.running_sum y h d G hy t

/-! ## The lower bounds -/

/-- The reference's lower bounds are the first layer's shares, of this direction. -/
theorem ref_lower (x1 : FVec Ideal S2x2x512 .f32) (D : Fin 512) : val_main_v15 (F := Ideal) x1 (ix1 D) = FwdLower.Reference.share x1 0 1 D := by
  rw [val_main_v15_apply, val_main_v14_apply, val_main_v13_apply, val_main_v12_apply]
  refine Eq.trans ?_ ((FwdLower.Reference.first_sum (val_main_v10 (F := Ideal) x1) 1 D).trans (FwdLower.Reference.softmax_apply x1 0 1 D))
  refine congrArg (val_main_v11 (F := Ideal) x1) (funext fun a => Fin.ext ?_)
  have hD := D.isLt
  match a with
  | ⟨0, _⟩ => rfl
  | ⟨1, _⟩ => show ((1 + 0) * 512 + D.val % 512) / 512 % 2 = 1; omega
  | ⟨2, _⟩ => show ((1 + 0) * 512 + D.val % 512) % 512 = D.val; omega

/-! ## The result -/

/-- An argument's columns as functions of the row, counted from the last. -/
def col (z : S4096x3136.Idx → ℝ) (k : Fin 3136) : ℕ → ℝ := fun s => if h : s < 4096 then z (ix2 (⟨s, h⟩ : Fin 4096).rev k) else 0

theorem col_at (z : S4096x3136.Idx → ℝ) (k : Fin 3136) (s : Fin 4096) : col z k s.val = z (ix2 s.rev k) := dif_pos s.isLt

/-- The column of this direction's gate that holds component `D`. -/
def colF (D : Fin 512) : Fin 3136 := ⟨1600 + D.val, by omega⟩

/-- Rows taken from the last, of a head's and of all heads' components. -/
theorem reverse_rows (x : FVec Ideal S4x4096x128 .f32) (h : Fin 4) (t : Fin 4096) (d : Fin 128) : Host.reverse [1] x (ix3 h t d) = x (ix3 h t.rev d) := by
  refine (Host.reverse_apply [1] x (ix3 h t d)).trans (congrArg x (funext fun a => ?_))
  match a with
  | ⟨0, _⟩ => rfl
  | ⟨1, _⟩ => rfl
  | ⟨2, _⟩ => rfl
theorem reverse_result (x : FVec Ideal S4096x4x128 .f32) (t : Fin 4096) (h : Fin 4) (d : Fin 128) : Host.reverse [0] x (ix3 t.rev h d) = x (ix3 t h d) := by
  refine (Host.reverse_apply [0] x (ix3 t.rev h d)).trans (congrArg x (funext fun a => ?_))
  match a with
  | ⟨0, _⟩ => exact Fin.rev_rev t
  | ⟨1, _⟩ => rfl
  | ⟨2, _⟩ => rfl

variable (z : S4096x3136.Idx → ℝ) (L : Fin 512 → ℝ)

/-- A row of the recurrence, counted from the last, as the sum over the rows from the last to it. -/
def result (h : Fin 4) (t : ℕ) (a : Fin 128) : ℝ :=
  overRows (col z (colV (comp h a))) (fun d => qy (col z (colQ (comp h d)) t)) (fun d => ky (L (comp h d)) (col z (colF (comp h d))))
    (fun d => lg (L (comp h d)) (col z (colF (comp h d)))) t

variable (x1 : FVec Ideal S2x2x512 .f32)

theorem ref_q (t : Fin 4096) (D : Fin 512) : val_main_v17 (F := Ideal) (fun i => (z i : EReal)) (ix2 t.rev D) = (qy (col z (colQ D) t.val) : EReal) := by
  rw [col_at]
  unfold qy
  rw [EReal.coe_mul, ← host_logistic]
  pointwise [val_main_v16, val_main_call1_v0, val_main_call1_v1, val_main_call1_cst, val_main_call1_v2, val_main_call1_v3, val_main_call1_cst_0,
    val_main_call1_v4, val_main_call1_v5, val_main_v17]
  rfl

section
variable (hL : ∀ D, FwdLower.Reference.share x1 0 1 D = (L D : EReal)) (hpos : ∀ D, 0 < L D) (hlt : ∀ D, L D < 1)
include hL

theorem ref_gate (t : Fin 4096) (D : Fin 512) :
    val_main_v39 (F := Ideal) (fun i => (z i : EReal)) x1 (ix2 t.rev D) = (gate (L D) (col z (colF D) t.val) : EReal) := by
  rw [col_at]
  unfold gate
  have e := (ref_lower x1 D).trans (hL D)
  generalize hy : val_main_v15 (F := Ideal) x1 = y at e
  have one : (1 : EReal) = Ideal.ofBits .f32 0x3F800000#32 := ofBits_one_coe.symm
  rw [EReal.coe_add, EReal.coe_mul, EReal.coe_sub, ← host_logistic, ← e, EReal.coe_one, one]
  subst hy
  pointwise [val_main_cst_2, val_main_v25, val_main_v26, val_main_v27, val_main_v28, val_main_v29, val_main_cst_3, val_main_v30, val_main_v31,
    val_main_cst_4, val_main_v32, val_main_v33, val_main_v34, val_main_v35, val_main_v36, val_main_v37, val_main_v38, val_main_v39]
  rfl

omit hL in
/-- A row of a head's component, from the 512 components of the row. -/
theorem heads_idx (h : Fin 4) (s : Fin 4096) (d : Fin 128) : idx_main_v18 (idx_main_v19 (ix3 h s d)) = ix2 s (comp h d) := by
  refine funext fun a => Fin.ext ?_
  have hh := h.isLt
  have hd := d.isLt
  match a with
  | ⟨0, _⟩ => show ((s.val * 4 + h.val) * 128 + d.val) / 512 = s.val; omega
  | ⟨1, _⟩ => show ((s.val * 4 + h.val) * 128 + d.val) % 512 = 128 * h.val + d.val; omega

omit hL in
theorem ref_qh (h : Fin 4) (t : Fin 4096) (d : Fin 128) :
    val_main_v20 (F := Ideal) (fun i => (z i : EReal)) (ix3 h t d) = (qy (col z (colQ (comp h d)) t.val) : EReal) := by
  refine (reverse_rows _ h t d).trans ?_
  rw [val_main_v19_apply, val_main_v18_apply, heads_idx, ref_q]

omit hL in
theorem ref_vh (h : Fin 4) (t : Fin 4096) (d : Fin 128) :
    val_main_v24 (F := Ideal) (fun i => (z i : EReal)) (ix3 h t d) = (col z (colV (comp h d)) t.val : EReal) := by
  refine (reverse_rows _ h t d).trans ?_
  rw [val_main_v23_apply, val_main_v22_apply, show idx_main_v22 (idx_main_v23 (ix3 h t.rev d)) = ix2 t.rev (comp h d) from heads_idx h t.rev d, col_at]
  pointwise [val_main_v21]
  rfl

theorem ref_kh (h : Fin 4) (t : Fin 4096) (d : Fin 128) :
    val_main_v44 (F := Ideal) (fun i => (z i : EReal)) x1 (ix3 h t d) = (ky (L (comp h d)) (col z (colF (comp h d))) t.val : EReal) := by
  refine (reverse_rows _ h t d).trans ?_
  rw [val_main_v43_apply, val_main_v42_apply, show idx_main_v42 (idx_main_v43 (ix3 h t.rev d)) = ix2 t.rev (comp h d) from heads_idx h t.rev d, val_main_v41_apply,
    ref_gate z L x1 hL]
  show Ideal.ofBits .f32 0x3F800000#32 - _ = _
  rw [ofBits_one_coe, ← EReal.coe_sub]
  rfl

include hpos hlt

theorem ref_gh (h : Fin 4) (t : Fin 4096) (d : Fin 128) :
    val_main_v48 (F := Ideal) (fun i => (z i : EReal)) x1 (ix3 h t d) = (lg (L (comp h d)) (col z (colF (comp h d))) t.val : EReal) := by
  refine (reverse_rows _ h t d).trans ?_
  rw [val_main_v47_apply, val_main_v46_apply, show idx_main_v46 (idx_main_v47 (ix3 h t.rev d)) = ix2 t.rev (comp h d) from heads_idx h t.rev d, val_main_v45_apply,
    ref_gate z L x1 hL]
  show Ideal.log ((gate (L (comp h d)) (col z (colF (comp h d)) t.val) : ℝ) : EReal) = _
  rw [Ideal.log_coe, if_neg (not_le.2 (gate_pos (hpos _) (hlt _) _))]
  rfl

theorem ref_bh (h : Fin 4) (t : Fin 4096) (d : Fin 128) :
    val_main_v49 (F := Ideal) (fun i => (z i : EReal)) x1 (ix3 h t d) = (before (lg (L (comp h d)) (col z (colF (comp h d)))) (t.val + 1) : EReal) :=
  running_sum _ h d _ (fun s => ref_gh z L x1 hL hpos hlt h s d) t

/-- The product of a query and a key, times the gates between them. -/
theorem ref_pair (h : Fin 4) (t s : Fin 4096) (d : Fin 128) :
    val_main_v61 (F := Ideal) (fun i => (z i : EReal)) x1 (ix4 h t s d)
      = ((qy (col z (colQ (comp h d)) t.val) * ky (L (comp h d)) (col z (colF (comp h d))) s.val
          * Real.exp (before (lg (L (comp h d)) (col z (colF (comp h d)))) (t.val + 1) - before (lg (L (comp h d)) (col z (colF (comp h d)))) (s.val + 1)) : ℝ) : EReal) := by
  rw [val_main_v61_apply, val_main_v54_apply, val_main_v52_apply, val_main_v50_apply, val_main_v53_apply, val_main_v51_apply,
    val_main_v60_apply, val_main_v59_apply, val_main_v57_apply, val_main_v55_apply, val_main_v58_apply, val_main_v56_apply,
    show idx_main_v50 (idx_main_v52 (ix4 h t s d)) = ix3 h t d from eq_ix3 _, show idx_main_v51 (idx_main_v53 (ix4 h t s d)) = ix3 h s d from eq_ix3 _,
    show idx_main_v55 (idx_main_v57 (ix4 h t s d)) = ix3 h t d from eq_ix3 _, show idx_main_v56 (idx_main_v58 (ix4 h t s d)) = ix3 h s d from eq_ix3 _,
    ref_qh, ref_kh z L x1 hL, ref_bh z L x1 hL hpos hlt, ref_bh z L x1 hL hpos hlt]
  generalize qy (col z (colQ (comp h d)) t.val) = a
  generalize ky (L (comp h d)) (col z (colF (comp h d))) s.val = b
  generalize before (lg (L (comp h d)) (col z (colF (comp h d)))) (t.val + 1) = p
  generalize before (lg (L (comp h d)) (col z (colF (comp h d)))) (s.val + 1) = q
  show (a : EReal) * (b : EReal) * Ideal.exp ((p : EReal) - (q : EReal)) = _
  rw [← EReal.coe_sub, Ideal.exp_coe, ← EReal.coe_mul, ← EReal.coe_mul]

omit hL hpos hlt in
/-- The mask: one where key `s` is not after query `t`, else zero. -/
theorem ref_mask (t s : Fin 4096) : val_main_v64 (F := Ideal) (ix2 t s) = (((if s.val ≤ t.val then 1 else 0 : ℝ)) : EReal) := by
  have hw : val_main_call3_v4 (F := Ideal) (ix2 t s) = if s.val ≤ t.val then 1#1 else 0#1 := by
    rw [val_main_call3_v4_apply]
    show IntOp.cmpi .sge (BitVec.ofNat 32 t.val + 0#32) (BitVec.ofNat 32 s.val) = _
    rw [BitVec.add_zero]
    have ht := t.isLt
    have hs := s.isLt
    have e (n : ℕ) (hn : n < 4096) : (BitVec.ofNat 32 n).toInt = n := by
      rw [BitVec.toInt_eq_toNat_bmod, BitVec.toNat_ofNat, Nat.mod_eq_of_lt (by omega)]
      exact Int.bmod_eq_of_le (by omega) (by omega)
    unfold IntOp.cmpi
    simp only [BitVec.sle, e t.val ht, e s.val hs, Nat.cast_le]
    by_cases hc : s.val ≤ t.val <;> simp [hc]
  rw [val_main_v64_apply, hw]
  split
  · show Ideal.ofBits .f32 0x3F800000#32 = _
    rw [ofBits_one_coe]
  · show Ideal.ofBits .f32 0x00000000#32 = _
    rw [Ideal.ofBits_zero_f32]
    rfl

theorem ref_weight (h : Fin 4) (t s : Fin 4096) :
    val_main_v67 (F := Ideal) (fun i => (z i : EReal)) x1 (ix3 h t s)
      = (((∑ d, qy (col z (colQ (comp h d)) t.val) * ky (L (comp h d)) (col z (colF (comp h d))) s.val
          * Real.exp (before (lg (L (comp h d)) (col z (colF (comp h d)))) (t.val + 1) - before (lg (L (comp h d)) (col z (colF (comp h d)))) (s.val + 1)))
          * if s.val ≤ t.val then 1 else 0 : ℝ) : EReal) := by
  have e1 : val_main_v62 (F := Ideal) (fun i => (z i : EReal)) x1 (ix3 h t s)
      = ∑ d, ((qy (col z (colQ (comp h d)) t.val) * ky (L (comp h d)) (col z (colF (comp h d))) s.val
          * Real.exp (before (lg (L (comp h d)) (col z (colF (comp h d)))) (t.val + 1) - before (lg (L (comp h d)) (col z (colF (comp h d)))) (s.val + 1)) : ℝ) : EReal) := by
    rw [val_main_v62_apply, val_main_cst_6_apply]
    show Ideal.ofBits .f32 0x00000000#32 + _ = _
    rw [Ideal.ofBits_zero_f32, zero_add]
    refine Finset.sum_congr rfl fun d _ => ?_
    rw [eq_ix4 (idx_main_v62 _ d)]
    exact ref_pair z L x1 hL hpos hlt h t s d
  rw [val_main_v67_apply, e1, val_main_v66_apply, val_main_v65_apply, show idx_main_v65 (idx_main_v66 (ix3 h t s)) = ix2 t s from eq_ix2 _, ref_mask,
    ← coe_sum]
  exact (EReal.coe_mul _ _).symm

/-- The reference's result at an index. -/
theorem ref_result (h : Fin 4) (t : Fin 4096) (a : Fin 128) :
    val_main_v71 (F := Ideal) (fun i => (z i : EReal)) x1 (ix2 t.rev (comp h a)) = (result z L h t.val a : EReal) := by
  have e : idx_main_v71 (ix2 t.rev (comp h a)) = ix3 t.rev h a := by
    refine funext fun b => Fin.ext ?_
    have hh := h.isLt
    have ha := a.isLt
    match b with
    | ⟨0, _⟩ => show (t.rev.val * 512 + (128 * h.val + a.val)) / 512 = t.rev.val; omega
    | ⟨1, _⟩ => show (t.rev.val * 512 + (128 * h.val + a.val)) / 128 % 4 = h.val; omega
    | ⟨2, _⟩ => show (t.rev.val * 512 + (128 * h.val + a.val)) % 128 = a.val; omega
  rw [val_main_v71_apply, e]
  refine (reverse_result _ t h a).trans ?_
  rw [val_main_v69_apply, show idx_main_v69 (ix3 t h a) = ix3 h a t from eq_ix3 _, val_main_v68_apply]
  unfold result overRows
  rw [coe_sum, Finset.sum_range]
  refine Finset.sum_congr rfl fun s _ => ?_
  rw [eq_ix3 (lidx_main_v68 (ix3 h a t) s), eq_ix3 (ridx_main_v68 (ix3 h a t) s), EReal.coe_mul]
  exact congrArg₂ (· * ·) (ref_vh z h s a) (ref_weight z L x1 hL hpos hlt h t s)

end

end Cert.RecurrenceRev

end
-- ==== Proof.RevValue.lean ====
/- The value of the recurrence's forward pass from the last row to the first: the kernel's array, chunk by chunk with states
   between the chunks, is the reference's, each row the sum over the rows from the last to it. -/
module

public import proofs.«01_k».proof.Proof.RevReference
public import proofs.«01_k».proof.Proof.Gen.GlaFwdRevIdeal.Value
public import proofs.«01_k».proof.Proof.Gen.GlaFwdRevRefIdeal.Run
public import proofs.«01_k».proof.Proof.Gen.Pre_finite_gla_fwd

@[expose] public section

noncomputable section

namespace Cert.RecurrenceRev

open Idealize.ShloMosaic Idealize.ShloMosaic.TcCoe Idealize.SL.Sem
open Cert.GlaFwdRevIdeal Cert.GlaFwdRevIdeal.Gen Cert.Common Cert.RecurrenceSums
open Cert.Recurrence (rowOf lg ky comp colQ colV share_real)
open Cert.GlaFwdRevRefIdeal.Read (val_main_v13 val_main_v13_apply val_main_v12_apply val_main_v11 val_main_v10 val_main_v71 val_main_v71_eq)

/-- The input product's columns in the kernel's order. -/
def ordered (z : FVec Ideal S4096x3136 .f32) : FVec Ideal S4096x3200 .f32 :=
  concatenate S4096x3200 1 [⟨S4096x512, extractStridedSlice S4096x512 ![0, 0] z slices_S4096x3136_S4096x512_0_0⟩,
    ⟨S4096x2560, extractStridedSlice S4096x2560 ![0, 576] z slices_S4096x3136_S4096x2560_0_576⟩,
    ⟨S4096x128, pad S4096x128 ![0, 0] ![0, 64] ![0, 0] (extractStridedSlice S4096x64 ![0, 512] z slices_S4096x3136_S4096x64_0_512)
      (sitofp (F := Ideal) .f32 (constantI S_ 32 0#32)) pads_S4096x64_S4096x128_000_0640 h_S_⟩] concatenates_S4096x512_S4096x2560_S4096x128_S4096x3200_d1

/-- Columns 512 to 3071 among them. -/
theorem ordered_mid (z : FVec Ideal S4096x3136 .f32) (r : Fin 4096) (k : Fin 2560) :
    ordered z (ix2 r ⟨512 + k.val, by omega⟩) = z (ix2 r ⟨576 + k.val, by omega⟩) := by
  have h1 : ¬ 512 + k.val < 512 := by omega
  have h2 : 512 + k.val - 512 < 2560 := by omega
  have h3 : 576 + (512 + k.val - 512) = 576 + k.val := by omega
  pointwise [ordered, h1, h2, h3]

/-- This direction's lower bounds, one row for each head. -/
def lowRows (x1 : FVec Ideal S2x2x512 .f32) : FVec Ideal S4x1x128 .f32 :=
  shapeCast S4x1x128 (extractStridedSlice S1x4x1x128 ![1, 0, 0, 0] (shapeCast S2x4x1x128 (val_main_v13 (F := Ideal) x1) shapeCasts_S2x512_S2x4x1x128)
    slices_S2x4x1x128_S1x4x1x128_1_0_0_0) shapeCasts_S1x4x1x128_S4x1x128

theorem lowRows_apply (x1 : FVec Ideal S2x2x512 .f32) (h : Fin 4) (d : Fin 128) : lowRows x1 (ix3 h 0 d) = FwdLower.Reference.share x1 0 1 (comp h d) := by
  have hh := h.isLt
  have hd := d.isLt
  unfold lowRows
  refine (shapeCast_apply _ _ (ix3 h 0 d) (ix4 0 h 0 d) ?_).trans ?_
  · rw [Shape.rowMajor_val_three, Shape.rowMajor_val_four]
    show ((0 * 4 + h.val) * 1 + 0) * 128 + d.val = (h.val * 1 + 0) * 128 + d.val
    omega
  refine (extractStridedSlice_apply _ _ _ _ (ix4 1 h 0 d) fun a => ?_).trans ?_
  · match a with
    | ⟨0, _⟩ => rfl
    | ⟨1, _⟩ => show h.val = 0 + h.val; omega
    | ⟨2, _⟩ => rfl
    | ⟨3, _⟩ => show d.val = 0 + d.val; omega
  refine (shapeCast_apply _ _ (ix4 1 h 0 d) (ix2 1 (comp h d)) ?_).trans ?_
  · rw [Shape.rowMajor_val_two, Shape.rowMajor_val_four]
    show 1 * 512 + (128 * h.val + d.val) = ((1 * 4 + h.val) * 1 + 0) * 128 + d.val
    omega
  rw [val_main_v13_apply, val_main_v12_apply]
  refine Eq.trans ?_ ((FwdLower.Reference.first_sum (val_main_v10 (F := Ideal) x1) 1 (comp h d)).trans (FwdLower.Reference.softmax_apply x1 0 1 (comp h d)))
  refine congrArg (val_main_v11 (F := Ideal) x1) (funext fun a => Fin.ext ?_)
  match a with
  | ⟨0, _⟩ => rfl
  | ⟨1, _⟩ => show (1 * 512 + (128 * h.val + d.val)) / 512 % 2 = 1; omega
  | ⟨2, _⟩ => show (1 * 512 + (128 * h.val + d.val)) % 512 = 128 * h.val + d.val; omega

variable (m : (ℓ : Loc nD τ sig) → Buf (Elt Ideal) ℓ) (ρ : Dev nD → PrngReg)

/-- Device `c`'s two arguments, at their types. -/
abbrev ZA (c : Dev nD) : FVec Ideal S4096x3136 .f32 := m ((c : Thread nD τ).loc main_arg0)
abbrev PA (c : Dev nD) : FVec Ideal S2x2x512 .f32 := m ((c : Thread nD τ).loc main_arg1)

/-- The columns and the lower bounds as the region finds them. -/
theorem V_cols (c : Dev nD) : (V m c main_v19 : FVec Ideal S4096x3200 .f32) = ordered (ZA m c) := by
  show StableHlo.after (List.flatten [hostOps0, hostOps0_1, hostOps0_2, hostOps0_3, hostOps0_4]) (fun b => m (c, b)) main_v19 = _
  simp only [List.flatten_cons, List.flatten_nil, List.append_nil, List.cons_append, List.nil_append]
  after_results <;> rfl

theorem V_low (c : Dev nD) : (V m c main_v21 : FVec Ideal S4x1x128 .f32) = lowRows (PA m c) := by
  show StableHlo.after (List.flatten [hostOps0, hostOps0_1, hostOps0_2, hostOps0_3, hostOps0_4]) (fun b => m (c, b)) main_v21 = _
  simp only [List.flatten_cons, List.flatten_nil, List.append_nil, List.cons_append, List.nil_append]
  after_results <;> rfl

/-- Where each window's block sits in its array. -/
theorem idx : ∀ t : Fin cfg0.N, win0_0.index t = ![3 - t.val, 1] ∧ win0_1.index t = ![3 - t.val, 3] ∧ win0_2.index t = ![3 - t.val, 4]
    ∧ win0_3.index t = ![0, 0, 0] ∧ win0_4.index t = ![3 - t.val, 0] :=
  (by decide +kernel : ∀ t : Fin grid0.N, _)

/-- The row of the whole array that row `r` of point `t`'s block is. -/
def row (t : Fin cfg0.N) (r : Fin 1024) : Fin 4096 := ⟨(3 - t.val) * 1024 + r.val, by have := t.isLt; have hN : cfg0.N = 4 := N_0; omega⟩

theorem blkQ (c : Dev nD) (t : Fin cfg0.N) (r : Fin 1024) (k : Fin 512) :
    (X0_0 m c t : Vec Ideal S1024x512 .f32) (ix2 r k) = ZA m c (ix2 (row t r) (colQ k)) := by
  unfold X0_0 Pipeline.Window.fill
  rw [dif_pos (moved0_0 t (ix2 r k))]
  blk_simp [iblk]
  refine (congrFun (V_cols m c) _).trans ((congrArg (ordered (ZA m c)) ?_).trans (ordered_mid (ZA m c) (row t r) ⟨k.val, by omega⟩))
  blk_ext [(idx t).1, row]

theorem blkF (c : Dev nD) (t : Fin cfg0.N) (r : Fin 1024) (k : Fin 512) :
    (X0_1 m c t : Vec Ideal S1024x512 .f32) (ix2 r k) = ZA m c (ix2 (row t r) (colF k)) := by
  unfold X0_1 Pipeline.Window.fill
  rw [dif_pos (moved0_1 t (ix2 r k))]
  blk_simp [iblk]
  refine (congrFun (V_cols m c) _).trans ((congrArg (ordered (ZA m c)) ?_).trans ((ordered_mid (ZA m c) (row t r) ⟨1024 + k.val, by omega⟩).trans ?_))
  · blk_ext [(idx t).2.1, row]
  · exact congrArg (fun k' => ZA m c (ix2 (row t r) k')) (Fin.ext (by show 576 + (1024 + k.val) = 1600 + k.val; omega))

theorem blkV (c : Dev nD) (t : Fin cfg0.N) (r : Fin 1024) (k : Fin 512) :
    (X0_2 m c t : Vec Ideal S1024x512 .f32) (ix2 r k) = ZA m c (ix2 (row t r) (colV k)) := by
  unfold X0_2 Pipeline.Window.fill
  rw [dif_pos (moved0_2 t (ix2 r k))]
  blk_simp [iblk]
  refine (congrFun (V_cols m c) _).trans ((congrArg (ordered (ZA m c)) ?_).trans ((ordered_mid (ZA m c) (row t r) ⟨1536 + k.val, by omega⟩).trans ?_))
  · blk_ext [(idx t).2.2.1, row]
  · exact congrArg (fun k' => ZA m c (ix2 (row t r) k')) (Fin.ext (by show 576 + (1536 + k.val) = 2112 + k.val; omega))

theorem blkL (c : Dev nD) (t : Fin cfg0.N) (h : Fin 4) (d : Fin 128) :
    (iblk m c 3 t : Vec Ideal S4x1x128 .f32) (ix3 h 0 d) = FwdLower.Reference.share (PA m c) 0 1 (comp h d) := by
  blk_simp [iblk]
  refine (congrFun (V_low m c) _).trans ((congrArg (lowRows (PA m c)) ?_).trans (lowRows_apply (PA m c) h d))
  blk_ext [(idx t).2.2.2.1]

/-! ## The head's parts of a point -/

theorem colsX_apply (x : Vec Ideal S1024x512 .f32) (h : Fin 4) (r : Fin 1024) (d : Fin 128) : colsX x h (ix2 r d) = x (ix2 r (comp h d)) :=
  View.ld_unit_apply_of x _ _ (inbX h) (ix2 r d) _ fun a => by
    match a with
    | ⟨0, _⟩ => show r.val = 0 + r.val; omega
    | ⟨1, _⟩ => rfl
theorem rowL_apply (x : Vec Ideal S4x1x128 .f32) (h : Fin 4) (d : Fin 128) : rowL x h (ix3 0 0 d) = x (ix3 h 0 d) :=
  View.ld_unit_apply_of x _ _ (inbL h) (ix3 0 0 d) _ fun a => by
    match a with
    | ⟨0, _⟩ => rfl
    | ⟨1, _⟩ => rfl
    | ⟨2, _⟩ => show d.val = 0 + d.val; omega
theorem matS_apply (x : Vec Ideal S4x128x128 .f32) (h : Fin 4) (a d : Fin 128) : matS x h (ix3 0 a d) = x (ix3 h a d) :=
  View.ld_unit_apply_of x _ _ (inbS h) (ix3 0 a d) _ fun b => by
    match b with
    | ⟨0, _⟩ => rfl
    | ⟨1, _⟩ => show a.val = 0 + a.val; omega
    | ⟨2, _⟩ => show d.val = 0 + d.val; omega

section
variable (c : Dev nD) (z : S4096x3136.Idx → ℝ) (L : Fin 512 → ℝ) (hz : ZA m c = fun i => (z i : EReal))
  (hL : ∀ D, FwdLower.Reference.share (PA m c) 0 1 D = (L D : EReal)) (hpos : ∀ D, 0 < L D) (hlt : ∀ D, L D < 1)

/-- Row `j` of chunk `c'` of point `t`, chunks and rows counted from the last, in the whole array. -/
theorem row_rev (t : Fin cfg0.N) (c' : Fin 16) (j : Fin 64) (s : Fin 4096) (hs : s.val = 64 * (16 * t.val + c'.val) + j.val) :
    row t (rowOf c'.rev j.rev) = s.rev := by
  have hN : cfg0.N = 4 := N_0
  have ht := t.isLt
  refine Fin.ext ?_
  rw [Fin.val_rev, hs]
  show (3 - t.val) * 1024 + (c'.rev.val * 64 + j.rev.val) = _
  rw [Fin.val_rev, Fin.val_rev]
  omega

theorem row_chunk (t : Fin cfg0.N) (c' : Fin 16) (j : Fin 64) (k : Fin 3136) :
    (z (ix2 (row t (rowOf c'.rev j.rev)) k) : EReal) = (chunk (col z k) (16 * t.val + c'.val) j : EReal) := by
  have hN : cfg0.N = 4 := N_0
  have ht := t.isLt
  rw [row_rev t c' j ⟨64 * (16 * t.val + c'.val) + j.val, by omega⟩ rfl, ← col_at z]
  rfl

include hz hL hpos hlt

theorem data (t : Fin cfg0.N) (h : Fin 4) :
    Data (16 * t.val) (fun d => L (comp h d)) (fun d => col z (colQ (comp h d))) (fun d => col z (colF (comp h d))) (fun d => col z (colV (comp h d)))
      (colsX (X0_0 m c t) h) (colsX (X0_1 m c t) h) (colsX (X0_2 m c t) h) (rowL (iblk m c 3 t) h) where
  q c' j d := by rw [colsX_apply, blkQ, hz]; exact row_chunk z t c' j _
  z c' j d := by rw [colsX_apply, blkF, hz]; exact row_chunk z t c' j _
  v c' j d := by rw [colsX_apply, blkV, hz]; exact row_chunk z t c' j _
  lo d := by rw [rowL_apply, blkL, hL]
  pos d := hpos _
  lt d := hlt _

/-- The states a point leaves: those before the next point's first chunk. -/
theorem states (n : ℕ) (hn : n < cfg0.N) (h : Fin 4) (a d : Fin 128) : (outsAt0 m c n hn).2.2 (ix3 h a d)
    = (state (lg (L (comp h d)) (col z (colF (comp h d)))) (ky (L (comp h d)) (col z (colF (comp h d)))) (col z (colV (comp h a))) (16 * n + 16) : EReal) := by
  induction n generalizing h a d with
  | zero =>
    rw [outsAt0_A m c ⟨0, hn⟩ rfl]
    dsimp only
    rw [states_A]
    show headState (X0_1 m c _) (X0_2 m c _) (iblk m c 3 _) _ h (ix3 0 a d) = _
    refine Data.stateOut (data m c z L hz hL hpos hlt ⟨0, hn⟩ h) (fun a d => ?_) a d
    refine (matS_apply _ _ a d).trans (Eq.trans ?_ (congrArg _ (state_zero _ _ _).symm))
    unfold zeros
    pointwise [k0_pay2]
    rfl
  | succ n ih =>
    have hN : cfg0.N = 4 := N_0
    rw [outsAt0_B m c ⟨n + 1, hn⟩ (by show ¬(n + 1) % 4 = 0; omega)]
    dsimp only
    rw [states_B]
    show headState (X0_1 m c _) (X0_2 m c _) (iblk m c 3 _) _ h (ix3 0 a d) = _
    refine Data.stateOut (data m c z L hz hL hpos hlt ⟨n + 1, hn⟩ h) (fun a d => ?_) a d
    rw [matS_apply]
    exact ih (Nat.lt_of_succ_lt hn) h a d

/-- What a point leaves of the result. -/
theorem rows (t : Fin cfg0.N) (h : Fin 4) (c' : Fin 16) (j : Fin 64) (a : Fin 128) :
    (outsAt0 m c t.val t.isLt).1 (ix2 (rowOf c'.rev j.rev) (comp h a)) = (result z L h (64 * (16 * t.val + c'.val) + j.val) a : EReal) := by
  have hN : cfg0.N = 4 := N_0
  have ht := t.isLt
  have hh := h.isLt
  have ha := a.isLt
  have e1 : (⟨(comp h a).val / 128, by show (128 * h.val + a.val) / 128 < 4; omega⟩ : Fin 4) = h := Fin.ext (by show (128 * h.val + a.val) / 128 = h.val; omega)
  have e2 : (⟨(comp h a).val % 128, by omega⟩ : Fin 128) = a := Fin.ext (by show (128 * h.val + a.val) % 128 = a.val; omega)
  have D := data m c z L hz hL hpos hlt t h
  have hC : 16 * t.val + c'.val < 64 := by omega
  by_cases h0 : t.val % 4 = 0
  · have t0 : t.val = 0 := by omega
    rw [outsAt0_A m c t h0]
    dsimp only
    rw [rows_A]
    refine (congrArg₂ (fun (x : Fin 4) (y : Fin 128) => headRows (X0_0 m c t) (X0_1 m c t) (X0_2 m c t) (iblk m c 3 t) zeros x (ix2 (rowOf c'.rev j.rev) y)) e1 e2).trans ?_
    refine D.rowsOut c' j (fun a d => ?_) hC a
    rw [matS_apply, t0, state_zero]
    unfold zeros
    pointwise [k0_pay2]
    rfl
  · rw [outsAt0_B m c t h0]
    dsimp only
    rw [rows_B]
    refine (congrArg₂ (fun (x : Fin 4) (y : Fin 128) => headRows (X0_0 m c t) (X0_1 m c t) (X0_2 m c t) (iblk m c 3 t) _ x (ix2 (rowOf c'.rev j.rev) y)) e1 e2).trans ?_
    refine D.rowsOut c' j (fun a d => ?_) hC a
    rw [matS_apply, states m c z L hz hL hpos hlt, show 16 * (t.val - 1) + 16 = 16 * t.val by omega]

/-- The kernel's array is the reference's. -/
theorem final : (dats m 0 c).arrAt 4 cfg0.N = val_main_v71 (F := Ideal) (ZA m c) (PA m c) := by
  refine (dats m 0 c).arrAt_eq_of_covers 4 _ (by decide +kernel) fun t _ y => ?_
  blk_simp
  rw [after0_4]
  have h0 : (y 0).val < 1024 := (y 0).isLt
  have h1 : (y 1).val < 512 := (y 1).isLt
  obtain ⟨c', j, er⟩ : ∃ (c' : Fin 16) (j : Fin 64), y 0 = rowOf c'.rev j.rev :=
    ⟨(⟨(y 0).val / 64, by omega⟩ : Fin 16).rev, (⟨(y 0).val % 64, by omega⟩ : Fin 64).rev, by
      rw [Fin.rev_rev, Fin.rev_rev]; exact Fin.ext (by show (y 0).val = (y 0).val / 64 * 64 + (y 0).val % 64; omega)⟩
  obtain ⟨h, a, ec⟩ : ∃ (h : Fin 4) (a : Fin 128), y 1 = comp h a :=
    ⟨⟨(y 1).val / 128, by omega⟩, ⟨(y 1).val % 128, by omega⟩, Fin.ext (by show (y 1).val = 128 * ((y 1).val / 128) + (y 1).val % 128; omega)⟩
  have e : ((View.whole main_v22_0).slice (win0_4.rect t)).emb y = (ix2 (row t (y 0)) (y 1) : S4096x512.Idx) := by
    blk_ext [(idx t).2.2.2.2, row]
  have ey : y = (ix2 (rowOf c'.rev j.rev) (comp h a) : S1024x512.Idx) := (eq_ix2 y).trans (by rw [er, ec])
  rw [e, er, ec]
  refine ((congrArg _ ey).trans (rows m c z L hz hL hpos hlt t h c' j a)).trans ?_
  have ht : t.val < 4 := lt_of_lt_of_eq t.isLt N_0
  rw [hz, row_rev t c' j ⟨64 * (16 * t.val + c'.val) + j.val, by omega⟩ rfl]
  exact (ref_result z L (PA m c) hL hpos hlt h ⟨64 * (16 * t.val + c'.val) + j.val, by omega⟩ a).symm

end

/-! ## The claims -/

/-- What the precondition says: the arguments are finite. -/
theorem pre_finite (c : Dev nD) (h : Cert.Pre_GlaFwdRevIdeal_finite_gla_fwd m) :
    (∃ z : S4096x3136.Idx → ℝ, ZA m c = fun i => (z i : EReal)) ∧ ∀ i, IsReal (PA m c i) := by
  obtain ⟨h1, h2⟩ := andi_apply_eq_one (congrFun (h c) fun a => a.elim0)
  have r1 : ∀ i, IsReal (ZA m c i) := isReal_of_all (ZA m c) _ (fun _ => rfl) _ _ _ _ h1
  have r2 : ∀ i, IsReal (PA m c i) := isReal_of_all (PA m c) _ (fun _ => rfl) _ _ _ _ h2
  choose z hz using r1
  exact ⟨⟨z, funext hz⟩, r2⟩

/-- The reference runs, leaves its arguments as they were and every semaphore at zero. -/
theorem frame_ref : Cert.quiescent_GlaFwdRevRefIdeal := fun m ρ _ =>
  (θ_run Cert.GlaFwdRevRefIdeal.defs _ _).mono
    (fun r h => ⟨fun c => (h c).2, sem_eq_zero_of_no_sems (by decide) r.2⟩) (Cert.GlaFwdRevRefIdeal.Value.run (F := Ideal) m ρ)

/-- At the ideal values the kernel and the reference end with the same array. -/
theorem algebraic : Cert.algebraic_GlaFwdRevIdeal_GlaFwdRevRefIdeal_pre_finite_gla_fwd := by
  intro m ρ m' ρ' hpre hagree
  refine ⟨fun c => val_main_v71 (F := Ideal) (ZA m c) (PA m c), ?_, ?_⟩
  · refine (θ_run Cert.GlaFwdRevIdeal.defs _ _).mono (fun _ h c => ?_) (Cert.GlaFwdRevIdeal.Value.run_blocks (F := Ideal) m ρ)
    obtain ⟨⟨z, hz⟩, hp⟩ := pre_finite m c hpre
    choose L hL hpos hlt using fun D => share_real (PA m c) hp 0 1 D
    exact ⟨(h c).1.trans (final m c z L hz hL hpos hlt), (h c).2.2⟩
  · refine (θ_run Cert.GlaFwdRevRefIdeal.defs _ _).mono (fun _ h c => ?_) (Cert.GlaFwdRevRefIdeal.Value.run (F := Ideal) m' ρ')
    obtain ⟨e0, e1⟩ := hagree c
    refine ⟨(h c).1.trans ?_, (h c).2⟩
    rw [val_main_v71_eq]
    show val_main_v71 (F := Ideal) (m' ((c : Thread Cert.GlaFwdRevRefIdeal.nD Cert.GlaFwdRevRefIdeal.τ).loc Cert.GlaFwdRevRefIdeal.main_arg0)) (m' ((c : Thread Cert.GlaFwdRevRefIdeal.nD Cert.GlaFwdRevRefIdeal.τ).loc Cert.GlaFwdRevRefIdeal.main_arg1)) = _
    rw [e0, e1]

end Cert.RecurrenceRev

end
-- ==== Proof.ForwardDown.lean ====
/- The value of the down product of the feed-forward part, with the residual sum and the next norm. -/
module

public import proofs.«01_k».proof.Proof.ForwardNorms
public import proofs.«01_k».proof.Proof.Common
public import proofs.«01_k».proof.Proof.Casts
public import proofs.«01_k».proof.Proof.Gen.FfnDownIdeal.Frame
public import proofs.«01_k».proof.Proof.Gen.FfnDownIdeal.Value
public import proofs.«01_k».proof.Proof.Gen.FfnDownRefIdeal.Read
public import proofs.«01_k».proof.Proof.Gen.FfnDownRefIdeal.Run

@[expose] public section

noncomputable section

/-! ## The down product -/

namespace Cert.FwdDown.Reference

open Cert.FfnDownRefIdeal Cert.FfnDownRefIdeal.Read Idealize.ShloMosaic Cert.ForwardNorms

variable (x : FVec Ideal S4096x1024 .f32) (y : FVec Ideal S4096x2816 .bf16) (w : FVec Ideal S1x2816x1024 .f32) (g : FVec Ideal S1x1024 .f32)

/-- A row of the residual stream after the down product. -/
def sumRow (r : Fin 4096) (d : Fin 1024) : EReal := x (ix2 r d) + ∑ k : Fin 2816, y (ix2 r k) * w (ix3 0 k d)

/-- The reference's first result at an index, -/
theorem x1_apply (r : Fin 4096) (d : Fin 1024) : val_main_v3 (F := Ideal) x y w (ix2 r d) = sumRow x y w r d := by
  unfold sumRow
  pointwise [val_main_v0, val_main_v1, val_main_v2, val_main_v3]

/-- and its second. -/
theorem h_apply (r : Fin 4096) (d : Fin 1024) : val_main_v18 (F := Ideal) x y w g (ix2 r d)
    = normed (Ideal.ofBits .f32 0x44800000#32) (sumRow x y w r) (fun k => g (ix2 0 k)) d := by
  unfold normed
  simp only [← x1_apply]
  pointwise [val_main_v4, val_main_v5, val_main_cst, val_main_v6, val_main_v7, val_main_cst_0, val_main_v8, val_main_v9, val_main_cst_1,
    val_main_v10, val_main_v11, val_main_v12, val_main_v13, val_main_v14, val_main_v15, val_main_v16, val_main_v17, val_main_v18, zero_add]

end Cert.FwdDown.Reference

namespace Cert.FwdDown

open Cert.FfnDownIdeal Cert.FfnDownIdeal.Gen Idealize.ShloMosaic Idealize.ShloMosaic.TcCoe Cert.ForwardNorms Idealize.SL.Sem
open Cert.FfnDownRefIdeal.Read (val_main_v1 val_main_v3 val_main_v3_eq val_main_v18 val_main_v18_eq)

/-- What one run of the body stores for the residual stream, at an index, -/
theorem sum_apply (y : Vec Ideal S512x2816 .bf16) (w : Vec Ideal S2816x1024 .bf16) (x : Vec Ideal S512x1024 .f32) (r : Fin 512) (d : Fin 1024) :
    k0_pay1 y w x (ix2 r d) = x (ix2 r d) + ∑ k : Fin 2816, y (ix2 r k) * w (ix2 k d) := by
  rw [add_comm (x (ix2 r d))]
  pointwise [k0_pay1, zero_add]

/-- and for the norm. -/
theorem norm_apply (y : Vec Ideal S512x2816 .bf16) (w : Vec Ideal S2816x1024 .bf16) (x : Vec Ideal S512x1024 .f32) (g : Vec Ideal S1x1024 .f32) (r : Fin 512) (d : Fin 1024) :
    k0_pay2 y w x g (ix2 r d)
      = normed (Ideal.ofBits .f32 0x44800000#32) (fun k => k0_pay1 y w x (ix2 r k)) (fun k => g (ix2 0 k)) d := by
  unfold normed
  pointwise [k0_pay2]

variable (m : (ℓ : Loc nD τ sig) → Buf (Elt Ideal) ℓ) (ρ : Dev nD → PrngReg)

/-- Device `c`'s four arguments, at their types. -/
abbrev X (c : Dev nD) : FVec Ideal S4096x1024 .f32 := m ((c : Thread nD τ).loc main_arg0)
abbrev Y (c : Dev nD) : FVec Ideal S4096x2816 .bf16 := m ((c : Thread nD τ).loc main_arg1)
abbrev W (c : Dev nD) : FVec Ideal S1x2816x1024 .f32 := m ((c : Thread nD τ).loc main_arg2)
abbrev G (c : Dev nD) : FVec Ideal S1x1024 .f32 := m ((c : Thread nD τ).loc main_arg3)

/-- Where each window's block sits in its array. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The row of the whole array that row `r` of block `t` is. -/
def row (t : Fin cfg0.N) (r : Fin 512) : Fin 4096 := ⟨t.val * 512 + r.val, by have := t.isLt; have hN : cfg0.N = 8 := N_0; omega⟩

/-- The weights as the region finds them: the argument, its leading axis of size one dropped. -/
theorem V_w (c : Dev nD) (i : S2816x1024.Idx) : (V m c main_v1 : FVec Ideal S2816x1024 .bf16) i = W m c (ix3 0 (i 0) (i 1)) := by
  have h : (V m c main_v1 : FVec Ideal S2816x1024 .bf16)
      = (truncf (F := Ideal) .bf16 (val_main_v1 (F := Ideal) (W m c)) bitsLt_bf16_f32 : FVec Ideal S2816x1024 .bf16) := by
    show StableHlo.after hostOps0 (fun b => m (c, b)) main_v1 = _
    after_results <;> rfl
  rw [h]
  pointwise [val_main_v1]

theorem blk0 (c : Dev nD) (t : Fin cfg0.N) (r : Fin 512) (k : Fin 2816) :
    (iblk m c 0 t : Vec Ideal S512x2816 .bf16) (ix2 r k) = Y m c (ix2 (row t r) k) := by
  blk_simp [iblk]
  refine (congrFun (V_main_arg1 m c) _).trans (congrArg (Y m c) ?_)
  blk_ext [(idx t).1, row]

theorem blk1 (c : Dev nD) (t : Fin cfg0.N) (k : Fin 2816) (d : Fin 1024) :
    (iblk m c 1 t : Vec Ideal S2816x1024 .bf16) (ix2 k d) = W m c (ix3 0 k d) := by
  blk_simp [iblk]
  refine Eq.trans (congrArg (V m c main_v1 : FVec Ideal S2816x1024 .bf16) (?_ : _ = ix2 k d)) (V_w m c (ix2 k d))
  blk_ext [(idx t).2.1]

theorem blk2 (c : Dev nD) (t : Fin cfg0.N) (r : Fin 512) (k : Fin 1024) :
    (iblk m c 2 t : Vec Ideal S512x1024 .f32) (ix2 r k) = X m c (ix2 (row t r) k) := by
  blk_simp [iblk]
  refine (congrFun (V_main_arg0 m c) _).trans (congrArg (X m c) ?_)
  blk_ext [(idx t).2.2.1, row]

theorem blk3 (c : Dev nD) (t : Fin cfg0.N) (k : Fin 1024) : (iblk m c 3 t : Vec Ideal S1x1024 .f32) (ix2 0 k) = G m c (ix2 0 k) := by
  blk_simp [iblk]
  refine (congrFun (V_main_arg3 m c) _).trans (congrArg (G m c) ?_)
  blk_ext [(idx t).2.2.2.1]

/-- A row of a block's sum is the reference's row. -/
theorem sum_row (c : Dev nD) (t : Fin cfg0.N) (r : Fin 512) (d : Fin 1024) :
    k0_pay1 (iblk m c 0 t) (iblk m c 1 t) (iblk m c 2 t) (ix2 r d) = Reference.sumRow (X m c) (Y m c) (W m c) (row t r) d := by
  rw [sum_apply]
  unfold Reference.sumRow
  simp only [blk0, blk1, blk2]

/-- What a point leaves for the residual stream is the reference's in the rows of the block, -/
theorem block_x (c : Dev nD) (t : Fin cfg0.N) (r : Fin 512) (d : Fin 1024) : k0_pay1 (iblk m c 0 t) (iblk m c 1 t) (iblk m c 2 t) (ix2 r d)
    = val_main_v3 (F := Ideal) (X m c) (Y m c) (W m c) (ix2 (row t r) d) := by
  rw [sum_row, Reference.x1_apply]

/-- and for the norm. -/
theorem block_h (c : Dev nD) (t : Fin cfg0.N) (r : Fin 512) (d : Fin 1024) :
    k0_pay2 (iblk m c 0 t) (iblk m c 1 t) (iblk m c 2 t) (iblk m c 3 t) (ix2 r d)
      = val_main_v18 (F := Ideal) (X m c) (Y m c) (W m c) (G m c) (ix2 (row t r) d) := by
  rw [norm_apply, Reference.h_apply]
  simp only [sum_row, blk3]

/-- The kernel's first array is the reference's, -/
theorem final_x (c : Dev nD) : (dats m 0 c).arrAt 4 cfg0.N = val_main_v3 (F := Ideal) (X m c) (Y m c) (W m c) := by
  refine (dats m 0 c).arrAt_eq_of_covers 4 _ (by decide +kernel) fun t _ y => ?_
  blk_simp
  rw [after0_4]
  have e : ((View.whole main_v2_0).slice (win0_4.rect t)).emb y = (ix2 (row t (y 0)) (y 1) : S4096x1024.Idx) := by
    blk_ext [(idx t).2.2.2.2.1, row]
  rw [e, ← block_x m c t (y 0) (y 1)]
  dsimp only [out0_4]
  frame_out
  exact congrArg _ (eq_ix2 y)

/-- and so is its second. -/
theorem final_h (c : Dev nD) : (dats m 0 c).arrAt 5 cfg0.N = val_main_v18 (F := Ideal) (X m c) (Y m c) (W m c) (G m c) := by
  refine (dats m 0 c).arrAt_eq_of_covers 5 _ (by decide +kernel) fun t _ y => ?_
  blk_simp
  rw [after0_5]
  have e : ((View.whole main_v2_1).slice (win0_5.rect t)).emb y = (ix2 (row t (y 0)) (y 1) : S4096x1024.Idx) := by
    blk_ext [(idx t).2.2.2.2.2, row]
  rw [e, ← block_h m c t (y 0) (y 1)]
  dsimp only [out0_5]
  frame_out
  exact congrArg _ (eq_ix2 y)

/-- The reference runs, leaves its arguments as they were and every semaphore at zero. -/
theorem frame_ref : Cert.quiescent_FfnDownRefIdeal := fun m ρ _ =>
  (θ_run Cert.FfnDownRefIdeal.defs _ _).mono
    (fun r h => ⟨fun c => (h c).2.2, sem_eq_zero_of_no_sems (by decide) r.2⟩) (Cert.FfnDownRefIdeal.Value.run (F := Ideal) m ρ)

/-- At the ideal values the kernel and the reference end with the same two arrays. -/
theorem algebraic : Cert.algebraic_FfnDownIdeal_FfnDownRefIdeal := by
  intro m ρ m' ρ' _ hagree
  refine ⟨fun c => val_main_v3 (F := Ideal) (X m c) (Y m c) (W m c), fun c => val_main_v18 (F := Ideal) (X m c) (Y m c) (W m c) (G m c), ?_, ?_⟩
  · refine (θ_run Cert.FfnDownIdeal.defs _ _).mono (fun _ h c => ?_) (FfnDownIdeal.Value.run_blocks (F := Ideal) m ρ)
    exact ⟨(h c).1.trans (final_x m c), (h c).2.1.trans (final_h m c), (h c).2.2⟩
  · refine (θ_run Cert.FfnDownRefIdeal.defs _ _).mono (fun _ h c => ?_) (Cert.FfnDownRefIdeal.Value.run (F := Ideal) m' ρ')
    obtain ⟨e0, e1, e2, e3⟩ := hagree c
    refine ⟨(h c).1.trans ?_, (h c).2.1.trans ?_, (h c).2.2⟩
    · rw [val_main_v3_eq, e0, e1, e2]
    · rw [val_main_v18_eq, e0, e1, e2, e3]

end Cert.FwdDown

end
-- ==== Proof.lean ====
module

public import proofs.«01_k».proof.Defs
public import proofs.«01_k».proof.Proof.Gen.SwigluBwd.Frame
public import proofs.«01_k».proof.Proof.Gen.SwigluBwdIdeal.Value
public import proofs.«01_k».proof.Proof.Gen.SwigluRefIdeal.Read
public import proofs.«01_k».proof.Proof.Gen.SwigluRefIdeal.Run
public import proofs.«01_k».proof.Proof.Gen.Pre_finite_swiglu
public import proofs.«01_k».proof.Proof.Swiglu
public import proofs.«01_k».proof.Proof.Gen.AttnBwd.Frame
public import proofs.«01_k».proof.Proof.Gen.AttnBwdIdeal.Value
public import proofs.«01_k».proof.Proof.Gen.AttnBwdRefIdeal.Read
public import proofs.«01_k».proof.Proof.Gen.AttnBwdRefIdeal.Run
public import proofs.«01_k».proof.Proof.Gen.Pre_finite_attention_bwd
public import proofs.«01_k».proof.Proof.AttnBwd
public import proofs.«01_k».proof.Proof.Gen.NormPleBwd.Frame
public import proofs.«01_k».proof.Proof.Gen.NormPleBwdIdeal.Value
public import proofs.«01_k».proof.Proof.Gen.NormPleRefIdeal.Read
public import proofs.«01_k».proof.Proof.Gen.NormPleRefIdeal.Run
public import proofs.«01_k».proof.Proof.NormPle
public import proofs.«01_k».proof.Proof.Gen.NormFfnBwd.Frame
public import proofs.«01_k».proof.Proof.Gen.NormFfnBwdIdeal.Value
public import proofs.«01_k».proof.Proof.Gen.NormFfnRefIdeal.Read
public import proofs.«01_k».proof.Proof.Gen.NormFfnRefIdeal.Run
public import proofs.«01_k».proof.Proof.NormFfn
public import proofs.«01_k».proof.Proof.Gen.NormMixBwd.Frame
public import proofs.«01_k».proof.Proof.Gen.NormMixBwdIdeal.Value
public import proofs.«01_k».proof.Proof.Gen.NormMixRefIdeal.Read
public import proofs.«01_k».proof.Proof.Gen.NormMixRefIdeal.Run
public import proofs.«01_k».proof.Proof.NormMix
public import proofs.«01_k».proof.Proof.Gen.PleLoss.Frame
public import proofs.«01_k».proof.Proof.Gen.PleLossIdeal.Value
public import proofs.«01_k».proof.Proof.Gen.PleLossRefIdeal.Read
public import proofs.«01_k».proof.Proof.Gen.PleLossRefIdeal.Run
public import proofs.«01_k».proof.Proof.PleLoss
public import proofs.«01_k».proof.Proof.Gen.LatentNormBwd.Frame
public import proofs.«01_k».proof.Proof.Gen.LatentNormBwdIdeal.Value
public import proofs.«01_k».proof.Proof.Gen.LatentNormRefIdeal.Read
public import proofs.«01_k».proof.Proof.Gen.LatentNormRefIdeal.Run
public import proofs.«01_k».proof.Proof.LatentNorm
public import proofs.«01_k».proof.Proof.Gen.MixOutBwd.Frame
public import proofs.«01_k».proof.Proof.Gen.MixOutBwdIdeal.Value
public import proofs.«01_k».proof.Proof.Gen.MixOutRefIdeal.Read
public import proofs.«01_k».proof.Proof.Gen.MixOutRefIdeal.Run
public import proofs.«01_k».proof.Proof.MixOut
public import proofs.«01_k».proof.Proof.Gen.HeadNormBwd.Frame
public import proofs.«01_k».proof.Proof.Gen.HeadNormBwdIdeal.Value
public import proofs.«01_k».proof.Proof.Gen.HeadNormRefIdeal.Read
public import proofs.«01_k».proof.Proof.Gen.HeadNormRefIdeal.Run
public import proofs.«01_k».proof.Proof.HeadNorm
public import proofs.«01_k».proof.Proof.Gen.AttnFwd.Frame
public import proofs.«01_k».proof.Proof.Gen.AttnFwdIdeal.Value
public import proofs.«01_k».proof.Proof.Gen.AttnFwdRefIdeal.Read
public import proofs.«01_k».proof.Proof.Gen.AttnFwdRefIdeal.Run
public import proofs.«01_k».proof.Proof.Gen.Pre_finite_attention_fwd
public import proofs.«01_k».proof.Proof.AttnFwd
public import proofs.«01_k».proof.Proof.Gen.GlaBwd.Frame
public import proofs.«01_k».proof.Proof.Gen.GlaBwdIdeal.Frame
public import proofs.«01_k».proof.Proof.Gen.GlaBwdRev.Frame
public import proofs.«01_k».proof.Proof.Gen.GlaBwdRevIdeal.Frame
public import proofs.«01_k».proof.Proof.Gen.NormIn.Frame
public import proofs.«01_k».proof.Proof.Gen.NormInIdeal.Value
public import proofs.«01_k».proof.Proof.Gen.NormInRefIdeal.Read
public import proofs.«01_k».proof.Proof.Gen.NormInRefIdeal.Run
public import proofs.«01_k».proof.Proof.ForwardNorms
public import proofs.«01_k».proof.Proof.Gen.LatentNormFwd.Frame
public import proofs.«01_k».proof.Proof.Gen.LatentNormFwdIdeal.Value
public import proofs.«01_k».proof.Proof.Gen.LatentNormFwdRefIdeal.Read
public import proofs.«01_k».proof.Proof.Gen.LatentNormFwdRefIdeal.Run
public import proofs.«01_k».proof.Proof.Gen.HeadNormFwd.Frame
public import proofs.«01_k».proof.Proof.Gen.HeadNormFwdIdeal.Value
public import proofs.«01_k».proof.Proof.Gen.HeadNormFwdRefIdeal.Read
public import proofs.«01_k».proof.Proof.Gen.HeadNormFwdRefIdeal.Run
public import proofs.«01_k».proof.Proof.ForwardHeads
public import proofs.«01_k».proof.Proof.Gen.LowerBounds.Frame
public import proofs.«01_k».proof.Proof.Gen.LowerBoundsIdeal.Value
public import proofs.«01_k».proof.Proof.Gen.LowerBoundsRefIdeal.Read
public import proofs.«01_k».proof.Proof.Gen.LowerBoundsRefIdeal.Run
public import proofs.«01_k».proof.Proof.ForwardLower
public import proofs.«01_k».proof.Proof.Gen.MixOutFwd.Frame
public import proofs.«01_k».proof.Proof.Gen.MixOutFwdIdeal.Value
public import proofs.«01_k».proof.Proof.Gen.MixOutFwdRefIdeal.Read
public import proofs.«01_k».proof.Proof.Gen.MixOutFwdRefIdeal.Run
public import proofs.«01_k».proof.Proof.ForwardMix
public import proofs.«01_k».proof.Proof.Gen.OutProj.Frame
public import proofs.«01_k».proof.Proof.Gen.OutProjIdeal.Value
public import proofs.«01_k».proof.Proof.Gen.OutProjRefIdeal.Read
public import proofs.«01_k».proof.Proof.Gen.OutProjRefIdeal.Run
public import proofs.«01_k».proof.Proof.ForwardProducts
public import proofs.«01_k».proof.Proof.Gen.GateUp.Frame
public import proofs.«01_k».proof.Proof.Gen.GateUpIdeal.Value
public import proofs.«01_k».proof.Proof.Gen.GateUpRefIdeal.Read
public import proofs.«01_k».proof.Proof.Gen.GateUpRefIdeal.Run
public import proofs.«01_k».proof.Proof.Gen.DWGate.Frame
public import proofs.«01_k».proof.Proof.Gen.DWGateIdeal.Value
public import proofs.«01_k».proof.Proof.Gen.DWGateRefIdeal.Read
public import proofs.«01_k».proof.Proof.Gen.DWGateRefIdeal.Run
public import proofs.«01_k».proof.Proof.DWeight
public import proofs.«01_k».proof.Proof.Gen.Adamw.Frame
public import proofs.«01_k».proof.Proof.Gen.AdamwIdeal.Value
public import proofs.«01_k».proof.Proof.Gen.AdamwRefIdeal.Read
public import proofs.«01_k».proof.Proof.Gen.AdamwRefIdeal.Run
public import proofs.«01_k».proof.Proof.Optimiser
public import proofs.«01_k».proof.Proof.Gen.GlaFwd.Frame
public import proofs.«01_k».proof.Proof.Gen.GlaFwdIdeal.Value
public import proofs.«01_k».proof.Proof.Gen.GlaFwdRefIdeal.Read
public import proofs.«01_k».proof.Proof.Gen.GlaFwdRefIdeal.Run
public import proofs.«01_k».proof.Proof.Gen.Pre_finite_gla_fwd
public import proofs.«01_k».proof.Proof.GlaFwdValue
public import proofs.«01_k».proof.Proof.Gen.GlaFwdRev.Frame
public import proofs.«01_k».proof.Proof.Gen.GlaFwdRevIdeal.Value
public import proofs.«01_k».proof.Proof.Gen.GlaFwdRevRefIdeal.Read
public import proofs.«01_k».proof.Proof.Gen.GlaFwdRevRefIdeal.Run
public import proofs.«01_k».proof.Proof.RevValue
public import proofs.«01_k».proof.Proof.Gen.FfnDown.Frame
public import proofs.«01_k».proof.Proof.Gen.FfnDownIdeal.Value
public import proofs.«01_k».proof.Proof.Gen.FfnDownRefIdeal.Read
public import proofs.«01_k».proof.Proof.Gen.FfnDownRefIdeal.Run
public import proofs.«01_k».proof.Proof.ForwardDown

@[expose] public section

noncomputable section

namespace Cert.Proof

open Idealize.ShloMosaic Idealize.SL.Sem

/-- Every claim of the certificate, with the facts the programs and the preconditions state. -/
theorem claim : Cert.Claim := ⟨Cert.SwigluBwd.Gen.facts, Cert.SwigluBwdIdeal.Gen.facts, Cert.SwigluRefIdeal.Gen.facts,
  Cert.AttnBwd.Gen.facts, Cert.AttnBwdIdeal.Gen.facts, Cert.AttnBwdRefIdeal.Gen.facts,
  Cert.NormPleBwd.Gen.facts, Cert.NormPleBwdIdeal.Gen.facts, Cert.NormPleRefIdeal.Gen.facts,
  Cert.NormFfnBwd.Gen.facts, Cert.NormFfnBwdIdeal.Gen.facts, Cert.NormFfnRefIdeal.Gen.facts,
  Cert.NormMixBwd.Gen.facts, Cert.NormMixBwdIdeal.Gen.facts, Cert.NormMixRefIdeal.Gen.facts,
  Cert.PleLoss.Gen.facts, Cert.PleLossIdeal.Gen.facts, Cert.PleLossRefIdeal.Gen.facts,
  Cert.LatentNormBwd.Gen.facts, Cert.LatentNormBwdIdeal.Gen.facts, Cert.LatentNormRefIdeal.Gen.facts,
  Cert.MixOutBwd.Gen.facts, Cert.MixOutBwdIdeal.Gen.facts, Cert.MixOutRefIdeal.Gen.facts,
  Cert.HeadNormBwd.Gen.facts, Cert.HeadNormBwdIdeal.Gen.facts, Cert.HeadNormRefIdeal.Gen.facts,
  Cert.AttnFwd.Gen.facts, Cert.AttnFwdIdeal.Gen.facts, Cert.AttnFwdRefIdeal.Gen.facts,
  Cert.GlaBwd.Gen.facts, Cert.GlaBwdIdeal.Gen.facts,
  Cert.GlaBwdRev.Gen.facts, Cert.GlaBwdRevIdeal.Gen.facts,
  Cert.NormIn.Gen.facts, Cert.NormInIdeal.Gen.facts, Cert.NormInRefIdeal.Gen.facts,
  Cert.LatentNormFwd.Gen.facts, Cert.LatentNormFwdIdeal.Gen.facts, Cert.LatentNormFwdRefIdeal.Gen.facts,
  Cert.HeadNormFwd.Gen.facts, Cert.HeadNormFwdIdeal.Gen.facts, Cert.HeadNormFwdRefIdeal.Gen.facts,
  Cert.LowerBounds.Gen.facts, Cert.LowerBoundsIdeal.Gen.facts, Cert.LowerBoundsRefIdeal.Gen.facts,
  Cert.MixOutFwd.Gen.facts, Cert.MixOutFwdIdeal.Gen.facts, Cert.MixOutFwdRefIdeal.Gen.facts,
  Cert.OutProj.Gen.facts, Cert.OutProjIdeal.Gen.facts, Cert.OutProjRefIdeal.Gen.facts,
  Cert.GateUp.Gen.facts, Cert.GateUpIdeal.Gen.facts, Cert.GateUpRefIdeal.Gen.facts,
  Cert.DWGate.Gen.facts, Cert.DWGateIdeal.Gen.facts, Cert.DWGateRefIdeal.Gen.facts,
  Cert.Adamw.Gen.facts, Cert.AdamwIdeal.Gen.facts, Cert.AdamwRefIdeal.Gen.facts,
  Cert.GlaFwd.Gen.facts, Cert.GlaFwdIdeal.Gen.facts, Cert.GlaFwdRefIdeal.Gen.facts,
  Cert.GlaFwdRev.Gen.facts, Cert.GlaFwdRevIdeal.Gen.facts, Cert.GlaFwdRevRefIdeal.Gen.facts,
  Cert.FfnDown.Gen.facts, Cert.FfnDownIdeal.Gen.facts, Cert.FfnDownRefIdeal.Gen.facts,
  Cert.Pre_finite_swiglu.Gen.facts, Cert.Pre_finite_attention_bwd.Gen.facts, Cert.Pre_finite_attention_fwd.Gen.facts, Cert.Pre_finite_gla_fwd.Gen.facts,
  fun m ρ _ => Cert.SwigluBwd.Gen.frame m ρ, fun m ρ _ => Cert.SwigluBwdIdeal.Gen.frame m ρ, fun m ρ _ => Cert.SwigluBwdIdeal.Gen.frame m ρ, Cert.Swiglu.frame_ref, fun m ρ _ => Cert.Swiglu.frame_ref m ρ trivial,
  fun m ρ _ => Cert.AttnBwd.Gen.frame m ρ, fun m ρ _ => Cert.AttnBwdIdeal.Gen.frame m ρ, fun m ρ _ => Cert.AttnBwdIdeal.Gen.frame m ρ, Cert.AttnBwd.frame_ref, fun m ρ _ => Cert.AttnBwd.frame_ref m ρ trivial,
  fun m ρ _ => Cert.NormPleBwd.Gen.frame m ρ, fun m ρ _ => Cert.NormPleBwdIdeal.Gen.frame m ρ, Cert.NormPle.frame_ref,
  fun m ρ _ => Cert.NormFfnBwd.Gen.frame m ρ, fun m ρ _ => Cert.NormFfnBwdIdeal.Gen.frame m ρ, Cert.NormFfn.frame_ref,
  fun m ρ _ => Cert.NormMixBwd.Gen.frame m ρ, fun m ρ _ => Cert.NormMixBwdIdeal.Gen.frame m ρ, Cert.NormMix.frame_ref,
  fun m ρ _ => Cert.PleLoss.Gen.frame m ρ, fun m ρ _ => Cert.PleLossIdeal.Gen.frame m ρ, Cert.LossGrad.frame_ref,
  fun m ρ _ => Cert.LatentNormBwd.Gen.frame m ρ, fun m ρ _ => Cert.LatentNormBwdIdeal.Gen.frame m ρ, Cert.LatentNorm.frame_ref,
  fun m ρ _ => Cert.MixOutBwd.Gen.frame m ρ, fun m ρ _ => Cert.MixOutBwdIdeal.Gen.frame m ρ, Cert.MixOut.frame_ref,
  fun m ρ _ => Cert.HeadNormBwd.Gen.frame m ρ, fun m ρ _ => Cert.HeadNormBwdIdeal.Gen.frame m ρ, Cert.HeadNorm.frame_ref,
  fun m ρ _ => Cert.AttnFwd.Gen.frame m ρ, fun m ρ _ => Cert.AttnFwdIdeal.Gen.frame m ρ, fun m ρ _ => Cert.AttnFwdIdeal.Gen.frame m ρ, Cert.AttnFwdValue.frame_ref, fun m ρ _ => Cert.AttnFwdValue.frame_ref m ρ trivial,
  fun m ρ _ => Cert.GlaBwd.Gen.frame m ρ, fun m ρ _ => Cert.GlaBwdIdeal.Gen.frame m ρ,
  fun m ρ _ => Cert.GlaBwdRev.Gen.frame m ρ, fun m ρ _ => Cert.GlaBwdRevIdeal.Gen.frame m ρ,
  fun m ρ _ => Cert.NormIn.Gen.frame m ρ, fun m ρ _ => Cert.NormInIdeal.Gen.frame m ρ, Cert.FwdNormIn.frame_ref,
  fun m ρ _ => Cert.LatentNormFwd.Gen.frame m ρ, fun m ρ _ => Cert.LatentNormFwdIdeal.Gen.frame m ρ, Cert.FwdLatent.frame_ref,
  fun m ρ _ => Cert.HeadNormFwd.Gen.frame m ρ, fun m ρ _ => Cert.HeadNormFwdIdeal.Gen.frame m ρ, Cert.FwdHeads.frame_ref,
  fun m ρ _ => Cert.LowerBounds.Gen.frame m ρ, fun m ρ _ => Cert.LowerBoundsIdeal.Gen.frame m ρ, Cert.FwdLower.frame_ref,
  fun m ρ _ => Cert.MixOutFwd.Gen.frame m ρ, fun m ρ _ => Cert.MixOutFwdIdeal.Gen.frame m ρ, Cert.FwdMix.frame_ref,
  fun m ρ _ => Cert.OutProj.Gen.frame m ρ, fun m ρ _ => Cert.OutProjIdeal.Gen.frame m ρ, Cert.FwdOut.frame_ref,
  fun m ρ _ => Cert.GateUp.Gen.frame m ρ, fun m ρ _ => Cert.GateUpIdeal.Gen.frame m ρ, Cert.FwdGate.frame_ref,
  fun m ρ _ => Cert.DWGate.Gen.frame m ρ, fun m ρ _ => Cert.DWGateIdeal.Gen.frame m ρ, Cert.WeightGrad.frame_ref,
  fun m ρ _ => Cert.Adamw.Gen.frame m ρ, fun m ρ _ => Cert.AdamwIdeal.Gen.frame m ρ, Cert.OptStep.frame_ref,
  fun m ρ _ => Cert.GlaFwd.Gen.frame m ρ, fun m ρ _ => Cert.GlaFwdIdeal.Gen.frame m ρ, fun m ρ _ => Cert.GlaFwdIdeal.Gen.frame m ρ, Cert.Recurrence.frame_ref, fun m ρ _ => Cert.Recurrence.frame_ref m ρ trivial,
  fun m ρ _ => Cert.GlaFwdRev.Gen.frame m ρ, fun m ρ _ => Cert.GlaFwdRevIdeal.Gen.frame m ρ, fun m ρ _ => Cert.GlaFwdRevIdeal.Gen.frame m ρ, Cert.RecurrenceRev.frame_ref, fun m ρ _ => Cert.RecurrenceRev.frame_ref m ρ trivial,
  fun m ρ _ => Cert.FfnDown.Gen.frame m ρ, fun m ρ _ => Cert.FfnDownIdeal.Gen.frame m ρ, Cert.FwdDown.frame_ref,
  trivial, Cert.Swiglu.algebraic,
  ⟨IdealRules.named_const.statement _ _ _ _ _ rfl, IdealRules.named_const.statement _ _ _ _ _ rfl⟩, Cert.AttnBwd.algebraic,
  trivial, Cert.NormPle.algebraic,
  trivial, Cert.NormFfn.algebraic,
  trivial, Cert.NormMix.algebraic,
  trivial, Cert.LossGrad.algebraic,
  trivial, Cert.LatentNorm.algebraic,
  trivial, Cert.MixOut.algebraic,
  trivial, Cert.HeadNorm.algebraic,
  ⟨IdealRules.named_const.statement _ _ _ _ _ rfl, IdealRules.named_const.statement _ _ _ _ _ rfl⟩, Cert.AttnFwdValue.algebraic,
  trivial,
  trivial,
  trivial, Cert.FwdNormIn.algebraic,
  trivial, Cert.FwdLatent.algebraic,
  trivial, Cert.FwdHeads.algebraic,
  trivial, Cert.FwdLower.algebraic,
  trivial, Cert.FwdMix.algebraic,
  trivial, Cert.FwdOut.algebraic,
  trivial, Cert.FwdGate.algebraic,
  trivial, Cert.WeightGrad.algebraic,
  trivial, Cert.OptStep.algebraic,
  IdealRules.named_const.statement _ _ _ _ _ rfl, Cert.Recurrence.algebraic,
  IdealRules.named_const.statement _ _ _ _ _ rfl, Cert.RecurrenceRev.algebraic,
  trivial, Cert.FwdDown.algebraic⟩

end Cert.Proof

end
